-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61_0)) (v1 : (c : Dev Cert.KernelIdeal.nD) → Buf (Elt Ideal) ((c.tc : Thread Cert.KernelIdeal.nD Cert.KernelIdeal.τ).loc Cert.KernelIdeal.main_v61_1)) (v2 : (c : Dev Cert.KernelIdeal.nD) → Buf (Elt Ideal) ((c.tc : Thread Cert.KernelIdeal.nD Cert.KernelIdeal.τ).loc Cert.KernelIdeal.main_v61_2)) (v3 : (c : Dev Cert.KernelIdeal.nD) → Buf (Elt Ideal) ((c.tc : Thread Cert.KernelIdeal.nD Cert.KernelIdeal.τ).loc Cert.KernelIdeal.main_v61_3)) (v4 : (c : Dev Cert.KernelIdeal.nD) → Buf (Elt Ideal) ((c.tc : Thread Cert.KernelIdeal.nD Cert.KernelIdeal.τ).loc Cert.KernelIdeal.main_v61_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61_0) = v0 c
          ∧ r.2.mem ((c.tc : Thread Cert.KernelIdeal.nD Cert.KernelIdeal.τ).loc Cert.KernelIdeal.main_v61_1) = v1 c
          ∧ r.2.mem ((c.tc : Thread Cert.KernelIdeal.nD Cert.KernelIdeal.τ).loc Cert.KernelIdeal.main_v61_2) = v2 c
          ∧ r.2.mem ((c.tc : Thread Cert.KernelIdeal.nD Cert.KernelIdeal.τ).loc Cert.KernelIdeal.main_v61_3) = v3 c
          ∧ r.2.mem ((c.tc : Thread Cert.KernelIdeal.nD Cert.KernelIdeal.τ).loc Cert.KernelIdeal.main_v61_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_v46) = v3 c
          ∧ r.2.mem ((c.tc : Thread Cert.ReferenceIdeal.nD Cert.ReferenceIdeal.τ).loc Cert.ReferenceIdeal.main_v48) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)) (v2 : (c : Dev Cert.Kernel5Ideal.nD) → Buf (Elt Ideal) ((c.tc : Thread Cert.Kernel5Ideal.nD Cert.Kernel5Ideal.τ).loc Cert.Kernel5Ideal.main_v8_2)) (v3 : (c : Dev Cert.Kernel5Ideal.nD) → Buf (Elt Ideal) ((c.tc : Thread Cert.Kernel5Ideal.nD Cert.Kernel5Ideal.τ).loc Cert.Kernel5Ideal.main_v8_3)) (v4 : (c : Dev Cert.Kernel5Ideal.nD) → Buf (Elt Ideal) ((c.tc : Thread Cert.Kernel5Ideal.nD Cert.Kernel5Ideal.τ).loc Cert.Kernel5Ideal.main_v8_4)) (v5 : (c : Dev Cert.Kernel5Ideal.nD) → Buf (Elt Ideal) ((c.tc : Thread Cert.Kernel5Ideal.nD Cert.Kernel5Ideal.τ).loc Cert.Kernel5Ideal.main_v8_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_v8_2) = v2 c
          ∧ r.2.mem ((c.tc : Thread Cert.Kernel5Ideal.nD Cert.Kernel5Ideal.τ).loc Cert.Kernel5Ideal.main_v8_3) = v3 c
          ∧ r.2.mem ((c.tc : Thread Cert.Kernel5Ideal.nD Cert.Kernel5Ideal.τ).loc Cert.Kernel5Ideal.main_v8_4) = v4 c
          ∧ r.2.mem ((c.tc : Thread Cert.Kernel5Ideal.nD Cert.Kernel5Ideal.τ).loc Cert.Kernel5Ideal.main_v8_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v59) = v0 c
          ∧ r.2.mem ((c.tc : Thread Cert.Reference5Ideal.nD Cert.Reference5Ideal.τ).loc Cert.Reference5Ideal.main_v61) = v1 c
          ∧ r.2.mem ((c.tc : Thread Cert.Reference5Ideal.nD Cert.Reference5Ideal.τ).loc Cert.Reference5Ideal.main_v64) = v2 c
          ∧ r.2.mem ((c.tc : Thread Cert.Reference5Ideal.nD Cert.Reference5Ideal.τ).loc Cert.Reference5Ideal.main_v67) = v3 c
          ∧ r.2.mem ((c.tc : Thread Cert.Reference5Ideal.nD Cert.Reference5Ideal.τ).loc Cert.Reference5Ideal.main_v70) = v4 c
          ∧ r.2.mem ((c.tc : Thread Cert.Reference5Ideal.nD Cert.Reference5Ideal.τ).loc Cert.Reference5Ideal.main_v72) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v10)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v18) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v20) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S4x4096x2048 : Shape := ⟨3, ![4, 4096, 2048]⟩
abbrev S4x4096x16 : Shape := ⟨3, ![4, 4096, 16]⟩
abbrev S2x2048x5632 : Shape := ⟨3, ![2, 2048, 5632]⟩
abbrev S2x5632x2048 : Shape := ⟨3, ![2, 5632, 2048]⟩
abbrev S1x2048x2048 : Shape := ⟨3, ![1, 2048, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S4x4096x16 : S_.BroadcastsInDim S4x4096x16 (![] : Fin 0 → Fin S4x4096x16.rank)
  reducesTo_S4x4096x16_S_d0_1_2 : S4x4096x16.ReducesTo [0, 1, 2] S_

variable [Facts]

def fn {F : FTy → Type} [FloatOps F] (main_arg0 : FVec F S4x4096x2048 .f32) (main_arg1 : FVec F S4x4096x2048 .f32) (main_arg2 : FVec F S4x4096x2048 .f32) (main_arg3 : FVec F S4x4096x16 .f32) (main_arg4 : FVec F S2x2048x5632 .f32) (main_arg5 : FVec F S2x2048x5632 .f32) (main_arg6 : FVec F S2x5632x2048 .f32) (main_arg7 : FVec F S1x2048x2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S4x4096x2048 .f32 := Host.absf main_arg1
  let main_cst_0 : FVec F S_ .f32 := constant S_ .f32 0x7F800000#32
  let main_v5 : FVec F S4x4096x2048 .f32 := broadcastInDim S4x4096x2048 ![] bcast_S_S4x4096x2048 main_cst_0
  let main_v6 : IVec S4x4096x2048 1 := cmpf .olt main_v4 main_v5
  let main_c_1 : IVec S_ 1 := constantI S_ 1 1#1
  let main_v7 : IVec S_ 1 := (fun x v => Host.reduce IntOp.andi x v reducesTo_S4x4096x2048_S_d0_1_2 h_S_) main_v6 main_c_1
  let main_v8 : IVec S_ 1 := andi main_v3 main_v7
  let main_v9 : FVec F S4x4096x16 .f32 := Host.absf main_arg3
  let main_cst_2 : FVec F S_ .f32 := constant S_ .f32 0x7F800000#32
  let main_v10 : FVec F S4x4096x16 .f32 := broadcastInDim S4x4096x16 ![] bcast_S_S4x4096x16 main_cst_2
  let main_v11 : IVec S4x4096x16 1 := cmpf .olt main_v9 main_v10
  let main_c_3 : IVec S_ 1 := constantI S_ 1 1#1
  let main_v12 : IVec S_ 1 := (fun x v => Host.reduce IntOp.andi x v reducesTo_S4x4096x16_S_d0_1_2 h_S_) main_v11 main_c_3
  let main_v13 : IVec S_ 1 := andi main_v8 main_v12
  main_v13
-- ==== Kernel.lean ====
abbrev S4x4096x2048 : Shape := ⟨3, ![4, 4096, 2048]⟩
abbrev S4x4096x16 : Shape := ⟨3, ![4, 4096, 16]⟩
abbrev S2x2048x5632 : Shape := ⟨3, ![2, 2048, 5632]⟩
abbrev S2x5632x2048 : Shape := ⟨3, ![2, 5632, 2048]⟩
abbrev S1x2048x2048 : Shape := ⟨3, ![1, 2048, 2048]⟩
abbrev S_ : Shape := ⟨0, ![]⟩
abbrev S1x4x4096x2048 : Shape := ⟨4, ![1, 4, 4096, 2048]⟩
abbrev S3x4x4096x2048 : Shape := ⟨4, ![3, 4, 4096, 2048]⟩
abbrev S4x16x4096x128 : Shape := ⟨4, ![4, 16, 4096, 128]⟩
abbrev S4x16x4096 : Shape := ⟨3, ![4, 16, 4096]⟩
abbrev S4x16x4096x1 : Shape := ⟨4, ![4, 16, 4096, 1]⟩
abbrev S2048x5632 : Shape := ⟨2, ![2048, 5632]⟩
abbrev S5632x2048 : Shape := ⟨2, ![5632, 2048]⟩
abbrev S2048x2048 : Shape := ⟨2, ![2048, 2048]⟩
abbrev S1x1x512x512 : Shape := ⟨4, ![1, 1, 512, 512]⟩
abbrev S1x4x512x128 : Shape := ⟨4, ![1, 4, 512, 128]⟩
abbrev S1x1x4096x512 : Shape := ⟨4, ![1, 1, 4096, 512]⟩
abbrev S1x4x4096x128 : Shape := ⟨4, ![1, 4, 4096, 128]⟩
abbrev S1x64x5632 : Shape := ⟨3, ![1, 64, 5632]⟩
abbrev S1x176x2048 : Shape := ⟨3, ![1, 176, 2048]⟩
abbrev S1x64x2048 : Shape := ⟨3, ![1, 64, 2048]⟩
abbrev S1x512x512 : Shape := ⟨3, ![1, 512, 512]⟩
abbrev S64x5632 : Shape := ⟨2, ![64, 5632]⟩
abbrev S176x2048 : Shape := ⟨2, ![176, 2048]⟩
abbrev S64x2048 : Shape := ⟨2, ![64, 2048]⟩
abbrev S4x1x512 : Shape := ⟨3, ![4, 1, 512]⟩
abbrev S4x128x512 : Shape := ⟨3, ![4, 128, 512]⟩
abbrev S2x4x512x512 : Shape := ⟨4, ![2, 4, 512, 512]⟩
abbrev S2x4x1x512 : Shape := ⟨4, ![2, 4, 1, 512]⟩
abbrev S512x512 : Shape := ⟨2, ![512, 512]⟩
abbrev S16x512 : Shape := ⟨2, ![16, 512]⟩
abbrev S1x1x512x128 : Shape := ⟨4, ![1, 1, 512, 128]⟩
abbrev S512x128 : Shape := ⟨2, ![512, 128]⟩
abbrev S512x256 : Shape := ⟨2, ![512, 256]⟩
abbrev S512 : Shape := ⟨1, ![512]⟩
abbrev S1x512 : Shape := ⟨2, ![1, 512]⟩
abbrev S1x1x1x512 : Shape := ⟨4, ![1, 1, 1, 512]⟩
abbrev S1x1x512 : Shape := ⟨3, ![1, 1, 512]⟩
abbrev S128x512 : Shape := ⟨2, ![128, 512]⟩
abbrev S144x512 : Shape := ⟨2, ![144, 512]⟩
abbrev S1x128x512 : Shape := ⟨3, ![1, 128, 512]⟩
abbrev S1x512x128 : Shape := ⟨3, ![1, 512, 128]⟩

abbrev nBuf : Space → Nat
  | .hbm => 95
  | .vmem => 33
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x4096x2048, .f32⟩
  | .hbm, ⟨3, _⟩ => ⟨S4x4096x16, .f32⟩
  | .hbm, ⟨4, _⟩ => ⟨S2x2048x5632, .f32⟩
  | .hbm, ⟨5, _⟩ => ⟨S2x2048x5632, .f32⟩
  | .hbm, ⟨6, _⟩ => ⟨S2x5632x2048, .f32⟩
  | .hbm, ⟨7, _⟩ => ⟨S1x2048x2048, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x4096x2048, .f32⟩
  | .hbm, ⟨12, _⟩ => ⟨S4x4096x2048, .f32⟩
  | .hbm, ⟨13, _⟩ => ⟨S4x4096x2048, .f32⟩
  | .hbm, ⟨14, _⟩ => ⟨S4x4096x2048, .f32⟩
  | .hbm, ⟨15, _⟩ => ⟨S4x4096x2048, .bf16⟩
  | .hbm, ⟨16, _⟩ => ⟨S4x4096x2048, .bf16⟩
  | .hbm, ⟨17, _⟩ => ⟨S4x4096x2048, .bf16⟩
  | .hbm, ⟨18, _⟩ => ⟨S1x4x4096x2048, .bf16⟩
  | .hbm, ⟨19, _⟩ => ⟨S1x4x4096x2048, .bf16⟩
  | .hbm, ⟨20, _⟩ => ⟨S1x4x4096x2048, .bf16⟩
  | .hbm, ⟨21, _⟩ => ⟨S3x4x4096x2048, .bf16⟩
  | .hbm, ⟨22, _⟩ => ⟨S4x4096x16, .f32⟩
  | .hbm, ⟨23, _⟩ => ⟨S4x4096x16, .f32⟩
  | .hbm, ⟨24, _⟩ => ⟨S4x4096x16, .bf16⟩
  | .hbm, ⟨25, _⟩ => ⟨S4x4096x16, .f32⟩
  | .hbm, ⟨26, _⟩ => ⟨S4x4096x16, .f32⟩
  | .hbm, ⟨27, _⟩ => ⟨S4x4096x16, .bf16⟩
  | .hbm, ⟨28, _⟩ => ⟨S4x4096x16, .f32⟩
  | .hbm, ⟨29, _⟩ => ⟨S4x4096x16, .f32⟩
  | .hbm, ⟨30, _⟩ => ⟨S4x4096x16, .bf16⟩
  | .hbm, ⟨31, _⟩ => ⟨S4x4096x16, .f32⟩
  | .hbm, ⟨32, _⟩ => ⟨S4x16x4096x128, .i32⟩
  | .hbm, ⟨33, _⟩ => ⟨S_, .i32⟩
  | .hbm, ⟨34, _⟩ => ⟨S4x16x4096x128, .i32⟩
  | .hbm, ⟨35, _⟩ => ⟨S4x16x4096x128, .i1⟩
  | .hbm, ⟨36, _⟩ => ⟨S_, .i32⟩
  | .hbm, ⟨37, _⟩ => ⟨S4x16x4096x128, .i32⟩
  | .hbm, ⟨38, _⟩ => ⟨S4x16x4096x128, .i1⟩
  | .hbm, ⟨39, _⟩ => ⟨S4x16x4096x128, .i1⟩
  | .hbm, ⟨40, _⟩ => ⟨S_, .f32⟩
  | .hbm, ⟨41, _⟩ => ⟨S_, .f32⟩
  | .hbm, ⟨42, _⟩ => ⟨S4x16x4096x128, .f32⟩
  | .hbm, ⟨43, _⟩ => ⟨S4x16x4096x128, .f32⟩
  | .hbm, ⟨44, _⟩ => ⟨S4x16x4096x128, .f32⟩
  | .hbm, ⟨45, _⟩ => ⟨S_, .i32⟩
  | .hbm, ⟨46, _⟩ => ⟨S4x16x4096x128, .i32⟩
  | .hbm, ⟨47, _⟩ => ⟨S4x16x4096x128, .i1⟩
  | .hbm, ⟨48, _⟩ => ⟨S_, .f32⟩
  | .hbm, ⟨49, _⟩ => ⟨S_, .f32⟩
  | .hbm, ⟨50, _⟩ => ⟨S4x16x4096x128, .f32⟩
  | .hbm, ⟨51, _⟩ => ⟨S4x16x4096x128, .f32⟩
  | .hbm, ⟨52, _⟩ => ⟨S4x16x4096x128, .f32⟩
  | .hbm, ⟨53, _⟩ => ⟨S4x16x4096, .f32⟩
  | .hbm, ⟨54, _⟩ => ⟨S4x16x4096x1, .f32⟩
  | .hbm, ⟨55, _⟩ => ⟨S4x16x4096x128, .f32⟩
  | .hbm, ⟨56, _⟩ => ⟨S4x16x4096, .f32⟩
  | .hbm, ⟨57, _⟩ => ⟨S4x16x4096x1, .f32⟩
  | .hbm, ⟨58, _⟩ => ⟨S4x16x4096x128, .f32⟩
  | .hbm, ⟨59, _⟩ => ⟨S4x16x4096, .f32⟩
  | .hbm, ⟨60, _⟩ => ⟨S4x16x4096x1, .f32⟩
  | .hbm, ⟨61, _⟩ => ⟨S4x16x4096x128, .f32⟩
  | .hbm, ⟨62, _⟩ => ⟨S_, .i32⟩
  | .hbm, ⟨63, _⟩ => ⟨S4x16x4096x128, .i32⟩
  | .hbm, ⟨64, _⟩ => ⟨S4x16x4096x128, .i1⟩
  | .hbm, ⟨65, _⟩ => ⟨S_, .i32⟩
  | .hbm, ⟨66, _⟩ => ⟨S4x16x4096x128, .i32⟩
  | .hbm, ⟨67, _⟩ => ⟨S4x16x4096x128, .i1⟩
  | .hbm, ⟨68, _⟩ => ⟨S_, .i32⟩
  | .hbm, ⟨69, _⟩ => ⟨S4x16x4096x128, .i32⟩
  | .hbm, ⟨70, _⟩ => ⟨S4x16x4096x128, .i1⟩
  | .hbm, ⟨71, _⟩ => ⟨S4x16x4096x128, .f32⟩
  | .hbm, ⟨72, _⟩ => ⟨S4x16x4096x128, .f32⟩
  | .hbm, ⟨73, _⟩ => ⟨S4x16x4096x128, .f32⟩
  | .hbm, ⟨74, _⟩ => ⟨S4x16x4096x128, .f32⟩
  | .hbm, ⟨75, _⟩ => ⟨S_, .i32⟩
  | .hbm, ⟨76, _⟩ => ⟨S4x16x4096x128, .i32⟩
  | .hbm, ⟨77, _⟩ => ⟨S4x16x4096x128, .i1⟩
  | .hbm, ⟨78, _⟩ => ⟨S_, .i32⟩
  | .hbm, ⟨79, _⟩ => ⟨S4x16x4096x128, .i32⟩
  | .hbm, ⟨80, _⟩ => ⟨S4x16x4096x128, .i1⟩
  | .hbm, ⟨81, _⟩ => ⟨S_, .i32⟩
  | .hbm, ⟨82, _⟩ => ⟨S4x16x4096x128, .i32⟩
  | .hbm, ⟨83, _⟩ => ⟨S4x16x4096x128, .i1⟩
  | .hbm, ⟨84, _⟩ => ⟨S4x16x4096x128, .f32⟩
  | .hbm, ⟨85, _⟩ => ⟨S4x16x4096x128, .f32⟩
  | .hbm, ⟨86, _⟩ => ⟨S4x16x4096x128, .f32⟩
  | .hbm, ⟨87, _⟩ => ⟨S4x16x4096x128, .f32⟩
  | .hbm, ⟨88, _⟩ => ⟨S4x16x4096x128, .bf16⟩
  | .hbm, ⟨89, _⟩ => ⟨S4x16x4096x128, .bf16⟩
  | .hbm, ⟨90, _⟩ => ⟨S4x4096x2048, .bf16⟩
  | .hbm, ⟨91, _⟩ => ⟨S2048x5632, .bf16⟩
  | .hbm, ⟨92, _⟩ => ⟨S2048x5632, .bf16⟩
  | .hbm, ⟨93, _⟩ => ⟨S5632x2048, .bf16⟩
  | .hbm, ⟨94, _⟩ => ⟨S2048x2048, .bf16⟩
  | .local _ .vmem, ⟨0, _⟩ => ⟨S1x1x512x512, .bf16⟩
  | .local _ .vmem, ⟨1, _⟩ => ⟨S1x1x512x512, .bf16⟩
  | .local _ .vmem, ⟨2, _⟩ => ⟨S1x4x512x128, .bf16⟩
  | .local _ .vmem, ⟨3, _⟩ => ⟨S1x4x512x128, .bf16⟩
  | .local _ .vmem, ⟨4, _⟩ => ⟨S1x1x4096x512, .bf16⟩
  | .local _ .vmem, ⟨5, _⟩ => ⟨S1x1x4096x512, .bf16⟩
  | .local _ .vmem, ⟨6, _⟩ => ⟨S1x4x4096x128, .bf16⟩
  | .local _ .vmem, ⟨7, _⟩ => ⟨S1x4x4096x128, .bf16⟩
  | .local _ .vmem, ⟨8, _⟩ => ⟨S1x1x4096x512, .bf16⟩
  | .local _ .vmem, ⟨9, _⟩ => ⟨S1x1x4096x512, .bf16⟩
  | .local _ .vmem, ⟨10, _⟩ => ⟨S1x64x5632, .f32⟩
  | .local _ .vmem, ⟨11, _⟩ => ⟨S1x64x5632, .f32⟩
  | .local _ .vmem, ⟨12, _⟩ => ⟨S1x64x5632, .f32⟩
  | .local _ .vmem, ⟨13, _⟩ => ⟨S1x64x5632, .f32⟩
  | .local _ .vmem, ⟨14, _⟩ => ⟨S1x176x2048, .f32⟩
  | .local _ .vmem, ⟨15, _⟩ => ⟨S1x176x2048, .f32⟩
  | .local _ .vmem, ⟨16, _⟩ => ⟨S1x64x2048, .f32⟩
  | .local _ .vmem, ⟨17, _⟩ => ⟨S1x64x2048, .f32⟩
  | .local _ .vmem, ⟨18, _⟩ => ⟨S1x512x512, .bf16⟩
  | .local _ .vmem, ⟨19, _⟩ => ⟨S1x512x512, .bf16⟩
  | .local _ .vmem, ⟨20, _⟩ => ⟨S64x5632, .bf16⟩
  | .local _ .vmem, ⟨21, _⟩ => ⟨S64x5632, .bf16⟩
  | .local _ .vmem, ⟨22, _⟩ => ⟨S64x5632, .bf16⟩
  | .local _ .vmem, ⟨23, _⟩ => ⟨S64x5632, .bf16⟩
  | .local _ .vmem, ⟨24, _⟩ => ⟨S176x2048, .bf16⟩
  | .local _ .vmem, ⟨25, _⟩ => ⟨S176x2048, .bf16⟩
  | .local _ .vmem, ⟨26, _⟩ => ⟨S64x2048, .bf16⟩
  | .local _ .vmem, ⟨27, _⟩ => ⟨S64x2048, .bf16⟩
  | .local _ .vmem, ⟨28, _⟩ => ⟨S4x1x512, .f32⟩
  | .local _ .vmem, ⟨29, _⟩ => ⟨S4x1x512, .f32⟩
  | .local _ .vmem, ⟨30, _⟩ => ⟨S4x128x512, .f32⟩
  | .local _ .vmem, ⟨31, _⟩ => ⟨S2x4x512x512, .f32⟩
  | .local _ .vmem, ⟨32, _⟩ => ⟨S2x4x1x512, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_v23 : Ref sig .tc := ⟨.hbm, 34, rfl⟩
abbrev main_v24 : Ref sig .tc := ⟨.hbm, 35, rfl⟩
abbrev main_c_1 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_cst_3 : Ref sig .tc := ⟨.hbm, 41, rfl⟩
abbrev main_call0_v0 : Ref sig .tc := ⟨.hbm, 42, rfl⟩
abbrev main_call0_v1 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_cst_6 : Ref sig .tc := ⟨.hbm, 49, rfl⟩
abbrev main_call1_v0 : Ref sig .tc := ⟨.hbm, 50, rfl⟩
abbrev main_call1_v1 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_7 : Ref sig .tc := ⟨.hbm, 62, rfl⟩
abbrev main_v41 : Ref sig .tc := ⟨.hbm, 63, rfl⟩
abbrev main_v42 : Ref sig .tc := ⟨.hbm, 64, rfl⟩
abbrev main_c_8 : Ref sig .tc := ⟨.hbm, 65, rfl⟩
abbrev main_v43 : Ref sig .tc := ⟨.hbm, 66, rfl⟩
abbrev main_v44 : Ref sig .tc := ⟨.hbm, 67, rfl⟩
abbrev main_c_9 : Ref sig .tc := ⟨.hbm, 68, rfl⟩
abbrev main_v45 : Ref sig .tc := ⟨.hbm, 69, rfl⟩
abbrev main_v46 : Ref sig .tc := ⟨.hbm, 70, rfl⟩
abbrev main_call2_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_10 : Ref sig .tc := ⟨.hbm, 75, rfl⟩
abbrev main_v50 : Ref sig .tc := ⟨.hbm, 76, rfl⟩
abbrev main_v51 : Ref sig .tc := ⟨.hbm, 77, rfl⟩
abbrev main_c_11 : Ref sig .tc := ⟨.hbm, 78, rfl⟩
abbrev main_v52 : Ref sig .tc := ⟨.hbm, 79, rfl⟩
abbrev main_v53 : Ref sig .tc := ⟨.hbm, 80, rfl⟩
abbrev main_c_12 : Ref sig .tc := ⟨.hbm, 81, rfl⟩
abbrev main_v54 : Ref sig .tc := ⟨.hbm, 82, rfl⟩
abbrev main_v55 : Ref sig .tc := ⟨.hbm, 83, rfl⟩
abbrev main_call5_v0 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61_0 : Ref sig .tc := ⟨.hbm, 90, rfl⟩
abbrev main_v61_1 : Ref sig .tc := ⟨.hbm, 91, rfl⟩
abbrev main_v61_2 : Ref sig .tc := ⟨.hbm, 92, rfl⟩
abbrev main_v61_3 : Ref sig .tc := ⟨.hbm, 93, rfl⟩
abbrev main_v61_4 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨3, ![4, 4, 8], ![false, false, false]⟩

def k0_mult1 : BitVec 32 :=
  let c0_i32_42 : BitVec 32 := 0#32
  c0_i32_42
def k0_mult2 : BitVec 32 :=
  let c0_i32_59 : BitVec 32 := 0#32
  c0_i32_59
def k0_mult3 : BitVec 32 :=
  let c0_i32_76 : BitVec 32 := 0#32
  c0_i32_76
def k0_mult4 : BitVec 32 :=
  let c0_i32_93 : BitVec 32 := 0#32
  c0_i32_93
@[reducible] def k0_t1_loop (i : grid0.Coords) : Scf.Loop 32 :=
  let c0_i32_122 : BitVec 32 := 0#32
  let arg2 : BitVec 32 := BitVec.ofNat 32 (i 2).val
  let c0_i32_110 : BitVec 32 := 0#32
  let v118 : BitVec 1 := Scalar.cmpi .sgt arg2 c0_i32_110
  let v119 : BitVec 32 := Scalar.extui v118
  let c0_i32_111 : BitVec 32 := 0#32
  let v120 : BitVec 1 := Scalar.cmpi .slt arg2 c0_i32_111
  let v121 : BitVec 32 := Scalar.extui v120
  let v122 : BitVec 32 := Scalar.subi v119 v121
  let c2_i32 : BitVec 32 := 2#32
  let c0_i32_112 : BitVec 32 := 0#32
  let v123 : BitVec 1 := Scalar.cmpi .sgt c2_i32 c0_i32_112
  let v124 : BitVec 32 := Scalar.extui v123
  let c0_i32_113 : BitVec 32 := 0#32
  let v125 : BitVec 1 := Scalar.cmpi .slt c2_i32 c0_i32_113
  let v126 : BitVec 32 := Scalar.extui v125
  let v127 : BitVec 32 := Scalar.subi v124 v126
  let v128 : BitVec 1 := Scalar.cmpi .ne v122 v127
  let v129 : BitVec 32 := Scalar.remsi arg2 c2_i32
  let c0_i32_114 : BitVec 32 := 0#32
  let v130 : BitVec 1 := Scalar.cmpi .ne v129 c0_i32_114
  let v131 : BitVec 1 := Scalar.andi v128 v130
  let v117 : BitVec 32 := Scalar.divsi arg2 c2_i32
  let c1_i32_115 : BitVec 32 := 1#32
  let v132 : BitVec 32 := Scalar.subi v117 c1_i32_115
  let v133 : BitVec 32 := Scalar.select v131 v132 v117
  let c0_i32_116 : BitVec 32 := 0#32
  let v134 : BitVec 32 := Scalar.subi v133 c0_i32_116
  let c1_i32_117 : BitVec 32 := 1#32
  let c1_i32_118 : BitVec 32 := 1#32
  let v135 : BitVec 32 := Scalar.subi c1_i32_117 c1_i32_118
  let v136 : BitVec 32 := Scalar.addi v134 v135
  let c1_i32_119 : BitVec 32 := 1#32
  let v137 : BitVec 32 := Scalar.divsi v136 c1_i32_119
  let v138 : BitVec 32 := Scalar.subi v137 c0_i32_122
  let c1_i32_123 : BitVec 32 := 1#32
  let v140 : BitVec 32 := Scalar.divsi v138 c1_i32_123
  let v141 : BitVec 32 := Scalar.muli v140 c1_i32_123
  let v142 : BitVec 32 := Scalar.addi c0_i32_122 v141
  let c1_i32_124 : BitVec 32 := 1#32
  ⟨c0_i32_122, v142, c1_i32_124⟩
def k0_mult5 (i : grid0.Coords) (k0_t1 : Fin (k0_t1_loop i).trips) : BitVec 32 :=
  let c0_i32_121 : BitVec 32 := 0#32
  let c0_i32_122 : BitVec 32 := 0#32
  let c1_i32_124 : BitVec 32 := 1#32
  let arg22 : BitVec 32 := Scf.iv c0_i32_122 c1_i32_124 k0_t1
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  v217
def k0_mult6 (i : grid0.Coords) (k0_t1 : Fin (k0_t1_loop i).trips) : BitVec 32 :=
  let c0_i32_121 : BitVec 32 := 0#32
  let c0_i32_122 : BitVec 32 := 0#32
  let c1_i32_124 : BitVec 32 := 1#32
  let arg22 : BitVec 32 := Scf.iv c0_i32_122 c1_i32_124 k0_t1
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_178 : BitVec 32 := 512#32
  let v219 : BitVec 32 := Scalar.addi v218 c512_i32_178
  v219
def k0_off1 (i : grid0.Coords) (k0_t1 : Fin (k0_t1_loop i).trips) : Fin 4 → Nat :=
  let c0_179 : Index := 0#32
  let c0_180 : Index := 0#32
  let c0_i32_121 : BitVec 32 := 0#32
  let c0_i32_122 : BitVec 32 := 0#32
  let c1_i32_124 : BitVec 32 := 1#32
  let arg22 : BitVec 32 := Scf.iv c0_i32_122 c1_i32_124 k0_t1
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_178 : BitVec 32 := 512#32
  let v219 : BitVec 32 := Scalar.addi v218 c512_i32_178
  let v220 : BitVec 32 := v219
  let v221 : Index := Scalar.indexCast v220
  let c0_181 : Index := 0#32
  ![0, 0, v221.toNat, 0]
def k0_off2 (i : grid0.Coords) (k0_t1 : Fin (k0_t1_loop i).trips) : Fin 4 → Nat :=
  let c0_182 : Index := 0#32
  let c0_183 : Index := 0#32
  let c0_i32_121 : BitVec 32 := 0#32
  let c0_i32_122 : BitVec 32 := 0#32
  let c1_i32_124 : BitVec 32 := 1#32
  let arg22 : BitVec 32 := Scf.iv c0_i32_122 c1_i32_124 k0_t1
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_178 : BitVec 32 := 512#32
  let v219 : BitVec 32 := Scalar.addi v218 c512_i32_178
  let v220 : BitVec 32 := v219
  let v224 : Index := Scalar.indexCast v220
  let c0_184 : Index := 0#32
  ![0, 0, v224.toNat, 0]
def k0_mult7 (i : grid0.Coords) (k0_t1 : Fin (k0_t1_loop i).trips) : BitVec 32 :=
  let c0_i32_121 : BitVec 32 := 0#32
  let c0_i32_122 : BitVec 32 := 0#32
  let c1_i32_124 : BitVec 32 := 1#32
  let arg22 : BitVec 32 := Scf.iv c0_i32_122 c1_i32_124 k0_t1
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  v218
def k0_off3 (i : grid0.Coords) (k0_t1 : Fin (k0_t1_loop i).trips) : Fin 4 → Nat :=
  let c0_209 : Index := 0#32
  let c0_210 : Index := 0#32
  let c0_i32_121 : BitVec 32 := 0#32
  let c0_i32_122 : BitVec 32 := 0#32
  let c1_i32_124 : BitVec 32 := 1#32
  let arg22 : BitVec 32 := Scf.iv c0_i32_122 c1_i32_124 k0_t1
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let v237 : BitVec 32 := v218
  let v253 : Index := Scalar.indexCast v237
  let c0_211 : Index := 0#32
  ![0, 0, v253.toNat, 0]
def k0_mult8 (i : grid0.Coords) (k0_t1 : Fin (k0_t1_loop i).trips) : BitVec 32 :=
  let c0_i32_121 : BitVec 32 := 0#32
  let c0_i32_122 : BitVec 32 := 0#32
  let c1_i32_124 : BitVec 32 := 1#32
  let arg22 : BitVec 32 := Scf.iv c0_i32_122 c1_i32_124 k0_t1
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_225 : BitVec 32 := 512#32
  let v277 : BitVec 32 := Scalar.addi v218 c512_i32_225
  v277
def k0_off4 (i : grid0.Coords) (k0_t1 : Fin (k0_t1_loop i).trips) : Fin 4 → Nat :=
  let c0_226 : Index := 0#32
  let c0_227 : Index := 0#32
  let c0_i32_121 : BitVec 32 := 0#32
  let c0_i32_122 : BitVec 32 := 0#32
  let c1_i32_124 : BitVec 32 := 1#32
  let arg22 : BitVec 32 := Scf.iv c0_i32_122 c1_i32_124 k0_t1
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_225 : BitVec 32 := 512#32
  let v277 : BitVec 32 := Scalar.addi v218 c512_i32_225
  let v278 : BitVec 32 := v277
  let v279 : Index := Scalar.indexCast v278
  let c128_228 : Index := 128#32
  ![0, 0, v279.toNat, 128]
def k0_off5 (i : grid0.Coords) (k0_t1 : Fin (k0_t1_loop i).trips) : Fin 4 → Nat :=
  let c0_229 : Index := 0#32
  let c1_230 : Index := 1#32
  let c0_i32_121 : BitVec 32 := 0#32
  let c0_i32_122 : BitVec 32 := 0#32
  let c1_i32_124 : BitVec 32 := 1#32
  let arg22 : BitVec 32 := Scf.iv c0_i32_122 c1_i32_124 k0_t1
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_225 : BitVec 32 := 512#32
  let v277 : BitVec 32 := Scalar.addi v218 c512_i32_225
  let v278 : BitVec 32 := v277
  let v282 : Index := Scalar.indexCast v278
  let c0_231 : Index := 0#32
  ![0, 1, v282.toNat, 0]
def k0_mult9 (i : grid0.Coords) (k0_t1 : Fin (k0_t1_loop i).trips) : BitVec 32 :=
  let c0_i32_121 : BitVec 32 := 0#32
  let c0_i32_122 : BitVec 32 := 0#32
  let c1_i32_124 : BitVec 32 := 1#32
  let arg22 : BitVec 32 := Scf.iv c0_i32_122 c1_i32_124 k0_t1
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  v218
def k0_off6 (i : grid0.Coords) (k0_t1 : Fin (k0_t1_loop i).trips) : Fin 4 → Nat :=
  let c0_256 : Index := 0#32
  let c0_257 : Index := 0#32
  let c0_i32_121 : BitVec 32 := 0#32
  let c0_i32_122 : BitVec 32 := 0#32
  let c1_i32_124 : BitVec 32 := 1#32
  let arg22 : BitVec 32 := Scf.iv c0_i32_122 c1_i32_124 k0_t1
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let v295 : BitVec 32 := v218
  let v311 : Index := Scalar.indexCast v295
  let c128_258 : Index := 128#32
  ![0, 0, v311.toNat, 128]
def k0_mult10 (i : grid0.Coords) (k0_t1 : Fin (k0_t1_loop i).trips) : BitVec 32 :=
  let c0_i32_121 : BitVec 32 := 0#32
  let c0_i32_122 : BitVec 32 := 0#32
  let c1_i32_124 : BitVec 32 := 1#32
  let arg22 : BitVec 32 := Scf.iv c0_i32_122 c1_i32_124 k0_t1
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_272 : BitVec 32 := 512#32
  let v335 : BitVec 32 := Scalar.addi v218 c512_i32_272
  v335
def k0_off7 (i : grid0.Coords) (k0_t1 : Fin (k0_t1_loop i).trips) : Fin 4 → Nat :=
  let c0_273 : Index := 0#32
  let c0_274 : Index := 0#32
  let c0_i32_121 : BitVec 32 := 0#32
  let c0_i32_122 : BitVec 32 := 0#32
  let c1_i32_124 : BitVec 32 := 1#32
  let arg22 : BitVec 32 := Scf.iv c0_i32_122 c1_i32_124 k0_t1
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_272 : BitVec 32 := 512#32
  let v335 : BitVec 32 := Scalar.addi v218 c512_i32_272
  let v336 : BitVec 32 := v335
  let v337 : Index := Scalar.indexCast v336
  let c256_275 : Index := 256#32
  ![0, 0, v337.toNat, 256]
def k0_off8 (i : grid0.Coords) (k0_t1 : Fin (k0_t1_loop i).trips) : Fin 4 → Nat :=
  let c0_276 : Index := 0#32
  let c2_277 : Index := 2#32
  let c0_i32_121 : BitVec 32 := 0#32
  let c0_i32_122 : BitVec 32 := 0#32
  let c1_i32_124 : BitVec 32 := 1#32
  let arg22 : BitVec 32 := Scf.iv c0_i32_122 c1_i32_124 k0_t1
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_272 : BitVec 32 := 512#32
  let v335 : BitVec 32 := Scalar.addi v218 c512_i32_272
  let v336 : BitVec 32 := v335
  let v340 : Index := Scalar.indexCast v336
  let c0_278 : Index := 0#32
  ![0, 2, v340.toNat, 0]
def k0_mult11 (i : grid0.Coords) (k0_t1 : Fin (k0_t1_loop i).trips) : BitVec 32 :=
  let c0_i32_121 : BitVec 32 := 0#32
  let c0_i32_122 : BitVec 32 := 0#32
  let c1_i32_124 : BitVec 32 := 1#32
  let arg22 : BitVec 32 := Scf.iv c0_i32_122 c1_i32_124 k0_t1
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  v218
def k0_off9 (i : grid0.Coords) (k0_t1 : Fin (k0_t1_loop i).trips) : Fin 4 → Nat :=
  let c0_303 : Index := 0#32
  let c0_304 : Index := 0#32
  let c0_i32_121 : BitVec 32 := 0#32
  let c0_i32_122 : BitVec 32 := 0#32
  let c1_i32_124 : BitVec 32 := 1#32
  let arg22 : BitVec 32 := Scf.iv c0_i32_122 c1_i32_124 k0_t1
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let v353 : BitVec 32 := v218
  let v369 : Index := Scalar.indexCast v353
  let c256_305 : Index := 256#32
  ![0, 0, v369.toNat, 256]
def k0_mult12 (i : grid0.Coords) (k0_t1 : Fin (k0_t1_loop i).trips) : BitVec 32 :=
  let c0_i32_121 : BitVec 32 := 0#32
  let c0_i32_122 : BitVec 32 := 0#32
  let c1_i32_124 : BitVec 32 := 1#32
  let arg22 : BitVec 32 := Scf.iv c0_i32_122 c1_i32_124 k0_t1
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_319 : BitVec 32 := 512#32
  let v393 : BitVec 32 := Scalar.addi v218 c512_i32_319
  v393
def k0_off10 (i : grid0.Coords) (k0_t1 : Fin (k0_t1_loop i).trips) : Fin 4 → Nat :=
  let c0_320 : Index := 0#32
  let c0_321 : Index := 0#32
  let c0_i32_121 : BitVec 32 := 0#32
  let c0_i32_122 : BitVec 32 := 0#32
  let c1_i32_124 : BitVec 32 := 1#32
  let arg22 : BitVec 32 := Scf.iv c0_i32_122 c1_i32_124 k0_t1
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_319 : BitVec 32 := 512#32
  let v393 : BitVec 32 := Scalar.addi v218 c512_i32_319
  let v394 : BitVec 32 := v393
  let v395 : Index := Scalar.indexCast v394
  let c384_322 : Index := 384#32
  ![0, 0, v395.toNat, 384]
def k0_off11 (i : grid0.Coords) (k0_t1 : Fin (k0_t1_loop i).trips) : Fin 4 → Nat :=
  let c0_323 : Index := 0#32
  let c3_324 : Index := 3#32
  let c0_i32_121 : BitVec 32 := 0#32
  let c0_i32_122 : BitVec 32 := 0#32
  let c1_i32_124 : BitVec 32 := 1#32
  let arg22 : BitVec 32 := Scf.iv c0_i32_122 c1_i32_124 k0_t1
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_319 : BitVec 32 := 512#32
  let v393 : BitVec 32 := Scalar.addi v218 c512_i32_319
  let v394 : BitVec 32 := v393
  let v398 : Index := Scalar.indexCast v394
  let c0_325 : Index := 0#32
  ![0, 3, v398.toNat, 0]
def k0_mult13 (i : grid0.Coords) (k0_t1 : Fin (k0_t1_loop i).trips) : BitVec 32 :=
  let c0_i32_121 : BitVec 32 := 0#32
  let c0_i32_122 : BitVec 32 := 0#32
  let c1_i32_124 : BitVec 32 := 1#32
  let arg22 : BitVec 32 := Scf.iv c0_i32_122 c1_i32_124 k0_t1
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  v218
def k0_off12 (i : grid0.Coords) (k0_t1 : Fin (k0_t1_loop i).trips) : Fin 4 → Nat :=
  let c0_350 : Index := 0#32
  let c0_351 : Index := 0#32
  let c0_i32_121 : BitVec 32 := 0#32
  let c0_i32_122 : BitVec 32 := 0#32
  let c1_i32_124 : BitVec 32 := 1#32
  let arg22 : BitVec 32 := Scf.iv c0_i32_122 c1_i32_124 k0_t1
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let v411 : BitVec 32 := v218
  let v427 : Index := Scalar.indexCast v411
  let c384_352 : Index := 384#32
  ![0, 0, v427.toNat, 384]
def k0_mult14 (i : grid0.Coords) (k0_t1 : Fin (k0_t1_loop i).trips) : BitVec 32 :=
  let c0_i32_121 : BitVec 32 := 0#32
  let c0_i32_122 : BitVec 32 := 0#32
  let c1_i32_124 : BitVec 32 := 1#32
  let arg22 : BitVec 32 := Scf.iv c0_i32_122 c1_i32_124 k0_t1
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_366 : BitVec 32 := 512#32
  let v451 : BitVec 32 := Scalar.addi v218 c512_i32_366
  let c512_i32_367 : BitVec 32 := 512#32
  let v452 : BitVec 32 := Scalar.addi v451 c512_i32_367
  v452
def k0_off13 (i : grid0.Coords) (k0_t1 : Fin (k0_t1_loop i).trips) : Fin 4 → Nat :=
  let c0_368 : Index := 0#32
  let c0_369 : Index := 0#32
  let c0_i32_121 : BitVec 32 := 0#32
  let c0_i32_122 : BitVec 32 := 0#32
  let c1_i32_124 : BitVec 32 := 1#32
  let arg22 : BitVec 32 := Scf.iv c0_i32_122 c1_i32_124 k0_t1
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_366 : BitVec 32 := 512#32
  let v451 : BitVec 32 := Scalar.addi v218 c512_i32_366
  let c512_i32_367 : BitVec 32 := 512#32
  let v452 : BitVec 32 := Scalar.addi v451 c512_i32_367
  let v453 : BitVec 32 := v452
  let v454 : Index := Scalar.indexCast v453
  let c0_370 : Index := 0#32
  ![0, 0, v454.toNat, 0]
def k0_off14 (i : grid0.Coords) (k0_t1 : Fin (k0_t1_loop i).trips) : Fin 4 → Nat :=
  let c0_371 : Index := 0#32
  let c0_372 : Index := 0#32
  let c0_i32_121 : BitVec 32 := 0#32
  let c0_i32_122 : BitVec 32 := 0#32
  let c1_i32_124 : BitVec 32 := 1#32
  let arg22 : BitVec 32 := Scf.iv c0_i32_122 c1_i32_124 k0_t1
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_366 : BitVec 32 := 512#32
  let v451 : BitVec 32 := Scalar.addi v218 c512_i32_366
  let c512_i32_367 : BitVec 32 := 512#32
  let v452 : BitVec 32 := Scalar.addi v451 c512_i32_367
  let v453 : BitVec 32 := v452
  let v457 : Index := Scalar.indexCast v453
  let c0_373 : Index := 0#32
  ![0, 0, v457.toNat, 0]
def k0_mult15 (i : grid0.Coords) (k0_t1 : Fin (k0_t1_loop i).trips) : BitVec 32 :=
  let c0_i32_121 : BitVec 32 := 0#32
  let c0_i32_122 : BitVec 32 := 0#32
  let c1_i32_124 : BitVec 32 := 1#32
  let arg22 : BitVec 32 := Scf.iv c0_i32_122 c1_i32_124 k0_t1
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_366 : BitVec 32 := 512#32
  let v451 : BitVec 32 := Scalar.addi v218 c512_i32_366
  v451
def k0_mult16 (i : grid0.Coords) (k0_t1 : Fin (k0_t1_loop i).trips) : BitVec 32 :=
  let c0_i32_121 : BitVec 32 := 0#32
  let c0_i32_122 : BitVec 32 := 0#32
  let c1_i32_124 : BitVec 32 := 1#32
  let arg22 : BitVec 32 := Scf.iv c0_i32_122 c1_i32_124 k0_t1
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_366 : BitVec 32 := 512#32
  let v451 : BitVec 32 := Scalar.addi v218 c512_i32_366
  let c512_i32_414 : BitVec 32 := 512#32
  let v510 : BitVec 32 := Scalar.addi v451 c512_i32_414
  v510
def k0_off15 (i : grid0.Coords) (k0_t1 : Fin (k0_t1_loop i).trips) : Fin 4 → Nat :=
  let c0_415 : Index := 0#32
  let c0_416 : Index := 0#32
  let c0_i32_121 : BitVec 32 := 0#32
  let c0_i32_122 : BitVec 32 := 0#32
  let c1_i32_124 : BitVec 32 := 1#32
  let arg22 : BitVec 32 := Scf.iv c0_i32_122 c1_i32_124 k0_t1
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_366 : BitVec 32 := 512#32
  let v451 : BitVec 32 := Scalar.addi v218 c512_i32_366
  let c512_i32_414 : BitVec 32 := 512#32
  let v510 : BitVec 32 := Scalar.addi v451 c512_i32_414
  let v511 : BitVec 32 := v510
  let v512 : Index := Scalar.indexCast v511
  let c128_417 : Index := 128#32
  ![0, 0, v512.toNat, 128]
def k0_off16 (i : grid0.Coords) (k0_t1 : Fin (k0_t1_loop i).trips) : Fin 4 → Nat :=
  let c0_418 : Index := 0#32
  let c1_419 : Index := 1#32
  let c0_i32_121 : BitVec 32 := 0#32
  let c0_i32_122 : BitVec 32 := 0#32
  let c1_i32_124 : BitVec 32 := 1#32
  let arg22 : BitVec 32 := Scf.iv c0_i32_122 c1_i32_124 k0_t1
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_366 : BitVec 32 := 512#32
  let v451 : BitVec 32 := Scalar.addi v218 c512_i32_366
  let c512_i32_414 : BitVec 32 := 512#32
  let v510 : BitVec 32 := Scalar.addi v451 c512_i32_414
  let v511 : BitVec 32 := v510
  let v515 : Index := Scalar.indexCast v511
  let c0_420 : Index := 0#32
  ![0, 1, v515.toNat, 0]
def k0_mult17 (i : grid0.Coords) (k0_t1 : Fin (k0_t1_loop i).trips) : BitVec 32 :=
  let c0_i32_121 : BitVec 32 := 0#32
  let c0_i32_122 : BitVec 32 := 0#32
  let c1_i32_124 : BitVec 32 := 1#32
  let arg22 : BitVec 32 := Scf.iv c0_i32_122 c1_i32_124 k0_t1
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_366 : BitVec 32 := 512#32
  let v451 : BitVec 32 := Scalar.addi v218 c512_i32_366
  v451
def k0_mult18 (i : grid0.Coords) (k0_t1 : Fin (k0_t1_loop i).trips) : BitVec 32 :=
  let c0_i32_121 : BitVec 32 := 0#32
  let c0_i32_122 : BitVec 32 := 0#32
  let c1_i32_124 : BitVec 32 := 1#32
  let arg22 : BitVec 32 := Scf.iv c0_i32_122 c1_i32_124 k0_t1
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_366 : BitVec 32 := 512#32
  let v451 : BitVec 32 := Scalar.addi v218 c512_i32_366
  let c512_i32_461 : BitVec 32 := 512#32
  let v568 : BitVec 32 := Scalar.addi v451 c512_i32_461
  v568
def k0_off17 (i : grid0.Coords) (k0_t1 : Fin (k0_t1_loop i).trips) : Fin 4 → Nat :=
  let c0_462 : Index := 0#32
  let c0_463 : Index := 0#32
  let c0_i32_121 : BitVec 32 := 0#32
  let c0_i32_122 : BitVec 32 := 0#32
  let c1_i32_124 : BitVec 32 := 1#32
  let arg22 : BitVec 32 := Scf.iv c0_i32_122 c1_i32_124 k0_t1
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_366 : BitVec 32 := 512#32
  let v451 : BitVec 32 := Scalar.addi v218 c512_i32_366
  let c512_i32_461 : BitVec 32 := 512#32
  let v568 : BitVec 32 := Scalar.addi v451 c512_i32_461
  let v569 : BitVec 32 := v568
  let v570 : Index := Scalar.indexCast v569
  let c256_464 : Index := 256#32
  ![0, 0, v570.toNat, 256]
def k0_off18 (i : grid0.Coords) (k0_t1 : Fin (k0_t1_loop i).trips) : Fin 4 → Nat :=
  let c0_465 : Index := 0#32
  let c2_466 : Index := 2#32
  let c0_i32_121 : BitVec 32 := 0#32
  let c0_i32_122 : BitVec 32 := 0#32
  let c1_i32_124 : BitVec 32 := 1#32
  let arg22 : BitVec 32 := Scf.iv c0_i32_122 c1_i32_124 k0_t1
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_366 : BitVec 32 := 512#32
  let v451 : BitVec 32 := Scalar.addi v218 c512_i32_366
  let c512_i32_461 : BitVec 32 := 512#32
  let v568 : BitVec 32 := Scalar.addi v451 c512_i32_461
  let v569 : BitVec 32 := v568
  let v573 : Index := Scalar.indexCast v569
  let c0_467 : Index := 0#32
  ![0, 2, v573.toNat, 0]
def k0_mult19 (i : grid0.Coords) (k0_t1 : Fin (k0_t1_loop i).trips) : BitVec 32 :=
  let c0_i32_121 : BitVec 32 := 0#32
  let c0_i32_122 : BitVec 32 := 0#32
  let c1_i32_124 : BitVec 32 := 1#32
  let arg22 : BitVec 32 := Scf.iv c0_i32_122 c1_i32_124 k0_t1
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_366 : BitVec 32 := 512#32
  let v451 : BitVec 32 := Scalar.addi v218 c512_i32_366
  v451
def k0_mult20 (i : grid0.Coords) (k0_t1 : Fin (k0_t1_loop i).trips) : BitVec 32 :=
  let c0_i32_121 : BitVec 32 := 0#32
  let c0_i32_122 : BitVec 32 := 0#32
  let c1_i32_124 : BitVec 32 := 1#32
  let arg22 : BitVec 32 := Scf.iv c0_i32_122 c1_i32_124 k0_t1
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_366 : BitVec 32 := 512#32
  let v451 : BitVec 32 := Scalar.addi v218 c512_i32_366
  let c512_i32_508 : BitVec 32 := 512#32
  let v626 : BitVec 32 := Scalar.addi v451 c512_i32_508
  v626
def k0_off19 (i : grid0.Coords) (k0_t1 : Fin (k0_t1_loop i).trips) : Fin 4 → Nat :=
  let c0_509 : Index := 0#32
  let c0_510 : Index := 0#32
  let c0_i32_121 : BitVec 32 := 0#32
  let c0_i32_122 : BitVec 32 := 0#32
  let c1_i32_124 : BitVec 32 := 1#32
  let arg22 : BitVec 32 := Scf.iv c0_i32_122 c1_i32_124 k0_t1
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_366 : BitVec 32 := 512#32
  let v451 : BitVec 32 := Scalar.addi v218 c512_i32_366
  let c512_i32_508 : BitVec 32 := 512#32
  let v626 : BitVec 32 := Scalar.addi v451 c512_i32_508
  let v627 : BitVec 32 := v626
  let v628 : Index := Scalar.indexCast v627
  let c384_511 : Index := 384#32
  ![0, 0, v628.toNat, 384]
def k0_off20 (i : grid0.Coords) (k0_t1 : Fin (k0_t1_loop i).trips) : Fin 4 → Nat :=
  let c0_512 : Index := 0#32
  let c3_513 : Index := 3#32
  let c0_i32_121 : BitVec 32 := 0#32
  let c0_i32_122 : BitVec 32 := 0#32
  let c1_i32_124 : BitVec 32 := 1#32
  let arg22 : BitVec 32 := Scf.iv c0_i32_122 c1_i32_124 k0_t1
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_366 : BitVec 32 := 512#32
  let v451 : BitVec 32 := Scalar.addi v218 c512_i32_366
  let c512_i32_508 : BitVec 32 := 512#32
  let v626 : BitVec 32 := Scalar.addi v451 c512_i32_508
  let v627 : BitVec 32 := v626
  let v631 : Index := Scalar.indexCast v627
  let c0_514 : Index := 0#32
  ![0, 3, v631.toNat, 0]
def k0_mult21 (i : grid0.Coords) (k0_t1 : Fin (k0_t1_loop i).trips) : BitVec 32 :=
  let c0_i32_121 : BitVec 32 := 0#32
  let c0_i32_122 : BitVec 32 := 0#32
  let c1_i32_124 : BitVec 32 := 1#32
  let arg22 : BitVec 32 := Scf.iv c0_i32_122 c1_i32_124 k0_t1
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_366 : BitVec 32 := 512#32
  let v451 : BitVec 32 := Scalar.addi v218 c512_i32_366
  v451
@[reducible] def k0_t2_loop (i : grid0.Coords) : Scf.Loop 32 :=
  let c0_i32_122 : BitVec 32 := 0#32
  let arg2 : BitVec 32 := BitVec.ofNat 32 (i 2).val
  let c0_i32_110 : BitVec 32 := 0#32
  let v118 : BitVec 1 := Scalar.cmpi .sgt arg2 c0_i32_110
  let v119 : BitVec 32 := Scalar.extui v118
  let c0_i32_111 : BitVec 32 := 0#32
  let v120 : BitVec 1 := Scalar.cmpi .slt arg2 c0_i32_111
  let v121 : BitVec 32 := Scalar.extui v120
  let v122 : BitVec 32 := Scalar.subi v119 v121
  let c2_i32 : BitVec 32 := 2#32
  let c0_i32_112 : BitVec 32 := 0#32
  let v123 : BitVec 1 := Scalar.cmpi .sgt c2_i32 c0_i32_112
  let v124 : BitVec 32 := Scalar.extui v123
  let c0_i32_113 : BitVec 32 := 0#32
  let v125 : BitVec 1 := Scalar.cmpi .slt c2_i32 c0_i32_113
  let v126 : BitVec 32 := Scalar.extui v125
  let v127 : BitVec 32 := Scalar.subi v124 v126
  let v128 : BitVec 1 := Scalar.cmpi .ne v122 v127
  let v129 : BitVec 32 := Scalar.remsi arg2 c2_i32
  let c0_i32_114 : BitVec 32 := 0#32
  let v130 : BitVec 1 := Scalar.cmpi .ne v129 c0_i32_114
  let v131 : BitVec 1 := Scalar.andi v128 v130
  let v117 : BitVec 32 := Scalar.divsi arg2 c2_i32
  let c1_i32_115 : BitVec 32 := 1#32
  let v132 : BitVec 32 := Scalar.subi v117 c1_i32_115
  let v133 : BitVec 32 := Scalar.select v131 v132 v117
  let c0_i32_116 : BitVec 32 := 0#32
  let v134 : BitVec 32 := Scalar.subi v133 c0_i32_116
  let c1_i32_117 : BitVec 32 := 1#32
  let c1_i32_118 : BitVec 32 := 1#32
  let v135 : BitVec 32 := Scalar.subi c1_i32_117 c1_i32_118
  let v136 : BitVec 32 := Scalar.addi v134 v135
  let c1_i32_119 : BitVec 32 := 1#32
  let v137 : BitVec 32 := Scalar.divsi v136 c1_i32_119
  let v138 : BitVec 32 := Scalar.subi v137 c0_i32_122
  let c1_i32_123 : BitVec 32 := 1#32
  let v140 : BitVec 32 := Scalar.divsi v138 c1_i32_123
  let v141 : BitVec 32 := Scalar.muli v140 c1_i32_123
  let v142 : BitVec 32 := Scalar.addi c0_i32_122 v141
  let v139 : BitVec 32 := Scalar.addi c0_i32_122 v138
  let c1_i32_125 : BitVec 32 := 1#32
  ⟨v142, v139, c1_i32_125⟩
def k0_mult22 (i : grid0.Coords) (k0_t2 : Fin (k0_t2_loop i).trips) : BitVec 32 :=
  let c0_i32_121 : BitVec 32 := 0#32
  let c0_i32_122 : BitVec 32 := 0#32
  let arg2 : BitVec 32 := BitVec.ofNat 32 (i 2).val
  let c0_i32_110 : BitVec 32 := 0#32
  let v118 : BitVec 1 := Scalar.cmpi .sgt arg2 c0_i32_110
  let v119 : BitVec 32 := Scalar.extui v118
  let c0_i32_111 : BitVec 32 := 0#32
  let v120 : BitVec 1 := Scalar.cmpi .slt arg2 c0_i32_111
  let v121 : BitVec 32 := Scalar.extui v120
  let v122 : BitVec 32 := Scalar.subi v119 v121
  let c2_i32 : BitVec 32 := 2#32
  let c0_i32_112 : BitVec 32 := 0#32
  let v123 : BitVec 1 := Scalar.cmpi .sgt c2_i32 c0_i32_112
  let v124 : BitVec 32 := Scalar.extui v123
  let c0_i32_113 : BitVec 32 := 0#32
  let v125 : BitVec 1 := Scalar.cmpi .slt c2_i32 c0_i32_113
  let v126 : BitVec 32 := Scalar.extui v125
  let v127 : BitVec 32 := Scalar.subi v124 v126
  let v128 : BitVec 1 := Scalar.cmpi .ne v122 v127
  let v129 : BitVec 32 := Scalar.remsi arg2 c2_i32
  let c0_i32_114 : BitVec 32 := 0#32
  let v130 : BitVec 1 := Scalar.cmpi .ne v129 c0_i32_114
  let v131 : BitVec 1 := Scalar.andi v128 v130
  let v117 : BitVec 32 := Scalar.divsi arg2 c2_i32
  let c1_i32_115 : BitVec 32 := 1#32
  let v132 : BitVec 32 := Scalar.subi v117 c1_i32_115
  let v133 : BitVec 32 := Scalar.select v131 v132 v117
  let c0_i32_116 : BitVec 32 := 0#32
  let v134 : BitVec 32 := Scalar.subi v133 c0_i32_116
  let c1_i32_117 : BitVec 32 := 1#32
  let c1_i32_118 : BitVec 32 := 1#32
  let v135 : BitVec 32 := Scalar.subi c1_i32_117 c1_i32_118
  let v136 : BitVec 32 := Scalar.addi v134 v135
  let c1_i32_119 : BitVec 32 := 1#32
  let v137 : BitVec 32 := Scalar.divsi v136 c1_i32_119
  let v138 : BitVec 32 := Scalar.subi v137 c0_i32_122
  let c1_i32_123 : BitVec 32 := 1#32
  let v140 : BitVec 32 := Scalar.divsi v138 c1_i32_123
  let v141 : BitVec 32 := Scalar.muli v140 c1_i32_123
  let v142 : BitVec 32 := Scalar.addi c0_i32_122 v141
  let c1_i32_125 : BitVec 32 := 1#32
  let arg22 : BitVec 32 := Scf.iv v142 c1_i32_125 k0_t2
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  v217
def k0_mult23 (i : grid0.Coords) (k0_t2 : Fin (k0_t2_loop i).trips) : BitVec 32 :=
  let c0_i32_121 : BitVec 32 := 0#32
  let c0_i32_122 : BitVec 32 := 0#32
  let arg2 : BitVec 32 := BitVec.ofNat 32 (i 2).val
  let c0_i32_110 : BitVec 32 := 0#32
  let v118 : BitVec 1 := Scalar.cmpi .sgt arg2 c0_i32_110
  let v119 : BitVec 32 := Scalar.extui v118
  let c0_i32_111 : BitVec 32 := 0#32
  let v120 : BitVec 1 := Scalar.cmpi .slt arg2 c0_i32_111
  let v121 : BitVec 32 := Scalar.extui v120
  let v122 : BitVec 32 := Scalar.subi v119 v121
  let c2_i32 : BitVec 32 := 2#32
  let c0_i32_112 : BitVec 32 := 0#32
  let v123 : BitVec 1 := Scalar.cmpi .sgt c2_i32 c0_i32_112
  let v124 : BitVec 32 := Scalar.extui v123
  let c0_i32_113 : BitVec 32 := 0#32
  let v125 : BitVec 1 := Scalar.cmpi .slt c2_i32 c0_i32_113
  let v126 : BitVec 32 := Scalar.extui v125
  let v127 : BitVec 32 := Scalar.subi v124 v126
  let v128 : BitVec 1 := Scalar.cmpi .ne v122 v127
  let v129 : BitVec 32 := Scalar.remsi arg2 c2_i32
  let c0_i32_114 : BitVec 32 := 0#32
  let v130 : BitVec 1 := Scalar.cmpi .ne v129 c0_i32_114
  let v131 : BitVec 1 := Scalar.andi v128 v130
  let v117 : BitVec 32 := Scalar.divsi arg2 c2_i32
  let c1_i32_115 : BitVec 32 := 1#32
  let v132 : BitVec 32 := Scalar.subi v117 c1_i32_115
  let v133 : BitVec 32 := Scalar.select v131 v132 v117
  let c0_i32_116 : BitVec 32 := 0#32
  let v134 : BitVec 32 := Scalar.subi v133 c0_i32_116
  let c1_i32_117 : BitVec 32 := 1#32
  let c1_i32_118 : BitVec 32 := 1#32
  let v135 : BitVec 32 := Scalar.subi c1_i32_117 c1_i32_118
  let v136 : BitVec 32 := Scalar.addi v134 v135
  let c1_i32_119 : BitVec 32 := 1#32
  let v137 : BitVec 32 := Scalar.divsi v136 c1_i32_119
  let v138 : BitVec 32 := Scalar.subi v137 c0_i32_122
  let c1_i32_123 : BitVec 32 := 1#32
  let v140 : BitVec 32 := Scalar.divsi v138 c1_i32_123
  let v141 : BitVec 32 := Scalar.muli v140 c1_i32_123
  let v142 : BitVec 32 := Scalar.addi c0_i32_122 v141
  let c1_i32_125 : BitVec 32 := 1#32
  let arg22 : BitVec 32 := Scf.iv v142 c1_i32_125 k0_t2
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_178 : BitVec 32 := 512#32
  let v219 : BitVec 32 := Scalar.addi v218 c512_i32_178
  v219
def k0_off21 (i : grid0.Coords) (k0_t2 : Fin (k0_t2_loop i).trips) : Fin 4 → Nat :=
  let c0_179 : Index := 0#32
  let c0_180 : Index := 0#32
  let c0_i32_121 : BitVec 32 := 0#32
  let c0_i32_122 : BitVec 32 := 0#32
  let arg2 : BitVec 32 := BitVec.ofNat 32 (i 2).val
  let c0_i32_110 : BitVec 32 := 0#32
  let v118 : BitVec 1 := Scalar.cmpi .sgt arg2 c0_i32_110
  let v119 : BitVec 32 := Scalar.extui v118
  let c0_i32_111 : BitVec 32 := 0#32
  let v120 : BitVec 1 := Scalar.cmpi .slt arg2 c0_i32_111
  let v121 : BitVec 32 := Scalar.extui v120
  let v122 : BitVec 32 := Scalar.subi v119 v121
  let c2_i32 : BitVec 32 := 2#32
  let c0_i32_112 : BitVec 32 := 0#32
  let v123 : BitVec 1 := Scalar.cmpi .sgt c2_i32 c0_i32_112
  let v124 : BitVec 32 := Scalar.extui v123
  let c0_i32_113 : BitVec 32 := 0#32
  let v125 : BitVec 1 := Scalar.cmpi .slt c2_i32 c0_i32_113
  let v126 : BitVec 32 := Scalar.extui v125
  let v127 : BitVec 32 := Scalar.subi v124 v126
  let v128 : BitVec 1 := Scalar.cmpi .ne v122 v127
  let v129 : BitVec 32 := Scalar.remsi arg2 c2_i32
  let c0_i32_114 : BitVec 32 := 0#32
  let v130 : BitVec 1 := Scalar.cmpi .ne v129 c0_i32_114
  let v131 : BitVec 1 := Scalar.andi v128 v130
  let v117 : BitVec 32 := Scalar.divsi arg2 c2_i32
  let c1_i32_115 : BitVec 32 := 1#32
  let v132 : BitVec 32 := Scalar.subi v117 c1_i32_115
  let v133 : BitVec 32 := Scalar.select v131 v132 v117
  let c0_i32_116 : BitVec 32 := 0#32
  let v134 : BitVec 32 := Scalar.subi v133 c0_i32_116
  let c1_i32_117 : BitVec 32 := 1#32
  let c1_i32_118 : BitVec 32 := 1#32
  let v135 : BitVec 32 := Scalar.subi c1_i32_117 c1_i32_118
  let v136 : BitVec 32 := Scalar.addi v134 v135
  let c1_i32_119 : BitVec 32 := 1#32
  let v137 : BitVec 32 := Scalar.divsi v136 c1_i32_119
  let v138 : BitVec 32 := Scalar.subi v137 c0_i32_122
  let c1_i32_123 : BitVec 32 := 1#32
  let v140 : BitVec 32 := Scalar.divsi v138 c1_i32_123
  let v141 : BitVec 32 := Scalar.muli v140 c1_i32_123
  let v142 : BitVec 32 := Scalar.addi c0_i32_122 v141
  let c1_i32_125 : BitVec 32 := 1#32
  let arg22 : BitVec 32 := Scf.iv v142 c1_i32_125 k0_t2
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_178 : BitVec 32 := 512#32
  let v219 : BitVec 32 := Scalar.addi v218 c512_i32_178
  let v220 : BitVec 32 := v219
  let v221 : Index := Scalar.indexCast v220
  let c0_181 : Index := 0#32
  ![0, 0, v221.toNat, 0]
def k0_off22 (i : grid0.Coords) (k0_t2 : Fin (k0_t2_loop i).trips) : Fin 4 → Nat :=
  let c0_182 : Index := 0#32
  let c0_183 : Index := 0#32
  let c0_i32_121 : BitVec 32 := 0#32
  let c0_i32_122 : BitVec 32 := 0#32
  let arg2 : BitVec 32 := BitVec.ofNat 32 (i 2).val
  let c0_i32_110 : BitVec 32 := 0#32
  let v118 : BitVec 1 := Scalar.cmpi .sgt arg2 c0_i32_110
  let v119 : BitVec 32 := Scalar.extui v118
  let c0_i32_111 : BitVec 32 := 0#32
  let v120 : BitVec 1 := Scalar.cmpi .slt arg2 c0_i32_111
  let v121 : BitVec 32 := Scalar.extui v120
  let v122 : BitVec 32 := Scalar.subi v119 v121
  let c2_i32 : BitVec 32 := 2#32
  let c0_i32_112 : BitVec 32 := 0#32
  let v123 : BitVec 1 := Scalar.cmpi .sgt c2_i32 c0_i32_112
  let v124 : BitVec 32 := Scalar.extui v123
  let c0_i32_113 : BitVec 32 := 0#32
  let v125 : BitVec 1 := Scalar.cmpi .slt c2_i32 c0_i32_113
  let v126 : BitVec 32 := Scalar.extui v125
  let v127 : BitVec 32 := Scalar.subi v124 v126
  let v128 : BitVec 1 := Scalar.cmpi .ne v122 v127
  let v129 : BitVec 32 := Scalar.remsi arg2 c2_i32
  let c0_i32_114 : BitVec 32 := 0#32
  let v130 : BitVec 1 := Scalar.cmpi .ne v129 c0_i32_114
  let v131 : BitVec 1 := Scalar.andi v128 v130
  let v117 : BitVec 32 := Scalar.divsi arg2 c2_i32
  let c1_i32_115 : BitVec 32 := 1#32
  let v132 : BitVec 32 := Scalar.subi v117 c1_i32_115
  let v133 : BitVec 32 := Scalar.select v131 v132 v117
  let c0_i32_116 : BitVec 32 := 0#32
  let v134 : BitVec 32 := Scalar.subi v133 c0_i32_116
  let c1_i32_117 : BitVec 32 := 1#32
  let c1_i32_118 : BitVec 32 := 1#32
  let v135 : BitVec 32 := Scalar.subi c1_i32_117 c1_i32_118
  let v136 : BitVec 32 := Scalar.addi v134 v135
  let c1_i32_119 : BitVec 32 := 1#32
  let v137 : BitVec 32 := Scalar.divsi v136 c1_i32_119
  let v138 : BitVec 32 := Scalar.subi v137 c0_i32_122
  let c1_i32_123 : BitVec 32 := 1#32
  let v140 : BitVec 32 := Scalar.divsi v138 c1_i32_123
  let v141 : BitVec 32 := Scalar.muli v140 c1_i32_123
  let v142 : BitVec 32 := Scalar.addi c0_i32_122 v141
  let c1_i32_125 : BitVec 32 := 1#32
  let arg22 : BitVec 32 := Scf.iv v142 c1_i32_125 k0_t2
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_178 : BitVec 32 := 512#32
  let v219 : BitVec 32 := Scalar.addi v218 c512_i32_178
  let v220 : BitVec 32 := v219
  let v224 : Index := Scalar.indexCast v220
  let c0_184 : Index := 0#32
  ![0, 0, v224.toNat, 0]
def k0_mult24 (i : grid0.Coords) (k0_t2 : Fin (k0_t2_loop i).trips) : BitVec 32 :=
  let c0_i32_121 : BitVec 32 := 0#32
  let c0_i32_122 : BitVec 32 := 0#32
  let arg2 : BitVec 32 := BitVec.ofNat 32 (i 2).val
  let c0_i32_110 : BitVec 32 := 0#32
  let v118 : BitVec 1 := Scalar.cmpi .sgt arg2 c0_i32_110
  let v119 : BitVec 32 := Scalar.extui v118
  let c0_i32_111 : BitVec 32 := 0#32
  let v120 : BitVec 1 := Scalar.cmpi .slt arg2 c0_i32_111
  let v121 : BitVec 32 := Scalar.extui v120
  let v122 : BitVec 32 := Scalar.subi v119 v121
  let c2_i32 : BitVec 32 := 2#32
  let c0_i32_112 : BitVec 32 := 0#32
  let v123 : BitVec 1 := Scalar.cmpi .sgt c2_i32 c0_i32_112
  let v124 : BitVec 32 := Scalar.extui v123
  let c0_i32_113 : BitVec 32 := 0#32
  let v125 : BitVec 1 := Scalar.cmpi .slt c2_i32 c0_i32_113
  let v126 : BitVec 32 := Scalar.extui v125
  let v127 : BitVec 32 := Scalar.subi v124 v126
  let v128 : BitVec 1 := Scalar.cmpi .ne v122 v127
  let v129 : BitVec 32 := Scalar.remsi arg2 c2_i32
  let c0_i32_114 : BitVec 32 := 0#32
  let v130 : BitVec 1 := Scalar.cmpi .ne v129 c0_i32_114
  let v131 : BitVec 1 := Scalar.andi v128 v130
  let v117 : BitVec 32 := Scalar.divsi arg2 c2_i32
  let c1_i32_115 : BitVec 32 := 1#32
  let v132 : BitVec 32 := Scalar.subi v117 c1_i32_115
  let v133 : BitVec 32 := Scalar.select v131 v132 v117
  let c0_i32_116 : BitVec 32 := 0#32
  let v134 : BitVec 32 := Scalar.subi v133 c0_i32_116
  let c1_i32_117 : BitVec 32 := 1#32
  let c1_i32_118 : BitVec 32 := 1#32
  let v135 : BitVec 32 := Scalar.subi c1_i32_117 c1_i32_118
  let v136 : BitVec 32 := Scalar.addi v134 v135
  let c1_i32_119 : BitVec 32 := 1#32
  let v137 : BitVec 32 := Scalar.divsi v136 c1_i32_119
  let v138 : BitVec 32 := Scalar.subi v137 c0_i32_122
  let c1_i32_123 : BitVec 32 := 1#32
  let v140 : BitVec 32 := Scalar.divsi v138 c1_i32_123
  let v141 : BitVec 32 := Scalar.muli v140 c1_i32_123
  let v142 : BitVec 32 := Scalar.addi c0_i32_122 v141
  let c1_i32_125 : BitVec 32 := 1#32
  let arg22 : BitVec 32 := Scf.iv v142 c1_i32_125 k0_t2
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  v218
def k0_off23 (i : grid0.Coords) (k0_t2 : Fin (k0_t2_loop i).trips) : Fin 4 → Nat :=
  let c0_209 : Index := 0#32
  let c0_210 : Index := 0#32
  let c0_i32_121 : BitVec 32 := 0#32
  let c0_i32_122 : BitVec 32 := 0#32
  let arg2 : BitVec 32 := BitVec.ofNat 32 (i 2).val
  let c0_i32_110 : BitVec 32 := 0#32
  let v118 : BitVec 1 := Scalar.cmpi .sgt arg2 c0_i32_110
  let v119 : BitVec 32 := Scalar.extui v118
  let c0_i32_111 : BitVec 32 := 0#32
  let v120 : BitVec 1 := Scalar.cmpi .slt arg2 c0_i32_111
  let v121 : BitVec 32 := Scalar.extui v120
  let v122 : BitVec 32 := Scalar.subi v119 v121
  let c2_i32 : BitVec 32 := 2#32
  let c0_i32_112 : BitVec 32 := 0#32
  let v123 : BitVec 1 := Scalar.cmpi .sgt c2_i32 c0_i32_112
  let v124 : BitVec 32 := Scalar.extui v123
  let c0_i32_113 : BitVec 32 := 0#32
  let v125 : BitVec 1 := Scalar.cmpi .slt c2_i32 c0_i32_113
  let v126 : BitVec 32 := Scalar.extui v125
  let v127 : BitVec 32 := Scalar.subi v124 v126
  let v128 : BitVec 1 := Scalar.cmpi .ne v122 v127
  let v129 : BitVec 32 := Scalar.remsi arg2 c2_i32
  let c0_i32_114 : BitVec 32 := 0#32
  let v130 : BitVec 1 := Scalar.cmpi .ne v129 c0_i32_114
  let v131 : BitVec 1 := Scalar.andi v128 v130
  let v117 : BitVec 32 := Scalar.divsi arg2 c2_i32
  let c1_i32_115 : BitVec 32 := 1#32
  let v132 : BitVec 32 := Scalar.subi v117 c1_i32_115
  let v133 : BitVec 32 := Scalar.select v131 v132 v117
  let c0_i32_116 : BitVec 32 := 0#32
  let v134 : BitVec 32 := Scalar.subi v133 c0_i32_116
  let c1_i32_117 : BitVec 32 := 1#32
  let c1_i32_118 : BitVec 32 := 1#32
  let v135 : BitVec 32 := Scalar.subi c1_i32_117 c1_i32_118
  let v136 : BitVec 32 := Scalar.addi v134 v135
  let c1_i32_119 : BitVec 32 := 1#32
  let v137 : BitVec 32 := Scalar.divsi v136 c1_i32_119
  let v138 : BitVec 32 := Scalar.subi v137 c0_i32_122
  let c1_i32_123 : BitVec 32 := 1#32
  let v140 : BitVec 32 := Scalar.divsi v138 c1_i32_123
  let v141 : BitVec 32 := Scalar.muli v140 c1_i32_123
  let v142 : BitVec 32 := Scalar.addi c0_i32_122 v141
  let c1_i32_125 : BitVec 32 := 1#32
  let arg22 : BitVec 32 := Scf.iv v142 c1_i32_125 k0_t2
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let v237 : BitVec 32 := v218
  let v253 : Index := Scalar.indexCast v237
  let c0_211 : Index := 0#32
  ![0, 0, v253.toNat, 0]
def k0_mult25 (i : grid0.Coords) (k0_t2 : Fin (k0_t2_loop i).trips) : BitVec 32 :=
  let c0_i32_121 : BitVec 32 := 0#32
  let c0_i32_122 : BitVec 32 := 0#32
  let arg2 : BitVec 32 := BitVec.ofNat 32 (i 2).val
  let c0_i32_110 : BitVec 32 := 0#32
  let v118 : BitVec 1 := Scalar.cmpi .sgt arg2 c0_i32_110
  let v119 : BitVec 32 := Scalar.extui v118
  let c0_i32_111 : BitVec 32 := 0#32
  let v120 : BitVec 1 := Scalar.cmpi .slt arg2 c0_i32_111
  let v121 : BitVec 32 := Scalar.extui v120
  let v122 : BitVec 32 := Scalar.subi v119 v121
  let c2_i32 : BitVec 32 := 2#32
  let c0_i32_112 : BitVec 32 := 0#32
  let v123 : BitVec 1 := Scalar.cmpi .sgt c2_i32 c0_i32_112
  let v124 : BitVec 32 := Scalar.extui v123
  let c0_i32_113 : BitVec 32 := 0#32
  let v125 : BitVec 1 := Scalar.cmpi .slt c2_i32 c0_i32_113
  let v126 : BitVec 32 := Scalar.extui v125
  let v127 : BitVec 32 := Scalar.subi v124 v126
  let v128 : BitVec 1 := Scalar.cmpi .ne v122 v127
  let v129 : BitVec 32 := Scalar.remsi arg2 c2_i32
  let c0_i32_114 : BitVec 32 := 0#32
  let v130 : BitVec 1 := Scalar.cmpi .ne v129 c0_i32_114
  let v131 : BitVec 1 := Scalar.andi v128 v130
  let v117 : BitVec 32 := Scalar.divsi arg2 c2_i32
  let c1_i32_115 : BitVec 32 := 1#32
  let v132 : BitVec 32 := Scalar.subi v117 c1_i32_115
  let v133 : BitVec 32 := Scalar.select v131 v132 v117
  let c0_i32_116 : BitVec 32 := 0#32
  let v134 : BitVec 32 := Scalar.subi v133 c0_i32_116
  let c1_i32_117 : BitVec 32 := 1#32
  let c1_i32_118 : BitVec 32 := 1#32
  let v135 : BitVec 32 := Scalar.subi c1_i32_117 c1_i32_118
  let v136 : BitVec 32 := Scalar.addi v134 v135
  let c1_i32_119 : BitVec 32 := 1#32
  let v137 : BitVec 32 := Scalar.divsi v136 c1_i32_119
  let v138 : BitVec 32 := Scalar.subi v137 c0_i32_122
  let c1_i32_123 : BitVec 32 := 1#32
  let v140 : BitVec 32 := Scalar.divsi v138 c1_i32_123
  let v141 : BitVec 32 := Scalar.muli v140 c1_i32_123
  let v142 : BitVec 32 := Scalar.addi c0_i32_122 v141
  let c1_i32_125 : BitVec 32 := 1#32
  let arg22 : BitVec 32 := Scf.iv v142 c1_i32_125 k0_t2
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_225 : BitVec 32 := 512#32
  let v277 : BitVec 32 := Scalar.addi v218 c512_i32_225
  v277
def k0_off24 (i : grid0.Coords) (k0_t2 : Fin (k0_t2_loop i).trips) : Fin 4 → Nat :=
  let c0_226 : Index := 0#32
  let c0_227 : Index := 0#32
  let c0_i32_121 : BitVec 32 := 0#32
  let c0_i32_122 : BitVec 32 := 0#32
  let arg2 : BitVec 32 := BitVec.ofNat 32 (i 2).val
  let c0_i32_110 : BitVec 32 := 0#32
  let v118 : BitVec 1 := Scalar.cmpi .sgt arg2 c0_i32_110
  let v119 : BitVec 32 := Scalar.extui v118
  let c0_i32_111 : BitVec 32 := 0#32
  let v120 : BitVec 1 := Scalar.cmpi .slt arg2 c0_i32_111
  let v121 : BitVec 32 := Scalar.extui v120
  let v122 : BitVec 32 := Scalar.subi v119 v121
  let c2_i32 : BitVec 32 := 2#32
  let c0_i32_112 : BitVec 32 := 0#32
  let v123 : BitVec 1 := Scalar.cmpi .sgt c2_i32 c0_i32_112
  let v124 : BitVec 32 := Scalar.extui v123
  let c0_i32_113 : BitVec 32 := 0#32
  let v125 : BitVec 1 := Scalar.cmpi .slt c2_i32 c0_i32_113
  let v126 : BitVec 32 := Scalar.extui v125
  let v127 : BitVec 32 := Scalar.subi v124 v126
  let v128 : BitVec 1 := Scalar.cmpi .ne v122 v127
  let v129 : BitVec 32 := Scalar.remsi arg2 c2_i32
  let c0_i32_114 : BitVec 32 := 0#32
  let v130 : BitVec 1 := Scalar.cmpi .ne v129 c0_i32_114
  let v131 : BitVec 1 := Scalar.andi v128 v130
  let v117 : BitVec 32 := Scalar.divsi arg2 c2_i32
  let c1_i32_115 : BitVec 32 := 1#32
  let v132 : BitVec 32 := Scalar.subi v117 c1_i32_115
  let v133 : BitVec 32 := Scalar.select v131 v132 v117
  let c0_i32_116 : BitVec 32 := 0#32
  let v134 : BitVec 32 := Scalar.subi v133 c0_i32_116
  let c1_i32_117 : BitVec 32 := 1#32
  let c1_i32_118 : BitVec 32 := 1#32
  let v135 : BitVec 32 := Scalar.subi c1_i32_117 c1_i32_118
  let v136 : BitVec 32 := Scalar.addi v134 v135
  let c1_i32_119 : BitVec 32 := 1#32
  let v137 : BitVec 32 := Scalar.divsi v136 c1_i32_119
  let v138 : BitVec 32 := Scalar.subi v137 c0_i32_122
  let c1_i32_123 : BitVec 32 := 1#32
  let v140 : BitVec 32 := Scalar.divsi v138 c1_i32_123
  let v141 : BitVec 32 := Scalar.muli v140 c1_i32_123
  let v142 : BitVec 32 := Scalar.addi c0_i32_122 v141
  let c1_i32_125 : BitVec 32 := 1#32
  let arg22 : BitVec 32 := Scf.iv v142 c1_i32_125 k0_t2
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_225 : BitVec 32 := 512#32
  let v277 : BitVec 32 := Scalar.addi v218 c512_i32_225
  let v278 : BitVec 32 := v277
  let v279 : Index := Scalar.indexCast v278
  let c128_228 : Index := 128#32
  ![0, 0, v279.toNat, 128]
def k0_off25 (i : grid0.Coords) (k0_t2 : Fin (k0_t2_loop i).trips) : Fin 4 → Nat :=
  let c0_229 : Index := 0#32
  let c1_230 : Index := 1#32
  let c0_i32_121 : BitVec 32 := 0#32
  let c0_i32_122 : BitVec 32 := 0#32
  let arg2 : BitVec 32 := BitVec.ofNat 32 (i 2).val
  let c0_i32_110 : BitVec 32 := 0#32
  let v118 : BitVec 1 := Scalar.cmpi .sgt arg2 c0_i32_110
  let v119 : BitVec 32 := Scalar.extui v118
  let c0_i32_111 : BitVec 32 := 0#32
  let v120 : BitVec 1 := Scalar.cmpi .slt arg2 c0_i32_111
  let v121 : BitVec 32 := Scalar.extui v120
  let v122 : BitVec 32 := Scalar.subi v119 v121
  let c2_i32 : BitVec 32 := 2#32
  let c0_i32_112 : BitVec 32 := 0#32
  let v123 : BitVec 1 := Scalar.cmpi .sgt c2_i32 c0_i32_112
  let v124 : BitVec 32 := Scalar.extui v123
  let c0_i32_113 : BitVec 32 := 0#32
  let v125 : BitVec 1 := Scalar.cmpi .slt c2_i32 c0_i32_113
  let v126 : BitVec 32 := Scalar.extui v125
  let v127 : BitVec 32 := Scalar.subi v124 v126
  let v128 : BitVec 1 := Scalar.cmpi .ne v122 v127
  let v129 : BitVec 32 := Scalar.remsi arg2 c2_i32
  let c0_i32_114 : BitVec 32 := 0#32
  let v130 : BitVec 1 := Scalar.cmpi .ne v129 c0_i32_114
  let v131 : BitVec 1 := Scalar.andi v128 v130
  let v117 : BitVec 32 := Scalar.divsi arg2 c2_i32
  let c1_i32_115 : BitVec 32 := 1#32
  let v132 : BitVec 32 := Scalar.subi v117 c1_i32_115
  let v133 : BitVec 32 := Scalar.select v131 v132 v117
  let c0_i32_116 : BitVec 32 := 0#32
  let v134 : BitVec 32 := Scalar.subi v133 c0_i32_116
  let c1_i32_117 : BitVec 32 := 1#32
  let c1_i32_118 : BitVec 32 := 1#32
  let v135 : BitVec 32 := Scalar.subi c1_i32_117 c1_i32_118
  let v136 : BitVec 32 := Scalar.addi v134 v135
  let c1_i32_119 : BitVec 32 := 1#32
  let v137 : BitVec 32 := Scalar.divsi v136 c1_i32_119
  let v138 : BitVec 32 := Scalar.subi v137 c0_i32_122
  let c1_i32_123 : BitVec 32 := 1#32
  let v140 : BitVec 32 := Scalar.divsi v138 c1_i32_123
  let v141 : BitVec 32 := Scalar.muli v140 c1_i32_123
  let v142 : BitVec 32 := Scalar.addi c0_i32_122 v141
  let c1_i32_125 : BitVec 32 := 1#32
  let arg22 : BitVec 32 := Scf.iv v142 c1_i32_125 k0_t2
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_225 : BitVec 32 := 512#32
  let v277 : BitVec 32 := Scalar.addi v218 c512_i32_225
  let v278 : BitVec 32 := v277
  let v282 : Index := Scalar.indexCast v278
  let c0_231 : Index := 0#32
  ![0, 1, v282.toNat, 0]
def k0_mult26 (i : grid0.Coords) (k0_t2 : Fin (k0_t2_loop i).trips) : BitVec 32 :=
  let c0_i32_121 : BitVec 32 := 0#32
  let c0_i32_122 : BitVec 32 := 0#32
  let arg2 : BitVec 32 := BitVec.ofNat 32 (i 2).val
  let c0_i32_110 : BitVec 32 := 0#32
  let v118 : BitVec 1 := Scalar.cmpi .sgt arg2 c0_i32_110
  let v119 : BitVec 32 := Scalar.extui v118
  let c0_i32_111 : BitVec 32 := 0#32
  let v120 : BitVec 1 := Scalar.cmpi .slt arg2 c0_i32_111
  let v121 : BitVec 32 := Scalar.extui v120
  let v122 : BitVec 32 := Scalar.subi v119 v121
  let c2_i32 : BitVec 32 := 2#32
  let c0_i32_112 : BitVec 32 := 0#32
  let v123 : BitVec 1 := Scalar.cmpi .sgt c2_i32 c0_i32_112
  let v124 : BitVec 32 := Scalar.extui v123
  let c0_i32_113 : BitVec 32 := 0#32
  let v125 : BitVec 1 := Scalar.cmpi .slt c2_i32 c0_i32_113
  let v126 : BitVec 32 := Scalar.extui v125
  let v127 : BitVec 32 := Scalar.subi v124 v126
  let v128 : BitVec 1 := Scalar.cmpi .ne v122 v127
  let v129 : BitVec 32 := Scalar.remsi arg2 c2_i32
  let c0_i32_114 : BitVec 32 := 0#32
  let v130 : BitVec 1 := Scalar.cmpi .ne v129 c0_i32_114
  let v131 : BitVec 1 := Scalar.andi v128 v130
  let v117 : BitVec 32 := Scalar.divsi arg2 c2_i32
  let c1_i32_115 : BitVec 32 := 1#32
  let v132 : BitVec 32 := Scalar.subi v117 c1_i32_115
  let v133 : BitVec 32 := Scalar.select v131 v132 v117
  let c0_i32_116 : BitVec 32 := 0#32
  let v134 : BitVec 32 := Scalar.subi v133 c0_i32_116
  let c1_i32_117 : BitVec 32 := 1#32
  let c1_i32_118 : BitVec 32 := 1#32
  let v135 : BitVec 32 := Scalar.subi c1_i32_117 c1_i32_118
  let v136 : BitVec 32 := Scalar.addi v134 v135
  let c1_i32_119 : BitVec 32 := 1#32
  let v137 : BitVec 32 := Scalar.divsi v136 c1_i32_119
  let v138 : BitVec 32 := Scalar.subi v137 c0_i32_122
  let c1_i32_123 : BitVec 32 := 1#32
  let v140 : BitVec 32 := Scalar.divsi v138 c1_i32_123
  let v141 : BitVec 32 := Scalar.muli v140 c1_i32_123
  let v142 : BitVec 32 := Scalar.addi c0_i32_122 v141
  let c1_i32_125 : BitVec 32 := 1#32
  let arg22 : BitVec 32 := Scf.iv v142 c1_i32_125 k0_t2
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  v218
def k0_off26 (i : grid0.Coords) (k0_t2 : Fin (k0_t2_loop i).trips) : Fin 4 → Nat :=
  let c0_256 : Index := 0#32
  let c0_257 : Index := 0#32
  let c0_i32_121 : BitVec 32 := 0#32
  let c0_i32_122 : BitVec 32 := 0#32
  let arg2 : BitVec 32 := BitVec.ofNat 32 (i 2).val
  let c0_i32_110 : BitVec 32 := 0#32
  let v118 : BitVec 1 := Scalar.cmpi .sgt arg2 c0_i32_110
  let v119 : BitVec 32 := Scalar.extui v118
  let c0_i32_111 : BitVec 32 := 0#32
  let v120 : BitVec 1 := Scalar.cmpi .slt arg2 c0_i32_111
  let v121 : BitVec 32 := Scalar.extui v120
  let v122 : BitVec 32 := Scalar.subi v119 v121
  let c2_i32 : BitVec 32 := 2#32
  let c0_i32_112 : BitVec 32 := 0#32
  let v123 : BitVec 1 := Scalar.cmpi .sgt c2_i32 c0_i32_112
  let v124 : BitVec 32 := Scalar.extui v123
  let c0_i32_113 : BitVec 32 := 0#32
  let v125 : BitVec 1 := Scalar.cmpi .slt c2_i32 c0_i32_113
  let v126 : BitVec 32 := Scalar.extui v125
  let v127 : BitVec 32 := Scalar.subi v124 v126
  let v128 : BitVec 1 := Scalar.cmpi .ne v122 v127
  let v129 : BitVec 32 := Scalar.remsi arg2 c2_i32
  let c0_i32_114 : BitVec 32 := 0#32
  let v130 : BitVec 1 := Scalar.cmpi .ne v129 c0_i32_114
  let v131 : BitVec 1 := Scalar.andi v128 v130
  let v117 : BitVec 32 := Scalar.divsi arg2 c2_i32
  let c1_i32_115 : BitVec 32 := 1#32
  let v132 : BitVec 32 := Scalar.subi v117 c1_i32_115
  let v133 : BitVec 32 := Scalar.select v131 v132 v117
  let c0_i32_116 : BitVec 32 := 0#32
  let v134 : BitVec 32 := Scalar.subi v133 c0_i32_116
  let c1_i32_117 : BitVec 32 := 1#32
  let c1_i32_118 : BitVec 32 := 1#32
  let v135 : BitVec 32 := Scalar.subi c1_i32_117 c1_i32_118
  let v136 : BitVec 32 := Scalar.addi v134 v135
  let c1_i32_119 : BitVec 32 := 1#32
  let v137 : BitVec 32 := Scalar.divsi v136 c1_i32_119
  let v138 : BitVec 32 := Scalar.subi v137 c0_i32_122
  let c1_i32_123 : BitVec 32 := 1#32
  let v140 : BitVec 32 := Scalar.divsi v138 c1_i32_123
  let v141 : BitVec 32 := Scalar.muli v140 c1_i32_123
  let v142 : BitVec 32 := Scalar.addi c0_i32_122 v141
  let c1_i32_125 : BitVec 32 := 1#32
  let arg22 : BitVec 32 := Scf.iv v142 c1_i32_125 k0_t2
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let v295 : BitVec 32 := v218
  let v311 : Index := Scalar.indexCast v295
  let c128_258 : Index := 128#32
  ![0, 0, v311.toNat, 128]
def k0_mult27 (i : grid0.Coords) (k0_t2 : Fin (k0_t2_loop i).trips) : BitVec 32 :=
  let c0_i32_121 : BitVec 32 := 0#32
  let c0_i32_122 : BitVec 32 := 0#32
  let arg2 : BitVec 32 := BitVec.ofNat 32 (i 2).val
  let c0_i32_110 : BitVec 32 := 0#32
  let v118 : BitVec 1 := Scalar.cmpi .sgt arg2 c0_i32_110
  let v119 : BitVec 32 := Scalar.extui v118
  let c0_i32_111 : BitVec 32 := 0#32
  let v120 : BitVec 1 := Scalar.cmpi .slt arg2 c0_i32_111
  let v121 : BitVec 32 := Scalar.extui v120
  let v122 : BitVec 32 := Scalar.subi v119 v121
  let c2_i32 : BitVec 32 := 2#32
  let c0_i32_112 : BitVec 32 := 0#32
  let v123 : BitVec 1 := Scalar.cmpi .sgt c2_i32 c0_i32_112
  let v124 : BitVec 32 := Scalar.extui v123
  let c0_i32_113 : BitVec 32 := 0#32
  let v125 : BitVec 1 := Scalar.cmpi .slt c2_i32 c0_i32_113
  let v126 : BitVec 32 := Scalar.extui v125
  let v127 : BitVec 32 := Scalar.subi v124 v126
  let v128 : BitVec 1 := Scalar.cmpi .ne v122 v127
  let v129 : BitVec 32 := Scalar.remsi arg2 c2_i32
  let c0_i32_114 : BitVec 32 := 0#32
  let v130 : BitVec 1 := Scalar.cmpi .ne v129 c0_i32_114
  let v131 : BitVec 1 := Scalar.andi v128 v130
  let v117 : BitVec 32 := Scalar.divsi arg2 c2_i32
  let c1_i32_115 : BitVec 32 := 1#32
  let v132 : BitVec 32 := Scalar.subi v117 c1_i32_115
  let v133 : BitVec 32 := Scalar.select v131 v132 v117
  let c0_i32_116 : BitVec 32 := 0#32
  let v134 : BitVec 32 := Scalar.subi v133 c0_i32_116
  let c1_i32_117 : BitVec 32 := 1#32
  let c1_i32_118 : BitVec 32 := 1#32
  let v135 : BitVec 32 := Scalar.subi c1_i32_117 c1_i32_118
  let v136 : BitVec 32 := Scalar.addi v134 v135
  let c1_i32_119 : BitVec 32 := 1#32
  let v137 : BitVec 32 := Scalar.divsi v136 c1_i32_119
  let v138 : BitVec 32 := Scalar.subi v137 c0_i32_122
  let c1_i32_123 : BitVec 32 := 1#32
  let v140 : BitVec 32 := Scalar.divsi v138 c1_i32_123
  let v141 : BitVec 32 := Scalar.muli v140 c1_i32_123
  let v142 : BitVec 32 := Scalar.addi c0_i32_122 v141
  let c1_i32_125 : BitVec 32 := 1#32
  let arg22 : BitVec 32 := Scf.iv v142 c1_i32_125 k0_t2
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_272 : BitVec 32 := 512#32
  let v335 : BitVec 32 := Scalar.addi v218 c512_i32_272
  v335
def k0_off27 (i : grid0.Coords) (k0_t2 : Fin (k0_t2_loop i).trips) : Fin 4 → Nat :=
  let c0_273 : Index := 0#32
  let c0_274 : Index := 0#32
  let c0_i32_121 : BitVec 32 := 0#32
  let c0_i32_122 : BitVec 32 := 0#32
  let arg2 : BitVec 32 := BitVec.ofNat 32 (i 2).val
  let c0_i32_110 : BitVec 32 := 0#32
  let v118 : BitVec 1 := Scalar.cmpi .sgt arg2 c0_i32_110
  let v119 : BitVec 32 := Scalar.extui v118
  let c0_i32_111 : BitVec 32 := 0#32
  let v120 : BitVec 1 := Scalar.cmpi .slt arg2 c0_i32_111
  let v121 : BitVec 32 := Scalar.extui v120
  let v122 : BitVec 32 := Scalar.subi v119 v121
  let c2_i32 : BitVec 32 := 2#32
  let c0_i32_112 : BitVec 32 := 0#32
  let v123 : BitVec 1 := Scalar.cmpi .sgt c2_i32 c0_i32_112
  let v124 : BitVec 32 := Scalar.extui v123
  let c0_i32_113 : BitVec 32 := 0#32
  let v125 : BitVec 1 := Scalar.cmpi .slt c2_i32 c0_i32_113
  let v126 : BitVec 32 := Scalar.extui v125
  let v127 : BitVec 32 := Scalar.subi v124 v126
  let v128 : BitVec 1 := Scalar.cmpi .ne v122 v127
  let v129 : BitVec 32 := Scalar.remsi arg2 c2_i32
  let c0_i32_114 : BitVec 32 := 0#32
  let v130 : BitVec 1 := Scalar.cmpi .ne v129 c0_i32_114
  let v131 : BitVec 1 := Scalar.andi v128 v130
  let v117 : BitVec 32 := Scalar.divsi arg2 c2_i32
  let c1_i32_115 : BitVec 32 := 1#32
  let v132 : BitVec 32 := Scalar.subi v117 c1_i32_115
  let v133 : BitVec 32 := Scalar.select v131 v132 v117
  let c0_i32_116 : BitVec 32 := 0#32
  let v134 : BitVec 32 := Scalar.subi v133 c0_i32_116
  let c1_i32_117 : BitVec 32 := 1#32
  let c1_i32_118 : BitVec 32 := 1#32
  let v135 : BitVec 32 := Scalar.subi c1_i32_117 c1_i32_118
  let v136 : BitVec 32 := Scalar.addi v134 v135
  let c1_i32_119 : BitVec 32 := 1#32
  let v137 : BitVec 32 := Scalar.divsi v136 c1_i32_119
  let v138 : BitVec 32 := Scalar.subi v137 c0_i32_122
  let c1_i32_123 : BitVec 32 := 1#32
  let v140 : BitVec 32 := Scalar.divsi v138 c1_i32_123
  let v141 : BitVec 32 := Scalar.muli v140 c1_i32_123
  let v142 : BitVec 32 := Scalar.addi c0_i32_122 v141
  let c1_i32_125 : BitVec 32 := 1#32
  let arg22 : BitVec 32 := Scf.iv v142 c1_i32_125 k0_t2
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_272 : BitVec 32 := 512#32
  let v335 : BitVec 32 := Scalar.addi v218 c512_i32_272
  let v336 : BitVec 32 := v335
  let v337 : Index := Scalar.indexCast v336
  let c256_275 : Index := 256#32
  ![0, 0, v337.toNat, 256]
def k0_off28 (i : grid0.Coords) (k0_t2 : Fin (k0_t2_loop i).trips) : Fin 4 → Nat :=
  let c0_276 : Index := 0#32
  let c2_277 : Index := 2#32
  let c0_i32_121 : BitVec 32 := 0#32
  let c0_i32_122 : BitVec 32 := 0#32
  let arg2 : BitVec 32 := BitVec.ofNat 32 (i 2).val
  let c0_i32_110 : BitVec 32 := 0#32
  let v118 : BitVec 1 := Scalar.cmpi .sgt arg2 c0_i32_110
  let v119 : BitVec 32 := Scalar.extui v118
  let c0_i32_111 : BitVec 32 := 0#32
  let v120 : BitVec 1 := Scalar.cmpi .slt arg2 c0_i32_111
  let v121 : BitVec 32 := Scalar.extui v120
  let v122 : BitVec 32 := Scalar.subi v119 v121
  let c2_i32 : BitVec 32 := 2#32
  let c0_i32_112 : BitVec 32 := 0#32
  let v123 : BitVec 1 := Scalar.cmpi .sgt c2_i32 c0_i32_112
  let v124 : BitVec 32 := Scalar.extui v123
  let c0_i32_113 : BitVec 32 := 0#32
  let v125 : BitVec 1 := Scalar.cmpi .slt c2_i32 c0_i32_113
  let v126 : BitVec 32 := Scalar.extui v125
  let v127 : BitVec 32 := Scalar.subi v124 v126
  let v128 : BitVec 1 := Scalar.cmpi .ne v122 v127
  let v129 : BitVec 32 := Scalar.remsi arg2 c2_i32
  let c0_i32_114 : BitVec 32 := 0#32
  let v130 : BitVec 1 := Scalar.cmpi .ne v129 c0_i32_114
  let v131 : BitVec 1 := Scalar.andi v128 v130
  let v117 : BitVec 32 := Scalar.divsi arg2 c2_i32
  let c1_i32_115 : BitVec 32 := 1#32
  let v132 : BitVec 32 := Scalar.subi v117 c1_i32_115
  let v133 : BitVec 32 := Scalar.select v131 v132 v117
  let c0_i32_116 : BitVec 32 := 0#32
  let v134 : BitVec 32 := Scalar.subi v133 c0_i32_116
  let c1_i32_117 : BitVec 32 := 1#32
  let c1_i32_118 : BitVec 32 := 1#32
  let v135 : BitVec 32 := Scalar.subi c1_i32_117 c1_i32_118
  let v136 : BitVec 32 := Scalar.addi v134 v135
  let c1_i32_119 : BitVec 32 := 1#32
  let v137 : BitVec 32 := Scalar.divsi v136 c1_i32_119
  let v138 : BitVec 32 := Scalar.subi v137 c0_i32_122
  let c1_i32_123 : BitVec 32 := 1#32
  let v140 : BitVec 32 := Scalar.divsi v138 c1_i32_123
  let v141 : BitVec 32 := Scalar.muli v140 c1_i32_123
  let v142 : BitVec 32 := Scalar.addi c0_i32_122 v141
  let c1_i32_125 : BitVec 32 := 1#32
  let arg22 : BitVec 32 := Scf.iv v142 c1_i32_125 k0_t2
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_272 : BitVec 32 := 512#32
  let v335 : BitVec 32 := Scalar.addi v218 c512_i32_272
  let v336 : BitVec 32 := v335
  let v340 : Index := Scalar.indexCast v336
  let c0_278 : Index := 0#32
  ![0, 2, v340.toNat, 0]
def k0_mult28 (i : grid0.Coords) (k0_t2 : Fin (k0_t2_loop i).trips) : BitVec 32 :=
  let c0_i32_121 : BitVec 32 := 0#32
  let c0_i32_122 : BitVec 32 := 0#32
  let arg2 : BitVec 32 := BitVec.ofNat 32 (i 2).val
  let c0_i32_110 : BitVec 32 := 0#32
  let v118 : BitVec 1 := Scalar.cmpi .sgt arg2 c0_i32_110
  let v119 : BitVec 32 := Scalar.extui v118
  let c0_i32_111 : BitVec 32 := 0#32
  let v120 : BitVec 1 := Scalar.cmpi .slt arg2 c0_i32_111
  let v121 : BitVec 32 := Scalar.extui v120
  let v122 : BitVec 32 := Scalar.subi v119 v121
  let c2_i32 : BitVec 32 := 2#32
  let c0_i32_112 : BitVec 32 := 0#32
  let v123 : BitVec 1 := Scalar.cmpi .sgt c2_i32 c0_i32_112
  let v124 : BitVec 32 := Scalar.extui v123
  let c0_i32_113 : BitVec 32 := 0#32
  let v125 : BitVec 1 := Scalar.cmpi .slt c2_i32 c0_i32_113
  let v126 : BitVec 32 := Scalar.extui v125
  let v127 : BitVec 32 := Scalar.subi v124 v126
  let v128 : BitVec 1 := Scalar.cmpi .ne v122 v127
  let v129 : BitVec 32 := Scalar.remsi arg2 c2_i32
  let c0_i32_114 : BitVec 32 := 0#32
  let v130 : BitVec 1 := Scalar.cmpi .ne v129 c0_i32_114
  let v131 : BitVec 1 := Scalar.andi v128 v130
  let v117 : BitVec 32 := Scalar.divsi arg2 c2_i32
  let c1_i32_115 : BitVec 32 := 1#32
  let v132 : BitVec 32 := Scalar.subi v117 c1_i32_115
  let v133 : BitVec 32 := Scalar.select v131 v132 v117
  let c0_i32_116 : BitVec 32 := 0#32
  let v134 : BitVec 32 := Scalar.subi v133 c0_i32_116
  let c1_i32_117 : BitVec 32 := 1#32
  let c1_i32_118 : BitVec 32 := 1#32
  let v135 : BitVec 32 := Scalar.subi c1_i32_117 c1_i32_118
  let v136 : BitVec 32 := Scalar.addi v134 v135
  let c1_i32_119 : BitVec 32 := 1#32
  let v137 : BitVec 32 := Scalar.divsi v136 c1_i32_119
  let v138 : BitVec 32 := Scalar.subi v137 c0_i32_122
  let c1_i32_123 : BitVec 32 := 1#32
  let v140 : BitVec 32 := Scalar.divsi v138 c1_i32_123
  let v141 : BitVec 32 := Scalar.muli v140 c1_i32_123
  let v142 : BitVec 32 := Scalar.addi c0_i32_122 v141
  let c1_i32_125 : BitVec 32 := 1#32
  let arg22 : BitVec 32 := Scf.iv v142 c1_i32_125 k0_t2
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  v218
def k0_off29 (i : grid0.Coords) (k0_t2 : Fin (k0_t2_loop i).trips) : Fin 4 → Nat :=
  let c0_303 : Index := 0#32
  let c0_304 : Index := 0#32
  let c0_i32_121 : BitVec 32 := 0#32
  let c0_i32_122 : BitVec 32 := 0#32
  let arg2 : BitVec 32 := BitVec.ofNat 32 (i 2).val
  let c0_i32_110 : BitVec 32 := 0#32
  let v118 : BitVec 1 := Scalar.cmpi .sgt arg2 c0_i32_110
  let v119 : BitVec 32 := Scalar.extui v118
  let c0_i32_111 : BitVec 32 := 0#32
  let v120 : BitVec 1 := Scalar.cmpi .slt arg2 c0_i32_111
  let v121 : BitVec 32 := Scalar.extui v120
  let v122 : BitVec 32 := Scalar.subi v119 v121
  let c2_i32 : BitVec 32 := 2#32
  let c0_i32_112 : BitVec 32 := 0#32
  let v123 : BitVec 1 := Scalar.cmpi .sgt c2_i32 c0_i32_112
  let v124 : BitVec 32 := Scalar.extui v123
  let c0_i32_113 : BitVec 32 := 0#32
  let v125 : BitVec 1 := Scalar.cmpi .slt c2_i32 c0_i32_113
  let v126 : BitVec 32 := Scalar.extui v125
  let v127 : BitVec 32 := Scalar.subi v124 v126
  let v128 : BitVec 1 := Scalar.cmpi .ne v122 v127
  let v129 : BitVec 32 := Scalar.remsi arg2 c2_i32
  let c0_i32_114 : BitVec 32 := 0#32
  let v130 : BitVec 1 := Scalar.cmpi .ne v129 c0_i32_114
  let v131 : BitVec 1 := Scalar.andi v128 v130
  let v117 : BitVec 32 := Scalar.divsi arg2 c2_i32
  let c1_i32_115 : BitVec 32 := 1#32
  let v132 : BitVec 32 := Scalar.subi v117 c1_i32_115
  let v133 : BitVec 32 := Scalar.select v131 v132 v117
  let c0_i32_116 : BitVec 32 := 0#32
  let v134 : BitVec 32 := Scalar.subi v133 c0_i32_116
  let c1_i32_117 : BitVec 32 := 1#32
  let c1_i32_118 : BitVec 32 := 1#32
  let v135 : BitVec 32 := Scalar.subi c1_i32_117 c1_i32_118
  let v136 : BitVec 32 := Scalar.addi v134 v135
  let c1_i32_119 : BitVec 32 := 1#32
  let v137 : BitVec 32 := Scalar.divsi v136 c1_i32_119
  let v138 : BitVec 32 := Scalar.subi v137 c0_i32_122
  let c1_i32_123 : BitVec 32 := 1#32
  let v140 : BitVec 32 := Scalar.divsi v138 c1_i32_123
  let v141 : BitVec 32 := Scalar.muli v140 c1_i32_123
  let v142 : BitVec 32 := Scalar.addi c0_i32_122 v141
  let c1_i32_125 : BitVec 32 := 1#32
  let arg22 : BitVec 32 := Scf.iv v142 c1_i32_125 k0_t2
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let v353 : BitVec 32 := v218
  let v369 : Index := Scalar.indexCast v353
  let c256_305 : Index := 256#32
  ![0, 0, v369.toNat, 256]
def k0_mult29 (i : grid0.Coords) (k0_t2 : Fin (k0_t2_loop i).trips) : BitVec 32 :=
  let c0_i32_121 : BitVec 32 := 0#32
  let c0_i32_122 : BitVec 32 := 0#32
  let arg2 : BitVec 32 := BitVec.ofNat 32 (i 2).val
  let c0_i32_110 : BitVec 32 := 0#32
  let v118 : BitVec 1 := Scalar.cmpi .sgt arg2 c0_i32_110
  let v119 : BitVec 32 := Scalar.extui v118
  let c0_i32_111 : BitVec 32 := 0#32
  let v120 : BitVec 1 := Scalar.cmpi .slt arg2 c0_i32_111
  let v121 : BitVec 32 := Scalar.extui v120
  let v122 : BitVec 32 := Scalar.subi v119 v121
  let c2_i32 : BitVec 32 := 2#32
  let c0_i32_112 : BitVec 32 := 0#32
  let v123 : BitVec 1 := Scalar.cmpi .sgt c2_i32 c0_i32_112
  let v124 : BitVec 32 := Scalar.extui v123
  let c0_i32_113 : BitVec 32 := 0#32
  let v125 : BitVec 1 := Scalar.cmpi .slt c2_i32 c0_i32_113
  let v126 : BitVec 32 := Scalar.extui v125
  let v127 : BitVec 32 := Scalar.subi v124 v126
  let v128 : BitVec 1 := Scalar.cmpi .ne v122 v127
  let v129 : BitVec 32 := Scalar.remsi arg2 c2_i32
  let c0_i32_114 : BitVec 32 := 0#32
  let v130 : BitVec 1 := Scalar.cmpi .ne v129 c0_i32_114
  let v131 : BitVec 1 := Scalar.andi v128 v130
  let v117 : BitVec 32 := Scalar.divsi arg2 c2_i32
  let c1_i32_115 : BitVec 32 := 1#32
  let v132 : BitVec 32 := Scalar.subi v117 c1_i32_115
  let v133 : BitVec 32 := Scalar.select v131 v132 v117
  let c0_i32_116 : BitVec 32 := 0#32
  let v134 : BitVec 32 := Scalar.subi v133 c0_i32_116
  let c1_i32_117 : BitVec 32 := 1#32
  let c1_i32_118 : BitVec 32 := 1#32
  let v135 : BitVec 32 := Scalar.subi c1_i32_117 c1_i32_118
  let v136 : BitVec 32 := Scalar.addi v134 v135
  let c1_i32_119 : BitVec 32 := 1#32
  let v137 : BitVec 32 := Scalar.divsi v136 c1_i32_119
  let v138 : BitVec 32 := Scalar.subi v137 c0_i32_122
  let c1_i32_123 : BitVec 32 := 1#32
  let v140 : BitVec 32 := Scalar.divsi v138 c1_i32_123
  let v141 : BitVec 32 := Scalar.muli v140 c1_i32_123
  let v142 : BitVec 32 := Scalar.addi c0_i32_122 v141
  let c1_i32_125 : BitVec 32 := 1#32
  let arg22 : BitVec 32 := Scf.iv v142 c1_i32_125 k0_t2
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_319 : BitVec 32 := 512#32
  let v393 : BitVec 32 := Scalar.addi v218 c512_i32_319
  v393
def k0_off30 (i : grid0.Coords) (k0_t2 : Fin (k0_t2_loop i).trips) : Fin 4 → Nat :=
  let c0_320 : Index := 0#32
  let c0_321 : Index := 0#32
  let c0_i32_121 : BitVec 32 := 0#32
  let c0_i32_122 : BitVec 32 := 0#32
  let arg2 : BitVec 32 := BitVec.ofNat 32 (i 2).val
  let c0_i32_110 : BitVec 32 := 0#32
  let v118 : BitVec 1 := Scalar.cmpi .sgt arg2 c0_i32_110
  let v119 : BitVec 32 := Scalar.extui v118
  let c0_i32_111 : BitVec 32 := 0#32
  let v120 : BitVec 1 := Scalar.cmpi .slt arg2 c0_i32_111
  let v121 : BitVec 32 := Scalar.extui v120
  let v122 : BitVec 32 := Scalar.subi v119 v121
  let c2_i32 : BitVec 32 := 2#32
  let c0_i32_112 : BitVec 32 := 0#32
  let v123 : BitVec 1 := Scalar.cmpi .sgt c2_i32 c0_i32_112
  let v124 : BitVec 32 := Scalar.extui v123
  let c0_i32_113 : BitVec 32 := 0#32
  let v125 : BitVec 1 := Scalar.cmpi .slt c2_i32 c0_i32_113
  let v126 : BitVec 32 := Scalar.extui v125
  let v127 : BitVec 32 := Scalar.subi v124 v126
  let v128 : BitVec 1 := Scalar.cmpi .ne v122 v127
  let v129 : BitVec 32 := Scalar.remsi arg2 c2_i32
  let c0_i32_114 : BitVec 32 := 0#32
  let v130 : BitVec 1 := Scalar.cmpi .ne v129 c0_i32_114
  let v131 : BitVec 1 := Scalar.andi v128 v130
  let v117 : BitVec 32 := Scalar.divsi arg2 c2_i32
  let c1_i32_115 : BitVec 32 := 1#32
  let v132 : BitVec 32 := Scalar.subi v117 c1_i32_115
  let v133 : BitVec 32 := Scalar.select v131 v132 v117
  let c0_i32_116 : BitVec 32 := 0#32
  let v134 : BitVec 32 := Scalar.subi v133 c0_i32_116
  let c1_i32_117 : BitVec 32 := 1#32
  let c1_i32_118 : BitVec 32 := 1#32
  let v135 : BitVec 32 := Scalar.subi c1_i32_117 c1_i32_118
  let v136 : BitVec 32 := Scalar.addi v134 v135
  let c1_i32_119 : BitVec 32 := 1#32
  let v137 : BitVec 32 := Scalar.divsi v136 c1_i32_119
  let v138 : BitVec 32 := Scalar.subi v137 c0_i32_122
  let c1_i32_123 : BitVec 32 := 1#32
  let v140 : BitVec 32 := Scalar.divsi v138 c1_i32_123
  let v141 : BitVec 32 := Scalar.muli v140 c1_i32_123
  let v142 : BitVec 32 := Scalar.addi c0_i32_122 v141
  let c1_i32_125 : BitVec 32 := 1#32
  let arg22 : BitVec 32 := Scf.iv v142 c1_i32_125 k0_t2
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_319 : BitVec 32 := 512#32
  let v393 : BitVec 32 := Scalar.addi v218 c512_i32_319
  let v394 : BitVec 32 := v393
  let v395 : Index := Scalar.indexCast v394
  let c384_322 : Index := 384#32
  ![0, 0, v395.toNat, 384]
def k0_off31 (i : grid0.Coords) (k0_t2 : Fin (k0_t2_loop i).trips) : Fin 4 → Nat :=
  let c0_323 : Index := 0#32
  let c3_324 : Index := 3#32
  let c0_i32_121 : BitVec 32 := 0#32
  let c0_i32_122 : BitVec 32 := 0#32
  let arg2 : BitVec 32 := BitVec.ofNat 32 (i 2).val
  let c0_i32_110 : BitVec 32 := 0#32
  let v118 : BitVec 1 := Scalar.cmpi .sgt arg2 c0_i32_110
  let v119 : BitVec 32 := Scalar.extui v118
  let c0_i32_111 : BitVec 32 := 0#32
  let v120 : BitVec 1 := Scalar.cmpi .slt arg2 c0_i32_111
  let v121 : BitVec 32 := Scalar.extui v120
  let v122 : BitVec 32 := Scalar.subi v119 v121
  let c2_i32 : BitVec 32 := 2#32
  let c0_i32_112 : BitVec 32 := 0#32
  let v123 : BitVec 1 := Scalar.cmpi .sgt c2_i32 c0_i32_112
  let v124 : BitVec 32 := Scalar.extui v123
  let c0_i32_113 : BitVec 32 := 0#32
  let v125 : BitVec 1 := Scalar.cmpi .slt c2_i32 c0_i32_113
  let v126 : BitVec 32 := Scalar.extui v125
  let v127 : BitVec 32 := Scalar.subi v124 v126
  let v128 : BitVec 1 := Scalar.cmpi .ne v122 v127
  let v129 : BitVec 32 := Scalar.remsi arg2 c2_i32
  let c0_i32_114 : BitVec 32 := 0#32
  let v130 : BitVec 1 := Scalar.cmpi .ne v129 c0_i32_114
  let v131 : BitVec 1 := Scalar.andi v128 v130
  let v117 : BitVec 32 := Scalar.divsi arg2 c2_i32
  let c1_i32_115 : BitVec 32 := 1#32
  let v132 : BitVec 32 := Scalar.subi v117 c1_i32_115
  let v133 : BitVec 32 := Scalar.select v131 v132 v117
  let c0_i32_116 : BitVec 32 := 0#32
  let v134 : BitVec 32 := Scalar.subi v133 c0_i32_116
  let c1_i32_117 : BitVec 32 := 1#32
  let c1_i32_118 : BitVec 32 := 1#32
  let v135 : BitVec 32 := Scalar.subi c1_i32_117 c1_i32_118
  let v136 : BitVec 32 := Scalar.addi v134 v135
  let c1_i32_119 : BitVec 32 := 1#32
  let v137 : BitVec 32 := Scalar.divsi v136 c1_i32_119
  let v138 : BitVec 32 := Scalar.subi v137 c0_i32_122
  let c1_i32_123 : BitVec 32 := 1#32
  let v140 : BitVec 32 := Scalar.divsi v138 c1_i32_123
  let v141 : BitVec 32 := Scalar.muli v140 c1_i32_123
  let v142 : BitVec 32 := Scalar.addi c0_i32_122 v141
  let c1_i32_125 : BitVec 32 := 1#32
  let arg22 : BitVec 32 := Scf.iv v142 c1_i32_125 k0_t2
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_319 : BitVec 32 := 512#32
  let v393 : BitVec 32 := Scalar.addi v218 c512_i32_319
  let v394 : BitVec 32 := v393
  let v398 : Index := Scalar.indexCast v394
  let c0_325 : Index := 0#32
  ![0, 3, v398.toNat, 0]
def k0_mult30 (i : grid0.Coords) (k0_t2 : Fin (k0_t2_loop i).trips) : BitVec 32 :=
  let c0_i32_121 : BitVec 32 := 0#32
  let c0_i32_122 : BitVec 32 := 0#32
  let arg2 : BitVec 32 := BitVec.ofNat 32 (i 2).val
  let c0_i32_110 : BitVec 32 := 0#32
  let v118 : BitVec 1 := Scalar.cmpi .sgt arg2 c0_i32_110
  let v119 : BitVec 32 := Scalar.extui v118
  let c0_i32_111 : BitVec 32 := 0#32
  let v120 : BitVec 1 := Scalar.cmpi .slt arg2 c0_i32_111
  let v121 : BitVec 32 := Scalar.extui v120
  let v122 : BitVec 32 := Scalar.subi v119 v121
  let c2_i32 : BitVec 32 := 2#32
  let c0_i32_112 : BitVec 32 := 0#32
  let v123 : BitVec 1 := Scalar.cmpi .sgt c2_i32 c0_i32_112
  let v124 : BitVec 32 := Scalar.extui v123
  let c0_i32_113 : BitVec 32 := 0#32
  let v125 : BitVec 1 := Scalar.cmpi .slt c2_i32 c0_i32_113
  let v126 : BitVec 32 := Scalar.extui v125
  let v127 : BitVec 32 := Scalar.subi v124 v126
  let v128 : BitVec 1 := Scalar.cmpi .ne v122 v127
  let v129 : BitVec 32 := Scalar.remsi arg2 c2_i32
  let c0_i32_114 : BitVec 32 := 0#32
  let v130 : BitVec 1 := Scalar.cmpi .ne v129 c0_i32_114
  let v131 : BitVec 1 := Scalar.andi v128 v130
  let v117 : BitVec 32 := Scalar.divsi arg2 c2_i32
  let c1_i32_115 : BitVec 32 := 1#32
  let v132 : BitVec 32 := Scalar.subi v117 c1_i32_115
  let v133 : BitVec 32 := Scalar.select v131 v132 v117
  let c0_i32_116 : BitVec 32 := 0#32
  let v134 : BitVec 32 := Scalar.subi v133 c0_i32_116
  let c1_i32_117 : BitVec 32 := 1#32
  let c1_i32_118 : BitVec 32 := 1#32
  let v135 : BitVec 32 := Scalar.subi c1_i32_117 c1_i32_118
  let v136 : BitVec 32 := Scalar.addi v134 v135
  let c1_i32_119 : BitVec 32 := 1#32
  let v137 : BitVec 32 := Scalar.divsi v136 c1_i32_119
  let v138 : BitVec 32 := Scalar.subi v137 c0_i32_122
  let c1_i32_123 : BitVec 32 := 1#32
  let v140 : BitVec 32 := Scalar.divsi v138 c1_i32_123
  let v141 : BitVec 32 := Scalar.muli v140 c1_i32_123
  let v142 : BitVec 32 := Scalar.addi c0_i32_122 v141
  let c1_i32_125 : BitVec 32 := 1#32
  let arg22 : BitVec 32 := Scf.iv v142 c1_i32_125 k0_t2
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  v218
def k0_off32 (i : grid0.Coords) (k0_t2 : Fin (k0_t2_loop i).trips) : Fin 4 → Nat :=
  let c0_350 : Index := 0#32
  let c0_351 : Index := 0#32
  let c0_i32_121 : BitVec 32 := 0#32
  let c0_i32_122 : BitVec 32 := 0#32
  let arg2 : BitVec 32 := BitVec.ofNat 32 (i 2).val
  let c0_i32_110 : BitVec 32 := 0#32
  let v118 : BitVec 1 := Scalar.cmpi .sgt arg2 c0_i32_110
  let v119 : BitVec 32 := Scalar.extui v118
  let c0_i32_111 : BitVec 32 := 0#32
  let v120 : BitVec 1 := Scalar.cmpi .slt arg2 c0_i32_111
  let v121 : BitVec 32 := Scalar.extui v120
  let v122 : BitVec 32 := Scalar.subi v119 v121
  let c2_i32 : BitVec 32 := 2#32
  let c0_i32_112 : BitVec 32 := 0#32
  let v123 : BitVec 1 := Scalar.cmpi .sgt c2_i32 c0_i32_112
  let v124 : BitVec 32 := Scalar.extui v123
  let c0_i32_113 : BitVec 32 := 0#32
  let v125 : BitVec 1 := Scalar.cmpi .slt c2_i32 c0_i32_113
  let v126 : BitVec 32 := Scalar.extui v125
  let v127 : BitVec 32 := Scalar.subi v124 v126
  let v128 : BitVec 1 := Scalar.cmpi .ne v122 v127
  let v129 : BitVec 32 := Scalar.remsi arg2 c2_i32
  let c0_i32_114 : BitVec 32 := 0#32
  let v130 : BitVec 1 := Scalar.cmpi .ne v129 c0_i32_114
  let v131 : BitVec 1 := Scalar.andi v128 v130
  let v117 : BitVec 32 := Scalar.divsi arg2 c2_i32
  let c1_i32_115 : BitVec 32 := 1#32
  let v132 : BitVec 32 := Scalar.subi v117 c1_i32_115
  let v133 : BitVec 32 := Scalar.select v131 v132 v117
  let c0_i32_116 : BitVec 32 := 0#32
  let v134 : BitVec 32 := Scalar.subi v133 c0_i32_116
  let c1_i32_117 : BitVec 32 := 1#32
  let c1_i32_118 : BitVec 32 := 1#32
  let v135 : BitVec 32 := Scalar.subi c1_i32_117 c1_i32_118
  let v136 : BitVec 32 := Scalar.addi v134 v135
  let c1_i32_119 : BitVec 32 := 1#32
  let v137 : BitVec 32 := Scalar.divsi v136 c1_i32_119
  let v138 : BitVec 32 := Scalar.subi v137 c0_i32_122
  let c1_i32_123 : BitVec 32 := 1#32
  let v140 : BitVec 32 := Scalar.divsi v138 c1_i32_123
  let v141 : BitVec 32 := Scalar.muli v140 c1_i32_123
  let v142 : BitVec 32 := Scalar.addi c0_i32_122 v141
  let c1_i32_125 : BitVec 32 := 1#32
  let arg22 : BitVec 32 := Scf.iv v142 c1_i32_125 k0_t2
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let v411 : BitVec 32 := v218
  let v427 : Index := Scalar.indexCast v411
  let c384_352 : Index := 384#32
  ![0, 0, v427.toNat, 384]
def k0_mult31 (i : grid0.Coords) (k0_t2 : Fin (k0_t2_loop i).trips) : BitVec 32 :=
  let c0_i32_121 : BitVec 32 := 0#32
  let c0_i32_122 : BitVec 32 := 0#32
  let arg2 : BitVec 32 := BitVec.ofNat 32 (i 2).val
  let c0_i32_110 : BitVec 32 := 0#32
  let v118 : BitVec 1 := Scalar.cmpi .sgt arg2 c0_i32_110
  let v119 : BitVec 32 := Scalar.extui v118
  let c0_i32_111 : BitVec 32 := 0#32
  let v120 : BitVec 1 := Scalar.cmpi .slt arg2 c0_i32_111
  let v121 : BitVec 32 := Scalar.extui v120
  let v122 : BitVec 32 := Scalar.subi v119 v121
  let c2_i32 : BitVec 32 := 2#32
  let c0_i32_112 : BitVec 32 := 0#32
  let v123 : BitVec 1 := Scalar.cmpi .sgt c2_i32 c0_i32_112
  let v124 : BitVec 32 := Scalar.extui v123
  let c0_i32_113 : BitVec 32 := 0#32
  let v125 : BitVec 1 := Scalar.cmpi .slt c2_i32 c0_i32_113
  let v126 : BitVec 32 := Scalar.extui v125
  let v127 : BitVec 32 := Scalar.subi v124 v126
  let v128 : BitVec 1 := Scalar.cmpi .ne v122 v127
  let v129 : BitVec 32 := Scalar.remsi arg2 c2_i32
  let c0_i32_114 : BitVec 32 := 0#32
  let v130 : BitVec 1 := Scalar.cmpi .ne v129 c0_i32_114
  let v131 : BitVec 1 := Scalar.andi v128 v130
  let v117 : BitVec 32 := Scalar.divsi arg2 c2_i32
  let c1_i32_115 : BitVec 32 := 1#32
  let v132 : BitVec 32 := Scalar.subi v117 c1_i32_115
  let v133 : BitVec 32 := Scalar.select v131 v132 v117
  let c0_i32_116 : BitVec 32 := 0#32
  let v134 : BitVec 32 := Scalar.subi v133 c0_i32_116
  let c1_i32_117 : BitVec 32 := 1#32
  let c1_i32_118 : BitVec 32 := 1#32
  let v135 : BitVec 32 := Scalar.subi c1_i32_117 c1_i32_118
  let v136 : BitVec 32 := Scalar.addi v134 v135
  let c1_i32_119 : BitVec 32 := 1#32
  let v137 : BitVec 32 := Scalar.divsi v136 c1_i32_119
  let v138 : BitVec 32 := Scalar.subi v137 c0_i32_122
  let c1_i32_123 : BitVec 32 := 1#32
  let v140 : BitVec 32 := Scalar.divsi v138 c1_i32_123
  let v141 : BitVec 32 := Scalar.muli v140 c1_i32_123
  let v142 : BitVec 32 := Scalar.addi c0_i32_122 v141
  let c1_i32_125 : BitVec 32 := 1#32
  let arg22 : BitVec 32 := Scf.iv v142 c1_i32_125 k0_t2
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_366 : BitVec 32 := 512#32
  let v451 : BitVec 32 := Scalar.addi v218 c512_i32_366
  let c512_i32_367 : BitVec 32 := 512#32
  let v452 : BitVec 32 := Scalar.addi v451 c512_i32_367
  v452
def k0_off33 (i : grid0.Coords) (k0_t2 : Fin (k0_t2_loop i).trips) : Fin 4 → Nat :=
  let c0_368 : Index := 0#32
  let c0_369 : Index := 0#32
  let c0_i32_121 : BitVec 32 := 0#32
  let c0_i32_122 : BitVec 32 := 0#32
  let arg2 : BitVec 32 := BitVec.ofNat 32 (i 2).val
  let c0_i32_110 : BitVec 32 := 0#32
  let v118 : BitVec 1 := Scalar.cmpi .sgt arg2 c0_i32_110
  let v119 : BitVec 32 := Scalar.extui v118
  let c0_i32_111 : BitVec 32 := 0#32
  let v120 : BitVec 1 := Scalar.cmpi .slt arg2 c0_i32_111
  let v121 : BitVec 32 := Scalar.extui v120
  let v122 : BitVec 32 := Scalar.subi v119 v121
  let c2_i32 : BitVec 32 := 2#32
  let c0_i32_112 : BitVec 32 := 0#32
  let v123 : BitVec 1 := Scalar.cmpi .sgt c2_i32 c0_i32_112
  let v124 : BitVec 32 := Scalar.extui v123
  let c0_i32_113 : BitVec 32 := 0#32
  let v125 : BitVec 1 := Scalar.cmpi .slt c2_i32 c0_i32_113
  let v126 : BitVec 32 := Scalar.extui v125
  let v127 : BitVec 32 := Scalar.subi v124 v126
  let v128 : BitVec 1 := Scalar.cmpi .ne v122 v127
  let v129 : BitVec 32 := Scalar.remsi arg2 c2_i32
  let c0_i32_114 : BitVec 32 := 0#32
  let v130 : BitVec 1 := Scalar.cmpi .ne v129 c0_i32_114
  let v131 : BitVec 1 := Scalar.andi v128 v130
  let v117 : BitVec 32 := Scalar.divsi arg2 c2_i32
  let c1_i32_115 : BitVec 32 := 1#32
  let v132 : BitVec 32 := Scalar.subi v117 c1_i32_115
  let v133 : BitVec 32 := Scalar.select v131 v132 v117
  let c0_i32_116 : BitVec 32 := 0#32
  let v134 : BitVec 32 := Scalar.subi v133 c0_i32_116
  let c1_i32_117 : BitVec 32 := 1#32
  let c1_i32_118 : BitVec 32 := 1#32
  let v135 : BitVec 32 := Scalar.subi c1_i32_117 c1_i32_118
  let v136 : BitVec 32 := Scalar.addi v134 v135
  let c1_i32_119 : BitVec 32 := 1#32
  let v137 : BitVec 32 := Scalar.divsi v136 c1_i32_119
  let v138 : BitVec 32 := Scalar.subi v137 c0_i32_122
  let c1_i32_123 : BitVec 32 := 1#32
  let v140 : BitVec 32 := Scalar.divsi v138 c1_i32_123
  let v141 : BitVec 32 := Scalar.muli v140 c1_i32_123
  let v142 : BitVec 32 := Scalar.addi c0_i32_122 v141
  let c1_i32_125 : BitVec 32 := 1#32
  let arg22 : BitVec 32 := Scf.iv v142 c1_i32_125 k0_t2
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_366 : BitVec 32 := 512#32
  let v451 : BitVec 32 := Scalar.addi v218 c512_i32_366
  let c512_i32_367 : BitVec 32 := 512#32
  let v452 : BitVec 32 := Scalar.addi v451 c512_i32_367
  let v453 : BitVec 32 := v452
  let v454 : Index := Scalar.indexCast v453
  let c0_370 : Index := 0#32
  ![0, 0, v454.toNat, 0]
def k0_off34 (i : grid0.Coords) (k0_t2 : Fin (k0_t2_loop i).trips) : Fin 4 → Nat :=
  let c0_371 : Index := 0#32
  let c0_372 : Index := 0#32
  let c0_i32_121 : BitVec 32 := 0#32
  let c0_i32_122 : BitVec 32 := 0#32
  let arg2 : BitVec 32 := BitVec.ofNat 32 (i 2).val
  let c0_i32_110 : BitVec 32 := 0#32
  let v118 : BitVec 1 := Scalar.cmpi .sgt arg2 c0_i32_110
  let v119 : BitVec 32 := Scalar.extui v118
  let c0_i32_111 : BitVec 32 := 0#32
  let v120 : BitVec 1 := Scalar.cmpi .slt arg2 c0_i32_111
  let v121 : BitVec 32 := Scalar.extui v120
  let v122 : BitVec 32 := Scalar.subi v119 v121
  let c2_i32 : BitVec 32 := 2#32
  let c0_i32_112 : BitVec 32 := 0#32
  let v123 : BitVec 1 := Scalar.cmpi .sgt c2_i32 c0_i32_112
  let v124 : BitVec 32 := Scalar.extui v123
  let c0_i32_113 : BitVec 32 := 0#32
  let v125 : BitVec 1 := Scalar.cmpi .slt c2_i32 c0_i32_113
  let v126 : BitVec 32 := Scalar.extui v125
  let v127 : BitVec 32 := Scalar.subi v124 v126
  let v128 : BitVec 1 := Scalar.cmpi .ne v122 v127
  let v129 : BitVec 32 := Scalar.remsi arg2 c2_i32
  let c0_i32_114 : BitVec 32 := 0#32
  let v130 : BitVec 1 := Scalar.cmpi .ne v129 c0_i32_114
  let v131 : BitVec 1 := Scalar.andi v128 v130
  let v117 : BitVec 32 := Scalar.divsi arg2 c2_i32
  let c1_i32_115 : BitVec 32 := 1#32
  let v132 : BitVec 32 := Scalar.subi v117 c1_i32_115
  let v133 : BitVec 32 := Scalar.select v131 v132 v117
  let c0_i32_116 : BitVec 32 := 0#32
  let v134 : BitVec 32 := Scalar.subi v133 c0_i32_116
  let c1_i32_117 : BitVec 32 := 1#32
  let c1_i32_118 : BitVec 32 := 1#32
  let v135 : BitVec 32 := Scalar.subi c1_i32_117 c1_i32_118
  let v136 : BitVec 32 := Scalar.addi v134 v135
  let c1_i32_119 : BitVec 32 := 1#32
  let v137 : BitVec 32 := Scalar.divsi v136 c1_i32_119
  let v138 : BitVec 32 := Scalar.subi v137 c0_i32_122
  let c1_i32_123 : BitVec 32 := 1#32
  let v140 : BitVec 32 := Scalar.divsi v138 c1_i32_123
  let v141 : BitVec 32 := Scalar.muli v140 c1_i32_123
  let v142 : BitVec 32 := Scalar.addi c0_i32_122 v141
  let c1_i32_125 : BitVec 32 := 1#32
  let arg22 : BitVec 32 := Scf.iv v142 c1_i32_125 k0_t2
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_366 : BitVec 32 := 512#32
  let v451 : BitVec 32 := Scalar.addi v218 c512_i32_366
  let c512_i32_367 : BitVec 32 := 512#32
  let v452 : BitVec 32 := Scalar.addi v451 c512_i32_367
  let v453 : BitVec 32 := v452
  let v457 : Index := Scalar.indexCast v453
  let c0_373 : Index := 0#32
  ![0, 0, v457.toNat, 0]
def k0_mult32 (i : grid0.Coords) (k0_t2 : Fin (k0_t2_loop i).trips) : BitVec 32 :=
  let c0_i32_121 : BitVec 32 := 0#32
  let c0_i32_122 : BitVec 32 := 0#32
  let arg2 : BitVec 32 := BitVec.ofNat 32 (i 2).val
  let c0_i32_110 : BitVec 32 := 0#32
  let v118 : BitVec 1 := Scalar.cmpi .sgt arg2 c0_i32_110
  let v119 : BitVec 32 := Scalar.extui v118
  let c0_i32_111 : BitVec 32 := 0#32
  let v120 : BitVec 1 := Scalar.cmpi .slt arg2 c0_i32_111
  let v121 : BitVec 32 := Scalar.extui v120
  let v122 : BitVec 32 := Scalar.subi v119 v121
  let c2_i32 : BitVec 32 := 2#32
  let c0_i32_112 : BitVec 32 := 0#32
  let v123 : BitVec 1 := Scalar.cmpi .sgt c2_i32 c0_i32_112
  let v124 : BitVec 32 := Scalar.extui v123
  let c0_i32_113 : BitVec 32 := 0#32
  let v125 : BitVec 1 := Scalar.cmpi .slt c2_i32 c0_i32_113
  let v126 : BitVec 32 := Scalar.extui v125
  let v127 : BitVec 32 := Scalar.subi v124 v126
  let v128 : BitVec 1 := Scalar.cmpi .ne v122 v127
  let v129 : BitVec 32 := Scalar.remsi arg2 c2_i32
  let c0_i32_114 : BitVec 32 := 0#32
  let v130 : BitVec 1 := Scalar.cmpi .ne v129 c0_i32_114
  let v131 : BitVec 1 := Scalar.andi v128 v130
  let v117 : BitVec 32 := Scalar.divsi arg2 c2_i32
  let c1_i32_115 : BitVec 32 := 1#32
  let v132 : BitVec 32 := Scalar.subi v117 c1_i32_115
  let v133 : BitVec 32 := Scalar.select v131 v132 v117
  let c0_i32_116 : BitVec 32 := 0#32
  let v134 : BitVec 32 := Scalar.subi v133 c0_i32_116
  let c1_i32_117 : BitVec 32 := 1#32
  let c1_i32_118 : BitVec 32 := 1#32
  let v135 : BitVec 32 := Scalar.subi c1_i32_117 c1_i32_118
  let v136 : BitVec 32 := Scalar.addi v134 v135
  let c1_i32_119 : BitVec 32 := 1#32
  let v137 : BitVec 32 := Scalar.divsi v136 c1_i32_119
  let v138 : BitVec 32 := Scalar.subi v137 c0_i32_122
  let c1_i32_123 : BitVec 32 := 1#32
  let v140 : BitVec 32 := Scalar.divsi v138 c1_i32_123
  let v141 : BitVec 32 := Scalar.muli v140 c1_i32_123
  let v142 : BitVec 32 := Scalar.addi c0_i32_122 v141
  let c1_i32_125 : BitVec 32 := 1#32
  let arg22 : BitVec 32 := Scf.iv v142 c1_i32_125 k0_t2
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_366 : BitVec 32 := 512#32
  let v451 : BitVec 32 := Scalar.addi v218 c512_i32_366
  v451
def k0_mult33 (i : grid0.Coords) (k0_t2 : Fin (k0_t2_loop i).trips) : BitVec 32 :=
  let c0_i32_121 : BitVec 32 := 0#32
  let c0_i32_122 : BitVec 32 := 0#32
  let arg2 : BitVec 32 := BitVec.ofNat 32 (i 2).val
  let c0_i32_110 : BitVec 32 := 0#32
  let v118 : BitVec 1 := Scalar.cmpi .sgt arg2 c0_i32_110
  let v119 : BitVec 32 := Scalar.extui v118
  let c0_i32_111 : BitVec 32 := 0#32
  let v120 : BitVec 1 := Scalar.cmpi .slt arg2 c0_i32_111
  let v121 : BitVec 32 := Scalar.extui v120
  let v122 : BitVec 32 := Scalar.subi v119 v121
  let c2_i32 : BitVec 32 := 2#32
  let c0_i32_112 : BitVec 32 := 0#32
  let v123 : BitVec 1 := Scalar.cmpi .sgt c2_i32 c0_i32_112
  let v124 : BitVec 32 := Scalar.extui v123
  let c0_i32_113 : BitVec 32 := 0#32
  let v125 : BitVec 1 := Scalar.cmpi .slt c2_i32 c0_i32_113
  let v126 : BitVec 32 := Scalar.extui v125
  let v127 : BitVec 32 := Scalar.subi v124 v126
  let v128 : BitVec 1 := Scalar.cmpi .ne v122 v127
  let v129 : BitVec 32 := Scalar.remsi arg2 c2_i32
  let c0_i32_114 : BitVec 32 := 0#32
  let v130 : BitVec 1 := Scalar.cmpi .ne v129 c0_i32_114
  let v131 : BitVec 1 := Scalar.andi v128 v130
  let v117 : BitVec 32 := Scalar.divsi arg2 c2_i32
  let c1_i32_115 : BitVec 32 := 1#32
  let v132 : BitVec 32 := Scalar.subi v117 c1_i32_115
  let v133 : BitVec 32 := Scalar.select v131 v132 v117
  let c0_i32_116 : BitVec 32 := 0#32
  let v134 : BitVec 32 := Scalar.subi v133 c0_i32_116
  let c1_i32_117 : BitVec 32 := 1#32
  let c1_i32_118 : BitVec 32 := 1#32
  let v135 : BitVec 32 := Scalar.subi c1_i32_117 c1_i32_118
  let v136 : BitVec 32 := Scalar.addi v134 v135
  let c1_i32_119 : BitVec 32 := 1#32
  let v137 : BitVec 32 := Scalar.divsi v136 c1_i32_119
  let v138 : BitVec 32 := Scalar.subi v137 c0_i32_122
  let c1_i32_123 : BitVec 32 := 1#32
  let v140 : BitVec 32 := Scalar.divsi v138 c1_i32_123
  let v141 : BitVec 32 := Scalar.muli v140 c1_i32_123
  let v142 : BitVec 32 := Scalar.addi c0_i32_122 v141
  let c1_i32_125 : BitVec 32 := 1#32
  let arg22 : BitVec 32 := Scf.iv v142 c1_i32_125 k0_t2
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_366 : BitVec 32 := 512#32
  let v451 : BitVec 32 := Scalar.addi v218 c512_i32_366
  let c512_i32_414 : BitVec 32 := 512#32
  let v510 : BitVec 32 := Scalar.addi v451 c512_i32_414
  v510
def k0_off35 (i : grid0.Coords) (k0_t2 : Fin (k0_t2_loop i).trips) : Fin 4 → Nat :=
  let c0_415 : Index := 0#32
  let c0_416 : Index := 0#32
  let c0_i32_121 : BitVec 32 := 0#32
  let c0_i32_122 : BitVec 32 := 0#32
  let arg2 : BitVec 32 := BitVec.ofNat 32 (i 2).val
  let c0_i32_110 : BitVec 32 := 0#32
  let v118 : BitVec 1 := Scalar.cmpi .sgt arg2 c0_i32_110
  let v119 : BitVec 32 := Scalar.extui v118
  let c0_i32_111 : BitVec 32 := 0#32
  let v120 : BitVec 1 := Scalar.cmpi .slt arg2 c0_i32_111
  let v121 : BitVec 32 := Scalar.extui v120
  let v122 : BitVec 32 := Scalar.subi v119 v121
  let c2_i32 : BitVec 32 := 2#32
  let c0_i32_112 : BitVec 32 := 0#32
  let v123 : BitVec 1 := Scalar.cmpi .sgt c2_i32 c0_i32_112
  let v124 : BitVec 32 := Scalar.extui v123
  let c0_i32_113 : BitVec 32 := 0#32
  let v125 : BitVec 1 := Scalar.cmpi .slt c2_i32 c0_i32_113
  let v126 : BitVec 32 := Scalar.extui v125
  let v127 : BitVec 32 := Scalar.subi v124 v126
  let v128 : BitVec 1 := Scalar.cmpi .ne v122 v127
  let v129 : BitVec 32 := Scalar.remsi arg2 c2_i32
  let c0_i32_114 : BitVec 32 := 0#32
  let v130 : BitVec 1 := Scalar.cmpi .ne v129 c0_i32_114
  let v131 : BitVec 1 := Scalar.andi v128 v130
  let v117 : BitVec 32 := Scalar.divsi arg2 c2_i32
  let c1_i32_115 : BitVec 32 := 1#32
  let v132 : BitVec 32 := Scalar.subi v117 c1_i32_115
  let v133 : BitVec 32 := Scalar.select v131 v132 v117
  let c0_i32_116 : BitVec 32 := 0#32
  let v134 : BitVec 32 := Scalar.subi v133 c0_i32_116
  let c1_i32_117 : BitVec 32 := 1#32
  let c1_i32_118 : BitVec 32 := 1#32
  let v135 : BitVec 32 := Scalar.subi c1_i32_117 c1_i32_118
  let v136 : BitVec 32 := Scalar.addi v134 v135
  let c1_i32_119 : BitVec 32 := 1#32
  let v137 : BitVec 32 := Scalar.divsi v136 c1_i32_119
  let v138 : BitVec 32 := Scalar.subi v137 c0_i32_122
  let c1_i32_123 : BitVec 32 := 1#32
  let v140 : BitVec 32 := Scalar.divsi v138 c1_i32_123
  let v141 : BitVec 32 := Scalar.muli v140 c1_i32_123
  let v142 : BitVec 32 := Scalar.addi c0_i32_122 v141
  let c1_i32_125 : BitVec 32 := 1#32
  let arg22 : BitVec 32 := Scf.iv v142 c1_i32_125 k0_t2
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_366 : BitVec 32 := 512#32
  let v451 : BitVec 32 := Scalar.addi v218 c512_i32_366
  let c512_i32_414 : BitVec 32 := 512#32
  let v510 : BitVec 32 := Scalar.addi v451 c512_i32_414
  let v511 : BitVec 32 := v510
  let v512 : Index := Scalar.indexCast v511
  let c128_417 : Index := 128#32
  ![0, 0, v512.toNat, 128]
def k0_off36 (i : grid0.Coords) (k0_t2 : Fin (k0_t2_loop i).trips) : Fin 4 → Nat :=
  let c0_418 : Index := 0#32
  let c1_419 : Index := 1#32
  let c0_i32_121 : BitVec 32 := 0#32
  let c0_i32_122 : BitVec 32 := 0#32
  let arg2 : BitVec 32 := BitVec.ofNat 32 (i 2).val
  let c0_i32_110 : BitVec 32 := 0#32
  let v118 : BitVec 1 := Scalar.cmpi .sgt arg2 c0_i32_110
  let v119 : BitVec 32 := Scalar.extui v118
  let c0_i32_111 : BitVec 32 := 0#32
  let v120 : BitVec 1 := Scalar.cmpi .slt arg2 c0_i32_111
  let v121 : BitVec 32 := Scalar.extui v120
  let v122 : BitVec 32 := Scalar.subi v119 v121
  let c2_i32 : BitVec 32 := 2#32
  let c0_i32_112 : BitVec 32 := 0#32
  let v123 : BitVec 1 := Scalar.cmpi .sgt c2_i32 c0_i32_112
  let v124 : BitVec 32 := Scalar.extui v123
  let c0_i32_113 : BitVec 32 := 0#32
  let v125 : BitVec 1 := Scalar.cmpi .slt c2_i32 c0_i32_113
  let v126 : BitVec 32 := Scalar.extui v125
  let v127 : BitVec 32 := Scalar.subi v124 v126
  let v128 : BitVec 1 := Scalar.cmpi .ne v122 v127
  let v129 : BitVec 32 := Scalar.remsi arg2 c2_i32
  let c0_i32_114 : BitVec 32 := 0#32
  let v130 : BitVec 1 := Scalar.cmpi .ne v129 c0_i32_114
  let v131 : BitVec 1 := Scalar.andi v128 v130
  let v117 : BitVec 32 := Scalar.divsi arg2 c2_i32
  let c1_i32_115 : BitVec 32 := 1#32
  let v132 : BitVec 32 := Scalar.subi v117 c1_i32_115
  let v133 : BitVec 32 := Scalar.select v131 v132 v117
  let c0_i32_116 : BitVec 32 := 0#32
  let v134 : BitVec 32 := Scalar.subi v133 c0_i32_116
  let c1_i32_117 : BitVec 32 := 1#32
  let c1_i32_118 : BitVec 32 := 1#32
  let v135 : BitVec 32 := Scalar.subi c1_i32_117 c1_i32_118
  let v136 : BitVec 32 := Scalar.addi v134 v135
  let c1_i32_119 : BitVec 32 := 1#32
  let v137 : BitVec 32 := Scalar.divsi v136 c1_i32_119
  let v138 : BitVec 32 := Scalar.subi v137 c0_i32_122
  let c1_i32_123 : BitVec 32 := 1#32
  let v140 : BitVec 32 := Scalar.divsi v138 c1_i32_123
  let v141 : BitVec 32 := Scalar.muli v140 c1_i32_123
  let v142 : BitVec 32 := Scalar.addi c0_i32_122 v141
  let c1_i32_125 : BitVec 32 := 1#32
  let arg22 : BitVec 32 := Scf.iv v142 c1_i32_125 k0_t2
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_366 : BitVec 32 := 512#32
  let v451 : BitVec 32 := Scalar.addi v218 c512_i32_366
  let c512_i32_414 : BitVec 32 := 512#32
  let v510 : BitVec 32 := Scalar.addi v451 c512_i32_414
  let v511 : BitVec 32 := v510
  let v515 : Index := Scalar.indexCast v511
  let c0_420 : Index := 0#32
  ![0, 1, v515.toNat, 0]
def k0_mult34 (i : grid0.Coords) (k0_t2 : Fin (k0_t2_loop i).trips) : BitVec 32 :=
  let c0_i32_121 : BitVec 32 := 0#32
  let c0_i32_122 : BitVec 32 := 0#32
  let arg2 : BitVec 32 := BitVec.ofNat 32 (i 2).val
  let c0_i32_110 : BitVec 32 := 0#32
  let v118 : BitVec 1 := Scalar.cmpi .sgt arg2 c0_i32_110
  let v119 : BitVec 32 := Scalar.extui v118
  let c0_i32_111 : BitVec 32 := 0#32
  let v120 : BitVec 1 := Scalar.cmpi .slt arg2 c0_i32_111
  let v121 : BitVec 32 := Scalar.extui v120
  let v122 : BitVec 32 := Scalar.subi v119 v121
  let c2_i32 : BitVec 32 := 2#32
  let c0_i32_112 : BitVec 32 := 0#32
  let v123 : BitVec 1 := Scalar.cmpi .sgt c2_i32 c0_i32_112
  let v124 : BitVec 32 := Scalar.extui v123
  let c0_i32_113 : BitVec 32 := 0#32
  let v125 : BitVec 1 := Scalar.cmpi .slt c2_i32 c0_i32_113
  let v126 : BitVec 32 := Scalar.extui v125
  let v127 : BitVec 32 := Scalar.subi v124 v126
  let v128 : BitVec 1 := Scalar.cmpi .ne v122 v127
  let v129 : BitVec 32 := Scalar.remsi arg2 c2_i32
  let c0_i32_114 : BitVec 32 := 0#32
  let v130 : BitVec 1 := Scalar.cmpi .ne v129 c0_i32_114
  let v131 : BitVec 1 := Scalar.andi v128 v130
  let v117 : BitVec 32 := Scalar.divsi arg2 c2_i32
  let c1_i32_115 : BitVec 32 := 1#32
  let v132 : BitVec 32 := Scalar.subi v117 c1_i32_115
  let v133 : BitVec 32 := Scalar.select v131 v132 v117
  let c0_i32_116 : BitVec 32 := 0#32
  let v134 : BitVec 32 := Scalar.subi v133 c0_i32_116
  let c1_i32_117 : BitVec 32 := 1#32
  let c1_i32_118 : BitVec 32 := 1#32
  let v135 : BitVec 32 := Scalar.subi c1_i32_117 c1_i32_118
  let v136 : BitVec 32 := Scalar.addi v134 v135
  let c1_i32_119 : BitVec 32 := 1#32
  let v137 : BitVec 32 := Scalar.divsi v136 c1_i32_119
  let v138 : BitVec 32 := Scalar.subi v137 c0_i32_122
  let c1_i32_123 : BitVec 32 := 1#32
  let v140 : BitVec 32 := Scalar.divsi v138 c1_i32_123
  let v141 : BitVec 32 := Scalar.muli v140 c1_i32_123
  let v142 : BitVec 32 := Scalar.addi c0_i32_122 v141
  let c1_i32_125 : BitVec 32 := 1#32
  let arg22 : BitVec 32 := Scf.iv v142 c1_i32_125 k0_t2
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_366 : BitVec 32 := 512#32
  let v451 : BitVec 32 := Scalar.addi v218 c512_i32_366
  v451
def k0_mult35 (i : grid0.Coords) (k0_t2 : Fin (k0_t2_loop i).trips) : BitVec 32 :=
  let c0_i32_121 : BitVec 32 := 0#32
  let c0_i32_122 : BitVec 32 := 0#32
  let arg2 : BitVec 32 := BitVec.ofNat 32 (i 2).val
  let c0_i32_110 : BitVec 32 := 0#32
  let v118 : BitVec 1 := Scalar.cmpi .sgt arg2 c0_i32_110
  let v119 : BitVec 32 := Scalar.extui v118
  let c0_i32_111 : BitVec 32 := 0#32
  let v120 : BitVec 1 := Scalar.cmpi .slt arg2 c0_i32_111
  let v121 : BitVec 32 := Scalar.extui v120
  let v122 : BitVec 32 := Scalar.subi v119 v121
  let c2_i32 : BitVec 32 := 2#32
  let c0_i32_112 : BitVec 32 := 0#32
  let v123 : BitVec 1 := Scalar.cmpi .sgt c2_i32 c0_i32_112
  let v124 : BitVec 32 := Scalar.extui v123
  let c0_i32_113 : BitVec 32 := 0#32
  let v125 : BitVec 1 := Scalar.cmpi .slt c2_i32 c0_i32_113
  let v126 : BitVec 32 := Scalar.extui v125
  let v127 : BitVec 32 := Scalar.subi v124 v126
  let v128 : BitVec 1 := Scalar.cmpi .ne v122 v127
  let v129 : BitVec 32 := Scalar.remsi arg2 c2_i32
  let c0_i32_114 : BitVec 32 := 0#32
  let v130 : BitVec 1 := Scalar.cmpi .ne v129 c0_i32_114
  let v131 : BitVec 1 := Scalar.andi v128 v130
  let v117 : BitVec 32 := Scalar.divsi arg2 c2_i32
  let c1_i32_115 : BitVec 32 := 1#32
  let v132 : BitVec 32 := Scalar.subi v117 c1_i32_115
  let v133 : BitVec 32 := Scalar.select v131 v132 v117
  let c0_i32_116 : BitVec 32 := 0#32
  let v134 : BitVec 32 := Scalar.subi v133 c0_i32_116
  let c1_i32_117 : BitVec 32 := 1#32
  let c1_i32_118 : BitVec 32 := 1#32
  let v135 : BitVec 32 := Scalar.subi c1_i32_117 c1_i32_118
  let v136 : BitVec 32 := Scalar.addi v134 v135
  let c1_i32_119 : BitVec 32 := 1#32
  let v137 : BitVec 32 := Scalar.divsi v136 c1_i32_119
  let v138 : BitVec 32 := Scalar.subi v137 c0_i32_122
  let c1_i32_123 : BitVec 32 := 1#32
  let v140 : BitVec 32 := Scalar.divsi v138 c1_i32_123
  let v141 : BitVec 32 := Scalar.muli v140 c1_i32_123
  let v142 : BitVec 32 := Scalar.addi c0_i32_122 v141
  let c1_i32_125 : BitVec 32 := 1#32
  let arg22 : BitVec 32 := Scf.iv v142 c1_i32_125 k0_t2
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_366 : BitVec 32 := 512#32
  let v451 : BitVec 32 := Scalar.addi v218 c512_i32_366
  let c512_i32_461 : BitVec 32 := 512#32
  let v568 : BitVec 32 := Scalar.addi v451 c512_i32_461
  v568
def k0_off37 (i : grid0.Coords) (k0_t2 : Fin (k0_t2_loop i).trips) : Fin 4 → Nat :=
  let c0_462 : Index := 0#32
  let c0_463 : Index := 0#32
  let c0_i32_121 : BitVec 32 := 0#32
  let c0_i32_122 : BitVec 32 := 0#32
  let arg2 : BitVec 32 := BitVec.ofNat 32 (i 2).val
  let c0_i32_110 : BitVec 32 := 0#32
  let v118 : BitVec 1 := Scalar.cmpi .sgt arg2 c0_i32_110
  let v119 : BitVec 32 := Scalar.extui v118
  let c0_i32_111 : BitVec 32 := 0#32
  let v120 : BitVec 1 := Scalar.cmpi .slt arg2 c0_i32_111
  let v121 : BitVec 32 := Scalar.extui v120
  let v122 : BitVec 32 := Scalar.subi v119 v121
  let c2_i32 : BitVec 32 := 2#32
  let c0_i32_112 : BitVec 32 := 0#32
  let v123 : BitVec 1 := Scalar.cmpi .sgt c2_i32 c0_i32_112
  let v124 : BitVec 32 := Scalar.extui v123
  let c0_i32_113 : BitVec 32 := 0#32
  let v125 : BitVec 1 := Scalar.cmpi .slt c2_i32 c0_i32_113
  let v126 : BitVec 32 := Scalar.extui v125
  let v127 : BitVec 32 := Scalar.subi v124 v126
  let v128 : BitVec 1 := Scalar.cmpi .ne v122 v127
  let v129 : BitVec 32 := Scalar.remsi arg2 c2_i32
  let c0_i32_114 : BitVec 32 := 0#32
  let v130 : BitVec 1 := Scalar.cmpi .ne v129 c0_i32_114
  let v131 : BitVec 1 := Scalar.andi v128 v130
  let v117 : BitVec 32 := Scalar.divsi arg2 c2_i32
  let c1_i32_115 : BitVec 32 := 1#32
  let v132 : BitVec 32 := Scalar.subi v117 c1_i32_115
  let v133 : BitVec 32 := Scalar.select v131 v132 v117
  let c0_i32_116 : BitVec 32 := 0#32
  let v134 : BitVec 32 := Scalar.subi v133 c0_i32_116
  let c1_i32_117 : BitVec 32 := 1#32
  let c1_i32_118 : BitVec 32 := 1#32
  let v135 : BitVec 32 := Scalar.subi c1_i32_117 c1_i32_118
  let v136 : BitVec 32 := Scalar.addi v134 v135
  let c1_i32_119 : BitVec 32 := 1#32
  let v137 : BitVec 32 := Scalar.divsi v136 c1_i32_119
  let v138 : BitVec 32 := Scalar.subi v137 c0_i32_122
  let c1_i32_123 : BitVec 32 := 1#32
  let v140 : BitVec 32 := Scalar.divsi v138 c1_i32_123
  let v141 : BitVec 32 := Scalar.muli v140 c1_i32_123
  let v142 : BitVec 32 := Scalar.addi c0_i32_122 v141
  let c1_i32_125 : BitVec 32 := 1#32
  let arg22 : BitVec 32 := Scf.iv v142 c1_i32_125 k0_t2
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_366 : BitVec 32 := 512#32
  let v451 : BitVec 32 := Scalar.addi v218 c512_i32_366
  let c512_i32_461 : BitVec 32 := 512#32
  let v568 : BitVec 32 := Scalar.addi v451 c512_i32_461
  let v569 : BitVec 32 := v568
  let v570 : Index := Scalar.indexCast v569
  let c256_464 : Index := 256#32
  ![0, 0, v570.toNat, 256]
def k0_off38 (i : grid0.Coords) (k0_t2 : Fin (k0_t2_loop i).trips) : Fin 4 → Nat :=
  let c0_465 : Index := 0#32
  let c2_466 : Index := 2#32
  let c0_i32_121 : BitVec 32 := 0#32
  let c0_i32_122 : BitVec 32 := 0#32
  let arg2 : BitVec 32 := BitVec.ofNat 32 (i 2).val
  let c0_i32_110 : BitVec 32 := 0#32
  let v118 : BitVec 1 := Scalar.cmpi .sgt arg2 c0_i32_110
  let v119 : BitVec 32 := Scalar.extui v118
  let c0_i32_111 : BitVec 32 := 0#32
  let v120 : BitVec 1 := Scalar.cmpi .slt arg2 c0_i32_111
  let v121 : BitVec 32 := Scalar.extui v120
  let v122 : BitVec 32 := Scalar.subi v119 v121
  let c2_i32 : BitVec 32 := 2#32
  let c0_i32_112 : BitVec 32 := 0#32
  let v123 : BitVec 1 := Scalar.cmpi .sgt c2_i32 c0_i32_112
  let v124 : BitVec 32 := Scalar.extui v123
  let c0_i32_113 : BitVec 32 := 0#32
  let v125 : BitVec 1 := Scalar.cmpi .slt c2_i32 c0_i32_113
  let v126 : BitVec 32 := Scalar.extui v125
  let v127 : BitVec 32 := Scalar.subi v124 v126
  let v128 : BitVec 1 := Scalar.cmpi .ne v122 v127
  let v129 : BitVec 32 := Scalar.remsi arg2 c2_i32
  let c0_i32_114 : BitVec 32 := 0#32
  let v130 : BitVec 1 := Scalar.cmpi .ne v129 c0_i32_114
  let v131 : BitVec 1 := Scalar.andi v128 v130
  let v117 : BitVec 32 := Scalar.divsi arg2 c2_i32
  let c1_i32_115 : BitVec 32 := 1#32
  let v132 : BitVec 32 := Scalar.subi v117 c1_i32_115
  let v133 : BitVec 32 := Scalar.select v131 v132 v117
  let c0_i32_116 : BitVec 32 := 0#32
  let v134 : BitVec 32 := Scalar.subi v133 c0_i32_116
  let c1_i32_117 : BitVec 32 := 1#32
  let c1_i32_118 : BitVec 32 := 1#32
  let v135 : BitVec 32 := Scalar.subi c1_i32_117 c1_i32_118
  let v136 : BitVec 32 := Scalar.addi v134 v135
  let c1_i32_119 : BitVec 32 := 1#32
  let v137 : BitVec 32 := Scalar.divsi v136 c1_i32_119
  let v138 : BitVec 32 := Scalar.subi v137 c0_i32_122
  let c1_i32_123 : BitVec 32 := 1#32
  let v140 : BitVec 32 := Scalar.divsi v138 c1_i32_123
  let v141 : BitVec 32 := Scalar.muli v140 c1_i32_123
  let v142 : BitVec 32 := Scalar.addi c0_i32_122 v141
  let c1_i32_125 : BitVec 32 := 1#32
  let arg22 : BitVec 32 := Scf.iv v142 c1_i32_125 k0_t2
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_366 : BitVec 32 := 512#32
  let v451 : BitVec 32 := Scalar.addi v218 c512_i32_366
  let c512_i32_461 : BitVec 32 := 512#32
  let v568 : BitVec 32 := Scalar.addi v451 c512_i32_461
  let v569 : BitVec 32 := v568
  let v573 : Index := Scalar.indexCast v569
  let c0_467 : Index := 0#32
  ![0, 2, v573.toNat, 0]
def k0_mult36 (i : grid0.Coords) (k0_t2 : Fin (k0_t2_loop i).trips) : BitVec 32 :=
  let c0_i32_121 : BitVec 32 := 0#32
  let c0_i32_122 : BitVec 32 := 0#32
  let arg2 : BitVec 32 := BitVec.ofNat 32 (i 2).val
  let c0_i32_110 : BitVec 32 := 0#32
  let v118 : BitVec 1 := Scalar.cmpi .sgt arg2 c0_i32_110
  let v119 : BitVec 32 := Scalar.extui v118
  let c0_i32_111 : BitVec 32 := 0#32
  let v120 : BitVec 1 := Scalar.cmpi .slt arg2 c0_i32_111
  let v121 : BitVec 32 := Scalar.extui v120
  let v122 : BitVec 32 := Scalar.subi v119 v121
  let c2_i32 : BitVec 32 := 2#32
  let c0_i32_112 : BitVec 32 := 0#32
  let v123 : BitVec 1 := Scalar.cmpi .sgt c2_i32 c0_i32_112
  let v124 : BitVec 32 := Scalar.extui v123
  let c0_i32_113 : BitVec 32 := 0#32
  let v125 : BitVec 1 := Scalar.cmpi .slt c2_i32 c0_i32_113
  let v126 : BitVec 32 := Scalar.extui v125
  let v127 : BitVec 32 := Scalar.subi v124 v126
  let v128 : BitVec 1 := Scalar.cmpi .ne v122 v127
  let v129 : BitVec 32 := Scalar.remsi arg2 c2_i32
  let c0_i32_114 : BitVec 32 := 0#32
  let v130 : BitVec 1 := Scalar.cmpi .ne v129 c0_i32_114
  let v131 : BitVec 1 := Scalar.andi v128 v130
  let v117 : BitVec 32 := Scalar.divsi arg2 c2_i32
  let c1_i32_115 : BitVec 32 := 1#32
  let v132 : BitVec 32 := Scalar.subi v117 c1_i32_115
  let v133 : BitVec 32 := Scalar.select v131 v132 v117
  let c0_i32_116 : BitVec 32 := 0#32
  let v134 : BitVec 32 := Scalar.subi v133 c0_i32_116
  let c1_i32_117 : BitVec 32 := 1#32
  let c1_i32_118 : BitVec 32 := 1#32
  let v135 : BitVec 32 := Scalar.subi c1_i32_117 c1_i32_118
  let v136 : BitVec 32 := Scalar.addi v134 v135
  let c1_i32_119 : BitVec 32 := 1#32
  let v137 : BitVec 32 := Scalar.divsi v136 c1_i32_119
  let v138 : BitVec 32 := Scalar.subi v137 c0_i32_122
  let c1_i32_123 : BitVec 32 := 1#32
  let v140 : BitVec 32 := Scalar.divsi v138 c1_i32_123
  let v141 : BitVec 32 := Scalar.muli v140 c1_i32_123
  let v142 : BitVec 32 := Scalar.addi c0_i32_122 v141
  let c1_i32_125 : BitVec 32 := 1#32
  let arg22 : BitVec 32 := Scf.iv v142 c1_i32_125 k0_t2
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_366 : BitVec 32 := 512#32
  let v451 : BitVec 32 := Scalar.addi v218 c512_i32_366
  v451
def k0_mult37 (i : grid0.Coords) (k0_t2 : Fin (k0_t2_loop i).trips) : BitVec 32 :=
  let c0_i32_121 : BitVec 32 := 0#32
  let c0_i32_122 : BitVec 32 := 0#32
  let arg2 : BitVec 32 := BitVec.ofNat 32 (i 2).val
  let c0_i32_110 : BitVec 32 := 0#32
  let v118 : BitVec 1 := Scalar.cmpi .sgt arg2 c0_i32_110
  let v119 : BitVec 32 := Scalar.extui v118
  let c0_i32_111 : BitVec 32 := 0#32
  let v120 : BitVec 1 := Scalar.cmpi .slt arg2 c0_i32_111
  let v121 : BitVec 32 := Scalar.extui v120
  let v122 : BitVec 32 := Scalar.subi v119 v121
  let c2_i32 : BitVec 32 := 2#32
  let c0_i32_112 : BitVec 32 := 0#32
  let v123 : BitVec 1 := Scalar.cmpi .sgt c2_i32 c0_i32_112
  let v124 : BitVec 32 := Scalar.extui v123
  let c0_i32_113 : BitVec 32 := 0#32
  let v125 : BitVec 1 := Scalar.cmpi .slt c2_i32 c0_i32_113
  let v126 : BitVec 32 := Scalar.extui v125
  let v127 : BitVec 32 := Scalar.subi v124 v126
  let v128 : BitVec 1 := Scalar.cmpi .ne v122 v127
  let v129 : BitVec 32 := Scalar.remsi arg2 c2_i32
  let c0_i32_114 : BitVec 32 := 0#32
  let v130 : BitVec 1 := Scalar.cmpi .ne v129 c0_i32_114
  let v131 : BitVec 1 := Scalar.andi v128 v130
  let v117 : BitVec 32 := Scalar.divsi arg2 c2_i32
  let c1_i32_115 : BitVec 32 := 1#32
  let v132 : BitVec 32 := Scalar.subi v117 c1_i32_115
  let v133 : BitVec 32 := Scalar.select v131 v132 v117
  let c0_i32_116 : BitVec 32 := 0#32
  let v134 : BitVec 32 := Scalar.subi v133 c0_i32_116
  let c1_i32_117 : BitVec 32 := 1#32
  let c1_i32_118 : BitVec 32 := 1#32
  let v135 : BitVec 32 := Scalar.subi c1_i32_117 c1_i32_118
  let v136 : BitVec 32 := Scalar.addi v134 v135
  let c1_i32_119 : BitVec 32 := 1#32
  let v137 : BitVec 32 := Scalar.divsi v136 c1_i32_119
  let v138 : BitVec 32 := Scalar.subi v137 c0_i32_122
  let c1_i32_123 : BitVec 32 := 1#32
  let v140 : BitVec 32 := Scalar.divsi v138 c1_i32_123
  let v141 : BitVec 32 := Scalar.muli v140 c1_i32_123
  let v142 : BitVec 32 := Scalar.addi c0_i32_122 v141
  let c1_i32_125 : BitVec 32 := 1#32
  let arg22 : BitVec 32 := Scf.iv v142 c1_i32_125 k0_t2
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_366 : BitVec 32 := 512#32
  let v451 : BitVec 32 := Scalar.addi v218 c512_i32_366
  let c512_i32_508 : BitVec 32 := 512#32
  let v626 : BitVec 32 := Scalar.addi v451 c512_i32_508
  v626
def k0_off39 (i : grid0.Coords) (k0_t2 : Fin (k0_t2_loop i).trips) : Fin 4 → Nat :=
  let c0_509 : Index := 0#32
  let c0_510 : Index := 0#32
  let c0_i32_121 : BitVec 32 := 0#32
  let c0_i32_122 : BitVec 32 := 0#32
  let arg2 : BitVec 32 := BitVec.ofNat 32 (i 2).val
  let c0_i32_110 : BitVec 32 := 0#32
  let v118 : BitVec 1 := Scalar.cmpi .sgt arg2 c0_i32_110
  let v119 : BitVec 32 := Scalar.extui v118
  let c0_i32_111 : BitVec 32 := 0#32
  let v120 : BitVec 1 := Scalar.cmpi .slt arg2 c0_i32_111
  let v121 : BitVec 32 := Scalar.extui v120
  let v122 : BitVec 32 := Scalar.subi v119 v121
  let c2_i32 : BitVec 32 := 2#32
  let c0_i32_112 : BitVec 32 := 0#32
  let v123 : BitVec 1 := Scalar.cmpi .sgt c2_i32 c0_i32_112
  let v124 : BitVec 32 := Scalar.extui v123
  let c0_i32_113 : BitVec 32 := 0#32
  let v125 : BitVec 1 := Scalar.cmpi .slt c2_i32 c0_i32_113
  let v126 : BitVec 32 := Scalar.extui v125
  let v127 : BitVec 32 := Scalar.subi v124 v126
  let v128 : BitVec 1 := Scalar.cmpi .ne v122 v127
  let v129 : BitVec 32 := Scalar.remsi arg2 c2_i32
  let c0_i32_114 : BitVec 32 := 0#32
  let v130 : BitVec 1 := Scalar.cmpi .ne v129 c0_i32_114
  let v131 : BitVec 1 := Scalar.andi v128 v130
  let v117 : BitVec 32 := Scalar.divsi arg2 c2_i32
  let c1_i32_115 : BitVec 32 := 1#32
  let v132 : BitVec 32 := Scalar.subi v117 c1_i32_115
  let v133 : BitVec 32 := Scalar.select v131 v132 v117
  let c0_i32_116 : BitVec 32 := 0#32
  let v134 : BitVec 32 := Scalar.subi v133 c0_i32_116
  let c1_i32_117 : BitVec 32 := 1#32
  let c1_i32_118 : BitVec 32 := 1#32
  let v135 : BitVec 32 := Scalar.subi c1_i32_117 c1_i32_118
  let v136 : BitVec 32 := Scalar.addi v134 v135
  let c1_i32_119 : BitVec 32 := 1#32
  let v137 : BitVec 32 := Scalar.divsi v136 c1_i32_119
  let v138 : BitVec 32 := Scalar.subi v137 c0_i32_122
  let c1_i32_123 : BitVec 32 := 1#32
  let v140 : BitVec 32 := Scalar.divsi v138 c1_i32_123
  let v141 : BitVec 32 := Scalar.muli v140 c1_i32_123
  let v142 : BitVec 32 := Scalar.addi c0_i32_122 v141
  let c1_i32_125 : BitVec 32 := 1#32
  let arg22 : BitVec 32 := Scf.iv v142 c1_i32_125 k0_t2
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_366 : BitVec 32 := 512#32
  let v451 : BitVec 32 := Scalar.addi v218 c512_i32_366
  let c512_i32_508 : BitVec 32 := 512#32
  let v626 : BitVec 32 := Scalar.addi v451 c512_i32_508
  let v627 : BitVec 32 := v626
  let v628 : Index := Scalar.indexCast v627
  let c384_511 : Index := 384#32
  ![0, 0, v628.toNat, 384]
def k0_off40 (i : grid0.Coords) (k0_t2 : Fin (k0_t2_loop i).trips) : Fin 4 → Nat :=
  let c0_512 : Index := 0#32
  let c3_513 : Index := 3#32
  let c0_i32_121 : BitVec 32 := 0#32
  let c0_i32_122 : BitVec 32 := 0#32
  let arg2 : BitVec 32 := BitVec.ofNat 32 (i 2).val
  let c0_i32_110 : BitVec 32 := 0#32
  let v118 : BitVec 1 := Scalar.cmpi .sgt arg2 c0_i32_110
  let v119 : BitVec 32 := Scalar.extui v118
  let c0_i32_111 : BitVec 32 := 0#32
  let v120 : BitVec 1 := Scalar.cmpi .slt arg2 c0_i32_111
  let v121 : BitVec 32 := Scalar.extui v120
  let v122 : BitVec 32 := Scalar.subi v119 v121
  let c2_i32 : BitVec 32 := 2#32
  let c0_i32_112 : BitVec 32 := 0#32
  let v123 : BitVec 1 := Scalar.cmpi .sgt c2_i32 c0_i32_112
  let v124 : BitVec 32 := Scalar.extui v123
  let c0_i32_113 : BitVec 32 := 0#32
  let v125 : BitVec 1 := Scalar.cmpi .slt c2_i32 c0_i32_113
  let v126 : BitVec 32 := Scalar.extui v125
  let v127 : BitVec 32 := Scalar.subi v124 v126
  let v128 : BitVec 1 := Scalar.cmpi .ne v122 v127
  let v129 : BitVec 32 := Scalar.remsi arg2 c2_i32
  let c0_i32_114 : BitVec 32 := 0#32
  let v130 : BitVec 1 := Scalar.cmpi .ne v129 c0_i32_114
  let v131 : BitVec 1 := Scalar.andi v128 v130
  let v117 : BitVec 32 := Scalar.divsi arg2 c2_i32
  let c1_i32_115 : BitVec 32 := 1#32
  let v132 : BitVec 32 := Scalar.subi v117 c1_i32_115
  let v133 : BitVec 32 := Scalar.select v131 v132 v117
  let c0_i32_116 : BitVec 32 := 0#32
  let v134 : BitVec 32 := Scalar.subi v133 c0_i32_116
  let c1_i32_117 : BitVec 32 := 1#32
  let c1_i32_118 : BitVec 32 := 1#32
  let v135 : BitVec 32 := Scalar.subi c1_i32_117 c1_i32_118
  let v136 : BitVec 32 := Scalar.addi v134 v135
  let c1_i32_119 : BitVec 32 := 1#32
  let v137 : BitVec 32 := Scalar.divsi v136 c1_i32_119
  let v138 : BitVec 32 := Scalar.subi v137 c0_i32_122
  let c1_i32_123 : BitVec 32 := 1#32
  let v140 : BitVec 32 := Scalar.divsi v138 c1_i32_123
  let v141 : BitVec 32 := Scalar.muli v140 c1_i32_123
  let v142 : BitVec 32 := Scalar.addi c0_i32_122 v141
  let c1_i32_125 : BitVec 32 := 1#32
  let arg22 : BitVec 32 := Scf.iv v142 c1_i32_125 k0_t2
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_366 : BitVec 32 := 512#32
  let v451 : BitVec 32 := Scalar.addi v218 c512_i32_366
  let c512_i32_508 : BitVec 32 := 512#32
  let v626 : BitVec 32 := Scalar.addi v451 c512_i32_508
  let v627 : BitVec 32 := v626
  let v631 : Index := Scalar.indexCast v627
  let c0_514 : Index := 0#32
  ![0, 3, v631.toNat, 0]
def k0_mult38 (i : grid0.Coords) (k0_t2 : Fin (k0_t2_loop i).trips) : BitVec 32 :=
  let c0_i32_121 : BitVec 32 := 0#32
  let c0_i32_122 : BitVec 32 := 0#32
  let arg2 : BitVec 32 := BitVec.ofNat 32 (i 2).val
  let c0_i32_110 : BitVec 32 := 0#32
  let v118 : BitVec 1 := Scalar.cmpi .sgt arg2 c0_i32_110
  let v119 : BitVec 32 := Scalar.extui v118
  let c0_i32_111 : BitVec 32 := 0#32
  let v120 : BitVec 1 := Scalar.cmpi .slt arg2 c0_i32_111
  let v121 : BitVec 32 := Scalar.extui v120
  let v122 : BitVec 32 := Scalar.subi v119 v121
  let c2_i32 : BitVec 32 := 2#32
  let c0_i32_112 : BitVec 32 := 0#32
  let v123 : BitVec 1 := Scalar.cmpi .sgt c2_i32 c0_i32_112
  let v124 : BitVec 32 := Scalar.extui v123
  let c0_i32_113 : BitVec 32 := 0#32
  let v125 : BitVec 1 := Scalar.cmpi .slt c2_i32 c0_i32_113
  let v126 : BitVec 32 := Scalar.extui v125
  let v127 : BitVec 32 := Scalar.subi v124 v126
  let v128 : BitVec 1 := Scalar.cmpi .ne v122 v127
  let v129 : BitVec 32 := Scalar.remsi arg2 c2_i32
  let c0_i32_114 : BitVec 32 := 0#32
  let v130 : BitVec 1 := Scalar.cmpi .ne v129 c0_i32_114
  let v131 : BitVec 1 := Scalar.andi v128 v130
  let v117 : BitVec 32 := Scalar.divsi arg2 c2_i32
  let c1_i32_115 : BitVec 32 := 1#32
  let v132 : BitVec 32 := Scalar.subi v117 c1_i32_115
  let v133 : BitVec 32 := Scalar.select v131 v132 v117
  let c0_i32_116 : BitVec 32 := 0#32
  let v134 : BitVec 32 := Scalar.subi v133 c0_i32_116
  let c1_i32_117 : BitVec 32 := 1#32
  let c1_i32_118 : BitVec 32 := 1#32
  let v135 : BitVec 32 := Scalar.subi c1_i32_117 c1_i32_118
  let v136 : BitVec 32 := Scalar.addi v134 v135
  let c1_i32_119 : BitVec 32 := 1#32
  let v137 : BitVec 32 := Scalar.divsi v136 c1_i32_119
  let v138 : BitVec 32 := Scalar.subi v137 c0_i32_122
  let c1_i32_123 : BitVec 32 := 1#32
  let v140 : BitVec 32 := Scalar.divsi v138 c1_i32_123
  let v141 : BitVec 32 := Scalar.muli v140 c1_i32_123
  let v142 : BitVec 32 := Scalar.addi c0_i32_122 v141
  let c1_i32_125 : BitVec 32 := 1#32
  let arg22 : BitVec 32 := Scf.iv v142 c1_i32_125 k0_t2
  let c1_i32_120 : BitVec 32 := 1#32
  let v215 : BitVec 32 := Scalar.muli arg22 c1_i32_120
  let v216 : BitVec 32 := Scalar.addi c0_i32_121 v215
  let c1024_i32 : BitVec 32 := 1024#32
  let v217 : BitVec 32 := Scalar.muli v216 c1024_i32
  let v218 : BitVec 32 := v217
  let c512_i32_366 : BitVec 32 := 512#32
  let v451 : BitVec 32 := Scalar.addi v218 c512_i32_366
  v451
def k0_mult39 (i : grid0.Coords) : BitVec 32 :=
  let arg2 : BitVec 32 := BitVec.ofNat 32 (i 2).val
  let c512_i32 : BitVec 32 := 512#32
  let v143 : BitVec 32 := Scalar.muli arg2 c512_i32
  v143
def k0_cond2 (i : grid0.Coords) : BitVec 1 :=
  let arg2 : BitVec 32 := BitVec.ofNat 32 (i 2).val
  let c2_i32_126 : BitVec 32 := 2#32
  let c0_i32_127 : BitVec 32 := 0#32
  let v145 : BitVec 1 := Scalar.cmpi .eq c2_i32_126 c0_i32_127
  let c1_i32_128 : BitVec 32 := 1#32
  let v146 : BitVec 32 := Scalar.select v145 c1_i32_128 c2_i32_126
  let v147 : BitVec 32 := Scalar.remsi arg2 v146
  let c0_i32_130 : BitVec 32 := 0#32
  let v149 : BitVec 1 := Scalar.cmpi .slt v147 c0_i32_130
  let c0_i32_131 : BitVec 32 := 0#32
  let v150 : BitVec 1 := Scalar.cmpi .slt v146 c0_i32_131
  let v151 : BitVec 1 := Scalar.xori v149 v150
  let c0_i32_129 : BitVec 32 := 0#32
  let v148 : BitVec 1 := Scalar.cmpi .ne v147 c0_i32_129
  let v152 : BitVec 1 := Scalar.andi v151 v148
  let v153 : BitVec 32 := Scalar.addi v147 v146
  let v154 : BitVec 32 := Scalar.select v152 v153 v147
  let c0_i32_132 : BitVec 32 := 0#32
  let v155 : BitVec 1 := Scalar.cmpi .eq v154 c0_i32_132
  let v156 : BitVec 32 := Scalar.extui v155
  let c0_i32_133 : BitVec 32 := 0#32
  let v157 : BitVec 1 := Scalar.cmpi .ne v156 c0_i32_133
  v157

def k0_mult40 (i : grid0.Coords) : BitVec 32 :=
  let arg2 : BitVec 32 := BitVec.ofNat 32 (i 2).val
  let c512_i32 : BitVec 32 := 512#32
  let v143 : BitVec 32 := Scalar.muli arg2 c512_i32
  let v144 : BitVec 32 := v143
  v144
def k0_off41 (i : grid0.Coords) : Fin 4 → Nat :=
  let c0_190 : Index := 0#32
  let c0_191 : Index := 0#32
  let arg2 : BitVec 32 := BitVec.ofNat 32 (i 2).val
  let c512_i32 : BitVec 32 := 512#32
  let v143 : BitVec 32 := Scalar.muli arg2 c512_i32
  let v144 : BitVec 32 := v143
  let v215 : BitVec 32 := v144
  let v233 : Index := Scalar.indexCast v215
  let c0_192 : Index := 0#32
  ![0, 0, v233.toNat, 0]
def k0_mult41 (i : grid0.Coords) : BitVec 32 :=
  let arg2 : BitVec 32 := BitVec.ofNat 32 (i 2).val
  let c512_i32 : BitVec 32 := 512#32
  let v143 : BitVec 32 := Scalar.muli arg2 c512_i32
  let v144 : BitVec 32 := v143
  v144
def k0_off42 (i : grid0.Coords) : Fin 4 → Nat :=
  let c0_218 : Index := 0#32
  let c0_219 : Index := 0#32
  let arg2 : BitVec 32 := BitVec.ofNat 32 (i 2).val
  let c512_i32 : BitVec 32 := 512#32
  let v143 : BitVec 32 := Scalar.muli arg2 c512_i32
  let v144 : BitVec 32 := v143
  let v257 : BitVec 32 := v144
  let v275 : Index := Scalar.indexCast v257
  let c128_220 : Index := 128#32
  ![0, 0, v275.toNat, 128]
def k0_mult42 (i : grid0.Coords) : BitVec 32 :=
  let arg2 : BitVec 32 := BitVec.ofNat 32 (i 2).val
  let c512_i32 : BitVec 32 := 512#32
  let v143 : BitVec 32 := Scalar.muli arg2 c512_i32
  let v144 : BitVec 32 := v143
  v144
def k0_off43 (i : grid0.Coords) : Fin 4 → Nat :=
  let c0_246 : Index := 0#32
  let c0_247 : Index := 0#32
  let arg2 : BitVec 32 := BitVec.ofNat 32 (i 2).val
  let c512_i32 : BitVec 32 := 512#32
  let v143 : BitVec 32 := Scalar.muli arg2 c512_i32
  let v144 : BitVec 32 := v143
  let v299 : BitVec 32 := v144
  let v317 : Index := Scalar.indexCast v299
  let c256_248 : Index := 256#32
  ![0, 0, v317.toNat, 256]
def k0_mult43 (i : grid0.Coords) : BitVec 32 :=
  let arg2 : BitVec 32 := BitVec.ofNat 32 (i 2).val
  let c512_i32 : BitVec 32 := 512#32
  let v143 : BitVec 32 := Scalar.muli arg2 c512_i32
  let v144 : BitVec 32 := v143
  v144
def k0_off44 (i : grid0.Coords) : Fin 4 → Nat :=
  let c0_274 : Index := 0#32
  let c0_275 : Index := 0#32
  let arg2 : BitVec 32 := BitVec.ofNat 32 (i 2).val
  let c512_i32 : BitVec 32 := 512#32
  let v143 : BitVec 32 := Scalar.muli arg2 c512_i32
  let v144 : BitVec 32 := v143
  let v341 : BitVec 32 := v144
  let v359 : Index := Scalar.indexCast v341
  let c384_276 : Index := 384#32
  ![0, 0, v359.toNat, 384]
def k0_cond3 (i : grid0.Coords) : BitVec 1 :=
  let arg2 : BitVec 32 := BitVec.ofNat 32 (i 2).val
  let c2_i32_134 : BitVec 32 := 2#32
  let c0_i32_135 : BitVec 32 := 0#32
  let v158 : BitVec 1 := Scalar.cmpi .eq c2_i32_134 c0_i32_135
  let c1_i32_136 : BitVec 32 := 1#32
  let v159 : BitVec 32 := Scalar.select v158 c1_i32_136 c2_i32_134
  let v160 : BitVec 32 := Scalar.remsi arg2 v159
  let c0_i32_138 : BitVec 32 := 0#32
  let v162 : BitVec 1 := Scalar.cmpi .slt v160 c0_i32_138
  let c0_i32_139 : BitVec 32 := 0#32
  let v163 : BitVec 1 := Scalar.cmpi .slt v159 c0_i32_139
  let v164 : BitVec 1 := Scalar.xori v162 v163
  let c0_i32_137 : BitVec 32 := 0#32
  let v161 : BitVec 1 := Scalar.cmpi .ne v160 c0_i32_137
  let v165 : BitVec 1 := Scalar.andi v164 v161
  let v166 : BitVec 32 := Scalar.addi v160 v159
  let v167 : BitVec 32 := Scalar.select v165 v166 v160
  let c1_i32_140 : BitVec 32 := 1#32
  let v168 : BitVec 1 := Scalar.cmpi .eq v167 c1_i32_140
  let v169 : BitVec 32 := Scalar.extui v168
  let c0_i32_141 : BitVec 32 := 0#32
  let v170 : BitVec 1 := Scalar.cmpi .ne v169 c0_i32_141
  v170

def k0_mult44 (i : grid0.Coords) : BitVec 32 :=
  let arg2 : BitVec 32 := BitVec.ofNat 32 (i 2).val
  let c512_i32 : BitVec 32 := 512#32
  let v143 : BitVec 32 := Scalar.muli arg2 c512_i32
  let v144 : BitVec 32 := v143
  let c512_i32_178 : BitVec 32 := 512#32
  let v215 : BitVec 32 := Scalar.subi v144 c512_i32_178
  let c512_i32_179 : BitVec 32 := 512#32
  let v216 : BitVec 32 := Scalar.addi v215 c512_i32_179
  v216
def k0_off45 (i : grid0.Coords) : Fin 4 → Nat :=
  let c0_180 : Index := 0#32
  let c0_181 : Index := 0#32
  let arg2 : BitVec 32 := BitVec.ofNat 32 (i 2).val
  let c512_i32 : BitVec 32 := 512#32
  let v143 : BitVec 32 := Scalar.muli arg2 c512_i32
  let v144 : BitVec 32 := v143
  let c512_i32_178 : BitVec 32 := 512#32
  let v215 : BitVec 32 := Scalar.subi v144 c512_i32_178
  let c512_i32_179 : BitVec 32 := 512#32
  let v216 : BitVec 32 := Scalar.addi v215 c512_i32_179
  let v217 : BitVec 32 := v216
  let v218 : Index := Scalar.indexCast v217
  let c0_182 : Index := 0#32
  ![0, 0, v218.toNat, 0]
def k0_off46 (i : grid0.Coords) : Fin 4 → Nat :=
  let c0_183 : Index := 0#32
  let c0_184 : Index := 0#32
  let arg2 : BitVec 32 := BitVec.ofNat 32 (i 2).val
  let c512_i32 : BitVec 32 := 512#32
  let v143 : BitVec 32 := Scalar.muli arg2 c512_i32
  let v144 : BitVec 32 := v143
  let c512_i32_178 : BitVec 32 := 512#32
  let v215 : BitVec 32 := Scalar.subi v144 c512_i32_178
  let c512_i32_179 : BitVec 32 := 512#32
  let v216 : BitVec 32 := Scalar.addi v215 c512_i32_179
  let v217 : BitVec 32 := v216
  let v221 : Index := Scalar.indexCast v217
  let c0_185 : Index := 0#32
  ![0, 0, v221.toNat, 0]
def k0_mult45 (i : grid0.Coords) : BitVec 32 :=
  let arg2 : BitVec 32 := BitVec.ofNat 32 (i 2).val
  let c512_i32 : BitVec 32 := 512#32
  let v143 : BitVec 32 := Scalar.muli arg2 c512_i32
  let v144 : BitVec 32 := v143
  let c512_i32_178 : BitVec 32 := 512#32
  let v215 : BitVec 32 := Scalar.subi v144 c512_i32_178
  v215
def k0_off47 (i : grid0.Coords) : Fin 4 → Nat :=
  let c0_210 : Index := 0#32
  let c0_211 : Index := 0#32
  let arg2 : BitVec 32 := BitVec.ofNat 32 (i 2).val
  let c512_i32 : BitVec 32 := 512#32
  let v143 : BitVec 32 := Scalar.muli arg2 c512_i32
  let v144 : BitVec 32 := v143
  let c512_i32_178 : BitVec 32 := 512#32
  let v215 : BitVec 32 := Scalar.subi v144 c512_i32_178
  let v234 : BitVec 32 := v215
  let v250 : Index := Scalar.indexCast v234
  let c0_212 : Index := 0#32
  ![0, 0, v250.toNat, 0]
def k0_mult46 (i : grid0.Coords) : BitVec 32 :=
  let arg2 : BitVec 32 := BitVec.ofNat 32 (i 2).val
  let c512_i32 : BitVec 32 := 512#32
  let v143 : BitVec 32 := Scalar.muli arg2 c512_i32
  let v144 : BitVec 32 := v143
  let c512_i32_178 : BitVec 32 := 512#32
  let v215 : BitVec 32 := Scalar.subi v144 c512_i32_178
  let c512_i32_226 : BitVec 32 := 512#32
  let v274 : BitVec 32 := Scalar.addi v215 c512_i32_226
  v274
def k0_off48 (i : grid0.Coords) : Fin 4 → Nat :=
  let c0_227 : Index := 0#32
  let c0_228 : Index := 0#32
  let arg2 : BitVec 32 := BitVec.ofNat 32 (i 2).val
  let c512_i32 : BitVec 32 := 512#32
  let v143 : BitVec 32 := Scalar.muli arg2 c512_i32
  let v144 : BitVec 32 := v143
  let c512_i32_178 : BitVec 32 := 512#32
  let v215 : BitVec 32 := Scalar.subi v144 c512_i32_178
  let c512_i32_226 : BitVec 32 := 512#32
  let v274 : BitVec 32 := Scalar.addi v215 c512_i32_226
  let v275 : BitVec 32 := v274
  let v276 : Index := Scalar.indexCast v275
  let c128_229 : Index := 128#32
  ![0, 0, v276.toNat, 128]
def k0_off49 (i : grid0.Coords) : Fin 4 → Nat :=
  let c0_230 : Index := 0#32
  let c1_231 : Index := 1#32
  let arg2 : BitVec 32 := BitVec.ofNat 32 (i 2).val
  let c512_i32 : BitVec 32 := 512#32
  let v143 : BitVec 32 := Scalar.muli arg2 c512_i32
  let v144 : BitVec 32 := v143
  let c512_i32_178 : BitVec 32 := 512#32
  let v215 : BitVec 32 := Scalar.subi v144 c512_i32_178
  let c512_i32_226 : BitVec 32 := 512#32
  let v274 : BitVec 32 := Scalar.addi v215 c512_i32_226
  let v275 : BitVec 32 := v274
  let v279 : Index := Scalar.indexCast v275
  let c0_232 : Index := 0#32
  ![0, 1, v279.toNat, 0]
def k0_mult47 (i : grid0.Coords) : BitVec 32 :=
  let arg2 : BitVec 32 := BitVec.ofNat 32 (i 2).val
  let c512_i32 : BitVec 32 := 512#32
  let v143 : BitVec 32 := Scalar.muli arg2 c512_i32
  let v144 : BitVec 32 := v143
  let c512_i32_178 : BitVec 32 := 512#32
  let v215 : BitVec 32 := Scalar.subi v144 c512_i32_178
  v215
def k0_off50 (i : grid0.Coords) : Fin 4 → Nat :=
  let c0_257 : Index := 0#32
  let c0_258 : Index := 0#32
  let arg2 : BitVec 32 := BitVec.ofNat 32 (i 2).val
  let c512_i32 : BitVec 32 := 512#32
  let v143 : BitVec 32 := Scalar.muli arg2 c512_i32
  let v144 : BitVec 32 := v143
  let c512_i32_178 : BitVec 32 := 512#32
  let v215 : BitVec 32 := Scalar.subi v144 c512_i32_178
  let v292 : BitVec 32 := v215
  let v308 : Index := Scalar.indexCast v292
  let c128_259 : Index := 128#32
  ![0, 0, v308.toNat, 128]
def k0_mult48 (i : grid0.Coords) : BitVec 32 :=
  let arg2 : BitVec 32 := BitVec.ofNat 32 (i 2).val
  let c512_i32 : BitVec 32 := 512#32
  let v143 : BitVec 32 := Scalar.muli arg2 c512_i32
  let v144 : BitVec 32 := v143
  let c512_i32_178 : BitVec 32 := 512#32
  let v215 : BitVec 32 := Scalar.subi v144 c512_i32_178
  let c512_i32_273 : BitVec 32 := 512#32
  let v332 : BitVec 32 := Scalar.addi v215 c512_i32_273
  v332
def k0_off51 (i : grid0.Coords) : Fin 4 → Nat :=
  let c0_274 : Index := 0#32
  let c0_275 : Index := 0#32
  let arg2 : BitVec 32 := BitVec.ofNat 32 (i 2).val
  let c512_i32 : BitVec 32 := 512#32
  let v143 : BitVec 32 := Scalar.muli arg2 c512_i32
  let v144 : BitVec 32 := v143
  let c512_i32_178 : BitVec 32 := 512#32
  let v215 : BitVec 32 := Scalar.subi v144 c512_i32_178
  let c512_i32_273 : BitVec 32 := 512#32
  let v332 : BitVec 32 := Scalar.addi v215 c512_i32_273
  let v333 : BitVec 32 := v332
  let v334 : Index := Scalar.indexCast v333
  let c256_276 : Index := 256#32
  ![0, 0, v334.toNat, 256]
def k0_off52 (i : grid0.Coords) : Fin 4 → Nat :=
  let c0_277 : Index := 0#32
  let c2_278 : Index := 2#32
  let arg2 : BitVec 32 := BitVec.ofNat 32 (i 2).val
  let c512_i32 : BitVec 32 := 512#32
  let v143 : BitVec 32 := Scalar.muli arg2 c512_i32
  let v144 : BitVec 32 := v143
  let c512_i32_178 : BitVec 32 := 512#32
  let v215 : BitVec 32 := Scalar.subi v144 c512_i32_178
  let c512_i32_273 : BitVec 32 := 512#32
  let v332 : BitVec 32 := Scalar.addi v215 c512_i32_273
  let v333 : BitVec 32 := v332
  let v337 : Index := Scalar.indexCast v333
  let c0_279 : Index := 0#32
  ![0, 2, v337.toNat, 0]
def k0_mult49 (i : grid0.Coords) : BitVec 32 :=
  let arg2 : BitVec 32 := BitVec.ofNat 32 (i 2).val
  let c512_i32 : BitVec 32 := 512#32
  let v143 : BitVec 32 := Scalar.muli arg2 c512_i32
  let v144 : BitVec 32 := v143
  let c512_i32_178 : BitVec 32 := 512#32
  let v215 : BitVec 32 := Scalar.subi v144 c512_i32_178
  v215
def k0_off53 (i : grid0.Coords) : Fin 4 → Nat :=
  let c0_304 : Index := 0#32
  let c0_305 : Index := 0#32
  let arg2 : BitVec 32 := BitVec.ofNat 32 (i 2).val
  let c512_i32 : BitVec 32 := 512#32
  let v143 : BitVec 32 := Scalar.muli arg2 c512_i32
  let v144 : BitVec 32 := v143
  let c512_i32_178 : BitVec 32 := 512#32
  let v215 : BitVec 32 := Scalar.subi v144 c512_i32_178
  let v350 : BitVec 32 := v215
  let v366 : Index := Scalar.indexCast v350
  let c256_306 : Index := 256#32
  ![0, 0, v366.toNat, 256]
def k0_mult50 (i : grid0.Coords) : BitVec 32 :=
  let arg2 : BitVec 32 := BitVec.ofNat 32 (i 2).val
  let c512_i32 : BitVec 32 := 512#32
  let v143 : BitVec 32 := Scalar.muli arg2 c512_i32
  let v144 : BitVec 32 := v143
  let c512_i32_178 : BitVec 32 := 512#32
  let v215 : BitVec 32 := Scalar.subi v144 c512_i32_178
  let c512_i32_320 : BitVec 32 := 512#32
  let v390 : BitVec 32 := Scalar.addi v215 c512_i32_320
  v390
def k0_off54 (i : grid0.Coords) : Fin 4 → Nat :=
  let c0_321 : Index := 0#32
  let c0_322 : Index := 0#32
  let arg2 : BitVec 32 := BitVec.ofNat 32 (i 2).val
  let c512_i32 : BitVec 32 := 512#32
  let v143 : BitVec 32 := Scalar.muli arg2 c512_i32
  let v144 : BitVec 32 := v143
  let c512_i32_178 : BitVec 32 := 512#32
  let v215 : BitVec 32 := Scalar.subi v144 c512_i32_178
  let c512_i32_320 : BitVec 32 := 512#32
  let v390 : BitVec 32 := Scalar.addi v215 c512_i32_320
  let v391 : BitVec 32 := v390
  let v392 : Index := Scalar.indexCast v391
  let c384_323 : Index := 384#32
  ![0, 0, v392.toNat, 384]
def k0_off55 (i : grid0.Coords) : Fin 4 → Nat :=
  let c0_324 : Index := 0#32
  let c3_325 : Index := 3#32
  let arg2 : BitVec 32 := BitVec.ofNat 32 (i 2).val
  let c512_i32 : BitVec 32 := 512#32
  let v143 : BitVec 32 := Scalar.muli arg2 c512_i32
  let v144 : BitVec 32 := v143
  let c512_i32_178 : BitVec 32 := 512#32
  let v215 : BitVec 32 := Scalar.subi v144 c512_i32_178
  let c512_i32_320 : BitVec 32 := 512#32
  let v390 : BitVec 32 := Scalar.addi v215 c512_i32_320
  let v391 : BitVec 32 := v390
  let v395 : Index := Scalar.indexCast v391
  let c0_326 : Index := 0#32
  ![0, 3, v395.toNat, 0]
def k0_mult51 (i : grid0.Coords) : BitVec 32 :=
  let arg2 : BitVec 32 := BitVec.ofNat 32 (i 2).val
  let c512_i32 : BitVec 32 := 512#32
  let v143 : BitVec 32 := Scalar.muli arg2 c512_i32
  let v144 : BitVec 32 := v143
  let c512_i32_178 : BitVec 32 := 512#32
  let v215 : BitVec 32 := Scalar.subi v144 c512_i32_178
  v215
def k0_off56 (i : grid0.Coords) : Fin 4 → Nat :=
  let c0_351 : Index := 0#32
  let c0_352 : Index := 0#32
  let arg2 : BitVec 32 := BitVec.ofNat 32 (i 2).val
  let c512_i32 : BitVec 32 := 512#32
  let v143 : BitVec 32 := Scalar.muli arg2 c512_i32
  let v144 : BitVec 32 := v143
  let c512_i32_178 : BitVec 32 := 512#32
  let v215 : BitVec 32 := Scalar.subi v144 c512_i32_178
  let v408 : BitVec 32 := v215
  let v424 : Index := Scalar.indexCast v408
  let c384_353 : Index := 384#32
  ![0, 0, v424.toNat, 384]
def k0_mult52 (i : grid0.Coords) : BitVec 32 :=
  let arg2 : BitVec 32 := BitVec.ofNat 32 (i 2).val
  let c512_i32 : BitVec 32 := 512#32
  let v143 : BitVec 32 := Scalar.muli arg2 c512_i32
  let v144 : BitVec 32 := v143
  v144
def k0_off57 (i : grid0.Coords) : Fin 4 → Nat :=
  let c0_379 : Index := 0#32
  let c0_380 : Index := 0#32
  let arg2 : BitVec 32 := BitVec.ofNat 32 (i 2).val
  let c512_i32 : BitVec 32 := 512#32
  let v143 : BitVec 32 := Scalar.muli arg2 c512_i32
  let v144 : BitVec 32 := v143
  let v448 : BitVec 32 := v144
  let v466 : Index := Scalar.indexCast v448
  let c0_381 : Index := 0#32
  ![0, 0, v466.toNat, 0]
def k0_mult53 (i : grid0.Coords) : BitVec 32 :=
  let arg2 : BitVec 32 := BitVec.ofNat 32 (i 2).val
  let c512_i32 : BitVec 32 := 512#32
  let v143 : BitVec 32 := Scalar.muli arg2 c512_i32
  let v144 : BitVec 32 := v143
  v144
def k0_off58 (i : grid0.Coords) : Fin 4 → Nat :=
  let c0_407 : Index := 0#32
  let c0_408 : Index := 0#32
  let arg2 : BitVec 32 := BitVec.ofNat 32 (i 2).val
  let c512_i32 : BitVec 32 := 512#32
  let v143 : BitVec 32 := Scalar.muli arg2 c512_i32
  let v144 : BitVec 32 := v143
  let v490 : BitVec 32 := v144
  let v508 : Index := Scalar.indexCast v490
  let c128_409 : Index := 128#32
  ![0, 0, v508.toNat, 128]
def k0_mult54 (i : grid0.Coords) : BitVec 32 :=
  let arg2 : BitVec 32 := BitVec.ofNat 32 (i 2).val
  let c512_i32 : BitVec 32 := 512#32
  let v143 : BitVec 32 := Scalar.muli arg2 c512_i32
  let v144 : BitVec 32 := v143
  v144
def k0_off59 (i : grid0.Coords) : Fin 4 → Nat :=
  let c0_435 : Index := 0#32
  let c0_436 : Index := 0#32
  let arg2 : BitVec 32 := BitVec.ofNat 32 (i 2).val
  let c512_i32 : BitVec 32 := 512#32
  let v143 : BitVec 32 := Scalar.muli arg2 c512_i32
  let v144 : BitVec 32 := v143
  let v532 : BitVec 32 := v144
  let v550 : Index := Scalar.indexCast v532
  let c256_437 : Index := 256#32
  ![0, 0, v550.toNat, 256]
def k0_mult55 (i : grid0.Coords) : BitVec 32 :=
  let arg2 : BitVec 32 := BitVec.ofNat 32 (i 2).val
  let c512_i32 : BitVec 32 := 512#32
  let v143 : BitVec 32 := Scalar.muli arg2 c512_i32
  let v144 : BitVec 32 := v143
  v144
def k0_off60 (i : grid0.Coords) : Fin 4 → Nat :=
  let c0_463 : Index := 0#32
  let c0_464 : Index := 0#32
  let arg2 : BitVec 32 := BitVec.ofNat 32 (i 2).val
  let c512_i32 : BitVec 32 := 512#32
  let v143 : BitVec 32 := Scalar.muli arg2 c512_i32
  let v144 : BitVec 32 := v143
  let v574 : BitVec 32 := v144
  let v592 : Index := Scalar.indexCast v574
  let c384_465 : Index := 384#32
  ![0, 0, v592.toNat, 384]
def k0_cond1 (i : grid0.Coords) : BitVec 1 :=
  let arg2 : BitVec 32 := BitVec.ofNat 32 (i 2).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg2 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v11 : BitVec 32 := Scalar.extui v10
  let c0_i32_4 : BitVec 32 := 0#32
  let v12 : BitVec 1 := Scalar.cmpi .ne v11 c0_i32_4
  v12

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c8_i32 : BitVec 32 := 8#32
  let v2 : BitVec 32 := Scalar.muli v1 c8_i32
  let v3 : BitVec 32 := Scalar.addi v2 arg2
  let c4_i32_0 : BitVec 32 := 4#32
  let v4 : BitVec 32 := Scalar.divsi v3 c4_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v3 c4_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c1_i32_5 : BitVec 32 := 1#32
  let c0_i32_6 : BitVec 32 := 0#32
  let c0_i32_7 : BitVec 32 := 0#32
  ![c1_i32_5.toNat, v20.toNat, c0_i32_6.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c8_i32 : BitVec 32 := 8#32
  let v2 : BitVec 32 := Scalar.muli v1 c8_i32
  let v3 : BitVec 32 := Scalar.addi v2 arg2
  let c4_i32_0 : BitVec 32 := 4#32
  let v4 : BitVec 32 := Scalar.divsi v3 c4_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v3 c4_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c1_i32_5 : BitVec 32 := 1#32
  let c0_i32_6 : BitVec 32 := 0#32
  let c0_i32_7 : BitVec 32 := 0#32
  ![c1_i32_5.toNat, v20.toNat, c0_i32_6.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c8_i32 : BitVec 32 := 8#32
  let v2 : BitVec 32 := Scalar.muli v1 c8_i32
  let v3 : BitVec 32 := Scalar.addi v2 arg2
  let c4_i32_0 : BitVec 32 := 4#32
  let v4 : BitVec 32 := Scalar.divsi v3 c4_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v3 c4_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c1_i32_5 : BitVec 32 := 1#32
  let c0_i32_6 : BitVec 32 := 0#32
  let c0_i32_7 : BitVec 32 := 0#32
  ![c1_i32_5.toNat, v20.toNat, c0_i32_6.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c8_i32 : BitVec 32 := 8#32
  let v2 : BitVec 32 := Scalar.muli v1 c8_i32
  let v3 : BitVec 32 := Scalar.addi v2 arg2
  let c4_i32_0 : BitVec 32 := 4#32
  let v4 : BitVec 32 := Scalar.divsi v3 c4_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v3 c4_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c0_i32_5 : BitVec 32 := 0#32
  let c0_i32_6 : BitVec 32 := 0#32
  let c0_i32_7 : BitVec 32 := 0#32
  ![c0_i32_5.toNat, v20.toNat, c0_i32_6.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c8_i32 : BitVec 32 := 8#32
  let v2 : BitVec 32 := Scalar.muli v1 c8_i32
  let v3 : BitVec 32 := Scalar.addi v2 arg2
  let c4_i32_0 : BitVec 32 := 4#32
  let v4 : BitVec 32 := Scalar.divsi v3 c4_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v3 c4_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c0_i32_5 : BitVec 32 := 0#32
  let c0_i32_6 : BitVec 32 := 0#32
  ![v20.toNat, c0_i32_5.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c8_i32 : BitVec 32 := 8#32
  let v2 : BitVec 32 := Scalar.muli v1 c8_i32
  let v3 : BitVec 32 := Scalar.addi v2 arg2
  let c4_i32_0 : BitVec 32 := 4#32
  let v4 : BitVec 32 := Scalar.divsi v3 c4_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v3 c4_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c0_i32_5 : BitVec 32 := 0#32
  let c0_i32_6 : BitVec 32 := 0#32
  ![v20.toNat, c0_i32_5.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c8_i32 : BitVec 32 := 8#32
  let v2 : BitVec 32 := Scalar.muli v1 c8_i32
  let v3 : BitVec 32 := Scalar.addi v2 arg2
  let c4_i32_0 : BitVec 32 := 4#32
  let v4 : BitVec 32 := Scalar.divsi v3 c4_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v3 c4_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c0_i32_5 : BitVec 32 := 0#32
  let c0_i32_6 : BitVec 32 := 0#32
  ![v20.toNat, c0_i32_5.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c8_i32 : BitVec 32 := 8#32
  let v2 : BitVec 32 := Scalar.muli v1 c8_i32
  let v3 : BitVec 32 := Scalar.addi v2 arg2
  let c4_i32_0 : BitVec 32 := 4#32
  let v4 : BitVec 32 := Scalar.divsi v3 c4_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v3 c4_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c0_i32_5 : BitVec 32 := 0#32
  let c0_i32_6 : BitVec 32 := 0#32
  ![v20.toNat, c0_i32_5.toNat]

abbrev stage0_0 : Fin 2 → Memref sig .tc .vmem S1x1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x64x5632 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x64x5632 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S64x5632 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S64x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S176x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S64x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x4096x2048 : Shape := ⟨3, ![4, 4096, 2048]⟩
abbrev S4x4096x16 : Shape := ⟨3, ![4, 4096, 16]⟩
abbrev S2x2048x5632 : Shape := ⟨3, ![2, 2048, 5632]⟩
abbrev S2x5632x2048 : Shape := ⟨3, ![2, 5632, 2048]⟩
abbrev S1x2048x2048 : Shape := ⟨3, ![1, 2048, 2048]⟩
abbrev S4x4096x16x128 : Shape := ⟨4, ![4, 4096, 16, 128]⟩
abbrev S4x16x4096x128 : Shape := ⟨4, ![4, 16, 4096, 128]⟩
abbrev S4x16x4096 : Shape := ⟨3, ![4, 16, 4096]⟩
abbrev S4096 : Shape := ⟨1, ![4096]⟩
abbrev S4x16x4096x4096 : Shape := ⟨4, ![4, 16, 4096, 4096]⟩
abbrev S_ : Shape := ⟨0, ![]⟩
abbrev S4x16x4096x1 : Shape := ⟨4, ![4, 16, 4096, 1]⟩
abbrev S4x16x1x4096 : Shape := ⟨4, ![4, 16, 1, 4096]⟩
abbrev S1x4096 : Shape := ⟨2, ![1, 4096]⟩
abbrev S4096x1 : Shape := ⟨2, ![4096, 1]⟩
abbrev S4096x4096 : Shape := ⟨2, ![4096, 4096]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S2048x2048 : Shape := ⟨2, ![2048, 2048]⟩

abbrev nBuf : Space → Nat
  | .hbm => 65
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x4096x2048, .f32⟩
  | .hbm, ⟨3, _⟩ => ⟨S4x4096x16, .f32⟩
  | .hbm, ⟨4, _⟩ => ⟨S2x2048x5632, .f32⟩
  | .hbm, ⟨5, _⟩ => ⟨S2x2048x5632, .f32⟩
  | .hbm, ⟨6, _⟩ => ⟨S2x5632x2048, .f32⟩
  | .hbm, ⟨7, _⟩ => ⟨S1x2048x2048, .f32⟩
  | .hbm, ⟨8, _⟩ => ⟨S4x4096x16x128, .f32⟩
  | .hbm, ⟨9, _⟩ => ⟨S4x16x4096x128, .f32⟩
  | .hbm, ⟨10, _⟩ => ⟨S4x4096x16x128, .f32⟩
  | .hbm, ⟨11, _⟩ => ⟨S4x16x4096x128, .f32⟩
  | .hbm, ⟨12, _⟩ => ⟨S4x4096x16x128, .f32⟩
  | .hbm, ⟨13, _⟩ => ⟨S4x16x4096x128, .f32⟩
  | .hbm, ⟨14, _⟩ => ⟨S4x16x4096, .f32⟩
  | .hbm, ⟨15, _⟩ => ⟨S4096, .i32⟩
  | .hbm, ⟨16, _⟩ => ⟨S4x16x4096x4096, .f32⟩
  | .hbm, ⟨17, _⟩ => ⟨S_, .f32⟩
  | .hbm, ⟨18, _⟩ => ⟨S4x16x4096x4096, .f32⟩
  | .hbm, ⟨19, _⟩ => ⟨S4x16x4096x4096, .f32⟩
  | .hbm, ⟨20, _⟩ => ⟨S4x16x4096x1, .f32⟩
  | .hbm, ⟨21, _⟩ => ⟨S4x16x4096x4096, .f32⟩
  | .hbm, ⟨22, _⟩ => ⟨S4x16x4096x4096, .f32⟩
  | .hbm, ⟨23, _⟩ => ⟨S4x16x1x4096, .f32⟩
  | .hbm, ⟨24, _⟩ => ⟨S4x16x4096x4096, .f32⟩
  | .hbm, ⟨25, _⟩ => ⟨S4x16x4096x4096, .f32⟩
  | .hbm, ⟨26, _⟩ => ⟨S1x4096, .i32⟩
  | .hbm, ⟨27, _⟩ => ⟨S4096x1, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S_, .f32⟩
  | .hbm, ⟨32, _⟩ => ⟨S_, .f32⟩
  | .hbm, ⟨33, _⟩ => ⟨S4x16x4096x4096, .i1⟩
  | .hbm, ⟨34, _⟩ => ⟨S4x16x4096x4096, .f32⟩
  | .hbm, ⟨35, _⟩ => ⟨S4x16x4096x4096, .f32⟩
  | .hbm, ⟨36, _⟩ => ⟨S_, .f32⟩
  | .hbm, ⟨37, _⟩ => ⟨S4x16x4096, .f32⟩
  | .hbm, ⟨38, _⟩ => ⟨S_, .f32⟩
  | .hbm, ⟨39, _⟩ => ⟨S4x16x4096, .f32⟩
  | .hbm, ⟨40, _⟩ => ⟨S4x16x4096, .f32⟩
  | .hbm, ⟨41, _⟩ => ⟨S4x16x4096x1, .f32⟩
  | .hbm, ⟨42, _⟩ => ⟨S4x16x4096x4096, .f32⟩
  | .hbm, ⟨43, _⟩ => ⟨S4x16x4096x4096, .f32⟩
  | .hbm, ⟨44, _⟩ => ⟨S4x16x4096x4096, .f32⟩
  | .hbm, ⟨45, _⟩ => ⟨S_, .f32⟩
  | .hbm, ⟨46, _⟩ => ⟨S4x16x4096, .f32⟩
  | .hbm, ⟨47, _⟩ => ⟨S4x16x4096x1, .f32⟩
  | .hbm, ⟨48, _⟩ => ⟨S4x16x4096x4096, .f32⟩
  | .hbm, ⟨49, _⟩ => ⟨S4x16x4096x4096, .f32⟩
  | .hbm, ⟨50, _⟩ => ⟨S4x16x4096x128, .f32⟩
  | .hbm, ⟨51, _⟩ => ⟨S4x4096x16x128, .f32⟩
  | .hbm, ⟨52, _⟩ => ⟨S4x4096x2048, .f32⟩
  | .hbm, ⟨53, _⟩ => ⟨S4x4096x2048, .bf16⟩
  | .hbm, ⟨54, _⟩ => ⟨S1x2048x5632, .f32⟩
  | .hbm, ⟨55, _⟩ => ⟨S2048x5632, .f32⟩
  | .hbm, ⟨56, _⟩ => ⟨S2048x5632, .bf16⟩
  | .hbm, ⟨57, _⟩ => ⟨S1x2048x5632, .f32⟩
  | .hbm, ⟨58, _⟩ => ⟨S2048x5632, .f32⟩
  | .hbm, ⟨59, _⟩ => ⟨S2048x5632, .bf16⟩
  | .hbm, ⟨60, _⟩ => ⟨S1x5632x2048, .f32⟩
  | .hbm, ⟨61, _⟩ => ⟨S5632x2048, .f32⟩
  | .hbm, ⟨62, _⟩ => ⟨S5632x2048, .bf16⟩
  | .hbm, ⟨63, _⟩ => ⟨S2048x2048, .f32⟩
  | .hbm, ⟨64, _⟩ => ⟨S2048x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== Kernel2.lean ====
abbrev S4x4096x2048 : Shape := ⟨3, ![4, 4096, 2048]⟩
abbrev S2048 : Shape := ⟨1, ![2048]⟩
abbrev S4x2048 : Shape := ⟨2, ![4, 2048]⟩
abbrev S2048x5632 : Shape := ⟨2, ![2048, 5632]⟩
abbrev S5632x2048 : Shape := ⟨2, ![5632, 2048]⟩
abbrev S4x1x2048 : Shape := ⟨3, ![4, 1, 2048]⟩
abbrev S16384x2048 : Shape := ⟨2, ![16384, 2048]⟩
abbrev S1x2048 : Shape := ⟨2, ![1, 2048]⟩
abbrev S1024x2048 : Shape := ⟨2, ![1024, 2048]⟩
abbrev S1x1x2048 : Shape := ⟨3, ![1, 1, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 19
  | .vmem => 19
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S4x2048, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S16384x2048, .f32⟩
  | .hbm, ⟨13, _⟩ => ⟨S2048x5632, .bf16⟩
  | .hbm, ⟨14, _⟩ => ⟨S2048x5632, .bf16⟩
  | .hbm, ⟨15, _⟩ => ⟨S5632x2048, .bf16⟩
  | .hbm, ⟨16, _⟩ => ⟨S1x2048, .f32⟩
  | .hbm, ⟨17, _⟩ => ⟨S1x2048, .f32⟩
  | .hbm, ⟨18, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S512x2048, .bf16⟩
  | .local _ .vmem, ⟨14, _⟩ => ⟨S512x2048, .bf16⟩
  | .local _ .vmem, ⟨15, _⟩ => ⟨S1x2048, .f32⟩
  | .local _ .vmem, ⟨16, _⟩ => ⟨S1024x2048, .f32⟩
  | .local _ .vmem, ⟨17, _⟩ => ⟨S1024x2048, .f32⟩
  | .local _ .vmem, ⟨18, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S4x4096x2048 : Shape := ⟨3, ![4, 4096, 2048]⟩
abbrev S2048 : Shape := ⟨1, ![2048]⟩
abbrev S4x2048 : Shape := ⟨2, ![4, 2048]⟩
abbrev S2048x5632 : Shape := ⟨2, ![2048, 5632]⟩
abbrev S5632x2048 : Shape := ⟨2, ![5632, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S4x4096x5632 : Shape := ⟨3, ![4, 4096, 5632]⟩
abbrev S16384x2048 : Shape := ⟨2, ![16384, 2048]⟩

abbrev nBuf : Space → Nat
  | .hbm => 68
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S4x2048, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S2048, .f32⟩
  | .hbm, ⟨9, _⟩ => ⟨S4x4096x2048, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x2048, .f32⟩
  | .hbm, ⟨21, _⟩ => ⟨S4x4096x2048, .f32⟩
  | .hbm, ⟨22, _⟩ => ⟨S1x1x2048, .f32⟩
  | .hbm, ⟨23, _⟩ => ⟨S4x4096x2048, .f32⟩
  | .hbm, ⟨24, _⟩ => ⟨S4x4096x2048, .f32⟩
  | .hbm, ⟨25, _⟩ => ⟨S4x1x2048, .f32⟩
  | .hbm, ⟨26, _⟩ => ⟨S_, .f32⟩
  | .hbm, ⟨27, _⟩ => ⟨S4x1x2048, .f32⟩
  | .hbm, ⟨28, _⟩ => ⟨S4x1x2048, .f32⟩
  | .hbm, ⟨29, _⟩ => ⟨S4x4096x2048, .f32⟩
  | .hbm, ⟨30, _⟩ => ⟨S4x4096x2048, .f32⟩
  | .hbm, ⟨31, _⟩ => ⟨S4x1x2048, .f32⟩
  | .hbm, ⟨32, _⟩ => ⟨S4x4096x2048, .f32⟩
  | .hbm, ⟨33, _⟩ => ⟨S4x4096x2048, .f32⟩
  | .hbm, ⟨34, _⟩ => ⟨S4x4096x5632, .f32⟩
  | .hbm, ⟨35, _⟩ => ⟨S4x4096x5632, .f32⟩
  | .hbm, ⟨36, _⟩ => ⟨S4x4096x5632, .f32⟩
  | .hbm, ⟨37, _⟩ => ⟨S_, .f32⟩
  | .hbm, ⟨38, _⟩ => ⟨S4x4096x5632, .f32⟩
  | .hbm, ⟨39, _⟩ => ⟨S4x4096x5632, .f32⟩
  | .hbm, ⟨40, _⟩ => ⟨S_, .f32⟩
  | .hbm, ⟨41, _⟩ => ⟨S4x4096x5632, .f32⟩
  | .hbm, ⟨42, _⟩ => ⟨S4x4096x5632, .f32⟩
  | .hbm, ⟨43, _⟩ => ⟨S4x4096x5632, .f32⟩
  | .hbm, ⟨44, _⟩ => ⟨S4x4096x5632, .f32⟩
  | .hbm, ⟨45, _⟩ => ⟨S4x4096x5632, .f32⟩
  | .hbm, ⟨46, _⟩ => ⟨S4x4096x2048, .f32⟩
  | .hbm, ⟨47, _⟩ => ⟨S4x1x2048, .f32⟩
  | .hbm, ⟨48, _⟩ => ⟨S4x4096x2048, .f32⟩
  | .hbm, ⟨49, _⟩ => ⟨S4x4096x2048, .f32⟩
  | .hbm, ⟨50, _⟩ => ⟨S4x4096x2048, .f32⟩
  | .hbm, ⟨51, _⟩ => ⟨S4x4096x2048, .f32⟩
  | .hbm, ⟨52, _⟩ => ⟨S_, .f32⟩
  | .hbm, ⟨53, _⟩ => ⟨S4x4096, .f32⟩
  | .hbm, ⟨54, _⟩ => ⟨S4x4096x1, .f32⟩
  | .hbm, ⟨55, _⟩ => ⟨S_, .f32⟩
  | .hbm, ⟨56, _⟩ => ⟨S4x4096x1, .f32⟩
  | .hbm, ⟨57, _⟩ => ⟨S4x4096x1, .f32⟩
  | .hbm, ⟨58, _⟩ => ⟨S_, .f32⟩
  | .hbm, ⟨59, _⟩ => ⟨S4x4096x1, .f32⟩
  | .hbm, ⟨60, _⟩ => ⟨S4x4096x1, .f32⟩
  | .hbm, ⟨61, _⟩ => ⟨S4x4096x1, .f32⟩
  | .hbm, ⟨62, _⟩ => ⟨S4x4096x2048, .f32⟩
  | .hbm, ⟨63, _⟩ => ⟨S4x4096x2048, .f32⟩
  | .hbm, ⟨64, _⟩ => ⟨S1x1x2048, .f32⟩
  | .hbm, ⟨65, _⟩ => ⟨S4x4096x2048, .f32⟩
  | .hbm, ⟨66, _⟩ => ⟨S4x4096x2048, .f32⟩
  | .hbm, ⟨67, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_3 : Ref sig .tc := ⟨.hbm, 52, rfl⟩
abbrev main_v31 : Ref sig .tc := ⟨.hbm, 53, rfl⟩
abbrev main_v32 : Ref sig .tc := ⟨.hbm, 54, rfl⟩
abbrev main_cst_4 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩

abbrev nD : Nat := 1
abbrev τ : Topo := Topo.v7x

variable {F : FTy → Type} [FloatOps F]
-- ==== Kernel3.lean ====
abbrev S4x4096x2048 : Shape := ⟨3, ![4, 4096, 2048]⟩
abbrev S2048 : Shape := ⟨1, ![2048]⟩
abbrev S4x2048 : Shape := ⟨2, ![4, 2048]⟩
abbrev S2048x5632 : Shape := ⟨2, ![2048, 5632]⟩
abbrev S5632x2048 : Shape := ⟨2, ![5632, 2048]⟩
abbrev S4x1x2048 : Shape := ⟨3, ![4, 1, 2048]⟩
abbrev S16384x2048 : Shape := ⟨2, ![16384, 2048]⟩
abbrev S1x2048 : Shape := ⟨2, ![1, 2048]⟩
abbrev S1024x2048 : Shape := ⟨2, ![1024, 2048]⟩
abbrev S1x1x2048 : Shape := ⟨3, ![1, 1, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 17
  | .vmem => 18
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S4x2048, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S16384x2048, .f32⟩
  | .hbm, ⟨12, _⟩ => ⟨S2048x5632, .bf16⟩
  | .hbm, ⟨13, _⟩ => ⟨S2048x5632, .bf16⟩
  | .hbm, ⟨14, _⟩ => ⟨S5632x2048, .bf16⟩
  | .hbm, ⟨15, _⟩ => ⟨S1x2048, .f32⟩
  | .hbm, ⟨16, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S512x2048, .bf16⟩
  | .local _ .vmem, ⟨14, _⟩ => ⟨S512x2048, .bf16⟩
  | .local _ .vmem, ⟨15, _⟩ => ⟨S1024x2048, .f32⟩
  | .local _ .vmem, ⟨16, _⟩ => ⟨S1024x2048, .f32⟩
  | .local _ .vmem, ⟨17, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference3Ideal.lean ====
abbrev S4x4096x2048 : Shape := ⟨3, ![4, 4096, 2048]⟩
abbrev S2048 : Shape := ⟨1, ![2048]⟩
abbrev S4x2048 : Shape := ⟨2, ![4, 2048]⟩
abbrev S2048x5632 : Shape := ⟨2, ![2048, 5632]⟩
abbrev S5632x2048 : Shape := ⟨2, ![5632, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S4x4096x5632 : Shape := ⟨3, ![4, 4096, 5632]⟩
abbrev S16384x2048 : Shape := ⟨2, ![16384, 2048]⟩

abbrev nBuf : Space → Nat
  | .hbm => 51
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S4x2048, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S4x4096x2048, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x2048, .f32⟩
  | .hbm, ⟨20, _⟩ => ⟨S4x4096x2048, .f32⟩
  | .hbm, ⟨21, _⟩ => ⟨S1x1x2048, .f32⟩
  | .hbm, ⟨22, _⟩ => ⟨S4x4096x2048, .f32⟩
  | .hbm, ⟨23, _⟩ => ⟨S4x4096x2048, .f32⟩
  | .hbm, ⟨24, _⟩ => ⟨S4x1x2048, .f32⟩
  | .hbm, ⟨25, _⟩ => ⟨S_, .f32⟩
  | .hbm, ⟨26, _⟩ => ⟨S4x1x2048, .f32⟩
  | .hbm, ⟨27, _⟩ => ⟨S4x1x2048, .f32⟩
  | .hbm, ⟨28, _⟩ => ⟨S4x4096x2048, .f32⟩
  | .hbm, ⟨29, _⟩ => ⟨S4x4096x2048, .f32⟩
  | .hbm, ⟨30, _⟩ => ⟨S4x1x2048, .f32⟩
  | .hbm, ⟨31, _⟩ => ⟨S4x4096x2048, .f32⟩
  | .hbm, ⟨32, _⟩ => ⟨S4x4096x2048, .f32⟩
  | .hbm, ⟨33, _⟩ => ⟨S4x4096x5632, .f32⟩
  | .hbm, ⟨34, _⟩ => ⟨S4x4096x5632, .f32⟩
  | .hbm, ⟨35, _⟩ => ⟨S4x4096x5632, .f32⟩
  | .hbm, ⟨36, _⟩ => ⟨S_, .f32⟩
  | .hbm, ⟨37, _⟩ => ⟨S4x4096x5632, .f32⟩
  | .hbm, ⟨38, _⟩ => ⟨S4x4096x5632, .f32⟩
  | .hbm, ⟨39, _⟩ => ⟨S_, .f32⟩
  | .hbm, ⟨40, _⟩ => ⟨S4x4096x5632, .f32⟩
  | .hbm, ⟨41, _⟩ => ⟨S4x4096x5632, .f32⟩
  | .hbm, ⟨42, _⟩ => ⟨S4x4096x5632, .f32⟩
  | .hbm, ⟨43, _⟩ => ⟨S4x4096x5632, .f32⟩
  | .hbm, ⟨44, _⟩ => ⟨S4x4096x5632, .f32⟩
  | .hbm, ⟨45, _⟩ => ⟨S4x4096x2048, .f32⟩
  | .hbm, ⟨46, _⟩ => ⟨S4x1x2048, .f32⟩
  | .hbm, ⟨47, _⟩ => ⟨S4x4096x2048, .f32⟩
  | .hbm, ⟨48, _⟩ => ⟨S4x4096x2048, .f32⟩
  | .hbm, ⟨49, _⟩ => ⟨S4x4096x2048, .f32⟩
  | .hbm, ⟨50, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩

abbrev nD : Nat := 1
abbrev τ : Topo := Topo.v7x

variable {F : FTy → Type} [FloatOps F]
-- ==== Kernel4.lean ====
abbrev S4x4096x2048 : Shape := ⟨3, ![4, 4096, 2048]⟩
abbrev S2048x2048 : Shape := ⟨2, ![2048, 2048]⟩
abbrev S4x2048 : Shape := ⟨2, ![4, 2048]⟩
abbrev S16384x2048 : Shape := ⟨2, ![16384, 2048]⟩
abbrev S4x1x2048 : Shape := ⟨3, ![4, 1, 2048]⟩
abbrev S1024x2048 : Shape := ⟨2, ![1024, 2048]⟩
abbrev S1x1x2048 : Shape := ⟨3, ![1, 1, 2048]⟩
abbrev S1x2048 : Shape := ⟨2, ![1, 2048]⟩

abbrev nBuf : Space → Nat
  | .hbm => 10
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S2048x2048, .f32⟩
  | .hbm, ⟨3, _⟩ => ⟨S4x2048, .f32⟩
  | .hbm, ⟨4, _⟩ => ⟨S16384x2048, .f32⟩
  | .hbm, ⟨5, _⟩ => ⟨S4x4096x2048, .bf16⟩
  | .hbm, ⟨6, _⟩ => ⟨S16384x2048, .bf16⟩
  | .hbm, ⟨7, _⟩ => ⟨S2048x2048, .bf16⟩
  | .hbm, ⟨8, _⟩ => ⟨S4x1x2048, .f32⟩
  | .hbm, ⟨9, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S2048x2048, .bf16⟩
  | .local _ .vmem, ⟨5, _⟩ => ⟨S1x1x2048, .f32⟩
  | .local _ .vmem, ⟨6, _⟩ => ⟨S1x1x2048, .f32⟩
  | .local _ .vmem, ⟨7, _⟩ => ⟨S1024x2048, .f32⟩
  | .local _ .vmem, ⟨8, _⟩ => ⟨S1024x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S4x4096x2048 : Shape := ⟨3, ![4, 4096, 2048]⟩
abbrev S2048x2048 : Shape := ⟨2, ![2048, 2048]⟩
abbrev S4x2048 : Shape := ⟨2, ![4, 2048]⟩
abbrev S4x1x2048 : Shape := ⟨3, ![4, 1, 2048]⟩
abbrev S16384x2048 : Shape := ⟨2, ![16384, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S2048x2048, .f32⟩
  | .hbm, ⟨3, _⟩ => ⟨S4x2048, .f32⟩
  | .hbm, ⟨4, _⟩ => ⟨S4x1x2048, .f32⟩
  | .hbm, ⟨5, _⟩ => ⟨S4x4096x2048, .f32⟩
  | .hbm, ⟨6, _⟩ => ⟨S4x4096x2048, .f32⟩
  | .hbm, ⟨7, _⟩ => ⟨S4x4096x2048, .f32⟩
  | .hbm, ⟨8, _⟩ => ⟨S4x4096x2048, .f32⟩
  | .hbm, ⟨9, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel5.lean ====
abbrev S4x4096x2048 : Shape := ⟨3, ![4, 4096, 2048]⟩
abbrev S2048 : Shape := ⟨1, ![2048]⟩
abbrev S4x2048 : Shape := ⟨2, ![4, 2048]⟩
abbrev S2048x4096 : Shape := ⟨2, ![2048, 4096]⟩
abbrev S4096 : Shape := ⟨1, ![4096]⟩
abbrev S2x2048x5632 : Shape := ⟨3, ![2, 2048, 5632]⟩
abbrev S2x5632x2048 : Shape := ⟨3, ![2, 5632, 2048]⟩
abbrev S1x2048x2048 : Shape := ⟨3, ![1, 2048, 2048]⟩
abbrev S4x1x2048 : Shape := ⟨3, ![4, 1, 2048]⟩
abbrev S16384x2048 : Shape := ⟨2, ![16384, 2048]⟩
abbrev S1x2048 : Shape := ⟨2, ![1, 2048]⟩
abbrev S1x4096 : Shape := ⟨2, ![1, 4096]⟩
abbrev S2048x5632 : Shape := ⟨2, ![2048, 5632]⟩
abbrev S5632x2048 : Shape := ⟨2, ![5632, 2048]⟩
abbrev S2048x2048 : Shape := ⟨2, ![2048, 2048]⟩
abbrev S512x2048 : Shape := ⟨2, ![512, 2048]⟩
abbrev S1x1x2048 : Shape := ⟨3, ![1, 1, 2048]⟩
abbrev S1x64x5632 : Shape := ⟨3, ![1, 64, 5632]⟩
abbrev S1x176x2048 : Shape := ⟨3, ![1, 176, 2048]⟩
abbrev S1x64x2048 : Shape := ⟨3, ![1, 64, 2048]⟩
abbrev S64x5632 : Shape := ⟨2, ![64, 5632]⟩
abbrev S176x2048 : Shape := ⟨2, ![176, 2048]⟩
abbrev S64x2048 : Shape := ⟨2, ![64, 2048]⟩
abbrev S512 : Shape := ⟨1, ![512]⟩
abbrev S512x1 : Shape := ⟨2, ![512, 1]⟩

abbrev nBuf : Space → Nat
  | .hbm => 26
  | .vmem => 31
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048x4096, .f32⟩
  | .hbm, ⟨5, _⟩ => ⟨S4096, .f32⟩
  | .hbm, ⟨6, _⟩ => ⟨S2048, .f32⟩
  | .hbm, ⟨7, _⟩ => ⟨S2048, .f32⟩
  | .hbm, ⟨8, _⟩ => ⟨S2x2048x5632, .f32⟩
  | .hbm, ⟨9, _⟩ => ⟨S2x2048x5632, .f32⟩
  | .hbm, ⟨10, _⟩ => ⟨S2x5632x2048, .f32⟩
  | .hbm, ⟨11, _⟩ => ⟨S1x2048x2048, .f32⟩
  | .hbm, ⟨12, _⟩ => ⟨S4x1x2048, .f32⟩
  | .hbm, ⟨13, _⟩ => ⟨S4x1x2048, .f32⟩
  | .hbm, ⟨14, _⟩ => ⟨S16384x2048, .f32⟩
  | .hbm, ⟨15, _⟩ => ⟨S2048x4096, .bf16⟩
  | .hbm, ⟨16, _⟩ => ⟨S1x2048, .f32⟩
  | .hbm, ⟨17, _⟩ => ⟨S1x4096, .f32⟩
  | .hbm, ⟨18, _⟩ => ⟨S1x2048, .f32⟩
  | .hbm, ⟨19, _⟩ => ⟨S1x2048, .f32⟩
  | .hbm, ⟨20, _⟩ => ⟨S16384x2048, .bf16⟩
  | .hbm, ⟨21, _⟩ => ⟨S16384x2048, .bf16⟩
  | .hbm, ⟨22, _⟩ => ⟨S2048x5632, .bf16⟩
  | .hbm, ⟨23, _⟩ => ⟨S2048x5632, .bf16⟩
  | .hbm, ⟨24, _⟩ => ⟨S5632x2048, .bf16⟩
  | .hbm, ⟨25, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x4096, .bf16⟩
  | .local _ .vmem, ⟨8, _⟩ => ⟨S1x4096, .f32⟩
  | .local _ .vmem, ⟨9, _⟩ => ⟨S1x2048, .f32⟩
  | .local _ .vmem, ⟨10, _⟩ => ⟨S1x2048, .f32⟩
  | .local _ .vmem, ⟨11, _⟩ => ⟨S1x64x5632, .f32⟩
  | .local _ .vmem, ⟨12, _⟩ => ⟨S1x64x5632, .f32⟩
  | .local _ .vmem, ⟨13, _⟩ => ⟨S1x64x5632, .f32⟩
  | .local _ .vmem, ⟨14, _⟩ => ⟨S1x64x5632, .f32⟩
  | .local _ .vmem, ⟨15, _⟩ => ⟨S1x176x2048, .f32⟩
  | .local _ .vmem, ⟨16, _⟩ => ⟨S1x176x2048, .f32⟩
  | .local _ .vmem, ⟨17, _⟩ => ⟨S1x64x2048, .f32⟩
  | .local _ .vmem, ⟨18, _⟩ => ⟨S1x64x2048, .f32⟩
  | .local _ .vmem, ⟨19, _⟩ => ⟨S512x2048, .bf16⟩
  | .local _ .vmem, ⟨20, _⟩ => ⟨S512x2048, .bf16⟩
  | .local _ .vmem, ⟨21, _⟩ => ⟨S512x2048, .bf16⟩
  | .local _ .vmem, ⟨22, _⟩ => ⟨S512x2048, .bf16⟩
  | .local _ .vmem, ⟨23, _⟩ => ⟨S64x5632, .bf16⟩
  | .local _ .vmem, ⟨24, _⟩ => ⟨S64x5632, .bf16⟩
  | .local _ .vmem, ⟨25, _⟩ => ⟨S64x5632, .bf16⟩
  | .local _ .vmem, ⟨26, _⟩ => ⟨S64x5632, .bf16⟩
  | .local _ .vmem, ⟨27, _⟩ => ⟨S176x2048, .bf16⟩
  | .local _ .vmem, ⟨28, _⟩ => ⟨S176x2048, .bf16⟩
  | .local _ .vmem, ⟨29, _⟩ => ⟨S64x2048, .bf16⟩
  | .local _ .vmem, ⟨30, _⟩ => ⟨S64x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v8_3 : Ref sig .tc := ⟨.hbm, 23, rfl⟩
abbrev main_v8_4 : Ref sig .tc := ⟨.hbm, 24, rfl⟩
abbrev main_v8_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![c0_i32_5.toNat, v16.toNat, c0_i32_6.toNat]

def cc0_transform_9 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![c0_i32_5.toNat, v16.toNat, c0_i32_6.toNat]

def cc0_transform_10 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![c0_i32_5.toNat, v16.toNat, c0_i32_6.toNat]

def cc0_transform_11 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![c0_i32_5.toNat, v16.toNat, c0_i32_6.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_15 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_16 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_17 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x64x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x5632 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x176x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x64x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x5632 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x5632 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S176x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference5Ideal.lean ====
abbrev S4x4096x2048 : Shape := ⟨3, ![4, 4096, 2048]⟩
abbrev S2048 : Shape := ⟨1, ![2048]⟩
abbrev S4x2048 : Shape := ⟨2, ![4, 2048]⟩
abbrev S2048x4096 : Shape := ⟨2, ![2048, 4096]⟩
abbrev S4096 : Shape := ⟨1, ![4096]⟩
abbrev S2x2048x5632 : Shape := ⟨3, ![2, 2048, 5632]⟩
abbrev S2x5632x2048 : Shape := ⟨3, ![2, 5632, 2048]⟩
abbrev S1x2048x2048 : Shape := ⟨3, ![1, 2048, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S4x4096x4096 : Shape := ⟨3, ![4, 4096, 4096]⟩
abbrev S1x1x4096 : Shape := ⟨3, ![1, 1, 4096]⟩
abbrev S16384x2048 : Shape := ⟨2, ![16384, 2048]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S2048x2048 : Shape := ⟨2, ![2048, 2048]⟩

abbrev nBuf : Space → Nat
  | .hbm => 96
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048x4096, .f32⟩
  | .hbm, ⟨5, _⟩ => ⟨S4096, .f32⟩
  | .hbm, ⟨6, _⟩ => ⟨S2048, .f32⟩
  | .hbm, ⟨7, _⟩ => ⟨S2048, .f32⟩
  | .hbm, ⟨8, _⟩ => ⟨S2x2048x5632, .f32⟩
  | .hbm, ⟨9, _⟩ => ⟨S2x2048x5632, .f32⟩
  | .hbm, ⟨10, _⟩ => ⟨S2x5632x2048, .f32⟩
  | .hbm, ⟨11, _⟩ => ⟨S1x2048x2048, .f32⟩
  | .hbm, ⟨12, _⟩ => ⟨S4x4096x2048, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x2048, .f32⟩
  | .hbm, ⟨24, _⟩ => ⟨S4x4096x2048, .f32⟩
  | .hbm, ⟨25, _⟩ => ⟨S1x1x2048, .f32⟩
  | .hbm, ⟨26, _⟩ => ⟨S4x4096x2048, .f32⟩
  | .hbm, ⟨27, _⟩ => ⟨S4x4096x2048, .f32⟩
  | .hbm, ⟨28, _⟩ => ⟨S4x1x2048, .f32⟩
  | .hbm, ⟨29, _⟩ => ⟨S_, .f32⟩
  | .hbm, ⟨30, _⟩ => ⟨S4x1x2048, .f32⟩
  | .hbm, ⟨31, _⟩ => ⟨S4x1x2048, .f32⟩
  | .hbm, ⟨32, _⟩ => ⟨S4x4096x2048, .f32⟩
  | .hbm, ⟨33, _⟩ => ⟨S4x4096x2048, .f32⟩
  | .hbm, ⟨34, _⟩ => ⟨S4x1x2048, .f32⟩
  | .hbm, ⟨35, _⟩ => ⟨S4x4096x2048, .f32⟩
  | .hbm, ⟨36, _⟩ => ⟨S4x4096x2048, .f32⟩
  | .hbm, ⟨37, _⟩ => ⟨S4x4096x4096, .f32⟩
  | .hbm, ⟨38, _⟩ => ⟨S1x1x4096, .f32⟩
  | .hbm, ⟨39, _⟩ => ⟨S4x4096x4096, .f32⟩
  | .hbm, ⟨40, _⟩ => ⟨S4x4096x4096, .f32⟩
  | .hbm, ⟨41, _⟩ => ⟨S_, .f32⟩
  | .hbm, ⟨42, _⟩ => ⟨S4x4096x4096, .f32⟩
  | .hbm, ⟨43, _⟩ => ⟨S4x4096x4096, .f32⟩
  | .hbm, ⟨44, _⟩ => ⟨S4x4096x4096, .f32⟩
  | .hbm, ⟨45, _⟩ => ⟨S_, .f32⟩
  | .hbm, ⟨46, _⟩ => ⟨S4x4096x4096, .f32⟩
  | .hbm, ⟨47, _⟩ => ⟨S4x4096x4096, .f32⟩
  | .hbm, ⟨48, _⟩ => ⟨S4x4096x4096, .f32⟩
  | .hbm, ⟨49, _⟩ => ⟨S4x4096x4096, .f32⟩
  | .hbm, ⟨50, _⟩ => ⟨S4x4096x2048, .f32⟩
  | .hbm, ⟨51, _⟩ => ⟨S4x4096x2048, .f32⟩
  | .hbm, ⟨52, _⟩ => ⟨S_, .f32⟩
  | .hbm, ⟨53, _⟩ => ⟨S4x4096, .f32⟩
  | .hbm, ⟨54, _⟩ => ⟨S4x4096x1, .f32⟩
  | .hbm, ⟨55, _⟩ => ⟨S_, .f32⟩
  | .hbm, ⟨56, _⟩ => ⟨S4x4096x1, .f32⟩
  | .hbm, ⟨57, _⟩ => ⟨S4x4096x1, .f32⟩
  | .hbm, ⟨58, _⟩ => ⟨S4x4096x2048, .f32⟩
  | .hbm, ⟨59, _⟩ => ⟨S4x4096x2048, .f32⟩
  | .hbm, ⟨60, _⟩ => ⟨S4x4096x2048, .f32⟩
  | .hbm, ⟨61, _⟩ => ⟨S_, .f32⟩
  | .hbm, ⟨62, _⟩ => ⟨S4x4096, .f32⟩
  | .hbm, ⟨63, _⟩ => ⟨S4x4096x1, .f32⟩
  | .hbm, ⟨64, _⟩ => ⟨S_, .f32⟩
  | .hbm, ⟨65, _⟩ => ⟨S4x4096x1, .f32⟩
  | .hbm, ⟨66, _⟩ => ⟨S4x4096x1, .f32⟩
  | .hbm, ⟨67, _⟩ => ⟨S4x4096x2048, .f32⟩
  | .hbm, ⟨68, _⟩ => ⟨S4x4096x2048, .f32⟩
  | .hbm, ⟨69, _⟩ => ⟨S_, .f32⟩
  | .hbm, ⟨70, _⟩ => ⟨S4x4096x1, .f32⟩
  | .hbm, ⟨71, _⟩ => ⟨S4x4096x1, .f32⟩
  | .hbm, ⟨72, _⟩ => ⟨S4x4096x1, .f32⟩
  | .hbm, ⟨73, _⟩ => ⟨S4x4096x2048, .f32⟩
  | .hbm, ⟨74, _⟩ => ⟨S4x4096x2048, .f32⟩
  | .hbm, ⟨75, _⟩ => ⟨S1x1x2048, .f32⟩
  | .hbm, ⟨76, _⟩ => ⟨S4x4096x2048, .f32⟩
  | .hbm, ⟨77, _⟩ => ⟨S4x4096x2048, .f32⟩
  | .hbm, ⟨78, _⟩ => ⟨S1x1x2048, .f32⟩
  | .hbm, ⟨79, _⟩ => ⟨S4x4096x2048, .f32⟩
  | .hbm, ⟨80, _⟩ => ⟨S4x4096x2048, .f32⟩
  | .hbm, ⟨81, _⟩ => ⟨S16384x2048, .f32⟩
  | .hbm, ⟨82, _⟩ => ⟨S16384x2048, .bf16⟩
  | .hbm, ⟨83, _⟩ => ⟨S16384x2048, .f32⟩
  | .hbm, ⟨84, _⟩ => ⟨S16384x2048, .bf16⟩
  | .hbm, ⟨85, _⟩ => ⟨S1x2048x5632, .f32⟩
  | .hbm, ⟨86, _⟩ => ⟨S2048x5632, .f32⟩
  | .hbm, ⟨87, _⟩ => ⟨S2048x5632, .bf16⟩
  | .hbm, ⟨88, _⟩ => ⟨S1x2048x5632, .f32⟩
  | .hbm, ⟨89, _⟩ => ⟨S2048x5632, .f32⟩
  | .hbm, ⟨90, _⟩ => ⟨S2048x5632, .bf16⟩
  | .hbm, ⟨91, _⟩ => ⟨S1x5632x2048, .f32⟩
  | .hbm, ⟨92, _⟩ => ⟨S5632x2048, .f32⟩
  | .hbm, ⟨93, _⟩ => ⟨S5632x2048, .bf16⟩
  | .hbm, ⟨94, _⟩ => ⟨S2048x2048, .f32⟩
  | .hbm, ⟨95, _⟩ => ⟨S2048x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩

abbrev nD : Nat := 1
abbrev τ : Topo := Topo.v7x

variable {F : FTy → Type} [FloatOps F]
-- ==== Kernel6.lean ====
abbrev S4x4096x2048 : Shape := ⟨3, ![4, 4096, 2048]⟩
abbrev S16x128x128 : Shape := ⟨3, ![16, 128, 128]⟩
abbrev S16x128 : Shape := ⟨2, ![16, 128]⟩
abbrev S2048x2048 : Shape := ⟨2, ![2048, 2048]⟩
abbrev S4x2048 : Shape := ⟨2, ![4, 2048]⟩
abbrev S128x16 : Shape := ⟨2, ![128, 16]⟩
abbrev S128x16x128 : Shape := ⟨3, ![128, 16, 128]⟩
abbrev S128x2048 : Shape := ⟨2, ![128, 2048]⟩
abbrev S16384x2048 : Shape := ⟨2, ![16384, 2048]⟩
abbrev S4x1x2048 : Shape := ⟨3, ![4, 1, 2048]⟩
abbrev S512x2048 : Shape := ⟨2, ![512, 2048]⟩
abbrev S1x1x2048 : Shape := ⟨3, ![1, 1, 2048]⟩
abbrev S128x128 : Shape := ⟨2, ![128, 128]⟩
abbrev S1x128x128 : Shape := ⟨3, ![1, 128, 128]⟩
abbrev S128x512 : Shape := ⟨2, ![128, 512]⟩
abbrev S1x2048 : Shape := ⟨2, ![1, 2048]⟩

abbrev nBuf : Space → Nat
  | .hbm => 18
  | .vmem => 14
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x4096x2048, .f32⟩
  | .hbm, ⟨3, _⟩ => ⟨S16x128x128, .f32⟩
  | .hbm, ⟨4, _⟩ => ⟨S16x128, .f32⟩
  | .hbm, ⟨5, _⟩ => ⟨S2048x2048, .f32⟩
  | .hbm, ⟨6, _⟩ => ⟨S4x2048, .f32⟩
  | .hbm, ⟨7, _⟩ => ⟨S128x16, .f32⟩
  | .hbm, ⟨8, _⟩ => ⟨S128x16x128, .f32⟩
  | .hbm, ⟨9, _⟩ => ⟨S128x2048, .f32⟩
  | .hbm, ⟨10, _⟩ => ⟨S16384x2048, .f32⟩
  | .hbm, ⟨11, _⟩ => ⟨S4x4096x2048, .bf16⟩
  | .hbm, ⟨12, _⟩ => ⟨S16384x2048, .bf16⟩
  | .hbm, ⟨13, _⟩ => ⟨S4x4096x2048, .bf16⟩
  | .hbm, ⟨14, _⟩ => ⟨S16384x2048, .bf16⟩
  | .hbm, ⟨15, _⟩ => ⟨S2048x2048, .bf16⟩
  | .hbm, ⟨16, _⟩ => ⟨S4x1x2048, .f32⟩
  | .hbm, ⟨17, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S16x128x128, .f32⟩
  | .local _ .vmem, ⟨7, _⟩ => ⟨S128x2048, .f32⟩
  | .local _ .vmem, ⟨8, _⟩ => ⟨S2048x2048, .bf16⟩
  | .local _ .vmem, ⟨9, _⟩ => ⟨S1x1x2048, .f32⟩
  | .local _ .vmem, ⟨10, _⟩ => ⟨S1x1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S4x4096x2048 : Shape := ⟨3, ![4, 4096, 2048]⟩
abbrev S16x128x128 : Shape := ⟨3, ![16, 128, 128]⟩
abbrev S16x128 : Shape := ⟨2, ![16, 128]⟩
abbrev S2048x2048 : Shape := ⟨2, ![2048, 2048]⟩
abbrev S4x2048 : Shape := ⟨2, ![4, 2048]⟩
abbrev S_ : Shape := ⟨0, ![]⟩
abbrev S128x128 : Shape := ⟨2, ![128, 128]⟩
abbrev S1x128x128 : Shape := ⟨3, ![1, 128, 128]⟩
abbrev S4x32x128x16x128 : Shape := ⟨5, ![4, 32, 128, 16, 128]⟩
abbrev S16x4x32x128x128 : Shape := ⟨5, ![16, 4, 32, 128, 128]⟩
abbrev S128x16 : Shape := ⟨2, ![128, 16]⟩
abbrev S1x1x128x16x1 : Shape := ⟨5, ![1, 1, 128, 16, 1]⟩
abbrev S4x1x2048 : Shape := ⟨3, ![4, 1, 2048]⟩
abbrev S16384x2048 : Shape := ⟨2, ![16384, 2048]⟩

abbrev nBuf : Space → Nat
  | .hbm => 39
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x4096x2048, .f32⟩
  | .hbm, ⟨3, _⟩ => ⟨S16x128x128, .f32⟩
  | .hbm, ⟨4, _⟩ => ⟨S16x128, .f32⟩
  | .hbm, ⟨5, _⟩ => ⟨S2048x2048, .f32⟩
  | .hbm, ⟨6, _⟩ => ⟨S4x2048, .f32⟩
  | .hbm, ⟨7, _⟩ => ⟨S_, .i1⟩
  | .hbm, ⟨8, _⟩ => ⟨S128x128, .i1⟩
  | .hbm, ⟨9, _⟩ => ⟨S128x128, .i32⟩
  | .hbm, ⟨10, _⟩ => ⟨S_, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S128x128, .i1⟩
  | .hbm, ⟨15, _⟩ => ⟨S_, .i1⟩
  | .hbm, ⟨16, _⟩ => ⟨S128x128, .i1⟩
  | .hbm, ⟨17, _⟩ => ⟨S128x128, .i1⟩
  | .hbm, ⟨18, _⟩ => ⟨S1x128x128, .i1⟩
  | .hbm, ⟨19, _⟩ => ⟨S_, .i32⟩
  | .hbm, ⟨20, _⟩ => ⟨S_, .f32⟩
  | .hbm, ⟨21, _⟩ => ⟨S16x128x128, .i1⟩
  | .hbm, ⟨22, _⟩ => ⟨S16x128x128, .f32⟩
  | .hbm, ⟨23, _⟩ => ⟨S16x128x128, .f32⟩
  | .hbm, ⟨24, _⟩ => ⟨S4x32x128x16x128, .f32⟩
  | .hbm, ⟨25, _⟩ => ⟨S16x4x32x128x128, .f32⟩
  | .hbm, ⟨26, _⟩ => ⟨S4x32x128x16x128, .f32⟩
  | .hbm, ⟨27, _⟩ => ⟨S128x16, .f32⟩
  | .hbm, ⟨28, _⟩ => ⟨S1x1x128x16x1, .f32⟩
  | .hbm, ⟨29, _⟩ => ⟨S4x32x128x16x128, .f32⟩
  | .hbm, ⟨30, _⟩ => ⟨S4x32x128x16x128, .f32⟩
  | .hbm, ⟨31, _⟩ => ⟨S4x4096x2048, .f32⟩
  | .hbm, ⟨32, _⟩ => ⟨S4x4096x2048, .f32⟩
  | .hbm, ⟨33, _⟩ => ⟨S4x1x2048, .f32⟩
  | .hbm, ⟨34, _⟩ => ⟨S4x4096x2048, .f32⟩
  | .hbm, ⟨35, _⟩ => ⟨S4x4096x2048, .f32⟩
  | .hbm, ⟨36, _⟩ => ⟨S4x4096x2048, .f32⟩
  | .hbm, ⟨37, _⟩ => ⟨S4x4096x2048, .f32⟩
  | .hbm, ⟨38, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_0 : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩

abbrev nD : Nat := 1
abbrev τ : Topo := Topo.v7x

variable {F : FTy → Type} [FloatOps F]
-- ==== Kernel7.lean ====
abbrev S4x2048 : Shape := ⟨2, ![4, 2048]⟩
abbrev S2x2048x12288 : Shape := ⟨3, ![2, 2048, 12288]⟩
abbrev S2x12288 : Shape := ⟨2, ![2, 12288]⟩
abbrev S_ : Shape := ⟨0, ![]⟩
abbrev S8x2048 : Shape := ⟨2, ![8, 2048]⟩
abbrev S1 : Shape := ⟨1, ![1]⟩
abbrev S2x1x12288 : Shape := ⟨3, ![2, 1, 12288]⟩
abbrev S2x8x12288 : Shape := ⟨3, ![2, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2x2048x12288, .f32⟩
  | .hbm, ⟨2, _⟩ => ⟨S2x12288, .f32⟩
  | .hbm, ⟨3, _⟩ => ⟨S_, .f32⟩
  | .hbm, ⟨4, _⟩ => ⟨S8x2048, .f32⟩
  | .hbm, ⟨5, _⟩ => ⟨S_, .i32⟩
  | .hbm, ⟨6, _⟩ => ⟨S1, .i32⟩
  | .hbm, ⟨7, _⟩ => ⟨S8x2048, .f32⟩
  | .hbm, ⟨8, _⟩ => ⟨S2x1x12288, .f32⟩
  | .hbm, ⟨9, _⟩ => ⟨S2x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S4x2048 : Shape := ⟨2, ![4, 2048]⟩
abbrev S2x2048x12288 : Shape := ⟨3, ![2, 2048, 12288]⟩
abbrev S2x12288 : Shape := ⟨2, ![2, 12288]⟩
abbrev S_ : Shape := ⟨0, ![]⟩
abbrev S8x2048 : Shape := ⟨2, ![8, 2048]⟩
abbrev S1x2048x12288 : Shape := ⟨3, ![1, 2048, 12288]⟩
abbrev S2048x12288 : Shape := ⟨2, ![2048, 12288]⟩
abbrev S8x12288 : Shape := ⟨2, ![8, 12288]⟩
abbrev S1x12288 : Shape := ⟨2, ![1, 12288]⟩
abbrev S12288 : Shape := ⟨1, ![12288]⟩
abbrev S1x8x12288 : Shape := ⟨3, ![1, 8, 12288]⟩
abbrev S2x8x12288 : Shape := ⟨3, ![2, 8, 12288]⟩

abbrev nBuf : Space → Nat
  | .hbm => 34
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2x2048x12288, .f32⟩
  | .hbm, ⟨2, _⟩ => ⟨S2x12288, .f32⟩
  | .hbm, ⟨3, _⟩ => ⟨S_, .i32⟩
  | .hbm, ⟨4, _⟩ => ⟨S_, .f32⟩
  | .hbm, ⟨5, _⟩ => ⟨S8x2048, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S8x2048, .f32⟩
  | .hbm, ⟨15, _⟩ => ⟨S1x2048x12288, .f32⟩
  | .hbm, ⟨16, _⟩ => ⟨S2048x12288, .f32⟩
  | .hbm, ⟨17, _⟩ => ⟨S8x12288, .f32⟩
  | .hbm, ⟨18, _⟩ => ⟨S1x12288, .f32⟩
  | .hbm, ⟨19, _⟩ => ⟨S12288, .f32⟩
  | .hbm, ⟨20, _⟩ => ⟨S1x12288, .f32⟩
  | .hbm, ⟨21, _⟩ => ⟨S8x12288, .f32⟩
  | .hbm, ⟨22, _⟩ => ⟨S8x12288, .f32⟩
  | .hbm, ⟨23, _⟩ => ⟨S1x2048x12288, .f32⟩
  | .hbm, ⟨24, _⟩ => ⟨S2048x12288, .f32⟩
  | .hbm, ⟨25, _⟩ => ⟨S8x12288, .f32⟩
  | .hbm, ⟨26, _⟩ => ⟨S1x12288, .f32⟩
  | .hbm, ⟨27, _⟩ => ⟨S12288, .f32⟩
  | .hbm, ⟨28, _⟩ => ⟨S1x12288, .f32⟩
  | .hbm, ⟨29, _⟩ => ⟨S8x12288, .f32⟩
  | .hbm, ⟨30, _⟩ => ⟨S8x12288, .f32⟩
  | .hbm, ⟨31, _⟩ => ⟨S1x8x12288, .f32⟩
  | .hbm, ⟨32, _⟩ => ⟨S1x8x12288, .f32⟩
  | .hbm, ⟨33, _⟩ => ⟨S2x8x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_call1_v0 : Ref sig .tc := ⟨.hbm, 6, rfl⟩
abbrev main_call1_v1 : Ref sig .tc := ⟨.hbm, 7, rfl⟩
abbrev main_call1_cst : Ref sig .tc := ⟨.hbm, 8, rfl⟩
abbrev main_call1_v2 : Ref sig .tc := ⟨.hbm, 9, rfl⟩
abbrev main_call1_v3 : Ref sig .tc := ⟨.hbm, 10, rfl⟩
abbrev main_call1_cst_0 : Ref sig .tc := ⟨.hbm, 11, rfl⟩
abbrev main_call1_v4 : Ref sig .tc := ⟨.hbm, 12, rfl⟩
abbrev main_call1_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]
-- ==== Proof.Steps.lean ====
/-
  The two steps one head makes on one key block, as programs of their own: scoring a key block into a slot of the
  score scratch, and folding a slot into the running maximum, the running sum and the accumulator (`Steps`).
-/
module

public import proofs.«01_k».proof.Proof.Gen.KernelIdeal.Skeleton
public import proofs.«01_k».proof.Proof.Gen.KernelIdeal.Loops
public import Idealize.ShloMosaic.Lib.VecWindow
public import Idealize.ShloMosaic.Lib.Tactic

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F] [Named F]

local notation "𝕄" => MT nD τ sig Unit (Elt F) ℕ (UR sig nD τ) ℕ

/-- The memrefs the body is handed. -/
structure Refs where
  q : Memref sig .tc .vmem S1x1x512x512 .bf16
  qa : Memref sig .tc .vmem S1x4x512x128 .bf16
  k : Memref sig .tc .vmem S1x1x4096x512 .bf16
  ka : Memref sig .tc .vmem S1x4x4096x128 .bf16
  v : Memref sig .tc .vmem S1x1x4096x512 .bf16
  m : Memref sig .tc .vmem S4x1x512 .f32
  l : Memref sig .tc .vmem S4x1x512 .f32
  acc : Memref sig .tc .vmem S4x128x512 .f32
  st : Memref sig .tc .vmem S2x4x512x512 .f32
  mx : Memref sig .tc .vmem S2x4x1x512 .f32

/-- One head scores one key block into a slot: the scores, transposed (key by query), and each query's largest score. -/
def scoreInto (R : Refs) (qx : FVec F S512x256 .bf16)
    (ok : Fin 4 → ℕ) (hok : ∀ a, ok a + S1x1x512x128.size a ≤ S1x1x4096x512.size a)
    (oa : Fin 4 → ℕ) (hoa : ∀ a, oa a + S1x1x512x128.size a ≤ S1x4x4096x128.size a)
    (os : Fin 4 → ℕ) (hos : ∀ a, os a + S1x1x512x512.size a ≤ S2x4x512x512.size a)
    (hox : ∀ a, os a + S1x1x1x512.size a ≤ S2x4x1x512.size a) :
    Prog (TpuEff nD τ sig (Elt F) Λ₀ .tc) PUnit := do
  let kb : Vec F S1x1x512x128 .bf16 ← Prog.lift (.load R.k (Rect.unit (s := S1x1x4096x512) ok S1x1x512x128.size hok).toLoadRect (View.loadsAt_vmem h_S1x1x512x128))
  let ab : Vec F S1x1x512x128 .bf16 ← Prog.lift (.load R.ka (Rect.unit (s := S1x4x4096x128) oa S1x1x512x128.size hoa).toLoadRect (View.loadsAt_vmem h_S1x1x512x128))
  let _ : Vec F S1x1x512x512 .f32 ← Prog.lift (.load R.st (Rect.unit (s := S2x4x512x512) os S1x1x512x512.size hos).toLoadRect (View.loadsAt_vmem h_S1x1x512x512))
  Prog.lift (.store R.st (Rect.unit (s := S2x4x512x512) os S1x1x512x512.size hos) (k0_pay3 qx kb ab) Finset.univ (View.stores_vmem_bits_univ h_S1x1x512x512 rfl) (.inl rfl))
  let _ : Vec F S1x1x1x512 .f32 ← Prog.lift (.load R.mx (Rect.unit (s := S2x4x1x512) os S1x1x1x512.size hox).toLoadRect (View.loadsAt_vmem h_S1x1x1x512))
  Prog.lift (.store R.mx (Rect.unit (s := S2x4x1x512) os S1x1x1x512.size hox) (k0_pay4 qx kb ab) Finset.univ (View.stores_vmem_bits_univ h_S1x1x1x512 rfl) (.inl rfl))

/-- One head folds a slot into its running maximum, sum and accumulator. -/
def update (R : Refs) (ones : FVec F S16x512 .bf16)
    (ov : Fin 4 → ℕ) (hov : ∀ a, ov a + S1x1x512x128.size a ≤ S1x1x4096x512.size a)
    (os : Fin 4 → ℕ) (hos : ∀ a, os a + S1x1x512x512.size a ≤ S2x4x512x512.size a)
    (hox : ∀ a, os a + S1x1x1x512.size a ≤ S2x4x1x512.size a)
    (oh : Fin 3 → ℕ) (hoh : ∀ a, oh a + S1x1x512.size a ≤ S4x1x512.size a)
    (hoc : ∀ a, oh a + S1x128x512.size a ≤ S4x128x512.size a) :
    Prog (TpuEff nD τ sig (Elt F) Λ₀ .tc) PUnit := do
  let s : Vec F S1x1x512x512 .f32 ← Prog.lift (.load R.st (Rect.unit (s := S2x4x512x512) os S1x1x512x512.size hos).toLoadRect (View.loadsAt_vmem h_S1x1x512x512))
  let x : Vec F S1x1x1x512 .f32 ← Prog.lift (.load R.mx (Rect.unit (s := S2x4x1x512) os S1x1x1x512.size hox).toLoadRect (View.loadsAt_vmem h_S1x1x1x512))
  let mo : Vec F S1x1x512 .f32 ← Prog.lift (.load R.m (Rect.unit (s := S4x1x512) oh S1x1x512.size hoh).toLoadRect (View.loadsAt_vmem h_S1x1x512))
  let _ : Vec F S1x1x512 .f32 ← Prog.lift (.load R.m (Rect.unit (s := S4x1x512) oh S1x1x512.size hoh).toLoadRect (View.loadsAt_vmem h_S1x1x512))
  Prog.lift (.store R.m (Rect.unit (s := S4x1x512) oh S1x1x512.size hoh) (k0_pay10 (k0_pay6 x) mo) Finset.univ (View.stores_vmem_bits_univ h_S1x1x512 rfl) (.inl rfl))
  let vb : Vec F S1x1x512x128 .bf16 ← Prog.lift (.load R.v (Rect.unit (s := S1x1x4096x512) ov S1x1x512x128.size hov).toLoadRect (View.loadsAt_vmem h_S1x1x512x128))
  let lo : Vec F S1x1x512 .f32 ← Prog.lift (.load R.l (Rect.unit (s := S4x1x512) oh S1x1x512.size hoh).toLoadRect (View.loadsAt_vmem h_S1x1x512))
  let _ : Vec F S1x1x512 .f32 ← Prog.lift (.load R.l (Rect.unit (s := S4x1x512) oh S1x1x512.size hoh).toLoadRect (View.loadsAt_vmem h_S1x1x512))
  Prog.lift (.store R.l (Rect.unit (s := S4x1x512) oh S1x1x512.size hoh) (k0_pay12 ones (k0_pay5 s) (k0_pay6 x) mo vb lo) Finset.univ (View.stores_vmem_bits_univ h_S1x1x512 rfl) (.inl rfl))
  let ao : Vec F S1x128x512 .f32 ← Prog.lift (.load R.acc (Rect.unit (s := S4x128x512) oh S1x128x512.size hoc).toLoadRect (View.loadsAt_vmem h_S1x128x512))
  let _ : Vec F S1x128x512 .f32 ← Prog.lift (.load R.acc (Rect.unit (s := S4x128x512) oh S1x128x512.size hoc).toLoadRect (View.loadsAt_vmem h_S1x128x512))
  Prog.lift (.store R.acc (Rect.unit (s := S4x128x512) oh S1x128x512.size hoc) (k0_pay13 ones (k0_pay5 s) (k0_pay6 x) mo vb ao) Finset.univ (View.stores_vmem_bits_univ h_S1x128x512 rfl) (.inl rfl))

/-- The same fold on the diagonal block, the scores masked first. -/
def updateMasked (R : Refs) (mask : IVec S512x512 1) (ones : FVec F S16x512 .bf16)
    (ov : Fin 4 → ℕ) (hov : ∀ a, ov a + S1x1x512x128.size a ≤ S1x1x4096x512.size a)
    (os : Fin 4 → ℕ) (hos : ∀ a, os a + S1x1x512x512.size a ≤ S2x4x512x512.size a)
    (oh : Fin 3 → ℕ) (hoh : ∀ a, oh a + S1x1x512.size a ≤ S4x1x512.size a)
    (hoc : ∀ a, oh a + S1x128x512.size a ≤ S4x128x512.size a) :
    Prog (TpuEff nD τ sig (Elt F) Λ₀ .tc) PUnit := do
  let s : Vec F S1x1x512x512 .f32 ← Prog.lift (.load R.st (Rect.unit (s := S2x4x512x512) os S1x1x512x512.size hos).toLoadRect (View.loadsAt_vmem h_S1x1x512x512))
  let mo : Vec F S1x1x512 .f32 ← Prog.lift (.load R.m (Rect.unit (s := S4x1x512) oh S1x1x512.size hoh).toLoadRect (View.loadsAt_vmem h_S1x1x512))
  let _ : Vec F S1x1x512 .f32 ← Prog.lift (.load R.m (Rect.unit (s := S4x1x512) oh S1x1x512.size hoh).toLoadRect (View.loadsAt_vmem h_S1x1x512))
  Prog.lift (.store R.m (Rect.unit (s := S4x1x512) oh S1x1x512.size hoh) (k0_pay212 mask s mo) Finset.univ (View.stores_vmem_bits_univ h_S1x1x512 rfl) (.inl rfl))
  let vb : Vec F S1x1x512x128 .bf16 ← Prog.lift (.load R.v (Rect.unit (s := S1x1x4096x512) ov S1x1x512x128.size hov).toLoadRect (View.loadsAt_vmem h_S1x1x512x128))
  let lo : Vec F S1x1x512 .f32 ← Prog.lift (.load R.l (Rect.unit (s := S4x1x512) oh S1x1x512.size hoh).toLoadRect (View.loadsAt_vmem h_S1x1x512))
  let _ : Vec F S1x1x512 .f32 ← Prog.lift (.load R.l (Rect.unit (s := S4x1x512) oh S1x1x512.size hoh).toLoadRect (View.loadsAt_vmem h_S1x1x512))
  Prog.lift (.store R.l (Rect.unit (s := S4x1x512) oh S1x1x512.size hoh) (k0_pay214 ones (k0_pay210 mask s mo) (k0_pay211 mask s mo) vb lo) Finset.univ (View.stores_vmem_bits_univ h_S1x1x512 rfl) (.inl rfl))
  let ao : Vec F S1x128x512 .f32 ← Prog.lift (.load R.acc (Rect.unit (s := S4x128x512) oh S1x128x512.size hoc).toLoadRect (View.loadsAt_vmem h_S1x128x512))
  let _ : Vec F S1x128x512 .f32 ← Prog.lift (.load R.acc (Rect.unit (s := S4x128x512) oh S1x128x512.size hoc).toLoadRect (View.loadsAt_vmem h_S1x128x512))
  Prog.lift (.store R.acc (Rect.unit (s := S4x128x512) oh S1x128x512.size hoc) (k0_pay215 ones (k0_pay210 mask s mo) (k0_pay211 mask s mo) vb ao) Finset.univ (View.stores_vmem_bits_univ h_S1x128x512 rfl) (.inl rfl))

end Cert.KernelIdeal.Att

end
-- ==== Proof.Triples.lean ====
/-
  What the two steps do to the buffers, head by head. `Head` is what one head keeps; `Held` says that the ten buffers hold
  it; `score_triple`, `fold_triple` and `foldMasked_triple` are the steps' effects on it.
-/
module

public import proofs.«01_k».proof.Proof.Steps

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F] [Named F]

local notation "𝕄" => MT nD τ sig Unit (Elt F) ℕ (UR sig nD τ) ℕ

/-- What one head keeps: its running maximum, sum and accumulator, and in two slots a block of scores with their maxima. -/
structure Head (F : FTy → Type) where
  m : Vec F S1x1x512 .f32
  l : Vec F S1x1x512 .f32
  acc : Vec F S1x128x512 .f32
  st : Fin 2 → Vec F S1x1x512x512 .f32
  mx : Fin 2 → Vec F S1x1x1x512 .f32

/-- A key block scored into slot `b`. -/
def Head.score (b : Fin 2) (qx : FVec F S512x256 .bf16) (kb ab : Vec F S1x1x512x128 .bf16) (H : Head F) : Head F :=
  { H with st := Function.update H.st b (k0_pay3 qx kb ab), mx := Function.update H.mx b (k0_pay4 qx kb ab) }

/-- Slot `b` folded into the running values. -/
def Head.fold (b : Fin 2) (ones : FVec F S16x512 .bf16) (vb : Vec F S1x1x512x128 .bf16) (H : Head F) : Head F :=
  { H with
    m := k0_pay10 (k0_pay6 (H.mx b)) H.m
    l := k0_pay12 ones (k0_pay5 (H.st b)) (k0_pay6 (H.mx b)) H.m vb H.l
    acc := k0_pay13 ones (k0_pay5 (H.st b)) (k0_pay6 (H.mx b)) H.m vb H.acc }

/-- Slot `b`, masked, folded into the running values. -/
def Head.foldMasked (b : Fin 2) (mask : IVec S512x512 1) (ones : FVec F S16x512 .bf16) (vb : Vec F S1x1x512x128 .bf16)
    (H : Head F) : Head F :=
  { H with
    m := k0_pay212 mask (H.st b) H.m
    l := k0_pay214 ones (k0_pay210 mask (H.st b) H.m) (k0_pay211 mask (H.st b) H.m) vb H.l
    acc := k0_pay215 ones (k0_pay210 mask (H.st b) H.m) (k0_pay211 mask (H.st b) H.m) vb H.acc }

theorem row_in (h : Fin 4) : ∀ a, (![h.val, 0, 0] : Fin 3 → ℕ) a + S1x1x512.size a ≤ S4x1x512.size a := by
  revert h; decide
theorem acc_in (h : Fin 4) : ∀ a, (![h.val, 0, 0] : Fin 3 → ℕ) a + S1x128x512.size a ≤ S4x128x512.size a := by
  revert h; decide
theorem st_in (b : Fin 2) (h : Fin 4) : ∀ a, (![b.val, h.val, 0, 0] : Fin 4 → ℕ) a + S1x1x512x512.size a ≤ S2x4x512x512.size a := by
  revert b h; decide
theorem mx_in (b : Fin 2) (h : Fin 4) : ∀ a, (![b.val, h.val, 0, 0] : Fin 4 → ℕ) a + S1x1x1x512.size a ≤ S2x4x1x512.size a := by
  revert b h; decide
theorem kblk_in (j : Fin 8) (h : Fin 4) : ∀ a, (![0, 0, 512 * j.val, 128 * h.val] : Fin 4 → ℕ) a + S1x1x512x128.size a ≤ S1x1x4096x512.size a := by
  revert j h; decide
theorem ablk_in (j : Fin 8) (h : Fin 4) : ∀ a, (![0, h.val, 512 * j.val, 0] : Fin 4 → ℕ) a + S1x1x512x128.size a ≤ S1x4x4096x128.size a := by
  revert j h; decide

/-- Key block `j` of head `h`, of the keys (and of the values). -/
def kblk (K : Vec F S1x1x4096x512 .bf16) (j : Fin 8) (h : Fin 4) : Vec F S1x1x512x128 .bf16 :=
  window K ![0, 0, 512 * j.val, 128 * h.val] S1x1x512x128.size (kblk_in j h)

/-- Key block `j` of head `h`, of the keys' bias lanes. -/
def ablk (A : Vec F S1x4x4096x128 .bf16) (j : Fin 8) (h : Fin 4) : Vec F S1x1x512x128 .bf16 :=
  window A ![0, h.val, 512 * j.val, 0] S1x1x512x128.size (ablk_in j h)

/-- The running maxima (or sums), a row for each head. -/
def HeldM (c : Dev nD) (m : Memref sig .tc .vmem S4x1x512 .f32) (g : Fin 4 → Vec F S1x1x512 .f32) : sProp 𝕄 :=
  iprop(∃ f, ⌜∀ h : Fin 4, window (m.view.read (Elt F) f) ![h.val, 0, 0] S1x1x512.size (row_in h) = g h⌝ ∗
    (m.view.loc (c : Thread nD τ) ↦[m.view.set]{fullShare} f))

/-- The accumulators, a block for each head. -/
def HeldA (c : Dev nD) (m : Memref sig .tc .vmem S4x128x512 .f32) (g : Fin 4 → Vec F S1x128x512 .f32) : sProp 𝕄 :=
  iprop(∃ f, ⌜∀ h : Fin 4, window (m.view.read (Elt F) f) ![h.val, 0, 0] S1x128x512.size (acc_in h) = g h⌝ ∗
    (m.view.loc (c : Thread nD τ) ↦[m.view.set]{fullShare} f))

/-- The scores, two slots for each head. -/
def HeldS (c : Dev nD) (m : Memref sig .tc .vmem S2x4x512x512 .f32) (g : Fin 4 → Fin 2 → Vec F S1x1x512x512 .f32) : sProp 𝕄 :=
  iprop(∃ f, ⌜∀ (b : Fin 2) (h : Fin 4), window (m.view.read (Elt F) f) ![b.val, h.val, 0, 0] S1x1x512x512.size (st_in b h) = g h b⌝ ∗
    (m.view.loc (c : Thread nD τ) ↦[m.view.set]{fullShare} f))

/-- The scores' maxima, two slots for each head. -/
def HeldX (c : Dev nD) (m : Memref sig .tc .vmem S2x4x1x512 .f32) (g : Fin 4 → Fin 2 → Vec F S1x1x1x512 .f32) : sProp 𝕄 :=
  iprop(∃ f, ⌜∀ (b : Fin 2) (h : Fin 4), window (m.view.read (Elt F) f) ![b.val, h.val, 0, 0] S1x1x1x512.size (mx_in b h) = g h b⌝ ∗
    (m.view.loc (c : Thread nD τ) ↦[m.view.set]{fullShare} f))

/-- An input buffer that holds the values `X`. -/
def HeldI (c : Dev nD) {s : Shape} {e : EltTy} (m : Memref sig .tc .vmem s e) (X : Vec F s e) : sProp 𝕄 :=
  iprop(∃ f, ⌜m.view.read (Elt F) f = X⌝ ∗ (m.view.loc (c : Thread nD τ) ↦[m.view.set]{fullShare} f))

/-- The eight buffers the key loop touches: keys, their bias lanes and values as given, and what each head keeps. -/
def Held (c : Dev nD) (R : Refs) (K : Vec F S1x1x4096x512 .bf16) (A : Vec F S1x4x4096x128 .bf16) (V : Vec F S1x1x4096x512 .bf16)
    (σ : Fin 4 → Head F) : sProp 𝕄 :=
  iprop(HeldI c R.k K ∗ HeldI c R.ka A ∗ HeldI c R.v V ∗ HeldM c R.m (fun h => (σ h).m) ∗ HeldM c R.l (fun h => (σ h).l) ∗
    HeldA c R.acc (fun h => (σ h).acc) ∗ HeldS c R.st (fun h => (σ h).st) ∗ HeldX c R.mx (fun h => (σ h).mx))

/-- Program `p` takes what the heads keep from `σ` to `g σ`. -/
def Runs (c : Dev nD) (R : Refs) (K : Vec F S1x1x4096x512 .bf16) (A : Vec F S1x4x4096x128 .bf16) (V : Vec F S1x1x4096x512 .bf16)
    (p : Prog (TpuEff nD τ sig (Elt F) Λ₀ .tc) PUnit) (g : (Fin 4 → Head F) → (Fin 4 → Head F)) : Prop :=
  ∀ (σ : Fin 4 → Head F) (Q : PUnit → sProp 𝕄),
    iprop(Held c R K A V σ ∗ (Held c R K A V (g σ) -∗ Q ⟨⟩)) ⊢ wp frame (wpE (defs₀ (F := F)) Variants.none c none) Set.univ p Q

theorem Runs.bind {c : Dev nD} {R : Refs} {K : Vec F S1x1x4096x512 .bf16} {A : Vec F S1x4x4096x128 .bf16} {V : Vec F S1x1x4096x512 .bf16}
    {p p' : Prog (TpuEff nD τ sig (Elt F) Λ₀ .tc) PUnit} {g g' : (Fin 4 → Head F) → (Fin 4 → Head F)}
    (h : Runs c R K A V p g) (h' : Runs c R K A V p' g') : Runs c R K A V (p >>= fun _ => p') (fun σ => g' (g σ)) := by
  intro σ Q
  rw [wp_bind]
  iintro ⟨H, HQ⟩
  iapply (h σ _)
  isplitl [H]; · iexact H
  iintro H
  iapply (h' (g σ) Q)
  isplitl [H]; · iexact H
  iexact HQ

theorem put_row (f : Vec F S4x1x512 .f32) (g : Fin 4 → Vec F S1x1x512 .f32) (hf : ∀ h : Fin 4, window f ![h.val, 0, 0] S1x1x512.size (row_in h) = g h)
    (h₀ : Fin 4) (w : Vec F S1x1x512 .f32) (h : Fin 4) :
    window (put f ![h₀.val, 0, 0] S1x1x512.size w) ![h.val, 0, 0] S1x1x512.size (row_in h) = Function.update g h₀ w h := by
  by_cases e : h = h₀
  · subst e; rw [Function.update_self]; exact window_put_same f _ _ (row_in h) w
  · rw [Function.update_of_ne e, ← hf]
    exact window_put_of_disjoint f _ _ _ _ _ w 0 (by
      have : h.val ≠ h₀.val := fun he => e (Fin.ext he)
      show h.val + 1 ≤ h₀.val ∨ h₀.val + 1 ≤ h.val
      omega)

theorem put_acc (f : Vec F S4x128x512 .f32) (g : Fin 4 → Vec F S1x128x512 .f32) (hf : ∀ h : Fin 4, window f ![h.val, 0, 0] S1x128x512.size (acc_in h) = g h)
    (h₀ : Fin 4) (w : Vec F S1x128x512 .f32) (h : Fin 4) :
    window (put f ![h₀.val, 0, 0] S1x128x512.size w) ![h.val, 0, 0] S1x128x512.size (acc_in h) = Function.update g h₀ w h := by
  by_cases e : h = h₀
  · subst e; rw [Function.update_self]; exact window_put_same f _ _ (acc_in h) w
  · rw [Function.update_of_ne e, ← hf]
    exact window_put_of_disjoint f _ _ _ _ _ w 0 (by
      have : h.val ≠ h₀.val := fun he => e (Fin.ext he)
      show h.val + 1 ≤ h₀.val ∨ h₀.val + 1 ≤ h.val
      omega)

theorem put_st (f : Vec F S2x4x512x512 .f32) (g : Fin 4 → Fin 2 → Vec F S1x1x512x512 .f32)
    (hf : ∀ (b : Fin 2) (h : Fin 4), window f ![b.val, h.val, 0, 0] S1x1x512x512.size (st_in b h) = g h b)
    (b₀ : Fin 2) (h₀ : Fin 4) (w : Vec F S1x1x512x512 .f32) (b : Fin 2) (h : Fin 4) :
    window (put f ![b₀.val, h₀.val, 0, 0] S1x1x512x512.size w) ![b.val, h.val, 0, 0] S1x1x512x512.size (st_in b h)
      = Function.update g h₀ (Function.update (g h₀) b₀ w) h b := by
  by_cases e : h = h₀
  · subst e; rw [Function.update_self]
    by_cases e' : b = b₀
    · subst e'; rw [Function.update_self]; exact window_put_same f _ _ (st_in b h) w
    · rw [Function.update_of_ne e', ← hf]
      exact window_put_of_disjoint f _ _ _ _ _ w 0 (by
        have : b.val ≠ b₀.val := fun he => e' (Fin.ext he)
        show b.val + 1 ≤ b₀.val ∨ b₀.val + 1 ≤ b.val
        omega)
  · rw [Function.update_of_ne e, ← hf]
    exact window_put_of_disjoint f _ _ _ _ _ w 1 (by
      have : h.val ≠ h₀.val := fun he => e (Fin.ext he)
      show h.val + 1 ≤ h₀.val ∨ h₀.val + 1 ≤ h.val
      omega)

theorem put_mx (f : Vec F S2x4x1x512 .f32) (g : Fin 4 → Fin 2 → Vec F S1x1x1x512 .f32)
    (hf : ∀ (b : Fin 2) (h : Fin 4), window f ![b.val, h.val, 0, 0] S1x1x1x512.size (mx_in b h) = g h b)
    (b₀ : Fin 2) (h₀ : Fin 4) (w : Vec F S1x1x1x512 .f32) (b : Fin 2) (h : Fin 4) :
    window (put f ![b₀.val, h₀.val, 0, 0] S1x1x1x512.size w) ![b.val, h.val, 0, 0] S1x1x1x512.size (mx_in b h)
      = Function.update g h₀ (Function.update (g h₀) b₀ w) h b := by
  by_cases e : h = h₀
  · subst e; rw [Function.update_self]
    by_cases e' : b = b₀
    · subst e'; rw [Function.update_self]; exact window_put_same f _ _ (mx_in b h) w
    · rw [Function.update_of_ne e', ← hf]
      exact window_put_of_disjoint f _ _ _ _ _ w 0 (by
        have : b.val ≠ b₀.val := fun he => e' (Fin.ext he)
        show b.val + 1 ≤ b₀.val ∨ b₀.val + 1 ≤ b.val
        omega)
  · rw [Function.update_of_ne e, ← hf]
    exact window_put_of_disjoint f _ _ _ _ _ w 1 (by
      have : h.val ≠ h₀.val := fun he => e (Fin.ext he)
      show h.val + 1 ≤ h₀.val ∨ h₀.val + 1 ≤ h.val
      omega)

end Cert.KernelIdeal.Att

end
-- ==== Proof.Triples2.lean ====
/-
  The effects of the three steps (`score_runs`, `fold_runs`, `foldMasked_runs`).
-/
module

public import proofs.«01_k».proof.Proof.Triples

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F] [Named F]

local notation "𝕄" => MT nD τ sig Unit (Elt F) ℕ (UR sig nD τ) ℕ

variable {c : Dev nD} {R : Refs} {K : Vec F S1x1x4096x512 .bf16} {A : Vec F S1x4x4096x128 .bf16} {V : Vec F S1x1x4096x512 .bf16}

theorem upd_eq {α β : Type} (σ : Fin 4 → α) (p : α → β) (h : Fin 4) (x : α) :
    (fun i => p (Function.update σ h x i)) = Function.update (fun i => p (σ i)) h (p x) := by
  funext i
  by_cases e : i = h
  · subst e; simp
  · simp [e]

theorem upd_id {α β : Type} (σ : Fin 4 → α) (p : α → β) (h : Fin 4) (x : α) (hx : p x = p (σ h)) :
    (fun i => p (Function.update σ h x i)) = fun i => p (σ i) := by
  rw [upd_eq, hx]; exact Function.update_eq_self h _

theorem score_runs (qx : FVec F S512x256 .bf16) (b : Fin 2) (h : Fin 4) (j : Fin 8)
    (ok : Fin 4 → ℕ) (hok : ∀ a, ok a + S1x1x512x128.size a ≤ S1x1x4096x512.size a) (eok : ok = ![0, 0, 512 * j.val, 128 * h.val])
    (oa : Fin 4 → ℕ) (hoa : ∀ a, oa a + S1x1x512x128.size a ≤ S1x4x4096x128.size a) (eoa : oa = ![0, h.val, 512 * j.val, 0])
    (os : Fin 4 → ℕ) (hos : ∀ a, os a + S1x1x512x512.size a ≤ S2x4x512x512.size a)
    (hox : ∀ a, os a + S1x1x1x512.size a ≤ S2x4x1x512.size a) (eos : os = ![b.val, h.val, 0, 0]) :
    Runs c R K A V (scoreInto R qx ok hok oa hoa os hos hox)
      (fun σ => Function.update σ h ((σ h).score b qx (kblk K j h) (ablk A j h))) := by
  intro σ Q
  show iprop(Held c R K A V σ ∗ (Held c R K A V (Function.update σ h ((σ h).score b qx (kblk K j h) (ablk A j h))) -∗ Q ⟨⟩)) ⊢ _
  unfold Held
  rw [upd_id σ Head.m h ((σ h).score b qx (kblk K j h) (ablk A j h)) rfl, upd_id σ Head.l h ((σ h).score b qx (kblk K j h) (ablk A j h)) rfl, upd_id σ Head.acc h ((σ h).score b qx (kblk K j h) (ablk A j h)) rfl, upd_eq σ Head.st h ((σ h).score b qx (kblk K j h) (ablk A j h)), upd_eq σ Head.mx h ((σ h).score b qx (kblk K j h) (ablk A j h))]
  unfold scoreInto HeldI HeldM HeldA HeldS HeldX
  iintro ⟨⟨⟨%fk, %ek, Hk⟩, ⟨%fa, %ea, Ha⟩, Hv, Hm, Hl, Hacc, ⟨%fs, %es, Hs⟩, ⟨%fx, %ex, Hx⟩⟩, HQ⟩
  sl_exec
  sl_step
  iapply HQ
  isplitl [Hk]
  · iexists fk
    isplitr; · ipureintro; exact ek
    iexact Hk
  isplitl [Ha]
  · iexists fa
    isplitr; · ipureintro; exact ea
    iexact Ha
  isplitl [Hv]; · iexact Hv
  isplitl [Hm]; · iexact Hm
  isplitl [Hl]; · iexact Hl
  isplitl [Hacc]; · iexact Hacc
  rw [View.readAt_unit _ fk hok eok (kblk_in j h), View.readAt_unit _ fa hoa eoa (ablk_in j h), ek, ea]
  isplitl [Hs]
  · iexists _
    isplitr
    swap
    · iexact Hs
    ipureintro
    intro b' h'
    rw [View.read_writes_cons_put _ _ hos _ _ eos, View.writes_nil]
    exact put_st _ (fun h => (σ h).st) es b h _ b' h'
  · iexists _
    isplitr
    swap
    · iexact Hx
    ipureintro
    intro b' h'
    rw [View.read_writes_cons_put _ _ hox _ _ eos, View.writes_nil]
    exact put_mx _ (fun h => (σ h).mx) ex b h _ b' h'

set_option maxHeartbeats 1000000 in
theorem fold_runs (ones : FVec F S16x512 .bf16) (b : Fin 2) (h : Fin 4) (j : Fin 8)
    (ov : Fin 4 → ℕ) (hov : ∀ a, ov a + S1x1x512x128.size a ≤ S1x1x4096x512.size a) (eov : ov = ![0, 0, 512 * j.val, 128 * h.val])
    (os : Fin 4 → ℕ) (hos : ∀ a, os a + S1x1x512x512.size a ≤ S2x4x512x512.size a)
    (hox : ∀ a, os a + S1x1x1x512.size a ≤ S2x4x1x512.size a) (eos : os = ![b.val, h.val, 0, 0])
    (oh : Fin 3 → ℕ) (hoh : ∀ a, oh a + S1x1x512.size a ≤ S4x1x512.size a)
    (hoc : ∀ a, oh a + S1x128x512.size a ≤ S4x128x512.size a) (eoh : oh = ![h.val, 0, 0]) :
    Runs c R K A V (update R ones ov hov os hos hox oh hoh hoc)
      (fun σ => Function.update σ h ((σ h).fold b ones (kblk V j h))) := by
  intro σ Q
  show iprop(Held c R K A V σ ∗ (Held c R K A V (Function.update σ h ((σ h).fold b ones (kblk V j h))) -∗ Q ⟨⟩)) ⊢ _
  unfold Held
  rw [upd_id σ Head.st h ((σ h).fold b ones (kblk V j h)) rfl, upd_id σ Head.mx h ((σ h).fold b ones (kblk V j h)) rfl, upd_eq σ Head.m h ((σ h).fold b ones (kblk V j h)), upd_eq σ Head.l h ((σ h).fold b ones (kblk V j h)), upd_eq σ Head.acc h ((σ h).fold b ones (kblk V j h))]
  unfold update HeldI HeldM HeldA HeldS HeldX
  iintro ⟨⟨Hk, Ha, ⟨%fv, %ev, Hv⟩, ⟨%fm, %em, Hm⟩, ⟨%fl, %el, Hl⟩, ⟨%fc, %ec, Hc⟩, ⟨%fs, %es, Hs⟩, ⟨%fx, %ex, Hx⟩⟩, HQ⟩
  sl_exec
  sl_step
  iapply HQ
  isplitl [Hk]; · iexact Hk
  isplitl [Ha]; · iexact Ha
  rw [View.readAt_unit _ fv hov eov (kblk_in j h), View.readAt_unit _ fs hos eos (st_in b h), View.readAt_unit _ fx hox eos (mx_in b h),
    View.readAt_unit _ fm hoh eoh (row_in h), View.readAt_unit _ fl hoh eoh (row_in h), View.readAt_unit _ fc hoc eoh (acc_in h),
    ev, es, ex, em, el, ec]
  isplitl [Hv]
  · iexists fv
    isplitr; · ipureintro; exact ev
    iexact Hv
  isplitl [Hm]
  · iexists _
    isplitr
    swap
    · iexact Hm
    ipureintro
    intro h'
    rw [View.read_writes_cons_put _ _ hoh _ _ eoh, View.writes_nil]
    exact put_row _ (fun h => (σ h).m) em h _ h'
  isplitl [Hl]
  · iexists _
    isplitr
    swap
    · iexact Hl
    ipureintro
    intro h'
    rw [View.read_writes_cons_put _ _ hoh _ _ eoh, View.writes_nil]
    exact put_row _ (fun h => (σ h).l) el h _ h'
  isplitl [Hc]
  · iexists _
    isplitr
    swap
    · iexact Hc
    ipureintro
    intro h'
    rw [View.read_writes_cons_put _ _ hoc _ _ eoh, View.writes_nil]
    exact put_acc _ (fun h => (σ h).acc) ec h _ h'
  isplitl [Hs]
  · iexists fs
    isplitr; · ipureintro; exact es
    iexact Hs
  · iexists fx
    isplitr; · ipureintro; exact ex
    iexact Hx

set_option maxHeartbeats 1000000 in
theorem foldMasked_runs (mask : IVec S512x512 1) (ones : FVec F S16x512 .bf16) (b : Fin 2) (h : Fin 4) (j : Fin 8)
    (ov : Fin 4 → ℕ) (hov : ∀ a, ov a + S1x1x512x128.size a ≤ S1x1x4096x512.size a) (eov : ov = ![0, 0, 512 * j.val, 128 * h.val])
    (os : Fin 4 → ℕ) (hos : ∀ a, os a + S1x1x512x512.size a ≤ S2x4x512x512.size a) (eos : os = ![b.val, h.val, 0, 0])
    (oh : Fin 3 → ℕ) (hoh : ∀ a, oh a + S1x1x512.size a ≤ S4x1x512.size a)
    (hoc : ∀ a, oh a + S1x128x512.size a ≤ S4x128x512.size a) (eoh : oh = ![h.val, 0, 0]) :
    Runs c R K A V (updateMasked R mask ones ov hov os hos oh hoh hoc)
      (fun σ => Function.update σ h ((σ h).foldMasked b mask ones (kblk V j h))) := by
  intro σ Q
  show iprop(Held c R K A V σ ∗ (Held c R K A V (Function.update σ h ((σ h).foldMasked b mask ones (kblk V j h))) -∗ Q ⟨⟩)) ⊢ _
  unfold Held
  rw [upd_id σ Head.st h ((σ h).foldMasked b mask ones (kblk V j h)) rfl, upd_id σ Head.mx h ((σ h).foldMasked b mask ones (kblk V j h)) rfl, upd_eq σ Head.m h ((σ h).foldMasked b mask ones (kblk V j h)), upd_eq σ Head.l h ((σ h).foldMasked b mask ones (kblk V j h)), upd_eq σ Head.acc h ((σ h).foldMasked b mask ones (kblk V j h))]
  unfold updateMasked HeldI HeldM HeldA HeldS HeldX
  iintro ⟨⟨Hk, Ha, ⟨%fv, %ev, Hv⟩, ⟨%fm, %em, Hm⟩, ⟨%fl, %el, Hl⟩, ⟨%fc, %ec, Hc⟩, ⟨%fs, %es, Hs⟩, Hx⟩, HQ⟩
  sl_exec
  sl_step
  iapply HQ
  isplitl [Hk]; · iexact Hk
  isplitl [Ha]; · iexact Ha
  rw [View.readAt_unit _ fv hov eov (kblk_in j h), View.readAt_unit _ fs hos eos (st_in b h),
    View.readAt_unit _ fm hoh eoh (row_in h), View.readAt_unit _ fl hoh eoh (row_in h), View.readAt_unit _ fc hoc eoh (acc_in h),
    ev, es, em, el, ec]
  isplitl [Hv]
  · iexists fv
    isplitr; · ipureintro; exact ev
    iexact Hv
  isplitl [Hm]
  · iexists _
    isplitr
    swap
    · iexact Hm
    ipureintro
    intro h'
    rw [View.read_writes_cons_put _ _ hoh _ _ eoh, View.writes_nil]
    exact put_row _ (fun h => (σ h).m) em h _ h'
  isplitl [Hl]
  · iexists _
    isplitr
    swap
    · iexact Hl
    ipureintro
    intro h'
    rw [View.read_writes_cons_put _ _ hoh _ _ eoh, View.writes_nil]
    exact put_row _ (fun h => (σ h).l) el h _ h'
  isplitl [Hc]
  · iexists _
    isplitr
    swap
    · iexact Hc
    ipureintro
    intro h'
    rw [View.read_writes_cons_put _ _ hoc _ _ eoh, View.writes_nil]
    exact put_acc _ (fun h => (σ h).acc) ec h _ h'
  isplitl [Hs]
  · iexists fs
    isplitr; · ipureintro; exact es
    iexact Hs
  · iexact Hx

end Cert.KernelIdeal.Att

end
-- ==== Proof.Trip.lean ====
/-
  The printed body, cut into the steps: each equation says that a stretch of it is the same program as a list of steps.
-/
module

public import proofs.«01_k».proof.Proof.Triples2

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F] [Named F]

local notation "𝕄" => MT nD τ sig Unit (Elt F) ℕ (UR sig nD τ) ℕ

/-- A trip of the key loop: score the next block into slot 1 and fold slot 0, head by head; then the other way round. -/
def trip (i : grid0.Coords) (R : Refs) (v16 : FVec F S16x512 .bf16) (v21 v26 v31 v36 : FVec F S512x256 .bf16)
    (t : Fin (k0_t1_loop i).trips) : Prog (TpuEff nD τ sig (Elt F) Λ₀ .tc) PUnit := do
  scoreInto R v21 (k0_off1 i t) (k0_off1_inb i t) (k0_off2 i t) (k0_off2_inb i t) ![1, 0, 0, 0] (by decide) (by decide)
  update R v16 (k0_off3 i t) (k0_off3_inb i t) ![0, 0, 0, 0] (by decide) (by decide) ![0, 0, 0] (by decide) (by decide)
  scoreInto R v26 (k0_off4 i t) (k0_off4_inb i t) (k0_off5 i t) (k0_off5_inb i t) ![1, 1, 0, 0] (by decide) (by decide)
  update R v16 (k0_off6 i t) (k0_off6_inb i t) ![0, 1, 0, 0] (by decide) (by decide) ![1, 0, 0] (by decide) (by decide)
  scoreInto R v31 (k0_off7 i t) (k0_off7_inb i t) (k0_off8 i t) (k0_off8_inb i t) ![1, 2, 0, 0] (by decide) (by decide)
  update R v16 (k0_off9 i t) (k0_off9_inb i t) ![0, 2, 0, 0] (by decide) (by decide) ![2, 0, 0] (by decide) (by decide)
  scoreInto R v36 (k0_off10 i t) (k0_off10_inb i t) (k0_off11 i t) (k0_off11_inb i t) ![1, 3, 0, 0] (by decide) (by decide)
  update R v16 (k0_off12 i t) (k0_off12_inb i t) ![0, 3, 0, 0] (by decide) (by decide) ![3, 0, 0] (by decide) (by decide)
  scoreInto R v21 (k0_off13 i t) (k0_off13_inb i t) (k0_off14 i t) (k0_off14_inb i t) ![0, 0, 0, 0] (by decide) (by decide)
  update R v16 (k0_off1 i t) (k0_off1_inb i t) ![1, 0, 0, 0] (by decide) (by decide) ![0, 0, 0] (by decide) (by decide)
  scoreInto R v26 (k0_off15 i t) (k0_off15_inb i t) (k0_off16 i t) (k0_off16_inb i t) ![0, 1, 0, 0] (by decide) (by decide)
  update R v16 (k0_off4 i t) (k0_off4_inb i t) ![1, 1, 0, 0] (by decide) (by decide) ![1, 0, 0] (by decide) (by decide)
  scoreInto R v31 (k0_off17 i t) (k0_off17_inb i t) (k0_off18 i t) (k0_off18_inb i t) ![0, 2, 0, 0] (by decide) (by decide)
  update R v16 (k0_off7 i t) (k0_off7_inb i t) ![1, 2, 0, 0] (by decide) (by decide) ![2, 0, 0] (by decide) (by decide)
  scoreInto R v36 (k0_off19 i t) (k0_off19_inb i t) (k0_off20 i t) (k0_off20_inb i t) ![0, 3, 0, 0] (by decide) (by decide)
  update R v16 (k0_off10 i t) (k0_off10_inb i t) ![1, 3, 0, 0] (by decide) (by decide) ![3, 0, 0] (by decide) (by decide)

/-- Four heads fold their own key block, masked, from slot 0. -/
def evenRun (i : grid0.Coords) (R : Refs) (v15 : IVec S512x512 1) (v16 : FVec F S16x512 .bf16) (k0_h2 : k0_cond2 i = 1#1) : Prog (TpuEff nD τ sig (Elt F) Λ₀ .tc) PUnit := do
  updateMasked R v15 v16 (k0_off41 i) (k0_off41_inb i k0_h2) ![0, 0, 0, 0] (by decide) ![0, 0, 0] (by decide) (by decide)
  updateMasked R v15 v16 (k0_off42 i) (k0_off42_inb i k0_h2) ![0, 1, 0, 0] (by decide) ![1, 0, 0] (by decide) (by decide)
  updateMasked R v15 v16 (k0_off43 i) (k0_off43_inb i k0_h2) ![0, 2, 0, 0] (by decide) ![2, 0, 0] (by decide) (by decide)
  updateMasked R v15 v16 (k0_off44 i) (k0_off44_inb i k0_h2) ![0, 3, 0, 0] (by decide) ![3, 0, 0] (by decide) (by decide)

/-- An even query block ends with its own key block, which lies in slot 0. -/
def evenEnd (i : grid0.Coords) (R : Refs) (v15 : IVec S512x512 1) (v16 : FVec F S16x512 .bf16) (v21 v26 v31 v36 : FVec F S512x256 .bf16) : Prog (TpuEff nD τ sig (Elt F) Λ₀ .tc) PUnit :=
  if k0_h2 : k0_cond2 i = 1#1 then evenRun i R v15 v16 k0_h2
  else pure ⟨⟩

/-- An odd query block scores its own key block into slot 1 and folds the one before it from slot 0. -/
def oddRounds (i : grid0.Coords) (R : Refs) (v16 : FVec F S16x512 .bf16) (v21 v26 v31 v36 : FVec F S512x256 .bf16) (k0_h3 : k0_cond3 i = 1#1) : Prog (TpuEff nD τ sig (Elt F) Λ₀ .tc) PUnit := do
  scoreInto R v21 (k0_off45 i) (k0_off45_inb i k0_h3) (k0_off46 i) (k0_off46_inb i k0_h3) ![1, 0, 0, 0] (by decide) (by decide)
  update R v16 (k0_off47 i) (k0_off47_inb i k0_h3) ![0, 0, 0, 0] (by decide) (by decide) ![0, 0, 0] (by decide) (by decide)
  scoreInto R v26 (k0_off48 i) (k0_off48_inb i k0_h3) (k0_off49 i) (k0_off49_inb i k0_h3) ![1, 1, 0, 0] (by decide) (by decide)
  update R v16 (k0_off50 i) (k0_off50_inb i k0_h3) ![0, 1, 0, 0] (by decide) (by decide) ![1, 0, 0] (by decide) (by decide)
  scoreInto R v31 (k0_off51 i) (k0_off51_inb i k0_h3) (k0_off52 i) (k0_off52_inb i k0_h3) ![1, 2, 0, 0] (by decide) (by decide)
  update R v16 (k0_off53 i) (k0_off53_inb i k0_h3) ![0, 2, 0, 0] (by decide) (by decide) ![2, 0, 0] (by decide) (by decide)
  scoreInto R v36 (k0_off54 i) (k0_off54_inb i k0_h3) (k0_off55 i) (k0_off55_inb i k0_h3) ![1, 3, 0, 0] (by decide) (by decide)
  update R v16 (k0_off56 i) (k0_off56_inb i k0_h3) ![0, 3, 0, 0] (by decide) (by decide) ![3, 0, 0] (by decide) (by decide)

/-- Then it folds its own key block, masked. -/
def oddMasked (i : grid0.Coords) (R : Refs) (v15 : IVec S512x512 1) (v16 : FVec F S16x512 .bf16) (k0_h3 : k0_cond3 i = 1#1) : Prog (TpuEff nD τ sig (Elt F) Λ₀ .tc) PUnit := do
  updateMasked R v15 v16 (k0_off57 i) (k0_off57_inb i k0_h3) ![1, 0, 0, 0] (by decide) ![0, 0, 0] (by decide) (by decide)
  updateMasked R v15 v16 (k0_off58 i) (k0_off58_inb i k0_h3) ![1, 1, 0, 0] (by decide) ![1, 0, 0] (by decide) (by decide)
  updateMasked R v15 v16 (k0_off59 i) (k0_off59_inb i k0_h3) ![1, 2, 0, 0] (by decide) ![2, 0, 0] (by decide) (by decide)
  updateMasked R v15 v16 (k0_off60 i) (k0_off60_inb i k0_h3) ![1, 3, 0, 0] (by decide) ![3, 0, 0] (by decide) (by decide)

/-- An odd query block scores its own key block into slot 1, folds the one before it from slot 0, and then its own. -/
def oddEnd (i : grid0.Coords) (R : Refs) (v15 : IVec S512x512 1) (v16 : FVec F S16x512 .bf16) (v21 v26 v31 v36 : FVec F S512x256 .bf16) : Prog (TpuEff nD τ sig (Elt F) Λ₀ .tc) PUnit :=
  if k0_h3 : k0_cond3 i = 1#1 then do
    oddRounds i R v16 v21 v26 v31 v36 k0_h3
    oddMasked i R v15 v16 k0_h3
  else pure ⟨⟩

/-- The cast of the weights' slabs, at the first query block of a group of heads. -/
def castStep (i : grid0.Coords) (arg3 : Memref sig .tc .vmem S1x1x512x512 .bf16) (harg3 : arg3.IsWhole) (arg4 : Memref sig .tc .vmem S1x4x512x128 .bf16) (harg4 : arg4.IsWhole) (arg5 : Memref sig .tc .vmem S1x1x4096x512 .bf16) (harg5 : arg5.IsWhole) (arg6 : Memref sig .tc .vmem S1x4x4096x128 .bf16) (harg6 : arg6.IsWhole) (arg7 : Memref sig .tc .vmem S1x1x4096x512 .bf16) (harg7 : arg7.IsWhole) (arg8 : Memref sig .tc .vmem S1x64x5632 .f32) (harg8 : arg8.IsWhole) (arg9 : Memref sig .tc .vmem S1x64x5632 .f32) (harg9 : arg9.IsWhole) (arg10 : Memref sig .tc .vmem S1x176x2048 .f32) (harg10 : arg10.IsWhole) (arg11 : Memref sig .tc .vmem S1x64x2048 .f32) (harg11 : arg11.IsWhole) (arg12 : Memref sig .tc .vmem S1x512x512 .bf16) (harg12 : arg12.IsWhole) (arg13 : Memref sig .tc .vmem S64x5632 .bf16) (harg13 : arg13.IsWhole) (arg14 : Memref sig .tc .vmem S64x5632 .bf16) (harg14 : arg14.IsWhole) (arg15 : Memref sig .tc .vmem S176x2048 .bf16) (harg15 : arg15.IsWhole) (arg16 : Memref sig .tc .vmem S64x2048 .bf16) (harg16 : arg16.IsWhole) (arg17 : Memref sig .tc .vmem S4x1x512 .f32) (harg17 : arg17.IsWhole) (arg18 : Memref sig .tc .vmem S4x1x512 .f32) (harg18 : arg18.IsWhole) (arg19 : Memref sig .tc .vmem S4x128x512 .f32) (harg19 : arg19.IsWhole) (arg20 : Memref sig .tc .vmem S2x4x512x512 .f32) (harg20 : arg20.IsWhole) (arg21 : Memref sig .tc .vmem S2x4x1x512 .f32) (harg21 : arg21.IsWhole) : Prog (TpuEff nD τ sig (Elt F) Λ₀ .tc) PUnit :=
  if k0_h1 : k0_cond1 i = 1#1 then do
    let w8 : Vec F S1x64x5632 .f32 ← Prog.lift (.load arg8 (Rect.unit (s := S1x64x5632) ![0, 0, 0] S1x64x5632.size inb_S1x64x5632_S1x64x5632_0_0_0).toLoadRect (View.loadsAt_vmem h_S1x64x5632))
    let _ : Vec F S64x5632 .bf16 ← Prog.lift (.load arg13 (Rect.unit (s := S64x5632) ![0, 0] S64x5632.size inb_S64x5632_S64x5632_0_0).toLoadRect (View.loadsAt_vmem h_S64x5632))
    Prog.lift (.store arg13 (Rect.unit (s := S64x5632) ![0, 0] S64x5632.size inb_S64x5632_S64x5632_0_0) (k0_pay301 w8) Finset.univ (View.stores_vmem h_S64x5632 (harg13.storeExact_slice rfl _ packedbf16_S64x5632_S64x5632_0_0) (fun _ => rfl)) (.inl rfl))
    let w9 : Vec F S1x64x5632 .f32 ← Prog.lift (.load arg9 (Rect.unit (s := S1x64x5632) ![0, 0, 0] S1x64x5632.size inb_S1x64x5632_S1x64x5632_0_0_0).toLoadRect (View.loadsAt_vmem h_S1x64x5632))
    let _ : Vec F S64x5632 .bf16 ← Prog.lift (.load arg14 (Rect.unit (s := S64x5632) ![0, 0] S64x5632.size inb_S64x5632_S64x5632_0_0).toLoadRect (View.loadsAt_vmem h_S64x5632))
    Prog.lift (.store arg14 (Rect.unit (s := S64x5632) ![0, 0] S64x5632.size inb_S64x5632_S64x5632_0_0) (k0_pay302 w9) Finset.univ (View.stores_vmem h_S64x5632 (harg14.storeExact_slice rfl _ packedbf16_S64x5632_S64x5632_0_0) (fun _ => rfl)) (.inl rfl))
    let w10 : Vec F S1x176x2048 .f32 ← Prog.lift (.load arg10 (Rect.unit (s := S1x176x2048) ![0, 0, 0] S1x176x2048.size inb_S1x176x2048_S1x176x2048_0_0_0).toLoadRect (View.loadsAt_vmem h_S1x176x2048))
    let _ : Vec F S176x2048 .bf16 ← Prog.lift (.load arg15 (Rect.unit (s := S176x2048) ![0, 0] S176x2048.size inb_S176x2048_S176x2048_0_0).toLoadRect (View.loadsAt_vmem h_S176x2048))
    Prog.lift (.store arg15 (Rect.unit (s := S176x2048) ![0, 0] S176x2048.size inb_S176x2048_S176x2048_0_0) (k0_pay303 w10) Finset.univ (View.stores_vmem h_S176x2048 (harg15.storeExact_slice rfl _ packedbf16_S176x2048_S176x2048_0_0) (fun _ => rfl)) (.inl rfl))
    let w11 : Vec F S1x64x2048 .f32 ← Prog.lift (.load arg11 (Rect.unit (s := S1x64x2048) ![0, 0, 0] S1x64x2048.size inb_S1x64x2048_S1x64x2048_0_0_0).toLoadRect (View.loadsAt_vmem h_S1x64x2048))
    let _ : Vec F S64x2048 .bf16 ← Prog.lift (.load arg16 (Rect.unit (s := S64x2048) ![0, 0] S64x2048.size inb_S64x2048_S64x2048_0_0).toLoadRect (View.loadsAt_vmem h_S64x2048))
    Prog.lift (.store arg16 (Rect.unit (s := S64x2048) ![0, 0] S64x2048.size inb_S64x2048_S64x2048_0_0) (k0_pay304 w11) Finset.univ (View.stores_vmem h_S64x2048 (harg16.storeExact_slice rfl _ packedbf16_S64x2048_S64x2048_0_0) (fun _ => rfl)) (.inl rfl))
  else pure ⟨⟩

/-- The first two heads' queries, with their bias lanes. -/
def loadQ01 (i : grid0.Coords) (arg3 : Memref sig .tc .vmem S1x1x512x512 .bf16) (harg3 : arg3.IsWhole) (arg4 : Memref sig .tc .vmem S1x4x512x128 .bf16) (harg4 : arg4.IsWhole) (arg5 : Memref sig .tc .vmem S1x1x4096x512 .bf16) (harg5 : arg5.IsWhole) (arg6 : Memref sig .tc .vmem S1x4x4096x128 .bf16) (harg6 : arg6.IsWhole) (arg7 : Memref sig .tc .vmem S1x1x4096x512 .bf16) (harg7 : arg7.IsWhole) (arg8 : Memref sig .tc .vmem S1x64x5632 .f32) (harg8 : arg8.IsWhole) (arg9 : Memref sig .tc .vmem S1x64x5632 .f32) (harg9 : arg9.IsWhole) (arg10 : Memref sig .tc .vmem S1x176x2048 .f32) (harg10 : arg10.IsWhole) (arg11 : Memref sig .tc .vmem S1x64x2048 .f32) (harg11 : arg11.IsWhole) (arg12 : Memref sig .tc .vmem S1x512x512 .bf16) (harg12 : arg12.IsWhole) (arg13 : Memref sig .tc .vmem S64x5632 .bf16) (harg13 : arg13.IsWhole) (arg14 : Memref sig .tc .vmem S64x5632 .bf16) (harg14 : arg14.IsWhole) (arg15 : Memref sig .tc .vmem S176x2048 .bf16) (harg15 : arg15.IsWhole) (arg16 : Memref sig .tc .vmem S64x2048 .bf16) (harg16 : arg16.IsWhole) (arg17 : Memref sig .tc .vmem S4x1x512 .f32) (harg17 : arg17.IsWhole) (arg18 : Memref sig .tc .vmem S4x1x512 .f32) (harg18 : arg18.IsWhole) (arg19 : Memref sig .tc .vmem S4x128x512 .f32) (harg19 : arg19.IsWhole) (arg20 : Memref sig .tc .vmem S2x4x512x512 .f32) (harg20 : arg20.IsWhole) (arg21 : Memref sig .tc .vmem S2x4x1x512 .f32) (harg21 : arg21.IsWhole) :
    Prog (TpuEff nD τ sig (Elt F) Λ₀ .tc) (Σ' (arg2 : BitVec 32) (v15 : IVec S512x512 1) (v16 : FVec F S16x512 .bf16) (v21 : FVec F S512x256 .bf16), FVec F S512x256 .bf16) := do
  let q0 : Vec F S1x1x512x128 .bf16 ← Prog.lift (.load arg3 (Rect.unit (s := S1x1x512x512) ![0, 0, 0, 0] S1x1x512x128.size inb_S1x1x512x512_S1x1x512x128_0_0_0_0).toLoadRect (View.loadsAt_vmem h_S1x1x512x128))
  let a0 : Vec F S1x1x512x128 .bf16 ← Prog.lift (.load arg4 (Rect.unit (s := S1x4x512x128) ![0, 0, 0, 0] S1x1x512x128.size inb_S1x4x512x128_S1x1x512x128_0_0_0_0).toLoadRect (View.loadsAt_vmem h_S1x1x512x128))
  let q1 : Vec F S1x1x512x128 .bf16 ← Prog.lift (.load arg3 (Rect.unit (s := S1x1x512x512) ![0, 0, 0, 128] S1x1x512x128.size inb_S1x1x512x512_S1x1x512x128_0_0_0_128).toLoadRect (View.loadsAt_vmem h_S1x1x512x128))
  let a1 : Vec F S1x1x512x128 .bf16 ← Prog.lift (.load arg4 (Rect.unit (s := S1x4x512x128) ![0, 1, 0, 0] S1x1x512x128.size inb_S1x4x512x128_S1x1x512x128_0_1_0_0).toLoadRect (View.loadsAt_vmem h_S1x1x512x128))
  pure ⟨BitVec.ofNat 32 (i 2).val, k0_pay305, k0_pay306 (F := F), k0_pay307 q0 a0, k0_pay308 q1 a1⟩

/-- All four heads' queries, with their bias lanes. -/
def loadQ (i : grid0.Coords) (arg3 : Memref sig .tc .vmem S1x1x512x512 .bf16) (harg3 : arg3.IsWhole) (arg4 : Memref sig .tc .vmem S1x4x512x128 .bf16) (harg4 : arg4.IsWhole) (arg5 : Memref sig .tc .vmem S1x1x4096x512 .bf16) (harg5 : arg5.IsWhole) (arg6 : Memref sig .tc .vmem S1x4x4096x128 .bf16) (harg6 : arg6.IsWhole) (arg7 : Memref sig .tc .vmem S1x1x4096x512 .bf16) (harg7 : arg7.IsWhole) (arg8 : Memref sig .tc .vmem S1x64x5632 .f32) (harg8 : arg8.IsWhole) (arg9 : Memref sig .tc .vmem S1x64x5632 .f32) (harg9 : arg9.IsWhole) (arg10 : Memref sig .tc .vmem S1x176x2048 .f32) (harg10 : arg10.IsWhole) (arg11 : Memref sig .tc .vmem S1x64x2048 .f32) (harg11 : arg11.IsWhole) (arg12 : Memref sig .tc .vmem S1x512x512 .bf16) (harg12 : arg12.IsWhole) (arg13 : Memref sig .tc .vmem S64x5632 .bf16) (harg13 : arg13.IsWhole) (arg14 : Memref sig .tc .vmem S64x5632 .bf16) (harg14 : arg14.IsWhole) (arg15 : Memref sig .tc .vmem S176x2048 .bf16) (harg15 : arg15.IsWhole) (arg16 : Memref sig .tc .vmem S64x2048 .bf16) (harg16 : arg16.IsWhole) (arg17 : Memref sig .tc .vmem S4x1x512 .f32) (harg17 : arg17.IsWhole) (arg18 : Memref sig .tc .vmem S4x1x512 .f32) (harg18 : arg18.IsWhole) (arg19 : Memref sig .tc .vmem S4x128x512 .f32) (harg19 : arg19.IsWhole) (arg20 : Memref sig .tc .vmem S2x4x512x512 .f32) (harg20 : arg20.IsWhole) (arg21 : Memref sig .tc .vmem S2x4x1x512 .f32) (harg21 : arg21.IsWhole) : Prog (TpuEff nD τ sig (Elt F) Λ₀ .tc) (Fin 4 → FVec F S512x256 .bf16) := do
  let q0 : Vec F S1x1x512x128 .bf16 ← Prog.lift (.load arg3 (Rect.unit (s := S1x1x512x512) ![0, 0, 0, 0] S1x1x512x128.size inb_S1x1x512x512_S1x1x512x128_0_0_0_0).toLoadRect (View.loadsAt_vmem h_S1x1x512x128))
  let a0 : Vec F S1x1x512x128 .bf16 ← Prog.lift (.load arg4 (Rect.unit (s := S1x4x512x128) ![0, 0, 0, 0] S1x1x512x128.size inb_S1x4x512x128_S1x1x512x128_0_0_0_0).toLoadRect (View.loadsAt_vmem h_S1x1x512x128))
  let q1 : Vec F S1x1x512x128 .bf16 ← Prog.lift (.load arg3 (Rect.unit (s := S1x1x512x512) ![0, 0, 0, 128] S1x1x512x128.size inb_S1x1x512x512_S1x1x512x128_0_0_0_128).toLoadRect (View.loadsAt_vmem h_S1x1x512x128))
  let a1 : Vec F S1x1x512x128 .bf16 ← Prog.lift (.load arg4 (Rect.unit (s := S1x4x512x128) ![0, 1, 0, 0] S1x1x512x128.size inb_S1x4x512x128_S1x1x512x128_0_1_0_0).toLoadRect (View.loadsAt_vmem h_S1x1x512x128))
  let q2 : Vec F S1x1x512x128 .bf16 ← Prog.lift (.load arg3 (Rect.unit (s := S1x1x512x512) ![0, 0, 0, 256] S1x1x512x128.size inb_S1x1x512x512_S1x1x512x128_0_0_0_256).toLoadRect (View.loadsAt_vmem h_S1x1x512x128))
  let a2 : Vec F S1x1x512x128 .bf16 ← Prog.lift (.load arg4 (Rect.unit (s := S1x4x512x128) ![0, 2, 0, 0] S1x1x512x128.size inb_S1x4x512x128_S1x1x512x128_0_2_0_0).toLoadRect (View.loadsAt_vmem h_S1x1x512x128))
  let q3 : Vec F S1x1x512x128 .bf16 ← Prog.lift (.load arg3 (Rect.unit (s := S1x1x512x512) ![0, 0, 0, 384] S1x1x512x128.size inb_S1x1x512x512_S1x1x512x128_0_0_0_384).toLoadRect (View.loadsAt_vmem h_S1x1x512x128))
  let a3 : Vec F S1x1x512x128 .bf16 ← Prog.lift (.load arg4 (Rect.unit (s := S1x4x512x128) ![0, 3, 0, 0] S1x1x512x128.size inb_S1x4x512x128_S1x1x512x128_0_3_0_0).toLoadRect (View.loadsAt_vmem h_S1x1x512x128))
  pure ![k0_pay307 q0 a0, k0_pay307 q1 a1, k0_pay307 q2 a2, k0_pay307 q3 a3]

/-- The running maxima, sums and accumulators set to their first values. -/
def initStep (arg3 : Memref sig .tc .vmem S1x1x512x512 .bf16) (harg3 : arg3.IsWhole) (arg4 : Memref sig .tc .vmem S1x4x512x128 .bf16) (harg4 : arg4.IsWhole) (arg5 : Memref sig .tc .vmem S1x1x4096x512 .bf16) (harg5 : arg5.IsWhole) (arg6 : Memref sig .tc .vmem S1x4x4096x128 .bf16) (harg6 : arg6.IsWhole) (arg7 : Memref sig .tc .vmem S1x1x4096x512 .bf16) (harg7 : arg7.IsWhole) (arg8 : Memref sig .tc .vmem S1x64x5632 .f32) (harg8 : arg8.IsWhole) (arg9 : Memref sig .tc .vmem S1x64x5632 .f32) (harg9 : arg9.IsWhole) (arg10 : Memref sig .tc .vmem S1x176x2048 .f32) (harg10 : arg10.IsWhole) (arg11 : Memref sig .tc .vmem S1x64x2048 .f32) (harg11 : arg11.IsWhole) (arg12 : Memref sig .tc .vmem S1x512x512 .bf16) (harg12 : arg12.IsWhole) (arg13 : Memref sig .tc .vmem S64x5632 .bf16) (harg13 : arg13.IsWhole) (arg14 : Memref sig .tc .vmem S64x5632 .bf16) (harg14 : arg14.IsWhole) (arg15 : Memref sig .tc .vmem S176x2048 .bf16) (harg15 : arg15.IsWhole) (arg16 : Memref sig .tc .vmem S64x2048 .bf16) (harg16 : arg16.IsWhole) (arg17 : Memref sig .tc .vmem S4x1x512 .f32) (harg17 : arg17.IsWhole) (arg18 : Memref sig .tc .vmem S4x1x512 .f32) (harg18 : arg18.IsWhole) (arg19 : Memref sig .tc .vmem S4x128x512 .f32) (harg19 : arg19.IsWhole) (arg20 : Memref sig .tc .vmem S2x4x512x512 .f32) (harg20 : arg20.IsWhole) (arg21 : Memref sig .tc .vmem S2x4x1x512 .f32) (harg21 : arg21.IsWhole) : Prog (TpuEff nD τ sig (Elt F) Λ₀ .tc) PUnit := do
  let _ : Vec F S4x1x512 .f32 ← Prog.lift (.load arg17 (Rect.unit (s := S4x1x512) ![0, 0, 0] S4x1x512.size inb_S4x1x512_S4x1x512_0_0_0).toLoadRect (View.loadsAt_vmem h_S4x1x512))
  Prog.lift (.store arg17 (Rect.unit (s := S4x1x512) ![0, 0, 0] S4x1x512.size inb_S4x1x512_S4x1x512_0_0_0) (k0_pay311 (F := F)) Finset.univ (View.stores_vmem_bits_univ h_S4x1x512 rfl) (.inl rfl))
  let _ : Vec F S4x1x512 .f32 ← Prog.lift (.load arg18 (Rect.unit (s := S4x1x512) ![0, 0, 0] S4x1x512.size inb_S4x1x512_S4x1x512_0_0_0).toLoadRect (View.loadsAt_vmem h_S4x1x512))
  Prog.lift (.store arg18 (Rect.unit (s := S4x1x512) ![0, 0, 0] S4x1x512.size inb_S4x1x512_S4x1x512_0_0_0) (k0_pay312 (F := F)) Finset.univ (View.stores_vmem_bits_univ h_S4x1x512 rfl) (.inl rfl))
  let _ : Vec F S4x128x512 .f32 ← Prog.lift (.load arg19 (Rect.unit (s := S4x128x512) ![0, 0, 0] S4x128x512.size inb_S4x128x512_S4x128x512_0_0_0).toLoadRect (View.loadsAt_vmem h_S4x128x512))
  Prog.lift (.store arg19 (Rect.unit (s := S4x128x512) ![0, 0, 0] S4x128x512.size inb_S4x128x512_S4x128x512_0_0_0) (k0_pay313 (F := F)) Finset.univ (View.stores_vmem_bits_univ h_S4x128x512 rfl) (.inl rfl))

/-- Block 0 scored into slot 0. -/
def firstScores (R : Refs) (qx : Fin 4 → FVec F S512x256 .bf16) : Prog (TpuEff nD τ sig (Elt F) Λ₀ .tc) PUnit := do
  scoreInto R (qx 0) ![0, 0, 0, 0] (by decide) ![0, 0, 0, 0] (by decide) ![0, 0, 0, 0] (by decide) (by decide)
  scoreInto R (qx 1) ![0, 0, 0, 128] (by decide) ![0, 1, 0, 0] (by decide) ![0, 1, 0, 0] (by decide) (by decide)
  scoreInto R (qx 2) ![0, 0, 0, 256] (by decide) ![0, 2, 0, 0] (by decide) ![0, 2, 0, 0] (by decide) (by decide)
  scoreInto R (qx 3) ![0, 0, 0, 384] (by decide) ![0, 3, 0, 0] (by decide) ![0, 3, 0, 0] (by decide) (by decide)

/-- Each head's accumulator divided by its sum, into the output. -/
def outStep (arg3 : Memref sig .tc .vmem S1x1x512x512 .bf16) (harg3 : arg3.IsWhole) (arg4 : Memref sig .tc .vmem S1x4x512x128 .bf16) (harg4 : arg4.IsWhole) (arg5 : Memref sig .tc .vmem S1x1x4096x512 .bf16) (harg5 : arg5.IsWhole) (arg6 : Memref sig .tc .vmem S1x4x4096x128 .bf16) (harg6 : arg6.IsWhole) (arg7 : Memref sig .tc .vmem S1x1x4096x512 .bf16) (harg7 : arg7.IsWhole) (arg8 : Memref sig .tc .vmem S1x64x5632 .f32) (harg8 : arg8.IsWhole) (arg9 : Memref sig .tc .vmem S1x64x5632 .f32) (harg9 : arg9.IsWhole) (arg10 : Memref sig .tc .vmem S1x176x2048 .f32) (harg10 : arg10.IsWhole) (arg11 : Memref sig .tc .vmem S1x64x2048 .f32) (harg11 : arg11.IsWhole) (arg12 : Memref sig .tc .vmem S1x512x512 .bf16) (harg12 : arg12.IsWhole) (arg13 : Memref sig .tc .vmem S64x5632 .bf16) (harg13 : arg13.IsWhole) (arg14 : Memref sig .tc .vmem S64x5632 .bf16) (harg14 : arg14.IsWhole) (arg15 : Memref sig .tc .vmem S176x2048 .bf16) (harg15 : arg15.IsWhole) (arg16 : Memref sig .tc .vmem S64x2048 .bf16) (harg16 : arg16.IsWhole) (arg17 : Memref sig .tc .vmem S4x1x512 .f32) (harg17 : arg17.IsWhole) (arg18 : Memref sig .tc .vmem S4x1x512 .f32) (harg18 : arg18.IsWhole) (arg19 : Memref sig .tc .vmem S4x128x512 .f32) (harg19 : arg19.IsWhole) (arg20 : Memref sig .tc .vmem S2x4x512x512 .f32) (harg20 : arg20.IsWhole) (arg21 : Memref sig .tc .vmem S2x4x1x512 .f32) (harg21 : arg21.IsWhole) : Prog (TpuEff nD τ sig (Elt F) Λ₀ .tc) PUnit := do
  let c0 : Vec F S1x128x512 .f32 ← Prog.lift (.load arg19 (Rect.unit (s := S4x128x512) ![0, 0, 0] S1x128x512.size inb_S4x128x512_S1x128x512_0_0_0).toLoadRect (View.loadsAt_vmem h_S1x128x512))
  let l0 : Vec F S1x1x512 .f32 ← Prog.lift (.load arg18 (Rect.unit (s := S4x1x512) ![0, 0, 0] S1x1x512.size inb_S4x1x512_S1x1x512_0_0_0).toLoadRect (View.loadsAt_vmem h_S1x1x512))
  let _ : Vec F S1x512x128 .bf16 ← Prog.lift (.load arg12 (Rect.unit (s := S1x512x512) ![0, 0, 0] S1x512x128.size inb_S1x512x512_S1x512x128_0_0_0).toLoadRect (View.loadsAt_vmem h_S1x512x128))
  Prog.lift (.store arg12 (Rect.unit (s := S1x512x512) ![0, 0, 0] S1x512x128.size inb_S1x512x512_S1x512x128_0_0_0) (k0_pay336 c0 l0) Finset.univ (View.stores_vmem h_S1x512x128 (harg12.storeExact_slice rfl _ packedbf16_S1x512x512_S1x512x128_0_0_0) (fun _ => rfl)) (.inl rfl))
  let c1 : Vec F S1x128x512 .f32 ← Prog.lift (.load arg19 (Rect.unit (s := S4x128x512) ![1, 0, 0] S1x128x512.size inb_S4x128x512_S1x128x512_1_0_0).toLoadRect (View.loadsAt_vmem h_S1x128x512))
  let l1 : Vec F S1x1x512 .f32 ← Prog.lift (.load arg18 (Rect.unit (s := S4x1x512) ![1, 0, 0] S1x1x512.size inb_S4x1x512_S1x1x512_1_0_0).toLoadRect (View.loadsAt_vmem h_S1x1x512))
  let _ : Vec F S1x512x128 .bf16 ← Prog.lift (.load arg12 (Rect.unit (s := S1x512x512) ![0, 0, 128] S1x512x128.size inb_S1x512x512_S1x512x128_0_0_128).toLoadRect (View.loadsAt_vmem h_S1x512x128))
  Prog.lift (.store arg12 (Rect.unit (s := S1x512x512) ![0, 0, 128] S1x512x128.size inb_S1x512x512_S1x512x128_0_0_128) (k0_pay336 c1 l1) Finset.univ (View.stores_vmem h_S1x512x128 (harg12.storeExact_slice rfl _ packedbf16_S1x512x512_S1x512x128_0_0_128) (fun _ => rfl)) (.inl rfl))
  let c2 : Vec F S1x128x512 .f32 ← Prog.lift (.load arg19 (Rect.unit (s := S4x128x512) ![2, 0, 0] S1x128x512.size inb_S4x128x512_S1x128x512_2_0_0).toLoadRect (View.loadsAt_vmem h_S1x128x512))
  let l2 : Vec F S1x1x512 .f32 ← Prog.lift (.load arg18 (Rect.unit (s := S4x1x512) ![2, 0, 0] S1x1x512.size inb_S4x1x512_S1x1x512_2_0_0).toLoadRect (View.loadsAt_vmem h_S1x1x512))
  let _ : Vec F S1x512x128 .bf16 ← Prog.lift (.load arg12 (Rect.unit (s := S1x512x512) ![0, 0, 256] S1x512x128.size inb_S1x512x512_S1x512x128_0_0_256).toLoadRect (View.loadsAt_vmem h_S1x512x128))
  Prog.lift (.store arg12 (Rect.unit (s := S1x512x512) ![0, 0, 256] S1x512x128.size inb_S1x512x512_S1x512x128_0_0_256) (k0_pay336 c2 l2) Finset.univ (View.stores_vmem h_S1x512x128 (harg12.storeExact_slice rfl _ packedbf16_S1x512x512_S1x512x128_0_0_256) (fun _ => rfl)) (.inl rfl))
  let c3 : Vec F S1x128x512 .f32 ← Prog.lift (.load arg19 (Rect.unit (s := S4x128x512) ![3, 0, 0] S1x128x512.size inb_S4x128x512_S1x128x512_3_0_0).toLoadRect (View.loadsAt_vmem h_S1x128x512))
  let l3 : Vec F S1x1x512 .f32 ← Prog.lift (.load arg18 (Rect.unit (s := S4x1x512) ![3, 0, 0] S1x1x512.size inb_S4x1x512_S1x1x512_3_0_0).toLoadRect (View.loadsAt_vmem h_S1x1x512))
  let _ : Vec F S1x512x128 .bf16 ← Prog.lift (.load arg12 (Rect.unit (s := S1x512x512) ![0, 0, 384] S1x512x128.size inb_S1x512x512_S1x512x128_0_0_384).toLoadRect (View.loadsAt_vmem h_S1x512x128))
  Prog.lift (.store arg12 (Rect.unit (s := S1x512x512) ![0, 0, 384] S1x512x128.size inb_S1x512x512_S1x512x128_0_0_384) (k0_pay336 c3 l3) Finset.univ (View.stores_vmem h_S1x512x128 (harg12.storeExact_slice rfl _ packedbf16_S1x512x512_S1x512x128_0_0_384) (fun _ => rfl)) (.inl rfl))

/-- The two counted loops. -/
def loops (i : grid0.Coords) (arg3 : Memref sig .tc .vmem S1x1x512x512 .bf16) (harg3 : arg3.IsWhole) (arg4 : Memref sig .tc .vmem S1x4x512x128 .bf16) (harg4 : arg4.IsWhole) (arg5 : Memref sig .tc .vmem S1x1x4096x512 .bf16) (harg5 : arg5.IsWhole) (arg6 : Memref sig .tc .vmem S1x4x4096x128 .bf16) (harg6 : arg6.IsWhole) (arg7 : Memref sig .tc .vmem S1x1x4096x512 .bf16) (harg7 : arg7.IsWhole) (arg8 : Memref sig .tc .vmem S1x64x5632 .f32) (harg8 : arg8.IsWhole) (arg9 : Memref sig .tc .vmem S1x64x5632 .f32) (harg9 : arg9.IsWhole) (arg10 : Memref sig .tc .vmem S1x176x2048 .f32) (harg10 : arg10.IsWhole) (arg11 : Memref sig .tc .vmem S1x64x2048 .f32) (harg11 : arg11.IsWhole) (arg12 : Memref sig .tc .vmem S1x512x512 .bf16) (harg12 : arg12.IsWhole) (arg13 : Memref sig .tc .vmem S64x5632 .bf16) (harg13 : arg13.IsWhole) (arg14 : Memref sig .tc .vmem S64x5632 .bf16) (harg14 : arg14.IsWhole) (arg15 : Memref sig .tc .vmem S176x2048 .bf16) (harg15 : arg15.IsWhole) (arg16 : Memref sig .tc .vmem S64x2048 .bf16) (harg16 : arg16.IsWhole) (arg17 : Memref sig .tc .vmem S4x1x512 .f32) (harg17 : arg17.IsWhole) (arg18 : Memref sig .tc .vmem S4x1x512 .f32) (harg18 : arg18.IsWhole) (arg19 : Memref sig .tc .vmem S4x128x512 .f32) (harg19 : arg19.IsWhole) (arg20 : Memref sig .tc .vmem S2x4x512x512 .f32) (harg20 : arg20.IsWhole) (arg21 : Memref sig .tc .vmem S2x4x1x512 .f32) (harg21 : arg21.IsWhole) (arg2 : BitVec 32) (v16 : FVec F S16x512 .bf16) (v21 v26 v31 v36 : FVec F S512x256 .bf16) (v108 : FVec F S512x512 .f32) : Prog (TpuEff nD τ sig (Elt F) Λ₀ .tc) (BitVec 32) := do
  Scf.Loop.for (k0_t1_loop i) (k0_t1_ok i) ⟨⟩ (fun t _ => trip i ⟨arg3, arg4, arg5, arg6, arg7, arg17, arg18, arg19, arg20, arg21⟩ v16 v21 v26 v31 v36 t)
  Scf.Loop.for (k0_t2_loop i) (k0_t2_ok i) ⟨⟩ (k0_t2_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg2 v16 v21 v26 v31 v36 v108 (k0_t1_loop i).ub)
  pure (Scalar.muli arg2 512#32)

theorem cond1_iff (i : grid0.Coords) : k0_cond1 i = 1#1 ↔ (i 2).val % 4 = 0 := by
  unfold k0_cond1; generalize i 2 = n; revert n; decide +kernel

theorem cond2_iff (i : grid0.Coords) : k0_cond2 i = 1#1 ↔ (i 2).val % 2 = 0 := by
  unfold k0_cond2; generalize i 2 = n; revert n; decide +kernel

theorem cond3_iff (i : grid0.Coords) : k0_cond3 i = 1#1 ↔ (i 2).val % 2 = 1 := by
  unfold k0_cond3; generalize i 2 = n; revert n; decide +kernel

theorem trips1 (i : grid0.Coords) : (k0_t1_loop i).trips = (i 2).val / 2 := by
  unfold k0_t1_loop; generalize i 2 = n; revert n; decide +kernel

theorem trips2 (i : grid0.Coords) : (k0_t2_loop i).trips = 0 := by
  unfold k0_t2_loop; generalize i 2 = n; revert n; decide +kernel

section
variable (i : grid0.Coords) (arg3 : Memref sig .tc .vmem S1x1x512x512 .bf16) (harg3 : arg3.IsWhole) (arg4 : Memref sig .tc .vmem S1x4x512x128 .bf16) (harg4 : arg4.IsWhole) (arg5 : Memref sig .tc .vmem S1x1x4096x512 .bf16) (harg5 : arg5.IsWhole) (arg6 : Memref sig .tc .vmem S1x4x4096x128 .bf16) (harg6 : arg6.IsWhole) (arg7 : Memref sig .tc .vmem S1x1x4096x512 .bf16) (harg7 : arg7.IsWhole) (arg8 : Memref sig .tc .vmem S1x64x5632 .f32) (harg8 : arg8.IsWhole) (arg9 : Memref sig .tc .vmem S1x64x5632 .f32) (harg9 : arg9.IsWhole) (arg10 : Memref sig .tc .vmem S1x176x2048 .f32) (harg10 : arg10.IsWhole) (arg11 : Memref sig .tc .vmem S1x64x2048 .f32) (harg11 : arg11.IsWhole) (arg12 : Memref sig .tc .vmem S1x512x512 .bf16) (harg12 : arg12.IsWhole) (arg13 : Memref sig .tc .vmem S64x5632 .bf16) (harg13 : arg13.IsWhole) (arg14 : Memref sig .tc .vmem S64x5632 .bf16) (harg14 : arg14.IsWhole) (arg15 : Memref sig .tc .vmem S176x2048 .bf16) (harg15 : arg15.IsWhole) (arg16 : Memref sig .tc .vmem S64x2048 .bf16) (harg16 : arg16.IsWhole) (arg17 : Memref sig .tc .vmem S4x1x512 .f32) (harg17 : arg17.IsWhole) (arg18 : Memref sig .tc .vmem S4x1x512 .f32) (harg18 : arg18.IsWhole) (arg19 : Memref sig .tc .vmem S4x128x512 .f32) (harg19 : arg19.IsWhole) (arg20 : Memref sig .tc .vmem S2x4x512x512 .f32) (harg20 : arg20.IsWhole) (arg21 : Memref sig .tc .vmem S2x4x1x512 .f32) (harg21 : arg21.IsWhole)

set_option maxRecDepth 65536 in
set_option maxHeartbeats 2000000 in
theorem trip_eq (arg2 : BitVec 32) (v16 : FVec F S16x512 .bf16) (v21 v26 v31 v36 : FVec F S512x256 .bf16) (v108 : FVec F S512x512 .f32)
    (t : Fin (k0_t1_loop i).trips) :
    k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg2 v16 v21 v26 v31 v36 v108 t ⟨⟩ = trip i ⟨arg3, arg4, arg5, arg6, arg7, arg17, arg18, arg19, arg20, arg21⟩ v16 v21 v26 v31 v36 t := rfl

set_option maxRecDepth 65536 in
set_option maxHeartbeats 2000000 in
theorem part47_eq : k0_part47 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 = castStep i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 >>= fun _ => loadQ01 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 := by
  rw [k0_part47_eq_skeleton]
  unfold k0_part47_skel castStep
  by_cases h : k0_cond1 i = 1#1
  · simp only [dif_pos h]; rfl
  · simp only [dif_neg h]; rfl

set_option maxRecDepth 65536 in
set_option maxHeartbeats 4000000 in
theorem mid_eq (v108' : FVec F S512x512 .f32) (k : IVec S512x512 1 → FVec F S16x512 .bf16 → FVec F S512x256 .bf16 → FVec F S512x256 .bf16 → FVec F S512x256 .bf16 → FVec F S512x256 .bf16 → BitVec 32 → BitVec 32 → Prog (TpuEff nD τ sig (Elt F) Λ₀ .tc) PUnit) :
    (do
      let ⟨arg2, v15, v16, v21, v26⟩ : Σ' (arg2 : BitVec 32) (v15 : IVec S512x512 1) (v16 : FVec F S16x512 .bf16) (v21 : FVec F S512x256 .bf16), FVec F S512x256 .bf16 ← loadQ01 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
      let ⟨v31, v36, v52⟩ : Σ' (v31 : FVec F S512x256 .bf16) (v36 : FVec F S512x256 .bf16), FVec F S512x128 .bf16 ← k0_part48 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
      let v82 : FVec F S1x1x1x512 .f32 ← k0_part49 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v21 v26 v52
      let v108 : FVec F S512x512 .f32 ← k0_part50 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v31 v36 v82
      let v143 : BitVec 32 ← k0_part51 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg2 v16 v21 v26 v31 v36 v108
      k v15 v16 v21 v26 v31 v36 arg2 v143 : Prog (TpuEff nD τ sig (Elt F) Λ₀ .tc) PUnit)
    = (do
      let qx ← loadQ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
      initStep arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
      firstScores ⟨arg3, arg4, arg5, arg6, arg7, arg17, arg18, arg19, arg20, arg21⟩ qx
      let v143 ← loops i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 2).val) k0_pay306 (qx 0) (qx 1) (qx 2) (qx 3) v108'
      k k0_pay305 k0_pay306 (qx 0) (qx 1) (qx 2) (qx 3) (BitVec.ofNat 32 (i 2).val) v143) := rfl

set_option maxRecDepth 65536 in
set_option maxHeartbeats 4000000 in
theorem odd_eq (k0_h3 : k0_cond3 i = 1#1) (v15 : IVec S512x512 1) (v16 : FVec F S16x512 .bf16) (v21 v26 v31 v36 : FVec F S512x256 .bf16) (v144 : BitVec 32) (k : Prog (TpuEff nD τ sig (Elt F) Λ₀ .tc) (FVec F S512x128 .bf16)) :
    (do
    let ⟨v215, v234, v236, v241, v243⟩ : Σ' (v215 : BitVec 32) (v234 : BitVec 32) (v236 : FVec F S512x512 .f32) (v241 : FVec F S1x512 .f32), FVec F S1x512 .f32 ← k0_part35 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v21 v144 k0_h3
    let ⟨v275, v277⟩ : Σ' (v275 : BitVec 32), Vec F S1x1x512x128 .bf16 ← k0_part36 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v16 k0_h3 v215 v234 v236 v241 v243
    let ⟨v292, v301, v304⟩ : Σ' (v292 : BitVec 32) (v301 : FVec F S1x512 .f32), FVec F S512x512 .f32 ← k0_part37 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v26 k0_h3 v215 v275 v277
    let v341 : FVec F S512x512 .f32 ← k0_part38 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v16 v31 k0_h3 v215 v292 v301 v304
    let ⟨v359, v370, v371, cst_307⟩ : Σ' (v359 : FVec F S1x512 .f32) (v370 : FVec F S144x512 .bf16) (v371 : FVec F S512x512 .bf16), FVec F S144x512 .f32 ← k0_part39 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v16 k0_h3 v215 v341
    let v403 : FVec F S512 .f32 ← k0_part40 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v36 k0_h3 v215 v359 v370 v371 cst_307
    let ⟨v417, v430, v435⟩ : Σ' (v417 : FVec F S1x512 .f32) (v430 : FVec F S144x512 .f32), FVec F S1x512 .f32 ← k0_part41 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v16 k0_h3 v215 v403
    let ⟨v459, v462, v469⟩ : Σ' (v459 : FVec F S1x512 .f32) (v462 : FVec F S512x512 .f32), FVec F S128x512 .bf16 ← k0_part42 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v15 v144 k0_h3 v417 v430 v435
    let ⟨v490, v499, v501, v504⟩ : Σ' (v490 : BitVec 32) (v499 : FVec F S1x512 .f32) (v501 : FVec F S1x512 .f32), FVec F S512x512 .f32 ← k0_part43 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v15 v16 v144 v459 v462 v469
    let ⟨v532, v536, v537⟩ : Σ' (v532 : BitVec 32) (v536 : FVec F S512x512 .f32), FVec F S512 .f32 ← k0_part44 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v15 v16 v144 k0_h3 v490 v499 v501 v504
    let v573 : FVec F S1x128x512 .f32 ← k0_part45 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v16 k0_h3 v532 v536 v537
    let ⟨v585, v598⟩ : Σ' (v585 : FVec F S1x512 .f32), FVec F S144x512 .f32 ← k0_part46 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v15 v16 v144 k0_h3 v573
    let v607 : Vec F S1x128x512 .f32 ← Prog.lift (.load arg19 (Rect.unit (s := S4x128x512) ![3, 0, 0] S1x128x512.size inb_S4x128x512_S1x128x512_3_0_0).toLoadRect (View.loadsAt_vmem h_S1x128x512))
    let v613 : Vec F S1x128x512 .f32 ← Prog.lift (.load arg19 (Rect.unit (s := S4x128x512) ![3, 0, 0] S1x128x512.size inb_S4x128x512_S1x128x512_3_0_0).toLoadRect (View.loadsAt_vmem h_S1x128x512))
    Prog.lift (.store arg19 (Rect.unit (s := S4x128x512) ![3, 0, 0] S1x128x512.size inb_S4x128x512_S1x128x512_3_0_0) (k0_pay333 v585 v598 v607) Finset.univ (View.stores_vmem_bits_univ h_S1x128x512 rfl) (.inl rfl))
    k : Prog (TpuEff nD τ sig (Elt F) Λ₀ .tc) (FVec F S512x128 .bf16))
    = (do
      oddRounds i ⟨arg3, arg4, arg5, arg6, arg7, arg17, arg18, arg19, arg20, arg21⟩ v16 v21 v26 v31 v36 k0_h3
      oddMasked i ⟨arg3, arg4, arg5, arg6, arg7, arg17, arg18, arg19, arg20, arg21⟩ v15 v16 k0_h3
      k) := rfl

/-- What follows the second branch in the printed part: the first head's loads. -/
def tail52 (arg3 : Memref sig .tc .vmem S1x1x512x512 .bf16) (harg3 : arg3.IsWhole) (arg4 : Memref sig .tc .vmem S1x4x512x128 .bf16) (harg4 : arg4.IsWhole) (arg5 : Memref sig .tc .vmem S1x1x4096x512 .bf16) (harg5 : arg5.IsWhole) (arg6 : Memref sig .tc .vmem S1x4x4096x128 .bf16) (harg6 : arg6.IsWhole) (arg7 : Memref sig .tc .vmem S1x1x4096x512 .bf16) (harg7 : arg7.IsWhole) (arg8 : Memref sig .tc .vmem S1x64x5632 .f32) (harg8 : arg8.IsWhole) (arg9 : Memref sig .tc .vmem S1x64x5632 .f32) (harg9 : arg9.IsWhole) (arg10 : Memref sig .tc .vmem S1x176x2048 .f32) (harg10 : arg10.IsWhole) (arg11 : Memref sig .tc .vmem S1x64x2048 .f32) (harg11 : arg11.IsWhole) (arg12 : Memref sig .tc .vmem S1x512x512 .bf16) (harg12 : arg12.IsWhole) (arg13 : Memref sig .tc .vmem S64x5632 .bf16) (harg13 : arg13.IsWhole) (arg14 : Memref sig .tc .vmem S64x5632 .bf16) (harg14 : arg14.IsWhole) (arg15 : Memref sig .tc .vmem S176x2048 .bf16) (harg15 : arg15.IsWhole) (arg16 : Memref sig .tc .vmem S64x2048 .bf16) (harg16 : arg16.IsWhole) (arg17 : Memref sig .tc .vmem S4x1x512 .f32) (harg17 : arg17.IsWhole) (arg18 : Memref sig .tc .vmem S4x1x512 .f32) (harg18 : arg18.IsWhole) (arg19 : Memref sig .tc .vmem S4x128x512 .f32) (harg19 : arg19.IsWhole) (arg20 : Memref sig .tc .vmem S2x4x512x512 .f32) (harg20 : arg20.IsWhole) (arg21 : Memref sig .tc .vmem S2x4x1x512 .f32) (harg21 : arg21.IsWhole) : Prog (TpuEff nD τ sig (Elt F) Λ₀ .tc) (FVec F S512x128 .bf16) := do
  let v171 : Vec F S1x128x512 .f32 ← Prog.lift (.load arg19 (Rect.unit (s := S4x128x512) ![0, 0, 0] S1x128x512.size inb_S4x128x512_S1x128x512_0_0_0).toLoadRect (View.loadsAt_vmem h_S1x128x512))
  let v173 : Vec F S1x1x512 .f32 ← Prog.lift (.load arg18 (Rect.unit (s := S4x1x512) ![0, 0, 0] S1x1x512.size inb_S4x1x512_S1x1x512_0_0_0).toLoadRect (View.loadsAt_vmem h_S1x1x512))
  pure (k0_pay334 v171 v173)

theorem cond_excl : k0_cond2 i = 1#1 → ¬ k0_cond3 i = 1#1 := by
  rw [cond2_iff, cond3_iff]; omega

set_option maxRecDepth 65536 in
set_option maxHeartbeats 4000000 in
theorem part52_eq (v15 : IVec S512x512 1) (v16 : FVec F S16x512 .bf16) (v21 v26 v31 v36 : FVec F S512x256 .bf16) (arg2 v143 : BitVec 32) :
    k0_part52 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg2 v15 v16 v21 v26 v31 v36 v143
      = (do
        evenEnd i ⟨arg3, arg4, arg5, arg6, arg7, arg17, arg18, arg19, arg20, arg21⟩ v15 v16 v21 v26 v31 v36
        oddEnd i ⟨arg3, arg4, arg5, arg6, arg7, arg17, arg18, arg19, arg20, arg21⟩ v15 v16 v21 v26 v31 v36
        tail52 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) := by
  rw [k0_part52_eq_skeleton]
  unfold k0_part52_skel evenEnd oddEnd
  have hx : k0_cond2 i = 1#1 → ¬ k0_cond3 i = 1#1 := cond_excl i
  by_cases h : k0_cond2 i = 1#1
  · by_cases h' : k0_cond3 i = 1#1
    · exact absurd h' (hx h)
    · simp only [dif_pos h, dif_neg h']; rfl
  · by_cases h' : k0_cond3 i = 1#1
    · simp only [dif_neg h, dif_pos h']
      exact odd_eq i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 h' v15 v16 v21 v26 v31 v36 v143 (tail52 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
    · simp only [dif_neg h, dif_neg h']; rfl

set_option maxRecDepth 65536 in
set_option maxHeartbeats 4000000 in
theorem out_eq :
    (do
      let v178 ← tail52 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
      let v209 : FVec F S128x512 .f32 ← k0_part53 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v178
      let v212 : Vec F S1x512x128 .bf16 ← Prog.lift (.load arg12 (Rect.unit (s := S1x512x512) ![0, 0, 384] S1x512x128.size inb_S1x512x512_S1x512x128_0_0_384).toLoadRect (View.loadsAt_vmem h_S1x512x128))
      Prog.lift (.store arg12 (Rect.unit (s := S1x512x512) ![0, 0, 384] S1x512x128.size inb_S1x512x512_S1x512x128_0_0_384) (k0_pay1 v209) Finset.univ (View.stores_vmem h_S1x512x128 (harg12.storeExact_slice rfl _ packedbf16_S1x512x512_S1x512x128_0_0_384) (fun _ => rfl)) (.inl rfl))
      pure ⟨⟩ : Prog (TpuEff nD τ sig (Elt F) Λ₀ .tc) PUnit)
    = outStep arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 := rfl

/-- The body, as the list of its steps. -/
def bodySteps (v108' : FVec F S512x512 .f32) : Prog (TpuEff nD τ sig (Elt F) Λ₀ .tc) PUnit := do
  castStep i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  let qx ← loadQ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  initStep arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  firstScores ⟨arg3, arg4, arg5, arg6, arg7, arg17, arg18, arg19, arg20, arg21⟩ qx
  let v143 ← loops i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 2).val) k0_pay306 (qx 0) (qx 1) (qx 2) (qx 3) v108'
  evenEnd i ⟨arg3, arg4, arg5, arg6, arg7, arg17, arg18, arg19, arg20, arg21⟩ k0_pay305 k0_pay306 (qx 0) (qx 1) (qx 2) (qx 3)
  oddEnd i ⟨arg3, arg4, arg5, arg6, arg7, arg17, arg18, arg19, arg20, arg21⟩ k0_pay305 k0_pay306 (qx 0) (qx 1) (qx 2) (qx 3)
  outStep arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21

attribute [local irreducible] k0_part48 k0_part49 k0_part50 k0_part51 k0_part52 k0_part53 loadQ01 castStep loadQ initStep firstScores loops evenEnd oddEnd outStep tail52

set_option maxRecDepth 65536 in
set_option maxHeartbeats 1000000 in
theorem body_eq (v108' : FVec F S512x512 .f32) : cc0_fox_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 = bodySteps i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v108' := by
  rw [cc0_fox_attn_eq_skeleton]
  unfold cc0_fox_attn_skel
  rw [part47_eq, bind_assoc]
  unfold bodySteps
  refine congrArg (fun p => castStep i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 >>= fun _ => p) ((mid_eq i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v108' (fun v15 v16 v21 v26 v31 v36 arg2 v143 => do
    let v178 : FVec F S512x128 .bf16 ← k0_part52 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg2 v15 v16 v21 v26 v31 v36 v143
    let v209 : FVec F S128x512 .f32 ← k0_part53 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v178
    let v212 : Vec F S1x512x128 .bf16 ← Prog.lift (.load arg12 (Rect.unit (s := S1x512x512) ![0, 0, 384] S1x512x128.size inb_S1x512x512_S1x512x128_0_0_384).toLoadRect (View.loadsAt_vmem h_S1x512x128))
    Prog.lift (.store arg12 (Rect.unit (s := S1x512x512) ![0, 0, 384] S1x512x128.size inb_S1x512x512_S1x512x128_0_0_384) (k0_pay1 v209) Finset.univ (View.stores_vmem h_S1x512x128 (harg12.storeExact_slice rfl _ packedbf16_S1x512x512_S1x512x128_0_0_384) (fun _ => rfl)) (.inl rfl))
    pure ⟨⟩)).trans ?_)
  refine congrArg (fun p => loadQ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 >>= p) (funext fun qx => ?_)
  refine congrArg (fun p => initStep arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 >>= fun _ => p) ?_
  refine congrArg (fun p => firstScores ⟨arg3, arg4, arg5, arg6, arg7, arg17, arg18, arg19, arg20, arg21⟩ qx >>= fun _ => p) ?_
  refine congrArg (fun p => loops i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 2).val) k0_pay306 (qx 0) (qx 1) (qx 2) (qx 3) v108' >>= p) (funext fun v143 => ?_)
  rw [part52_eq, bind_assoc]
  refine congrArg (fun p => evenEnd i ⟨arg3, arg4, arg5, arg6, arg7, arg17, arg18, arg19, arg20, arg21⟩ k0_pay305 k0_pay306 (qx 0) (qx 1) (qx 2) (qx 3) >>= fun _ => p) ?_
  rw [bind_assoc]
  refine congrArg (fun p => oddEnd i ⟨arg3, arg4, arg5, arg6, arg7, arg17, arg18, arg19, arg20, arg21⟩ k0_pay305 k0_pay306 (qx 0) (qx 1) (qx 2) (qx 3) >>= fun _ => p) ?_
  exact out_eq i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21

end

end Cert.KernelIdeal.Att

end
-- ==== Proof.Offsets.lean ====
/-
  The closed forms of the offsets the body loads at: which key block of which head.
-/
module

public import proofs.«01_k».proof.Proof.Trip

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

/-- Key block `n`, counted from the first. -/
def blk (n : ℕ) : Fin 8 := Fin.ofNat 8 n

theorem trip_lt (i : grid0.Coords) (t : Fin (k0_t1_loop i).trips) : t.val = 0 ∨ t.val = 1 ∨ t.val = 2 := by
  have := t.isLt; have := trips1 i; have : (i 2).val < 8 := (i 2).isLt; omega

theorem off1_eq (i : grid0.Coords) (t : Fin (k0_t1_loop i).trips) : k0_off1 i t = ![0, 0, 512 * (blk (2 * t.val + 1)).val, 128 * (0 : Fin 4).val] := by
  have ht := trip_lt i t
  unfold k0_off1
  generalize t.val = n at *
  rcases ht with rfl | rfl | rfl <;> decide +kernel

theorem off2_eq (i : grid0.Coords) (t : Fin (k0_t1_loop i).trips) : k0_off2 i t = ![0, (0 : Fin 4).val, 512 * (blk (2 * t.val + 1)).val, 0] := by
  have ht := trip_lt i t
  unfold k0_off2
  generalize t.val = n at *
  rcases ht with rfl | rfl | rfl <;> decide +kernel

theorem off3_eq (i : grid0.Coords) (t : Fin (k0_t1_loop i).trips) : k0_off3 i t = ![0, 0, 512 * (blk (2 * t.val)).val, 128 * (0 : Fin 4).val] := by
  have ht := trip_lt i t
  unfold k0_off3
  generalize t.val = n at *
  rcases ht with rfl | rfl | rfl <;> decide +kernel

theorem off13_eq (i : grid0.Coords) (t : Fin (k0_t1_loop i).trips) : k0_off13 i t = ![0, 0, 512 * (blk (2 * t.val + 2)).val, 128 * (0 : Fin 4).val] := by
  have ht := trip_lt i t
  unfold k0_off13
  generalize t.val = n at *
  rcases ht with rfl | rfl | rfl <;> decide +kernel

theorem off14_eq (i : grid0.Coords) (t : Fin (k0_t1_loop i).trips) : k0_off14 i t = ![0, (0 : Fin 4).val, 512 * (blk (2 * t.val + 2)).val, 0] := by
  have ht := trip_lt i t
  unfold k0_off14
  generalize t.val = n at *
  rcases ht with rfl | rfl | rfl <;> decide +kernel

theorem off41_eq (i : grid0.Coords) : k0_off41 i = ![0, 0, 512 * (blk ((i 2).val)).val, 128 * (0 : Fin 4).val] := by
  unfold k0_off41; generalize i 2 = n; revert n; decide +kernel

theorem off45_eq (i : grid0.Coords) (hi : (i 2).val % 2 = 1) : k0_off45 i = ![0, 0, 512 * (blk ((i 2).val)).val, 128 * (0 : Fin 4).val] := by
  revert hi; unfold k0_off45; generalize i 2 = n; revert n; decide +kernel

theorem off46_eq (i : grid0.Coords) (hi : (i 2).val % 2 = 1) : k0_off46 i = ![0, (0 : Fin 4).val, 512 * (blk ((i 2).val)).val, 0] := by
  revert hi; unfold k0_off46; generalize i 2 = n; revert n; decide +kernel

theorem off47_eq (i : grid0.Coords) (hi : (i 2).val % 2 = 1) : k0_off47 i = ![0, 0, 512 * (blk ((i 2).val - 1)).val, 128 * (0 : Fin 4).val] := by
  revert hi; unfold k0_off47; generalize i 2 = n; revert n; decide +kernel

theorem off57_eq (i : grid0.Coords) : k0_off57 i = ![0, 0, 512 * (blk ((i 2).val)).val, 128 * (0 : Fin 4).val] := by
  unfold k0_off57; generalize i 2 = n; revert n; decide +kernel

theorem off4_eq (i : grid0.Coords) (t : Fin (k0_t1_loop i).trips) : k0_off4 i t = ![0, 0, 512 * (blk (2 * t.val + 1)).val, 128 * (1 : Fin 4).val] := by
  have ht := trip_lt i t
  unfold k0_off4
  generalize t.val = n at *
  rcases ht with rfl | rfl | rfl <;> decide +kernel

theorem off5_eq (i : grid0.Coords) (t : Fin (k0_t1_loop i).trips) : k0_off5 i t = ![0, (1 : Fin 4).val, 512 * (blk (2 * t.val + 1)).val, 0] := by
  have ht := trip_lt i t
  unfold k0_off5
  generalize t.val = n at *
  rcases ht with rfl | rfl | rfl <;> decide +kernel

theorem off6_eq (i : grid0.Coords) (t : Fin (k0_t1_loop i).trips) : k0_off6 i t = ![0, 0, 512 * (blk (2 * t.val)).val, 128 * (1 : Fin 4).val] := by
  have ht := trip_lt i t
  unfold k0_off6
  generalize t.val = n at *
  rcases ht with rfl | rfl | rfl <;> decide +kernel

theorem off15_eq (i : grid0.Coords) (t : Fin (k0_t1_loop i).trips) : k0_off15 i t = ![0, 0, 512 * (blk (2 * t.val + 2)).val, 128 * (1 : Fin 4).val] := by
  have ht := trip_lt i t
  unfold k0_off15
  generalize t.val = n at *
  rcases ht with rfl | rfl | rfl <;> decide +kernel

theorem off16_eq (i : grid0.Coords) (t : Fin (k0_t1_loop i).trips) : k0_off16 i t = ![0, (1 : Fin 4).val, 512 * (blk (2 * t.val + 2)).val, 0] := by
  have ht := trip_lt i t
  unfold k0_off16
  generalize t.val = n at *
  rcases ht with rfl | rfl | rfl <;> decide +kernel

theorem off42_eq (i : grid0.Coords) : k0_off42 i = ![0, 0, 512 * (blk ((i 2).val)).val, 128 * (1 : Fin 4).val] := by
  unfold k0_off42; generalize i 2 = n; revert n; decide +kernel

theorem off48_eq (i : grid0.Coords) (hi : (i 2).val % 2 = 1) : k0_off48 i = ![0, 0, 512 * (blk ((i 2).val)).val, 128 * (1 : Fin 4).val] := by
  revert hi; unfold k0_off48; generalize i 2 = n; revert n; decide +kernel

theorem off49_eq (i : grid0.Coords) (hi : (i 2).val % 2 = 1) : k0_off49 i = ![0, (1 : Fin 4).val, 512 * (blk ((i 2).val)).val, 0] := by
  revert hi; unfold k0_off49; generalize i 2 = n; revert n; decide +kernel

theorem off50_eq (i : grid0.Coords) (hi : (i 2).val % 2 = 1) : k0_off50 i = ![0, 0, 512 * (blk ((i 2).val - 1)).val, 128 * (1 : Fin 4).val] := by
  revert hi; unfold k0_off50; generalize i 2 = n; revert n; decide +kernel

theorem off58_eq (i : grid0.Coords) : k0_off58 i = ![0, 0, 512 * (blk ((i 2).val)).val, 128 * (1 : Fin 4).val] := by
  unfold k0_off58; generalize i 2 = n; revert n; decide +kernel

theorem off7_eq (i : grid0.Coords) (t : Fin (k0_t1_loop i).trips) : k0_off7 i t = ![0, 0, 512 * (blk (2 * t.val + 1)).val, 128 * (2 : Fin 4).val] := by
  have ht := trip_lt i t
  unfold k0_off7
  generalize t.val = n at *
  rcases ht with rfl | rfl | rfl <;> decide +kernel

theorem off8_eq (i : grid0.Coords) (t : Fin (k0_t1_loop i).trips) : k0_off8 i t = ![0, (2 : Fin 4).val, 512 * (blk (2 * t.val + 1)).val, 0] := by
  have ht := trip_lt i t
  unfold k0_off8
  generalize t.val = n at *
  rcases ht with rfl | rfl | rfl <;> decide +kernel

theorem off9_eq (i : grid0.Coords) (t : Fin (k0_t1_loop i).trips) : k0_off9 i t = ![0, 0, 512 * (blk (2 * t.val)).val, 128 * (2 : Fin 4).val] := by
  have ht := trip_lt i t
  unfold k0_off9
  generalize t.val = n at *
  rcases ht with rfl | rfl | rfl <;> decide +kernel

theorem off17_eq (i : grid0.Coords) (t : Fin (k0_t1_loop i).trips) : k0_off17 i t = ![0, 0, 512 * (blk (2 * t.val + 2)).val, 128 * (2 : Fin 4).val] := by
  have ht := trip_lt i t
  unfold k0_off17
  generalize t.val = n at *
  rcases ht with rfl | rfl | rfl <;> decide +kernel

theorem off18_eq (i : grid0.Coords) (t : Fin (k0_t1_loop i).trips) : k0_off18 i t = ![0, (2 : Fin 4).val, 512 * (blk (2 * t.val + 2)).val, 0] := by
  have ht := trip_lt i t
  unfold k0_off18
  generalize t.val = n at *
  rcases ht with rfl | rfl | rfl <;> decide +kernel

theorem off43_eq (i : grid0.Coords) : k0_off43 i = ![0, 0, 512 * (blk ((i 2).val)).val, 128 * (2 : Fin 4).val] := by
  unfold k0_off43; generalize i 2 = n; revert n; decide +kernel

theorem off51_eq (i : grid0.Coords) (hi : (i 2).val % 2 = 1) : k0_off51 i = ![0, 0, 512 * (blk ((i 2).val)).val, 128 * (2 : Fin 4).val] := by
  revert hi; unfold k0_off51; generalize i 2 = n; revert n; decide +kernel

theorem off52_eq (i : grid0.Coords) (hi : (i 2).val % 2 = 1) : k0_off52 i = ![0, (2 : Fin 4).val, 512 * (blk ((i 2).val)).val, 0] := by
  revert hi; unfold k0_off52; generalize i 2 = n; revert n; decide +kernel

theorem off53_eq (i : grid0.Coords) (hi : (i 2).val % 2 = 1) : k0_off53 i = ![0, 0, 512 * (blk ((i 2).val - 1)).val, 128 * (2 : Fin 4).val] := by
  revert hi; unfold k0_off53; generalize i 2 = n; revert n; decide +kernel

theorem off59_eq (i : grid0.Coords) : k0_off59 i = ![0, 0, 512 * (blk ((i 2).val)).val, 128 * (2 : Fin 4).val] := by
  unfold k0_off59; generalize i 2 = n; revert n; decide +kernel

theorem off10_eq (i : grid0.Coords) (t : Fin (k0_t1_loop i).trips) : k0_off10 i t = ![0, 0, 512 * (blk (2 * t.val + 1)).val, 128 * (3 : Fin 4).val] := by
  have ht := trip_lt i t
  unfold k0_off10
  generalize t.val = n at *
  rcases ht with rfl | rfl | rfl <;> decide +kernel

theorem off11_eq (i : grid0.Coords) (t : Fin (k0_t1_loop i).trips) : k0_off11 i t = ![0, (3 : Fin 4).val, 512 * (blk (2 * t.val + 1)).val, 0] := by
  have ht := trip_lt i t
  unfold k0_off11
  generalize t.val = n at *
  rcases ht with rfl | rfl | rfl <;> decide +kernel

theorem off12_eq (i : grid0.Coords) (t : Fin (k0_t1_loop i).trips) : k0_off12 i t = ![0, 0, 512 * (blk (2 * t.val)).val, 128 * (3 : Fin 4).val] := by
  have ht := trip_lt i t
  unfold k0_off12
  generalize t.val = n at *
  rcases ht with rfl | rfl | rfl <;> decide +kernel

theorem off19_eq (i : grid0.Coords) (t : Fin (k0_t1_loop i).trips) : k0_off19 i t = ![0, 0, 512 * (blk (2 * t.val + 2)).val, 128 * (3 : Fin 4).val] := by
  have ht := trip_lt i t
  unfold k0_off19
  generalize t.val = n at *
  rcases ht with rfl | rfl | rfl <;> decide +kernel

theorem off20_eq (i : grid0.Coords) (t : Fin (k0_t1_loop i).trips) : k0_off20 i t = ![0, (3 : Fin 4).val, 512 * (blk (2 * t.val + 2)).val, 0] := by
  have ht := trip_lt i t
  unfold k0_off20
  generalize t.val = n at *
  rcases ht with rfl | rfl | rfl <;> decide +kernel

theorem off44_eq (i : grid0.Coords) : k0_off44 i = ![0, 0, 512 * (blk ((i 2).val)).val, 128 * (3 : Fin 4).val] := by
  unfold k0_off44; generalize i 2 = n; revert n; decide +kernel

theorem off54_eq (i : grid0.Coords) (hi : (i 2).val % 2 = 1) : k0_off54 i = ![0, 0, 512 * (blk ((i 2).val)).val, 128 * (3 : Fin 4).val] := by
  revert hi; unfold k0_off54; generalize i 2 = n; revert n; decide +kernel

theorem off55_eq (i : grid0.Coords) (hi : (i 2).val % 2 = 1) : k0_off55 i = ![0, (3 : Fin 4).val, 512 * (blk ((i 2).val)).val, 0] := by
  revert hi; unfold k0_off55; generalize i 2 = n; revert n; decide +kernel

theorem off56_eq (i : grid0.Coords) (hi : (i 2).val % 2 = 1) : k0_off56 i = ![0, 0, 512 * (blk ((i 2).val - 1)).val, 128 * (3 : Fin 4).val] := by
  revert hi; unfold k0_off56; generalize i 2 = n; revert n; decide +kernel

theorem off60_eq (i : grid0.Coords) : k0_off60 i = ![0, 0, 512 * (blk ((i 2).val)).val, 128 * (3 : Fin 4).val] := by
  unfold k0_off60; generalize i 2 = n; revert n; decide +kernel

end Cert.KernelIdeal.Att

end
-- ==== Proof.Point.lean ====
/-
  What each stretch of the body does to the heads: a trip of the key loop, the loops, the last key block.
-/
module

public import proofs.«01_k».proof.Proof.Offsets
public import Idealize.ShloMosaic.Lib.LoopRemainder

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F] [Named F]

local notation "𝕄" => MT nD τ sig Unit (Elt F) ℕ (UR sig nD τ) ℕ

variable {c : Dev nD} {R : Refs} {K : Vec F S1x1x4096x512 .bf16} {A : Vec F S1x4x4096x128 .bf16} {V : Vec F S1x1x4096x512 .bf16}

theorem Runs.congr {p : Prog (TpuEff nD τ sig (Elt F) Λ₀ .tc) PUnit} {g g' : (Fin 4 → Head F) → (Fin 4 → Head F)}
    (h : Runs c R K A V p g) (e : ∀ σ, g σ = g' σ) : Runs c R K A V p g' := by
  rw [show g' = g from funext fun σ => (e σ).symm]; exact h

/-- Key block `n` scored into slot `b`, for one head. -/
def Head.scoreAt (K : Vec F S1x1x4096x512 .bf16) (A : Vec F S1x4x4096x128 .bf16) (qx : FVec F S512x256 .bf16) (h : Fin 4) (b : Fin 2) (n : ℕ) (H : Head F) : Head F :=
  H.score b qx (kblk K (blk n) h) (ablk A (blk n) h)

/-- Key block `n` folded from slot `b`, for one head. -/
def Head.foldAt (V : Vec F S1x1x4096x512 .bf16) (h : Fin 4) (b : Fin 2) (n : ℕ) (H : Head F) : Head F :=
  H.fold b k0_pay306 (kblk V (blk n) h)

/-- Key block `n`, the diagonal one, folded from slot `b`, for one head. -/
def Head.endAt (V : Vec F S1x1x4096x512 .bf16) (h : Fin 4) (b : Fin 2) (n : ℕ) (H : Head F) : Head F :=
  H.foldMasked b k0_pay305 k0_pay306 (kblk V (blk n) h)

/-- One trip of the key loop, for one head. -/
def Head.trip (K : Vec F S1x1x4096x512 .bf16) (A : Vec F S1x4x4096x128 .bf16) (V : Vec F S1x1x4096x512 .bf16) (qx : FVec F S512x256 .bf16) (h : Fin 4)
    (p : ℕ) (H : Head F) : Head F :=
  (((H.scoreAt K A qx h 1 (2 * p + 1)).foldAt V h 0 (2 * p)).scoreAt K A qx h 0 (2 * p + 2)).foldAt V h 1 (2 * p + 1)

/-- The first `p` trips, for one head. -/
def Head.trips (K : Vec F S1x1x4096x512 .bf16) (A : Vec F S1x4x4096x128 .bf16) (V : Vec F S1x1x4096x512 .bf16) (qx : FVec F S512x256 .bf16) (h : Fin 4) :
    ℕ → Head F → Head F
  | 0, H => H
  | p + 1, H => (Head.trips K A V qx h p H).trip K A V qx h p

set_option maxHeartbeats 2000000 in
theorem trip_runs (i : grid0.Coords) (qx : Fin 4 → FVec F S512x256 .bf16) (t : Fin (k0_t1_loop i).trips) :
    Runs c R K A V (trip i R k0_pay306 (qx 0) (qx 1) (qx 2) (qx 3) t) (fun σ h => (σ h).trip K A V (qx h) h t.val) := by
  refine Runs.congr ((score_runs (qx 0) 1 0 (blk (2 * t.val + 1)) _ _ (off1_eq i t) _ _ (off2_eq i t) _ _ _ rfl).bind <|
    (fold_runs k0_pay306 0 0 (blk (2 * t.val)) _ _ (off3_eq i t) _ _ _ rfl _ _ _ rfl).bind <|
    (score_runs (qx 1) 1 1 (blk (2 * t.val + 1)) _ _ (off4_eq i t) _ _ (off5_eq i t) _ _ _ rfl).bind <|
    (fold_runs k0_pay306 0 1 (blk (2 * t.val)) _ _ (off6_eq i t) _ _ _ rfl _ _ _ rfl).bind <|
    (score_runs (qx 2) 1 2 (blk (2 * t.val + 1)) _ _ (off7_eq i t) _ _ (off8_eq i t) _ _ _ rfl).bind <|
    (fold_runs k0_pay306 0 2 (blk (2 * t.val)) _ _ (off9_eq i t) _ _ _ rfl _ _ _ rfl).bind <|
    (score_runs (qx 3) 1 3 (blk (2 * t.val + 1)) _ _ (off10_eq i t) _ _ (off11_eq i t) _ _ _ rfl).bind <|
    (fold_runs k0_pay306 0 3 (blk (2 * t.val)) _ _ (off12_eq i t) _ _ _ rfl _ _ _ rfl).bind <|
    (score_runs (qx 0) 0 0 (blk (2 * t.val + 2)) _ _ (off13_eq i t) _ _ (off14_eq i t) _ _ _ rfl).bind <|
    (fold_runs k0_pay306 1 0 (blk (2 * t.val + 1)) _ _ (off1_eq i t) _ _ _ rfl _ _ _ rfl).bind <|
    (score_runs (qx 1) 0 1 (blk (2 * t.val + 2)) _ _ (off15_eq i t) _ _ (off16_eq i t) _ _ _ rfl).bind <|
    (fold_runs k0_pay306 1 1 (blk (2 * t.val + 1)) _ _ (off4_eq i t) _ _ _ rfl _ _ _ rfl).bind <|
    (score_runs (qx 2) 0 2 (blk (2 * t.val + 2)) _ _ (off17_eq i t) _ _ (off18_eq i t) _ _ _ rfl).bind <|
    (fold_runs k0_pay306 1 2 (blk (2 * t.val + 1)) _ _ (off7_eq i t) _ _ _ rfl _ _ _ rfl).bind <|
    (score_runs (qx 3) 0 3 (blk (2 * t.val + 2)) _ _ (off19_eq i t) _ _ (off20_eq i t) _ _ _ rfl).bind <|
    (fold_runs k0_pay306 1 3 (blk (2 * t.val + 1)) _ _ (off10_eq i t) _ _ _ rfl _ _ _ rfl)) ?_
  intro σ
  funext h
  fin_cases h <;> rfl

set_option maxHeartbeats 1000000 in
theorem evenRun_runs (i : grid0.Coords) (h2 : k0_cond2 i = 1#1) :
    Runs c R K A V (evenRun i R k0_pay305 k0_pay306 h2) (fun σ h => (σ h).endAt V h 0 (i 2).val) := by
  refine Runs.congr ((foldMasked_runs k0_pay305 k0_pay306 0 0 (blk (i 2).val) _ _ (off41_eq i) _ _ rfl _ _ _ rfl).bind <|
    (foldMasked_runs k0_pay305 k0_pay306 0 1 (blk (i 2).val) _ _ (off42_eq i) _ _ rfl _ _ _ rfl).bind <|
    (foldMasked_runs k0_pay305 k0_pay306 0 2 (blk (i 2).val) _ _ (off43_eq i) _ _ rfl _ _ _ rfl).bind <|
    (foldMasked_runs k0_pay305 k0_pay306 0 3 (blk (i 2).val) _ _ (off44_eq i) _ _ rfl _ _ _ rfl)) ?_
  intro σ
  funext h
  fin_cases h <;> rfl

set_option maxHeartbeats 1000000 in
theorem oddRounds_runs (i : grid0.Coords) (qx : Fin 4 → FVec F S512x256 .bf16) (h3 : k0_cond3 i = 1#1) (hi : (i 2).val % 2 = 1) :
    Runs c R K A V (oddRounds i R k0_pay306 (qx 0) (qx 1) (qx 2) (qx 3) h3)
      (fun σ h => ((σ h).scoreAt K A (qx h) h 1 (i 2).val).foldAt V h 0 ((i 2).val - 1)) := by
  refine Runs.congr ((score_runs (qx 0) 1 0 (blk (i 2).val) _ _ (off45_eq i hi) _ _ (off46_eq i hi) _ _ _ rfl).bind <|
    (fold_runs k0_pay306 0 0 (blk ((i 2).val - 1)) _ _ (off47_eq i hi) _ _ _ rfl _ _ _ rfl).bind <|
    (score_runs (qx 1) 1 1 (blk (i 2).val) _ _ (off48_eq i hi) _ _ (off49_eq i hi) _ _ _ rfl).bind <|
    (fold_runs k0_pay306 0 1 (blk ((i 2).val - 1)) _ _ (off50_eq i hi) _ _ _ rfl _ _ _ rfl).bind <|
    (score_runs (qx 2) 1 2 (blk (i 2).val) _ _ (off51_eq i hi) _ _ (off52_eq i hi) _ _ _ rfl).bind <|
    (fold_runs k0_pay306 0 2 (blk ((i 2).val - 1)) _ _ (off53_eq i hi) _ _ _ rfl _ _ _ rfl).bind <|
    (score_runs (qx 3) 1 3 (blk (i 2).val) _ _ (off54_eq i hi) _ _ (off55_eq i hi) _ _ _ rfl).bind <|
    (fold_runs k0_pay306 0 3 (blk ((i 2).val - 1)) _ _ (off56_eq i hi) _ _ _ rfl _ _ _ rfl)) ?_
  intro σ
  funext h
  fin_cases h <;> rfl

set_option maxHeartbeats 1000000 in
theorem oddMasked_runs (i : grid0.Coords) (h3 : k0_cond3 i = 1#1) :
    Runs c R K A V (oddMasked i R k0_pay305 k0_pay306 h3) (fun σ h => (σ h).endAt V h 1 (i 2).val) := by
  refine Runs.congr ((foldMasked_runs k0_pay305 k0_pay306 1 0 (blk (i 2).val) _ _ (off57_eq i) _ _ rfl _ _ _ rfl).bind <|
    (foldMasked_runs k0_pay305 k0_pay306 1 1 (blk (i 2).val) _ _ (off58_eq i) _ _ rfl _ _ _ rfl).bind <|
    (foldMasked_runs k0_pay305 k0_pay306 1 2 (blk (i 2).val) _ _ (off59_eq i) _ _ rfl _ _ _ rfl).bind <|
    (foldMasked_runs k0_pay305 k0_pay306 1 3 (blk (i 2).val) _ _ (off60_eq i) _ _ rfl _ _ _ rfl)) ?_
  intro σ
  funext h
  fin_cases h <;> rfl

theorem firstScores_runs (qx : Fin 4 → FVec F S512x256 .bf16) :
    Runs c R K A V (firstScores R qx) (fun σ h => (σ h).scoreAt K A (qx h) h 0 0) := by
  refine Runs.congr ((score_runs (qx 0) 0 0 (blk 0) _ _ rfl _ _ rfl _ _ _ rfl).bind <|
    (score_runs (qx 1) 0 1 (blk 0) _ _ rfl _ _ rfl _ _ _ rfl).bind <|
    (score_runs (qx 2) 0 2 (blk 0) _ _ rfl _ _ rfl _ _ _ rfl).bind <|
    (score_runs (qx 3) 0 3 (blk 0) _ _ rfl _ _ rfl _ _ _ rfl)) ?_
  intro σ
  funext h
  fin_cases h <;> rfl

theorem ret_runs : Runs c R K A V (pure ⟨⟩) (fun σ => σ) := by
  intro σ Q
  rw [show (pure ⟨⟩ : Prog (TpuEff nD τ sig (Elt F) Λ₀ .tc) PUnit) = .ret ⟨⟩ from rfl, wp_ret]
  iintro ⟨H, HQ⟩
  imodintro
  iapply HQ; iexact H

/-- What the last key block adds, for one head at query block `n`. -/
def Head.close (K : Vec F S1x1x4096x512 .bf16) (A : Vec F S1x4x4096x128 .bf16) (V : Vec F S1x1x4096x512 .bf16) (qx : FVec F S512x256 .bf16) (h : Fin 4)
    (n : ℕ) (H : Head F) : Head F :=
  if n % 2 = 0 then H.endAt V h 0 n else ((H.scoreAt K A qx h 1 n).foldAt V h 0 (n - 1)).endAt V h 1 n

theorem ends_runs (i : grid0.Coords) (qx : Fin 4 → FVec F S512x256 .bf16) :
    Runs c R K A V (evenEnd i R k0_pay305 k0_pay306 (qx 0) (qx 1) (qx 2) (qx 3) >>= fun _ => oddEnd i R k0_pay305 k0_pay306 (qx 0) (qx 1) (qx 2) (qx 3))
      (fun σ h => (σ h).close K A V (qx h) h (i 2).val) := by
  by_cases hi : (i 2).val % 2 = 0
  · have h2 : k0_cond2 i = 1#1 := (cond2_iff i).mpr hi
    have h3 : ¬ k0_cond3 i = 1#1 := fun h => by have := (cond3_iff i).mp h; omega
    unfold evenEnd oddEnd
    rw [dif_pos h2, dif_neg h3]
    refine Runs.congr ((evenRun_runs i h2).bind ret_runs) fun σ => funext fun h => ?_
    show _ = Head.close _ _ _ _ _ _ _
    unfold Head.close
    rw [if_pos hi]
  · have h3 : k0_cond3 i = 1#1 := (cond3_iff i).mpr (by omega)
    have h2 : ¬ k0_cond2 i = 1#1 := fun h => hi ((cond2_iff i).mp h)
    unfold evenEnd oddEnd
    rw [dif_neg h2, dif_pos h3]
    refine Runs.congr (ret_runs.bind ((oddRounds_runs i qx h3 (by omega)).bind (oddMasked_runs i h3))) fun σ => funext fun h => ?_
    show _ = Head.close _ _ _ _ _ _ _
    unfold Head.close
    rw [if_neg hi]

theorem loop_runs (i : grid0.Coords) (qx : Fin 4 → FVec F S512x256 .bf16) :
    Runs c R K A V (Scf.Loop.for (k0_t1_loop i) (k0_t1_ok i) ⟨⟩ (fun t _ => trip i R k0_pay306 (qx 0) (qx 1) (qx 2) (qx 3) t))
      (fun σ h => Head.trips K A V (qx h) h ((i 2).val / 2) (σ h)) := by
  intro σ Q
  refine BI.BIBase.Entails.trans ?_ (Scf.wp_for _ _ _ _ _ _ (k0_t1_ok i) () _ (fun k _ => Held c R K A V (fun h => Head.trips K A V (qx h) h k (σ h))) (fun k acc => ?_))
  · rw [show Scf.trips (k0_t1_loop i).lb (k0_t1_loop i).ub (k0_t1_loop i).st = (i 2).val / 2 from trips1 i]
    iintro ⟨H, HQ⟩
    isplitl [H]; · iexact H
    iintro %acc H
    iapply HQ; iexact H
  · refine BI.BIBase.Entails.trans ?_ (trip_runs (K := K) (A := A) (V := V) i qx k (fun h => Head.trips K A V (qx h) h k.val (σ h)) (fun _ => Held c R K A V (fun h => Head.trips K A V (qx h) h (k.val + 1) (σ h))))
    iintro H
    isplitl [H]; · iexact H
    iintro H
    iexact H

end Cert.KernelIdeal.Att

end
-- ==== Proof.Parts.lean ====
/-
  The remaining stretches of the body: the weights' cast, the queries' loads, the first values, the output.
-/
module

public import proofs.«01_k».proof.Proof.Point

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F] [Named F]

local notation "𝕄" => MT nD τ sig Unit (Elt F) ℕ (UR sig nD τ) ℕ

variable {c : Dev nD}

theorem q_in (h : Fin 4) : ∀ a, (![0, 0, 0, 128 * h.val] : Fin 4 → ℕ) a + S1x1x512x128.size a ≤ S1x1x512x512.size a := by
  revert h; decide
theorem qa_in (h : Fin 4) : ∀ a, (![0, h.val, 0, 0] : Fin 4 → ℕ) a + S1x1x512x128.size a ≤ S1x4x512x128.size a := by
  revert h; decide

/-- One head's queries beside their bias lanes. -/
def qrow (q : Vec F S1x1x512x512 .bf16) (qa : Vec F S1x4x512x128 .bf16) (h : Fin 4) : FVec F S512x256 .bf16 :=
  k0_pay307 (window q ![0, 0, 0, 128 * h.val] S1x1x512x128.size (q_in h)) (window qa ![0, h.val, 0, 0] S1x1x512x128.size (qa_in h))

/-- A buffer that holds something. -/
def HeldAny (c : Dev nD) {s : Shape} {e : EltTy} (m : Memref sig .tc .vmem s e) : sProp 𝕄 :=
  iprop(∃ f : m.view.ty.Contents (Elt F), (m.view.loc (c : Thread nD τ) ↦[m.view.set]{fullShare} f))

section
variable (i : grid0.Coords) (arg3 : Memref sig .tc .vmem S1x1x512x512 .bf16) (harg3 : arg3.IsWhole) (arg4 : Memref sig .tc .vmem S1x4x512x128 .bf16) (harg4 : arg4.IsWhole) (arg5 : Memref sig .tc .vmem S1x1x4096x512 .bf16) (harg5 : arg5.IsWhole) (arg6 : Memref sig .tc .vmem S1x4x4096x128 .bf16) (harg6 : arg6.IsWhole) (arg7 : Memref sig .tc .vmem S1x1x4096x512 .bf16) (harg7 : arg7.IsWhole) (arg8 : Memref sig .tc .vmem S1x64x5632 .f32) (harg8 : arg8.IsWhole) (arg9 : Memref sig .tc .vmem S1x64x5632 .f32) (harg9 : arg9.IsWhole) (arg10 : Memref sig .tc .vmem S1x176x2048 .f32) (harg10 : arg10.IsWhole) (arg11 : Memref sig .tc .vmem S1x64x2048 .f32) (harg11 : arg11.IsWhole) (arg12 : Memref sig .tc .vmem S1x512x512 .bf16) (harg12 : arg12.IsWhole) (arg13 : Memref sig .tc .vmem S64x5632 .bf16) (harg13 : arg13.IsWhole) (arg14 : Memref sig .tc .vmem S64x5632 .bf16) (harg14 : arg14.IsWhole) (arg15 : Memref sig .tc .vmem S176x2048 .bf16) (harg15 : arg15.IsWhole) (arg16 : Memref sig .tc .vmem S64x2048 .bf16) (harg16 : arg16.IsWhole) (arg17 : Memref sig .tc .vmem S4x1x512 .f32) (harg17 : arg17.IsWhole) (arg18 : Memref sig .tc .vmem S4x1x512 .f32) (harg18 : arg18.IsWhole) (arg19 : Memref sig .tc .vmem S4x128x512 .f32) (harg19 : arg19.IsWhole) (arg20 : Memref sig .tc .vmem S2x4x512x512 .f32) (harg20 : arg20.IsWhole) (arg21 : Memref sig .tc .vmem S2x4x1x512 .f32) (harg21 : arg21.IsWhole)

set_option maxHeartbeats 2000000 in
theorem castStep_spec (W8 : Vec F S1x64x5632 .f32) (W9 : Vec F S1x64x5632 .f32) (W10 : Vec F S1x176x2048 .f32) (W11 : Vec F S1x64x2048 .f32) (X13 : Vec F S64x5632 .bf16) (X14 : Vec F S64x5632 .bf16) (X15 : Vec F S176x2048 .bf16) (X16 : Vec F S64x2048 .bf16) (hX13 : ¬ k0_cond1 i = 1#1 → X13 = k0_pay301 W8) (hX14 : ¬ k0_cond1 i = 1#1 → X14 = k0_pay302 W9) (hX15 : ¬ k0_cond1 i = 1#1 → X15 = k0_pay303 W10) (hX16 : ¬ k0_cond1 i = 1#1 → X16 = k0_pay304 W11) (Q : PUnit → sProp 𝕄) :
    iprop(HeldI c arg8 W8 ∗ HeldI c arg9 W9 ∗ HeldI c arg10 W10 ∗ HeldI c arg11 W11 ∗ HeldI c arg13 X13 ∗ HeldI c arg14 X14 ∗ HeldI c arg15 X15 ∗ HeldI c arg16 X16 ∗ ((HeldI c arg8 W8 ∗ HeldI c arg9 W9 ∗ HeldI c arg10 W10 ∗ HeldI c arg11 W11 ∗ HeldI c arg13 (k0_pay301 W8) ∗ HeldI c arg14 (k0_pay302 W9) ∗ HeldI c arg15 (k0_pay303 W10) ∗ HeldI c arg16 (k0_pay304 W11)) -∗ Q ⟨⟩)) ⊢ wp frame (wpE (defs₀ (F := F)) Variants.none c none) Set.univ (castStep i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) Q := by
  unfold castStep
  by_cases h : k0_cond1 i = 1#1
  · rw [dif_pos h]
    unfold HeldI
    iintro ⟨⟨%f8, %e8, Hw8⟩, ⟨%f9, %e9, Hw9⟩, ⟨%f10, %e10, Hw10⟩, ⟨%f11, %e11, Hw11⟩, ⟨%f13, %e13, Hx13⟩, ⟨%f14, %e14, Hx14⟩, ⟨%f15, %e15, Hx15⟩, ⟨%f16, %e16, Hx16⟩, HQ⟩
    sl_exec
    sl_step
    iapply HQ
    isplitl [Hw8]
    · iexists f8
      isplitr; · ipureintro; exact e8
      iexact Hw8
    isplitl [Hw9]
    · iexists f9
      isplitr; · ipureintro; exact e9
      iexact Hw9
    isplitl [Hw10]
    · iexists f10
      isplitr; · ipureintro; exact e10
      iexact Hw10
    isplitl [Hw11]
    · iexists f11
      isplitr; · ipureintro; exact e11
      iexact Hw11
    isplitl [Hx13]
    · iexists _
      isplitr
      swap
      · iexact Hx13
      ipureintro
      rw [View.read_writes_full, View.readAt_full, e8]
    isplitl [Hx14]
    · iexists _
      isplitr
      swap
      · iexact Hx14
      ipureintro
      rw [View.read_writes_full, View.readAt_full, e9]
    isplitl [Hx15]
    · iexists _
      isplitr
      swap
      · iexact Hx15
      ipureintro
      rw [View.read_writes_full, View.readAt_full, e10]
    · iexists _
      isplitr
      swap
      · iexact Hx16
      ipureintro
      rw [View.read_writes_full, View.readAt_full, e11]
  · rw [dif_neg h, hX13 h, hX14 h, hX15 h, hX16 h, show (pure ⟨⟩ : Prog (TpuEff nD τ sig (Elt F) Λ₀ .tc) PUnit) = .ret ⟨⟩ from rfl, wp_ret]
    iintro ⟨H8, H9, H10, H11, H13, H14, H15, H16, HQ⟩
    imodintro
    iapply HQ
    isplitl [H8]; · iexact H8
    isplitl [H9]; · iexact H9
    isplitl [H10]; · iexact H10
    isplitl [H11]; · iexact H11
    isplitl [H13]; · iexact H13
    isplitl [H14]; · iexact H14
    isplitl [H15]; · iexact H15
    iexact H16

set_option maxHeartbeats 2000000 in
theorem loadQ_spec (q : Vec F S1x1x512x512 .bf16) (qa : Vec F S1x4x512x128 .bf16) (Q : (Fin 4 → FVec F S512x256 .bf16) → sProp 𝕄) :
    iprop(HeldI c arg3 q ∗ HeldI c arg4 qa ∗ ((HeldI c arg3 q ∗ HeldI c arg4 qa) -∗ Q (qrow q qa))) ⊢ wp frame (wpE (defs₀ (F := F)) Variants.none c none) Set.univ (loadQ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) Q := by
  have hq : qrow q qa = ![qrow q qa 0, qrow q qa 1, qrow q qa 2, qrow q qa 3] := by funext h; fin_cases h <;> rfl
  rw [hq]
  unfold loadQ HeldI qrow
  iintro ⟨⟨%fq, %eq, Hq⟩, ⟨%fa, %ea, Ha⟩, HQ⟩
  sl_exec
  sl_step
  have rq : ∀ h : Fin 4, View.readAt (Elt F) arg3.view (Rect.unit (s := S1x1x512x512) ![0, 0, 0, 128 * h.val] S1x1x512x128.size (q_in h)).toLoadRect fq = window q ![0, 0, 0, 128 * h.val] S1x1x512x128.size (q_in h) :=
    fun h => (View.readAt_unit _ fq _ rfl (q_in h)).trans (by rw [eq])
  have ra : ∀ h : Fin 4, View.readAt (Elt F) arg4.view (Rect.unit (s := S1x4x512x128) ![0, h.val, 0, 0] S1x1x512x128.size (qa_in h)).toLoadRect fa = window qa ![0, h.val, 0, 0] S1x1x512x128.size (qa_in h) :=
    fun h => (View.readAt_unit _ fa _ rfl (qa_in h)).trans (by rw [ea])
  have q0 : View.readAt (Elt F) arg3.view (Rect.unit (s := S1x1x512x512) ![0, 0, 0, 0] S1x1x512x128.size inb_S1x1x512x512_S1x1x512x128_0_0_0_0).toLoadRect fq = window q ![0, 0, 0, 128 * (0 : Fin 4).val] S1x1x512x128.size (q_in 0) := rq 0
  have a0 : View.readAt (Elt F) arg4.view (Rect.unit (s := S1x4x512x128) ![0, 0, 0, 0] S1x1x512x128.size inb_S1x4x512x128_S1x1x512x128_0_0_0_0).toLoadRect fa = window qa ![0, (0 : Fin 4).val, 0, 0] S1x1x512x128.size (qa_in 0) := ra 0
  have q1 : View.readAt (Elt F) arg3.view (Rect.unit (s := S1x1x512x512) ![0, 0, 0, 128] S1x1x512x128.size inb_S1x1x512x512_S1x1x512x128_0_0_0_128).toLoadRect fq = window q ![0, 0, 0, 128 * (1 : Fin 4).val] S1x1x512x128.size (q_in 1) := rq 1
  have a1 : View.readAt (Elt F) arg4.view (Rect.unit (s := S1x4x512x128) ![0, 1, 0, 0] S1x1x512x128.size inb_S1x4x512x128_S1x1x512x128_0_1_0_0).toLoadRect fa = window qa ![0, (1 : Fin 4).val, 0, 0] S1x1x512x128.size (qa_in 1) := ra 1
  have q2 : View.readAt (Elt F) arg3.view (Rect.unit (s := S1x1x512x512) ![0, 0, 0, 256] S1x1x512x128.size inb_S1x1x512x512_S1x1x512x128_0_0_0_256).toLoadRect fq = window q ![0, 0, 0, 128 * (2 : Fin 4).val] S1x1x512x128.size (q_in 2) := rq 2
  have a2 : View.readAt (Elt F) arg4.view (Rect.unit (s := S1x4x512x128) ![0, 2, 0, 0] S1x1x512x128.size inb_S1x4x512x128_S1x1x512x128_0_2_0_0).toLoadRect fa = window qa ![0, (2 : Fin 4).val, 0, 0] S1x1x512x128.size (qa_in 2) := ra 2
  have q3 : View.readAt (Elt F) arg3.view (Rect.unit (s := S1x1x512x512) ![0, 0, 0, 384] S1x1x512x128.size inb_S1x1x512x512_S1x1x512x128_0_0_0_384).toLoadRect fq = window q ![0, 0, 0, 128 * (3 : Fin 4).val] S1x1x512x128.size (q_in 3) := rq 3
  have a3 : View.readAt (Elt F) arg4.view (Rect.unit (s := S1x4x512x128) ![0, 3, 0, 0] S1x1x512x128.size inb_S1x4x512x128_S1x1x512x128_0_3_0_0).toLoadRect fa = window qa ![0, (3 : Fin 4).val, 0, 0] S1x1x512x128.size (qa_in 3) := ra 3
  rw [q0, a0, q1, a1, q2, a2, q3, a3]
  iapply HQ
  isplitl [Hq]
  · iexists fq
    isplitr; · ipureintro; exact eq
    iexact Hq
  · iexists fa
    isplitr; · ipureintro; exact ea
    iexact Ha

/-- What a head keeps at first: a maximum, a sum and an accumulator at their first values, the scores not yet set. -/
def Head.init (h : Fin 4) (st : Fin 2 → Vec F S1x1x512x512 .f32) (mx : Fin 2 → Vec F S1x1x1x512 .f32) : Head F where
  m := window (s := S4x1x512) k0_pay311 ![h.val, 0, 0] S1x1x512.size (row_in h)
  l := window (s := S4x1x512) k0_pay312 ![h.val, 0, 0] S1x1x512.size (row_in h)
  acc := window (s := S4x128x512) k0_pay313 ![h.val, 0, 0] S1x128x512.size (acc_in h)
  st := st
  mx := mx

set_option maxHeartbeats 2000000 in
theorem initStep_spec (K : Vec F S1x1x4096x512 .bf16) (A : Vec F S1x4x4096x128 .bf16) (V : Vec F S1x1x4096x512 .bf16) (Q : PUnit → sProp 𝕄) :
    iprop(HeldI c arg5 K ∗ HeldI c arg6 A ∗ HeldI c arg7 V ∗ HeldAny (F := F) c arg17 ∗ HeldAny (F := F) c arg18 ∗ HeldAny (F := F) c arg19 ∗ HeldAny (F := F) c arg20 ∗ HeldAny (F := F) c arg21 ∗
      (∀ (st : Fin 4 → Fin 2 → Vec F S1x1x512x512 .f32) (mx : Fin 4 → Fin 2 → Vec F S1x1x1x512 .f32), Held c ⟨arg3, arg4, arg5, arg6, arg7, arg17, arg18, arg19, arg20, arg21⟩ K A V (fun h => Head.init h (st h) (mx h)) -∗ Q ⟨⟩)) ⊢ wp frame (wpE (defs₀ (F := F)) Variants.none c none) Set.univ (initStep arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) Q := by
  unfold initStep HeldAny
  iintro ⟨H5, H6, H7, ⟨%f17, H17⟩, ⟨%f18, H18⟩, ⟨%f19, H19⟩, ⟨%f20, H20⟩, ⟨%f21, H21⟩, HQ⟩
  sl_exec
  sl_step
  iapply HQ $$ %(fun h b => window (arg20.view.read (Elt F) f20) ![b.val, h.val, 0, 0] S1x1x512x512.size (st_in b h)) %(fun h b => window (arg21.view.read (Elt F) f21) ![b.val, h.val, 0, 0] S1x1x1x512.size (mx_in b h))
  unfold Held HeldM HeldA HeldS HeldX
  isplitl [H5]; · iexact H5
  isplitl [H6]; · iexact H6
  isplitl [H7]; · iexact H7
  isplitl [H17]
  · iexists _
    isplitr
    swap
    · iexact H17
    ipureintro
    intro h
    rw [View.read_writes_full]; rfl
  isplitl [H18]
  · iexists _
    isplitr
    swap
    · iexact H18
    ipureintro
    intro h
    rw [View.read_writes_full]; rfl
  isplitl [H19]
  · iexists _
    isplitr
    swap
    · iexact H19
    ipureintro
    intro h
    rw [View.read_writes_full]; rfl
  isplitl [H20]
  · iexists f20
    isplitr; · ipureintro; intro b h; rfl
    iexact H20
  · iexists f21
    isplitr; · ipureintro; intro b h; rfl
    iexact H21

/-- The column of a block's index within its head. -/
def col (y : S1x512x512.Idx) : S1x512x128.Idx := fun a => match a with
  | 0 => y 0
  | 1 => y 1
  | 2 => ⟨(y 2).val % 128, Nat.mod_lt _ (by decide)⟩

/-- The four heads' outputs side by side. -/
def beside (g : Fin 4 → Vec F S1x512x128 .bf16) : Vec F S1x512x512 .bf16 := fun y =>
  g ⟨(y 2).val / 128, by have h : (y 2).val < 512 := (y 2).isLt; omega⟩ (col y)

theorem put_col (x : Vec F S1x512x512 .bf16) (h : ℕ) (w : Vec F S1x512x128 .bf16) (y : S1x512x512.Idx) :
    put x ![0, 0, 128 * h] S1x512x128.size w y = if (y 2).val / 128 = h then w (col y) else x y := by
  have h0 : (y 0).val < 1 := (y 0).isLt
  have h1 : (y 1).val < 512 := (y 1).isLt
  by_cases e : (y 2).val / 128 = h
  · have hall : ∀ a, (![0, 0, 128 * h] : Fin 3 → ℕ) a ≤ (y a).val ∧ (y a).val < (![0, 0, 128 * h] : Fin 3 → ℕ) a + S1x512x128.size a := by
      intro a; fin_cases a
      · exact ⟨Nat.zero_le _, by show (y 0).val < 0 + 1; omega⟩
      · exact ⟨Nat.zero_le _, by show (y 1).val < 0 + 512; omega⟩
      · exact ⟨by show 128 * h ≤ (y 2).val; omega, by show (y 2).val < 128 * h + 128; omega⟩
    rw [if_pos e]
    refine (dif_pos hall).trans (congrArg w (funext fun a => Fin.ext ?_))
    fin_cases a
    · show (y 0).val - 0 = (y 0).val; omega
    · show (y 1).val - 0 = (y 1).val; omega
    · show (y 2).val - 128 * h = (y 2).val % 128; omega
  · rw [if_neg e]
    refine dif_neg fun hall => e ?_
    have h2 := hall 2
    have a1 : 128 * h ≤ (y 2).val := h2.1
    have a2 : (y 2).val < 128 * h + 128 := h2.2
    omega

theorem put_beside (x : Vec F S1x512x512 .bf16) (g : Fin 4 → Vec F S1x512x128 .bf16) :
    put (put (put (put x ![0, 0, 128 * 0] S1x512x128.size (g 0)) ![0, 0, 128 * 1] S1x512x128.size (g 1)) ![0, 0, 128 * 2] S1x512x128.size (g 2))
      ![0, 0, 128 * 3] S1x512x128.size (g 3) = beside g := by
  funext y
  have h2 : (y 2).val < 512 := (y 2).isLt
  rw [put_col, put_col, put_col, put_col]
  unfold beside
  have : (y 2).val / 128 = 0 ∨ (y 2).val / 128 = 1 ∨ (y 2).val / 128 = 2 ∨ (y 2).val / 128 = 3 := by omega
  rcases this with e | e | e | e
  · rw [if_neg (by omega), if_neg (by omega), if_neg (by omega), if_pos e]; exact congrFun (congrArg g (Fin.ext e.symm)) _
  · rw [if_neg (by omega), if_neg (by omega), if_pos e]; exact congrFun (congrArg g (Fin.ext e.symm)) _
  · rw [if_neg (by omega), if_pos e]; exact congrFun (congrArg g (Fin.ext e.symm)) _
  · rw [if_pos e]; exact congrFun (congrArg g (Fin.ext e.symm)) _

set_option maxHeartbeats 2000000 in
theorem outStep_spec (l : Fin 4 → Vec F S1x1x512 .f32) (acc : Fin 4 → Vec F S1x128x512 .f32) (Q : PUnit → sProp 𝕄) :
    iprop(HeldM c arg18 l ∗ HeldA c arg19 acc ∗ HeldAny (F := F) c arg12 ∗
      ((HeldM c arg18 l ∗ HeldA c arg19 acc ∗ HeldI c arg12 (beside fun h => k0_pay336 (acc h) (l h))) -∗ Q ⟨⟩)) ⊢ wp frame (wpE (defs₀ (F := F)) Variants.none c none) Set.univ (outStep arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) Q := by
  unfold outStep HeldAny HeldM HeldA HeldI
  iintro ⟨⟨%f18, %e18, H18⟩, ⟨%f19, %e19, H19⟩, ⟨%f12, H12⟩, HQ⟩
  sl_exec
  sl_step
  iapply HQ
  isplitl [H18]
  · iexists f18
    isplitr; · ipureintro; exact e18
    iexact H18
  isplitl [H19]
  · iexists f19
    isplitr; · ipureintro; exact e19
    iexact H19
  iexists _
  isplitr
  swap
  · iexact H12
  ipureintro
  rw [View.read_writes_cons_put _ _ _ _ _ (rfl : _ = ![0, 0, 128 * 3]), View.read_writes_cons_put _ _ _ _ _ (rfl : _ = ![0, 0, 128 * 2]),
    View.read_writes_cons_put _ _ _ _ _ (rfl : _ = ![0, 0, 128 * 1]), View.read_writes_cons_put _ _ _ _ _ (rfl : _ = ![0, 0, 128 * 0]), View.writes_nil]
  have r18 : ∀ h : Fin 4, View.readAt (Elt F) arg18.view (Rect.unit (s := S4x1x512) ![h.val, 0, 0] S1x1x512.size (row_in h)).toLoadRect f18 = l h := fun h => (View.readAt_unit _ f18 _ rfl (row_in h)).trans (e18 h)
  have r19 : ∀ h : Fin 4, View.readAt (Elt F) arg19.view (Rect.unit (s := S4x128x512) ![h.val, 0, 0] S1x128x512.size (acc_in h)).toLoadRect f19 = acc h := fun h => (View.readAt_unit _ f19 _ rfl (acc_in h)).trans (e19 h)
  rw [← put_beside (arg12.view.read (Elt F) f12) (fun h => k0_pay336 (acc h) (l h)), ← r18 0, ← r18 1, ← r18 2, ← r18 3, ← r19 0, ← r19 1, ← r19 2, ← r19 3]
  rfl

set_option maxHeartbeats 1000000 in
theorem loops_spec (K : Vec F S1x1x4096x512 .bf16) (A : Vec F S1x4x4096x128 .bf16) (V : Vec F S1x1x4096x512 .bf16) (arg2 : BitVec 32) (qx : Fin 4 → FVec F S512x256 .bf16) (v108 : FVec F S512x512 .f32)
    (σ : Fin 4 → Head F) (Q : BitVec 32 → sProp 𝕄) :
    iprop(Held c ⟨arg3, arg4, arg5, arg6, arg7, arg17, arg18, arg19, arg20, arg21⟩ K A V σ ∗ (Held c ⟨arg3, arg4, arg5, arg6, arg7, arg17, arg18, arg19, arg20, arg21⟩ K A V (fun h => Head.trips K A V (qx h) h ((i 2).val / 2) (σ h)) -∗ Q (Scalar.muli arg2 512#32)))
      ⊢ wp frame (wpE (defs₀ (F := F)) Variants.none c none) Set.univ (loops i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg2 k0_pay306 (qx 0) (qx 1) (qx 2) (qx 3) v108) Q := by
  unfold loops
  rw [wp_bind]
  refine BI.BIBase.Entails.trans ?_ (loop_runs (K := K) (A := A) (V := V) i qx σ _)
  iintro ⟨H, HQ⟩
  isplitl [H]; · iexact H
  iintro H
  rw [show (Scf.Loop.for (k0_t2_loop i) (k0_t2_ok i) () (k0_t2_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg2 k0_pay306 (qx 0) (qx 1) (qx 2) (qx 3) v108 (k0_t1_loop i).ub)) = .ret () from
    Scf.for_eq_ret _ _ _ (k0_t2_ok i) () _ (trips2 i)]
  show _ ⊢ wp _ _ _ (.ret _) Q
  rw [wp_ret]
  iintro ⟨HQ, H⟩
  imodintro
  iapply HQ; iexact H

end

end Cert.KernelIdeal.Att

end
-- ==== Proof.Body.lean ====
/-
  The whole body at one grid point: from the staged blocks to the output block and the four cast weight blocks.
-/
module

public import proofs.«01_k».proof.Proof.Parts

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F] [Named F]

local notation "𝕄" => MT nD τ sig Unit (Elt F) ℕ (UR sig nD τ) ℕ

variable {c : Dev nD}

/-! ## What a head is left with does not depend on what the score slots held before -/

/-- Two states of a head that agree on all that is read before it is written at a trip's start. -/
structure Head.Same (H H' : Head F) : Prop where
  m : H.m = H'.m
  l : H.l = H'.l
  acc : H.acc = H'.acc
  st : H.st 0 = H'.st 0
  mx : H.mx 0 = H'.mx 0

theorem Head.Same.trip {H H' : Head F} (s : H.Same H') (K : Vec F S1x1x4096x512 .bf16) (A : Vec F S1x4x4096x128 .bf16) (V : Vec F S1x1x4096x512 .bf16)
    (qx : FVec F S512x256 .bf16) (h : Fin 4) (p : ℕ) : (H.trip K A V qx h p).Same (H'.trip K A V qx h p) := by
  obtain ⟨m, l, a, st, mx⟩ := H
  obtain ⟨m', l', a', st', mx'⟩ := H'
  obtain ⟨em, el, ea, es, ex⟩ := s
  dsimp only at em el ea es ex
  subst em el ea
  have n10 : (0 : Fin 2) ≠ 1 := by decide
  have n01 : (1 : Fin 2) ≠ 0 := by decide
  constructor <;> simp only [Head.trip, Head.scoreAt, Head.foldAt, Head.score, Head.fold, Function.update_self, Function.update_of_ne n10, Function.update_of_ne n01, es, ex]

theorem Head.Same.trips {H H' : Head F} (s : H.Same H') (K : Vec F S1x1x4096x512 .bf16) (A : Vec F S1x4x4096x128 .bf16) (V : Vec F S1x1x4096x512 .bf16)
    (qx : FVec F S512x256 .bf16) (h : Fin 4) : ∀ p, (Head.trips K A V qx h p H).Same (Head.trips K A V qx h p H')
  | 0 => s
  | p + 1 => (Head.Same.trips s K A V qx h p).trip K A V qx h p

theorem Head.Same.close {H H' : Head F} (s : H.Same H') (K : Vec F S1x1x4096x512 .bf16) (A : Vec F S1x4x4096x128 .bf16) (V : Vec F S1x1x4096x512 .bf16)
    (qx : FVec F S512x256 .bf16) (h : Fin 4) (n : ℕ) :
    (H.close K A V qx h n).l = (H'.close K A V qx h n).l ∧ (H.close K A V qx h n).acc = (H'.close K A V qx h n).acc := by
  obtain ⟨m, l, a, st, mx⟩ := H
  obtain ⟨m', l', a', st', mx'⟩ := H'
  obtain ⟨em, el, ea, es, ex⟩ := s
  dsimp only at em el ea es ex
  subst em el ea
  have n10 : (0 : Fin 2) ≠ 1 := by decide
  unfold Head.close
  by_cases e : n % 2 = 0
  · rw [if_pos e, if_pos e]
    constructor <;> simp only [Head.endAt, Head.foldMasked, es]
  · rw [if_neg e, if_neg e]
    constructor <;> simp only [Head.endAt, Head.foldMasked, Head.scoreAt, Head.foldAt, Head.score, Head.fold, Function.update_self, Function.update_of_ne n10, es, ex]

/-- A head before the first key block, its score slots at some fixed contents. -/
def Head.start (h : Fin 4) : Head F :=
  Head.init h (fun _ _ => Scalar.ofBits .f32 0x00000000#32) (fun _ _ => Scalar.ofBits .f32 0x00000000#32)

/-- A head after the key blocks `0 … n`, the last one masked. -/
def headOut (K : Vec F S1x1x4096x512 .bf16) (A : Vec F S1x4x4096x128 .bf16) (V : Vec F S1x1x4096x512 .bf16) (qx : FVec F S512x256 .bf16) (n : ℕ) (h : Fin 4) : Head F :=
  (Head.trips K A V qx h (n / 2) ((Head.start h).scoreAt K A qx h 0 0)).close K A V qx h n

/-- The output block at query block `n`. -/
def outBlk (q : Vec F S1x1x512x512 .bf16) (qa : Vec F S1x4x512x128 .bf16) (K : Vec F S1x1x4096x512 .bf16) (A : Vec F S1x4x4096x128 .bf16) (V : Vec F S1x1x4096x512 .bf16)
    (n : ℕ) : Vec F S1x512x512 .bf16 :=
  beside fun h => k0_pay336 (headOut K A V (qrow q qa h) n h).acc (headOut K A V (qrow q qa h) n h).l

theorem headOut_of (K : Vec F S1x1x4096x512 .bf16) (A : Vec F S1x4x4096x128 .bf16) (V : Vec F S1x1x4096x512 .bf16) (qx : FVec F S512x256 .bf16) (n : ℕ) (h : Fin 4)
    (st : Fin 2 → Vec F S1x1x512x512 .f32) (mx : Fin 2 → Vec F S1x1x1x512 .f32) :
    ((Head.trips K A V qx h (n / 2) ((Head.init h st mx).scoreAt K A qx h 0 0)).close K A V qx h n).l = (headOut K A V qx n h).l ∧
    ((Head.trips K A V qx h (n / 2) ((Head.init h st mx).scoreAt K A qx h 0 0)).close K A V qx h n).acc = (headOut K A V qx n h).acc :=
  have s : Head.Same ((Head.init h st mx).scoreAt K A qx h 0 0) ((Head.start h).scoreAt K A qx h 0 0) :=
    ⟨rfl, rfl, rfl, by simp only [Head.scoreAt, Head.score, Function.update_self], by simp only [Head.scoreAt, Head.score, Function.update_self]⟩
  Head.Same.close (Head.Same.trips s K A V qx h (n / 2)) K A V qx h n

section
variable (i : grid0.Coords) (arg3 : Memref sig .tc .vmem S1x1x512x512 .bf16) (harg3 : arg3.IsWhole) (arg4 : Memref sig .tc .vmem S1x4x512x128 .bf16) (harg4 : arg4.IsWhole) (arg5 : Memref sig .tc .vmem S1x1x4096x512 .bf16) (harg5 : arg5.IsWhole) (arg6 : Memref sig .tc .vmem S1x4x4096x128 .bf16) (harg6 : arg6.IsWhole) (arg7 : Memref sig .tc .vmem S1x1x4096x512 .bf16) (harg7 : arg7.IsWhole) (arg8 : Memref sig .tc .vmem S1x64x5632 .f32) (harg8 : arg8.IsWhole) (arg9 : Memref sig .tc .vmem S1x64x5632 .f32) (harg9 : arg9.IsWhole) (arg10 : Memref sig .tc .vmem S1x176x2048 .f32) (harg10 : arg10.IsWhole) (arg11 : Memref sig .tc .vmem S1x64x2048 .f32) (harg11 : arg11.IsWhole) (arg12 : Memref sig .tc .vmem S1x512x512 .bf16) (harg12 : arg12.IsWhole) (arg13 : Memref sig .tc .vmem S64x5632 .bf16) (harg13 : arg13.IsWhole) (arg14 : Memref sig .tc .vmem S64x5632 .bf16) (harg14 : arg14.IsWhole) (arg15 : Memref sig .tc .vmem S176x2048 .bf16) (harg15 : arg15.IsWhole) (arg16 : Memref sig .tc .vmem S64x2048 .bf16) (harg16 : arg16.IsWhole) (arg17 : Memref sig .tc .vmem S4x1x512 .f32) (harg17 : arg17.IsWhole) (arg18 : Memref sig .tc .vmem S4x1x512 .f32) (harg18 : arg18.IsWhole) (arg19 : Memref sig .tc .vmem S4x128x512 .f32) (harg19 : arg19.IsWhole) (arg20 : Memref sig .tc .vmem S2x4x512x512 .f32) (harg20 : arg20.IsWhole) (arg21 : Memref sig .tc .vmem S2x4x1x512 .f32) (harg21 : arg21.IsWhole)

attribute [local irreducible] castStep loadQ initStep firstScores loops evenEnd oddEnd outStep

set_option maxHeartbeats 2000000 in
theorem body_spec (q : Vec F S1x1x512x512 .bf16) (qa : Vec F S1x4x512x128 .bf16) (K : Vec F S1x1x4096x512 .bf16) (A : Vec F S1x4x4096x128 .bf16) (V : Vec F S1x1x4096x512 .bf16)
    (W8 : Vec F S1x64x5632 .f32) (W9 : Vec F S1x64x5632 .f32) (W10 : Vec F S1x176x2048 .f32) (W11 : Vec F S1x64x2048 .f32) (X13 : Vec F S64x5632 .bf16) (X14 : Vec F S64x5632 .bf16) (X15 : Vec F S176x2048 .bf16) (X16 : Vec F S64x2048 .bf16) (hX13 : ¬ k0_cond1 i = 1#1 → X13 = k0_pay301 W8) (hX14 : ¬ k0_cond1 i = 1#1 → X14 = k0_pay302 W9) (hX15 : ¬ k0_cond1 i = 1#1 → X15 = k0_pay303 W10) (hX16 : ¬ k0_cond1 i = 1#1 → X16 = k0_pay304 W11) (Q : PUnit → sProp 𝕄) :
    iprop(HeldI c arg3 q ∗ HeldI c arg4 qa ∗ HeldI c arg5 K ∗ HeldI c arg6 A ∗ HeldI c arg7 V ∗ (HeldI c arg8 W8 ∗ HeldI c arg9 W9 ∗ HeldI c arg10 W10 ∗ HeldI c arg11 W11 ∗ HeldI c arg13 X13 ∗ HeldI c arg14 X14 ∗ HeldI c arg15 X15 ∗ HeldI c arg16 X16) ∗ HeldAny (F := F) c arg12 ∗ HeldAny (F := F) c arg17 ∗ HeldAny (F := F) c arg18 ∗ HeldAny (F := F) c arg19 ∗ HeldAny (F := F) c arg20 ∗ HeldAny (F := F) c arg21 ∗
      ((HeldI c arg3 q ∗ HeldI c arg4 qa ∗ HeldI c arg5 K ∗ HeldI c arg6 A ∗ HeldI c arg7 V ∗ (HeldI c arg8 W8 ∗ HeldI c arg9 W9 ∗ HeldI c arg10 W10 ∗ HeldI c arg11 W11 ∗ HeldI c arg13 (k0_pay301 W8) ∗ HeldI c arg14 (k0_pay302 W9) ∗ HeldI c arg15 (k0_pay303 W10) ∗ HeldI c arg16 (k0_pay304 W11)) ∗ HeldI c arg12 (outBlk q qa K A V (i 2).val) ∗ HeldAny (F := F) c arg17 ∗ HeldAny (F := F) c arg18 ∗ HeldAny (F := F) c arg19 ∗ HeldAny (F := F) c arg20 ∗ HeldAny (F := F) c arg21) -∗ Q ⟨⟩))
      ⊢ wp frame (wpE (defs₀ (F := F)) Variants.none c none) Set.univ (cc0_fox_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) Q := by
  rw [body_eq i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (broadcast S512x512 (Scalar.ofBits .f32 0x00000000#32))]
  unfold bodySteps
  rw [wp_bind]
  refine BI.BIBase.Entails.trans ?_ (castStep_spec i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 W8 W9 W10 W11 X13 X14 X15 X16 hX13 hX14 hX15 hX16 _)
  iintro ⟨H3, H4, H5, H6, H7, HW, H12, H17, H18, H19, H20, H21, HQ⟩
  icases HW with ⟨H8, H9, H10, H11, H13, H14, H15, H16⟩
  isplitl [H8]; · iexact H8
  isplitl [H9]; · iexact H9
  isplitl [H10]; · iexact H10
  isplitl [H11]; · iexact H11
  isplitl [H13]; · iexact H13
  isplitl [H14]; · iexact H14
  isplitl [H15]; · iexact H15
  isplitl [H16]; · iexact H16
  iintro HW
  rw [wp_bind]
  iapply (loadQ_spec i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 q qa _)
  isplitl [H3]; · iexact H3
  isplitl [H4]; · iexact H4
  iintro ⟨H3, H4⟩
  rw [wp_bind]
  iapply (initStep_spec arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 K A V _)
  isplitl [H5]; · iexact H5
  isplitl [H6]; · iexact H6
  isplitl [H7]; · iexact H7
  isplitl [H17]; · iexact H17
  isplitl [H18]; · iexact H18
  isplitl [H19]; · iexact H19
  isplitl [H20]; · iexact H20
  isplitl [H21]; · iexact H21
  iintro %st %mx H
  rw [wp_bind]
  iapply (firstScores_runs (R := ⟨arg3, arg4, arg5, arg6, arg7, arg17, arg18, arg19, arg20, arg21⟩) (K := K) (A := A) (V := V) (qrow q qa) _ _)
  isplitl [H]; · iexact H
  iintro H
  rw [wp_bind]
  iapply (loops_spec i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 K A V (BitVec.ofNat 32 (i 2).val) (qrow q qa) (broadcast S512x512 (Scalar.ofBits .f32 0x00000000#32)) _ _)
  isplitl [H]; · iexact H
  iintro H
  rw [← bind_assoc, wp_bind]
  iapply (ends_runs (R := ⟨arg3, arg4, arg5, arg6, arg7, arg17, arg18, arg19, arg20, arg21⟩) (K := K) (A := A) (V := V) i (qrow q qa) _ _)
  isplitl [H]; · iexact H
  iintro H
  unfold Held
  icases H with ⟨H5, H6, H7, H17, H18, H19, H20, H21⟩
  iapply (outStep_spec arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _)
  isplitl [H18]; · iexact H18
  isplitl [H19]; · iexact H19
  isplitl [H12]; · iexact H12
  iintro ⟨H18, H19, H12⟩
  iapply HQ
  isplitl [H3]; · iexact H3
  isplitl [H4]; · iexact H4
  isplitl [H5]; · iexact H5
  isplitl [H6]; · iexact H6
  isplitl [H7]; · iexact H7
  isplitl [HW]; · iexact HW
  isplitl [H12]
  · have e : (beside fun h => k0_pay336
        ((Head.trips K A V (qrow q qa h) h ((i 2).val / 2) ((Head.init h (st h) (mx h)).scoreAt K A (qrow q qa h) h 0 0)).close K A V (qrow q qa h) h (i 2).val).acc
        ((Head.trips K A V (qrow q qa h) h ((i 2).val / 2) ((Head.init h (st h) (mx h)).scoreAt K A (qrow q qa h) h 0 0)).close K A V (qrow q qa h) h (i 2).val).l)
        = outBlk q qa K A V (i 2).val := by
      unfold outBlk
      refine congrArg beside (funext fun h => ?_)
      rw [(headOut_of K A V (qrow q qa h) (i 2).val h (st h) (mx h)).1, (headOut_of K A V (qrow q qa h) (i 2).val h (st h) (mx h)).2]
    rw [← e]
    iexact H12
  unfold HeldM HeldA HeldS HeldX HeldAny
  icases H17 with ⟨%f17, -, H17⟩
  icases H18 with ⟨%f18, -, H18⟩
  icases H19 with ⟨%f19, -, H19⟩
  icases H20 with ⟨%f20, -, H20⟩
  icases H21 with ⟨%f21, -, H21⟩
  isplitl [H17]; · iexists f17; iexact H17
  isplitl [H18]; · iexists f18; iexact H18
  isplitl [H19]; · iexists f19; iexact H19
  isplitl [H20]; · iexists f20; iexact H20
  iexists f21; iexact H21

end

end Cert.KernelIdeal.Att

end
-- ==== Proof.Vals.lean ====
/-
  What each window's buffer holds before and after each grid point.
-/
module

public import proofs.«01_k».proof.Proof.Body
public import proofs.«01_k».proof.Proof.Gen.KernelIdeal.Frame
public import proofs.«01_k».proof.Proof.Gen.KernelIdeal.Points
public import Idealize.ShloMosaic.Lib.Pipeline.Frame
public import Idealize.ShloMosaic.Lib.Pipeline.FrameBody
public import Idealize.ShloMosaic.Lib.Pipeline.TableIdle

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body leaves in each window's buffer at each point: an input its block, the output the attention's block, a
    cast weight the cast of its block. -/
def dats (_ : Fin 1) (c : Dev nD) : Pipeline.Dat τ (Elt F) Unit ℕ (UR sig nD τ) ℕ cfg0 c where
  A w := Gen.V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlk (iblk m c 0 t) (iblk m c 1 t) (iblk m c 2 t) (iblk m c 3 t) (iblk m c 4 t) ((grid0.coords t) 2).val
    | ⟨10, _⟩ => k0_pay301 (iblk m c 5 t)
    | ⟨11, _⟩ => k0_pay302 (iblk m c 6 t)
    | ⟨12, _⟩ => k0_pay303 (iblk m c 7 t)
    | ⟨13, _⟩ => k0_pay304 (iblk m c 8 t)
  Φ _ := Pipeline.ΦA spec0 c
  q w := Pipeline.shareOf spec0 w
  owed _ := 0

theorem A_eq (c : Dev nD) (w : Fin cfg0.W) : (dats m 0 c).A w = Gen.V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = outBlk (iblk m c 0 t) (iblk m c 1 t) (iblk m c 2 t) (iblk m c 3 t) (iblk m c 4 t) ((grid0.coords t) 2).val := by dsimp only [dats]
theorem after_10 (c : Dev nD) (t : Fin cfg0.N) : (dats m 0 c).after 10 t = k0_pay301 (iblk m c 5 t) := by dsimp only [dats]
theorem after_11 (c : Dev nD) (t : Fin cfg0.N) : (dats m 0 c).after 11 t = k0_pay302 (iblk m c 6 t) := by dsimp only [dats]
theorem after_12 (c : Dev nD) (t : Fin cfg0.N) : (dats m 0 c).after 12 t = k0_pay303 (iblk m c 7 t) := by dsimp only [dats]
theorem after_13 (c : Dev nD) (t : Fin cfg0.N) : (dats m 0 c).after 13 t = k0_pay304 (iblk m c 8 t) := by dsimp only [dats]
theorem found_0 (c : Dev nD) (t : Fin cfg0.N) (d) : (dats m 0 c).before 0 t d = iblk m c 0 t :=
  before0_0_of m (dats m 0 c) (A_eq m c 0) (after_0 m c) t d
theorem found_1 (c : Dev nD) (t : Fin cfg0.N) (d) : (dats m 0 c).before 1 t d = iblk m c 1 t :=
  before0_1_of m (dats m 0 c) (A_eq m c 1) (after_1 m c) t d
theorem found_2 (c : Dev nD) (t : Fin cfg0.N) (d) : (dats m 0 c).before 2 t d = iblk m c 2 t :=
  before0_2_of m (dats m 0 c) (A_eq m c 2) (after_2 m c) t d
theorem found_3 (c : Dev nD) (t : Fin cfg0.N) (d) : (dats m 0 c).before 3 t d = iblk m c 3 t :=
  before0_3_of m (dats m 0 c) (A_eq m c 3) (after_3 m c) t d
theorem found_4 (c : Dev nD) (t : Fin cfg0.N) (d) : (dats m 0 c).before 4 t d = iblk m c 4 t :=
  before0_4_of m (dats m 0 c) (A_eq m c 4) (after_4 m c) t d
theorem found_5 (c : Dev nD) (t : Fin cfg0.N) (d) : (dats m 0 c).before 5 t d = iblk m c 5 t :=
  before0_5_of m (dats m 0 c) (A_eq m c 5) (after_5 m c) t d
theorem found_6 (c : Dev nD) (t : Fin cfg0.N) (d) : (dats m 0 c).before 6 t d = iblk m c 6 t :=
  before0_6_of m (dats m 0 c) (A_eq m c 6) (after_6 m c) t d
theorem found_7 (c : Dev nD) (t : Fin cfg0.N) (d) : (dats m 0 c).before 7 t d = iblk m c 7 t :=
  before0_7_of m (dats m 0 c) (A_eq m c 7) (after_7 m c) t d
theorem found_8 (c : Dev nD) (t : Fin cfg0.N) (d) : (dats m 0 c).before 8 t d = iblk m c 8 t :=
  before0_8_of m (dats m 0 c) (A_eq m c 8) (after_8 m c) t d

theorem coord2 : ∀ t : Fin grid0.N, ((grid0.coords t) 2).val = t.val % 8 := by decide +kernel

theorem notfirst (t : Fin cfg0.N) (h : ¬ k0_cond1 (grid0.coords t) = 1#1) : ¬ t.val % 4 = 0 := fun e =>
  h ((cond1_iff _).mpr (by rw [coord2 t]; omega))

theorem same_5 (c : Dev nD) (t : Fin cfg0.N) (h : ¬ t.val % 4 = 0) : iblk m c 5 t = iblk m c 5 ⟨t.val - 1, Nat.lt_of_le_of_lt (Nat.sub_le _ _) t.isLt⟩ := by
  have hf : (cfg0.win 5).fetch t = false := by
    rw [← Bool.not_eq_true]; exact fun e => h ((fetch0_5 t).mp e)
  rw [← found_5 m c t (iblk m c 5 t), (dats m 0 c).before_of_pos 5 t (fun e => h (by rw [e])) hf]
  rfl

theorem carried_10 (c : Dev nD) (t : Fin cfg0.N) (h : ¬ t.val % 4 = 0) (d) : (dats m 0 c).before 10 t d = k0_pay301 (iblk m c 5 t) := by
  have h0 : t.val ≠ 0 := fun e => h (by rw [e])
  have idle0_of : ∀ t' : Fin cfg0.N, cfg0.idle 10 (cfg0.grid.coords t') = true → ¬ t'.val % 4 = 0 := fun t' e => by
    refine notfirst t' fun h' => ?_
    have e' : (!(k0_cond1 (grid0.coords t') == 1#1)) = true := e
    rw [h'] at e'; exact absurd e' (by decide)
  rw [Pipeline.Dat.before_out_traj (dats m 0 c) 10 rfl (fun _ _ => rfl) (fun t' h1 e _ => by
    rw [after_10, after_10, same_5 m c t' (idle0_of t' e)]) t.val t rfl d]
  have fr : ∀ n, (hn : n + 1 < cfg0.N) → ¬ (n + 1) % 4 = 0 → cfg0.fresh 10 (n + 1) = false := by
    intro n
    induction n with
    | zero =>
      intro hn h4
      rw [Pipeline.Cfg.fresh_succ cfg0 10 0 (Nat.lt_of_succ_lt hn)]
      have hfl : (cfg0.win 10).flush ⟨0, Nat.lt_of_succ_lt hn⟩ = false := by
        rw [← Bool.not_eq_true]; exact fun e => by have := (flush0_10 _).mp e; simp only at this; omega
      rw [hfl, Bool.false_or]
      cases hi : cfg0.idle 10 (cfg0.grid.coords ⟨0, Nat.lt_of_succ_lt hn⟩)
      · rfl
      · exact absurd rfl (idle0_of _ hi)
    | succ n ih =>
      intro hn h4
      rw [Pipeline.Cfg.fresh_succ cfg0 10 (n + 1) (Nat.lt_of_succ_lt hn)]
      have hfl : (cfg0.win 10).flush ⟨n + 1, Nat.lt_of_succ_lt hn⟩ = false := by
        rw [← Bool.not_eq_true]; exact fun e => by have := (flush0_10 _).mp e; simp only at this; omega
      rw [hfl, Bool.false_or]
      cases hi : cfg0.idle 10 (cfg0.grid.coords ⟨n + 1, Nat.lt_of_succ_lt hn⟩)
      · rfl
      · rw [ih (Nat.lt_of_succ_lt hn) (idle0_of _ hi)]; rfl
  obtain ⟨n, hn⟩ : ∃ n, t.val = n + 1 := ⟨t.val - 1, by omega⟩
  rw [show cfg0.fresh 10 t.val = false by rw [hn]; exact fr n (by rw [← hn]; exact t.isLt) (by rw [← hn]; exact h), if_neg Bool.false_ne_true, after_10, same_5 m c t h]

/-- What is handed back of the cast weight: its cast, or the buffer as found where the point stores nothing. -/
theorem handed_10 (c : Dev nD) (t : Fin cfg0.N) : HeldI c (win0_10.stage (cfg0.slots t 10)) (k0_pay301 (iblk m c 5 t)) ⊢
    (match cfg0.idle 10 (cfg0.grid.coords t) with
      | true => match (cfg0.win 10).flush t with
        | false => iprop(∃ d, owns (c : Thread nD τ) ((cfg0.win 10).stage (cfg0.slots t 10)) fullShare ((dats m 0 c).before 10 t d))
        | true => owns (c : Thread nD τ) ((cfg0.win 10).stage (cfg0.slots t 10)) fullShare ((dats m 0 c).after 10 t)
      | false => owns (c : Thread nD τ) ((cfg0.win 10).stage (cfg0.slots t 10)) fullShare ((dats m 0 c).after 10 t) : sProp 𝕄) := by
  cases hi : cfg0.idle 10 (cfg0.grid.coords t)
  · dsimp only; rw [after_10]; exact .rfl
  · cases hf : (cfg0.win 10).flush t
    · dsimp only
      have h : ¬ t.val % 4 = 0 := by
        refine notfirst t fun h' => ?_
        have e' : (!(k0_cond1 (grid0.coords t) == 1#1)) = true := hi
        rw [h'] at e'; exact absurd e' (by decide)
      iintro H
      iexists (k0_pay301 (iblk m c 5 t))
      rw [carried_10 m c t h]
      unfold owns
      unfold HeldI
      iexact H
    · dsimp only; rw [after_10]; exact .rfl

theorem same_6 (c : Dev nD) (t : Fin cfg0.N) (h : ¬ t.val % 4 = 0) : iblk m c 6 t = iblk m c 6 ⟨t.val - 1, Nat.lt_of_le_of_lt (Nat.sub_le _ _) t.isLt⟩ := by
  have hf : (cfg0.win 6).fetch t = false := by
    rw [← Bool.not_eq_true]; exact fun e => h ((fetch0_6 t).mp e)
  rw [← found_6 m c t (iblk m c 6 t), (dats m 0 c).before_of_pos 6 t (fun e => h (by rw [e])) hf]
  rfl

theorem carried_11 (c : Dev nD) (t : Fin cfg0.N) (h : ¬ t.val % 4 = 0) (d) : (dats m 0 c).before 11 t d = k0_pay302 (iblk m c 6 t) := by
  have h0 : t.val ≠ 0 := fun e => h (by rw [e])
  have idle0_of : ∀ t' : Fin cfg0.N, cfg0.idle 11 (cfg0.grid.coords t') = true → ¬ t'.val % 4 = 0 := fun t' e => by
    refine notfirst t' fun h' => ?_
    have e' : (!(k0_cond1 (grid0.coords t') == 1#1)) = true := e
    rw [h'] at e'; exact absurd e' (by decide)
  rw [Pipeline.Dat.before_out_traj (dats m 0 c) 11 rfl (fun _ _ => rfl) (fun t' h1 e _ => by
    rw [after_11, after_11, same_6 m c t' (idle0_of t' e)]) t.val t rfl d]
  have fr : ∀ n, (hn : n + 1 < cfg0.N) → ¬ (n + 1) % 4 = 0 → cfg0.fresh 11 (n + 1) = false := by
    intro n
    induction n with
    | zero =>
      intro hn h4
      rw [Pipeline.Cfg.fresh_succ cfg0 11 0 (Nat.lt_of_succ_lt hn)]
      have hfl : (cfg0.win 11).flush ⟨0, Nat.lt_of_succ_lt hn⟩ = false := by
        rw [← Bool.not_eq_true]; exact fun e => by have := (flush0_11 _).mp e; simp only at this; omega
      rw [hfl, Bool.false_or]
      cases hi : cfg0.idle 11 (cfg0.grid.coords ⟨0, Nat.lt_of_succ_lt hn⟩)
      · rfl
      · exact absurd rfl (idle0_of _ hi)
    | succ n ih =>
      intro hn h4
      rw [Pipeline.Cfg.fresh_succ cfg0 11 (n + 1) (Nat.lt_of_succ_lt hn)]
      have hfl : (cfg0.win 11).flush ⟨n + 1, Nat.lt_of_succ_lt hn⟩ = false := by
        rw [← Bool.not_eq_true]; exact fun e => by have := (flush0_11 _).mp e; simp only at this; omega
      rw [hfl, Bool.false_or]
      cases hi : cfg0.idle 11 (cfg0.grid.coords ⟨n + 1, Nat.lt_of_succ_lt hn⟩)
      · rfl
      · rw [ih (Nat.lt_of_succ_lt hn) (idle0_of _ hi)]; rfl
  obtain ⟨n, hn⟩ : ∃ n, t.val = n + 1 := ⟨t.val - 1, by omega⟩
  rw [show cfg0.fresh 11 t.val = false by rw [hn]; exact fr n (by rw [← hn]; exact t.isLt) (by rw [← hn]; exact h), if_neg Bool.false_ne_true, after_11, same_6 m c t h]

/-- What is handed back of the cast weight: its cast, or the buffer as found where the point stores nothing. -/
theorem handed_11 (c : Dev nD) (t : Fin cfg0.N) : HeldI c (win0_11.stage (cfg0.slots t 11)) (k0_pay302 (iblk m c 6 t)) ⊢
    (match cfg0.idle 11 (cfg0.grid.coords t) with
      | true => match (cfg0.win 11).flush t with
        | false => iprop(∃ d, owns (c : Thread nD τ) ((cfg0.win 11).stage (cfg0.slots t 11)) fullShare ((dats m 0 c).before 11 t d))
        | true => owns (c : Thread nD τ) ((cfg0.win 11).stage (cfg0.slots t 11)) fullShare ((dats m 0 c).after 11 t)
      | false => owns (c : Thread nD τ) ((cfg0.win 11).stage (cfg0.slots t 11)) fullShare ((dats m 0 c).after 11 t) : sProp 𝕄) := by
  cases hi : cfg0.idle 11 (cfg0.grid.coords t)
  · dsimp only; rw [after_11]; exact .rfl
  · cases hf : (cfg0.win 11).flush t
    · dsimp only
      have h : ¬ t.val % 4 = 0 := by
        refine notfirst t fun h' => ?_
        have e' : (!(k0_cond1 (grid0.coords t) == 1#1)) = true := hi
        rw [h'] at e'; exact absurd e' (by decide)
      iintro H
      iexists (k0_pay302 (iblk m c 6 t))
      rw [carried_11 m c t h]
      unfold owns
      unfold HeldI
      iexact H
    · dsimp only; rw [after_11]; exact .rfl

theorem same_7 (c : Dev nD) (t : Fin cfg0.N) (h : ¬ t.val % 4 = 0) : iblk m c 7 t = iblk m c 7 ⟨t.val - 1, Nat.lt_of_le_of_lt (Nat.sub_le _ _) t.isLt⟩ := by
  have hf : (cfg0.win 7).fetch t = false := by
    rw [← Bool.not_eq_true]; exact fun e => h ((fetch0_7 t).mp e)
  rw [← found_7 m c t (iblk m c 7 t), (dats m 0 c).before_of_pos 7 t (fun e => h (by rw [e])) hf]
  rfl

theorem carried_12 (c : Dev nD) (t : Fin cfg0.N) (h : ¬ t.val % 4 = 0) (d) : (dats m 0 c).before 12 t d = k0_pay303 (iblk m c 7 t) := by
  have h0 : t.val ≠ 0 := fun e => h (by rw [e])
  have idle0_of : ∀ t' : Fin cfg0.N, cfg0.idle 12 (cfg0.grid.coords t') = true → ¬ t'.val % 4 = 0 := fun t' e => by
    refine notfirst t' fun h' => ?_
    have e' : (!(k0_cond1 (grid0.coords t') == 1#1)) = true := e
    rw [h'] at e'; exact absurd e' (by decide)
  rw [Pipeline.Dat.before_out_traj (dats m 0 c) 12 rfl (fun _ _ => rfl) (fun t' h1 e _ => by
    rw [after_12, after_12, same_7 m c t' (idle0_of t' e)]) t.val t rfl d]
  have fr : ∀ n, (hn : n + 1 < cfg0.N) → ¬ (n + 1) % 4 = 0 → cfg0.fresh 12 (n + 1) = false := by
    intro n
    induction n with
    | zero =>
      intro hn h4
      rw [Pipeline.Cfg.fresh_succ cfg0 12 0 (Nat.lt_of_succ_lt hn)]
      have hfl : (cfg0.win 12).flush ⟨0, Nat.lt_of_succ_lt hn⟩ = false := by
        rw [← Bool.not_eq_true]; exact fun e => by have := (flush0_12 _).mp e; simp only at this; omega
      rw [hfl, Bool.false_or]
      cases hi : cfg0.idle 12 (cfg0.grid.coords ⟨0, Nat.lt_of_succ_lt hn⟩)
      · rfl
      · exact absurd rfl (idle0_of _ hi)
    | succ n ih =>
      intro hn h4
      rw [Pipeline.Cfg.fresh_succ cfg0 12 (n + 1) (Nat.lt_of_succ_lt hn)]
      have hfl : (cfg0.win 12).flush ⟨n + 1, Nat.lt_of_succ_lt hn⟩ = false := by
        rw [← Bool.not_eq_true]; exact fun e => by have := (flush0_12 _).mp e; simp only at this; omega
      rw [hfl, Bool.false_or]
      cases hi : cfg0.idle 12 (cfg0.grid.coords ⟨n + 1, Nat.lt_of_succ_lt hn⟩)
      · rfl
      · rw [ih (Nat.lt_of_succ_lt hn) (idle0_of _ hi)]; rfl
  obtain ⟨n, hn⟩ : ∃ n, t.val = n + 1 := ⟨t.val - 1, by omega⟩
  rw [show cfg0.fresh 12 t.val = false by rw [hn]; exact fr n (by rw [← hn]; exact t.isLt) (by rw [← hn]; exact h), if_neg Bool.false_ne_true, after_12, same_7 m c t h]

/-- What is handed back of the cast weight: its cast, or the buffer as found where the point stores nothing. -/
theorem handed_12 (c : Dev nD) (t : Fin cfg0.N) : HeldI c (win0_12.stage (cfg0.slots t 12)) (k0_pay303 (iblk m c 7 t)) ⊢
    (match cfg0.idle 12 (cfg0.grid.coords t) with
      | true => match (cfg0.win 12).flush t with
        | false => iprop(∃ d, owns (c : Thread nD τ) ((cfg0.win 12).stage (cfg0.slots t 12)) fullShare ((dats m 0 c).before 12 t d))
        | true => owns (c : Thread nD τ) ((cfg0.win 12).stage (cfg0.slots t 12)) fullShare ((dats m 0 c).after 12 t)
      | false => owns (c : Thread nD τ) ((cfg0.win 12).stage (cfg0.slots t 12)) fullShare ((dats m 0 c).after 12 t) : sProp 𝕄) := by
  cases hi : cfg0.idle 12 (cfg0.grid.coords t)
  · dsimp only; rw [after_12]; exact .rfl
  · cases hf : (cfg0.win 12).flush t
    · dsimp only
      have h : ¬ t.val % 4 = 0 := by
        refine notfirst t fun h' => ?_
        have e' : (!(k0_cond1 (grid0.coords t) == 1#1)) = true := hi
        rw [h'] at e'; exact absurd e' (by decide)
      iintro H
      iexists (k0_pay303 (iblk m c 7 t))
      rw [carried_12 m c t h]
      unfold owns
      unfold HeldI
      iexact H
    · dsimp only; rw [after_12]; exact .rfl

theorem same_8 (c : Dev nD) (t : Fin cfg0.N) (h : ¬ t.val % 4 = 0) : iblk m c 8 t = iblk m c 8 ⟨t.val - 1, Nat.lt_of_le_of_lt (Nat.sub_le _ _) t.isLt⟩ := by
  have hf : (cfg0.win 8).fetch t = false := by
    rw [← Bool.not_eq_true]; exact fun e => h ((fetch0_8 t).mp e)
  rw [← found_8 m c t (iblk m c 8 t), (dats m 0 c).before_of_pos 8 t (fun e => h (by rw [e])) hf]
  rfl

theorem carried_13 (c : Dev nD) (t : Fin cfg0.N) (h : ¬ t.val % 4 = 0) (d) : (dats m 0 c).before 13 t d = k0_pay304 (iblk m c 8 t) := by
  have h0 : t.val ≠ 0 := fun e => h (by rw [e])
  have idle0_of : ∀ t' : Fin cfg0.N, cfg0.idle 13 (cfg0.grid.coords t') = true → ¬ t'.val % 4 = 0 := fun t' e => by
    refine notfirst t' fun h' => ?_
    have e' : (!(k0_cond1 (grid0.coords t') == 1#1)) = true := e
    rw [h'] at e'; exact absurd e' (by decide)
  rw [Pipeline.Dat.before_out_traj (dats m 0 c) 13 rfl (fun _ _ => rfl) (fun t' h1 e _ => by
    rw [after_13, after_13, same_8 m c t' (idle0_of t' e)]) t.val t rfl d]
  have fr : ∀ n, (hn : n + 1 < cfg0.N) → ¬ (n + 1) % 4 = 0 → cfg0.fresh 13 (n + 1) = false := by
    intro n
    induction n with
    | zero =>
      intro hn h4
      rw [Pipeline.Cfg.fresh_succ cfg0 13 0 (Nat.lt_of_succ_lt hn)]
      have hfl : (cfg0.win 13).flush ⟨0, Nat.lt_of_succ_lt hn⟩ = false := by
        rw [← Bool.not_eq_true]; exact fun e => by have := (flush0_13 _).mp e; simp only at this; omega
      rw [hfl, Bool.false_or]
      cases hi : cfg0.idle 13 (cfg0.grid.coords ⟨0, Nat.lt_of_succ_lt hn⟩)
      · rfl
      · exact absurd rfl (idle0_of _ hi)
    | succ n ih =>
      intro hn h4
      rw [Pipeline.Cfg.fresh_succ cfg0 13 (n + 1) (Nat.lt_of_succ_lt hn)]
      have hfl : (cfg0.win 13).flush ⟨n + 1, Nat.lt_of_succ_lt hn⟩ = false := by
        rw [← Bool.not_eq_true]; exact fun e => by have := (flush0_13 _).mp e; simp only at this; omega
      rw [hfl, Bool.false_or]
      cases hi : cfg0.idle 13 (cfg0.grid.coords ⟨n + 1, Nat.lt_of_succ_lt hn⟩)
      · rfl
      · rw [ih (Nat.lt_of_succ_lt hn) (idle0_of _ hi)]; rfl
  obtain ⟨n, hn⟩ : ∃ n, t.val = n + 1 := ⟨t.val - 1, by omega⟩
  rw [show cfg0.fresh 13 t.val = false by rw [hn]; exact fr n (by rw [← hn]; exact t.isLt) (by rw [← hn]; exact h), if_neg Bool.false_ne_true, after_13, same_8 m c t h]

/-- What is handed back of the cast weight: its cast, or the buffer as found where the point stores nothing. -/
theorem handed_13 (c : Dev nD) (t : Fin cfg0.N) : HeldI c (win0_13.stage (cfg0.slots t 13)) (k0_pay304 (iblk m c 8 t)) ⊢
    (match cfg0.idle 13 (cfg0.grid.coords t) with
      | true => match (cfg0.win 13).flush t with
        | false => iprop(∃ d, owns (c : Thread nD τ) ((cfg0.win 13).stage (cfg0.slots t 13)) fullShare ((dats m 0 c).before 13 t d))
        | true => owns (c : Thread nD τ) ((cfg0.win 13).stage (cfg0.slots t 13)) fullShare ((dats m 0 c).after 13 t)
      | false => owns (c : Thread nD τ) ((cfg0.win 13).stage (cfg0.slots t 13)) fullShare ((dats m 0 c).after 13 t) : sProp 𝕄) := by
  cases hi : cfg0.idle 13 (cfg0.grid.coords t)
  · dsimp only; rw [after_13]; exact .rfl
  · cases hf : (cfg0.win 13).flush t
    · dsimp only
      have h : ¬ t.val % 4 = 0 := by
        refine notfirst t fun h' => ?_
        have e' : (!(k0_cond1 (grid0.coords t) == 1#1)) = true := hi
        rw [h'] at e'; exact absurd e' (by decide)
      iintro H
      iexists (k0_pay304 (iblk m c 8 t))
      rw [carried_13 m c t h]
      unfold owns
      unfold HeldI
      iexact H
    · dsimp only; rw [after_13]; exact .rfl

end Cert.KernelIdeal.Att

end
-- ==== Proof.Run.lean ====
/-
  The run of the whole program: the body's obligation at each grid point, the launch, and the frame.
-/
module

public import proofs.«01_k».proof.Proof.Vals
public import proofs.«01_k».proof.Proof.Gen.KernelIdeal.Frame
public import proofs.«01_k».proof.Proof.Gen.KernelIdeal.Points
public import Idealize.ShloMosaic.Lib.Pipeline.Frame
public import Idealize.ShloMosaic.Lib.Pipeline.FrameBody
public import Idealize.ShloMosaic.Lib.Pipeline.TableIdle

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem owns_held (c : Dev nD) {s : Shape} {e : EltTy} (r : Memref sig .tc .vmem s e) (X : Vec F s e) :
    (owns (c : Thread nD τ) r fullShare X : sProp 𝕄) = HeldI c r X := rfl

theorem any_0 (c : Dev nD) : (HeldAny (F := F) c (Memref.whole cc0_scratch0 : Memref sig .tc .vmem S4x1x512 .f32) : sProp 𝕄)
    = iprop(∃ f : Buf (Elt F) ((c : Thread nD τ).loc cc0_scratch0), ((c : Thread nD τ).loc cc0_scratch0) ↦{fullShare} f) := by
  unfold HeldAny; simp only [Memref.view_whole, View.set_whole]
theorem any_1 (c : Dev nD) : (HeldAny (F := F) c (Memref.whole cc0_scratch1 : Memref sig .tc .vmem S4x1x512 .f32) : sProp 𝕄)
    = iprop(∃ f : Buf (Elt F) ((c : Thread nD τ).loc cc0_scratch1), ((c : Thread nD τ).loc cc0_scratch1) ↦{fullShare} f) := by
  unfold HeldAny; simp only [Memref.view_whole, View.set_whole]
theorem any_2 (c : Dev nD) : (HeldAny (F := F) c (Memref.whole cc0_scratch2 : Memref sig .tc .vmem S4x128x512 .f32) : sProp 𝕄)
    = iprop(∃ f : Buf (Elt F) ((c : Thread nD τ).loc cc0_scratch2), ((c : Thread nD τ).loc cc0_scratch2) ↦{fullShare} f) := by
  unfold HeldAny; simp only [Memref.view_whole, View.set_whole]
theorem any_3 (c : Dev nD) : (HeldAny (F := F) c (Memref.whole cc0_scratch3 : Memref sig .tc .vmem S2x4x512x512 .f32) : sProp 𝕄)
    = iprop(∃ f : Buf (Elt F) ((c : Thread nD τ).loc cc0_scratch3), ((c : Thread nD τ).loc cc0_scratch3) ↦{fullShare} f) := by
  unfold HeldAny; simp only [Memref.view_whole, View.set_whole]
theorem any_4 (c : Dev nD) : (HeldAny (F := F) c (Memref.whole cc0_scratch4 : Memref sig .tc .vmem S2x4x1x512 .f32) : sProp 𝕄)
    = iprop(∃ f : Buf (Elt F) ((c : Thread nD τ).loc cc0_scratch4), ((c : Thread nD τ).loc cc0_scratch4) ↦{fullShare} f) := by
  unfold HeldAny; simp only [Memref.view_whole, View.set_whole]

/-- The invariant between points: the scratch buffers at some contents, the generator's register at some state. -/
theorem inv_eq (c : Dev nD) : (Pipeline.ΦA spec0 c : sProp 𝕄)
    = iprop((HeldAny (F := F) c (Memref.whole cc0_scratch0 : Memref sig .tc .vmem S4x1x512 .f32) ∗ HeldAny (F := F) c (Memref.whole cc0_scratch1 : Memref sig .tc .vmem S4x1x512 .f32)
      ∗ HeldAny (F := F) c (Memref.whole cc0_scratch2 : Memref sig .tc .vmem S4x128x512 .f32) ∗ HeldAny (F := F) c (Memref.whole cc0_scratch3 : Memref sig .tc .vmem S2x4x512x512 .f32)
      ∗ HeldAny (F := F) c (Memref.whole cc0_scratch4 : Memref sig .tc .vmem S2x4x1x512 .f32)) ∗ ∃ r, prngReg c r) := by
  unfold Pipeline.ΦA
  rw [scopedRest0_eq, any_0, any_1, any_2, any_3, any_4]

def bodyPre (c : Dev nD) (t : Fin cfg0.N) : sProp 𝕄 :=
  iprop((dats m 0 c).Φ t.castSucc ∗ (dats m 0 c).owesAt () t.castSucc
    ∗ (∃ d, HeldI c (win0_0.stage (cfg0.slots t 0)) ((dats m 0 c).before 0 t d))
    ∗ (∃ d, HeldI c (win0_1.stage (cfg0.slots t 1)) ((dats m 0 c).before 1 t d))
    ∗ (∃ d, HeldI c (win0_2.stage (cfg0.slots t 2)) ((dats m 0 c).before 2 t d))
    ∗ (∃ d, HeldI c (win0_3.stage (cfg0.slots t 3)) ((dats m 0 c).before 3 t d))
    ∗ (∃ d, HeldI c (win0_4.stage (cfg0.slots t 4)) ((dats m 0 c).before 4 t d))
    ∗ (∃ d, HeldI c (win0_5.stage (cfg0.slots t 5)) ((dats m 0 c).before 5 t d))
    ∗ (∃ d, HeldI c (win0_6.stage (cfg0.slots t 6)) ((dats m 0 c).before 6 t d))
    ∗ (∃ d, HeldI c (win0_7.stage (cfg0.slots t 7)) ((dats m 0 c).before 7 t d))
    ∗ (∃ d, HeldI c (win0_8.stage (cfg0.slots t 8)) ((dats m 0 c).before 8 t d))
    ∗ (∃ d, HeldI c (win0_9.stage (cfg0.slots t 9)) ((dats m 0 c).before 9 t d))
    ∗ (∃ d, HeldI c (win0_10.stage (cfg0.slots t 10)) ((dats m 0 c).before 10 t d))
    ∗ (∃ d, HeldI c (win0_11.stage (cfg0.slots t 11)) ((dats m 0 c).before 11 t d))
    ∗ (∃ d, HeldI c (win0_12.stage (cfg0.slots t 12)) ((dats m 0 c).before 12 t d))
    ∗ (∃ d, HeldI c (win0_13.stage (cfg0.slots t 13)) ((dats m 0 c).before 13 t d)))
def bodyPost (c : Dev nD) (t : Fin cfg0.N) : sProp 𝕄 :=
  iprop((dats m 0 c).Φ t.succ ∗ (dats m 0 c).owesAt () t.succ
    ∗ HeldI c (win0_0.stage (cfg0.slots t 0)) (iblk m c 0 t)
    ∗ HeldI c (win0_1.stage (cfg0.slots t 1)) (iblk m c 1 t)
    ∗ HeldI c (win0_2.stage (cfg0.slots t 2)) (iblk m c 2 t)
    ∗ HeldI c (win0_3.stage (cfg0.slots t 3)) (iblk m c 3 t)
    ∗ HeldI c (win0_4.stage (cfg0.slots t 4)) (iblk m c 4 t)
    ∗ HeldI c (win0_5.stage (cfg0.slots t 5)) (iblk m c 5 t)
    ∗ HeldI c (win0_6.stage (cfg0.slots t 6)) (iblk m c 6 t)
    ∗ HeldI c (win0_7.stage (cfg0.slots t 7)) (iblk m c 7 t)
    ∗ HeldI c (win0_8.stage (cfg0.slots t 8)) (iblk m c 8 t)
    ∗ HeldI c (win0_9.stage (cfg0.slots t 9)) (outBlk (iblk m c 0 t) (iblk m c 1 t) (iblk m c 2 t) (iblk m c 3 t) (iblk m c 4 t) ((grid0.coords t) 2).val)
    ∗ HeldI c (win0_10.stage (cfg0.slots t 10)) (k0_pay301 (iblk m c 5 t))
    ∗ HeldI c (win0_11.stage (cfg0.slots t 11)) (k0_pay302 (iblk m c 6 t))
    ∗ HeldI c (win0_12.stage (cfg0.slots t 12)) (k0_pay303 (iblk m c 7 t))
    ∗ HeldI c (win0_13.stage (cfg0.slots t 13)) (k0_pay304 (iblk m c 8 t)))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, inv_eq]
  simp only [found_0, found_1, found_2, found_3, found_4, found_5, found_6, found_7, found_8]
  iintro ⟨⟨⟨HS0, HS1, HS2, HS3, HS4⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (body_spec (F := F) (c := c) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
    (iblk m c 0 t) (iblk m c 1 t) (iblk m c 2 t) (iblk m c 3 t) (iblk m c 4 t) (iblk m c 5 t) (iblk m c 6 t) (iblk m c 7 t) (iblk m c 8 t)
    ((dats m 0 c).before 10 t d10) ((dats m 0 c).before 11 t d11) ((dats m 0 c).before 12 t d12) ((dats m 0 c).before 13 t d13) (fun h => carried_10 m c t (notfirst t h) d10) (fun h => carried_11 m c t (notfirst t h) d11) (fun h => carried_12 m c t (notfirst t h) d12) (fun h => carried_13 m c t (notfirst t h) d13) _)
  isplitl [H0]; · iexact H0
  isplitl [H1]; · iexact H1
  isplitl [H2]; · iexact H2
  isplitl [H3]; · iexact H3
  isplitl [H4]; · iexact H4
  isplitl [H5 H6 H7 H8 H10 H11 H12 H13]
  · isplitl [H5]; · iexact H5
    isplitl [H6]; · iexact H6
    isplitl [H7]; · iexact H7
    isplitl [H8]; · iexact H8
    isplitl [H10]; · iexact H10
    isplitl [H11]; · iexact H11
    isplitl [H12]; · iexact H12
    iexact H13
  isplitl [H9]
  · unfold HeldI HeldAny
    icases H9 with ⟨%f9, -, H9⟩
    iexists f9; iexact H9
  isplitl [HS0]; · iexact HS0
  isplitl [HS1]; · iexact HS1
  isplitl [HS2]; · iexact HS2
  isplitl [HS3]; · iexact HS3
  isplitl [HS4]; · iexact HS4
  iintro ⟨H0, H1, H2, H3, H4, ⟨H5, H6, H7, H8, H10, H11, H12, H13⟩, H9, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem defs₀_row (t : Fin cfg0.N) : defs₀ (F := F) .tc cfg0.body (cfg0.bodyArgs t (cfg0.slots t)) = bodyAt0 t := by
  unfold defs₀; rw [Defs.onTc_tc]

theorem kept_0 (c : Dev nD) (t : Fin cfg0.N) : HeldI c (win0_0.stage (cfg0.slots t 0)) (iblk m c 0 t) ⊢ (owns (c : Thread nD τ) ((cfg0.win 0).stage (cfg0.slots t 0)) fullShare ((dats m 0 c).after 0 t) : sProp 𝕄) := by
  rw [after_0]; exact .rfl
theorem kept_1 (c : Dev nD) (t : Fin cfg0.N) : HeldI c (win0_1.stage (cfg0.slots t 1)) (iblk m c 1 t) ⊢ (owns (c : Thread nD τ) ((cfg0.win 1).stage (cfg0.slots t 1)) fullShare ((dats m 0 c).after 1 t) : sProp 𝕄) := by
  rw [after_1]; exact .rfl
theorem kept_2 (c : Dev nD) (t : Fin cfg0.N) : HeldI c (win0_2.stage (cfg0.slots t 2)) (iblk m c 2 t) ⊢ (owns (c : Thread nD τ) ((cfg0.win 2).stage (cfg0.slots t 2)) fullShare ((dats m 0 c).after 2 t) : sProp 𝕄) := by
  rw [after_2]; exact .rfl
theorem kept_3 (c : Dev nD) (t : Fin cfg0.N) : HeldI c (win0_3.stage (cfg0.slots t 3)) (iblk m c 3 t) ⊢ (owns (c : Thread nD τ) ((cfg0.win 3).stage (cfg0.slots t 3)) fullShare ((dats m 0 c).after 3 t) : sProp 𝕄) := by
  rw [after_3]; exact .rfl
theorem kept_4 (c : Dev nD) (t : Fin cfg0.N) : HeldI c (win0_4.stage (cfg0.slots t 4)) (iblk m c 4 t) ⊢ (owns (c : Thread nD τ) ((cfg0.win 4).stage (cfg0.slots t 4)) fullShare ((dats m 0 c).after 4 t) : sProp 𝕄) := by
  rw [after_4]; exact .rfl
theorem kept_5 (c : Dev nD) (t : Fin cfg0.N) : HeldI c (win0_5.stage (cfg0.slots t 5)) (iblk m c 5 t) ⊢ (owns (c : Thread nD τ) ((cfg0.win 5).stage (cfg0.slots t 5)) fullShare ((dats m 0 c).after 5 t) : sProp 𝕄) := by
  rw [after_5]; exact .rfl
theorem kept_6 (c : Dev nD) (t : Fin cfg0.N) : HeldI c (win0_6.stage (cfg0.slots t 6)) (iblk m c 6 t) ⊢ (owns (c : Thread nD τ) ((cfg0.win 6).stage (cfg0.slots t 6)) fullShare ((dats m 0 c).after 6 t) : sProp 𝕄) := by
  rw [after_6]; exact .rfl
theorem kept_7 (c : Dev nD) (t : Fin cfg0.N) : HeldI c (win0_7.stage (cfg0.slots t 7)) (iblk m c 7 t) ⊢ (owns (c : Thread nD τ) ((cfg0.win 7).stage (cfg0.slots t 7)) fullShare ((dats m 0 c).after 7 t) : sProp 𝕄) := by
  rw [after_7]; exact .rfl
theorem kept_8 (c : Dev nD) (t : Fin cfg0.N) : HeldI c (win0_8.stage (cfg0.slots t 8)) (iblk m c 8 t) ⊢ (owns (c : Thread nD τ) ((cfg0.win 8).stage (cfg0.slots t 8)) fullShare ((dats m 0 c).after 8 t) : sProp 𝕄) := by
  rw [after_8]; exact .rfl
theorem kept_9 (c : Dev nD) (t : Fin cfg0.N) : HeldI c (win0_9.stage (cfg0.slots t 9)) (outBlk (iblk m c 0 t) (iblk m c 1 t) (iblk m c 2 t) (iblk m c 3 t) (iblk m c 4 t) ((grid0.coords t) 2).val) ⊢ (owns (c : Thread nD τ) ((cfg0.win 9).stage (cfg0.slots t 9)) fullShare ((dats m 0 c).after 9 t) : sProp 𝕄) := by
  rw [after_9]; exact .rfl
set_option maxHeartbeats 1000000 in
attribute [local irreducible] dats in
theorem body_obligation (c : Dev nD) :
    Pipeline.BodyObligation (dats (F := F) m 0 c) (defs₀ (F := F)) Variants.none () Set.univ := fun t => by
  rw [bigSep_W0, bigSep_W0, defs₀_row]
  refine triple_restated (sound_body m c t) rfl ?_ fun _ => ?_
  · unfold bodyPre
    refine Idealize.SL.BI.sep_mono (fun _ h => h) ?_
    refine Idealize.SL.BI.sep_mono (fun _ h => h) ?_
    refine Idealize.SL.BI.sep_mono (fun _ h => h) ?_
    refine Idealize.SL.BI.sep_mono (fun _ h => h) ?_
    refine Idealize.SL.BI.sep_mono (fun _ h => h) ?_
    refine Idealize.SL.BI.sep_mono (fun _ h => h) ?_
    refine Idealize.SL.BI.sep_mono (fun _ h => h) ?_
    refine Idealize.SL.BI.sep_mono (fun _ h => h) ?_
    refine Idealize.SL.BI.sep_mono (fun _ h => h) ?_
    refine Idealize.SL.BI.sep_mono (fun _ h => h) ?_
    refine Idealize.SL.BI.sep_mono (fun _ h => h) ?_
    refine Idealize.SL.BI.sep_mono (fun _ h => h) ?_
    refine Idealize.SL.BI.sep_mono (fun _ h => h) ?_
    refine Idealize.SL.BI.sep_mono (fun _ h => h) ?_
    refine Idealize.SL.BI.sep_mono (fun _ h => h) ?_
    exact fun _ h => h
  unfold bodyPost
  refine Idealize.SL.BI.sep_mono (fun _ h => h) ?_
  refine Idealize.SL.BI.sep_mono (fun _ h => h) ?_
  refine Idealize.SL.BI.sep_mono (kept_0 m c t) ?_
  refine Idealize.SL.BI.sep_mono (kept_1 m c t) ?_
  refine Idealize.SL.BI.sep_mono (kept_2 m c t) ?_
  refine Idealize.SL.BI.sep_mono (kept_3 m c t) ?_
  refine Idealize.SL.BI.sep_mono (kept_4 m c t) ?_
  refine Idealize.SL.BI.sep_mono (kept_5 m c t) ?_
  refine Idealize.SL.BI.sep_mono (kept_6 m c t) ?_
  refine Idealize.SL.BI.sep_mono (kept_7 m c t) ?_
  refine Idealize.SL.BI.sep_mono (kept_8 m c t) ?_
  refine Idealize.SL.BI.sep_mono (kept_9 m c t) ?_
  refine Idealize.SL.BI.sep_mono (handed_10 m c t) ?_
  refine Idealize.SL.BI.sep_mono (handed_11 m c t) ?_
  refine Idealize.SL.BI.sep_mono (handed_12 m c t) ?_
  exact handed_13 m c t

set_option backward.isDefEq.respectTransparency.types false in
/-- Every fair run of the program ends, its arrays as the points' write-backs left them and every counter at zero. -/
theorem run_main :
    θ_run defs (onTc (τ := τ) (main (F := F))) (s₀ m ρ) (fun r => Pipeline.FramePost cfgs (dats m) 0 (Gen.V m) r ∧ r.2.sem = fun _ => 0) :=
  Pipeline.θ_run_frame_shared cfgs (dats m) 0 launch₀0 defs₀ Variants.none m ρ main (hbody := fun c => (body_obligation m c).loose)
    (hq := fun _ _ _ => rfl) (howed := fun _ _ => rfl) (V := Gen.V m)
    (hmain := Gen.hmain m Variants.none) (hA := A_eq m) (hΦ := fun _ _ => rfl)
    (Q' := fun r => Pipeline.FramePost cfgs (dats m) 0 (Gen.V m) r ∧ r.2.sem = fun _ => 0) (hQ' := fun _ h => h)

/-- No argument array is written, by the host lines or by the kernel. -/
theorem args_kept {r : PUnit × MemSt nD τ sig (Elt F)} (h : Pipeline.FramePost cfgs (dats m) 0 (Gen.V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  have k := (h c).2
  have w := (h c).1
  refine ⟨?_, ?_, ?_, ?_, ?_, ?_, ?_, ?_⟩
  · exact (k main_arg0 (Pipeline.mem_restRefs_of main_arg0 (by decide) (by decide))).trans (Gen.V_main_arg0 m c)
  · exact (k main_arg1 (Pipeline.mem_restRefs_of main_arg1 (by decide) (by decide))).trans (Gen.V_main_arg1 m c)
  · exact (k main_arg2 (Pipeline.mem_restRefs_of main_arg2 (by decide) (by decide))).trans (Gen.V_main_arg2 m c)
  · exact (k main_arg3 (Pipeline.mem_restRefs_of main_arg3 (by decide) (by decide))).trans (Gen.V_main_arg3 m c)
  · rw [w 5, (dats m 0 c).arrAt_in 5 rfl _, A_eq m c 5]; exact Gen.V_main_arg4 m c
  · rw [w 6, (dats m 0 c).arrAt_in 6 rfl _, A_eq m c 6]; exact Gen.V_main_arg5 m c
  · rw [w 7, (dats m 0 c).arrAt_in 7 rfl _, A_eq m c 7]; exact Gen.V_main_arg6 m c
  · rw [w 8, (dats m 0 c).arrAt_in 8 rfl _, A_eq m c 8]; exact Gen.V_main_arg7 m c

/-- Every fair run ends with the arguments as they were and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ h => ⟨args_kept m h.1, h.2⟩) (run_main m ρ)

end Cert.KernelIdeal.Att

end
-- ==== Proof.Bits.lean ====
/-
  The program as written, at bits. Its text is the idealized one's with the mask's literal where that one names the
  constant, so the one run serves both (`frame_bits`).
-/
module

public import proofs.«01_k».proof.Proof.Run
public import proofs.«01_k».proof.Proof.Gen.Kernel
public import Idealize.ShloMosaic.PureOps.BitExact

@[expose] public section

noncomputable section

namespace Cert.KernelIdeal.Att

open Idealize.ShloMosaic Idealize.SL.Sem

/-- At bits a named constant is the literal it stands for. -/
@[reducible] def atBits : Named Bits where
  named _ _ {φ} bits := (Scalar.ofBits φ bits : Bits φ)

attribute [local instance] atBits

set_option maxRecDepth 100000
set_option maxHeartbeats 4000000

attribute [local instance] Cert.Kernel.Gen.facts Cert.KernelIdeal.Gen.facts

/-- The two programs at bits: the same kernel, the same body table, the same host program. -/
theorem cc_same : Cert.Kernel.cc0_fox_attn (F := Bits) = Cert.KernelIdeal.cc0_fox_attn (F := Bits) := (rfl)

theorem defs₀_same : Cert.Kernel.defs₀ (F := Bits) = Cert.KernelIdeal.defs₀ (F := Bits) := by
  unfold Cert.Kernel.defs₀ Cert.KernelIdeal.defs₀
  rw [cc_same]
  refine congrArg Defs.onTc (funext fun l => funext fun a => ?_)
  match l, a with
  | 0, (t, s) => rfl
  | ⟨_ + 1, h⟩, _ => exact absurd h (Nat.not_lt.2 (Nat.le_add_left _ _))

theorem defs_same : Cert.Kernel.defs (F := Bits) = Cert.KernelIdeal.defs (F := Bits) := by
  unfold Cert.Kernel.defs Cert.KernelIdeal.defs
  rw [defs₀_same]
  rfl

theorem main_same : Cert.Kernel.main (F := Bits) = Cert.KernelIdeal.main (F := Bits) := (rfl)

theorem frame_bits (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)) ∧ r.2.sem = fun _ => 0) := by
  rw [defs_same, main_same]
  exact frame_main (F := Bits) m g

end Cert.KernelIdeal.Att

end
-- ==== Proof.Softmax.lean ====
/-
  Softmax taken block by block, over the extended reals: the running maximum, sum and weighted sum of the blocks so far,
  and their quotient at the end as the weighted mean of the values.
-/
module

public import Idealize.ShloMosaic.PureOps.Ideal

@[expose] public section

noncomputable section

namespace Cert.Softmax

open Idealize.ShloMosaic

/-- A real factor not below zero passes through a finite sum of extended reals. -/
theorem mul_sum {ι : Type*} (c : ℝ) (hc : 0 ≤ c) (f : ι → EReal) (s : Finset ι) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- The scores of a row: real where the key is at most `i`, minus infinity beyond. -/
def row (S : ℕ → ℝ) (i : ℕ) (j : ℕ) : EReal := if j ≤ i then (S j : EReal) else ⊥

variable (S : ℕ → ℝ) (i : ℕ) (v : ℕ → EReal)

theorem row_cases (j : ℕ) : row S i j = ⊥ ∨ row S i j = (S j : EReal) := by
  unfold row; split
  · exact Or.inr rfl
  · exact Or.inl rfl

/-- The weight of a key, against the maximum `r`. -/
theorem weight (r : ℝ) (j : ℕ) :
    Ideal.exp2 (row S i j - (r : EReal)) = ((if j ≤ i then Real.rpow 2 (S j) * Real.rpow 2 (-r) else 0 : ℝ) : EReal) := by
  unfold row
  split
  · rw [← EReal.coe_sub, Ideal.exp2_coe]
    congr 1
    exact (congrArg (Real.rpow 2) (sub_eq_add_neg (S j) r)).trans (Real.rpow_add two_pos (S j) (-r))
  · rw [EReal.bot_sub, Ideal.exp2_bot]; rfl

/-- Changing the maximum rescales every weight. -/
theorem reweigh (r r' : ℝ) (j : ℕ) :
    Ideal.exp2 ((r : EReal) - (r' : EReal)) * Ideal.exp2 (row S i j - (r : EReal)) = Ideal.exp2 (row S i j - (r' : EReal)) := by
  rw [weight, weight, ← EReal.coe_sub, Ideal.exp2_coe, ← EReal.coe_mul]
  congr 1
  have e : Real.rpow 2 (r - r') = Real.rpow 2 r * Real.rpow 2 (-r') :=
    (congrArg (Real.rpow 2) (sub_eq_add_neg r r')).trans (Real.rpow_add two_pos r (-r'))
  have n : Real.rpow 2 r * Real.rpow 2 (-r) = 1 := by
    have := (Real.rpow_add (two_pos (α := ℝ)) r (-r)).symm
    rw [add_neg_cancel, Real.rpow_zero] at this
    exact this
  split
  · rw [e]
    calc _ = Real.rpow 2 (S j) * Real.rpow 2 (-r') * (Real.rpow 2 r * Real.rpow 2 (-r)) := by ring
      _ = _ := by rw [n, mul_one]
  · rw [mul_zero]

/-- What the maximum, the sum and the weighted sum hold after the first `N` keys. -/
structure Holds (N : ℕ) (m l acc : EReal) : Prop where
  max : (N = 0 ∧ m = ⊥) ∨ ∃ r : ℝ, m = r
  sum : l = ∑ j ∈ Finset.range N, Ideal.exp2 (row S i j - m)
  wsum : acc = ∑ j ∈ Finset.range N, v j * Ideal.exp2 (row S i j - m)

theorem holds_start : Holds S i v 0 ⊥ 0 0 := ⟨Or.inl ⟨rfl, rfl⟩, by simp, by simp⟩

/-- One block more. -/
theorem Holds.step {N : ℕ} {m l acc : EReal} (h : Holds S i v N m l acc) (B : ℕ) (m' : EReal) (hm : ∃ r : ℝ, m' = r) :
    Holds S i v (N + B) m'
      (Ideal.exp2 (m - m') * l + ∑ k : Fin B, Ideal.exp2 (row S i (N + k) - m'))
      (Ideal.exp2 (m - m') * acc + ∑ k : Fin B, v (N + k) * Ideal.exp2 (row S i (N + k) - m')) := by
  obtain ⟨r', rfl⟩ := hm
  refine ⟨Or.inr ⟨r', rfl⟩, ?_, ?_⟩
  · rw [Finset.sum_range_add, Fin.sum_univ_eq_sum_range (fun k => Ideal.exp2 (row S i (N + k) - (r' : EReal))) B, h.sum]
    congr 1
    rcases h.max with ⟨rfl, rfl⟩ | ⟨r, rfl⟩
    · simp
    · rw [← EReal.coe_sub, Ideal.exp2_coe, mul_sum (Real.rpow 2 (r - r')) (Real.rpow_nonneg two_pos.le _)]
      refine Finset.sum_congr rfl fun j _ => ?_
      rw [← Ideal.exp2_coe, EReal.coe_sub, reweigh]
  · rw [Finset.sum_range_add, Fin.sum_univ_eq_sum_range (fun k => v (N + k) * Ideal.exp2 (row S i (N + k) - (r' : EReal))) B, h.wsum]
    congr 1
    rcases h.max with ⟨rfl, rfl⟩ | ⟨r, rfl⟩
    · simp
    · rw [← EReal.coe_sub, Ideal.exp2_coe, mul_sum (Real.rpow 2 (r - r')) (Real.rpow_nonneg two_pos.le _)]
      refine Finset.sum_congr rfl fun j _ => ?_
      rw [← Ideal.exp2_coe, EReal.coe_sub, mul_left_comm, reweigh]

/-- The maximum after one block more is real: the block has a score, and no score is plus infinity. -/
theorem max_real {N : ℕ} {m : EReal} (h : (N = 0 ∧ m = ⊥) ∨ ∃ r : ℝ, m = r) {B : ℕ} (hB : 0 < B) (hN : N ≤ i) (mb : EReal)
    (hb : mb = (Finset.univ : Finset (Fin B)).fold max ⊥ (fun k : Fin B => row S i (N + k.val))) : ∃ r : ℝ, max m mb = r := by
  have top : max m mb ≠ ⊤ := by
    refine ne_of_lt (max_lt ?_ ?_)
    · rcases h with ⟨_, rfl⟩ | ⟨r, rfl⟩
      · exact bot_lt_top
      · exact EReal.coe_lt_top r
    · rw [hb, Finset.fold_max_lt]
      refine ⟨bot_lt_top, fun k _ => ?_⟩
      rcases row_cases S i (N + k) with e | e <;> rw [e]
      · exact bot_lt_top
      · exact EReal.coe_lt_top _
  have bot : max m mb ≠ ⊥ := by
    refine ((EReal.bot_lt_coe (S N)).trans_le ((?_ : (S N : EReal) ≤ mb).trans (le_max_right m mb))).ne'
    rw [hb, Finset.le_fold_max]
    refine Or.inr ⟨⟨0, hB⟩, Finset.mem_univ _, ?_⟩
    simp [row, hN]
  exact ⟨(max m mb).toReal, (EReal.coe_toReal top bot).symm⟩

/-- The weights of a row, before they are made to sum to one. -/
def mass (u : ℕ → ℝ) (i j : ℕ) : ℝ := if j ≤ i then u j else 0

/-- The mean of the values under the weights `u` of the keys up to `i`. -/
def mean (u : ℕ → ℝ) (i N : ℕ) (v : ℕ → EReal) : EReal :=
  ∑ j ∈ Finset.range N, ((mass u i j / ∑ k ∈ Finset.range N, mass u i k : ℝ) : EReal) * v j

theorem mass_pos {u : ℕ → ℝ} (hu : ∀ j, 0 < u j) {N : ℕ} (hN : 0 < N) : 0 < ∑ k ∈ Finset.range N, mass u i k := by
  refine Finset.sum_pos' (fun k _ => ?_) ⟨0, Finset.mem_range.2 hN, ?_⟩
  · unfold mass; split
    · exact (hu k).le
    · exact le_rfl
  · simp [mass, hu]

/-- Dividing a common multiple of the weights by its sum. -/
theorem ratio {u : ℕ → ℝ} (hu : ∀ j, 0 < u j) {N : ℕ} (hN : 0 < N) (t : ℝ) (ht : 0 < t) (l : EReal)
    (hl : l = ∑ k ∈ Finset.range N, ((mass u i k * t : ℝ) : EReal)) (x : EReal) :
    Ideal.div x l = x * ((1 / ((∑ k ∈ Finset.range N, mass u i k) * t) : ℝ) : EReal) := by
  have e : l = (((∑ k ∈ Finset.range N, mass u i k) * t : ℝ) : EReal) := by
    rw [hl, Finset.sum_mul]
    exact (map_sum (⟨⟨fun x : ℝ => (x : EReal), rfl⟩, EReal.coe_add⟩ : ℝ →+ EReal) _ _).symm
  rw [e, Ideal.div_coe (mul_pos (mass_pos i hu hN) ht).ne']

theorem share {u : ℕ → ℝ} (hu : ∀ j, 0 < u j) {N : ℕ} (hN : 0 < N) (t : ℝ) (ht : 0 < t) (j : ℕ) :
    mass u i j * t * (1 / ((∑ k ∈ Finset.range N, mass u i k) * t)) = mass u i j / ∑ k ∈ Finset.range N, mass u i k := by
  have := (mass_pos i hu hN).ne'
  field_simp

/-- The quotient of the two sums is the weighted mean. -/
theorem Holds.mean_eq {N : ℕ} {m l acc : EReal} (h : Holds S i v N m l acc) (hN : 0 < N) :
    Ideal.div acc l = mean (fun j => Real.rpow 2 (S j)) i N v := by
  rcases h.max with ⟨h0, _⟩ | ⟨r, rfl⟩
  · exact absurd h0 hN.ne'
  have hu : ∀ j, 0 < (fun j => Real.rpow 2 (S j)) j := fun j => Real.rpow_pos_of_pos two_pos _
  have ht : 0 < Real.rpow 2 (-r) := Real.rpow_pos_of_pos two_pos _
  have w : ∀ j, Ideal.exp2 (row S i j - (r : EReal)) = ((mass (fun j => Real.rpow 2 (S j)) i j * Real.rpow 2 (-r) : ℝ) : EReal) := fun j => by
    rw [weight]; unfold mass; split <;> simp
  rw [ratio i hu hN _ ht l (by rw [h.sum]; exact Finset.sum_congr rfl fun j _ => w j), h.wsum, mul_comm,
    mul_sum _ (by have := mass_pos i hu hN; positivity)]
  unfold mean
  refine Finset.sum_congr rfl fun j _ => ?_
  rw [w, mul_comm (v j), ← mul_assoc, mul_comm _ ((_ : ℝ) : EReal), ← EReal.coe_mul, share i hu hN _ ht]

/-- Keys beyond the last change nothing. -/
theorem mean_extend (u : ℕ → ℝ) {N N' : ℕ} (hN : i < N) (hN' : N ≤ N') : mean u i N' v = mean u i N v := by
  have z : ∀ j, j ∉ Finset.range N → mass u i j = 0 := fun j hj => by
    have : N ≤ j := not_lt.1 (fun h => hj (Finset.mem_range.2 h))
    exact if_neg (by omega)
  have s : ∑ k ∈ Finset.range N', mass u i k = ∑ k ∈ Finset.range N, mass u i k :=
    (Finset.sum_subset (Finset.range_mono hN') fun j _ hj => z j hj).symm
  unfold mean
  rw [s]
  refine (Finset.sum_subset (Finset.range_mono hN') fun j _ hj => ?_).symm
  rw [z j hj]; simp

/-- The softmax of a row written plainly, its values mixed by the weights. -/
theorem plain_mean (x : ℕ → ℝ) {N : ℕ} (hN : 0 < N) (r : ℝ) :
    ∑ j ∈ Finset.range N, Ideal.div (Ideal.exp (row x i j - (r : EReal))) (∑ k ∈ Finset.range N, Ideal.exp (row x i k - (r : EReal))) * v j
      = mean (fun j => Real.exp (x j)) i N v := by
  have hu : ∀ j, 0 < (fun j => Real.exp (x j)) j := fun j => Real.exp_pos _
  have w : ∀ j, Ideal.exp (row x i j - (r : EReal)) = ((mass (fun j => Real.exp (x j)) i j * Real.exp (-r) : ℝ) : EReal) := fun j => by
    unfold row mass; split
    · rw [← EReal.coe_sub, Ideal.exp_coe, sub_eq_add_neg, Real.exp_add]
    · rw [EReal.bot_sub, Ideal.exp_bot, zero_mul]; rfl
  unfold mean
  refine Finset.sum_congr rfl fun j _ => ?_
  rw [ratio i hu hN _ (Real.exp_pos (-r)) _ (Finset.sum_congr rfl fun j _ => w j), w, ← EReal.coe_mul, share i hu hN _ (Real.exp_pos (-r))]

/-- Powers of two of the scores over log 2 are exponentials. -/
theorem two_rpow (x : ℝ) : Real.rpow 2 (x / Real.log 2) = Real.exp x := by
  refine (Real.rpow_def_of_pos two_pos _).trans ?_
  rw [mul_div_cancel₀ _ (Real.log_pos one_lt_two).ne']

end Cert.Softmax

end
-- ==== Proof.Block.lean ====
/-
  The attention's block of one grid point, read at an index: a head's running maximum, sum and accumulator after the key
  blocks so far, and its output as the weighted mean of the values.
-/
module

public import proofs.«01_k».proof.Proof.Body
public import proofs.«01_k».proof.Proof.Softmax
public import Idealize.ShloMosaic.Lib.Pointwise

@[expose] public section

set_option maxRecDepth 16384

noncomputable section

namespace Cert.KernelIdeal.Att

open Cert.KernelIdeal Cert.KernelIdeal.Gen Cert.Softmax
open Idealize.ShloMosaic Idealize.ShloMosaic.TcCoe Idealize.ShloMosaic.VecWindow

/-- The masking constant is minus infinity. -/
theorem mask_bot : (Named.named (F := Ideal) κ "mask" (φ := .f32) 0xF149F2CA#32 : EReal) = ⊥ := rfl

theorem neg_inf : Ideal.ofBits .f32 0xFF800000#32 = ⊥ := by simp [Ideal.ofBits, Ideal.ieee]

/-- The mask on the diagonal block: the key's row at most the query's column. -/
theorem sel_le (k y : Fin 512) (a b : EReal) :
    Scalar.select (IntOp.cmpi .sle (BitVec.ofNat 32 k.val) (BitVec.ofNat 32 y.val)) a b = if k.val ≤ y.val then a else b := by
  have e : (IntOp.cmpi .sle (BitVec.ofNat 32 k.val) (BitVec.ofNat 32 y.val) = 1#1) ↔ k.val ≤ y.val := by
    have hk := k.isLt; have hy := y.isLt
    have t : ∀ n : ℕ, n < 512 → (BitVec.ofNat 32 n).toInt = n := fun n hn => by
      rw [BitVec.toInt_ofNat']
      simp [Int.bmod]; omega
    simp only [IntOp.cmpi, BitVec.sle, t _ hk, t _ hy]
    by_cases h : k.val ≤ y.val
    · simp [h]
    · simp [h]
  exact if_congr e rfl rfl

theorem pay2_apply (qx : FVec Ideal S512x256 .bf16) (kb ab : Vec Ideal S1x1x512x128 .bf16) (k y : Fin 512) :
    k0_pay2 qx kb ab (ix2 k y) = ∑ x : Fin 128, kb (ix4 0 0 k x) * qx (ix2 y ⟨x.val, by omega⟩)
      + ∑ x : Fin 128, ab (ix4 0 0 k x) * qx (ix2 y ⟨128 + x.val, by omega⟩) := by
  pointwise [k0_pay2]

theorem pay3_apply (qx : FVec Ideal S512x256 .bf16) (kb ab : Vec Ideal S1x1x512x128 .bf16) (k y : Fin 512) :
    k0_pay3 qx kb ab (ix4 0 0 k y) = k0_pay2 qx kb ab (ix2 k y) := by
  pointwise [k0_pay3]

theorem pay4_apply (qx : FVec Ideal S512x256 .bf16) (kb ab : Vec Ideal S1x1x512x128 .bf16) (y : Fin 512) :
    k0_pay4 qx kb ab (ix4 0 0 0 y) = Finset.univ.fold max ⊥ (fun k : Fin 512 => k0_pay2 qx kb ab (ix2 k y)) := by
  pointwise [k0_pay4]
  rw [neg_inf]

theorem pay10_apply (mx : Vec Ideal S1x1x1x512 .f32) (m : Vec Ideal S1x1x512 .f32) (y : Fin 512) :
    k0_pay10 (k0_pay6 mx) m (ix3 0 0 y) = max (m (ix3 0 0 y)) (mx (ix4 0 0 0 y)) := by
  pointwise [k0_pay10, k0_pay8, k0_pay7, k0_pay6]

theorem pay12_apply (st : Vec Ideal S1x1x512x512 .f32) (mx : Vec Ideal S1x1x1x512 .f32) (m l : Vec Ideal S1x1x512 .f32) (vb : Vec Ideal S1x1x512x128 .bf16) (y : Fin 512) :
    k0_pay12 k0_pay306 (k0_pay5 st) (k0_pay6 mx) m vb l (ix3 0 0 y)
      = Ideal.exp2 (m (ix3 0 0 y) - max (m (ix3 0 0 y)) (mx (ix4 0 0 0 y))) * l (ix3 0 0 y)
        + ∑ k : Fin 512, Ideal.exp2 (st (ix4 0 0 k y) - max (m (ix3 0 0 y)) (mx (ix4 0 0 0 y))) := by
  pointwise [k0_pay12, k0_pay9, k0_pay11, k0_pay8, k0_pay7, k0_pay6, k0_pay5, k0_pay306]
  rfl

theorem pay13_apply (st : Vec Ideal S1x1x512x512 .f32) (mx : Vec Ideal S1x1x1x512 .f32) (m : Vec Ideal S1x1x512 .f32) (a : Vec Ideal S1x128x512 .f32) (vb : Vec Ideal S1x1x512x128 .bf16) (d : Fin 128) (y : Fin 512) :
    k0_pay13 k0_pay306 (k0_pay5 st) (k0_pay6 mx) m vb a (ix3 0 d y)
      = Ideal.exp2 (m (ix3 0 0 y) - max (m (ix3 0 0 y)) (mx (ix4 0 0 0 y))) * a (ix3 0 d y)
        + ∑ k : Fin 512, vb (ix4 0 0 k d) * Ideal.exp2 (st (ix4 0 0 k y) - max (m (ix3 0 0 y)) (mx (ix4 0 0 0 y))) := by
  pointwise [k0_pay13, k0_pay9, k0_pay11, k0_pay8, k0_pay7, k0_pay6, k0_pay5, k0_pay306]
  rfl

/-- A masked score. -/
def masked (st : Vec Ideal S1x1x512x512 .f32) (y k : Fin 512) : EReal := if k.val ≤ y.val then st (ix4 0 0 k y) else ⊥

/-- The maximum after a masked block. -/
def maskedMax (st : Vec Ideal S1x1x512x512 .f32) (m : Vec Ideal S1x1x512 .f32) (y : Fin 512) : EReal :=
  max (m (ix3 0 0 y)) (Finset.univ.fold max ⊥ (masked st y))

theorem pay207_apply (st : Vec Ideal S1x1x512x512 .f32) (k y : Fin 512) : k0_pay207 k0_pay305 st (ix2 k y) = masked st y k := by
  pointwise [k0_pay207, k0_pay305]
  exact sel_le k y _ _

theorem pay209_apply (st : Vec Ideal S1x1x512x512 .f32) (m : Vec Ideal S1x1x512 .f32) (y : Fin 512) :
    k0_pay209 k0_pay305 st m (ix2 0 y) = maskedMax st m y := by
  pointwise [k0_pay209, k0_pay208]
  rw [neg_inf]
  unfold maskedMax
  congr 2
  exact funext fun k => pay207_apply st k y

theorem pay212_apply (st : Vec Ideal S1x1x512x512 .f32) (m : Vec Ideal S1x1x512 .f32) (y : Fin 512) :
    k0_pay212 k0_pay305 st m (ix3 0 0 y) = maskedMax st m y := by
  rw [← pay209_apply]
  pointwise [k0_pay212]

theorem pay210_apply (st : Vec Ideal S1x1x512x512 .f32) (m : Vec Ideal S1x1x512 .f32) (y : Fin 512) :
    k0_pay210 k0_pay305 st m (ix2 0 y) = Ideal.exp2 (m (ix3 0 0 y) - maskedMax st m y) := by
  rw [← pay209_apply]
  pointwise [k0_pay210, k0_pay208]
  rfl

theorem pay211_apply (st : Vec Ideal S1x1x512x512 .f32) (m : Vec Ideal S1x1x512 .f32) (k y : Fin 512) :
    k0_pay211 k0_pay305 st m (ix2 k y) = Ideal.exp2 (masked st y k - maskedMax st m y) := by
  rw [← pay209_apply, ← pay207_apply]
  pointwise [k0_pay211]
  rfl

theorem pay214_apply (α : FVec Ideal S1x512 .f32) (p : FVec Ideal S512x512 .f32) (vb : Vec Ideal S1x1x512x128 .bf16) (l : Vec Ideal S1x1x512 .f32) (y : Fin 512) :
    k0_pay214 k0_pay306 α p vb l (ix3 0 0 y) = α (ix2 0 y) * l (ix3 0 0 y) + ∑ k : Fin 512, p (ix2 k y) := by
  pointwise [k0_pay214, k0_pay213, k0_pay306]

theorem pay215_apply (α : FVec Ideal S1x512 .f32) (p : FVec Ideal S512x512 .f32) (vb : Vec Ideal S1x1x512x128 .bf16) (a : Vec Ideal S1x128x512 .f32) (d : Fin 128) (y : Fin 512) :
    k0_pay215 k0_pay306 α p vb a (ix3 0 d y) = α (ix2 0 y) * a (ix3 0 d y) + ∑ k : Fin 512, vb (ix4 0 0 k d) * p (ix2 k y) := by
  pointwise [k0_pay215, k0_pay213, k0_pay306]

theorem pay336_apply (a : Vec Ideal S1x128x512 .f32) (l : Vec Ideal S1x1x512 .f32) (d : Fin 128) (y : Fin 512) :
    k0_pay336 a l (ix3 0 y d) = Ideal.div (a (ix3 0 d y)) (l (ix3 0 0 y)) := by
  pointwise [k0_pay336]

theorem pay311_apply (i : S4x1x512.Idx) : k0_pay311 (F := Ideal) i = ⊥ := by
  unfold k0_pay311
  rw [shapeCast_self]
  rfl

theorem pay312_apply (i : S4x1x512.Idx) : k0_pay312 (F := Ideal) i = 0 := by
  unfold k0_pay312
  rw [shapeCast_self]
  exact Ideal.ofBits_zero_f32

theorem pay313_apply (i : S4x128x512.Idx) : k0_pay313 (F := Ideal) i = 0 := by
  unfold k0_pay313
  rw [shapeCast_self]
  exact Ideal.ofBits_zero_f32

end Cert.KernelIdeal.Att

end
-- ==== Proof.HeadValue.lean ====
/-
  A head after the key blocks `0 … n`: its accumulator over its sum is the mean of the values, weighted by the powers of
  two of the scores of the keys up to the query.
-/
module

public import proofs.«01_k».proof.Proof.Block

@[expose] public section

set_option maxRecDepth 16384

noncomputable section

namespace Cert.KernelIdeal.Att

open Cert.KernelIdeal Cert.KernelIdeal.Gen Cert.Softmax
open Idealize.ShloMosaic Idealize.ShloMosaic.TcCoe Idealize.ShloMosaic.VecWindow

variable (K : Vec Ideal S1x1x4096x512 .bf16) (A : Vec Ideal S1x4x4096x128 .bf16) (V : Vec Ideal S1x1x4096x512 .bf16)
  (qx : FVec Ideal S512x256 .bf16) (h : Fin 4) (n : ℕ) (S : ℕ → ℝ) (v : ℕ → EReal) (d : Fin 128) (y : Fin 512)

/-- The scores of the query column `y` against key block `n'` are the reals `S`. -/
def Scores (n' : ℕ) : Prop := ∀ k : Fin 512, k0_pay2 qx (kblk K (blk n') h) (ablk A (blk n') h) (ix2 k y) = (S (512 * n' + k.val) : EReal)

/-- Column `d` of value block `n'` is `v`. -/
def Values (n' : ℕ) : Prop := ∀ k : Fin 512, kblk V (blk n') h (ix4 0 0 k d) = v (512 * n' + k.val)

/-- Slot `b` holds the scores of key block `n'`, and their maximum. -/
def Scored (b : Fin 2) (n' : ℕ) (H : Head Ideal) : Prop :=
  (∀ k : Fin 512, H.st b (ix4 0 0 k y) = (S (512 * n' + k.val) : EReal)) ∧
    H.mx b (ix4 0 0 0 y) = Finset.univ.fold max ⊥ (fun k : Fin 512 => (S (512 * n' + k.val) : EReal))

/-- The running values after the first `N` keys. -/
def Ran (N : ℕ) (H : Head Ideal) : Prop :=
  Holds S (512 * n + y.val) v N (H.m (ix3 0 0 y)) (H.l (ix3 0 0 y)) (H.acc (ix3 0 d y))

variable {K A V qx h n S v d y}

theorem scored_scoreAt {b : Fin 2} {n' : ℕ} (hs : Scores K A qx h S y n') (H : Head Ideal) : Scored S y b n' (H.scoreAt K A qx h b n') := by
  unfold Head.scoreAt Head.score
  refine ⟨fun k => ?_, ?_⟩
  · show Function.update H.st b _ b _ = _
    rw [Function.update_self, pay3_apply, hs]
  · show Function.update H.mx b _ b _ = _
    rw [Function.update_self, pay4_apply]
    exact congrArg (fun f => Finset.univ.fold max ⊥ f) (funext hs)

theorem scored_scoreAt_other {b b' : Fin 2} (hb : b ≠ b') {n₁ n' : ℕ} {H : Head Ideal} (hs : Scored S y b n' H) :
    Scored S y b n' (H.scoreAt K A qx h b' n₁) := by
  have e1 : (H.scoreAt K A qx h b' n₁).st b = H.st b := Function.update_of_ne hb _ _
  have e2 : (H.scoreAt K A qx h b' n₁).mx b = H.mx b := Function.update_of_ne hb _ _
  unfold Scored
  rw [e1, e2]
  exact hs

theorem scored_foldAt {b b' : Fin 2} {n₁ n' : ℕ} {H : Head Ideal} (hs : Scored S y b n' H) : Scored S y b n' (H.foldAt V h b' n₁) := hs

theorem ran_scoreAt {b : Fin 2} {n' N : ℕ} {H : Head Ideal} (hr : Ran n S v d y N H) : Ran n S v d y N (H.scoreAt K A qx h b n') := hr

theorem ran_foldAt {b : Fin 2} {n' : ℕ} {H : Head Ideal} (hn : n' < n) (hs : Scored S y b n' H) (hv : Values V h v d n')
    (hr : Ran n S v d y (512 * n') H) : Ran n S v d y (512 * (n' + 1)) (H.foldAt V h b n') := by
  rw [Nat.mul_succ]
  have e : ∀ k : Fin 512, row S (512 * n + y.val) (512 * n' + k.val) = (S (512 * n' + k.val) : EReal) := fun k =>
    if_pos (by omega)
  have step := Holds.step S (512 * n + y.val) v hr 512 (max (H.m (ix3 0 0 y)) (H.mx b (ix4 0 0 0 y)))
    (max_real S (512 * n + y.val) hr.max (B := 512) (by norm_num) (by omega) _ (by simp only [e]; exact hs.2))
  simp only [e] at step
  unfold Ran Head.foldAt Head.fold
  simp only [pay10_apply, pay12_apply, pay13_apply, hs.1, hv _]
  exact step

theorem ran_endAt {b : Fin 2} {H : Head Ideal} (hs : Scored S y b n H) (hv : Values V h v d n)
    (hr : Ran n S v d y (512 * n) H) : Ran n S v d y (512 * n + 512) (H.endAt V h b n) := by
  have e : ∀ k : Fin 512, masked (H.st b) y k = row S (512 * n + y.val) (512 * n + k.val) := fun k => by
    unfold masked row
    rw [hs.1]
    exact if_congr (by omega) rfl rfl
  have step := Holds.step S (512 * n + y.val) v hr 512 (maskedMax (H.st b) (H.m) y)
    (max_real S (512 * n + y.val) hr.max (B := 512) (by norm_num) (by omega) _ (by rw [funext e]))
  unfold Ran Head.endAt Head.foldMasked
  simp only [pay212_apply, pay214_apply, pay215_apply, pay210_apply, pay211_apply, e, hv _]
  exact step

theorem ran_trip (hs : ∀ n' ≤ n, Scores K A qx h S y n') (hv : ∀ n' ≤ n, Values V h v d n') {p n' : ℕ} (e : n' = 2 * p) (hp : n' + 2 ≤ n) {H : Head Ideal}
    (s : Scored S y 0 n' H) (r : Ran n S v d y (512 * n') H) :
    Scored S y 0 (n' + 2) (H.trip K A V qx h p) ∧ Ran n S v d y (512 * (n' + 2)) (H.trip K A V qx h p) := by
  unfold Head.trip
  rw [← e]
  have s1 : Scored S y 1 (n' + 1) (H.scoreAt K A qx h 1 (n' + 1)) := scored_scoreAt (hs _ (by omega)) _
  have s0 : Scored S y 0 n' (H.scoreAt K A qx h 1 (n' + 1)) := scored_scoreAt_other (by decide) s
  have r1 : Ran n S v d y (512 * (n' + 1)) ((H.scoreAt K A qx h 1 (n' + 1)).foldAt V h 0 n') := ran_foldAt (by omega) s0 (hv n' (by omega)) (ran_scoreAt r)
  have s2 := scored_foldAt (V := V) (h := h) (b' := 0) (n₁ := n') s1
  have s3 : Scored S y 1 (n' + 1) (((H.scoreAt K A qx h 1 (n' + 1)).foldAt V h 0 n').scoreAt K A qx h 0 (n' + 2)) := scored_scoreAt_other (by decide) s2
  have s4 : Scored S y 0 (n' + 2) (((H.scoreAt K A qx h 1 (n' + 1)).foldAt V h 0 n').scoreAt K A qx h 0 (n' + 2)) := scored_scoreAt (hs _ hp) _
  exact ⟨scored_foldAt s4, ran_foldAt (by omega) s3 (hv _ (by omega)) (ran_scoreAt r1)⟩

theorem ran_trips (hs : ∀ n' ≤ n, Scores K A qx h S y n') (hv : ∀ n' ≤ n, Values V h v d n') (H : Head Ideal) (h0 : Scored S y 0 0 H)
    (hr : Ran n S v d y (512 * 0) H) (p : ℕ) : ∀ n', n' = 2 * p → n' ≤ n →
    Scored S y 0 n' (Head.trips K A V qx h p H) ∧ Ran n S v d y (512 * n') (Head.trips K A V qx h p H) := by
  induction p with
  | zero => intro n' e _; subst e; exact ⟨h0, hr⟩
  | succ p ih =>
    intro n' e hn
    obtain ⟨k, rfl⟩ : ∃ k, n' = k + 2 := ⟨2 * p, by omega⟩
    have e' : k = 2 * p := by omega
    obtain ⟨s, r⟩ := ih k e' (by omega)
    exact ran_trip hs hv e' hn s r

theorem ran_headOut (hs : ∀ n' ≤ n, Scores K A qx h S y n') (hv : ∀ n' ≤ n, Values V h v d n') :
    Ran n S v d y (512 * n + 512) (headOut K A V qx n h) := by
  have h0 : Ran n S v d y (512 * 0) ((Head.start h).scoreAt K A qx h 0 0) := by
    have e0 : (Head.start (F := Ideal) h).m (ix3 0 0 y) = ⊥ := pay311_apply ((Rect.unit (s := S4x1x512) ![h.val, 0, 0] S1x1x512.size (row_in h)).emb (ix3 0 0 y))
    have e1 : (Head.start (F := Ideal) h).l (ix3 0 0 y) = 0 := pay312_apply ((Rect.unit (s := S4x1x512) ![h.val, 0, 0] S1x1x512.size (row_in h)).emb (ix3 0 0 y))
    have e2 : (Head.start (F := Ideal) h).acc (ix3 0 d y) = 0 := pay313_apply ((Rect.unit (s := S4x128x512) ![h.val, 0, 0] S1x128x512.size (acc_in h)).emb (ix3 0 d y))
    refine ran_scoreAt ?_
    unfold Ran
    rw [e0, e1, e2, Nat.mul_zero]
    exact holds_start S (512 * n + y.val) v
  unfold headOut Head.close
  split
  · obtain ⟨s, r⟩ := ran_trips hs hv _ (scored_scoreAt (hs 0 (by omega)) _) h0 (n / 2) n (by omega) le_rfl
    exact ran_endAt s (hv n le_rfl) r
  · obtain ⟨s, r⟩ := ran_trips hs hv _ (scored_scoreAt (hs 0 (by omega)) _) h0 (n / 2) (n - 1) (by omega) (by omega)
    have s0 := scored_scoreAt_other (K := K) (A := A) (qx := qx) (h := h) (b := 0) (b' := 1) (n₁ := n) (by decide) s
    have r1 := ran_foldAt (b := 0) (by omega) s0 (hv (n - 1) (by omega)) (ran_scoreAt r)
    rw [show n - 1 + 1 = n by omega] at r1
    exact ran_endAt (scored_foldAt (scored_scoreAt (hs n le_rfl) _)) (hv n le_rfl) r1

/-- The head's output at a query and a value column. -/
theorem head_mean (hs : ∀ n' ≤ n, Scores K A qx h S y n') (hv : ∀ n' ≤ n, Values V h v d n') :
    k0_pay336 (headOut K A V qx n h).acc (headOut K A V qx n h).l (ix3 0 y d)
      = mean (fun j => Real.rpow 2 (S j)) (512 * n + y.val) (512 * n + 512) v := by
  rw [pay336_apply]
  exact Holds.mean_eq S (512 * n + y.val) v (ran_headOut hs hv) (by omega)

end Cert.KernelIdeal.Att

end
-- ==== Proof.Host.lean ====
/-
  What the host hands the call: the scaled queries, the keys and the values, and the lanes that carry the forget sums.
-/
module

public import proofs.«01_k».proof.Proof.HeadValue
public import proofs.«01_k».proof.Proof.Gen.KernelIdeal.Frame
public import Idealize.ShloMosaic.Lib.StableHlo.RunRead

@[expose] public section

set_option maxRecDepth 16384

noncomputable section

namespace Cert.KernelIdeal.Att

open Cert.KernelIdeal Cert.KernelIdeal.Gen Cert.Softmax
open Idealize.ShloMosaic Idealize.ShloMosaic.TcCoe Idealize.ShloMosaic.VecWindow

/-! ## The constants -/

theorem two_bits : Ideal.ofBits .f32 0x40000000#32 = ((2 : ℝ) : EReal) := by
  simp [Ideal.ofBits, Ideal.ieee, -EReal.coe_mul]; norm_num

theorem neg_one_bits : Ideal.ofBits .f32 0xBF800000#32 = ((-1 : ℝ) : EReal) := by
  simp [Ideal.ofBits, Ideal.ieee, -EReal.coe_mul, -EReal.coe_neg]; norm_num

/-- The scale `128^(-1/2)`, as the real its pattern denotes. -/
def scale : ℝ := 11863283 / 2 ^ 27

theorem scale_bits : Ideal.ofBits .f32 0x3DB504F3#32 = (scale : EReal) := by
  unfold scale
  simp [Ideal.ofBits, Ideal.ieee, -EReal.coe_mul, div_eq_mul_inv]

/-- Division by the host's `log 2`. -/
theorem div_log_two (x : EReal) : Ideal.div x (Ideal.log (Ideal.ofBits .f32 0x40000000#32)) = x * ((1 / Real.log 2 : ℝ) : EReal) := by
  rw [two_bits]
  have e : Ideal.log ((2 : ℝ) : EReal) = ((Real.log 2 : ℝ) : EReal) := by
    show (if (2 : ℝ) ≤ 0 then ⊥ else (Real.log 2 : EReal)) = _
    rw [if_neg (by norm_num)]
  rw [e, Ideal.div_coe (Real.log_pos (by norm_num)).ne']

/-! ## The lanes -/

/-- The query's lanes: its forget sum, two zeros, three minus ones, zeros. -/
def qlane (g : ℝ) (x : Fin 128) : ℝ := if x.val = 0 then g else if x.val < 3 then 0 else if x.val < 6 then -1 else 0

/-- The key's lanes: three ones, its forget sum, zeros. -/
def klane (g : ℝ) (x : Fin 128) : ℝ := if x.val < 3 then 1 else if x.val = 3 then g else 0

/-- The lanes' product is the difference of the forget sums. -/
theorem lanes (f g : ℝ) : ∑ x : Fin 128, klane g x * qlane f x = f - g := by
  have e : ∀ x : Fin 128, klane g x * qlane f x = (if x = 0 then f else 0) + (if x = 3 then -g else 0) := by
    intro x
    unfold klane qlane
    rcases x with ⟨x, hx⟩
    simp only [Fin.ext_iff]
    by_cases h0 : x = 0
    · subst h0; simp
    by_cases h3 : x = 3
    · subst h3; simp
    by_cases hl : x < 3
    · simp [h0, h3, hl]
    · simp [h0, h3, hl]
  rw [Finset.sum_congr rfl fun x _ => e x, Finset.sum_add_distrib]
  simp [sub_eq_add_neg]

theorem eq_lane (n : Fin 128) (x : Fin 128) : IntOp.cmpi .eq (BitVec.ofNat 32 x.val) (BitVec.ofNat 32 n.val) = if x.val = n.val then 1#1 else 0#1 := by
  revert n x; decide +kernel

theorem lt_lane (n : Fin 128) (x : Fin 128) : IntOp.cmpi .slt (BitVec.ofNat 32 x.val) (BitVec.ofNat 32 n.val) = if x.val < n.val then 1#1 else 0#1 := by
  revert n x; decide +kernel

theorem ge_lane (n : Fin 128) (x : Fin 128) : IntOp.cmpi .sge (BitVec.ofNat 32 x.val) (BitVec.ofNat 32 n.val) = if n.val ≤ x.val then 1#1 else 0#1 := by
  revert n x; decide +kernel

theorem pick {P : Prop} [Decidable P] (a b : EReal) : Scalar.select (if P then 1#1 else 0#1) a b = if P then a else b := by
  by_cases h : P <;> simp [h, Scalar.select]

theorem both {P Q : Prop} [Decidable P] [Decidable Q] :
    IntOp.andi (if P then 1#1 else 0#1) (if Q then 1#1 else 0#1) = if P ∧ Q then 1#1 else 0#1 := by
  by_cases p : P <;> by_cases q : Q <;> simp [p, q, IntOp.andi]

/-! ## The operands -/

variable (m : (ℓ : Loc nD τ sig) → Buf (Elt Ideal) ℓ) (c : Dev nD)

/-- The queries, keys, values and forget sums, as launched. -/
abbrev argQ : Vec Ideal S4x4096x2048 .f32 := m ((c.tc : Thread nD τ).loc main_arg0)
abbrev argK : Vec Ideal S4x4096x2048 .f32 := m ((c.tc : Thread nD τ).loc main_arg1)
abbrev argV : Vec Ideal S4x4096x2048 .f32 := m ((c.tc : Thread nD τ).loc main_arg2)
abbrev argF : Vec Ideal S4x4096x16 .f32 := m ((c.tc : Thread nD τ).loc main_arg3)

theorem host_q (b : Fin 4) (i : Fin 4096) (d : Fin 2048) :
    (Gen.V m c main_v11 : Vec Ideal S3x4x4096x2048 .bf16) (ix4 0 b i d) = argQ m c (ix3 b i d) * (scale : EReal) * ((1 / Real.log 2 : ℝ) : EReal) := by
  after_reads_simp
  pointwise
  after_reads_simp
  pointwise
  rw [← scale_bits, ← div_log_two]

theorem host_k (b : Fin 4) (i : Fin 4096) (d : Fin 2048) :
    (Gen.V m c main_v11 : Vec Ideal S3x4x4096x2048 .bf16) (ix4 1 b i d) = argK m c (ix3 b i d) := by
  after_reads_simp
  pointwise
  after_reads_simp
  pointwise

theorem host_v (b : Fin 4) (i : Fin 4096) (d : Fin 2048) :
    (Gen.V m c main_v11 : Vec Ideal S3x4x4096x2048 .bf16) (ix4 2 b i d) = argV m c (ix3 b i d) := by
  after_reads_simp
  pointwise
  after_reads_simp
  pointwise

set_option maxHeartbeats 2000000 in
theorem host_qa (b : Fin 4) (h : Fin 16) (i : Fin 4096) (x : Fin 128) (f : ℝ) (hf : argF m c (ix3 b i h) = f) :
    (Gen.V m c main_v59 : Vec Ideal S4x16x4096x128 .bf16) (ix4 b h i x) = (qlane (f * (1 / Real.log 2)) x : EReal) := by
  have hf' : m (c, Proc.tc.devRef main_arg3) (ix3 b i h) = (f : EReal) := hf
  after_reads_simp
  simp only [StableHlo.TRef.toBuf, StableHlo.TRef.ofBuf, cast_eq, id]
  pointwise
  rw [div_log_two, hf', ← EReal.coe_mul, neg_one_bits]
  have e0 : IntOp.cmpi .eq (BitVec.ofNat 32 x.val) 0#32 = if x.val = 0 then 1#1 else 0#1 := eq_lane 0 x
  have e1 : IntOp.cmpi .eq (BitVec.ofNat 32 x.val) 1#32 = if x.val = 1 then 1#1 else 0#1 := eq_lane 1 x
  have e2 : IntOp.cmpi .eq (BitVec.ofNat 32 x.val) 2#32 = if x.val = 2 then 1#1 else 0#1 := eq_lane 2 x
  have e3 : IntOp.cmpi .sge (BitVec.ofNat 32 x.val) 3#32 = if 3 ≤ x.val then 1#1 else 0#1 := ge_lane 3 x
  have e6 : IntOp.cmpi .slt (BitVec.ofNat 32 x.val) 6#32 = if x.val < 6 then 1#1 else 0#1 := lt_lane 6 x
  simp only [e0, e1, e2, e3, e6, both, pick, ← EReal.coe_sub, sub_self, EReal.coe_zero]
  unfold qlane
  split_ifs <;> first | rfl | (simp; done) | (exfalso; omega)

set_option maxHeartbeats 2000000 in
theorem host_ka (b : Fin 4) (h : Fin 16) (i : Fin 4096) (x : Fin 128) (f : ℝ) (hf : argF m c (ix3 b i h) = f) :
    (Gen.V m c main_v60 : Vec Ideal S4x16x4096x128 .bf16) (ix4 b h i x) = (klane (f * (1 / Real.log 2)) x : EReal) := by
  have hf' : m (c, Proc.tc.devRef main_arg3) (ix3 b i h) = (f : EReal) := hf
  after_reads_simp
  simp only [StableHlo.TRef.toBuf, StableHlo.TRef.ofBuf, cast_eq, id]
  pointwise
  rw [div_log_two, hf', ← EReal.coe_mul]
  have e3 : IntOp.cmpi .eq (BitVec.ofNat 32 x.val) 3#32 = if x.val = 3 then 1#1 else 0#1 := eq_lane 3 x
  have e4 : IntOp.cmpi .eq (BitVec.ofNat 32 x.val) 4#32 = if x.val = 4 then 1#1 else 0#1 := eq_lane 4 x
  have e5 : IntOp.cmpi .eq (BitVec.ofNat 32 x.val) 5#32 = if x.val = 5 then 1#1 else 0#1 := eq_lane 5 x
  have e2 : IntOp.cmpi .slt (BitVec.ofNat 32 x.val) 3#32 = if x.val < 3 then 1#1 else 0#1 := lt_lane 3 x
  simp only [e2, e3, e4, e5, pick, ← EReal.coe_sub, sub_self, EReal.coe_zero]
  unfold klane
  split_ifs <;> first | rfl | (simp; done) | (exfalso; omega)

end Cert.KernelIdeal.Att
-- ==== Proof.Place.lean ====
/-
  Where each window's block sits in its array.
-/
module

public import proofs.«01_k».proof.Proof.Host
public import Idealize.ShloMosaic.Lib.Pipeline.Value

@[expose] public section

set_option maxRecDepth 16384

noncomputable section

namespace Cert.KernelIdeal.Att

open Cert.KernelIdeal Cert.KernelIdeal.Gen Cert.Softmax
open Idealize.ShloMosaic Idealize.ShloMosaic.TcCoe Idealize.ShloMosaic.VecWindow

variable (m : (ℓ : Loc nD τ sig) → Buf (Elt Ideal) ℓ) (c : Dev nD)

theorem index_0 : ∀ t : Fin grid0.N, win0_0.index t 0 = 0 ∧ win0_0.index t 1 = t.val / 32 ∧ win0_0.index t 2 = t.val % 8 ∧ win0_0.index t 3 = t.val / 8 % 4 := by
  decide +kernel

/-- Where the query block at point `t` sits. -/
theorem emb_0 (t : Fin grid0.N) (r : Fin 512) (x : Fin 512) : ((win0_0.rect t).emb ((ix4 0 0 r x) : S1x1x512x512.Idx) : S3x4x4096x2048.Idx)
    = (ix4 0 ⟨t.val / 32, by have h : t.val < 128 := t.isLt; omega⟩ ⟨512 * (t.val % 8) + r.val, by have h : t.val < 128 := t.isLt; omega⟩ ⟨512 * (t.val / 8 % 4) + x.val, by have h : t.val < 128 := t.isLt; omega⟩) := by
  have hi := index_0 t
  funext a
  apply Fin.ext
  refine (Pipeline.Window.rect_emb_val win0_0 t _ a rfl).trans ?_
  fin_cases a
  · show win0_0.index t 0 * 1 + 0 = 0
    omega
  · show win0_0.index t 1 * 1 + 0 = t.val / 32
    omega
  · show win0_0.index t 2 * 512 + r.val = 512 * (t.val % 8) + r.val
    omega
  · show win0_0.index t 3 * 512 + x.val = 512 * (t.val / 8 % 4) + x.val
    omega

theorem at_0 (t : Fin grid0.N) (r : Fin 512) (x : Fin 512) : (iblk m c 0 t : Vec Ideal S1x1x512x512 .bf16) (ix4 0 0 r x)
    = (Gen.V m c main_v11 : Vec Ideal S3x4x4096x2048 .bf16) (ix4 0 ⟨t.val / 32, by have h : t.val < 128 := t.isLt; omega⟩ ⟨512 * (t.val % 8) + r.val, by have h : t.val < 128 := t.isLt; omega⟩ ⟨512 * (t.val / 8 % 4) + x.val, by have h : t.val < 128 := t.isLt; omega⟩) :=
  congrArg (Gen.V m c main_v11 : Vec Ideal S3x4x4096x2048 .bf16) (emb_0 t r x)

theorem index_1 : ∀ t : Fin grid0.N, win0_1.index t 0 = t.val / 32 ∧ win0_1.index t 1 = t.val / 8 % 4 ∧ win0_1.index t 2 = t.val % 8 ∧ win0_1.index t 3 = 0 := by
  decide +kernel

/-- Where the query lanes at point `t` sits. -/
theorem emb_1 (t : Fin grid0.N) (h : Fin 4) (r : Fin 512) (x : Fin 128) : ((win0_1.rect t).emb ((ix4 0 h r x) : S1x4x512x128.Idx) : S4x16x4096x128.Idx)
    = (ix4 ⟨t.val / 32, by have h : t.val < 128 := t.isLt; omega⟩ ⟨4 * (t.val / 8 % 4) + h.val, by have h : t.val < 128 := t.isLt; omega⟩ ⟨512 * (t.val % 8) + r.val, by have h : t.val < 128 := t.isLt; omega⟩ x) := by
  have hi := index_1 t
  funext a
  apply Fin.ext
  refine (Pipeline.Window.rect_emb_val win0_1 t _ a rfl).trans ?_
  fin_cases a
  · show win0_1.index t 0 * 1 + 0 = t.val / 32
    omega
  · show win0_1.index t 1 * 4 + h.val = 4 * (t.val / 8 % 4) + h.val
    omega
  · show win0_1.index t 2 * 512 + r.val = 512 * (t.val % 8) + r.val
    omega
  · show win0_1.index t 3 * 128 + x.val = x.val
    omega

theorem at_1 (t : Fin grid0.N) (h : Fin 4) (r : Fin 512) (x : Fin 128) : (iblk m c 1 t : Vec Ideal S1x4x512x128 .bf16) (ix4 0 h r x)
    = (Gen.V m c main_v59 : Vec Ideal S4x16x4096x128 .bf16) (ix4 ⟨t.val / 32, by have h : t.val < 128 := t.isLt; omega⟩ ⟨4 * (t.val / 8 % 4) + h.val, by have h : t.val < 128 := t.isLt; omega⟩ ⟨512 * (t.val % 8) + r.val, by have h : t.val < 128 := t.isLt; omega⟩ x) :=
  congrArg (Gen.V m c main_v59 : Vec Ideal S4x16x4096x128 .bf16) (emb_1 t h r x)

theorem index_2 : ∀ t : Fin grid0.N, win0_2.index t 0 = 1 ∧ win0_2.index t 1 = t.val / 32 ∧ win0_2.index t 2 = 0 ∧ win0_2.index t 3 = t.val / 8 % 4 := by
  decide +kernel

/-- Where the keys at point `t` sits. -/
theorem emb_2 (t : Fin grid0.N) (r : Fin 4096) (x : Fin 512) : ((win0_2.rect t).emb ((ix4 0 0 r x) : S1x1x4096x512.Idx) : S3x4x4096x2048.Idx)
    = (ix4 1 ⟨t.val / 32, by have h : t.val < 128 := t.isLt; omega⟩ r ⟨512 * (t.val / 8 % 4) + x.val, by have h : t.val < 128 := t.isLt; omega⟩) := by
  have hi := index_2 t
  funext a
  apply Fin.ext
  refine (Pipeline.Window.rect_emb_val win0_2 t _ a rfl).trans ?_
  fin_cases a
  · show win0_2.index t 0 * 1 + 0 = 1
    omega
  · show win0_2.index t 1 * 1 + 0 = t.val / 32
    omega
  · show win0_2.index t 2 * 4096 + r.val = r.val
    omega
  · show win0_2.index t 3 * 512 + x.val = 512 * (t.val / 8 % 4) + x.val
    omega

theorem at_2 (t : Fin grid0.N) (r : Fin 4096) (x : Fin 512) : (iblk m c 2 t : Vec Ideal S1x1x4096x512 .bf16) (ix4 0 0 r x)
    = (Gen.V m c main_v11 : Vec Ideal S3x4x4096x2048 .bf16) (ix4 1 ⟨t.val / 32, by have h : t.val < 128 := t.isLt; omega⟩ r ⟨512 * (t.val / 8 % 4) + x.val, by have h : t.val < 128 := t.isLt; omega⟩) :=
  congrArg (Gen.V m c main_v11 : Vec Ideal S3x4x4096x2048 .bf16) (emb_2 t r x)

theorem index_3 : ∀ t : Fin grid0.N, win0_3.index t 0 = t.val / 32 ∧ win0_3.index t 1 = t.val / 8 % 4 ∧ win0_3.index t 2 = 0 ∧ win0_3.index t 3 = 0 := by
  decide +kernel

/-- Where the key lanes at point `t` sits. -/
theorem emb_3 (t : Fin grid0.N) (h : Fin 4) (r : Fin 4096) (x : Fin 128) : ((win0_3.rect t).emb ((ix4 0 h r x) : S1x4x4096x128.Idx) : S4x16x4096x128.Idx)
    = (ix4 ⟨t.val / 32, by have h : t.val < 128 := t.isLt; omega⟩ ⟨4 * (t.val / 8 % 4) + h.val, by have h : t.val < 128 := t.isLt; omega⟩ r x) := by
  have hi := index_3 t
  funext a
  apply Fin.ext
  refine (Pipeline.Window.rect_emb_val win0_3 t _ a rfl).trans ?_
  fin_cases a
  · show win0_3.index t 0 * 1 + 0 = t.val / 32
    omega
  · show win0_3.index t 1 * 4 + h.val = 4 * (t.val / 8 % 4) + h.val
    omega
  · show win0_3.index t 2 * 4096 + r.val = r.val
    omega
  · show win0_3.index t 3 * 128 + x.val = x.val
    omega

theorem at_3 (t : Fin grid0.N) (h : Fin 4) (r : Fin 4096) (x : Fin 128) : (iblk m c 3 t : Vec Ideal S1x4x4096x128 .bf16) (ix4 0 h r x)
    = (Gen.V m c main_v60 : Vec Ideal S4x16x4096x128 .bf16) (ix4 ⟨t.val / 32, by have h : t.val < 128 := t.isLt; omega⟩ ⟨4 * (t.val / 8 % 4) + h.val, by have h : t.val < 128 := t.isLt; omega⟩ r x) :=
  congrArg (Gen.V m c main_v60 : Vec Ideal S4x16x4096x128 .bf16) (emb_3 t h r x)

theorem index_4 : ∀ t : Fin grid0.N, win0_4.index t 0 = 2 ∧ win0_4.index t 1 = t.val / 32 ∧ win0_4.index t 2 = 0 ∧ win0_4.index t 3 = t.val / 8 % 4 := by
  decide +kernel

/-- Where the values at point `t` sits. -/
theorem emb_4 (t : Fin grid0.N) (r : Fin 4096) (x : Fin 512) : ((win0_4.rect t).emb ((ix4 0 0 r x) : S1x1x4096x512.Idx) : S3x4x4096x2048.Idx)
    = (ix4 2 ⟨t.val / 32, by have h : t.val < 128 := t.isLt; omega⟩ r ⟨512 * (t.val / 8 % 4) + x.val, by have h : t.val < 128 := t.isLt; omega⟩) := by
  have hi := index_4 t
  funext a
  apply Fin.ext
  refine (Pipeline.Window.rect_emb_val win0_4 t _ a rfl).trans ?_
  fin_cases a
  · show win0_4.index t 0 * 1 + 0 = 2
    omega
  · show win0_4.index t 1 * 1 + 0 = t.val / 32
    omega
  · show win0_4.index t 2 * 4096 + r.val = r.val
    omega
  · show win0_4.index t 3 * 512 + x.val = 512 * (t.val / 8 % 4) + x.val
    omega

theorem at_4 (t : Fin grid0.N) (r : Fin 4096) (x : Fin 512) : (iblk m c 4 t : Vec Ideal S1x1x4096x512 .bf16) (ix4 0 0 r x)
    = (Gen.V m c main_v11 : Vec Ideal S3x4x4096x2048 .bf16) (ix4 2 ⟨t.val / 32, by have h : t.val < 128 := t.isLt; omega⟩ r ⟨512 * (t.val / 8 % 4) + x.val, by have h : t.val < 128 := t.isLt; omega⟩) :=
  congrArg (Gen.V m c main_v11 : Vec Ideal S3x4x4096x2048 .bf16) (emb_4 t r x)

theorem index_5 : ∀ t : Fin grid0.N, win0_5.index t 0 = 1 ∧ win0_5.index t 1 = t.val / 4 ∧ win0_5.index t 2 = 0 := by
  decide +kernel

/-- Where the first weight slab at point `t` sits. -/
theorem emb_5 (t : Fin grid0.N) (r : Fin 64) (x : Fin 5632) : ((win0_5.rect t).emb ((ix3 0 r x) : S1x64x5632.Idx) : S2x2048x5632.Idx)
    = (ix3 1 ⟨64 * (t.val / 4) + r.val, by have h : t.val < 128 := t.isLt; omega⟩ x) := by
  have hi := index_5 t
  funext a
  apply Fin.ext
  refine (Pipeline.Window.rect_emb_val win0_5 t _ a rfl).trans ?_
  fin_cases a
  · show win0_5.index t 0 * 1 + 0 = 1
    omega
  · show win0_5.index t 1 * 64 + r.val = 64 * (t.val / 4) + r.val
    omega
  · show win0_5.index t 2 * 5632 + x.val = x.val
    omega

theorem at_5 (t : Fin grid0.N) (r : Fin 64) (x : Fin 5632) : (iblk m c 5 t : Vec Ideal S1x64x5632 .f32) (ix3 0 r x)
    = (Gen.V m c main_arg4 : Vec Ideal S2x2048x5632 .f32) (ix3 1 ⟨64 * (t.val / 4) + r.val, by have h : t.val < 128 := t.isLt; omega⟩ x) :=
  congrArg (Gen.V m c main_arg4 : Vec Ideal S2x2048x5632 .f32) (emb_5 t r x)

theorem index_6 : ∀ t : Fin grid0.N, win0_6.index t 0 = 1 ∧ win0_6.index t 1 = t.val / 4 ∧ win0_6.index t 2 = 0 := by
  decide +kernel

/-- Where the second weight slab at point `t` sits. -/
theorem emb_6 (t : Fin grid0.N) (r : Fin 64) (x : Fin 5632) : ((win0_6.rect t).emb ((ix3 0 r x) : S1x64x5632.Idx) : S2x2048x5632.Idx)
    = (ix3 1 ⟨64 * (t.val / 4) + r.val, by have h : t.val < 128 := t.isLt; omega⟩ x) := by
  have hi := index_6 t
  funext a
  apply Fin.ext
  refine (Pipeline.Window.rect_emb_val win0_6 t _ a rfl).trans ?_
  fin_cases a
  · show win0_6.index t 0 * 1 + 0 = 1
    omega
  · show win0_6.index t 1 * 64 + r.val = 64 * (t.val / 4) + r.val
    omega
  · show win0_6.index t 2 * 5632 + x.val = x.val
    omega

theorem at_6 (t : Fin grid0.N) (r : Fin 64) (x : Fin 5632) : (iblk m c 6 t : Vec Ideal S1x64x5632 .f32) (ix3 0 r x)
    = (Gen.V m c main_arg5 : Vec Ideal S2x2048x5632 .f32) (ix3 1 ⟨64 * (t.val / 4) + r.val, by have h : t.val < 128 := t.isLt; omega⟩ x) :=
  congrArg (Gen.V m c main_arg5 : Vec Ideal S2x2048x5632 .f32) (emb_6 t r x)

theorem index_7 : ∀ t : Fin grid0.N, win0_7.index t 0 = 1 ∧ win0_7.index t 1 = t.val / 4 ∧ win0_7.index t 2 = 0 := by
  decide +kernel

/-- Where the third weight slab at point `t` sits. -/
theorem emb_7 (t : Fin grid0.N) (r : Fin 176) (x : Fin 2048) : ((win0_7.rect t).emb ((ix3 0 r x) : S1x176x2048.Idx) : S2x5632x2048.Idx)
    = (ix3 1 ⟨176 * (t.val / 4) + r.val, by have h : t.val < 128 := t.isLt; omega⟩ x) := by
  have hi := index_7 t
  funext a
  apply Fin.ext
  refine (Pipeline.Window.rect_emb_val win0_7 t _ a rfl).trans ?_
  fin_cases a
  · show win0_7.index t 0 * 1 + 0 = 1
    omega
  · show win0_7.index t 1 * 176 + r.val = 176 * (t.val / 4) + r.val
    omega
  · show win0_7.index t 2 * 2048 + x.val = x.val
    omega

theorem at_7 (t : Fin grid0.N) (r : Fin 176) (x : Fin 2048) : (iblk m c 7 t : Vec Ideal S1x176x2048 .f32) (ix3 0 r x)
    = (Gen.V m c main_arg6 : Vec Ideal S2x5632x2048 .f32) (ix3 1 ⟨176 * (t.val / 4) + r.val, by have h : t.val < 128 := t.isLt; omega⟩ x) :=
  congrArg (Gen.V m c main_arg6 : Vec Ideal S2x5632x2048 .f32) (emb_7 t r x)

theorem index_8 : ∀ t : Fin grid0.N, win0_8.index t 0 = 0 ∧ win0_8.index t 1 = t.val / 4 ∧ win0_8.index t 2 = 0 := by
  decide +kernel

/-- Where the fourth weight slab at point `t` sits. -/
theorem emb_8 (t : Fin grid0.N) (r : Fin 64) (x : Fin 2048) : ((win0_8.rect t).emb ((ix3 0 r x) : S1x64x2048.Idx) : S1x2048x2048.Idx)
    = (ix3 0 ⟨64 * (t.val / 4) + r.val, by have h : t.val < 128 := t.isLt; omega⟩ x) := by
  have hi := index_8 t
  funext a
  apply Fin.ext
  refine (Pipeline.Window.rect_emb_val win0_8 t _ a rfl).trans ?_
  fin_cases a
  · show win0_8.index t 0 * 1 + 0 = 0
    omega
  · show win0_8.index t 1 * 64 + r.val = 64 * (t.val / 4) + r.val
    omega
  · show win0_8.index t 2 * 2048 + x.val = x.val
    omega

theorem at_8 (t : Fin grid0.N) (r : Fin 64) (x : Fin 2048) : (iblk m c 8 t : Vec Ideal S1x64x2048 .f32) (ix3 0 r x)
    = (Gen.V m c main_arg7 : Vec Ideal S1x2048x2048 .f32) (ix3 0 ⟨64 * (t.val / 4) + r.val, by have h : t.val < 128 := t.isLt; omega⟩ x) :=
  congrArg (Gen.V m c main_arg7 : Vec Ideal S1x2048x2048 .f32) (emb_8 t r x)

theorem index_9 : ∀ t : Fin grid0.N, win0_9.index t 0 = t.val / 32 ∧ win0_9.index t 1 = t.val % 8 ∧ win0_9.index t 2 = t.val / 8 % 4 := by
  decide +kernel

/-- Where the output block at point `t` sits. -/
theorem emb_9 (t : Fin grid0.N) (r : Fin 512) (x : Fin 512) : ((win0_9.rect t).emb ((ix3 0 r x) : S1x512x512.Idx) : S4x4096x2048.Idx)
    = (ix3 ⟨t.val / 32, by have h : t.val < 128 := t.isLt; omega⟩ ⟨512 * (t.val % 8) + r.val, by have h : t.val < 128 := t.isLt; omega⟩ ⟨512 * (t.val / 8 % 4) + x.val, by have h : t.val < 128 := t.isLt; omega⟩) := by
  have hi := index_9 t
  funext a
  apply Fin.ext
  refine (Pipeline.Window.rect_emb_val win0_9 t _ a rfl).trans ?_
  fin_cases a
  · show win0_9.index t 0 * 1 + 0 = t.val / 32
    omega
  · show win0_9.index t 1 * 512 + r.val = 512 * (t.val % 8) + r.val
    omega
  · show win0_9.index t 2 * 512 + x.val = 512 * (t.val / 8 % 4) + x.val
    omega

theorem index_10 : ∀ t : Fin grid0.N, win0_10.index t 0 = t.val / 4 ∧ win0_10.index t 1 = 0 := by
  decide +kernel

/-- Where the first cast slab at point `t` sits. -/
theorem emb_10 (t : Fin grid0.N) (r : Fin 64) (x : Fin 5632) : ((win0_10.rect t).emb ((ix2 r x) : S64x5632.Idx) : S2048x5632.Idx)
    = (ix2 ⟨64 * (t.val / 4) + r.val, by have h : t.val < 128 := t.isLt; omega⟩ x) := by
  have hi := index_10 t
  funext a
  apply Fin.ext
  refine (Pipeline.Window.rect_emb_val win0_10 t _ a rfl).trans ?_
  fin_cases a
  · show win0_10.index t 0 * 64 + r.val = 64 * (t.val / 4) + r.val
    omega
  · show win0_10.index t 1 * 5632 + x.val = x.val
    omega

theorem index_11 : ∀ t : Fin grid0.N, win0_11.index t 0 = t.val / 4 ∧ win0_11.index t 1 = 0 := by
  decide +kernel

/-- Where the second cast slab at point `t` sits. -/
theorem emb_11 (t : Fin grid0.N) (r : Fin 64) (x : Fin 5632) : ((win0_11.rect t).emb ((ix2 r x) : S64x5632.Idx) : S2048x5632.Idx)
    = (ix2 ⟨64 * (t.val / 4) + r.val, by have h : t.val < 128 := t.isLt; omega⟩ x) := by
  have hi := index_11 t
  funext a
  apply Fin.ext
  refine (Pipeline.Window.rect_emb_val win0_11 t _ a rfl).trans ?_
  fin_cases a
  · show win0_11.index t 0 * 64 + r.val = 64 * (t.val / 4) + r.val
    omega
  · show win0_11.index t 1 * 5632 + x.val = x.val
    omega

theorem index_12 : ∀ t : Fin grid0.N, win0_12.index t 0 = t.val / 4 ∧ win0_12.index t 1 = 0 := by
  decide +kernel

/-- Where the third cast slab at point `t` sits. -/
theorem emb_12 (t : Fin grid0.N) (r : Fin 176) (x : Fin 2048) : ((win0_12.rect t).emb ((ix2 r x) : S176x2048.Idx) : S5632x2048.Idx)
    = (ix2 ⟨176 * (t.val / 4) + r.val, by have h : t.val < 128 := t.isLt; omega⟩ x) := by
  have hi := index_12 t
  funext a
  apply Fin.ext
  refine (Pipeline.Window.rect_emb_val win0_12 t _ a rfl).trans ?_
  fin_cases a
  · show win0_12.index t 0 * 176 + r.val = 176 * (t.val / 4) + r.val
    omega
  · show win0_12.index t 1 * 2048 + x.val = x.val
    omega

theorem index_13 : ∀ t : Fin grid0.N, win0_13.index t 0 = t.val / 4 ∧ win0_13.index t 1 = 0 := by
  decide +kernel

/-- Where the fourth cast slab at point `t` sits. -/
theorem emb_13 (t : Fin grid0.N) (r : Fin 64) (x : Fin 2048) : ((win0_13.rect t).emb ((ix2 r x) : S64x2048.Idx) : S2048x2048.Idx)
    = (ix2 ⟨64 * (t.val / 4) + r.val, by have h : t.val < 128 := t.isLt; omega⟩ x) := by
  have hi := index_13 t
  funext a
  apply Fin.ext
  refine (Pipeline.Window.rect_emb_val win0_13 t _ a rfl).trans ?_
  fin_cases a
  · show win0_13.index t 0 * 64 + r.val = 64 * (t.val / 4) + r.val
    omega
  · show win0_13.index t 1 * 2048 + x.val = x.val
    omega

end Cert.KernelIdeal.Att
-- ==== Proof.Scores.lean ====
/-
  The scores the call computes: a query's product with a key, scaled, with the difference of their forget sums, over `log 2`.
-/
module

public import proofs.«01_k».proof.Proof.Place

@[expose] public section

set_option maxRecDepth 16384

noncomputable section

namespace Cert.KernelIdeal.Att

open Cert.KernelIdeal Cert.KernelIdeal.Gen Cert.Softmax
open Idealize.ShloMosaic Idealize.ShloMosaic.TcCoe Idealize.ShloMosaic.VecWindow

/-! ## The windows at an index -/

theorem kblk_apply (K : Vec Ideal S1x1x4096x512 .bf16) (j : Fin 8) (h : Fin 4) (k : Fin 512) (x : Fin 128) :
    kblk K j h (ix4 0 0 k x) = K (ix4 0 0 ⟨512 * j.val + k.val, by omega⟩ ⟨128 * h.val + x.val, by omega⟩) := by
  refine congrArg K (funext fun a => Fin.ext ?_)
  rw [Rect.emb_apply]
  fin_cases a
  · show 0 + 1 * 0 = 0; rfl
  · show 0 + 1 * 0 = 0; rfl
  · show 512 * j.val + 1 * k.val = 512 * j.val + k.val; omega
  · show 128 * h.val + 1 * x.val = 128 * h.val + x.val; omega

theorem ablk_apply (A : Vec Ideal S1x4x4096x128 .bf16) (j : Fin 8) (h : Fin 4) (k : Fin 512) (x : Fin 128) :
    ablk A j h (ix4 0 0 k x) = A (ix4 0 h ⟨512 * j.val + k.val, by omega⟩ x) := by
  refine congrArg A (funext fun a => Fin.ext ?_)
  rw [Rect.emb_apply]
  fin_cases a
  · show 0 + 1 * 0 = 0; rfl
  · show h.val + 1 * 0 = h.val; rfl
  · show 512 * j.val + 1 * k.val = 512 * j.val + k.val; omega
  · show 0 + 1 * x.val = x.val; omega

theorem qrow_left (q : Vec Ideal S1x1x512x512 .bf16) (qa : Vec Ideal S1x4x512x128 .bf16) (h : Fin 4) (y : Fin 512) (x : Fin 128) :
    qrow q qa h (ix2 y ⟨x.val, by omega⟩) = q (ix4 0 0 y ⟨128 * h.val + x.val, by omega⟩) := by
  unfold qrow
  pointwise [k0_pay307]
  refine congrArg q (funext fun a => Fin.ext ?_)
  rw [Rect.emb_apply]
  fin_cases a
  · show 0 + 1 * 0 = 0; rfl
  · show 0 + 1 * 0 = 0; rfl
  · show 0 + 1 * y.val = y.val; omega
  · show 128 * h.val + 1 * x.val = 128 * h.val + x.val; omega

theorem qrow_right (q : Vec Ideal S1x1x512x512 .bf16) (qa : Vec Ideal S1x4x512x128 .bf16) (h : Fin 4) (y : Fin 512) (x : Fin 128) :
    qrow q qa h (ix2 y ⟨128 + x.val, by omega⟩) = qa (ix4 0 h y x) := by
  unfold qrow
  pointwise [k0_pay307]
  refine congrArg qa (funext fun a => Fin.ext ?_)
  rw [Rect.emb_apply]
  fin_cases a
  · show 0 + 1 * 0 = 0; rfl
  · show h.val + 1 * 0 = h.val; rfl
  · show 0 + 1 * y.val = y.val; omega
  · show 0 + 1 * x.val = x.val; omega

/-! ## The scores -/

/-- Column `e` of head `H`. -/
def lane (H : Fin 16) (e : Fin 128) : Fin 2048 := ⟨128 * H.val + e.val, by omega⟩

/-- The score of key `j` for query `i`: the scaled product and the difference of the forget sums. -/
def score (Q K : Fin 4 → Fin 4096 → Fin 2048 → ℝ) (F : Fin 4 → Fin 4096 → Fin 16 → ℝ) (b : Fin 4) (H : Fin 16) (i : Fin 4096) (j : ℕ) : ℝ :=
  (∑ e : Fin 128, Q b i (lane H e) * K b (Fin.ofNat 4096 j) (lane H e)) * scale + F b i H - F b (Fin.ofNat 4096 j) H

theorem sum_coe {n : ℕ} (f : Fin n → ℝ) : ∑ x, (f x : EReal) = ((∑ x, f x : ℝ) : EReal) :=
  (map_sum (⟨⟨fun x : ℝ => (x : EReal), rfl⟩, EReal.coe_add⟩ : ℝ →+ EReal) f Finset.univ).symm

theorem same3 {n₁ n₂ n₃ : ℕ} {α : Type} (f : Fin n₁ → Fin n₂ → Fin n₃ → α) {a a' : Fin n₁} {b b' : Fin n₂} {d d' : Fin n₃}
    (ha : a.val = a'.val) (hb : b.val = b'.val) (hd : d.val = d'.val) : f a b d = f a' b' d' := by
  rw [Fin.ext ha, Fin.ext hb, Fin.ext hd]

variable (m : (ℓ : Loc nD τ sig) → Buf (Elt Ideal) ℓ) (c : Dev nD)
  (Q K : Fin 4 → Fin 4096 → Fin 2048 → ℝ) (F : Fin 4 → Fin 4096 → Fin 16 → ℝ)

/-- A point's batch, query block, and its heads. -/
def bat (t : Fin grid0.N) : Fin 4 := ⟨t.val / 32, by have h : t.val < 128 := t.isLt; omega⟩
def qb (t : Fin grid0.N) : Fin 8 := ⟨t.val % 8, by omega⟩
def hd (t : Fin grid0.N) (h : Fin 4) : Fin 16 := ⟨4 * (t.val / 8 % 4) + h.val, by omega⟩

/-- Query `y` of the block at point `t`. -/
def qi (t : Fin grid0.N) (y : Fin 512) : Fin 4096 := ⟨512 * (t.val % 8) + y.val, by omega⟩

variable (hQ : ∀ b i d, argQ m c (ix3 b i d) = (Q b i d : EReal)) (hK : ∀ b i d, argK m c (ix3 b i d) = (K b i d : EReal))
  (hF : ∀ b i h, argF m c (ix3 b i h) = (F b i h : EReal))

include hQ hK hF in
theorem scores_at (t : Fin grid0.N) (h : Fin 4) (y : Fin 512) (n' : ℕ) (hn : n' ≤ (qb t).val) :
    Scores (iblk m c 2 t) (iblk m c 3 t) (qrow (iblk m c 0 t) (iblk m c 1 t) h) h
      (fun j => score Q K F (bat t) (hd t h) (qi t y) j / Real.log 2) y n' := by
  intro k
  have ht : t.val < 128 := t.isLt
  have hq : (qb t).val = t.val % 8 := rfl
  have hb : (blk n').val = n' := by show n' % 8 = n'; omega
  have hj : (Fin.ofNat 4096 (512 * n' + k.val)).val = 512 * n' + k.val := by show (512 * n' + k.val) % 4096 = _; omega
  have ek : ∀ x : Fin 128, kblk (iblk m c 2 t) (blk n') h (ix4 0 0 k x)
      = (K (bat t) (Fin.ofNat 4096 (512 * n' + k.val)) (lane (hd t h) x) : EReal) := fun x => by
    refine (kblk_apply _ _ _ _ _).trans ((at_2 m c t _ _).trans ((host_k m c _ _ _).trans ((hK _ _ _).trans (congrArg _ (same3 K rfl ?_ ?_)))))
    · show 512 * (blk n').val + k.val = _; rw [hb, hj]
    · show 512 * (t.val / 8 % 4) + (128 * h.val + x.val) = 128 * (4 * (t.val / 8 % 4) + h.val) + x.val; omega
  have ea : ∀ x : Fin 128, ablk (iblk m c 3 t) (blk n') h (ix4 0 0 k x)
      = (klane (F (bat t) (Fin.ofNat 4096 (512 * n' + k.val)) (hd t h) * (1 / Real.log 2)) x : EReal) := fun x => by
    refine (ablk_apply _ _ _ _ _).trans ((at_3 m c t _ _ _).trans (host_ka m c _ _ _ _ _ ((hF _ _ _).trans (congrArg _ (same3 F rfl ?_ rfl)))))
    show 512 * (blk n').val + k.val = _; rw [hb, hj]
  have eq : ∀ x : Fin 128, qrow (iblk m c 0 t) (iblk m c 1 t) h (ix2 y ⟨x.val, by omega⟩)
      = ((Q (bat t) (qi t y) (lane (hd t h) x) * scale * (1 / Real.log 2) : ℝ) : EReal) := fun x => by
    refine (qrow_left _ _ _ _ _).trans ((at_0 m c t _ _).trans ((host_q m c _ _ _).trans ?_))
    rw [hQ, ← EReal.coe_mul, ← EReal.coe_mul]
    refine congrArg (fun z : ℝ => ((z * scale * (1 / Real.log 2) : ℝ) : EReal)) (same3 Q rfl rfl ?_)
    show 512 * (t.val / 8 % 4) + (128 * h.val + x.val) = 128 * (4 * (t.val / 8 % 4) + h.val) + x.val; omega
  have el : ∀ x : Fin 128, qrow (iblk m c 0 t) (iblk m c 1 t) h (ix2 y ⟨128 + x.val, by omega⟩)
      = (qlane (F (bat t) (qi t y) (hd t h) * (1 / Real.log 2)) x : EReal) := fun x =>
    (qrow_right _ _ _ _ _).trans ((at_1 m c t _ _ _).trans (host_qa m c _ _ _ _ _ (hF _ _ _)))
  rw [pay2_apply]
  simp only [ek, ea, eq, el, ← EReal.coe_mul, sum_coe, lanes, ← EReal.coe_add]
  refine congrArg (fun z : ℝ => (z : EReal)) ?_
  have e : ∑ x : Fin 128, K (bat t) (Fin.ofNat 4096 (512 * n' + k.val)) (lane (hd t h) x) * (Q (bat t) (qi t y) (lane (hd t h) x) * scale * (1 / Real.log 2))
      = (∑ x : Fin 128, Q (bat t) (qi t y) (lane (hd t h) x) * K (bat t) (Fin.ofNat 4096 (512 * n' + k.val)) (lane (hd t h) x)) * scale * (1 / Real.log 2) := by
    rw [Finset.sum_mul, Finset.sum_mul]
    exact Finset.sum_congr rfl fun x _ => by ring
  rw [e]
  unfold score
  ring

theorem values_at (t : Fin grid0.N) (h : Fin 4) (d : Fin 128) (n' : ℕ) (hn : n' ≤ (qb t).val) :
    Values (iblk m c 4 t) h (fun j => argV m c (ix3 (bat t) (Fin.ofNat 4096 j) (lane (hd t h) d))) d n' := by
  intro k
  have ht : t.val < 128 := t.isLt
  have hq : (qb t).val = t.val % 8 := rfl
  have hb : (blk n').val = n' := by show n' % 8 = n'; omega
  have hj : (Fin.ofNat 4096 (512 * n' + k.val)).val = 512 * n' + k.val := by show (512 * n' + k.val) % 4096 = _; omega
  refine (kblk_apply _ _ _ _ _).trans ((at_4 m c t _ _).trans ((host_v m c _ _ _).trans (same3 (fun b i d => argV m c (ix3 b i d)) rfl ?_ ?_)))
  · show 512 * (blk n').val + k.val = _; rw [hb, hj]
  · show 512 * (t.val / 8 % 4) + (128 * h.val + d.val) = 128 * (4 * (t.val / 8 % 4) + h.val) + d.val; omega

theorem beside_apply (g : Fin 4 → Vec Ideal S1x512x128 .bf16) (h : Fin 4) (y : Fin 512) (d : Fin 128) :
    beside g (ix3 0 y ⟨128 * h.val + d.val, by omega⟩) = g h (ix3 0 y d) := by
  have e1 : (⟨(128 * h.val + d.val) / 128, by omega⟩ : Fin 4) = h := Fin.ext (by show (128 * h.val + d.val) / 128 = h.val; omega)
  have e2 : col (ix3 0 y ⟨128 * h.val + d.val, by omega⟩) = ix3 0 y d := by
    funext a
    fin_cases a
    · rfl
    · rfl
    · exact Fin.ext (by show (128 * h.val + d.val) % 128 = d.val; omega)
  show g ⟨(128 * h.val + d.val) / 128, _⟩ (col _) = _
  rw [e1, e2]

include hQ hK hF in
/-- The output block at point `t`: each query's mean of the values, weighted by the exponentials of its scores. -/
theorem out_at (t : Fin grid0.N) (h : Fin 4) (y : Fin 512) (d : Fin 128) :
    outBlk (iblk m c 0 t) (iblk m c 1 t) (iblk m c 2 t) (iblk m c 3 t) (iblk m c 4 t) (qb t).val (ix3 0 y ⟨128 * h.val + d.val, by omega⟩)
      = mean (fun j => Real.exp (score Q K F (bat t) (hd t h) (qi t y) j)) (qi t y).val 4096
          (fun j => argV m c (ix3 (bat t) (Fin.ofNat 4096 j) (lane (hd t h) d))) := by
  have hq : (qb t).val = t.val % 8 := rfl
  refine (beside_apply _ h y d).trans ((head_mean (fun n' hn => scores_at m c Q K F hQ hK hF t h y n' hn) (fun n' hn => values_at m c t h d n' hn)).trans ?_)
  simp only [two_rpow]
  exact (mean_extend (512 * (qb t).val + y.val) _ _ (by omega) (by omega)).symm

end Cert.KernelIdeal.Att
-- ==== Proof.Array.lean ====
/-
  What the call's five result arrays hold when it ends.
-/
module

public import proofs.«01_k».proof.Proof.Scores
public import proofs.«01_k».proof.Proof.Run

@[expose] public section

set_option maxRecDepth 16384

noncomputable section

namespace Cert.KernelIdeal.Att

open Cert.KernelIdeal Cert.KernelIdeal.Gen Cert.Softmax
open Idealize.ShloMosaic Idealize.ShloMosaic.TcCoe Idealize.ShloMosaic.VecWindow

variable (m : (ℓ : Loc nD τ sig) → Buf (Elt Ideal) ℓ) (c : Dev nD)
  (Q K : Fin 4 → Fin 4096 → Fin 2048 → ℝ) (F : Fin 4 → Fin 4096 → Fin 16 → ℝ)

/-- The attention at batch `b`, query `i`, column `x` (of head `x / 128`). -/
def attention (v : Vec Ideal S4x4096x2048 .f32) (b : Fin 4) (i : Fin 4096) (x : Fin 2048) : EReal :=
  mean (fun j => Real.exp (score Q K F b ⟨x.val / 128, by omega⟩ i j)) i.val 4096 (fun j => v (ix3 b (Fin.ofNat 4096 j) x))

/-- The attention's array. -/
def attArr (v : Vec Ideal S4x4096x2048 .f32) : Vec Ideal S4x4096x2048 .bf16 := fun y => attention Q K F v (y 0) (y 1) (y 2)

/-- A weight's layer `l`, read without its leading axis. -/
def layer {a b n : ℕ} (w : (⟨3, ![a, b, n]⟩ : Shape).Idx → EReal) (l : Fin a) : (⟨2, ![b, n]⟩ : Shape).Idx → EReal := fun y => w (ix3 l (y 0) (y 1))

variable (hQ : ∀ b i d, argQ m c (ix3 b i d) = (Q b i d : EReal)) (hK : ∀ b i d, argK m c (ix3 b i d) = (K b i d : EReal))
  (hF : ∀ b i h, argF m c (ix3 b i h) = (F b i h : EReal))

include hQ hK hF in
theorem flushed_9 (t : Fin grid0.N) (h : Fin 4) (y : Fin 512) (d : Fin 128) :
    outBlk (iblk m c 0 t) (iblk m c 1 t) (iblk m c 2 t) (iblk m c 3 t) (iblk m c 4 t) ((grid0.coords t) 2).val (ix3 0 y ⟨128 * h.val + d.val, by omega⟩)
      = attArr Q K F (argV m c) ((win0_9.rect t).emb (ix3 0 y ⟨128 * h.val + d.val, by omega⟩ : S1x512x512.Idx)) := by
  rw [coord2 t, emb_9 t y ⟨128 * h.val + d.val, by omega⟩]
  refine (out_at m c Q K F hQ hK hF t h y d).trans ?_
  have hx : (⟨512 * (t.val / 8 % 4) + (128 * h.val + d.val), by omega⟩ : Fin 2048) = lane (hd t h) d :=
    Fin.ext (by show _ = 128 * (4 * (t.val / 8 % 4) + h.val) + d.val; simp only; omega)
  have hh : (⟨(lane (hd t h) d).val / 128, by omega⟩ : Fin 16) = hd t h :=
    Fin.ext (by show (128 * (hd t h).val + d.val) / 128 = (hd t h).val; omega)
  show _ = attention Q K F (argV m c) (bat t) (qi t y) ⟨512 * (t.val / 8 % 4) + (128 * h.val + d.val), _⟩
  rw [hx]
  unfold attention
  rw [hh]

/-- Point of the grid from its coordinates. -/
def pt (b g n : ℕ) (hb : b < 4) (hg : g < 4) (hn : n < 8) : Fin grid0.N := ⟨32 * b + 8 * g + n, by show _ < 128; omega⟩

theorem covered_9 (i : S4x4096x2048.Idx) : ∃ (t : Fin grid0.N) (y : S1x512x512.Idx), (win0_9.rect t).emb y = i := by
  obtain ⟨b, q, x, rfl⟩ : ∃ (b : Fin 4) (q : Fin 4096) (x : Fin 2048), i = ix3 b q x := ⟨i 0, i 1, i 2, eq_ix3 i⟩
  refine ⟨pt b.val (x.val / 512) (q.val / 512) (by omega) (by omega) (by omega), ix3 0 ⟨q.val % 512, by omega⟩ ⟨x.val % 512, by omega⟩, ?_⟩
  rw [emb_9]
  have ht : (pt b.val (x.val / 512) (q.val / 512) (by omega) (by omega) (by omega)).val = 32 * b.val + 8 * (x.val / 512) + q.val / 512 := rfl
  refine same3 (fun b q x => (ix3 b q x : S4x4096x2048.Idx)) ?_ ?_ ?_
  · simp only [ht]; omega
  · simp only [ht]; omega
  · simp only [ht]; omega

include hQ hK hF in
theorem flushed_at_9 (t : Fin grid0.N) (y : S1x512x512.Idx) :
    outBlk (iblk m c 0 t) (iblk m c 1 t) (iblk m c 2 t) (iblk m c 3 t) (iblk m c 4 t) ((grid0.coords t) 2).val y
      = attArr Q K F (argV m c) ((win0_9.rect t).emb y) := by
  obtain ⟨p, r, x, rfl⟩ : ∃ (p : Fin 1) (r : Fin 512) (x : Fin 512), y = ix3 p r x := ⟨y 0, y 1, y 2, eq_ix3 y⟩
  obtain rfl : p = 0 := Subsingleton.elim _ _
  have hx : x = ⟨128 * (⟨x.val / 128, by omega⟩ : Fin 4).val + (⟨x.val % 128, by omega⟩ : Fin 128).val, by simp only; omega⟩ :=
    Fin.ext (by simp only; omega)
  rw [hx]
  exact flushed_9 m c Q K F hQ hK hF t _ _ _

include hQ hK hF in
theorem array_9 : ((dats m 0 c).arrAt 9 cfg0.N : Vec Ideal S4x4096x2048 .bf16) = attArr Q K F (argV m c) := by
  refine (dats m 0 c).arrAt_eq_of_cover 9 (attArr Q K F (argV m c)) (fun t _ => funext fun y => ?_) (fun i => ?_)
  · show (dats m 0 c).after 9 t y = attArr Q K F (argV m c) ((win0_9.rect t).emb (y : S1x512x512.Idx))
    rw [after_9]
    exact flushed_at_9 m c Q K F hQ hK hF t y
  · obtain ⟨t, y, e⟩ := covered_9 i
    refine ⟨t, flush0_9 t, ?_⟩
    have h := ((cfg0.win 9).blk t).view.emb_mem_set y
    exact (show ((cfg0.win 9).blk t).view.emb y = i from e) ▸ h

theorem k0_pay301_apply (x : Vec Ideal S1x64x5632 .f32) (r : Fin 64) (d : Fin 5632) : k0_pay301 x (ix2 r d) = x (ix3 0 r d) := by
  pointwise [k0_pay301]

theorem flushed_at_10 (t : Fin grid0.N) (y : S64x5632.Idx) :
    k0_pay301 (iblk m c 5 t) y = layer (m ((c.tc : Thread nD τ).loc main_arg4) : Vec Ideal S2x2048x5632 .f32) 1 ((win0_10.rect t).emb y) := by
  obtain ⟨r, d, rfl⟩ : ∃ (r : Fin 64) (d : Fin 5632), y = ix2 r d := ⟨y 0, y 1, eq_ix2 y⟩
  rw [emb_10]
  refine (k0_pay301_apply _ _ _).trans ((at_5 m c t _ _).trans ?_)
  rw [V_main_arg4]
  rfl

theorem covered_10 (i : S2048x5632.Idx) : ∃ (t : Fin grid0.N) (y : S64x5632.Idx), t.val % 4 = 3 ∧ (win0_10.rect t).emb y = i := by
  obtain ⟨r, d, rfl⟩ : ∃ (r : Fin 2048) (d : Fin 5632), i = ix2 r d := ⟨i 0, i 1, eq_ix2 i⟩
  have ht : 4 * (r.val / 64) + 3 < grid0.N := by show _ < 128; omega
  refine ⟨⟨4 * (r.val / 64) + 3, ht⟩, ix2 ⟨r.val % 64, by omega⟩ d, by simp only; omega, ?_⟩
  rw [emb_10]
  refine congrArg (fun z => (ix2 z d : S2048x5632.Idx)) (Fin.ext ?_)
  simp only; omega

theorem array_10 : ((dats m 0 c).arrAt 10 cfg0.N : Vec Ideal S2048x5632 .bf16)
    = layer (m ((c.tc : Thread nD τ).loc main_arg4) : Vec Ideal S2x2048x5632 .f32) 1 := by
  refine (dats m 0 c).arrAt_eq_of_cover 10 (layer (m ((c.tc : Thread nD τ).loc main_arg4) : Vec Ideal S2x2048x5632 .f32) 1) (fun t _ => funext fun y => ?_) (fun i => ?_)
  · show (dats m 0 c).after 10 t y = layer (m ((c.tc : Thread nD τ).loc main_arg4) : Vec Ideal S2x2048x5632 .f32) 1 ((win0_10.rect t).emb (y : S64x5632.Idx))
    rw [after_10]
    exact flushed_at_10 m c t y
  · obtain ⟨t, y, h3, e⟩ := covered_10 i
    refine ⟨t, (flush0_10 t).mpr h3, ?_⟩
    have h := ((cfg0.win 10).blk t).view.emb_mem_set y
    exact (show ((cfg0.win 10).blk t).view.emb y = i from e) ▸ h

theorem k0_pay302_apply (x : Vec Ideal S1x64x5632 .f32) (r : Fin 64) (d : Fin 5632) : k0_pay302 x (ix2 r d) = x (ix3 0 r d) := by
  pointwise [k0_pay302]

theorem flushed_at_11 (t : Fin grid0.N) (y : S64x5632.Idx) :
    k0_pay302 (iblk m c 6 t) y = layer (m ((c.tc : Thread nD τ).loc main_arg5) : Vec Ideal S2x2048x5632 .f32) 1 ((win0_11.rect t).emb y) := by
  obtain ⟨r, d, rfl⟩ : ∃ (r : Fin 64) (d : Fin 5632), y = ix2 r d := ⟨y 0, y 1, eq_ix2 y⟩
  rw [emb_11]
  refine (k0_pay302_apply _ _ _).trans ((at_6 m c t _ _).trans ?_)
  rw [V_main_arg5]
  rfl

theorem covered_11 (i : S2048x5632.Idx) : ∃ (t : Fin grid0.N) (y : S64x5632.Idx), t.val % 4 = 3 ∧ (win0_11.rect t).emb y = i := by
  obtain ⟨r, d, rfl⟩ : ∃ (r : Fin 2048) (d : Fin 5632), i = ix2 r d := ⟨i 0, i 1, eq_ix2 i⟩
  have ht : 4 * (r.val / 64) + 3 < grid0.N := by show _ < 128; omega
  refine ⟨⟨4 * (r.val / 64) + 3, ht⟩, ix2 ⟨r.val % 64, by omega⟩ d, by simp only; omega, ?_⟩
  rw [emb_11]
  refine congrArg (fun z => (ix2 z d : S2048x5632.Idx)) (Fin.ext ?_)
  simp only; omega

theorem array_11 : ((dats m 0 c).arrAt 11 cfg0.N : Vec Ideal S2048x5632 .bf16)
    = layer (m ((c.tc : Thread nD τ).loc main_arg5) : Vec Ideal S2x2048x5632 .f32) 1 := by
  refine (dats m 0 c).arrAt_eq_of_cover 11 (layer (m ((c.tc : Thread nD τ).loc main_arg5) : Vec Ideal S2x2048x5632 .f32) 1) (fun t _ => funext fun y => ?_) (fun i => ?_)
  · show (dats m 0 c).after 11 t y = layer (m ((c.tc : Thread nD τ).loc main_arg5) : Vec Ideal S2x2048x5632 .f32) 1 ((win0_11.rect t).emb (y : S64x5632.Idx))
    rw [after_11]
    exact flushed_at_11 m c t y
  · obtain ⟨t, y, h3, e⟩ := covered_11 i
    refine ⟨t, (flush0_11 t).mpr h3, ?_⟩
    have h := ((cfg0.win 11).blk t).view.emb_mem_set y
    exact (show ((cfg0.win 11).blk t).view.emb y = i from e) ▸ h

theorem k0_pay303_apply (x : Vec Ideal S1x176x2048 .f32) (r : Fin 176) (d : Fin 2048) : k0_pay303 x (ix2 r d) = x (ix3 0 r d) := by
  pointwise [k0_pay303]

theorem flushed_at_12 (t : Fin grid0.N) (y : S176x2048.Idx) :
    k0_pay303 (iblk m c 7 t) y = layer (m ((c.tc : Thread nD τ).loc main_arg6) : Vec Ideal S2x5632x2048 .f32) 1 ((win0_12.rect t).emb y) := by
  obtain ⟨r, d, rfl⟩ : ∃ (r : Fin 176) (d : Fin 2048), y = ix2 r d := ⟨y 0, y 1, eq_ix2 y⟩
  rw [emb_12]
  refine (k0_pay303_apply _ _ _).trans ((at_7 m c t _ _).trans ?_)
  rw [V_main_arg6]
  rfl

theorem covered_12 (i : S5632x2048.Idx) : ∃ (t : Fin grid0.N) (y : S176x2048.Idx), t.val % 4 = 3 ∧ (win0_12.rect t).emb y = i := by
  obtain ⟨r, d, rfl⟩ : ∃ (r : Fin 5632) (d : Fin 2048), i = ix2 r d := ⟨i 0, i 1, eq_ix2 i⟩
  have ht : 4 * (r.val / 176) + 3 < grid0.N := by show _ < 128; omega
  refine ⟨⟨4 * (r.val / 176) + 3, ht⟩, ix2 ⟨r.val % 176, by omega⟩ d, by simp only; omega, ?_⟩
  rw [emb_12]
  refine congrArg (fun z => (ix2 z d : S5632x2048.Idx)) (Fin.ext ?_)
  simp only; omega

theorem array_12 : ((dats m 0 c).arrAt 12 cfg0.N : Vec Ideal S5632x2048 .bf16)
    = layer (m ((c.tc : Thread nD τ).loc main_arg6) : Vec Ideal S2x5632x2048 .f32) 1 := by
  refine (dats m 0 c).arrAt_eq_of_cover 12 (layer (m ((c.tc : Thread nD τ).loc main_arg6) : Vec Ideal S2x5632x2048 .f32) 1) (fun t _ => funext fun y => ?_) (fun i => ?_)
  · show (dats m 0 c).after 12 t y = layer (m ((c.tc : Thread nD τ).loc main_arg6) : Vec Ideal S2x5632x2048 .f32) 1 ((win0_12.rect t).emb (y : S176x2048.Idx))
    rw [after_12]
    exact flushed_at_12 m c t y
  · obtain ⟨t, y, h3, e⟩ := covered_12 i
    refine ⟨t, (flush0_12 t).mpr h3, ?_⟩
    have h := ((cfg0.win 12).blk t).view.emb_mem_set y
    exact (show ((cfg0.win 12).blk t).view.emb y = i from e) ▸ h

theorem k0_pay304_apply (x : Vec Ideal S1x64x2048 .f32) (r : Fin 64) (d : Fin 2048) : k0_pay304 x (ix2 r d) = x (ix3 0 r d) := by
  pointwise [k0_pay304]

theorem flushed_at_13 (t : Fin grid0.N) (y : S64x2048.Idx) :
    k0_pay304 (iblk m c 8 t) y = layer (m ((c.tc : Thread nD τ).loc main_arg7) : Vec Ideal S1x2048x2048 .f32) 0 ((win0_13.rect t).emb y) := by
  obtain ⟨r, d, rfl⟩ : ∃ (r : Fin 64) (d : Fin 2048), y = ix2 r d := ⟨y 0, y 1, eq_ix2 y⟩
  rw [emb_13]
  refine (k0_pay304_apply _ _ _).trans ((at_8 m c t _ _).trans ?_)
  rw [V_main_arg7]
  rfl

theorem covered_13 (i : S2048x2048.Idx) : ∃ (t : Fin grid0.N) (y : S64x2048.Idx), t.val % 4 = 3 ∧ (win0_13.rect t).emb y = i := by
  obtain ⟨r, d, rfl⟩ : ∃ (r : Fin 2048) (d : Fin 2048), i = ix2 r d := ⟨i 0, i 1, eq_ix2 i⟩
  have ht : 4 * (r.val / 64) + 3 < grid0.N := by show _ < 128; omega
  refine ⟨⟨4 * (r.val / 64) + 3, ht⟩, ix2 ⟨r.val % 64, by omega⟩ d, by simp only; omega, ?_⟩
  rw [emb_13]
  refine congrArg (fun z => (ix2 z d : S2048x2048.Idx)) (Fin.ext ?_)
  simp only; omega

theorem array_13 : ((dats m 0 c).arrAt 13 cfg0.N : Vec Ideal S2048x2048 .bf16)
    = layer (m ((c.tc : Thread nD τ).loc main_arg7) : Vec Ideal S1x2048x2048 .f32) 0 := by
  refine (dats m 0 c).arrAt_eq_of_cover 13 (layer (m ((c.tc : Thread nD τ).loc main_arg7) : Vec Ideal S1x2048x2048 .f32) 0) (fun t _ => funext fun y => ?_) (fun i => ?_)
  · show (dats m 0 c).after 13 t y = layer (m ((c.tc : Thread nD τ).loc main_arg7) : Vec Ideal S1x2048x2048 .f32) 0 ((win0_13.rect t).emb (y : S64x2048.Idx))
    rw [after_13]
    exact flushed_at_13 m c t y
  · obtain ⟨t, y, h3, e⟩ := covered_13 i
    refine ⟨t, (flush0_13 t).mpr h3, ?_⟩
    have h := ((cfg0.win 13).blk t).view.emb_mem_set y
    exact (show ((cfg0.win 13).blk t).view.emb y = i from e) ▸ h

end Cert.KernelIdeal.Att
-- ==== Proof.Ref.lean ====
/-
  The reference attention at an index: a query's mean of the values, weighted by the exponentials of its scores.
-/
module

public import proofs.«01_k».proof.Proof.Array
public import proofs.«01_k».proof.Proof.Gen.ReferenceIdeal.Read

@[expose] public section

set_option maxRecDepth 16384

noncomputable section

namespace Cert.ReferenceIdeal.Att

open Cert.ReferenceIdeal Cert.ReferenceIdeal.Read Cert.Softmax
open Cert.KernelIdeal.Att (score lane sum_coe scale scale_bits attention layer)
open Idealize.ShloMosaic Idealize.ShloMosaic.TcCoe

variable (x0 x1 x2 : Vec Ideal S4x4096x2048 .f32) (x3 : Vec Ideal S4x4096x16 .f32)

/-- A host maximum over the last axis, at an index. -/
theorem max_last {n0 n1 n2 n3 : ℕ} {u : Shape} (h : (⟨4, ![n0, n1, n2, n3]⟩ : Shape).ReducesTo [3] ⟨3, ![n0, n1, n2]⟩) (hu : 0 < u.numel)
    (y : FVec Ideal ⟨4, ![n0, n1, n2, n3]⟩ .f32) (w : BitVec 32) (a : Fin n0) (b : Fin n1) (c : Fin n2) :
    Host.reduce FloatOps.maximumf y (constant u .f32 w) h hu (ix3 a b c)
      = Finset.univ.fold max (Ideal.ofBits .f32 w) (fun k : Fin n3 => y (ix4 a b c k)) := by
  pointwise

/-- The causal mask: the key's place at most the query's. -/
theorem causal (j i : Fin 4096) (a b : EReal) :
    Scalar.select (IntOp.cmpi .sle (BitVec.ofNat 32 j.val) (BitVec.ofNat 32 i.val)) a b = if j.val ≤ i.val then a else b := by
  have t : ∀ n : Fin 4096, (BitVec.ofNat 32 n.val).toInt = n.val := fun n => by
    have := n.isLt
    rw [BitVec.toInt_ofNat']
    simp [Int.bmod]; omega
  refine if_congr (IntOp.cmpi_sle.trans ?_) rfl rfl
  rw [t, t]
  exact Int.ofNat_le

theorem v16_at (b : Fin 4) (H : Fin 16) (i j : Fin 4096) :
    val_main_v16 (F := Ideal) x0 x1 x3 (ix4 b H i j)
      = (∑ x : Fin 128, x0 (ix3 b i ⟨H.val * 128 + x.val, by omega⟩) * x1 (ix3 b j ⟨H.val * 128 + x.val, by omega⟩)) * Ideal.ofBits .f32 0x3DB504F3#32
        + x3 (ix3 b i H) - x3 (ix3 b j H) := by
  pointwise [val_main_v16, val_main_v15, val_main_v14, val_main_v13, val_main_v12, val_main_v11, val_main_v10, val_main_v9, val_main_v8, val_main_v6, val_main_v3, val_main_v2, val_main_v1, val_main_v0, val_main_cst]

theorem v22_at (b : Fin 4) (H : Fin 16) (i j : Fin 4096) :
    val_main_v22 (F := Ideal) x0 x1 x3 (ix4 b H i j) = if j.val ≤ i.val then val_main_v16 (F := Ideal) x0 x1 x3 (ix4 b H i j) else ⊥ := by
  pointwise [val_main_v22, val_main_call0_v1, val_main_call0_v2, val_main_call0_v0, val_main_v21, val_main_v20, val_main_v19, val_main_v18, val_main_v17, val_main_v7, val_main_cst_0]
  refine (causal j i _ _).trans ?_
  rw [← Cert.KernelIdeal.Att.neg_inf]
  rfl

theorem v25_at (b : Fin 4) (H : Fin 16) (i : Fin 4096) :
    val_main_v25 (F := Ideal) x0 x1 x3 (ix3 b H i)
      = max ⊥ (Finset.univ.fold max ⊥ (fun j : Fin 4096 => val_main_v22 (F := Ideal) x0 x1 x3 (ix4 b H i j))) := by
  rw [val_main_v25_apply, val_main_v24_apply]
  unfold val_main_v23
  generalize val_main_v22 (F := Ideal) x0 x1 x3 = y
  refine congrArg₂ max Cert.KernelIdeal.Att.neg_inf ((max_last _ _ y _ b H i).trans ?_)
  rw [Cert.KernelIdeal.Att.neg_inf]

theorem v29_at (b : Fin 4) (H : Fin 16) (i j : Fin 4096) :
    val_main_v29 (F := Ideal) x0 x1 x3 (ix4 b H i j)
      = Ideal.exp (val_main_v22 (F := Ideal) x0 x1 x3 (ix4 b H i j) - val_main_v25 (F := Ideal) x0 x1 x3 (ix3 b H i)) := by
  pointwise [val_main_v29, val_main_v28, val_main_v27, val_main_v26]

theorem v37_at (b : Fin 4) (i : Fin 4096) (x : Fin 2048) :
    val_main_v37 (F := Ideal) x0 x1 x2 x3 (ix3 b i x)
      = ∑ j : Fin 4096, Ideal.div (val_main_v29 (F := Ideal) x0 x1 x3 (ix4 b ⟨x.val / 128, by omega⟩ i j))
          (∑ k : Fin 4096, val_main_v29 (F := Ideal) x0 x1 x3 (ix4 b ⟨x.val / 128, by omega⟩ i k)) * x2 (ix3 b j x) := by
  pointwise [val_main_v37, val_main_v36, val_main_v35, val_main_v34, val_main_v33, val_main_v32, val_main_v31, val_main_v30, val_main_cst_3, val_main_v5, val_main_v4]

/-! ## The attention of finite queries, keys and forget sums -/

variable (Q K : Fin 4 → Fin 4096 → Fin 2048 → ℝ) (F : Fin 4 → Fin 4096 → Fin 16 → ℝ)
  (hQ : ∀ b i d, x0 (ix3 b i d) = (Q b i d : EReal)) (hK : ∀ b i d, x1 (ix3 b i d) = (K b i d : EReal))
  (hF : ∀ b i h, x3 (ix3 b i h) = (F b i h : EReal))

include hQ hK hF

theorem masked_at (b : Fin 4) (H : Fin 16) (i j : Fin 4096) :
    val_main_v22 (F := Ideal) x0 x1 x3 (ix4 b H i j) = row (score Q K F b H i) i.val j.val := by
  have ej : Fin.ofNat 4096 j.val = j := Fin.ext (Nat.mod_eq_of_lt j.isLt)
  have el : ∀ x : Fin 128, (⟨H.val * 128 + x.val, by omega⟩ : Fin 2048) = lane H x := fun x =>
    Fin.ext (congrArg (· + x.val) (Nat.mul_comm _ _))
  rw [v22_at, v16_at]
  simp only [hQ, hK, hF, el, scale_bits, ← EReal.coe_mul, sum_coe, ← EReal.coe_add, ← EReal.coe_sub]
  unfold row score
  rw [ej]

theorem max_at (b : Fin 4) (H : Fin 16) (i : Fin 4096) : ∃ r : ℝ, val_main_v25 (F := Ideal) x0 x1 x3 (ix3 b H i) = r := by
  rw [v25_at]
  refine max_real (score Q K F b H i) i.val (N := 0) (Or.inl ⟨rfl, rfl⟩) (B := 4096) (by norm_num) (Nat.zero_le _) _ ?_
  refine congrArg (fun f => Finset.univ.fold max ⊥ f) (funext fun k => ?_)
  rw [Nat.zero_add]
  exact masked_at x0 x1 x3 Q K F hQ hK hF b H i k

theorem attention_at (b : Fin 4) (i : Fin 4096) (x : Fin 2048) :
    val_main_v37 (F := Ideal) x0 x1 x2 x3 (ix3 b i x) = attention Q K F x2 b i x := by
  obtain ⟨r, hr⟩ := max_at x0 x1 x3 Q K F hQ hK hF b ⟨x.val / 128, by omega⟩ i
  have ej : ∀ j : Fin 4096, x2 (ix3 b j x) = (fun n : ℕ => x2 (ix3 b (Fin.ofNat 4096 n) x)) j.val := fun j =>
    congrArg (fun j' => x2 (ix3 b j' x)) (Fin.ext (Nat.mod_eq_of_lt j.isLt).symm)
  rw [v37_at]
  simp only [v29_at, hr, masked_at x0 x1 x3 Q K F hQ hK hF]
  refine (Finset.sum_congr rfl fun j _ => congrArg (_ * ·) (ej j)).trans (Eq.trans ?_ <| plain_mean i.val (fun n : ℕ => x2 (ix3 b (Fin.ofNat 4096 n) x)) _ (N := 4096) (by norm_num) r)
  rw [← Fin.sum_univ_eq_sum_range, ← Fin.sum_univ_eq_sum_range]

omit hQ hK hF in
theorem weight_40 (x4 : Vec Ideal S2x2048x5632 .f32) : val_main_v40 (F := Ideal) x4 = layer x4 1 := by
  funext y
  obtain ⟨p, q, rfl⟩ : ∃ p q, y = ix2 p q := ⟨y 0, y 1, eq_ix2 y⟩
  pointwise [val_main_v40, val_main_v39, val_main_v38]
  rfl

omit hQ hK hF in
theorem weight_43 (x5 : Vec Ideal S2x2048x5632 .f32) : val_main_v43 (F := Ideal) x5 = layer x5 1 := by
  funext y
  obtain ⟨p, q, rfl⟩ : ∃ p q, y = ix2 p q := ⟨y 0, y 1, eq_ix2 y⟩
  pointwise [val_main_v43, val_main_v42, val_main_v41]
  rfl

omit hQ hK hF in
theorem weight_46 (x6 : Vec Ideal S2x5632x2048 .f32) : val_main_v46 (F := Ideal) x6 = layer x6 1 := by
  funext y
  obtain ⟨p, q, rfl⟩ : ∃ p q, y = ix2 p q := ⟨y 0, y 1, eq_ix2 y⟩
  pointwise [val_main_v46, val_main_v45, val_main_v44]
  rfl

omit hQ hK hF in
theorem weight_48 (x7 : Vec Ideal S1x2048x2048 .f32) : val_main_v48 (F := Ideal) x7 = layer x7 0 := by
  funext y
  obtain ⟨p, q, rfl⟩ : ∃ p q, y = ix2 p q := ⟨y 0, y 1, eq_ix2 y⟩
  pointwise [val_main_v48, val_main_v47]
  rfl

end Cert.ReferenceIdeal.Att
-- ==== Proof.Finite.lean ====
/-
  The precondition: every query, key and forget sum is a real number.
-/
module

public import proofs.«01_k».proof.Pre_finite
public import Idealize.ShloMosaic.Lib.ReduceAll
public import Idealize.ShloMosaic.Lib.Affine
public import Idealize.ShloMosaic.Lib.Pointwise

@[expose] public section

noncomputable section

namespace Cert.Pre_finite

open Idealize.ShloMosaic

/-- The side conditions of the function's operations. -/
theorem shapes : Facts where
  bcast_S_S4x4096x2048 := by decide
  reducesTo_S4x4096x2048_S_d0_1_2 := by decide
  h_S_ := by decide
  bcast_S_S4x4096x16 := by decide
  reducesTo_S4x4096x16_S_d0_1_2 := by decide

theorem pos_inf : Ideal.ofBits .f32 0x7F800000#32 = ⊤ := by simp [Ideal.ofBits, Ideal.ieee]

/-- A number whose absolute value is below infinity is real. -/
theorem real_of_lt (x : EReal) (h : FloatOps.cmpf (F := Ideal) (φ := .f32) .olt (FloatOps.hostAbsf (F := Ideal) (φ := .f32) x) (Ideal.ofBits .f32 0x7F800000#32) = 1#1) :
    x = (x.toReal : EReal) := by
  rw [pos_inf] at h
  have h' : max x (-x) < ⊤ := by
    by_contra n
    have e : FloatOps.cmpf (F := Ideal) (φ := .f32) .olt (FloatOps.hostAbsf (F := Ideal) (φ := .f32) x) (⊤ : EReal) = 0#1 := by
      show BitVec.ofBool (decide (max x (-x) < (⊤ : EReal))) = 0#1
      rw [decide_eq_false n]; rfl
    rw [e] at h
    exact absurd h (by decide)
  refine (EReal.coe_toReal ?_ ?_).symm
  · rintro rfl; exact absurd h' (by simp)
  · rintro rfl; exact absurd h' (by simp)

attribute [local instance] shapes

/-- An array all of whose entries pass the test. -/
theorem all_real {s : Shape} {axes : List (Fin s.rank)} (a : FVec Ideal s .f32) (hb : S_.BroadcastsInDim s (![] : Fin 0 → Fin s.rank))
    (hr : s.ReducesTo axes S_) (v : IVec S_ 1) (hu : 0 < S_.numel) (j : S_.Idx)
    (h : Host.reduce IntOp.andi (cmpf .olt (Host.absf a) (broadcastInDim s ![] hb (constant S_ .f32 0x7F800000#32))) v hr hu j = 1#1) (i : s.Idx) :
    a i = ((a i).toReal : EReal) :=
  haveI : Subsingleton S_.Idx := ⟨fun p q => funext fun n => n.elim0⟩
  real_of_lt (a i) (Host.reduce_andi_all _ v hr hu j h i)

theorem reals (a0 a1 a2 : FVec Ideal S4x4096x2048 .f32) (a3 : FVec Ideal S4x4096x16 .f32) (a4 a5 : FVec Ideal S2x2048x5632 .f32)
    (a6 : FVec Ideal S2x5632x2048 .f32) (a7 : FVec Ideal S1x2048x2048 .f32) (h : fn (F := Ideal) a0 a1 a2 a3 a4 a5 a6 a7 = fun _ => 1#1) :
    (∀ i, a0 i = ((a0 i).toReal : EReal)) ∧ (∀ i, a1 i = ((a1 i).toReal : EReal)) ∧ (∀ i, a3 i = ((a3 i).toReal : EReal)) := by
  have j : S_.Idx := fun n => n.elim0
  have h' := congrFun h j
  obtain ⟨h01, h3⟩ := IntOp.andi_eq_one.1 h'
  obtain ⟨h0, h1⟩ := IntOp.andi_eq_one.1 h01
  exact ⟨all_real a0 _ _ _ _ j h0, all_real a1 _ _ _ _ j h1, all_real a3 _ _ _ _ j h3⟩

end Cert.Pre_finite
-- ==== Proof.Equal.lean ====
/-
  The call and the reference end with the same five arrays.
-/
module

public import proofs.«01_k».proof.Defs
public import proofs.«01_k».proof.Proof.Run
public import proofs.«01_k».proof.Proof.Ref
public import proofs.«01_k».proof.Proof.Finite
public import proofs.«01_k».proof.Proof.Gen.ReferenceIdeal.Run

@[expose] public section

set_option maxRecDepth 16384

noncomputable section

namespace Cert.Equal

open Cert.KernelIdeal.Att Cert.ReferenceIdeal.Read
open Idealize.ShloMosaic Idealize.SL.Sem Idealize.ShloMosaic.TcCoe

attribute [local instance] Cert.KernelIdeal.Gen.facts Cert.ReferenceIdeal.Gen.facts Cert.Pre_finite.shapes

variable (m : (ℓ : Loc Cert.KernelIdeal.nD Cert.KernelIdeal.τ Cert.KernelIdeal.sig) → Buf (Elt Ideal) ℓ) (c : Dev Cert.KernelIdeal.nD)

/-- The real queries, keys and forget sums of a memory. -/
def realQ (b : Fin 4) (i : Fin 4096) (d : Fin 2048) : ℝ := EReal.toReal (argQ m c (ix3 b i d))
def realK (b : Fin 4) (i : Fin 4096) (d : Fin 2048) : ℝ := EReal.toReal (argK m c (ix3 b i d))
def realF (b : Fin 4) (i : Fin 4096) (h : Fin 16) : ℝ := EReal.toReal (argF m c (ix3 b i h))

/-- The attention of a memory. -/
def attOf : Vec Ideal Cert.KernelIdeal.S4x4096x2048 .bf16 := attArr (realQ m c) (realK m c) (realF m c) (argV m c)

/-- The four weights of a memory, read without their leading axes. -/
def gateOf : Vec Ideal Cert.KernelIdeal.S2048x5632 .bf16 :=
  layer (m ((c.tc : Thread _ _).loc Cert.KernelIdeal.main_arg4) : Vec Ideal Cert.KernelIdeal.S2x2048x5632 .f32) 1
def upOf : Vec Ideal Cert.KernelIdeal.S2048x5632 .bf16 :=
  layer (m ((c.tc : Thread _ _).loc Cert.KernelIdeal.main_arg5) : Vec Ideal Cert.KernelIdeal.S2x2048x5632 .f32) 1
def downOf : Vec Ideal Cert.KernelIdeal.S5632x2048 .bf16 :=
  layer (m ((c.tc : Thread _ _).loc Cert.KernelIdeal.main_arg6) : Vec Ideal Cert.KernelIdeal.S2x5632x2048 .f32) 1
def outOf : Vec Ideal Cert.KernelIdeal.S2048x2048 .bf16 :=
  layer (m ((c.tc : Thread _ _).loc Cert.KernelIdeal.main_arg7) : Vec Ideal Cert.KernelIdeal.S1x2048x2048 .f32) 0

variable (hp : Cert.Pre_KernelIdeal_finite m)

include hp

theorem realQ_eq (b : Fin 4) (i : Fin 4096) (d : Fin 2048) : argQ m c (ix3 b i d) = (realQ m c b i d : EReal) :=
  (Cert.Pre_finite.reals _ _ _ _ _ _ _ _ (hp c)).1 _

theorem realK_eq (b : Fin 4) (i : Fin 4096) (d : Fin 2048) : argK m c (ix3 b i d) = (realK m c b i d : EReal) :=
  (Cert.Pre_finite.reals _ _ _ _ _ _ _ _ (hp c)).2.1 _

theorem realF_eq (b : Fin 4) (i : Fin 4096) (h : Fin 16) : argF m c (ix3 b i h) = (realF m c b i h : EReal) :=
  (Cert.Pre_finite.reals _ _ _ _ _ _ _ _ (hp c)).2.2 _

/-- The reference's attention of equal arguments. -/
theorem reference_attention : val_main_v37 (F := Ideal) (argQ m c) (argK m c) (argV m c) (argF m c) = attOf m c := by
  funext y
  obtain ⟨b, i, x, rfl⟩ : ∃ (b : Fin 4) (i : Fin 4096) (x : Fin 2048), y = ix3 b i x := ⟨y 0, y 1, y 2, eq_ix3 y⟩
  exact Cert.ReferenceIdeal.Att.attention_at _ _ _ _ _ _ _ (realQ_eq m c hp) (realK_eq m c hp) (realF_eq m c hp) b i x

omit hp in
theorem ends_10 {r : PUnit × MemSt Cert.KernelIdeal.nD Cert.KernelIdeal.τ Cert.KernelIdeal.sig (Elt Ideal)}
    (h : Pipeline.FramePost Cert.KernelIdeal.cfgs (dats m) 0 (Cert.KernelIdeal.Gen.V m) r) :
    (r.2.mem ((c.tc : Thread Cert.KernelIdeal.nD Cert.KernelIdeal.τ).loc Cert.KernelIdeal.main_v61_1) : Vec Ideal _ .bf16) = gateOf m c := by
  have e := (h c).1 10
  refine Eq.trans e ?_
  exact array_10 m c

omit hp in
theorem ends_11 {r : PUnit × MemSt Cert.KernelIdeal.nD Cert.KernelIdeal.τ Cert.KernelIdeal.sig (Elt Ideal)}
    (h : Pipeline.FramePost Cert.KernelIdeal.cfgs (dats m) 0 (Cert.KernelIdeal.Gen.V m) r) :
    (r.2.mem ((c.tc : Thread Cert.KernelIdeal.nD Cert.KernelIdeal.τ).loc Cert.KernelIdeal.main_v61_2) : Vec Ideal _ .bf16) = upOf m c := by
  have e := (h c).1 11
  refine Eq.trans e ?_
  exact array_11 m c

omit hp in
theorem ends_12 {r : PUnit × MemSt Cert.KernelIdeal.nD Cert.KernelIdeal.τ Cert.KernelIdeal.sig (Elt Ideal)}
    (h : Pipeline.FramePost Cert.KernelIdeal.cfgs (dats m) 0 (Cert.KernelIdeal.Gen.V m) r) :
    (r.2.mem ((c.tc : Thread Cert.KernelIdeal.nD Cert.KernelIdeal.τ).loc Cert.KernelIdeal.main_v61_3) : Vec Ideal _ .bf16) = downOf m c := by
  have e := (h c).1 12
  refine Eq.trans e ?_
  exact array_12 m c

omit hp in
theorem ends_13 {r : PUnit × MemSt Cert.KernelIdeal.nD Cert.KernelIdeal.τ Cert.KernelIdeal.sig (Elt Ideal)}
    (h : Pipeline.FramePost Cert.KernelIdeal.cfgs (dats m) 0 (Cert.KernelIdeal.Gen.V m) r) :
    (r.2.mem ((c.tc : Thread Cert.KernelIdeal.nD Cert.KernelIdeal.τ).loc Cert.KernelIdeal.main_v61_4) : Vec Ideal _ .bf16) = outOf m c := by
  have e := (h c).1 13
  refine Eq.trans e ?_
  exact array_13 m c

omit hp in
theorem equal : Cert.algebraic_KernelIdeal_ReferenceIdeal_pre_finite := by
  intro m g m' g' hp hm
  refine ⟨attOf m, gateOf m, upOf m, downOf m, outOf m, ?_, ?_⟩
  · refine (θ_run Cert.KernelIdeal.defs _ _).mono (fun r h c => ?_) (run_main m g)
    exact ⟨((h.1 c).1 9).trans (array_9 m c _ _ _ (realQ_eq m c hp) (realK_eq m c hp) (realF_eq m c hp)),
      ends_10 m c h.1, ends_11 m c h.1, ends_12 m c h.1, ends_13 m c h.1, args_kept m h.1 c⟩
  · refine (θ_run Cert.ReferenceIdeal.defs _ _).mono (fun r h c => ?_) (Cert.ReferenceIdeal.Value.run m' g')
    obtain ⟨e0, e1, e2, e3, e4, e5, e6, e7⟩ := hm c
    refine ⟨(h c).1.trans ?_, (h c).2.1.trans ?_, (h c).2.2.1.trans ?_, (h c).2.2.2.1.trans ?_, (h c).2.2.2.2.1.trans ?_, (h c).2.2.2.2.2⟩
    · rw [val_main_v37_eq, e0, e1, e2, e3]
      exact reference_attention m c hp
    · exact (val_main_v40_eq _).trans ((Cert.ReferenceIdeal.Att.weight_40 _).trans (congrArg (fun w => layer w 1) e4))
    · exact (val_main_v43_eq _).trans ((Cert.ReferenceIdeal.Att.weight_43 _).trans (congrArg (fun w => layer w 1) e5))
    · exact (val_main_v46_eq _).trans ((Cert.ReferenceIdeal.Att.weight_46 _).trans (congrArg (fun w => layer w 1) e6))
    · exact (val_main_v48_eq _).trans ((Cert.ReferenceIdeal.Att.weight_48 _).trans (congrArg (fun w => layer w 0) e7))

end Cert.Equal
-- ==== Proof.FfnMath.lean ====
/-
The feed forward block's arithmetic, for one row.

A row is normed by its root mean square, scaled and shifted; each hidden unit takes two sums over the row and passes
the first through its own logistic; the result is a sum over the hidden units.  The sum over the hidden units may be
taken block by block.
-/
module

public import Idealize.ShloMosaic.Lib.Pointwise

@[expose] public section

noncomputable section

namespace Cert.FeedForward

open Idealize.ShloMosaic

/-- The mean of a row's squares, plus the small constant. -/
def meanSquare (v : Fin 2048 → EReal) : EReal :=
  Ideal.div (∑ k, v k * v k) (Ideal.ofBits .f32 0x45000000#32) + Ideal.ofBits .f32 0x358637BD#32

/-- A row normed, scaled by `g` and by `1 + a`, and shifted by `b`. -/
def modulated (v g a b : Fin 2048 → EReal) (k : Fin 2048) : EReal :=
  v k * Ideal.rsqrt (meanSquare v) * (g k * (Ideal.ofBits .f32 0x3F800000#32 + a k)) + b k

/-- A hidden unit of the row `h`, with weights `p` for the gate and `q` for what it gates. -/
def unitOf (h p q : Fin 2048 → EReal) : EReal :=
  (∑ k, h k * p k) * Ideal.logistic (∑ k, h k * p k) * ∑ k, h k * q k

/-- A row normed and scaled by `g`. -/
def normed (v g : Fin 2048 → EReal) (k : Fin 2048) : EReal :=
  v k * Ideal.rsqrt (meanSquare v) * g k

/-- A family over the hidden units, zero past the last one. -/
def past (f : Fin 5632 → EReal) (n : ℕ) : EReal := if h : n < 5632 then f ⟨n, h⟩ else 0

/-- The sum of the first `j` blocks of 512. -/
def blocks (f : Fin 5632 → EReal) (j : ℕ) : EReal := ∑ n ∈ Finset.range (512 * j), past f n

theorem blocks_zero (f : Fin 5632 → EReal) : blocks f 0 = 0 := by simp [blocks]

theorem blocks_succ (f : Fin 5632 → EReal) (j : ℕ) (hj : j < 11) :
    blocks f (j + 1) = blocks f j + ∑ n : Fin 512, f ⟨512 * j + n.val, by omega⟩ := by
  unfold blocks
  rw [show 512 * (j + 1) = 512 * j + 512 by ring, Finset.sum_range_add, Finset.sum_range (n := 512)]
  refine congrArg (_ + ·) (Finset.sum_congr rfl fun n _ => ?_)
  have h : 512 * j + n.val < 5632 := by omega
  unfold past
  rw [dif_pos h]

/-- The eleven blocks together are the whole sum. -/
theorem blocks_all (f : Fin 5632 → EReal) : blocks f 11 = ∑ n, f n := by
  unfold blocks
  rw [show 512 * 11 = 5632 from rfl, Finset.sum_range]
  refine Finset.sum_congr rfl fun n _ => ?_
  unfold past
  rw [dif_pos n.isLt]

end Cert.FeedForward

end

end
-- ==== Proof.FfnPieces.lean ====
/-
What one step of the feed forward block leaves behind.

The block runs over eleven steps for each block of rows, one for each block of the hidden units.  The first step
leaves the modulated rows in the scratch buffer and the first product in the result's buffer; each later step adds
its product; the last one also adds the residual and takes the last norm.  Here each step's leavings are written as
the printed terms of what the step read.
-/
module

public import proofs.«01_k».proof.Proof.Gen.Kernel2Ideal.Frame
public import Idealize.ShloMosaic.Lib.Pipeline.Value

@[expose] public section

open Idealize.ShloMosaic

namespace Cert.Kernel2Ideal.Ffn

open Cert.Kernel2Ideal Cert.Kernel2Ideal.Gen

variable {F : FTy → Type} [FloatOps F]

theorem hz2 : (![0, 0] : Fin 2 → Nat) = fun _ => 0 := funext fun a => by fin_cases a <;> rfl

theorem hz3 : (![0, 0, 0] : Fin 3 → Nat) = fun _ => 0 := funext fun a => by fin_cases a <;> rfl

/-- The first step leaves the modulated rows in the scratch buffer. -/
theorem scratch_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S512x2048 .bf16) (harg9 : arg9.IsWhole) (arg10 : Memref sig .tc .vmem S1x2048 .f32) (harg10 : arg10.IsWhole) (arg11 : Memref sig .tc .vmem S1024x2048 .f32) (harg11 : arg11.IsWhole) (arg12 : Memref sig .tc .vmem S1024x2048 .bf16) (harg12 : arg12.IsWhole) (hc0 : cond0_0 i) (hc1 : ¬cond0_1 i) (hc2 : ¬cond0_2 i) (x0 : Vec F S1024x2048 .f32) (x1 : Vec F S1x2048 .f32) (x2 : Vec F S1x1x2048 .f32) (x3 : Vec F S1x1x2048 .f32) (x4 : Vec F S1x1x2048 .f32) (x5 : Vec F S2048x512 .bf16) (x6 : Vec F S2048x512 .bf16) (x7 : Vec F S512x2048 .bf16) (x8 : Vec F S1x2048 .f32) :
    sout0_A_0 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 =
      k0_pay4 x0 x1 x2 x3 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1024x2048) hz2, View.ld_unit_zero (S := S1x2048) hz2, View.ld_unit_zero (S := S1x1x2048) hz3, View.ld_unit_zero (S := S2048x512) hz2, View.ld_unit_zero (S := S512x2048) hz2]

/-- The first step leaves the first product in the result's buffer. -/
theorem out_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S512x2048 .bf16) (harg9 : arg9.IsWhole) (arg10 : Memref sig .tc .vmem S1x2048 .f32) (harg10 : arg10.IsWhole) (arg11 : Memref sig .tc .vmem S1024x2048 .f32) (harg11 : arg11.IsWhole) (arg12 : Memref sig .tc .vmem S1024x2048 .bf16) (harg12 : arg12.IsWhole) (hc0 : cond0_0 i) (hc1 : ¬cond0_1 i) (hc2 : ¬cond0_2 i) (x0 : Vec F S1024x2048 .f32) (x1 : Vec F S1x2048 .f32) (x2 : Vec F S1x1x2048 .f32) (x3 : Vec F S1x1x2048 .f32) (x4 : Vec F S1x1x2048 .f32) (x5 : Vec F S2048x512 .bf16) (x6 : Vec F S2048x512 .bf16) (x7 : Vec F S512x2048 .bf16) (x8 : Vec F S1x2048 .f32) :
    out0_A_9 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 =
      k0_pay1 (k0_pay4 x0 x1 x2 x3) (k0_pay5 (k0_pay4 x0 x1 x2 x3) x5) (k0_pay6 x6) (constant S1024x512 .f32 0x00000000#32) x7 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8)]
  unfold kernelRun0_A
  dsimp only
  sl_unfold_words
  rw [View.canon_unit_zero hz2]
  simp only [View.readCov_unit_zero (S := S1024x2048) _ hz2]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1024x2048) hz2, View.ld_unit_zero (S := S1x2048) hz2, View.ld_unit_zero (S := S1x1x2048) hz3, View.ld_unit_zero (S := S2048x512) hz2, View.ld_unit_zero (S := S512x2048) hz2]

/-- A step in the middle adds its product to what the result's buffer held. -/
theorem out_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S512x2048 .bf16) (harg9 : arg9.IsWhole) (arg10 : Memref sig .tc .vmem S1x2048 .f32) (harg10 : arg10.IsWhole) (arg11 : Memref sig .tc .vmem S1024x2048 .f32) (harg11 : arg11.IsWhole) (arg12 : Memref sig .tc .vmem S1024x2048 .bf16) (harg12 : arg12.IsWhole) (hc0 : ¬cond0_0 i) (hc1 : cond0_1 i) (hc2 : ¬cond0_2 i) (x0 : Vec F S1024x2048 .f32) (x1 : Vec F S1x2048 .f32) (x2 : Vec F S1x1x2048 .f32) (x3 : Vec F S1x1x2048 .f32) (x4 : Vec F S1x1x2048 .f32) (x5 : Vec F S2048x512 .bf16) (x6 : Vec F S2048x512 .bf16) (x7 : Vec F S512x2048 .bf16) (x8 : Vec F S1x2048 .f32) (xo : Vec F S1024x2048 .f32) (xs : Vec F S1024x2048 .bf16) :
    out0_B_9 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xo xs =
      k0_pay2 xo xs x5 x6 x7 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xo xs)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1024x2048) hz2, View.ld_unit_zero (S := S1x2048) hz2, View.ld_unit_zero (S := S1x1x2048) hz3, View.ld_unit_zero (S := S2048x512) hz2, View.ld_unit_zero (S := S512x2048) hz2]

/-- A step in the middle leaves the scratch buffer as it was. -/
theorem scratch_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S512x2048 .bf16) (harg9 : arg9.IsWhole) (arg10 : Memref sig .tc .vmem S1x2048 .f32) (harg10 : arg10.IsWhole) (arg11 : Memref sig .tc .vmem S1024x2048 .f32) (harg11 : arg11.IsWhole) (arg12 : Memref sig .tc .vmem S1024x2048 .bf16) (harg12 : arg12.IsWhole) (hc0 : ¬cond0_0 i) (hc1 : cond0_1 i) (hc2 : ¬cond0_2 i) (x0 : Vec F S1024x2048 .f32) (x1 : Vec F S1x2048 .f32) (x2 : Vec F S1x1x2048 .f32) (x3 : Vec F S1x1x2048 .f32) (x4 : Vec F S1x1x2048 .f32) (x5 : Vec F S2048x512 .bf16) (x6 : Vec F S2048x512 .bf16) (x7 : Vec F S512x2048 .bf16) (x8 : Vec F S1x2048 .f32) (xo : Vec F S1024x2048 .f32) (xs : Vec F S1024x2048 .bf16) :
    sout0_B_0 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xo xs =
      xs := by
  rfl

/-- The last step adds its product, then the residual, and takes the last norm. -/
theorem out_C (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S512x2048 .bf16) (harg9 : arg9.IsWhole) (arg10 : Memref sig .tc .vmem S1x2048 .f32) (harg10 : arg10.IsWhole) (arg11 : Memref sig .tc .vmem S1024x2048 .f32) (harg11 : arg11.IsWhole) (arg12 : Memref sig .tc .vmem S1024x2048 .bf16) (harg12 : arg12.IsWhole) (hc0 : ¬cond0_0 i) (hc1 : ¬cond0_1 i) (hc2 : cond0_2 i) (x0 : Vec F S1024x2048 .f32) (x1 : Vec F S1x2048 .f32) (x2 : Vec F S1x1x2048 .f32) (x3 : Vec F S1x1x2048 .f32) (x4 : Vec F S1x1x2048 .f32) (x5 : Vec F S2048x512 .bf16) (x6 : Vec F S2048x512 .bf16) (x7 : Vec F S512x2048 .bf16) (x8 : Vec F S1x2048 .f32) (xo : Vec F S1024x2048 .f32) (xs : Vec F S1024x2048 .bf16) :
    out0_C_9 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xo xs =
      k0_pay3 (k0_pay8 x0 x4 (k0_pay7 xo xs x5 x6 x7)) (k0_pay9 x0 x4 (k0_pay7 xo xs x5 x6 x7)) x8 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xo xs)]
  unfold kernelRun0_C
  dsimp only
  sl_unfold_words
  rw [View.canon_cons_unit_zero (S := S1024x2048) hz2]
  simp only [View.readCov_unit_zero (S := S1024x2048) _ hz2]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1024x2048) hz2, View.ld_unit_zero (S := S1x2048) hz2, View.ld_unit_zero (S := S1x1x2048) hz3, View.ld_unit_zero (S := S2048x512) hz2, View.ld_unit_zero (S := S512x2048) hz2]

/-- The last step leaves the scratch buffer as it was. -/
theorem scratch_C (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S512x2048 .bf16) (harg9 : arg9.IsWhole) (arg10 : Memref sig .tc .vmem S1x2048 .f32) (harg10 : arg10.IsWhole) (arg11 : Memref sig .tc .vmem S1024x2048 .f32) (harg11 : arg11.IsWhole) (arg12 : Memref sig .tc .vmem S1024x2048 .bf16) (harg12 : arg12.IsWhole) (hc0 : ¬cond0_0 i) (hc1 : ¬cond0_1 i) (hc2 : cond0_2 i) (x0 : Vec F S1024x2048 .f32) (x1 : Vec F S1x2048 .f32) (x2 : Vec F S1x1x2048 .f32) (x3 : Vec F S1x1x2048 .f32) (x4 : Vec F S1x1x2048 .f32) (x5 : Vec F S2048x512 .bf16) (x6 : Vec F S2048x512 .bf16) (x7 : Vec F S512x2048 .bf16) (x8 : Vec F S1x2048 .f32) (xo : Vec F S1024x2048 .f32) (xs : Vec F S1024x2048 .bf16) :
    sout0_C_0 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xo xs =
      xs := by
  rfl

end Cert.Kernel2Ideal.Ffn

end
-- ==== Proof.FfnPoint.lean ====
/-
The printed terms of one step of the feed forward block, at an index.
-/
module

public import proofs.«01_k».proof.Proof.FfnMath
public import proofs.«01_k».proof.Proof.FfnPieces

@[expose] public section

noncomputable section

namespace Cert.Kernel2Ideal.Ffn

open Cert.Kernel2Ideal Cert.Kernel2Ideal.Gen Cert.FeedForward
open Idealize.ShloMosaic Idealize.ShloMosaic.TcCoe

/-- A sum along the last axis of a matrix, at an index. -/
theorem sum_last {n0 n1 : ℕ} (h : (⟨2, ![n0, n1]⟩ : Shape).Reduces [1] ⟨1, ![n0]⟩) (w : BitVec 32) (hw hz)
    (y : FVec Ideal ⟨2, ![n0, n1]⟩ .f32) (a : Fin n0) :
    multiReduction .add [1] ⟨1, ![n0]⟩ y w h hw hz (ix1 a) = ∑ k : Fin n1, y (ix2 a k) := by
  pointwise

/-- The modulated rows. -/
theorem rows_at (x : Vec Ideal S1024x2048 .f32) (g : Vec Ideal S1x2048 .f32) (b a : Vec Ideal S1x1x2048 .f32)
    (r : Fin 1024) (k : Fin 2048) :
    k0_pay4 (F := Ideal) x g b a (ix2 r k)
      = modulated (fun k => x (ix2 r k)) (fun k => g (ix2 0 k)) (fun k => a (ix3 0 0 k)) (fun k => b (ix3 0 0 k)) k := by
  unfold modulated meanSquare
  pointwise [k0_pay4]

/-- One hidden block's product. -/
theorem part_at (h : Vec Ideal S1024x2048 .bf16) (p q : Vec Ideal S2048x512 .bf16) (d : Vec Ideal S512x2048 .bf16)
    (r : Fin 1024) (x : Fin 2048) :
    k0_pay1 (F := Ideal) h (k0_pay5 h p) (k0_pay6 q) (constant S1024x512 .f32 0x00000000#32) d (ix2 r x)
      = ∑ n : Fin 512, unitOf (fun k => h (ix2 r k)) (fun k => p (ix2 k n)) (fun k => q (ix2 k n)) * d (ix2 n x) := by
  unfold unitOf
  pointwise [k0_pay1, k0_pay5, k0_pay6]

/-- One hidden block's product, added to what was there. -/
theorem more_at (o : Vec Ideal S1024x2048 .f32) (h : Vec Ideal S1024x2048 .bf16) (p q : Vec Ideal S2048x512 .bf16)
    (d : Vec Ideal S512x2048 .bf16) (r : Fin 1024) (x : Fin 2048) :
    k0_pay2 (F := Ideal) o h p q d (ix2 r x)
      = o (ix2 r x) + ∑ n : Fin 512, unitOf (fun k => h (ix2 r k)) (fun k => p (ix2 k n)) (fun k => q (ix2 k n)) * d (ix2 n x) := by
  unfold unitOf
  pointwise [k0_pay2]

/-- The last step adds its product the same way. -/
theorem last_eq : k0_pay7 (F := Ideal) = k0_pay2 (F := Ideal) := rfl

/-- The residual added. -/
theorem joined_at (x : Vec Ideal S1024x2048 .f32) (g : Vec Ideal S1x1x2048 .f32) (o : Vec Ideal S1024x2048 .f32)
    (r : Fin 1024) (k : Fin 2048) :
    k0_pay8 (F := Ideal) x g o (ix2 r k) = x (ix2 r k) + g (ix3 0 0 k) * o (ix2 r k) := by
  pointwise [k0_pay8]

/-- The last norm. -/
theorem final_at (x : Vec Ideal S1024x2048 .f32) (g : Vec Ideal S1x1x2048 .f32) (o : Vec Ideal S1024x2048 .f32)
    (f : Vec Ideal S1x2048 .f32) (r : Fin 1024) (k : Fin 2048) :
    k0_pay3 (F := Ideal) (k0_pay8 x g o) (k0_pay9 x g o) f (ix2 r k)
      = normed (fun k => x (ix2 r k) + g (ix3 0 0 k) * o (ix2 r k)) (fun k => f (ix2 0 k)) k := by
  rw [show (fun k => x (ix2 r k) + g (ix3 0 0 k) * o (ix2 r k)) = fun k => k0_pay8 (F := Ideal) x g o (ix2 r k) from
    funext fun k => (joined_at x g o r k).symm]
  unfold k0_pay9
  generalize k0_pay8 (F := Ideal) x g o = y
  unfold normed meanSquare
  pointwise [k0_pay3]

end Cert.Kernel2Ideal.Ffn

end

end
-- ==== Proof.FfnPlace.lean ====
/-
What each window of the feed forward block shows, in the arrays the program was launched with.

Point `11 * I + j` of the grid works on row block `I` and hidden block `j`.
-/
module

public import proofs.«01_k».proof.Proof.FfnPoint
public import Idealize.ShloMosaic.Lib.Pipeline.Value
public import Idealize.ShloMosaic.Lib.StableHlo.RunRead

@[expose] public section

set_option maxRecDepth 16384

noncomputable section

namespace Cert.Kernel2Ideal.Ffn

open Cert.Kernel2Ideal Cert.Kernel2Ideal.Gen Cert.FeedForward
open Idealize.ShloMosaic Idealize.ShloMosaic.TcCoe

variable (m : (ℓ : Loc nD τ sig) → Buf (Elt Ideal) ℓ) (c : Dev nD)

/-! ## The arguments -/

abbrev argX : Vec Ideal S4x4096x2048 .f32 := m ((c.tc : Thread nD τ).loc main_arg0)
abbrev argG : Vec Ideal S2048 .f32 := m ((c.tc : Thread nD τ).loc main_arg1)
abbrev argShift : Vec Ideal S4x2048 .f32 := m ((c.tc : Thread nD τ).loc main_arg2)
abbrev argScale : Vec Ideal S4x2048 .f32 := m ((c.tc : Thread nD τ).loc main_arg3)
abbrev argGate : Vec Ideal S4x2048 .f32 := m ((c.tc : Thread nD τ).loc main_arg4)
abbrev argWg : Vec Ideal S2048x5632 .f32 := m ((c.tc : Thread nD τ).loc main_arg5)
abbrev argWu : Vec Ideal S2048x5632 .f32 := m ((c.tc : Thread nD τ).loc main_arg6)
abbrev argWd : Vec Ideal S5632x2048 .f32 := m ((c.tc : Thread nD τ).loc main_arg7)
abbrev argF : Vec Ideal S2048 .f32 := m ((c.tc : Thread nD τ).loc main_arg8)

/-! ## What the host hands the call -/

theorem host_v3 (R : Fin 16384) (k : Fin 2048) : (Gen.V m c main_v3 : Vec Ideal S16384x2048 .f32) (ix2 R k) = argX m c (ix3 ⟨R.val / 4096, by omega⟩ ⟨R.val % 4096, by omega⟩ k) := by
  after_reads_simp
  pointwise

theorem host_v7 (k : Fin 2048) : (Gen.V m c main_v7 : Vec Ideal S1x2048 .f32) (ix2 0 k) = argG m c (ix1 k) := by
  after_reads_simp
  pointwise

theorem host_v0 (b : Fin 4) (k : Fin 2048) : (Gen.V m c main_v0 : Vec Ideal S4x1x2048 .f32) (ix3 b 0 k) = argShift m c (ix2 b k) := by
  after_reads_simp
  pointwise

theorem host_v1 (b : Fin 4) (k : Fin 2048) : (Gen.V m c main_v1 : Vec Ideal S4x1x2048 .f32) (ix3 b 0 k) = argScale m c (ix2 b k) := by
  after_reads_simp
  pointwise

theorem host_v2 (b : Fin 4) (k : Fin 2048) : (Gen.V m c main_v2 : Vec Ideal S4x1x2048 .f32) (ix3 b 0 k) = argGate m c (ix2 b k) := by
  after_reads_simp
  pointwise

theorem host_v4 (k : Fin 2048) (n : Fin 5632) : (Gen.V m c main_v4 : Vec Ideal S2048x5632 .bf16) (ix2 k n) = argWg m c (ix2 k n) := by
  after_reads_simp
  pointwise

theorem host_v5 (k : Fin 2048) (n : Fin 5632) : (Gen.V m c main_v5 : Vec Ideal S2048x5632 .bf16) (ix2 k n) = argWu m c (ix2 k n) := by
  after_reads_simp
  pointwise

theorem host_v6 (k : Fin 5632) (n : Fin 2048) : (Gen.V m c main_v6 : Vec Ideal S5632x2048 .bf16) (ix2 k n) = argWd m c (ix2 k n) := by
  after_reads_simp
  pointwise

theorem host_v8 (k : Fin 2048) : (Gen.V m c main_v8 : Vec Ideal S1x2048 .f32) (ix2 0 k) = argF m c (ix1 k) := by
  after_reads_simp
  pointwise

/-! ## Where each block sits -/

theorem index_0 : ∀ t : Fin grid0.N, win0_0.index t 0 = t.val / 11 ∧ win0_0.index t 1 = 0 := by
  decide +kernel

/-- Where the block of rows at point `t` sit. -/
theorem emb_0 (t : Fin grid0.N) (r : Fin 1024) (k : Fin 2048) : ((win0_0.rect t).emb ((ix2 r k) : S1024x2048.Idx) : S16384x2048.Idx)
    = (ix2 ⟨1024 * (t.val / 11) + r.val, by have h : t.val < 176 := t.isLt; omega⟩ k) := by
  have hi := index_0 t
  funext a
  apply Fin.ext
  refine (Pipeline.Window.rect_emb_val win0_0 t _ a rfl).trans ?_
  fin_cases a
  · show win0_0.index t 0 * 1024 + r.val = 1024 * (t.val / 11) + r.val
    omega
  · show win0_0.index t 1 * 2048 + k.val = k.val
    omega

theorem at_0 (t : Fin grid0.N) (r : Fin 1024) (k : Fin 2048) : (iblk m c 0 t : Vec Ideal S1024x2048 .f32) (ix2 r k)
    = (Gen.V m c main_v3 : Vec Ideal S16384x2048 .f32) (ix2 ⟨1024 * (t.val / 11) + r.val, by have h : t.val < 176 := t.isLt; omega⟩ k) :=
  congrArg (Gen.V m c main_v3 : Vec Ideal S16384x2048 .f32) (emb_0 t r k)

theorem index_1 : ∀ t : Fin grid0.N, win0_1.index t 0 = 0 ∧ win0_1.index t 1 = 0 := by
  decide +kernel

/-- Where the first norm's weights at point `t` sit. -/
theorem emb_1 (t : Fin grid0.N) (k : Fin 2048) : ((win0_1.rect t).emb ((ix2 0 k) : S1x2048.Idx) : S1x2048.Idx)
    = (ix2 0 k) := by
  have hi := index_1 t
  funext a
  apply Fin.ext
  refine (Pipeline.Window.rect_emb_val win0_1 t _ a rfl).trans ?_
  fin_cases a
  · show win0_1.index t 0 * 1 + 0 = 0
    omega
  · show win0_1.index t 1 * 2048 + k.val = k.val
    omega

theorem at_1 (t : Fin grid0.N) (k : Fin 2048) : (iblk m c 1 t : Vec Ideal S1x2048 .f32) (ix2 0 k)
    = (Gen.V m c main_v7 : Vec Ideal S1x2048 .f32) (ix2 0 k) :=
  congrArg (Gen.V m c main_v7 : Vec Ideal S1x2048 .f32) (emb_1 t k)

theorem index_2 : ∀ t : Fin grid0.N, win0_2.index t 0 = t.val / 44 ∧ win0_2.index t 1 = 0 ∧ win0_2.index t 2 = 0 := by
  decide +kernel

/-- Where the shift at point `t` sit. -/
theorem emb_2 (t : Fin grid0.N) (k : Fin 2048) : ((win0_2.rect t).emb ((ix3 0 0 k) : S1x1x2048.Idx) : S4x1x2048.Idx)
    = (ix3 ⟨t.val / 44, by have h : t.val < 176 := t.isLt; omega⟩ 0 k) := by
  have hi := index_2 t
  funext a
  apply Fin.ext
  refine (Pipeline.Window.rect_emb_val win0_2 t _ a rfl).trans ?_
  fin_cases a
  · show win0_2.index t 0 * 1 + 0 = t.val / 44
    omega
  · show win0_2.index t 1 * 1 + 0 = 0
    omega
  · show win0_2.index t 2 * 2048 + k.val = k.val
    omega

theorem at_2 (t : Fin grid0.N) (k : Fin 2048) : (iblk m c 2 t : Vec Ideal S1x1x2048 .f32) (ix3 0 0 k)
    = (Gen.V m c main_v0 : Vec Ideal S4x1x2048 .f32) (ix3 ⟨t.val / 44, by have h : t.val < 176 := t.isLt; omega⟩ 0 k) :=
  congrArg (Gen.V m c main_v0 : Vec Ideal S4x1x2048 .f32) (emb_2 t k)

theorem index_3 : ∀ t : Fin grid0.N, win0_3.index t 0 = t.val / 44 ∧ win0_3.index t 1 = 0 ∧ win0_3.index t 2 = 0 := by
  decide +kernel

/-- Where the scale at point `t` sit. -/
theorem emb_3 (t : Fin grid0.N) (k : Fin 2048) : ((win0_3.rect t).emb ((ix3 0 0 k) : S1x1x2048.Idx) : S4x1x2048.Idx)
    = (ix3 ⟨t.val / 44, by have h : t.val < 176 := t.isLt; omega⟩ 0 k) := by
  have hi := index_3 t
  funext a
  apply Fin.ext
  refine (Pipeline.Window.rect_emb_val win0_3 t _ a rfl).trans ?_
  fin_cases a
  · show win0_3.index t 0 * 1 + 0 = t.val / 44
    omega
  · show win0_3.index t 1 * 1 + 0 = 0
    omega
  · show win0_3.index t 2 * 2048 + k.val = k.val
    omega

theorem at_3 (t : Fin grid0.N) (k : Fin 2048) : (iblk m c 3 t : Vec Ideal S1x1x2048 .f32) (ix3 0 0 k)
    = (Gen.V m c main_v1 : Vec Ideal S4x1x2048 .f32) (ix3 ⟨t.val / 44, by have h : t.val < 176 := t.isLt; omega⟩ 0 k) :=
  congrArg (Gen.V m c main_v1 : Vec Ideal S4x1x2048 .f32) (emb_3 t k)

theorem index_4 : ∀ t : Fin grid0.N, win0_4.index t 0 = t.val / 44 ∧ win0_4.index t 1 = 0 ∧ win0_4.index t 2 = 0 := by
  decide +kernel

/-- Where the gate at point `t` sit. -/
theorem emb_4 (t : Fin grid0.N) (k : Fin 2048) : ((win0_4.rect t).emb ((ix3 0 0 k) : S1x1x2048.Idx) : S4x1x2048.Idx)
    = (ix3 ⟨t.val / 44, by have h : t.val < 176 := t.isLt; omega⟩ 0 k) := by
  have hi := index_4 t
  funext a
  apply Fin.ext
  refine (Pipeline.Window.rect_emb_val win0_4 t _ a rfl).trans ?_
  fin_cases a
  · show win0_4.index t 0 * 1 + 0 = t.val / 44
    omega
  · show win0_4.index t 1 * 1 + 0 = 0
    omega
  · show win0_4.index t 2 * 2048 + k.val = k.val
    omega

theorem at_4 (t : Fin grid0.N) (k : Fin 2048) : (iblk m c 4 t : Vec Ideal S1x1x2048 .f32) (ix3 0 0 k)
    = (Gen.V m c main_v2 : Vec Ideal S4x1x2048 .f32) (ix3 ⟨t.val / 44, by have h : t.val < 176 := t.isLt; omega⟩ 0 k) :=
  congrArg (Gen.V m c main_v2 : Vec Ideal S4x1x2048 .f32) (emb_4 t k)

theorem index_5 : ∀ t : Fin grid0.N, win0_5.index t 0 = 0 ∧ win0_5.index t 1 = t.val % 11 := by
  decide +kernel

/-- Where the gate weights at point `t` sit. -/
theorem emb_5 (t : Fin grid0.N) (k : Fin 2048) (n : Fin 512) : ((win0_5.rect t).emb ((ix2 k n) : S2048x512.Idx) : S2048x5632.Idx)
    = (ix2 k ⟨512 * (t.val % 11) + n.val, by have h : t.val < 176 := t.isLt; omega⟩) := by
  have hi := index_5 t
  funext a
  apply Fin.ext
  refine (Pipeline.Window.rect_emb_val win0_5 t _ a rfl).trans ?_
  fin_cases a
  · show win0_5.index t 0 * 2048 + k.val = k.val
    omega
  · show win0_5.index t 1 * 512 + n.val = 512 * (t.val % 11) + n.val
    omega

theorem at_5 (t : Fin grid0.N) (k : Fin 2048) (n : Fin 512) : (iblk m c 5 t : Vec Ideal S2048x512 .bf16) (ix2 k n)
    = (Gen.V m c main_v4 : Vec Ideal S2048x5632 .bf16) (ix2 k ⟨512 * (t.val % 11) + n.val, by have h : t.val < 176 := t.isLt; omega⟩) :=
  congrArg (Gen.V m c main_v4 : Vec Ideal S2048x5632 .bf16) (emb_5 t k n)

theorem index_6 : ∀ t : Fin grid0.N, win0_6.index t 0 = 0 ∧ win0_6.index t 1 = t.val % 11 := by
  decide +kernel

/-- Where the up weights at point `t` sit. -/
theorem emb_6 (t : Fin grid0.N) (k : Fin 2048) (n : Fin 512) : ((win0_6.rect t).emb ((ix2 k n) : S2048x512.Idx) : S2048x5632.Idx)
    = (ix2 k ⟨512 * (t.val % 11) + n.val, by have h : t.val < 176 := t.isLt; omega⟩) := by
  have hi := index_6 t
  funext a
  apply Fin.ext
  refine (Pipeline.Window.rect_emb_val win0_6 t _ a rfl).trans ?_
  fin_cases a
  · show win0_6.index t 0 * 2048 + k.val = k.val
    omega
  · show win0_6.index t 1 * 512 + n.val = 512 * (t.val % 11) + n.val
    omega

theorem at_6 (t : Fin grid0.N) (k : Fin 2048) (n : Fin 512) : (iblk m c 6 t : Vec Ideal S2048x512 .bf16) (ix2 k n)
    = (Gen.V m c main_v5 : Vec Ideal S2048x5632 .bf16) (ix2 k ⟨512 * (t.val % 11) + n.val, by have h : t.val < 176 := t.isLt; omega⟩) :=
  congrArg (Gen.V m c main_v5 : Vec Ideal S2048x5632 .bf16) (emb_6 t k n)

theorem index_7 : ∀ t : Fin grid0.N, win0_7.index t 0 = t.val % 11 ∧ win0_7.index t 1 = 0 := by
  decide +kernel

/-- Where the down weights at point `t` sit. -/
theorem emb_7 (t : Fin grid0.N) (n : Fin 512) (k : Fin 2048) : ((win0_7.rect t).emb ((ix2 n k) : S512x2048.Idx) : S5632x2048.Idx)
    = (ix2 ⟨512 * (t.val % 11) + n.val, by have h : t.val < 176 := t.isLt; omega⟩ k) := by
  have hi := index_7 t
  funext a
  apply Fin.ext
  refine (Pipeline.Window.rect_emb_val win0_7 t _ a rfl).trans ?_
  fin_cases a
  · show win0_7.index t 0 * 512 + n.val = 512 * (t.val % 11) + n.val
    omega
  · show win0_7.index t 1 * 2048 + k.val = k.val
    omega

theorem at_7 (t : Fin grid0.N) (n : Fin 512) (k : Fin 2048) : (iblk m c 7 t : Vec Ideal S512x2048 .bf16) (ix2 n k)
    = (Gen.V m c main_v6 : Vec Ideal S5632x2048 .bf16) (ix2 ⟨512 * (t.val % 11) + n.val, by have h : t.val < 176 := t.isLt; omega⟩ k) :=
  congrArg (Gen.V m c main_v6 : Vec Ideal S5632x2048 .bf16) (emb_7 t n k)

theorem index_8 : ∀ t : Fin grid0.N, win0_8.index t 0 = 0 ∧ win0_8.index t 1 = 0 := by
  decide +kernel

/-- Where the last norm's weights at point `t` sit. -/
theorem emb_8 (t : Fin grid0.N) (k : Fin 2048) : ((win0_8.rect t).emb ((ix2 0 k) : S1x2048.Idx) : S1x2048.Idx)
    = (ix2 0 k) := by
  have hi := index_8 t
  funext a
  apply Fin.ext
  refine (Pipeline.Window.rect_emb_val win0_8 t _ a rfl).trans ?_
  fin_cases a
  · show win0_8.index t 0 * 1 + 0 = 0
    omega
  · show win0_8.index t 1 * 2048 + k.val = k.val
    omega

theorem at_8 (t : Fin grid0.N) (k : Fin 2048) : (iblk m c 8 t : Vec Ideal S1x2048 .f32) (ix2 0 k)
    = (Gen.V m c main_v8 : Vec Ideal S1x2048 .f32) (ix2 0 k) :=
  congrArg (Gen.V m c main_v8 : Vec Ideal S1x2048 .f32) (emb_8 t k)

/-! ## The blocks at point `11 * I + j` -/

/-- The batch of row block `I`. -/
abbrev batch (I : Fin 16) : Fin 4 := ⟨I.val / 4, by omega⟩

/-- Row `r` of row block `I`, in its batch. -/
abbrev place (I : Fin 16) (r : Fin 1024) : Fin 4096 := ⟨1024 * (I.val % 4) + r.val, by omega⟩

/-- Hidden unit `n` of hidden block `j`. -/
abbrev unitAt (j : Fin 11) (n : Fin 512) : Fin 5632 := ⟨512 * j.val + n.val, by omega⟩

variable {t : Fin grid0.N} {I : Fin 16} {j : Fin 11}

theorem blk_0 (h : t.val = 11 * I.val + j.val) (r : Fin 1024) (k : Fin 2048) :
    (iblk m c 0 t : Vec Ideal S1024x2048 .f32) (ix2 r k) = argX m c (ix3 (batch I) (place I r) k) := by
  rw [at_0, host_v3]
  refine congrArg (argX m c) (congrArg₂ (fun b i => ix3 b i k) (Fin.ext ?_) (Fin.ext ?_))
  · show (1024 * (t.val / 11) + r.val) / 4096 = I.val / 4
    omega
  · show (1024 * (t.val / 11) + r.val) % 4096 = 1024 * (I.val % 4) + r.val
    omega

theorem blk_1 (k : Fin 2048) : (iblk m c 1 t : Vec Ideal S1x2048 .f32) (ix2 0 k) = argG m c (ix1 k) := by
  rw [at_1, host_v7]

theorem blk_2 (h : t.val = 11 * I.val + j.val) (k : Fin 2048) :
    (iblk m c 2 t : Vec Ideal S1x1x2048 .f32) (ix3 0 0 k) = argShift m c (ix2 (batch I) k) := by
  rw [at_2, host_v0]
  refine congrArg (argShift m c) (congrArg (fun b => ix2 b k) (Fin.ext ?_))
  show t.val / 44 = I.val / 4
  omega

theorem blk_3 (h : t.val = 11 * I.val + j.val) (k : Fin 2048) :
    (iblk m c 3 t : Vec Ideal S1x1x2048 .f32) (ix3 0 0 k) = argScale m c (ix2 (batch I) k) := by
  rw [at_3, host_v1]
  refine congrArg (argScale m c) (congrArg (fun b => ix2 b k) (Fin.ext ?_))
  show t.val / 44 = I.val / 4
  omega

theorem blk_4 (h : t.val = 11 * I.val + j.val) (k : Fin 2048) :
    (iblk m c 4 t : Vec Ideal S1x1x2048 .f32) (ix3 0 0 k) = argGate m c (ix2 (batch I) k) := by
  rw [at_4, host_v2]
  refine congrArg (argGate m c) (congrArg (fun b => ix2 b k) (Fin.ext ?_))
  show t.val / 44 = I.val / 4
  omega

theorem blk_5 (h : t.val = 11 * I.val + j.val) (k : Fin 2048) (n : Fin 512) :
    (iblk m c 5 t : Vec Ideal S2048x512 .bf16) (ix2 k n) = argWg m c (ix2 k (unitAt j n)) := by
  rw [at_5, host_v4]
  refine congrArg (argWg m c) (congrArg (fun x => ix2 k x) (Fin.ext ?_))
  show 512 * (t.val % 11) + n.val = 512 * j.val + n.val
  omega

theorem blk_6 (h : t.val = 11 * I.val + j.val) (k : Fin 2048) (n : Fin 512) :
    (iblk m c 6 t : Vec Ideal S2048x512 .bf16) (ix2 k n) = argWu m c (ix2 k (unitAt j n)) := by
  rw [at_6, host_v5]
  refine congrArg (argWu m c) (congrArg (fun x => ix2 k x) (Fin.ext ?_))
  show 512 * (t.val % 11) + n.val = 512 * j.val + n.val
  omega

theorem blk_7 (h : t.val = 11 * I.val + j.val) (n : Fin 512) (k : Fin 2048) :
    (iblk m c 7 t : Vec Ideal S512x2048 .bf16) (ix2 n k) = argWd m c (ix2 (unitAt j n) k) := by
  rw [at_7, host_v6]
  refine congrArg (argWd m c) (congrArg (fun x => ix2 x k) (Fin.ext ?_))
  show 512 * (t.val % 11) + n.val = 512 * j.val + n.val
  omega

theorem blk_8 (k : Fin 2048) : (iblk m c 8 t : Vec Ideal S1x2048 .f32) (ix2 0 k) = argF m c (ix1 k) := by
  rw [at_8, host_v8]

end Cert.Kernel2Ideal.Ffn

end

end
-- ==== Proof.FfnArray.lean ====
/-
What the feed forward block leaves in its result.

Over the eleven points of a row block the scratch buffer holds the modulated rows and the result's buffer the sum over
the hidden blocks so far; the eleventh point adds the residual and takes the last norm.
-/
module

public import proofs.«01_k».proof.Proof.FfnPlace
public import proofs.«01_k».proof.Proof.Gen.Kernel2Ideal.Value

@[expose] public section

set_option maxRecDepth 16384

noncomputable section

namespace Cert.Kernel2Ideal.Ffn

open Cert.Kernel2Ideal Cert.Kernel2Ideal.Gen Cert.FeedForward
open Idealize.ShloMosaic Idealize.ShloMosaic.TcCoe

variable (m : (ℓ : Loc nD τ sig) → Buf (Elt Ideal) ℓ) (c : Dev nD)

/-- The modulated row. -/
def row (I : Fin 16) (r : Fin 1024) : Fin 2048 → EReal :=
  modulated (fun k => argX m c (ix3 (batch I) (place I r) k)) (fun k => argG m c (ix1 k))
    (fun k => argScale m c (ix2 (batch I) k)) (fun k => argShift m c (ix2 (batch I) k))

/-- What hidden unit `n` adds to entry `x` of the row. -/
def term (I : Fin 16) (r : Fin 1024) (x : Fin 2048) (n : Fin 5632) : EReal :=
  unitOf (row m c I r) (fun k => argWg m c (ix2 k n)) (fun k => argWu m c (ix2 k n)) * argWd m c (ix2 n x)

/-- The row with the residual added. -/
def joined (I : Fin 16) (r : Fin 1024) (x : Fin 2048) : EReal :=
  argX m c (ix3 (batch I) (place I r) x) + argGate m c (ix2 (batch I) x) * ∑ n, term m c I r x n

variable {t : Fin grid0.N} {I : Fin 16} {j : Fin 11}

theorem row_at (h : t.val = 11 * I.val + j.val) (r : Fin 1024) (k : Fin 2048) :
    k0_pay4 (F := Ideal) (iblk m c 0 t) (iblk m c 1 t) (iblk m c 2 t) (iblk m c 3 t) (ix2 r k) = row m c I r k := by
  refine (rows_at _ _ _ _ r k).trans ?_
  unfold row
  congr 1
  · exact funext fun k => blk_0 m c h r k
  · exact funext fun k => blk_1 m c k
  · exact funext fun k => blk_3 m c h k
  · exact funext fun k => blk_2 m c h k

theorem term_at (h : t.val = 11 * I.val + j.val) (s : Vec Ideal S1024x2048 .bf16) (r : Fin 1024)
    (hs : ∀ k, s (ix2 r k) = row m c I r k) (x : Fin 2048) (n : Fin 512) :
    unitOf (fun k => s (ix2 r k)) (fun k => (iblk m c 5 t : Vec Ideal S2048x512 .bf16) (ix2 k n))
        (fun k => (iblk m c 6 t : Vec Ideal S2048x512 .bf16) (ix2 k n)) * (iblk m c 7 t : Vec Ideal S512x2048 .bf16) (ix2 n x)
      = term m c I r x (unitAt j n) := by
  unfold term
  congr 1
  · congr 1
    · exact funext hs
    · exact funext fun k => blk_5 m c h k n
    · exact funext fun k => blk_6 m c h k n
  · exact blk_7 m c h n x

theorem points : cfg0.N = 176 := N_0

/-- Point `11 * I + j` of the grid. -/
theorem bound (I : Fin 16) (j : ℕ) (hj : j < 11) : 11 * I.val + j < cfg0.N := by
  have := I.isLt
  rw [points]
  omega

/-- After the first ten points: the modulated rows, and the sum over the hidden blocks so far. -/
theorem swept (I : Fin 16) (r : Fin 1024) : ∀ (j : ℕ) (hj : j < 10),
    (∀ k : Fin 2048, (outsAt0 m c (11 * I.val + j) (bound I j (by omega))).2 (ix2 r k) = row m c I r k)
    ∧ ∀ x : Fin 2048, (outsAt0 m c (11 * I.val + j) (bound I j (by omega))).1 (ix2 r x) = blocks (term m c I r x) (j + 1)
  | 0, hj => by
    have e := outsAt0_A m c ⟨11 * I.val + 0, bound I 0 (by omega)⟩ (by dsimp only; omega) (by dsimp only; omega) (by dsimp only; omega)
    dsimp only at e
    rw [e, scratch_A, out_A]
    have h : (⟨11 * I.val + 0, bound I 0 (by omega)⟩ : Fin grid0.N).val = 11 * I.val + (0 : Fin 11).val := rfl
    refine ⟨fun k => row_at m c h r k, fun x => ?_⟩
    refine (part_at _ _ _ _ r x).trans ?_
    rw [blocks_succ _ 0 (by omega), blocks_zero, zero_add]
    exact Finset.sum_congr rfl fun n _ => term_at m c h _ r (fun k => row_at m c h r k) x n
  | j + 1, hj => by
    obtain ⟨hs, ho⟩ := swept I r j (by omega)
    have e := outsAt0_B m c ⟨11 * I.val + (j + 1), bound I (j + 1) (by omega)⟩ (by dsimp only; omega) (by dsimp only; omega) (by dsimp only; omega)
    dsimp only at e
    rw [e, scratch_B, out_B]
    have h : (⟨11 * I.val + (j + 1), bound I (j + 1) (by omega)⟩ : Fin grid0.N).val = 11 * I.val + (⟨j + 1, by omega⟩ : Fin 11).val := rfl
    refine ⟨hs, fun x => ?_⟩
    refine (more_at _ _ _ _ _ r x).trans ?_
    rw [blocks_succ _ (j + 1) (by omega)]
    refine congrArg₂ (· + ·) (ho x) (Finset.sum_congr rfl fun n _ => ?_)
    exact term_at m c h _ r hs x n

/-- The result, at row `r` of row block `I`: the residual added, and the last norm taken. -/
theorem ended (I : Fin 16) (r : Fin 1024) (x : Fin 2048) :
    (outsAt0 m c (11 * I.val + 10) (bound I 10 (by omega))).1 (ix2 r x) = normed (fun k => joined m c I r k) (fun k => argF m c (ix1 k)) x := by
  obtain ⟨hs, ho⟩ := swept m c I r 9 (by omega)
  have e := outsAt0_C m c ⟨11 * I.val + 10, bound I 10 (by omega)⟩ (by dsimp only; omega) (by dsimp only; omega) (by dsimp only; omega)
  dsimp only at e
  rw [e, out_C]
  have h : (⟨11 * I.val + 10, bound I 10 (by omega)⟩ : Fin grid0.N).val = 11 * I.val + (10 : Fin 11).val := rfl
  refine (final_at _ _ _ _ r x).trans ?_
  congr 1
  · refine funext fun k => ?_
    unfold joined
    refine congrArg₂ (· + ·) (blk_0 m c h r k) (congrArg₂ (· * ·) (blk_4 m c h k) ?_)
    rw [last_eq]
    refine (more_at _ _ _ _ _ r k).trans ?_
    rw [← blocks_all, blocks_succ _ 10 (by omega)]
    refine congrArg₂ (· + ·) (ho k) (Finset.sum_congr rfl fun n _ => ?_)
    exact term_at m c h _ r hs k n
  · exact funext fun k => blk_8 m c k

/-- The result array, at row `R`. -/
theorem result_at (R : Fin 16384) (x : Fin 2048) :
    (Value.G9 m c : Vec Ideal S16384x2048 .f32) (ix2 R x)
      = normed (fun k => joined m c ⟨R.val / 1024, by omega⟩ ⟨R.val % 1024, by omega⟩ k) (fun k => argF m c (ix1 k)) x := by
  have hb := bound ⟨R.val / 1024, by omega⟩ 10 (by omega)
  have hp : Value.pt9Of (ix2 R x) = 11 * (R.val / 1024) + 10 := by
    show 11 * (1 * (R.val / 1024 - 0) + 1 * (x.val / 2048 - 0)) + 10 = _
    omega
  have hl : Value.loc9Of (ix2 R x) = (ix2 ⟨R.val % 1024, by omega⟩ x : S1024x2048.Idx) := by
    funext a
    apply Fin.ext
    fin_cases a
    · rfl
    · exact Nat.mod_eq_of_lt x.isLt
  unfold Value.G9
  rw [dif_pos (lt_of_eq_of_lt hp hb), hl]
  rw [Value.fold0_congr m c _ _ (11 * (R.val / 1024) + 10) (by rw [zero_add]; exact hb) hp, ← Value.outsAt0_sweep m c _ hb]
  exact ended m c ⟨R.val / 1024, by omega⟩ ⟨R.val % 1024, by omega⟩ x

end Cert.Kernel2Ideal.Ffn

end

end
-- ==== Proof.FfnEqual.lean ====
/-
The feed forward block of the program ends with the reference's.
-/
module

public import proofs.«01_k».proof.Defs
public import proofs.«01_k».proof.Proof.FfnArray
public import proofs.«01_k».proof.Proof.Gen.Reference2Ideal.Read

@[expose] public section

set_option maxRecDepth 16384

noncomputable section

namespace Cert.Reference2Ideal.Ffn

open Cert.Reference2Ideal Cert.Reference2Ideal.Gen Cert.Reference2Ideal.Read Cert.FeedForward
open Idealize.ShloMosaic Idealize.ShloMosaic.TcCoe

/-- A host sum over the last axis, at an index. -/
theorem sum_last {n0 n1 n2 : ℕ} {u : Shape} (h : (⟨3, ![n0, n1, n2]⟩ : Shape).ReducesTo [2] ⟨2, ![n0, n1]⟩) (hu : 0 < u.numel)
    (y : FVec Ideal ⟨3, ![n0, n1, n2]⟩ .f32) (a : Fin n0) (b : Fin n1) :
    Host.reduceAdd y (constant u .f32 0x00000000#32) h hu (ix2 a b) = ∑ k : Fin n2, y (ix3 a b k) := by
  pointwise

variable (x0 : Vec Ideal S4x4096x2048 .f32) (x1 : Vec Ideal S2048 .f32) (x2 x3 x4 : Vec Ideal S4x2048 .f32)
variable (x5 x6 : Vec Ideal S2048x5632 .f32) (x7 : Vec Ideal S5632x2048 .f32) (x8 : Vec Ideal S2048 .f32)

theorem square_at (b : Fin 4) (i : Fin 4096) :
    val_main_v1 (F := Ideal) x0 (ix2 b i) = ∑ k : Fin 2048, x0 (ix3 b i k) * x0 (ix3 b i k) := by
  unfold val_main_v1
  exact sum_last _ _ _ b i

/-- The modulated rows. -/
theorem row_at (b : Fin 4) (i : Fin 4096) (k : Fin 2048) :
    val_main_v20 (F := Ideal) x0 x1 x2 x3 (ix3 b i k)
      = modulated (fun k => x0 (ix3 b i k)) (fun k => x1 (ix1 k)) (fun k => x3 (ix2 b k)) (fun k => x2 (ix2 b k)) k := by
  unfold modulated meanSquare
  rw [← square_at, ← mul_assoc]
  pointwise [val_main_v20, val_main_v19, val_main_v18, val_main_v17, val_main_v16, val_main_v15, val_main_v14, val_main_cst_2, val_main_v13, val_main_v12, val_main_v11, val_main_v10, val_main_v9, val_main_v8, val_main_v7, val_main_v6, val_main_v5, val_main_cst_1, val_main_v4, val_main_v3, val_main_cst_0, val_main_v2]

/-- The hidden units. -/
theorem unit_at (b : Fin 4) (i : Fin 4096) (n : Fin 5632) :
    val_main_v24 (F := Ideal) x0 x1 x2 x3 x5 x6 (ix3 b i n)
      = unitOf (fun k => val_main_v20 (F := Ideal) x0 x1 x2 x3 (ix3 b i k)) (fun k => x5 (ix2 k n)) (fun k => x6 (ix2 k n)) := by
  unfold unitOf Ideal.logistic
  pointwise [val_main_v24, val_main_v23, val_main_v22, val_main_call0_v5, val_main_call0_v4, val_main_call0_cst_0, val_main_call0_v3, val_main_call0_v2, val_main_call0_cst, val_main_call0_v1, val_main_call0_v0, val_main_v21]

/-- The residual added. -/
theorem joined_at (b : Fin 4) (i : Fin 4096) (x : Fin 2048) :
    val_main_v29 (F := Ideal) x0 x1 x2 x3 x4 x5 x6 x7 (ix3 b i x)
      = x0 (ix3 b i x) + x4 (ix2 b x) * ∑ n : Fin 5632, val_main_v24 (F := Ideal) x0 x1 x2 x3 x5 x6 (ix3 b i n) * x7 (ix2 n x) := by
  pointwise [val_main_v29, val_main_v28, val_main_v27, val_main_v26, val_main_v25]

theorem last_square_at (b : Fin 4) (i : Fin 4096) :
    val_main_v31 (F := Ideal) x0 x1 x2 x3 x4 x5 x6 x7 (ix2 b i)
      = ∑ k : Fin 2048, val_main_v29 (F := Ideal) x0 x1 x2 x3 x4 x5 x6 x7 (ix3 b i k) * val_main_v29 (F := Ideal) x0 x1 x2 x3 x4 x5 x6 x7 (ix3 b i k) := by
  unfold val_main_v31
  exact sum_last _ _ _ b i

/-- The last norm. -/
theorem final_at (b : Fin 4) (i : Fin 4096) (x : Fin 2048) :
    val_main_v42 (F := Ideal) x0 x1 x2 x3 x4 x5 x6 x7 x8 (ix3 b i x)
      = normed (fun k => val_main_v29 (F := Ideal) x0 x1 x2 x3 x4 x5 x6 x7 (ix3 b i k)) (fun k => x8 (ix1 k)) x := by
  unfold normed meanSquare
  rw [← last_square_at]
  pointwise [val_main_v42, val_main_v41, val_main_v40, val_main_v39, val_main_v38, val_main_v37, val_main_v36, val_main_v35, val_main_cst_5, val_main_v34, val_main_v33, val_main_cst_4, val_main_v32]

theorem result_at (R : Fin 16384) (x : Fin 2048) :
    val_main_v43 (F := Ideal) x0 x1 x2 x3 x4 x5 x6 x7 x8 (ix2 R x)
      = val_main_v42 (F := Ideal) x0 x1 x2 x3 x4 x5 x6 x7 x8 (ix3 ⟨R.val / 4096, by omega⟩ ⟨R.val % 4096, by omega⟩ x) := by
  pointwise [val_main_v43]

end Cert.Reference2Ideal.Ffn

namespace Cert.Kernel2Ideal.Ffn

open Cert.Kernel2Ideal Cert.Kernel2Ideal.Gen Cert.FeedForward Cert.Reference2Ideal.Read
open Idealize.ShloMosaic Idealize.ShloMosaic.TcCoe Idealize.SL.Sem

variable (m : (ℓ : Loc nD τ sig) → Buf (Elt Ideal) ℓ) (c : Dev nD)

/-- The reference's row with the residual added is the program's. -/
theorem joined_eq (I : Fin 16) (r : Fin 1024) (x : Fin 2048) :
    val_main_v29 (F := Ideal) (argX m c) (argG m c) (argShift m c) (argScale m c) (argGate m c) (argWg m c) (argWu m c) (argWd m c) (ix3 (batch I) (place I r) x) = joined m c I r x := by
  rw [Cert.Reference2Ideal.Ffn.joined_at]
  unfold joined
  refine congrArg (fun s => argX m c (ix3 (batch I) (place I r) x) + argGate m c (ix2 (batch I) x) * s) (Finset.sum_congr rfl fun n _ => ?_)
  unfold term
  refine congrArg (· * argWd m c (ix2 n x)) ((Cert.Reference2Ideal.Ffn.unit_at _ _ _ _ _ _ _ _ n).trans ?_)
  refine congrArg (fun h => unitOf h (fun k => argWg m c (ix2 k n)) (fun k => argWu m c (ix2 k n))) (funext fun k => ?_)
  exact Cert.Reference2Ideal.Ffn.row_at _ _ _ _ _ _ k

/-- The reference's result is the program's. -/
theorem reference_eq : val_main_v43 (F := Ideal) (argX m c) (argG m c) (argShift m c) (argScale m c) (argGate m c) (argWg m c) (argWu m c) (argWd m c) (argF m c) = (Value.G9 m c : Vec Ideal S16384x2048 .f32) := by
  funext y
  obtain ⟨R, x, rfl⟩ : ∃ (R : Fin 16384) (x : Fin 2048), y = ix2 R x := ⟨y 0, y 1, eq_ix2 y⟩
  refine (Cert.Reference2Ideal.Ffn.result_at _ _ _ _ _ _ _ _ _ R x).trans ((?_ : _ = _).trans (result_at m c R x).symm)
  have eb : (⟨R.val / 4096, by omega⟩ : Fin 4) = batch ⟨R.val / 1024, by omega⟩ := Fin.ext (by show R.val / 4096 = R.val / 1024 / 4; omega)
  have ei : (⟨R.val % 4096, by omega⟩ : Fin 4096) = place ⟨R.val / 1024, by omega⟩ ⟨R.val % 1024, by omega⟩ :=
    Fin.ext (by show R.val % 4096 = 1024 * (R.val / 1024 % 4) + R.val % 1024; omega)
  rw [eb, ei]
  refine (Cert.Reference2Ideal.Ffn.final_at _ _ _ _ _ _ _ _ _ _ _ x).trans ?_
  exact congrArg (fun v => normed v (fun k => argF m c (ix1 k)) x) (funext fun k => joined_eq m c _ _ k)

/-- The claim: run on equal arguments, the program and the reference end with equal results. -/
theorem equal : Cert.algebraic_Kernel2Ideal_Reference2Ideal := by
  intro m g m' g' _ hm
  refine ⟨fun c => Value.G9 m c, Value.run m g, ?_⟩
  refine (θ_run Cert.Reference2Ideal.defs _ _).mono (fun r h c => ?_) (Cert.Reference2Ideal.Value.run m' g')
  obtain ⟨e0, e1, e2, e3, e4, e5, e6, e7, e8⟩ := hm c
  refine ⟨(h c).1.trans ?_, (h c).2⟩
  rw [val_main_v43_eq, e0, e1, e2, e3, e4, e5, e6, e7, e8]
  exact reference_eq m c

end Cert.Kernel2Ideal.Ffn

end

end
-- ==== Proof.FfnAPieces.lean ====
/-
What one step of the feed forward block leaves behind.

The block runs over eleven steps for each block of rows, one for each block of the hidden units.  The first step
leaves the modulated rows in the scratch buffer and the first product in the result's buffer; each later step adds
its product; the last one also adds the residual.  Here each step's leavings are written as
the printed terms of what the step read.
-/
module

public import proofs.«01_k».proof.Proof.Gen.Kernel3Ideal.Frame
public import Idealize.ShloMosaic.Lib.Pipeline.Value

@[expose] public section

open Idealize.ShloMosaic

namespace Cert.Kernel3Ideal.Ffn

open Cert.Kernel3Ideal Cert.Kernel3Ideal.Gen

variable {F : FTy → Type} [FloatOps F]

theorem hz2 : (![0, 0] : Fin 2 → Nat) = fun _ => 0 := funext fun a => by fin_cases a <;> rfl

theorem hz3 : (![0, 0, 0] : Fin 3 → Nat) = fun _ => 0 := funext fun a => by fin_cases a <;> rfl

/-- The first step leaves the modulated rows in the scratch buffer. -/
theorem scratch_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S512x2048 .bf16) (harg9 : arg9.IsWhole) (arg10 : Memref sig .tc .vmem S1024x2048 .f32) (harg10 : arg10.IsWhole) (arg11 : Memref sig .tc .vmem S1024x2048 .bf16) (harg11 : arg11.IsWhole) (hc0 : cond0_0 i) (hc1 : ¬cond0_1 i) (hc2 : ¬cond0_2 i) (x0 : Vec F S1024x2048 .f32) (x1 : Vec F S1x2048 .f32) (x2 : Vec F S1x1x2048 .f32) (x3 : Vec F S1x1x2048 .f32) (x4 : Vec F S1x1x2048 .f32) (x5 : Vec F S2048x512 .bf16) (x6 : Vec F S2048x512 .bf16) (x7 : Vec F S512x2048 .bf16) :
    sout0_A_0 c i arg2 harg2 arg3 harg3 arg4 harg4 arg5 harg5 arg6 harg6 arg7 harg7 arg8 harg8 arg9 harg9 arg10 harg10 arg11 harg11 hc0 hc1 hc2 x0 x1 x2 x3 x4 x5 x6 x7 =
      k0_pay5 x0 x1 x2 x3 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 hc2 x0 x1 x2 x3 x4 x5 x6 x7)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S1024x2048) hz2, View.ld_unit_zero (S := S1x2048) hz2, View.ld_unit_zero (S := S1x1x2048) hz3, View.ld_unit_zero (S := S2048x512) hz2, View.ld_unit_zero (S := S512x2048) hz2]

/-- The first step leaves the first product in the result's buffer. -/
theorem out_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S512x2048 .bf16) (harg9 : arg9.IsWhole) (arg10 : Memref sig .tc .vmem S1024x2048 .f32) (harg10 : arg10.IsWhole) (arg11 : Memref sig .tc .vmem S1024x2048 .bf16) (harg11 : arg11.IsWhole) (hc0 : cond0_0 i) (hc1 : ¬cond0_1 i) (hc2 : ¬cond0_2 i) (x0 : Vec F S1024x2048 .f32) (x1 : Vec F S1x2048 .f32) (x2 : Vec F S1x1x2048 .f32) (x3 : Vec F S1x1x2048 .f32) (x4 : Vec F S1x1x2048 .f32) (x5 : Vec F S2048x512 .bf16) (x6 : Vec F S2048x512 .bf16) (x7 : Vec F S512x2048 .bf16) :
    out0_A_8 c i arg2 harg2 arg3 harg3 arg4 harg4 arg5 harg5 arg6 harg6 arg7 harg7 arg8 harg8 arg9 harg9 arg10 harg10 arg11 harg11 hc0 hc1 hc2 x0 x1 x2 x3 x4 x5 x6 x7 =
      k0_pay1 (k0_pay5 x0 x1 x2 x3) (k0_pay6 (k0_pay5 x0 x1 x2 x3) x5) (k0_pay7 x6) (constant S1024x512 .f32 0x00000000#32) x7 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 hc0 hc1 hc2 x0 x1 x2 x3 x4 x5 x6 x7)]
  unfold kernelRun0_A
  dsimp only
  sl_unfold_words
  rw [View.canon_unit_zero hz2]
  simp only [View.readCov_unit_zero (S := S1024x2048) _ hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S1024x2048) hz2, View.ld_unit_zero (S := S1x2048) hz2, View.ld_unit_zero (S := S1x1x2048) hz3, View.ld_unit_zero (S := S2048x512) hz2, View.ld_unit_zero (S := S512x2048) hz2]

/-- A step in the middle adds its product to what the result's buffer held. -/
theorem out_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S512x2048 .bf16) (harg9 : arg9.IsWhole) (arg10 : Memref sig .tc .vmem S1024x2048 .f32) (harg10 : arg10.IsWhole) (arg11 : Memref sig .tc .vmem S1024x2048 .bf16) (harg11 : arg11.IsWhole) (hc0 : ¬cond0_0 i) (hc1 : cond0_1 i) (hc2 : ¬cond0_2 i) (x0 : Vec F S1024x2048 .f32) (x1 : Vec F S1x2048 .f32) (x2 : Vec F S1x1x2048 .f32) (x3 : Vec F S1x1x2048 .f32) (x4 : Vec F S1x1x2048 .f32) (x5 : Vec F S2048x512 .bf16) (x6 : Vec F S2048x512 .bf16) (x7 : Vec F S512x2048 .bf16) (xo : Vec F S1024x2048 .f32) (xs : Vec F S1024x2048 .bf16) :
    out0_B_8 c i arg2 harg2 arg3 harg3 arg4 harg4 arg5 harg5 arg6 harg6 arg7 harg7 arg8 harg8 arg9 harg9 arg10 harg10 arg11 harg11 hc0 hc1 hc2 x0 x1 x2 x3 x4 x5 x6 x7 xo xs =
      k0_pay2 xo xs x5 x6 x7 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 hc1 hc2 x0 x1 x2 x3 x4 x5 x6 x7 xo xs)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S1024x2048) hz2, View.ld_unit_zero (S := S1x2048) hz2, View.ld_unit_zero (S := S1x1x2048) hz3, View.ld_unit_zero (S := S2048x512) hz2, View.ld_unit_zero (S := S512x2048) hz2]

/-- A step in the middle leaves the scratch buffer as it was. -/
theorem scratch_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S512x2048 .bf16) (harg9 : arg9.IsWhole) (arg10 : Memref sig .tc .vmem S1024x2048 .f32) (harg10 : arg10.IsWhole) (arg11 : Memref sig .tc .vmem S1024x2048 .bf16) (harg11 : arg11.IsWhole) (hc0 : ¬cond0_0 i) (hc1 : cond0_1 i) (hc2 : ¬cond0_2 i) (x0 : Vec F S1024x2048 .f32) (x1 : Vec F S1x2048 .f32) (x2 : Vec F S1x1x2048 .f32) (x3 : Vec F S1x1x2048 .f32) (x4 : Vec F S1x1x2048 .f32) (x5 : Vec F S2048x512 .bf16) (x6 : Vec F S2048x512 .bf16) (x7 : Vec F S512x2048 .bf16) (xo : Vec F S1024x2048 .f32) (xs : Vec F S1024x2048 .bf16) :
    sout0_B_0 c i arg2 harg2 arg3 harg3 arg4 harg4 arg5 harg5 arg6 harg6 arg7 harg7 arg8 harg8 arg9 harg9 arg10 harg10 arg11 harg11 hc0 hc1 hc2 x0 x1 x2 x3 x4 x5 x6 x7 xo xs =
      xs := by
  rfl

/-- The last step adds its product, then the residual. -/
theorem out_C (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S512x2048 .bf16) (harg9 : arg9.IsWhole) (arg10 : Memref sig .tc .vmem S1024x2048 .f32) (harg10 : arg10.IsWhole) (arg11 : Memref sig .tc .vmem S1024x2048 .bf16) (harg11 : arg11.IsWhole) (hc0 : ¬cond0_0 i) (hc1 : ¬cond0_1 i) (hc2 : cond0_2 i) (x0 : Vec F S1024x2048 .f32) (x1 : Vec F S1x2048 .f32) (x2 : Vec F S1x1x2048 .f32) (x3 : Vec F S1x1x2048 .f32) (x4 : Vec F S1x1x2048 .f32) (x5 : Vec F S2048x512 .bf16) (x6 : Vec F S2048x512 .bf16) (x7 : Vec F S512x2048 .bf16) (xo : Vec F S1024x2048 .f32) (xs : Vec F S1024x2048 .bf16) :
    out0_C_8 c i arg2 harg2 arg3 harg3 arg4 harg4 arg5 harg5 arg6 harg6 arg7 harg7 arg8 harg8 arg9 harg9 arg10 harg10 arg11 harg11 hc0 hc1 hc2 x0 x1 x2 x3 x4 x5 x6 x7 xo xs =
      k0_pay4 x0 x4 (k0_pay3 xo xs x5 x6 x7) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 hc2 x0 x1 x2 x3 x4 x5 x6 x7 xo xs)]
  unfold kernelRun0_C
  dsimp only
  sl_unfold_words
  rw [View.canon_cons_unit_zero (S := S1024x2048) hz2]
  simp only [View.readCov_unit_zero (S := S1024x2048) _ hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S1024x2048) hz2, View.ld_unit_zero (S := S1x2048) hz2, View.ld_unit_zero (S := S1x1x2048) hz3, View.ld_unit_zero (S := S2048x512) hz2, View.ld_unit_zero (S := S512x2048) hz2]

/-- The last step leaves the scratch buffer as it was. -/
theorem scratch_C (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S512x2048 .bf16) (harg9 : arg9.IsWhole) (arg10 : Memref sig .tc .vmem S1024x2048 .f32) (harg10 : arg10.IsWhole) (arg11 : Memref sig .tc .vmem S1024x2048 .bf16) (harg11 : arg11.IsWhole) (hc0 : ¬cond0_0 i) (hc1 : ¬cond0_1 i) (hc2 : cond0_2 i) (x0 : Vec F S1024x2048 .f32) (x1 : Vec F S1x2048 .f32) (x2 : Vec F S1x1x2048 .f32) (x3 : Vec F S1x1x2048 .f32) (x4 : Vec F S1x1x2048 .f32) (x5 : Vec F S2048x512 .bf16) (x6 : Vec F S2048x512 .bf16) (x7 : Vec F S512x2048 .bf16) (xo : Vec F S1024x2048 .f32) (xs : Vec F S1024x2048 .bf16) :
    sout0_C_0 c i arg2 harg2 arg3 harg3 arg4 harg4 arg5 harg5 arg6 harg6 arg7 harg7 arg8 harg8 arg9 harg9 arg10 harg10 arg11 harg11 hc0 hc1 hc2 x0 x1 x2 x3 x4 x5 x6 x7 xo xs =
      xs := by
  rfl

end Cert.Kernel3Ideal.Ffn

end
-- ==== Proof.FfnAPoint.lean ====
/-
The printed terms of one step of the feed forward block, at an index: the first layer's block, with no last norm.
-/
module

public import proofs.«01_k».proof.Proof.FfnMath
public import proofs.«01_k».proof.Proof.FfnAPieces

@[expose] public section

noncomputable section

namespace Cert.Kernel3Ideal.Ffn

open Cert.Kernel3Ideal Cert.Kernel3Ideal.Gen Cert.FeedForward
open Idealize.ShloMosaic Idealize.ShloMosaic.TcCoe

/-- A sum along the last axis of a matrix, at an index. -/
theorem sum_last {n0 n1 : ℕ} (h : (⟨2, ![n0, n1]⟩ : Shape).Reduces [1] ⟨1, ![n0]⟩) (w : BitVec 32) (hw hz)
    (y : FVec Ideal ⟨2, ![n0, n1]⟩ .f32) (a : Fin n0) :
    multiReduction .add [1] ⟨1, ![n0]⟩ y w h hw hz (ix1 a) = ∑ k : Fin n1, y (ix2 a k) := by
  pointwise

/-- The modulated rows. -/
theorem rows_at (x : Vec Ideal S1024x2048 .f32) (g : Vec Ideal S1x2048 .f32) (b a : Vec Ideal S1x1x2048 .f32)
    (r : Fin 1024) (k : Fin 2048) :
    k0_pay5 (F := Ideal) x g b a (ix2 r k)
      = modulated (fun k => x (ix2 r k)) (fun k => g (ix2 0 k)) (fun k => a (ix3 0 0 k)) (fun k => b (ix3 0 0 k)) k := by
  unfold modulated meanSquare
  pointwise [k0_pay5]

/-- One hidden block's product. -/
theorem part_at (h : Vec Ideal S1024x2048 .bf16) (p q : Vec Ideal S2048x512 .bf16) (d : Vec Ideal S512x2048 .bf16)
    (r : Fin 1024) (x : Fin 2048) :
    k0_pay1 (F := Ideal) h (k0_pay6 h p) (k0_pay7 q) (constant S1024x512 .f32 0x00000000#32) d (ix2 r x)
      = ∑ n : Fin 512, unitOf (fun k => h (ix2 r k)) (fun k => p (ix2 k n)) (fun k => q (ix2 k n)) * d (ix2 n x) := by
  unfold unitOf
  pointwise [k0_pay1, k0_pay6, k0_pay7]

/-- One hidden block's product, added to what was there. -/
theorem more_at (o : Vec Ideal S1024x2048 .f32) (h : Vec Ideal S1024x2048 .bf16) (p q : Vec Ideal S2048x512 .bf16)
    (d : Vec Ideal S512x2048 .bf16) (r : Fin 1024) (x : Fin 2048) :
    k0_pay2 (F := Ideal) o h p q d (ix2 r x)
      = o (ix2 r x) + ∑ n : Fin 512, unitOf (fun k => h (ix2 r k)) (fun k => p (ix2 k n)) (fun k => q (ix2 k n)) * d (ix2 n x) := by
  unfold unitOf
  pointwise [k0_pay2]

/-- The last step adds its product the same way. -/
theorem last_eq : k0_pay3 (F := Ideal) = k0_pay2 (F := Ideal) := rfl

/-- The residual added. -/
theorem joined_at (x : Vec Ideal S1024x2048 .f32) (g : Vec Ideal S1x1x2048 .f32) (o : Vec Ideal S1024x2048 .f32)
    (r : Fin 1024) (k : Fin 2048) :
    k0_pay4 (F := Ideal) x g o (ix2 r k) = x (ix2 r k) + g (ix3 0 0 k) * o (ix2 r k) := by
  pointwise [k0_pay4]

end Cert.Kernel3Ideal.Ffn

end

end
-- ==== Proof.FfnAPlace.lean ====
/-
What each window of the feed forward block shows, in the arrays the program was launched with.

Point `11 * I + j` of the grid works on row block `I` and hidden block `j`.
-/
module

public import proofs.«01_k».proof.Proof.FfnAPoint
public import Idealize.ShloMosaic.Lib.Pipeline.Value
public import Idealize.ShloMosaic.Lib.StableHlo.RunRead

@[expose] public section

set_option maxRecDepth 16384

noncomputable section

namespace Cert.Kernel3Ideal.Ffn

open Cert.Kernel3Ideal Cert.Kernel3Ideal.Gen Cert.FeedForward
open Idealize.ShloMosaic Idealize.ShloMosaic.TcCoe

variable (m : (ℓ : Loc nD τ sig) → Buf (Elt Ideal) ℓ) (c : Dev nD)

/-! ## The arguments -/

abbrev argX : Vec Ideal S4x4096x2048 .f32 := m ((c.tc : Thread nD τ).loc main_arg0)
abbrev argG : Vec Ideal S2048 .f32 := m ((c.tc : Thread nD τ).loc main_arg1)
abbrev argShift : Vec Ideal S4x2048 .f32 := m ((c.tc : Thread nD τ).loc main_arg2)
abbrev argScale : Vec Ideal S4x2048 .f32 := m ((c.tc : Thread nD τ).loc main_arg3)
abbrev argGate : Vec Ideal S4x2048 .f32 := m ((c.tc : Thread nD τ).loc main_arg4)
abbrev argWg : Vec Ideal S2048x5632 .f32 := m ((c.tc : Thread nD τ).loc main_arg5)
abbrev argWu : Vec Ideal S2048x5632 .f32 := m ((c.tc : Thread nD τ).loc main_arg6)
abbrev argWd : Vec Ideal S5632x2048 .f32 := m ((c.tc : Thread nD τ).loc main_arg7)

/-! ## What the host hands the call -/

theorem host_v3 (R : Fin 16384) (k : Fin 2048) : (Gen.V m c main_v3 : Vec Ideal S16384x2048 .f32) (ix2 R k) = argX m c (ix3 ⟨R.val / 4096, by omega⟩ ⟨R.val % 4096, by omega⟩ k) := by
  after_reads_simp
  pointwise

theorem host_v7 (k : Fin 2048) : (Gen.V m c main_v7 : Vec Ideal S1x2048 .f32) (ix2 0 k) = argG m c (ix1 k) := by
  after_reads_simp
  pointwise

theorem host_v0 (b : Fin 4) (k : Fin 2048) : (Gen.V m c main_v0 : Vec Ideal S4x1x2048 .f32) (ix3 b 0 k) = argShift m c (ix2 b k) := by
  after_reads_simp
  pointwise

theorem host_v1 (b : Fin 4) (k : Fin 2048) : (Gen.V m c main_v1 : Vec Ideal S4x1x2048 .f32) (ix3 b 0 k) = argScale m c (ix2 b k) := by
  after_reads_simp
  pointwise

theorem host_v2 (b : Fin 4) (k : Fin 2048) : (Gen.V m c main_v2 : Vec Ideal S4x1x2048 .f32) (ix3 b 0 k) = argGate m c (ix2 b k) := by
  after_reads_simp
  pointwise

theorem host_v4 (k : Fin 2048) (n : Fin 5632) : (Gen.V m c main_v4 : Vec Ideal S2048x5632 .bf16) (ix2 k n) = argWg m c (ix2 k n) := by
  after_reads_simp
  pointwise

theorem host_v5 (k : Fin 2048) (n : Fin 5632) : (Gen.V m c main_v5 : Vec Ideal S2048x5632 .bf16) (ix2 k n) = argWu m c (ix2 k n) := by
  after_reads_simp
  pointwise

theorem host_v6 (k : Fin 5632) (n : Fin 2048) : (Gen.V m c main_v6 : Vec Ideal S5632x2048 .bf16) (ix2 k n) = argWd m c (ix2 k n) := by
  after_reads_simp
  pointwise

/-! ## Where each block sits -/

theorem index_0 : ∀ t : Fin grid0.N, win0_0.index t 0 = t.val / 11 ∧ win0_0.index t 1 = 0 := by
  decide +kernel

/-- Where the block of rows at point `t` sit. -/
theorem emb_0 (t : Fin grid0.N) (r : Fin 1024) (k : Fin 2048) : ((win0_0.rect t).emb ((ix2 r k) : S1024x2048.Idx) : S16384x2048.Idx)
    = (ix2 ⟨1024 * (t.val / 11) + r.val, by have h : t.val < 176 := t.isLt; omega⟩ k) := by
  have hi := index_0 t
  funext a
  apply Fin.ext
  refine (Pipeline.Window.rect_emb_val win0_0 t _ a rfl).trans ?_
  fin_cases a
  · show win0_0.index t 0 * 1024 + r.val = 1024 * (t.val / 11) + r.val
    omega
  · show win0_0.index t 1 * 2048 + k.val = k.val
    omega

theorem at_0 (t : Fin grid0.N) (r : Fin 1024) (k : Fin 2048) : (iblk m c 0 t : Vec Ideal S1024x2048 .f32) (ix2 r k)
    = (Gen.V m c main_v3 : Vec Ideal S16384x2048 .f32) (ix2 ⟨1024 * (t.val / 11) + r.val, by have h : t.val < 176 := t.isLt; omega⟩ k) :=
  congrArg (Gen.V m c main_v3 : Vec Ideal S16384x2048 .f32) (emb_0 t r k)

theorem index_1 : ∀ t : Fin grid0.N, win0_1.index t 0 = 0 ∧ win0_1.index t 1 = 0 := by
  decide +kernel

/-- Where the first norm's weights at point `t` sit. -/
theorem emb_1 (t : Fin grid0.N) (k : Fin 2048) : ((win0_1.rect t).emb ((ix2 0 k) : S1x2048.Idx) : S1x2048.Idx)
    = (ix2 0 k) := by
  have hi := index_1 t
  funext a
  apply Fin.ext
  refine (Pipeline.Window.rect_emb_val win0_1 t _ a rfl).trans ?_
  fin_cases a
  · show win0_1.index t 0 * 1 + 0 = 0
    omega
  · show win0_1.index t 1 * 2048 + k.val = k.val
    omega

theorem at_1 (t : Fin grid0.N) (k : Fin 2048) : (iblk m c 1 t : Vec Ideal S1x2048 .f32) (ix2 0 k)
    = (Gen.V m c main_v7 : Vec Ideal S1x2048 .f32) (ix2 0 k) :=
  congrArg (Gen.V m c main_v7 : Vec Ideal S1x2048 .f32) (emb_1 t k)

theorem index_2 : ∀ t : Fin grid0.N, win0_2.index t 0 = t.val / 44 ∧ win0_2.index t 1 = 0 ∧ win0_2.index t 2 = 0 := by
  decide +kernel

/-- Where the shift at point `t` sit. -/
theorem emb_2 (t : Fin grid0.N) (k : Fin 2048) : ((win0_2.rect t).emb ((ix3 0 0 k) : S1x1x2048.Idx) : S4x1x2048.Idx)
    = (ix3 ⟨t.val / 44, by have h : t.val < 176 := t.isLt; omega⟩ 0 k) := by
  have hi := index_2 t
  funext a
  apply Fin.ext
  refine (Pipeline.Window.rect_emb_val win0_2 t _ a rfl).trans ?_
  fin_cases a
  · show win0_2.index t 0 * 1 + 0 = t.val / 44
    omega
  · show win0_2.index t 1 * 1 + 0 = 0
    omega
  · show win0_2.index t 2 * 2048 + k.val = k.val
    omega

theorem at_2 (t : Fin grid0.N) (k : Fin 2048) : (iblk m c 2 t : Vec Ideal S1x1x2048 .f32) (ix3 0 0 k)
    = (Gen.V m c main_v0 : Vec Ideal S4x1x2048 .f32) (ix3 ⟨t.val / 44, by have h : t.val < 176 := t.isLt; omega⟩ 0 k) :=
  congrArg (Gen.V m c main_v0 : Vec Ideal S4x1x2048 .f32) (emb_2 t k)

theorem index_3 : ∀ t : Fin grid0.N, win0_3.index t 0 = t.val / 44 ∧ win0_3.index t 1 = 0 ∧ win0_3.index t 2 = 0 := by
  decide +kernel

/-- Where the scale at point `t` sit. -/
theorem emb_3 (t : Fin grid0.N) (k : Fin 2048) : ((win0_3.rect t).emb ((ix3 0 0 k) : S1x1x2048.Idx) : S4x1x2048.Idx)
    = (ix3 ⟨t.val / 44, by have h : t.val < 176 := t.isLt; omega⟩ 0 k) := by
  have hi := index_3 t
  funext a
  apply Fin.ext
  refine (Pipeline.Window.rect_emb_val win0_3 t _ a rfl).trans ?_
  fin_cases a
  · show win0_3.index t 0 * 1 + 0 = t.val / 44
    omega
  · show win0_3.index t 1 * 1 + 0 = 0
    omega
  · show win0_3.index t 2 * 2048 + k.val = k.val
    omega

theorem at_3 (t : Fin grid0.N) (k : Fin 2048) : (iblk m c 3 t : Vec Ideal S1x1x2048 .f32) (ix3 0 0 k)
    = (Gen.V m c main_v1 : Vec Ideal S4x1x2048 .f32) (ix3 ⟨t.val / 44, by have h : t.val < 176 := t.isLt; omega⟩ 0 k) :=
  congrArg (Gen.V m c main_v1 : Vec Ideal S4x1x2048 .f32) (emb_3 t k)

theorem index_4 : ∀ t : Fin grid0.N, win0_4.index t 0 = t.val / 44 ∧ win0_4.index t 1 = 0 ∧ win0_4.index t 2 = 0 := by
  decide +kernel

/-- Where the gate at point `t` sit. -/
theorem emb_4 (t : Fin grid0.N) (k : Fin 2048) : ((win0_4.rect t).emb ((ix3 0 0 k) : S1x1x2048.Idx) : S4x1x2048.Idx)
    = (ix3 ⟨t.val / 44, by have h : t.val < 176 := t.isLt; omega⟩ 0 k) := by
  have hi := index_4 t
  funext a
  apply Fin.ext
  refine (Pipeline.Window.rect_emb_val win0_4 t _ a rfl).trans ?_
  fin_cases a
  · show win0_4.index t 0 * 1 + 0 = t.val / 44
    omega
  · show win0_4.index t 1 * 1 + 0 = 0
    omega
  · show win0_4.index t 2 * 2048 + k.val = k.val
    omega

theorem at_4 (t : Fin grid0.N) (k : Fin 2048) : (iblk m c 4 t : Vec Ideal S1x1x2048 .f32) (ix3 0 0 k)
    = (Gen.V m c main_v2 : Vec Ideal S4x1x2048 .f32) (ix3 ⟨t.val / 44, by have h : t.val < 176 := t.isLt; omega⟩ 0 k) :=
  congrArg (Gen.V m c main_v2 : Vec Ideal S4x1x2048 .f32) (emb_4 t k)

theorem index_5 : ∀ t : Fin grid0.N, win0_5.index t 0 = 0 ∧ win0_5.index t 1 = t.val % 11 := by
  decide +kernel

/-- Where the gate weights at point `t` sit. -/
theorem emb_5 (t : Fin grid0.N) (k : Fin 2048) (n : Fin 512) : ((win0_5.rect t).emb ((ix2 k n) : S2048x512.Idx) : S2048x5632.Idx)
    = (ix2 k ⟨512 * (t.val % 11) + n.val, by have h : t.val < 176 := t.isLt; omega⟩) := by
  have hi := index_5 t
  funext a
  apply Fin.ext
  refine (Pipeline.Window.rect_emb_val win0_5 t _ a rfl).trans ?_
  fin_cases a
  · show win0_5.index t 0 * 2048 + k.val = k.val
    omega
  · show win0_5.index t 1 * 512 + n.val = 512 * (t.val % 11) + n.val
    omega

theorem at_5 (t : Fin grid0.N) (k : Fin 2048) (n : Fin 512) : (iblk m c 5 t : Vec Ideal S2048x512 .bf16) (ix2 k n)
    = (Gen.V m c main_v4 : Vec Ideal S2048x5632 .bf16) (ix2 k ⟨512 * (t.val % 11) + n.val, by have h : t.val < 176 := t.isLt; omega⟩) :=
  congrArg (Gen.V m c main_v4 : Vec Ideal S2048x5632 .bf16) (emb_5 t k n)

theorem index_6 : ∀ t : Fin grid0.N, win0_6.index t 0 = 0 ∧ win0_6.index t 1 = t.val % 11 := by
  decide +kernel

/-- Where the up weights at point `t` sit. -/
theorem emb_6 (t : Fin grid0.N) (k : Fin 2048) (n : Fin 512) : ((win0_6.rect t).emb ((ix2 k n) : S2048x512.Idx) : S2048x5632.Idx)
    = (ix2 k ⟨512 * (t.val % 11) + n.val, by have h : t.val < 176 := t.isLt; omega⟩) := by
  have hi := index_6 t
  funext a
  apply Fin.ext
  refine (Pipeline.Window.rect_emb_val win0_6 t _ a rfl).trans ?_
  fin_cases a
  · show win0_6.index t 0 * 2048 + k.val = k.val
    omega
  · show win0_6.index t 1 * 512 + n.val = 512 * (t.val % 11) + n.val
    omega

theorem at_6 (t : Fin grid0.N) (k : Fin 2048) (n : Fin 512) : (iblk m c 6 t : Vec Ideal S2048x512 .bf16) (ix2 k n)
    = (Gen.V m c main_v5 : Vec Ideal S2048x5632 .bf16) (ix2 k ⟨512 * (t.val % 11) + n.val, by have h : t.val < 176 := t.isLt; omega⟩) :=
  congrArg (Gen.V m c main_v5 : Vec Ideal S2048x5632 .bf16) (emb_6 t k n)

theorem index_7 : ∀ t : Fin grid0.N, win0_7.index t 0 = t.val % 11 ∧ win0_7.index t 1 = 0 := by
  decide +kernel

/-- Where the down weights at point `t` sit. -/
theorem emb_7 (t : Fin grid0.N) (n : Fin 512) (k : Fin 2048) : ((win0_7.rect t).emb ((ix2 n k) : S512x2048.Idx) : S5632x2048.Idx)
    = (ix2 ⟨512 * (t.val % 11) + n.val, by have h : t.val < 176 := t.isLt; omega⟩ k) := by
  have hi := index_7 t
  funext a
  apply Fin.ext
  refine (Pipeline.Window.rect_emb_val win0_7 t _ a rfl).trans ?_
  fin_cases a
  · show win0_7.index t 0 * 512 + n.val = 512 * (t.val % 11) + n.val
    omega
  · show win0_7.index t 1 * 2048 + k.val = k.val
    omega

theorem at_7 (t : Fin grid0.N) (n : Fin 512) (k : Fin 2048) : (iblk m c 7 t : Vec Ideal S512x2048 .bf16) (ix2 n k)
    = (Gen.V m c main_v6 : Vec Ideal S5632x2048 .bf16) (ix2 ⟨512 * (t.val % 11) + n.val, by have h : t.val < 176 := t.isLt; omega⟩ k) :=
  congrArg (Gen.V m c main_v6 : Vec Ideal S5632x2048 .bf16) (emb_7 t n k)

/-! ## The blocks at point `11 * I + j` -/

/-- The batch of row block `I`. -/
abbrev batch (I : Fin 16) : Fin 4 := ⟨I.val / 4, by omega⟩

/-- Row `r` of row block `I`, in its batch. -/
abbrev place (I : Fin 16) (r : Fin 1024) : Fin 4096 := ⟨1024 * (I.val % 4) + r.val, by omega⟩

/-- Hidden unit `n` of hidden block `j`. -/
abbrev unitAt (j : Fin 11) (n : Fin 512) : Fin 5632 := ⟨512 * j.val + n.val, by omega⟩

variable {t : Fin grid0.N} {I : Fin 16} {j : Fin 11}

theorem blk_0 (h : t.val = 11 * I.val + j.val) (r : Fin 1024) (k : Fin 2048) :
    (iblk m c 0 t : Vec Ideal S1024x2048 .f32) (ix2 r k) = argX m c (ix3 (batch I) (place I r) k) := by
  rw [at_0, host_v3]
  refine congrArg (argX m c) (congrArg₂ (fun b i => ix3 b i k) (Fin.ext ?_) (Fin.ext ?_))
  · show (1024 * (t.val / 11) + r.val) / 4096 = I.val / 4
    omega
  · show (1024 * (t.val / 11) + r.val) % 4096 = 1024 * (I.val % 4) + r.val
    omega

theorem blk_1 (k : Fin 2048) : (iblk m c 1 t : Vec Ideal S1x2048 .f32) (ix2 0 k) = argG m c (ix1 k) := by
  rw [at_1, host_v7]

theorem blk_2 (h : t.val = 11 * I.val + j.val) (k : Fin 2048) :
    (iblk m c 2 t : Vec Ideal S1x1x2048 .f32) (ix3 0 0 k) = argShift m c (ix2 (batch I) k) := by
  rw [at_2, host_v0]
  refine congrArg (argShift m c) (congrArg (fun b => ix2 b k) (Fin.ext ?_))
  show t.val / 44 = I.val / 4
  omega

theorem blk_3 (h : t.val = 11 * I.val + j.val) (k : Fin 2048) :
    (iblk m c 3 t : Vec Ideal S1x1x2048 .f32) (ix3 0 0 k) = argScale m c (ix2 (batch I) k) := by
  rw [at_3, host_v1]
  refine congrArg (argScale m c) (congrArg (fun b => ix2 b k) (Fin.ext ?_))
  show t.val / 44 = I.val / 4
  omega

theorem blk_4 (h : t.val = 11 * I.val + j.val) (k : Fin 2048) :
    (iblk m c 4 t : Vec Ideal S1x1x2048 .f32) (ix3 0 0 k) = argGate m c (ix2 (batch I) k) := by
  rw [at_4, host_v2]
  refine congrArg (argGate m c) (congrArg (fun b => ix2 b k) (Fin.ext ?_))
  show t.val / 44 = I.val / 4
  omega

theorem blk_5 (h : t.val = 11 * I.val + j.val) (k : Fin 2048) (n : Fin 512) :
    (iblk m c 5 t : Vec Ideal S2048x512 .bf16) (ix2 k n) = argWg m c (ix2 k (unitAt j n)) := by
  rw [at_5, host_v4]
  refine congrArg (argWg m c) (congrArg (fun x => ix2 k x) (Fin.ext ?_))
  show 512 * (t.val % 11) + n.val = 512 * j.val + n.val
  omega

theorem blk_6 (h : t.val = 11 * I.val + j.val) (k : Fin 2048) (n : Fin 512) :
    (iblk m c 6 t : Vec Ideal S2048x512 .bf16) (ix2 k n) = argWu m c (ix2 k (unitAt j n)) := by
  rw [at_6, host_v5]
  refine congrArg (argWu m c) (congrArg (fun x => ix2 k x) (Fin.ext ?_))
  show 512 * (t.val % 11) + n.val = 512 * j.val + n.val
  omega

theorem blk_7 (h : t.val = 11 * I.val + j.val) (n : Fin 512) (k : Fin 2048) :
    (iblk m c 7 t : Vec Ideal S512x2048 .bf16) (ix2 n k) = argWd m c (ix2 (unitAt j n) k) := by
  rw [at_7, host_v6]
  refine congrArg (argWd m c) (congrArg (fun x => ix2 x k) (Fin.ext ?_))
  show 512 * (t.val % 11) + n.val = 512 * j.val + n.val
  omega

end Cert.Kernel3Ideal.Ffn

end

end
-- ==== Proof.FfnAArray.lean ====
/-
What the feed forward block leaves in its result.

Over the eleven points of a row block the scratch buffer holds the modulated rows and the result's buffer the sum over
the hidden blocks so far; the eleventh point adds the residual.
-/
module

public import proofs.«01_k».proof.Proof.FfnAPlace
public import proofs.«01_k».proof.Proof.Gen.Kernel3Ideal.Value

@[expose] public section

set_option maxRecDepth 16384

noncomputable section

namespace Cert.Kernel3Ideal.Ffn

open Cert.Kernel3Ideal Cert.Kernel3Ideal.Gen Cert.FeedForward
open Idealize.ShloMosaic Idealize.ShloMosaic.TcCoe

variable (m : (ℓ : Loc nD τ sig) → Buf (Elt Ideal) ℓ) (c : Dev nD)

/-- The modulated row. -/
def row (I : Fin 16) (r : Fin 1024) : Fin 2048 → EReal :=
  modulated (fun k => argX m c (ix3 (batch I) (place I r) k)) (fun k => argG m c (ix1 k))
    (fun k => argScale m c (ix2 (batch I) k)) (fun k => argShift m c (ix2 (batch I) k))

/-- What hidden unit `n` adds to entry `x` of the row. -/
def term (I : Fin 16) (r : Fin 1024) (x : Fin 2048) (n : Fin 5632) : EReal :=
  unitOf (row m c I r) (fun k => argWg m c (ix2 k n)) (fun k => argWu m c (ix2 k n)) * argWd m c (ix2 n x)

/-- The row with the residual added. -/
def joined (I : Fin 16) (r : Fin 1024) (x : Fin 2048) : EReal :=
  argX m c (ix3 (batch I) (place I r) x) + argGate m c (ix2 (batch I) x) * ∑ n, term m c I r x n

variable {t : Fin grid0.N} {I : Fin 16} {j : Fin 11}

theorem row_at (h : t.val = 11 * I.val + j.val) (r : Fin 1024) (k : Fin 2048) :
    k0_pay5 (F := Ideal) (iblk m c 0 t) (iblk m c 1 t) (iblk m c 2 t) (iblk m c 3 t) (ix2 r k) = row m c I r k := by
  refine (rows_at _ _ _ _ r k).trans ?_
  unfold row
  congr 1
  · exact funext fun k => blk_0 m c h r k
  · exact funext fun k => blk_1 m c k
  · exact funext fun k => blk_3 m c h k
  · exact funext fun k => blk_2 m c h k

theorem term_at (h : t.val = 11 * I.val + j.val) (s : Vec Ideal S1024x2048 .bf16) (r : Fin 1024)
    (hs : ∀ k, s (ix2 r k) = row m c I r k) (x : Fin 2048) (n : Fin 512) :
    unitOf (fun k => s (ix2 r k)) (fun k => (iblk m c 5 t : Vec Ideal S2048x512 .bf16) (ix2 k n))
        (fun k => (iblk m c 6 t : Vec Ideal S2048x512 .bf16) (ix2 k n)) * (iblk m c 7 t : Vec Ideal S512x2048 .bf16) (ix2 n x)
      = term m c I r x (unitAt j n) := by
  unfold term
  congr 1
  · congr 1
    · exact funext hs
    · exact funext fun k => blk_5 m c h k n
    · exact funext fun k => blk_6 m c h k n
  · exact blk_7 m c h n x

theorem points : cfg0.N = 176 := N_0

/-- Point `11 * I + j` of the grid. -/
theorem bound (I : Fin 16) (j : ℕ) (hj : j < 11) : 11 * I.val + j < cfg0.N := by
  have := I.isLt
  rw [points]
  omega

/-- After the first ten points: the modulated rows, and the sum over the hidden blocks so far. -/
theorem swept (I : Fin 16) (r : Fin 1024) : ∀ (j : ℕ) (hj : j < 10),
    (∀ k : Fin 2048, (outsAt0 m c (11 * I.val + j) (bound I j (by omega))).2 (ix2 r k) = row m c I r k)
    ∧ ∀ x : Fin 2048, (outsAt0 m c (11 * I.val + j) (bound I j (by omega))).1 (ix2 r x) = blocks (term m c I r x) (j + 1)
  | 0, hj => by
    have e := outsAt0_A m c ⟨11 * I.val + 0, bound I 0 (by omega)⟩ (by dsimp only; omega) (by dsimp only; omega) (by dsimp only; omega)
    dsimp only at e
    rw [e, scratch_A, out_A]
    have h : (⟨11 * I.val + 0, bound I 0 (by omega)⟩ : Fin grid0.N).val = 11 * I.val + (0 : Fin 11).val := rfl
    refine ⟨fun k => row_at m c h r k, fun x => ?_⟩
    refine (part_at _ _ _ _ r x).trans ?_
    rw [blocks_succ _ 0 (by omega), blocks_zero, zero_add]
    exact Finset.sum_congr rfl fun n _ => term_at m c h _ r (fun k => row_at m c h r k) x n
  | j + 1, hj => by
    obtain ⟨hs, ho⟩ := swept I r j (by omega)
    have e := outsAt0_B m c ⟨11 * I.val + (j + 1), bound I (j + 1) (by omega)⟩ (by dsimp only; omega) (by dsimp only; omega) (by dsimp only; omega)
    dsimp only at e
    rw [e, scratch_B, out_B]
    have h : (⟨11 * I.val + (j + 1), bound I (j + 1) (by omega)⟩ : Fin grid0.N).val = 11 * I.val + (⟨j + 1, by omega⟩ : Fin 11).val := rfl
    refine ⟨hs, fun x => ?_⟩
    refine (more_at _ _ _ _ _ r x).trans ?_
    rw [blocks_succ _ (j + 1) (by omega)]
    refine congrArg₂ (· + ·) (ho x) (Finset.sum_congr rfl fun n _ => ?_)
    exact term_at m c h _ r hs x n

/-- The result, at row `r` of row block `I`: the residual added. -/
theorem ended (I : Fin 16) (r : Fin 1024) (x : Fin 2048) :
    (outsAt0 m c (11 * I.val + 10) (bound I 10 (by omega))).1 (ix2 r x) = joined m c I r x := by
  obtain ⟨hs, ho⟩ := swept m c I r 9 (by omega)
  have e := outsAt0_C m c ⟨11 * I.val + 10, bound I 10 (by omega)⟩ (by dsimp only; omega) (by dsimp only; omega) (by dsimp only; omega)
  dsimp only at e
  rw [e, out_C]
  have h : (⟨11 * I.val + 10, bound I 10 (by omega)⟩ : Fin grid0.N).val = 11 * I.val + (10 : Fin 11).val := rfl
  refine (joined_at _ _ _ r x).trans ?_
  unfold joined
  refine congrArg₂ (· + ·) (blk_0 m c h r x) (congrArg₂ (· * ·) (blk_4 m c h x) ?_)
  rw [last_eq]
  refine (more_at _ _ _ _ _ r x).trans ?_
  rw [← blocks_all, blocks_succ _ 10 (by omega)]
  refine congrArg₂ (· + ·) (ho x) (Finset.sum_congr rfl fun n _ => ?_)
  exact term_at m c h _ r hs x n

/-- The result array, at row `R`. -/
theorem result_at (R : Fin 16384) (x : Fin 2048) :
    (Value.G8 m c : Vec Ideal S16384x2048 .f32) (ix2 R x)
      = joined m c ⟨R.val / 1024, by omega⟩ ⟨R.val % 1024, by omega⟩ x := by
  have hb := bound ⟨R.val / 1024, by omega⟩ 10 (by omega)
  have hp : Value.pt8Of (ix2 R x) = 11 * (R.val / 1024) + 10 := by
    show 11 * (1 * (R.val / 1024 - 0) + 1 * (x.val / 2048 - 0)) + 10 = _
    omega
  have hl : Value.loc8Of (ix2 R x) = (ix2 ⟨R.val % 1024, by omega⟩ x : S1024x2048.Idx) := by
    funext a
    apply Fin.ext
    fin_cases a
    · rfl
    · exact Nat.mod_eq_of_lt x.isLt
  unfold Value.G8
  rw [dif_pos (lt_of_eq_of_lt hp hb), hl]
  rw [Value.fold0_congr m c _ _ (11 * (R.val / 1024) + 10) (by rw [zero_add]; exact hb) hp, ← Value.outsAt0_sweep m c _ hb]
  exact ended m c ⟨R.val / 1024, by omega⟩ ⟨R.val % 1024, by omega⟩ x

end Cert.Kernel3Ideal.Ffn

end

end
-- ==== Proof.FfnAEqual.lean ====
/-
The feed forward block of the program ends with the reference's.
-/
module

public import proofs.«01_k».proof.Defs
public import proofs.«01_k».proof.Proof.FfnAArray
public import proofs.«01_k».proof.Proof.Gen.Reference3Ideal.Read

@[expose] public section

set_option maxRecDepth 16384

noncomputable section

namespace Cert.Reference3Ideal.Ffn

open Cert.Reference3Ideal Cert.Reference3Ideal.Gen Cert.Reference3Ideal.Read Cert.FeedForward
open Idealize.ShloMosaic Idealize.ShloMosaic.TcCoe

/-- A host sum over the last axis, at an index. -/
theorem sum_last {n0 n1 n2 : ℕ} {u : Shape} (h : (⟨3, ![n0, n1, n2]⟩ : Shape).ReducesTo [2] ⟨2, ![n0, n1]⟩) (hu : 0 < u.numel)
    (y : FVec Ideal ⟨3, ![n0, n1, n2]⟩ .f32) (a : Fin n0) (b : Fin n1) :
    Host.reduceAdd y (constant u .f32 0x00000000#32) h hu (ix2 a b) = ∑ k : Fin n2, y (ix3 a b k) := by
  pointwise

variable (x0 : Vec Ideal S4x4096x2048 .f32) (x1 : Vec Ideal S2048 .f32) (x2 x3 x4 : Vec Ideal S4x2048 .f32)
variable (x5 x6 : Vec Ideal S2048x5632 .f32) (x7 : Vec Ideal S5632x2048 .f32)

theorem square_at (b : Fin 4) (i : Fin 4096) :
    val_main_v1 (F := Ideal) x0 (ix2 b i) = ∑ k : Fin 2048, x0 (ix3 b i k) * x0 (ix3 b i k) := by
  unfold val_main_v1
  exact sum_last _ _ _ b i

/-- The modulated rows. -/
theorem row_at (b : Fin 4) (i : Fin 4096) (k : Fin 2048) :
    val_main_v20 (F := Ideal) x0 x1 x2 x3 (ix3 b i k)
      = modulated (fun k => x0 (ix3 b i k)) (fun k => x1 (ix1 k)) (fun k => x3 (ix2 b k)) (fun k => x2 (ix2 b k)) k := by
  unfold modulated meanSquare
  rw [← square_at, ← mul_assoc]
  pointwise [val_main_v20, val_main_v19, val_main_v18, val_main_v17, val_main_v16, val_main_v15, val_main_v14, val_main_cst_2, val_main_v13, val_main_v12, val_main_v11, val_main_v10, val_main_v9, val_main_v8, val_main_v7, val_main_v6, val_main_v5, val_main_cst_1, val_main_v4, val_main_v3, val_main_cst_0, val_main_v2]

/-- The hidden units. -/
theorem unit_at (b : Fin 4) (i : Fin 4096) (n : Fin 5632) :
    val_main_v24 (F := Ideal) x0 x1 x2 x3 x5 x6 (ix3 b i n)
      = unitOf (fun k => val_main_v20 (F := Ideal) x0 x1 x2 x3 (ix3 b i k)) (fun k => x5 (ix2 k n)) (fun k => x6 (ix2 k n)) := by
  unfold unitOf Ideal.logistic
  pointwise [val_main_v24, val_main_v23, val_main_v22, val_main_call0_v5, val_main_call0_v4, val_main_call0_cst_0, val_main_call0_v3, val_main_call0_v2, val_main_call0_cst, val_main_call0_v1, val_main_call0_v0, val_main_v21]

/-- The residual added. -/
theorem joined_at (b : Fin 4) (i : Fin 4096) (x : Fin 2048) :
    val_main_v29 (F := Ideal) x0 x1 x2 x3 x4 x5 x6 x7 (ix3 b i x)
      = x0 (ix3 b i x) + x4 (ix2 b x) * ∑ n : Fin 5632, val_main_v24 (F := Ideal) x0 x1 x2 x3 x5 x6 (ix3 b i n) * x7 (ix2 n x) := by
  pointwise [val_main_v29, val_main_v28, val_main_v27, val_main_v26, val_main_v25]

theorem result_at (R : Fin 16384) (x : Fin 2048) :
    val_main_v30 (F := Ideal) x0 x1 x2 x3 x4 x5 x6 x7 (ix2 R x)
      = val_main_v29 (F := Ideal) x0 x1 x2 x3 x4 x5 x6 x7 (ix3 ⟨R.val / 4096, by omega⟩ ⟨R.val % 4096, by omega⟩ x) := by
  pointwise [val_main_v30]

end Cert.Reference3Ideal.Ffn

namespace Cert.Kernel3Ideal.Ffn

open Cert.Kernel3Ideal Cert.Kernel3Ideal.Gen Cert.FeedForward Cert.Reference3Ideal.Read
open Idealize.ShloMosaic Idealize.ShloMosaic.TcCoe Idealize.SL.Sem

variable (m : (ℓ : Loc nD τ sig) → Buf (Elt Ideal) ℓ) (c : Dev nD)

/-- The reference's row with the residual added is the program's. -/
theorem joined_eq (I : Fin 16) (r : Fin 1024) (x : Fin 2048) :
    val_main_v29 (F := Ideal) (argX m c) (argG m c) (argShift m c) (argScale m c) (argGate m c) (argWg m c) (argWu m c) (argWd m c) (ix3 (batch I) (place I r) x) = joined m c I r x := by
  rw [Cert.Reference3Ideal.Ffn.joined_at]
  unfold joined
  refine congrArg (fun s => argX m c (ix3 (batch I) (place I r) x) + argGate m c (ix2 (batch I) x) * s) (Finset.sum_congr rfl fun n _ => ?_)
  unfold term
  refine congrArg (· * argWd m c (ix2 n x)) ((Cert.Reference3Ideal.Ffn.unit_at _ _ _ _ _ _ _ _ n).trans ?_)
  refine congrArg (fun h => unitOf h (fun k => argWg m c (ix2 k n)) (fun k => argWu m c (ix2 k n))) (funext fun k => ?_)
  exact Cert.Reference3Ideal.Ffn.row_at _ _ _ _ _ _ k

/-- The reference's result is the program's. -/
theorem reference_eq : val_main_v30 (F := Ideal) (argX m c) (argG m c) (argShift m c) (argScale m c) (argGate m c) (argWg m c) (argWu m c) (argWd m c) = (Value.G8 m c : Vec Ideal S16384x2048 .f32) := by
  funext y
  obtain ⟨R, x, rfl⟩ : ∃ (R : Fin 16384) (x : Fin 2048), y = ix2 R x := ⟨y 0, y 1, eq_ix2 y⟩
  refine (Cert.Reference3Ideal.Ffn.result_at _ _ _ _ _ _ _ _ R x).trans ((?_ : _ = _).trans (result_at m c R x).symm)
  have eb : (⟨R.val / 4096, by omega⟩ : Fin 4) = batch ⟨R.val / 1024, by omega⟩ := Fin.ext (by show R.val / 4096 = R.val / 1024 / 4; omega)
  have ei : (⟨R.val % 4096, by omega⟩ : Fin 4096) = place ⟨R.val / 1024, by omega⟩ ⟨R.val % 1024, by omega⟩ :=
    Fin.ext (by show R.val % 4096 = 1024 * (R.val / 1024 % 4) + R.val % 1024; omega)
  rw [eb, ei]
  exact joined_eq m c _ _ x

/-- The claim: run on equal arguments, the program and the reference end with equal results. -/
theorem equal : Cert.algebraic_Kernel3Ideal_Reference3Ideal := by
  intro m g m' g' _ hm
  refine ⟨fun c => Value.G8 m c, Value.run m g, ?_⟩
  refine (θ_run Cert.Reference3Ideal.defs _ _).mono (fun r h c => ?_) (Cert.Reference3Ideal.Value.run m' g')
  obtain ⟨e0, e1, e2, e3, e4, e5, e6, e7⟩ := hm c
  refine ⟨(h c).1.trans ?_, (h c).2⟩
  rw [val_main_v30_eq, e0, e1, e2, e3, e4, e5, e6, e7]
  exact reference_eq m c

end Cert.Kernel3Ideal.Ffn

end

end
-- ==== Proof.Project.lean ====
/-
The output projection of a layer's first half: what its call leaves, and that the reference ends with the same.

Point `t` of the grid works on rows `1024 * t` to `1024 * t + 1023`.
-/
module

public import proofs.«01_k».proof.Defs
public import proofs.«01_k».proof.Proof.Gen.Kernel4Ideal.Value
public import proofs.«01_k».proof.Proof.Gen.Reference4Ideal.Read
public import Idealize.ShloMosaic.Lib.Pointwise
public import Idealize.ShloMosaic.Lib.Pipeline.Value
public import Idealize.ShloMosaic.Lib.StableHlo.RunRead

@[expose] public section

set_option maxRecDepth 16384

noncomputable section

namespace Cert.Kernel4Ideal.Project

open Cert.Kernel4Ideal Cert.Kernel4Ideal.Gen
open Idealize.ShloMosaic Idealize.ShloMosaic.TcCoe Idealize.SL.Sem

variable (m : (ℓ : Loc nD τ sig) → Buf (Elt Ideal) ℓ) (c : Dev nD)

theorem hz2 : (![0, 0] : Fin 2 → Nat) = fun _ => 0 := funext fun a => by fin_cases a <;> rfl

theorem hz3 : (![0, 0, 0] : Fin 3 → Nat) = fun _ => 0 := funext fun a => by fin_cases a <;> rfl

/-! ## The arguments, and what the host hands the call -/

abbrev argX : Vec Ideal S4x4096x2048 .f32 := m ((c.tc : Thread nD τ).loc main_arg0)
abbrev argO : Vec Ideal S4x4096x2048 .f32 := m ((c.tc : Thread nD τ).loc main_arg1)
abbrev argW : Vec Ideal S2048x2048 .f32 := m ((c.tc : Thread nD τ).loc main_arg2)
abbrev argGate : Vec Ideal S4x2048 .f32 := m ((c.tc : Thread nD τ).loc main_arg3)

theorem host_v0 (R : Fin 16384) (k : Fin 2048) : (Gen.V m c main_v0 : Vec Ideal S16384x2048 .f32) (ix2 R k) = argX m c (ix3 ⟨R.val / 4096, by omega⟩ ⟨R.val % 4096, by omega⟩ k) := by
  after_reads_simp
  pointwise

theorem host_v2 (R : Fin 16384) (k : Fin 2048) : (Gen.V m c main_v2 : Vec Ideal S16384x2048 .bf16) (ix2 R k) = argO m c (ix3 ⟨R.val / 4096, by omega⟩ ⟨R.val % 4096, by omega⟩ k) := by
  after_reads_simp
  pointwise

theorem host_v3 (k n : Fin 2048) : (Gen.V m c main_v3 : Vec Ideal S2048x2048 .bf16) (ix2 k n) = argW m c (ix2 k n) := by
  after_reads_simp
  pointwise

theorem host_v4 (b : Fin 4) (k : Fin 2048) : (Gen.V m c main_v4 : Vec Ideal S4x1x2048 .f32) (ix3 b 0 k) = argGate m c (ix2 b k) := by
  after_reads_simp
  pointwise

/-! ## Where each block sits -/

theorem flush_4 (t : Fin cfg0.N) : (cfg0.win 4).flush t = true := flush0_4 t

theorem index_0 : ∀ t : Fin grid0.N, win0_0.index t 0 = t.val ∧ win0_0.index t 1 = 0 := by
  decide +kernel

/-- Where the block of rows at point `t` sits. -/
theorem emb_0 (t : Fin grid0.N) (r : Fin 1024) (k : Fin 2048) : ((win0_0.rect t).emb ((ix2 r k) : S1024x2048.Idx) : S16384x2048.Idx)
    = (ix2 ⟨1024 * (t.val) + r.val, by have h : t.val < 16 := t.isLt; omega⟩ k) := by
  have hi := index_0 t
  funext a
  apply Fin.ext
  refine (Pipeline.Window.rect_emb_val win0_0 t _ a rfl).trans ?_
  fin_cases a
  · show win0_0.index t 0 * 1024 + r.val = 1024 * (t.val) + r.val
    omega
  · show win0_0.index t 1 * 2048 + k.val = k.val
    omega

theorem at_0 (t : Fin grid0.N) (r : Fin 1024) (k : Fin 2048) : (iblk m c 0 t : Vec Ideal S1024x2048 .f32) (ix2 r k)
    = (Gen.V m c main_v0 : Vec Ideal S16384x2048 .f32) (ix2 ⟨1024 * (t.val) + r.val, by have h : t.val < 16 := t.isLt; omega⟩ k) :=
  congrArg (Gen.V m c main_v0 : Vec Ideal S16384x2048 .f32) (emb_0 t r k)

theorem index_1 : ∀ t : Fin grid0.N, win0_1.index t 0 = t.val ∧ win0_1.index t 1 = 0 := by
  decide +kernel

/-- Where the block of the attention's rows at point `t` sits. -/
theorem emb_1 (t : Fin grid0.N) (r : Fin 1024) (k : Fin 2048) : ((win0_1.rect t).emb ((ix2 r k) : S1024x2048.Idx) : S16384x2048.Idx)
    = (ix2 ⟨1024 * (t.val) + r.val, by have h : t.val < 16 := t.isLt; omega⟩ k) := by
  have hi := index_1 t
  funext a
  apply Fin.ext
  refine (Pipeline.Window.rect_emb_val win0_1 t _ a rfl).trans ?_
  fin_cases a
  · show win0_1.index t 0 * 1024 + r.val = 1024 * (t.val) + r.val
    omega
  · show win0_1.index t 1 * 2048 + k.val = k.val
    omega

theorem at_1 (t : Fin grid0.N) (r : Fin 1024) (k : Fin 2048) : (iblk m c 1 t : Vec Ideal S1024x2048 .bf16) (ix2 r k)
    = (Gen.V m c main_v2 : Vec Ideal S16384x2048 .bf16) (ix2 ⟨1024 * (t.val) + r.val, by have h : t.val < 16 := t.isLt; omega⟩ k) :=
  congrArg (Gen.V m c main_v2 : Vec Ideal S16384x2048 .bf16) (emb_1 t r k)

theorem index_2 : ∀ t : Fin grid0.N, win0_2.index t 0 = 0 ∧ win0_2.index t 1 = 0 := by
  decide +kernel

/-- Where the weights at point `t` sits. -/
theorem emb_2 (t : Fin grid0.N) (k : Fin 2048) (n : Fin 2048) : ((win0_2.rect t).emb ((ix2 k n) : S2048x2048.Idx) : S2048x2048.Idx)
    = (ix2 k n) := by
  have hi := index_2 t
  funext a
  apply Fin.ext
  refine (Pipeline.Window.rect_emb_val win0_2 t _ a rfl).trans ?_
  fin_cases a
  · show win0_2.index t 0 * 2048 + k.val = k.val
    omega
  · show win0_2.index t 1 * 2048 + n.val = n.val
    omega

theorem at_2 (t : Fin grid0.N) (k : Fin 2048) (n : Fin 2048) : (iblk m c 2 t : Vec Ideal S2048x2048 .bf16) (ix2 k n)
    = (Gen.V m c main_v3 : Vec Ideal S2048x2048 .bf16) (ix2 k n) :=
  congrArg (Gen.V m c main_v3 : Vec Ideal S2048x2048 .bf16) (emb_2 t k n)

theorem index_3 : ∀ t : Fin grid0.N, win0_3.index t 0 = t.val / 4 ∧ win0_3.index t 1 = 0 ∧ win0_3.index t 2 = 0 := by
  decide +kernel

/-- Where the gate at point `t` sits. -/
theorem emb_3 (t : Fin grid0.N) (k : Fin 2048) : ((win0_3.rect t).emb ((ix3 0 0 k) : S1x1x2048.Idx) : S4x1x2048.Idx)
    = (ix3 ⟨t.val / 4, by have h : t.val < 16 := t.isLt; omega⟩ 0 k) := by
  have hi := index_3 t
  funext a
  apply Fin.ext
  refine (Pipeline.Window.rect_emb_val win0_3 t _ a rfl).trans ?_
  fin_cases a
  · show win0_3.index t 0 * 1 + 0 = t.val / 4
    omega
  · show win0_3.index t 1 * 1 + 0 = 0
    omega
  · show win0_3.index t 2 * 2048 + k.val = k.val
    omega

theorem at_3 (t : Fin grid0.N) (k : Fin 2048) : (iblk m c 3 t : Vec Ideal S1x1x2048 .f32) (ix3 0 0 k)
    = (Gen.V m c main_v4 : Vec Ideal S4x1x2048 .f32) (ix3 ⟨t.val / 4, by have h : t.val < 16 := t.isLt; omega⟩ 0 k) :=
  congrArg (Gen.V m c main_v4 : Vec Ideal S4x1x2048 .f32) (emb_3 t k)

theorem index_4 : ∀ t : Fin grid0.N, win0_4.index t 0 = t.val ∧ win0_4.index t 1 = 0 := by
  decide +kernel

/-- Where the result's block at point `t` sits. -/
theorem emb_4 (t : Fin grid0.N) (r : Fin 1024) (k : Fin 2048) : ((win0_4.rect t).emb ((ix2 r k) : S1024x2048.Idx) : S16384x2048.Idx)
    = (ix2 ⟨1024 * (t.val) + r.val, by have h : t.val < 16 := t.isLt; omega⟩ k) := by
  have hi := index_4 t
  funext a
  apply Fin.ext
  refine (Pipeline.Window.rect_emb_val win0_4 t _ a rfl).trans ?_
  fin_cases a
  · show win0_4.index t 0 * 1024 + r.val = 1024 * (t.val) + r.val
    omega
  · show win0_4.index t 1 * 2048 + k.val = k.val
    omega

theorem left_4 (t : Fin grid0.N) (r : Fin 1024) (k : Fin 2048) : ((dats m 0 c).arrAt 4 cfg0.N : Vec Ideal S16384x2048 .f32) (ix2 ⟨1024 * (t.val) + r.val, by have h : t.val < 16 := t.isLt; omega⟩ k)
    = ((dats m 0 c).flushed 4 t : Vec Ideal S1024x2048 .f32) (ix2 r k) := by
  rw [← Value.blocks4 m c t (flush_4 t)]
  exact (congrArg ((dats m 0 c).arrAt 4 cfg0.N : Vec Ideal S16384x2048 .f32) (emb_4 t r k)).symm

/-! ## The body, and the array it leaves -/

theorem body_eq (x0 : Vec Ideal S1024x2048 .f32) (x1 : Vec Ideal S1024x2048 .bf16) (x2 : Vec Ideal S2048x2048 .bf16)
    (x3 : Vec Ideal S1x1x2048 .f32) : out0_4 (F := Ideal) x0 x1 x2 x3 = k0_pay1 x1 x2 x0 x3 := by
  unfold out0_4
  rw [View.canon_unit_zero hz2]
  simp only [View.ld_unit_zero (S := S1024x2048) hz2, View.ld_unit_zero (S := S2048x2048) hz2, View.ld_unit_zero (S := S1x1x2048) hz3]

theorem body_at (x0 : Vec Ideal S1024x2048 .bf16) (x1 : Vec Ideal S2048x2048 .bf16) (x2 : Vec Ideal S1024x2048 .f32)
    (x3 : Vec Ideal S1x1x2048 .f32) (r : Fin 1024) (n : Fin 2048) :
    k0_pay1 (F := Ideal) x0 x1 x2 x3 (ix2 r n) = x2 (ix2 r n) + x3 (ix3 0 0 n) * ∑ k : Fin 2048, x0 (ix2 r k) * x1 (ix2 k n) := by
  pointwise [k0_pay1]

/-- The projected row, gated, added. -/
def joined (b : Fin 4) (i : Fin 4096) (n : Fin 2048) : EReal :=
  argX m c (ix3 b i n) + argGate m c (ix2 b n) * ∑ k : Fin 2048, argO m c (ix3 b i k) * argW m c (ix2 k n)

variable {t : Fin grid0.N} {R : Fin 16384} {r : Fin 1024}

theorem blk_0 (h : 1024 * t.val + r.val = R.val) (k : Fin 2048) :
    (iblk m c 0 t : Vec Ideal S1024x2048 .f32) (ix2 r k) = argX m c (ix3 ⟨R.val / 4096, by omega⟩ ⟨R.val % 4096, by omega⟩ k) := by
  refine (at_0 m c t r k).trans (Eq.trans ?_ (host_v0 m c R k))
  exact congrArg (fun i => (Gen.V m c main_v0 : Vec Ideal S16384x2048 .f32) (ix2 i k)) (Fin.ext h)

theorem blk_1 (h : 1024 * t.val + r.val = R.val) (k : Fin 2048) :
    (iblk m c 1 t : Vec Ideal S1024x2048 .bf16) (ix2 r k) = argO m c (ix3 ⟨R.val / 4096, by omega⟩ ⟨R.val % 4096, by omega⟩ k) := by
  refine (at_1 m c t r k).trans (Eq.trans ?_ (host_v2 m c R k))
  exact congrArg (fun i => (Gen.V m c main_v2 : Vec Ideal S16384x2048 .bf16) (ix2 i k)) (Fin.ext h)

theorem blk_3 (h : 1024 * t.val + r.val = R.val) (k : Fin 2048) :
    (iblk m c 3 t : Vec Ideal S1x1x2048 .f32) (ix3 0 0 k) = argGate m c (ix2 ⟨R.val / 4096, by omega⟩ k) := by
  refine (at_3 m c t k).trans (Eq.trans ?_ (host_v4 m c _ k))
  refine congrArg (fun i => (Gen.V m c main_v4 : Vec Ideal S4x1x2048 .f32) (ix3 i 0 k)) (Fin.ext ?_)
  show t.val / 4 = R.val / 4096
  omega

theorem row_4 (h : 1024 * t.val + r.val = R.val) (n : Fin 2048) :
    ((dats m 0 c).arrAt 4 cfg0.N : Vec Ideal S16384x2048 .f32) (ix2 R n)
      = ((dats m 0 c).flushed 4 t : Vec Ideal S1024x2048 .f32) (ix2 r n) := by
  refine Eq.trans ?_ (left_4 m c t r n)
  exact congrArg (fun i => ((dats m 0 c).arrAt 4 cfg0.N : Vec Ideal S16384x2048 .f32) (ix2 i n)) (Fin.ext h.symm)

/-- The result array, at row `R`. -/
theorem result_at (R : Fin 16384) (n : Fin 2048) :
    ((dats m 0 c).arrAt 4 cfg0.N : Vec Ideal S16384x2048 .f32) (ix2 R n) = joined m c ⟨R.val / 4096, by omega⟩ ⟨R.val % 4096, by omega⟩ n := by
  have ht : R.val / 1024 < grid0.N := by rw [N_0]; omega
  have h : 1024 * (⟨R.val / 1024, ht⟩ : Fin grid0.N).val + (⟨R.val % 1024, by omega⟩ : Fin 1024).val = R.val := by
    show 1024 * (R.val / 1024) + R.val % 1024 = R.val
    omega
  refine (row_4 m c h n).trans ?_
  rw [Value.flushed4]
  refine (congrFun (body_eq _ _ _ _) (ix2 ⟨R.val % 1024, by omega⟩ n)).trans ((body_at _ _ _ _ _ n).trans ?_)
  exact congrArg₂ (· + ·) (blk_0 m c h n) (congrArg₂ (· * ·) (blk_3 m c h n)
    (Finset.sum_congr rfl fun k _ => congrArg₂ (· * ·) (blk_1 m c h k) ((at_2 m c _ k n).trans (host_v3 m c k n))))

end Cert.Kernel4Ideal.Project

namespace Cert.Reference4Ideal.Project

open Cert.Reference4Ideal Cert.Reference4Ideal.Gen Cert.Reference4Ideal.Read
open Idealize.ShloMosaic Idealize.ShloMosaic.TcCoe

theorem result_at (x0 x1 : Vec Ideal S4x4096x2048 .f32) (x2 : Vec Ideal S2048x2048 .f32) (x3 : Vec Ideal S4x2048 .f32)
    (R : Fin 16384) (n : Fin 2048) :
    val_main_v5 (F := Ideal) x0 x1 x2 x3 (ix2 R n)
      = x0 (ix3 ⟨R.val / 4096, by omega⟩ ⟨R.val % 4096, by omega⟩ n)
        + x3 (ix2 ⟨R.val / 4096, by omega⟩ n) * ∑ k : Fin 2048, x1 (ix3 ⟨R.val / 4096, by omega⟩ ⟨R.val % 4096, by omega⟩ k) * x2 (ix2 k n) := by
  pointwise [val_main_v5, val_main_v4, val_main_v3, val_main_v2, val_main_v1, val_main_v0]

end Cert.Reference4Ideal.Project

namespace Cert.Kernel4Ideal.Project

open Cert.Kernel4Ideal Cert.Kernel4Ideal.Gen Cert.Reference4Ideal.Read
open Idealize.ShloMosaic Idealize.ShloMosaic.TcCoe Idealize.SL.Sem

variable (m : (ℓ : Loc nD τ sig) → Buf (Elt Ideal) ℓ) (c : Dev nD)

/-- The reference's result is the program's. -/
theorem reference_eq : val_main_v5 (F := Ideal) (argX m c) (argO m c) (argW m c) (argGate m c) = ((dats m 0 c).arrAt 4 cfg0.N : Vec Ideal S16384x2048 .f32) := by
  funext y
  obtain ⟨R, n, rfl⟩ : ∃ (R : Fin 16384) (n : Fin 2048), y = ix2 R n := ⟨y 0, y 1, eq_ix2 y⟩
  exact (Cert.Reference4Ideal.Project.result_at _ _ _ _ R n).trans (result_at m c R n).symm

/-- The claim: run on equal arguments, the program and the reference end with equal results. -/
theorem equal : Cert.algebraic_Kernel4Ideal_Reference4Ideal := by
  intro m g m' g' _ hm
  refine ⟨fun c => (dats m 0 c).arrAt 4 cfg0.N, Value.run_blocks m g, ?_⟩
  refine (θ_run Cert.Reference4Ideal.defs _ _).mono (fun r h c => ?_) (Cert.Reference4Ideal.Value.run m' g')
  obtain ⟨e0, e1, e2, e3⟩ := hm c
  refine ⟨(h c).1.trans ?_, (h c).2⟩
  rw [val_main_v5_eq, e0, e1, e2, e3]
  exact reference_eq m c

end Cert.Kernel4Ideal.Project

end

end
-- ==== Proof.SguInMath.lean ====
/-
The gating unit's two halves, as functions of one row: the activation and the layer norm.
-/
module

public import proofs.«01_k».proof.Proof.FfnMath

@[expose] public section

set_option maxRecDepth 16384

noncomputable section

namespace Cert.GatingUnit

open Idealize.ShloMosaic

/-- The activation: `0.5 z (1 + erf (z / √2))`. -/
def bend (z : EReal) : EReal :=
  Ideal.ofBits .f32 0x3F000000#32 * z * (1 + Ideal.erf (z * Ideal.ofBits .f32 0x3F3504F3#32))

/-- The same with the complement of the error function. -/
theorem bend_eq (z : EReal) :
    bend z = Ideal.ofBits .f32 0x3F000000#32 * z * Ideal.erfc (-z * Ideal.ofBits .f32 0x3F3504F3#32) := by
  unfold bend
  rw [neg_mul, Ideal.erfc_neg]

/-- One unit of the row `h`, with weights `p` and bias `b`. -/
def half (h p : Fin 2048 → EReal) (b : EReal) : EReal := bend ((∑ k, h k * p k) + b)

/-- The mean of a row. -/
def mean (v : Fin 2048 → EReal) : EReal := Ideal.div (∑ k, v k) (Ideal.ofBits .f32 0x45000000#32)

/-- The layer norm of a row. -/
def layered (v g b : Fin 2048 → EReal) (k : Fin 2048) : EReal :=
  (v k - mean v) * Ideal.rsqrt (mean (fun k => (v k - mean v) * (v k - mean v)) + Ideal.ofBits .f32 0x358637BD#32) * g k + b k

/-- The layer norm from the centred row and the sum of its squares. -/
theorem layered_of (v g b d : Fin 2048 → EReal) (q : EReal) (hd : ∀ k, d k = v k - mean v) (hq : q = ∑ k, d k * d k) (n : Fin 2048) :
    layered v g b n
      = d n * Ideal.rsqrt (Ideal.div q (Ideal.ofBits .f32 0x45000000#32) + Ideal.ofBits .f32 0x358637BD#32) * g n + b n := by
  have e : d = fun k => v k - mean v := funext hd
  subst hq
  subst e
  rfl

/-- The same arguments, entry by entry, give the same normalised vector. -/
theorem layered_congr {v v' g g' b b' : Fin 2048 → EReal} (hv : ∀ k, v k = v' k) (hg : ∀ k, g k = g' k) (hb : ∀ k, b k = b' k)
    (n : Fin 2048) : layered v g b n = layered v' g' b' n := by
  rw [funext hv, funext hg, funext hb]

end Cert.GatingUnit

end

end
-- ==== Proof.SguInPoint.lean ====
/-
The printed terms of the gating unit's first call, at an index.
-/
module

public import proofs.«01_k».proof.Proof.SguInMath
public import proofs.«01_k».proof.Proof.Gen.Kernel5Ideal.Frame
public import Idealize.ShloMosaic.Lib.Pointwise
public import Idealize.ShloMosaic.Lib.Pipeline.Value
public import Idealize.ShloMosaic.Lib.Pipeline.ValueKit.Tiles

@[expose] public section

set_option maxRecDepth 16384

noncomputable section

namespace Cert.Kernel5Ideal.Gating

open Cert.Kernel5Ideal Cert.Kernel5Ideal.Gen Cert.FeedForward Cert.GatingUnit
open Idealize.ShloMosaic Idealize.ShloMosaic.TcCoe

theorem hz2 : (![0, 0] : Fin 2 → Nat) = fun _ => 0 := funext fun a => by fin_cases a <;> rfl

theorem hz3 : (![0, 0, 0] : Fin 3 → Nat) = fun _ => 0 := funext fun a => by fin_cases a <;> rfl

/-- The modulated rows, as the body computes them. -/
abbrev rows (x : Vec Ideal S512x2048 .f32) (g : Vec Ideal S1x2048 .f32) (b a : Vec Ideal S1x1x2048 .f32) : FVec Ideal S512x2048 .bf16 :=
  k0_pay12 (k0_pay7 x) (k0_pay8 g) (k0_pay9 b) (k0_pay10 a) (k0_pay11 x)

theorem rows_at (x : Vec Ideal S512x2048 .f32) (g : Vec Ideal S1x2048 .f32) (b a : Vec Ideal S1x1x2048 .f32)
    (r : Fin 512) (k : Fin 2048) :
    rows x g b a (ix2 r k)
      = modulated (fun k => x (ix2 r k)) (fun k => g (ix2 0 k)) (fun k => a (ix3 0 0 k)) (fun k => b (ix3 0 0 k)) k := by
  unfold modulated meanSquare
  pointwise [k0_pay12, k0_pay7, k0_pay8, k0_pay9, k0_pay10, k0_pay11]

/-- The first half. -/
theorem first_at (h : FVec Ideal S512x2048 .bf16) (p : Vec Ideal S2048x2048 .bf16) (b : Vec Ideal S1x2048 .f32)
    (r : Fin 512) (n : Fin 2048) :
    k0_pay2 (F := Ideal) h p b (ix2 r n) = half (fun k => h (ix2 r k)) (fun k => p (ix2 k n)) (b (ix2 0 n)) := by
  unfold half bend
  pointwise [k0_pay2, Ideal.erf_def]

variable (x : Vec Ideal S512x2048 .f32) (g : Vec Ideal S1x2048 .f32) (b a : Vec Ideal S1x1x2048 .f32)
variable (p : Vec Ideal S2048x2048 .bf16) (q : Vec Ideal S1x2048 .f32)

/-- A row of the second half, before its norm. -/
abbrev second (r : Fin 512) (n : Fin 2048) : EReal :=
  half (fun k => rows x g b a (ix2 r k)) (fun k => p (ix2 k n)) (q (ix2 0 n))

/-- The second half less its mean. -/
theorem centred_at (r : Fin 512) (n : Fin 2048) :
    k0_pay13 (F := Ideal) (k0_pay7 x) (k0_pay8 g) (k0_pay9 b) (k0_pay10 a) (k0_pay11 x) p q (ix2 r n)
      = second x g b a p q r n - mean (second x g b a p q r) := by
  unfold second rows k0_pay13
  generalize k0_pay12 (F := Ideal) (k0_pay7 x) (k0_pay8 g) (k0_pay9 b) (k0_pay10 a) (k0_pay11 x) = h
  unfold mean half bend
  pointwise [Ideal.erf_def]

/-- The second half's variance. -/
theorem spread_at (r : Fin 512) :
    k0_pay14 (F := Ideal) (k0_pay7 x) (k0_pay8 g) (k0_pay9 b) (k0_pay10 a) (k0_pay11 x) p q (ix2 r 0)
      = mean (fun n => (second x g b a p q r n - mean (second x g b a p q r)) * (second x g b a p q r n - mean (second x g b a p q r))) := by
  simp only [← centred_at]
  unfold k0_pay14
  generalize k0_pay13 (F := Ideal) (k0_pay7 x) (k0_pay8 g) (k0_pay9 b) (k0_pay10 a) (k0_pay11 x) p q = y
  unfold mean
  pointwise

/-- The norm's last steps. -/
theorem scaled_at (y : FVec Ideal S512x2048 .f32) (s : FVec Ideal S512x1 .f32) (g b : Vec Ideal S1x2048 .f32)
    (r : Fin 512) (n : Fin 2048) :
    k0_pay1 (F := Ideal) y s (Scalar.ofBits .f32 0x358637BD#32) g b (ix2 r n)
      = y (ix2 r n) * Ideal.rsqrt (s (ix2 r 0) + Ideal.ofBits .f32 0x358637BD#32) * g (ix2 0 n) + b (ix2 0 n) := by
  pointwise [k0_pay1]

/-! ## The halves of the projection, cut out by the body -/

theorem left_weights (w : Vec Ideal S2048x4096 .bf16) (k n : Fin 2048) :
    (View.ld w r0_11 : Vec Ideal S2048x2048 .bf16) (ix2 k n) = w (ix2 k ⟨n.val, by omega⟩) :=
  View.ld_unit_apply_of w _ _ _ _ _ fun a => by
    fin_cases a
    · show k.val = 0 + k.val
      omega
    · show n.val = 0 + n.val
      omega

theorem right_weights (w : Vec Ideal S2048x4096 .bf16) (k n : Fin 2048) :
    (View.ld w r0_9 : Vec Ideal S2048x2048 .bf16) (ix2 k n) = w (ix2 k ⟨2048 + n.val, by omega⟩) :=
  View.ld_unit_apply_of w _ _ _ _ _ fun a => by
    fin_cases a
    · show k.val = 0 + k.val
      omega
    · rfl

theorem left_bias (w : Vec Ideal S1x4096 .f32) (n : Fin 2048) :
    (View.ld w r0_12 : Vec Ideal S1x2048 .f32) (ix2 0 n) = w (ix2 0 ⟨n.val, by omega⟩) :=
  View.ld_unit_apply_of w _ _ _ _ _ fun a => by
    fin_cases a
    · rfl
    · show n.val = 0 + n.val
      omega

theorem right_bias (w : Vec Ideal S1x4096 .f32) (n : Fin 2048) :
    (View.ld w r0_10 : Vec Ideal S1x2048 .f32) (ix2 0 n) = w (ix2 0 ⟨2048 + n.val, by omega⟩) :=
  View.ld_unit_apply_of w _ _ _ _ _ fun a => by
    fin_cases a
    · rfl
    · rfl

/-! ## What the body leaves -/

variable (x0 : Vec Ideal S512x2048 .f32) (x1 : Vec Ideal S1x2048 .f32) (x2 x3 : Vec Ideal S1x1x2048 .f32)
variable (x4 : Vec Ideal S2048x4096 .bf16) (x5 : Vec Ideal S1x4096 .f32) (x6 x7 : Vec Ideal S1x2048 .f32)
variable (x8 x9 : Vec Ideal S1x64x5632 .f32) (x10 : Vec Ideal S1x176x2048 .f32) (x11 : Vec Ideal S1x64x2048 .f32)

/-- The modulated row the body starts from. -/
abbrev start (r : Fin 512) : Fin 2048 → EReal :=
  modulated (fun k => x0 (ix2 r k)) (fun k => x1 (ix2 0 k)) (fun k => x3 (ix3 0 0 k)) (fun k => x2 (ix3 0 0 k))

theorem out_12 (r : Fin 512) (n : Fin 2048) :
    out0_12 (F := Ideal) x0 x1 x2 x3 x4 x5 x6 x7 x8 x9 x10 x11 (ix2 r n)
      = half (start x0 x1 x2 x3 r) (fun k => x4 (ix2 k ⟨n.val, by omega⟩)) (x5 (ix2 0 ⟨n.val, by omega⟩)) := by
  unfold_out out0_12
  rw [View.canon_unit_zero hz2]
  simp only [View.ld_unit_zero (S := S512x2048) hz2, View.ld_unit_zero (S := S1x2048) hz2, View.ld_unit_zero (S := S1x1x2048) hz3]
  refine (first_at _ _ _ r n).trans ?_
  unfold half
  refine congrArg bend (congrArg₂ (· + ·) (Finset.sum_congr rfl fun k _ => congrArg₂ (· * ·) (rows_at _ _ _ _ r k) (left_weights x4 k n)) (left_bias x5 n))

theorem out_13 (r : Fin 512) (n : Fin 2048) :
    out0_13 (F := Ideal) x0 x1 x2 x3 x4 x5 x6 x7 x8 x9 x10 x11 (ix2 r n)
      = layered (fun n => half (start x0 x1 x2 x3 r) (fun k => x4 (ix2 k ⟨2048 + n.val, by omega⟩)) (x5 (ix2 0 ⟨2048 + n.val, by omega⟩)))
          (fun k => x6 (ix2 0 k)) (fun k => x7 (ix2 0 k)) n := by
  unfold_out out0_13
  rw [View.canon_unit_zero hz2]
  simp only [View.ld_unit_zero (S := S512x2048) hz2, View.ld_unit_zero (S := S1x2048) hz2, View.ld_unit_zero (S := S1x1x2048) hz3]
  refine (scaled_at _ _ _ _ r n).trans ?_
  have e : (fun n => half (start x0 x1 x2 x3 r) (fun k => x4 (ix2 k ⟨2048 + n.val, by omega⟩)) (x5 (ix2 0 ⟨2048 + n.val, by omega⟩)))
      = second x0 x1 x2 x3 (View.ld x4 r0_9) (View.ld x5 r0_10) r := by
    funext n
    unfold second half
    exact (congrArg bend (congrArg₂ (· + ·) (Finset.sum_congr rfl fun k _ => congrArg₂ (· * ·) (rows_at _ _ _ _ r k) (right_weights x4 k n)) (right_bias x5 n))).symm
  rw [e, centred_at, spread_at]
  rfl

theorem out_14 (p : Fin 64) (n : Fin 5632) :
    out0_14 (F := Ideal) x0 x1 x2 x3 x4 x5 x6 x7 x8 x9 x10 x11 (ix2 p n) = x8 (ix3 0 p n) := by
  unfold out0_14
  rw [View.canon_unit_zero hz2, View.ld_unit_zero (S := S1x64x5632) hz3]
  pointwise [k0_pay3]

theorem out_15 (p : Fin 64) (n : Fin 5632) :
    out0_15 (F := Ideal) x0 x1 x2 x3 x4 x5 x6 x7 x8 x9 x10 x11 (ix2 p n) = x9 (ix3 0 p n) := by
  unfold out0_15
  rw [View.canon_unit_zero hz2, View.ld_unit_zero (S := S1x64x5632) hz3]
  pointwise [k0_pay4]

theorem out_16 (p : Fin 176) (n : Fin 2048) :
    out0_16 (F := Ideal) x0 x1 x2 x3 x4 x5 x6 x7 x8 x9 x10 x11 (ix2 p n) = x10 (ix3 0 p n) := by
  unfold out0_16
  rw [View.canon_unit_zero hz2, View.ld_unit_zero (S := S1x176x2048) hz3]
  pointwise [k0_pay5]

theorem out_17 (p : Fin 64) (n : Fin 2048) :
    out0_17 (F := Ideal) x0 x1 x2 x3 x4 x5 x6 x7 x8 x9 x10 x11 (ix2 p n) = x11 (ix3 0 p n) := by
  unfold out0_17
  rw [View.canon_unit_zero hz2, View.ld_unit_zero (S := S1x64x2048) hz3]
  pointwise [k0_pay6]

end Cert.Kernel5Ideal.Gating

end

end
-- ==== Proof.SguInPlace.lean ====
/-
What each window of the gating unit's first call shows, in the arrays the program was launched with, and the arrays the
call leaves.

Point `t` of the grid works on rows `512 * t` to `512 * t + 511`, and on one strip of each of four weights.
-/
module

public import proofs.«01_k».proof.Proof.SguInPoint
public import proofs.«01_k».proof.Proof.Gen.Kernel5Ideal.Value
public import Idealize.ShloMosaic.Lib.StableHlo.RunRead

@[expose] public section

set_option maxRecDepth 16384

noncomputable section

namespace Cert.Kernel5Ideal.Gating

open Cert.Kernel5Ideal Cert.Kernel5Ideal.Gen Cert.FeedForward Cert.GatingUnit
open Idealize.ShloMosaic Idealize.ShloMosaic.TcCoe

variable (m : (ℓ : Loc nD τ sig) → Buf (Elt Ideal) ℓ) (c : Dev nD)

/-! ## The arguments, and what the host hands the call -/

abbrev argX : Vec Ideal S4x4096x2048 .f32 := m ((c.tc : Thread nD τ).loc main_arg0)
abbrev argG : Vec Ideal S2048 .f32 := m ((c.tc : Thread nD τ).loc main_arg1)
abbrev argShift : Vec Ideal S4x2048 .f32 := m ((c.tc : Thread nD τ).loc main_arg2)
abbrev argScale : Vec Ideal S4x2048 .f32 := m ((c.tc : Thread nD τ).loc main_arg3)
abbrev argW : Vec Ideal S2048x4096 .f32 := m ((c.tc : Thread nD τ).loc main_arg4)
abbrev argB : Vec Ideal S4096 .f32 := m ((c.tc : Thread nD τ).loc main_arg5)
abbrev argLg : Vec Ideal S2048 .f32 := m ((c.tc : Thread nD τ).loc main_arg6)
abbrev argLb : Vec Ideal S2048 .f32 := m ((c.tc : Thread nD τ).loc main_arg7)
abbrev argC0 : Vec Ideal S2x2048x5632 .f32 := m ((c.tc : Thread nD τ).loc main_arg8)
abbrev argC1 : Vec Ideal S2x2048x5632 .f32 := m ((c.tc : Thread nD τ).loc main_arg9)
abbrev argC2 : Vec Ideal S2x5632x2048 .f32 := m ((c.tc : Thread nD τ).loc main_arg10)
abbrev argC3 : Vec Ideal S1x2048x2048 .f32 := m ((c.tc : Thread nD τ).loc main_arg11)

theorem host_v2 (R : Fin 16384) (k : Fin 2048) : (Gen.V m c main_v2 : Vec Ideal S16384x2048 .f32) (ix2 R k) = argX m c (ix3 ⟨R.val / 4096, by omega⟩ ⟨R.val % 4096, by omega⟩ k) := by
  after_reads_simp
  pointwise

theorem host_v0 (b : Fin 4) (k : Fin 2048) : (Gen.V m c main_v0 : Vec Ideal S4x1x2048 .f32) (ix3 b 0 k) = argShift m c (ix2 b k) := by
  after_reads_simp
  pointwise

theorem host_v1 (b : Fin 4) (k : Fin 2048) : (Gen.V m c main_v1 : Vec Ideal S4x1x2048 .f32) (ix3 b 0 k) = argScale m c (ix2 b k) := by
  after_reads_simp
  pointwise

theorem host_v3 (k : Fin 2048) (n : Fin 4096) : (Gen.V m c main_v3 : Vec Ideal S2048x4096 .bf16) (ix2 k n) = argW m c (ix2 k n) := by
  after_reads_simp
  pointwise

theorem host_v4 (k : Fin 2048) : (Gen.V m c main_v4 : Vec Ideal S1x2048 .f32) (ix2 0 k) = argG m c (ix1 k) := by
  after_reads_simp
  pointwise

theorem host_v5 (k : Fin 4096) : (Gen.V m c main_v5 : Vec Ideal S1x4096 .f32) (ix2 0 k) = argB m c (ix1 k) := by
  after_reads_simp
  pointwise

theorem host_v6 (k : Fin 2048) : (Gen.V m c main_v6 : Vec Ideal S1x2048 .f32) (ix2 0 k) = argLg m c (ix1 k) := by
  after_reads_simp
  pointwise

theorem host_v7 (k : Fin 2048) : (Gen.V m c main_v7 : Vec Ideal S1x2048 .f32) (ix2 0 k) = argLb m c (ix1 k) := by
  after_reads_simp
  pointwise

/-! ## Where each block sits -/

theorem flush_12 (t : Fin cfg0.N) : (cfg0.win 12).flush t = true := flush0_12 t

theorem flush_13 (t : Fin cfg0.N) : (cfg0.win 13).flush t = true := flush0_13 t

theorem flush_14 (t : Fin cfg0.N) : (cfg0.win 14).flush t = true := flush0_14 t

theorem flush_15 (t : Fin cfg0.N) : (cfg0.win 15).flush t = true := flush0_15 t

theorem flush_16 (t : Fin cfg0.N) : (cfg0.win 16).flush t = true := flush0_16 t

theorem flush_17 (t : Fin cfg0.N) : (cfg0.win 17).flush t = true := flush0_17 t

theorem index_0 : ∀ t : Fin grid0.N, win0_0.index t 0 = t.val ∧ win0_0.index t 1 = 0 := by
  decide +kernel

/-- Where the block of rows at point `t` sits. -/
theorem emb_0 (t : Fin grid0.N) (r : Fin 512) (k : Fin 2048) : ((win0_0.rect t).emb ((ix2 r k) : S512x2048.Idx) : S16384x2048.Idx)
    = (ix2 ⟨512 * (t.val) + r.val, by have h : t.val < 32 := t.isLt; omega⟩ k) := by
  have hi := index_0 t
  funext a
  apply Fin.ext
  refine (Pipeline.Window.rect_emb_val win0_0 t _ a rfl).trans ?_
  fin_cases a
  · show win0_0.index t 0 * 512 + r.val = 512 * (t.val) + r.val
    omega
  · show win0_0.index t 1 * 2048 + k.val = k.val
    omega

theorem at_0 (t : Fin grid0.N) (r : Fin 512) (k : Fin 2048) : (iblk m c 0 t : Vec Ideal S512x2048 .f32) (ix2 r k)
    = (Gen.V m c main_v2 : Vec Ideal S16384x2048 .f32) (ix2 ⟨512 * (t.val) + r.val, by have h : t.val < 32 := t.isLt; omega⟩ k) :=
  congrArg (Gen.V m c main_v2 : Vec Ideal S16384x2048 .f32) (emb_0 t r k)

theorem index_1 : ∀ t : Fin grid0.N, win0_1.index t 0 = 0 ∧ win0_1.index t 1 = 0 := by
  decide +kernel

/-- Where the first norm's weights at point `t` sits. -/
theorem emb_1 (t : Fin grid0.N) (k : Fin 2048) : ((win0_1.rect t).emb ((ix2 0 k) : S1x2048.Idx) : S1x2048.Idx)
    = (ix2 0 k) := by
  have hi := index_1 t
  funext a
  apply Fin.ext
  refine (Pipeline.Window.rect_emb_val win0_1 t _ a rfl).trans ?_
  fin_cases a
  · show win0_1.index t 0 * 1 + 0 = 0
    omega
  · show win0_1.index t 1 * 2048 + k.val = k.val
    omega

theorem at_1 (t : Fin grid0.N) (k : Fin 2048) : (iblk m c 1 t : Vec Ideal S1x2048 .f32) (ix2 0 k)
    = (Gen.V m c main_v4 : Vec Ideal S1x2048 .f32) (ix2 0 k) :=
  congrArg (Gen.V m c main_v4 : Vec Ideal S1x2048 .f32) (emb_1 t k)

theorem index_2 : ∀ t : Fin grid0.N, win0_2.index t 0 = t.val / 8 ∧ win0_2.index t 1 = 0 ∧ win0_2.index t 2 = 0 := by
  decide +kernel

/-- Where the shift at point `t` sits. -/
theorem emb_2 (t : Fin grid0.N) (k : Fin 2048) : ((win0_2.rect t).emb ((ix3 0 0 k) : S1x1x2048.Idx) : S4x1x2048.Idx)
    = (ix3 ⟨t.val / 8, by have h : t.val < 32 := t.isLt; omega⟩ 0 k) := by
  have hi := index_2 t
  funext a
  apply Fin.ext
  refine (Pipeline.Window.rect_emb_val win0_2 t _ a rfl).trans ?_
  fin_cases a
  · show win0_2.index t 0 * 1 + 0 = t.val / 8
    omega
  · show win0_2.index t 1 * 1 + 0 = 0
    omega
  · show win0_2.index t 2 * 2048 + k.val = k.val
    omega

theorem at_2 (t : Fin grid0.N) (k : Fin 2048) : (iblk m c 2 t : Vec Ideal S1x1x2048 .f32) (ix3 0 0 k)
    = (Gen.V m c main_v0 : Vec Ideal S4x1x2048 .f32) (ix3 ⟨t.val / 8, by have h : t.val < 32 := t.isLt; omega⟩ 0 k) :=
  congrArg (Gen.V m c main_v0 : Vec Ideal S4x1x2048 .f32) (emb_2 t k)

theorem index_3 : ∀ t : Fin grid0.N, win0_3.index t 0 = t.val / 8 ∧ win0_3.index t 1 = 0 ∧ win0_3.index t 2 = 0 := by
  decide +kernel

/-- Where the scale at point `t` sits. -/
theorem emb_3 (t : Fin grid0.N) (k : Fin 2048) : ((win0_3.rect t).emb ((ix3 0 0 k) : S1x1x2048.Idx) : S4x1x2048.Idx)
    = (ix3 ⟨t.val / 8, by have h : t.val < 32 := t.isLt; omega⟩ 0 k) := by
  have hi := index_3 t
  funext a
  apply Fin.ext
  refine (Pipeline.Window.rect_emb_val win0_3 t _ a rfl).trans ?_
  fin_cases a
  · show win0_3.index t 0 * 1 + 0 = t.val / 8
    omega
  · show win0_3.index t 1 * 1 + 0 = 0
    omega
  · show win0_3.index t 2 * 2048 + k.val = k.val
    omega

theorem at_3 (t : Fin grid0.N) (k : Fin 2048) : (iblk m c 3 t : Vec Ideal S1x1x2048 .f32) (ix3 0 0 k)
    = (Gen.V m c main_v1 : Vec Ideal S4x1x2048 .f32) (ix3 ⟨t.val / 8, by have h : t.val < 32 := t.isLt; omega⟩ 0 k) :=
  congrArg (Gen.V m c main_v1 : Vec Ideal S4x1x2048 .f32) (emb_3 t k)

theorem index_4 : ∀ t : Fin grid0.N, win0_4.index t 0 = 0 ∧ win0_4.index t 1 = 0 := by
  decide +kernel

/-- Where the projection at point `t` sits. -/
theorem emb_4 (t : Fin grid0.N) (k : Fin 2048) (n : Fin 4096) : ((win0_4.rect t).emb ((ix2 k n) : S2048x4096.Idx) : S2048x4096.Idx)
    = (ix2 k n) := by
  have hi := index_4 t
  funext a
  apply Fin.ext
  refine (Pipeline.Window.rect_emb_val win0_4 t _ a rfl).trans ?_
  fin_cases a
  · show win0_4.index t 0 * 2048 + k.val = k.val
    omega
  · show win0_4.index t 1 * 4096 + n.val = n.val
    omega

theorem at_4 (t : Fin grid0.N) (k : Fin 2048) (n : Fin 4096) : (iblk m c 4 t : Vec Ideal S2048x4096 .bf16) (ix2 k n)
    = (Gen.V m c main_v3 : Vec Ideal S2048x4096 .bf16) (ix2 k n) :=
  congrArg (Gen.V m c main_v3 : Vec Ideal S2048x4096 .bf16) (emb_4 t k n)

theorem index_5 : ∀ t : Fin grid0.N, win0_5.index t 0 = 0 ∧ win0_5.index t 1 = 0 := by
  decide +kernel

/-- Where the projection's bias at point `t` sits. -/
theorem emb_5 (t : Fin grid0.N) (n : Fin 4096) : ((win0_5.rect t).emb ((ix2 0 n) : S1x4096.Idx) : S1x4096.Idx)
    = (ix2 0 n) := by
  have hi := index_5 t
  funext a
  apply Fin.ext
  refine (Pipeline.Window.rect_emb_val win0_5 t _ a rfl).trans ?_
  fin_cases a
  · show win0_5.index t 0 * 1 + 0 = 0
    omega
  · show win0_5.index t 1 * 4096 + n.val = n.val
    omega

theorem at_5 (t : Fin grid0.N) (n : Fin 4096) : (iblk m c 5 t : Vec Ideal S1x4096 .f32) (ix2 0 n)
    = (Gen.V m c main_v5 : Vec Ideal S1x4096 .f32) (ix2 0 n) :=
  congrArg (Gen.V m c main_v5 : Vec Ideal S1x4096 .f32) (emb_5 t n)

theorem index_6 : ∀ t : Fin grid0.N, win0_6.index t 0 = 0 ∧ win0_6.index t 1 = 0 := by
  decide +kernel

/-- Where the layer norm's weights at point `t` sits. -/
theorem emb_6 (t : Fin grid0.N) (k : Fin 2048) : ((win0_6.rect t).emb ((ix2 0 k) : S1x2048.Idx) : S1x2048.Idx)
    = (ix2 0 k) := by
  have hi := index_6 t
  funext a
  apply Fin.ext
  refine (Pipeline.Window.rect_emb_val win0_6 t _ a rfl).trans ?_
  fin_cases a
  · show win0_6.index t 0 * 1 + 0 = 0
    omega
  · show win0_6.index t 1 * 2048 + k.val = k.val
    omega

theorem at_6 (t : Fin grid0.N) (k : Fin 2048) : (iblk m c 6 t : Vec Ideal S1x2048 .f32) (ix2 0 k)
    = (Gen.V m c main_v6 : Vec Ideal S1x2048 .f32) (ix2 0 k) :=
  congrArg (Gen.V m c main_v6 : Vec Ideal S1x2048 .f32) (emb_6 t k)

theorem index_7 : ∀ t : Fin grid0.N, win0_7.index t 0 = 0 ∧ win0_7.index t 1 = 0 := by
  decide +kernel

/-- Where the layer norm's bias at point `t` sits. -/
theorem emb_7 (t : Fin grid0.N) (k : Fin 2048) : ((win0_7.rect t).emb ((ix2 0 k) : S1x2048.Idx) : S1x2048.Idx)
    = (ix2 0 k) := by
  have hi := index_7 t
  funext a
  apply Fin.ext
  refine (Pipeline.Window.rect_emb_val win0_7 t _ a rfl).trans ?_
  fin_cases a
  · show win0_7.index t 0 * 1 + 0 = 0
    omega
  · show win0_7.index t 1 * 2048 + k.val = k.val
    omega

theorem at_7 (t : Fin grid0.N) (k : Fin 2048) : (iblk m c 7 t : Vec Ideal S1x2048 .f32) (ix2 0 k)
    = (Gen.V m c main_v7 : Vec Ideal S1x2048 .f32) (ix2 0 k) :=
  congrArg (Gen.V m c main_v7 : Vec Ideal S1x2048 .f32) (emb_7 t k)

theorem index_8 : ∀ t : Fin grid0.N, win0_8.index t 0 = 0 ∧ win0_8.index t 1 = t.val ∧ win0_8.index t 2 = 0 := by
  decide +kernel

/-- Where the first weight's strip at point `t` sits. -/
theorem emb_8 (t : Fin grid0.N) (p : Fin 64) (n : Fin 5632) : ((win0_8.rect t).emb ((ix3 0 p n) : S1x64x5632.Idx) : S2x2048x5632.Idx)
    = (ix3 0 ⟨64 * (t.val) + p.val, by have h : t.val < 32 := t.isLt; omega⟩ n) := by
  have hi := index_8 t
  funext a
  apply Fin.ext
  refine (Pipeline.Window.rect_emb_val win0_8 t _ a rfl).trans ?_
  fin_cases a
  · show win0_8.index t 0 * 1 + 0 = 0
    omega
  · show win0_8.index t 1 * 64 + p.val = 64 * (t.val) + p.val
    omega
  · show win0_8.index t 2 * 5632 + n.val = n.val
    omega

theorem at_8 (t : Fin grid0.N) (p : Fin 64) (n : Fin 5632) : (iblk m c 8 t : Vec Ideal S1x64x5632 .f32) (ix3 0 p n)
    = (Gen.V m c main_arg8 : Vec Ideal S2x2048x5632 .f32) (ix3 0 ⟨64 * (t.val) + p.val, by have h : t.val < 32 := t.isLt; omega⟩ n) :=
  congrArg (Gen.V m c main_arg8 : Vec Ideal S2x2048x5632 .f32) (emb_8 t p n)

theorem index_9 : ∀ t : Fin grid0.N, win0_9.index t 0 = 0 ∧ win0_9.index t 1 = t.val ∧ win0_9.index t 2 = 0 := by
  decide +kernel

/-- Where the second weight's strip at point `t` sits. -/
theorem emb_9 (t : Fin grid0.N) (p : Fin 64) (n : Fin 5632) : ((win0_9.rect t).emb ((ix3 0 p n) : S1x64x5632.Idx) : S2x2048x5632.Idx)
    = (ix3 0 ⟨64 * (t.val) + p.val, by have h : t.val < 32 := t.isLt; omega⟩ n) := by
  have hi := index_9 t
  funext a
  apply Fin.ext
  refine (Pipeline.Window.rect_emb_val win0_9 t _ a rfl).trans ?_
  fin_cases a
  · show win0_9.index t 0 * 1 + 0 = 0
    omega
  · show win0_9.index t 1 * 64 + p.val = 64 * (t.val) + p.val
    omega
  · show win0_9.index t 2 * 5632 + n.val = n.val
    omega

theorem at_9 (t : Fin grid0.N) (p : Fin 64) (n : Fin 5632) : (iblk m c 9 t : Vec Ideal S1x64x5632 .f32) (ix3 0 p n)
    = (Gen.V m c main_arg9 : Vec Ideal S2x2048x5632 .f32) (ix3 0 ⟨64 * (t.val) + p.val, by have h : t.val < 32 := t.isLt; omega⟩ n) :=
  congrArg (Gen.V m c main_arg9 : Vec Ideal S2x2048x5632 .f32) (emb_9 t p n)

theorem index_10 : ∀ t : Fin grid0.N, win0_10.index t 0 = 0 ∧ win0_10.index t 1 = t.val ∧ win0_10.index t 2 = 0 := by
  decide +kernel

/-- Where the third weight's strip at point `t` sits. -/
theorem emb_10 (t : Fin grid0.N) (p : Fin 176) (n : Fin 2048) : ((win0_10.rect t).emb ((ix3 0 p n) : S1x176x2048.Idx) : S2x5632x2048.Idx)
    = (ix3 0 ⟨176 * (t.val) + p.val, by have h : t.val < 32 := t.isLt; omega⟩ n) := by
  have hi := index_10 t
  funext a
  apply Fin.ext
  refine (Pipeline.Window.rect_emb_val win0_10 t _ a rfl).trans ?_
  fin_cases a
  · show win0_10.index t 0 * 1 + 0 = 0
    omega
  · show win0_10.index t 1 * 176 + p.val = 176 * (t.val) + p.val
    omega
  · show win0_10.index t 2 * 2048 + n.val = n.val
    omega

theorem at_10 (t : Fin grid0.N) (p : Fin 176) (n : Fin 2048) : (iblk m c 10 t : Vec Ideal S1x176x2048 .f32) (ix3 0 p n)
    = (Gen.V m c main_arg10 : Vec Ideal S2x5632x2048 .f32) (ix3 0 ⟨176 * (t.val) + p.val, by have h : t.val < 32 := t.isLt; omega⟩ n) :=
  congrArg (Gen.V m c main_arg10 : Vec Ideal S2x5632x2048 .f32) (emb_10 t p n)

theorem index_11 : ∀ t : Fin grid0.N, win0_11.index t 0 = 0 ∧ win0_11.index t 1 = t.val ∧ win0_11.index t 2 = 0 := by
  decide +kernel

/-- Where the fourth weight's strip at point `t` sits. -/
theorem emb_11 (t : Fin grid0.N) (p : Fin 64) (n : Fin 2048) : ((win0_11.rect t).emb ((ix3 0 p n) : S1x64x2048.Idx) : S1x2048x2048.Idx)
    = (ix3 0 ⟨64 * (t.val) + p.val, by have h : t.val < 32 := t.isLt; omega⟩ n) := by
  have hi := index_11 t
  funext a
  apply Fin.ext
  refine (Pipeline.Window.rect_emb_val win0_11 t _ a rfl).trans ?_
  fin_cases a
  · show win0_11.index t 0 * 1 + 0 = 0
    omega
  · show win0_11.index t 1 * 64 + p.val = 64 * (t.val) + p.val
    omega
  · show win0_11.index t 2 * 2048 + n.val = n.val
    omega

theorem at_11 (t : Fin grid0.N) (p : Fin 64) (n : Fin 2048) : (iblk m c 11 t : Vec Ideal S1x64x2048 .f32) (ix3 0 p n)
    = (Gen.V m c main_arg11 : Vec Ideal S1x2048x2048 .f32) (ix3 0 ⟨64 * (t.val) + p.val, by have h : t.val < 32 := t.isLt; omega⟩ n) :=
  congrArg (Gen.V m c main_arg11 : Vec Ideal S1x2048x2048 .f32) (emb_11 t p n)

theorem index_12 : ∀ t : Fin grid0.N, win0_12.index t 0 = t.val ∧ win0_12.index t 1 = 0 := by
  decide +kernel

/-- Where the block of u at point `t` sits. -/
theorem emb_12 (t : Fin grid0.N) (r : Fin 512) (k : Fin 2048) : ((win0_12.rect t).emb ((ix2 r k) : S512x2048.Idx) : S16384x2048.Idx)
    = (ix2 ⟨512 * (t.val) + r.val, by have h : t.val < 32 := t.isLt; omega⟩ k) := by
  have hi := index_12 t
  funext a
  apply Fin.ext
  refine (Pipeline.Window.rect_emb_val win0_12 t _ a rfl).trans ?_
  fin_cases a
  · show win0_12.index t 0 * 512 + r.val = 512 * (t.val) + r.val
    omega
  · show win0_12.index t 1 * 2048 + k.val = k.val
    omega

theorem left_12 (t : Fin grid0.N) (r : Fin 512) (k : Fin 2048) : ((dats m 0 c).arrAt 12 cfg0.N : Vec Ideal S16384x2048 .bf16) (ix2 ⟨512 * (t.val) + r.val, by have h : t.val < 32 := t.isLt; omega⟩ k)
    = ((dats m 0 c).flushed 12 t : Vec Ideal S512x2048 .bf16) (ix2 r k) := by
  rw [← Value.blocks12 m c t (flush_12 t)]
  exact (congrArg ((dats m 0 c).arrAt 12 cfg0.N : Vec Ideal S16384x2048 .bf16) (emb_12 t r k)).symm

theorem index_13 : ∀ t : Fin grid0.N, win0_13.index t 0 = t.val ∧ win0_13.index t 1 = 0 := by
  decide +kernel

/-- Where the block of v at point `t` sits. -/
theorem emb_13 (t : Fin grid0.N) (r : Fin 512) (k : Fin 2048) : ((win0_13.rect t).emb ((ix2 r k) : S512x2048.Idx) : S16384x2048.Idx)
    = (ix2 ⟨512 * (t.val) + r.val, by have h : t.val < 32 := t.isLt; omega⟩ k) := by
  have hi := index_13 t
  funext a
  apply Fin.ext
  refine (Pipeline.Window.rect_emb_val win0_13 t _ a rfl).trans ?_
  fin_cases a
  · show win0_13.index t 0 * 512 + r.val = 512 * (t.val) + r.val
    omega
  · show win0_13.index t 1 * 2048 + k.val = k.val
    omega

theorem left_13 (t : Fin grid0.N) (r : Fin 512) (k : Fin 2048) : ((dats m 0 c).arrAt 13 cfg0.N : Vec Ideal S16384x2048 .bf16) (ix2 ⟨512 * (t.val) + r.val, by have h : t.val < 32 := t.isLt; omega⟩ k)
    = ((dats m 0 c).flushed 13 t : Vec Ideal S512x2048 .bf16) (ix2 r k) := by
  rw [← Value.blocks13 m c t (flush_13 t)]
  exact (congrArg ((dats m 0 c).arrAt 13 cfg0.N : Vec Ideal S16384x2048 .bf16) (emb_13 t r k)).symm

theorem index_14 : ∀ t : Fin grid0.N, win0_14.index t 0 = t.val ∧ win0_14.index t 1 = 0 := by
  decide +kernel

/-- Where the first weight's strip of the result at point `t` sits. -/
theorem emb_14 (t : Fin grid0.N) (p : Fin 64) (n : Fin 5632) : ((win0_14.rect t).emb ((ix2 p n) : S64x5632.Idx) : S2048x5632.Idx)
    = (ix2 ⟨64 * (t.val) + p.val, by have h : t.val < 32 := t.isLt; omega⟩ n) := by
  have hi := index_14 t
  funext a
  apply Fin.ext
  refine (Pipeline.Window.rect_emb_val win0_14 t _ a rfl).trans ?_
  fin_cases a
  · show win0_14.index t 0 * 64 + p.val = 64 * (t.val) + p.val
    omega
  · show win0_14.index t 1 * 5632 + n.val = n.val
    omega

theorem left_14 (t : Fin grid0.N) (p : Fin 64) (n : Fin 5632) : ((dats m 0 c).arrAt 14 cfg0.N : Vec Ideal S2048x5632 .bf16) (ix2 ⟨64 * (t.val) + p.val, by have h : t.val < 32 := t.isLt; omega⟩ n)
    = ((dats m 0 c).flushed 14 t : Vec Ideal S64x5632 .bf16) (ix2 p n) := by
  rw [← Value.blocks14 m c t (flush_14 t)]
  exact (congrArg ((dats m 0 c).arrAt 14 cfg0.N : Vec Ideal S2048x5632 .bf16) (emb_14 t p n)).symm

theorem index_15 : ∀ t : Fin grid0.N, win0_15.index t 0 = t.val ∧ win0_15.index t 1 = 0 := by
  decide +kernel

/-- Where the second weight's strip of the result at point `t` sits. -/
theorem emb_15 (t : Fin grid0.N) (p : Fin 64) (n : Fin 5632) : ((win0_15.rect t).emb ((ix2 p n) : S64x5632.Idx) : S2048x5632.Idx)
    = (ix2 ⟨64 * (t.val) + p.val, by have h : t.val < 32 := t.isLt; omega⟩ n) := by
  have hi := index_15 t
  funext a
  apply Fin.ext
  refine (Pipeline.Window.rect_emb_val win0_15 t _ a rfl).trans ?_
  fin_cases a
  · show win0_15.index t 0 * 64 + p.val = 64 * (t.val) + p.val
    omega
  · show win0_15.index t 1 * 5632 + n.val = n.val
    omega

theorem left_15 (t : Fin grid0.N) (p : Fin 64) (n : Fin 5632) : ((dats m 0 c).arrAt 15 cfg0.N : Vec Ideal S2048x5632 .bf16) (ix2 ⟨64 * (t.val) + p.val, by have h : t.val < 32 := t.isLt; omega⟩ n)
    = ((dats m 0 c).flushed 15 t : Vec Ideal S64x5632 .bf16) (ix2 p n) := by
  rw [← Value.blocks15 m c t (flush_15 t)]
  exact (congrArg ((dats m 0 c).arrAt 15 cfg0.N : Vec Ideal S2048x5632 .bf16) (emb_15 t p n)).symm

theorem index_16 : ∀ t : Fin grid0.N, win0_16.index t 0 = t.val ∧ win0_16.index t 1 = 0 := by
  decide +kernel

/-- Where the third weight's strip of the result at point `t` sits. -/
theorem emb_16 (t : Fin grid0.N) (p : Fin 176) (n : Fin 2048) : ((win0_16.rect t).emb ((ix2 p n) : S176x2048.Idx) : S5632x2048.Idx)
    = (ix2 ⟨176 * (t.val) + p.val, by have h : t.val < 32 := t.isLt; omega⟩ n) := by
  have hi := index_16 t
  funext a
  apply Fin.ext
  refine (Pipeline.Window.rect_emb_val win0_16 t _ a rfl).trans ?_
  fin_cases a
  · show win0_16.index t 0 * 176 + p.val = 176 * (t.val) + p.val
    omega
  · show win0_16.index t 1 * 2048 + n.val = n.val
    omega

theorem left_16 (t : Fin grid0.N) (p : Fin 176) (n : Fin 2048) : ((dats m 0 c).arrAt 16 cfg0.N : Vec Ideal S5632x2048 .bf16) (ix2 ⟨176 * (t.val) + p.val, by have h : t.val < 32 := t.isLt; omega⟩ n)
    = ((dats m 0 c).flushed 16 t : Vec Ideal S176x2048 .bf16) (ix2 p n) := by
  rw [← Value.blocks16 m c t (flush_16 t)]
  exact (congrArg ((dats m 0 c).arrAt 16 cfg0.N : Vec Ideal S5632x2048 .bf16) (emb_16 t p n)).symm

theorem index_17 : ∀ t : Fin grid0.N, win0_17.index t 0 = t.val ∧ win0_17.index t 1 = 0 := by
  decide +kernel

/-- Where the fourth weight's strip of the result at point `t` sits. -/
theorem emb_17 (t : Fin grid0.N) (p : Fin 64) (n : Fin 2048) : ((win0_17.rect t).emb ((ix2 p n) : S64x2048.Idx) : S2048x2048.Idx)
    = (ix2 ⟨64 * (t.val) + p.val, by have h : t.val < 32 := t.isLt; omega⟩ n) := by
  have hi := index_17 t
  funext a
  apply Fin.ext
  refine (Pipeline.Window.rect_emb_val win0_17 t _ a rfl).trans ?_
  fin_cases a
  · show win0_17.index t 0 * 64 + p.val = 64 * (t.val) + p.val
    omega
  · show win0_17.index t 1 * 2048 + n.val = n.val
    omega

theorem left_17 (t : Fin grid0.N) (p : Fin 64) (n : Fin 2048) : ((dats m 0 c).arrAt 17 cfg0.N : Vec Ideal S2048x2048 .bf16) (ix2 ⟨64 * (t.val) + p.val, by have h : t.val < 32 := t.isLt; omega⟩ n)
    = ((dats m 0 c).flushed 17 t : Vec Ideal S64x2048 .bf16) (ix2 p n) := by
  rw [← Value.blocks17 m c t (flush_17 t)]
  exact (congrArg ((dats m 0 c).arrAt 17 cfg0.N : Vec Ideal S2048x2048 .bf16) (emb_17 t p n)).symm

/-! ## The blocks, by the row of the array -/

variable {t : Fin grid0.N} {R : Fin 16384} {r : Fin 512}

theorem blk_0 (h : 512 * t.val + r.val = R.val) (k : Fin 2048) :
    (iblk m c 0 t : Vec Ideal S512x2048 .f32) (ix2 r k) = argX m c (ix3 ⟨R.val / 4096, by omega⟩ ⟨R.val % 4096, by omega⟩ k) := by
  refine (at_0 m c t r k).trans (Eq.trans ?_ (host_v2 m c R k))
  exact congrArg (fun i => (Gen.V m c main_v2 : Vec Ideal S16384x2048 .f32) (ix2 i k)) (Fin.ext h)

theorem blk_2 (h : 512 * t.val + r.val = R.val) (k : Fin 2048) :
    (iblk m c 2 t : Vec Ideal S1x1x2048 .f32) (ix3 0 0 k) = argShift m c (ix2 ⟨R.val / 4096, by omega⟩ k) := by
  refine (at_2 m c t k).trans (Eq.trans ?_ (host_v0 m c _ k))
  refine congrArg (fun i => (Gen.V m c main_v0 : Vec Ideal S4x1x2048 .f32) (ix3 i 0 k)) (Fin.ext ?_)
  show t.val / 8 = R.val / 4096
  omega

theorem blk_3 (h : 512 * t.val + r.val = R.val) (k : Fin 2048) :
    (iblk m c 3 t : Vec Ideal S1x1x2048 .f32) (ix3 0 0 k) = argScale m c (ix2 ⟨R.val / 4096, by omega⟩ k) := by
  refine (at_3 m c t k).trans (Eq.trans ?_ (host_v1 m c _ k))
  refine congrArg (fun i => (Gen.V m c main_v1 : Vec Ideal S4x1x2048 .f32) (ix3 i 0 k)) (Fin.ext ?_)
  show t.val / 8 = R.val / 4096
  omega

/-- The modulated row. -/
def row (R : Fin 16384) : Fin 2048 → EReal :=
  modulated (fun k => argX m c (ix3 ⟨R.val / 4096, by omega⟩ ⟨R.val % 4096, by omega⟩ k)) (fun k => argG m c (ix1 k))
    (fun k => argScale m c (ix2 ⟨R.val / 4096, by omega⟩ k)) (fun k => argShift m c (ix2 ⟨R.val / 4096, by omega⟩ k))

theorem row_eq (h : 512 * t.val + r.val = R.val) :
    start (iblk m c 0 t) (iblk m c 1 t) (iblk m c 2 t) (iblk m c 3 t) r = row m c R := by
  unfold start row
  congr 1
  · exact funext fun k => blk_0 m c h k
  · exact funext fun k => (at_1 m c t k).trans (host_v4 m c k)
  · exact funext fun k => blk_3 m c h k
  · exact funext fun k => blk_2 m c h k

/-- Unit `n` of the projection of row `R`. -/
def unitAt (R : Fin 16384) (n : Fin 4096) : EReal :=
  half (row m c R) (fun k => argW m c (ix2 k n)) (argB m c (ix1 n))

theorem unit_eq (h : 512 * t.val + r.val = R.val) (n : Fin 4096) :
    half (start (iblk m c 0 t) (iblk m c 1 t) (iblk m c 2 t) (iblk m c 3 t) r)
        (fun k => (iblk m c 4 t : Vec Ideal S2048x4096 .bf16) (ix2 k n)) ((iblk m c 5 t : Vec Ideal S1x4096 .f32) (ix2 0 n))
      = unitAt m c R n := by
  unfold unitAt
  congr 1
  · exact row_eq m c h
  · exact funext fun k => (at_4 m c t k n).trans (host_v3 m c k n)
  · exact (at_5 m c t n).trans (host_v5 m c n)

/-! ## The arrays the call leaves -/

theorem row_12 (h : 512 * t.val + r.val = R.val) (n : Fin 2048) :
    ((dats m 0 c).arrAt 12 cfg0.N : Vec Ideal S16384x2048 .bf16) (ix2 R n)
      = ((dats m 0 c).flushed 12 t : Vec Ideal S512x2048 .bf16) (ix2 r n) := by
  refine Eq.trans ?_ (left_12 m c t r n)
  exact congrArg (fun i => ((dats m 0 c).arrAt 12 cfg0.N : Vec Ideal S16384x2048 .bf16) (ix2 i n)) (Fin.ext h.symm)

theorem row_13 (h : 512 * t.val + r.val = R.val) (n : Fin 2048) :
    ((dats m 0 c).arrAt 13 cfg0.N : Vec Ideal S16384x2048 .bf16) (ix2 R n)
      = ((dats m 0 c).flushed 13 t : Vec Ideal S512x2048 .bf16) (ix2 r n) := by
  refine Eq.trans ?_ (left_13 m c t r n)
  exact congrArg (fun i => ((dats m 0 c).arrAt 13 cfg0.N : Vec Ideal S16384x2048 .bf16) (ix2 i n)) (Fin.ext h.symm)

/-- The first result, at row `R`. -/
theorem u_at (R : Fin 16384) (n : Fin 2048) :
    ((dats m 0 c).arrAt 12 cfg0.N : Vec Ideal S16384x2048 .bf16) (ix2 R n) = unitAt m c R ⟨n.val, by omega⟩ := by
  have ht : R.val / 512 < grid0.N := by rw [N_0]; omega
  have h : 512 * (⟨R.val / 512, ht⟩ : Fin grid0.N).val + (⟨R.val % 512, by omega⟩ : Fin 512).val = R.val := by
    show 512 * (R.val / 512) + R.val % 512 = R.val
    omega
  refine (row_12 m c h n).trans ?_
  rw [Value.flushed12]
  exact (out_12 _ _ _ _ _ _ _ _ _ _ _ _ _ n).trans (unit_eq m c h ⟨n.val, by omega⟩)

/-- The second result, at row `R`. -/
theorem v_at (R : Fin 16384) (n : Fin 2048) :
    ((dats m 0 c).arrAt 13 cfg0.N : Vec Ideal S16384x2048 .bf16) (ix2 R n)
      = layered (fun n => unitAt m c R ⟨2048 + n.val, by omega⟩) (fun k => argLg m c (ix1 k)) (fun k => argLb m c (ix1 k)) n := by
  have ht : R.val / 512 < grid0.N := by rw [N_0]; omega
  have h : 512 * (⟨R.val / 512, ht⟩ : Fin grid0.N).val + (⟨R.val % 512, by omega⟩ : Fin 512).val = R.val := by
    show 512 * (R.val / 512) + R.val % 512 = R.val
    omega
  refine (row_13 m c h n).trans ?_
  rw [Value.flushed13]
  refine (out_13 _ _ _ _ _ _ _ _ _ _ _ _ _ n).trans ?_
  exact layered_congr (fun k => unit_eq m c h ⟨2048 + k.val, by omega⟩) (fun k => (at_6 m c _ k).trans (host_v6 m c k))
    (fun k => (at_7 m c _ k).trans (host_v7 m c k)) n

theorem strip_14 {R : Fin 2048} {r : Fin 64} (h : 64 * t.val + r.val = R.val) (n : Fin 5632) :
    ((dats m 0 c).arrAt 14 cfg0.N : Vec Ideal S2048x5632 .bf16) (ix2 R n)
      = ((dats m 0 c).flushed 14 t : Vec Ideal S64x5632 .bf16) (ix2 r n) := by
  refine Eq.trans ?_ (left_14 m c t r n)
  exact congrArg (fun i => ((dats m 0 c).arrAt 14 cfg0.N : Vec Ideal S2048x5632 .bf16) (ix2 i n)) (Fin.ext h.symm)

theorem source_8 {R : Fin 2048} {r : Fin 64} (h : 64 * t.val + r.val = R.val) (n : Fin 5632) :
    (iblk m c 8 t : Vec Ideal S1x64x5632 .f32) (ix3 0 r n) = argC0 m c (ix3 0 R n) := by
  refine (at_8 m c t r n).trans (Eq.trans ?_ (congrFun (V_main_arg8 m c) (ix3 0 R n)))
  exact congrArg (fun i => (Gen.V m c main_arg8 : Vec Ideal S2x2048x5632 .f32) (ix3 0 i n)) (Fin.ext h)

/-- The first weight's result: its first layer, unchanged. -/
theorem cast_14 (R : Fin 2048) (n : Fin 5632) :
    ((dats m 0 c).arrAt 14 cfg0.N : Vec Ideal S2048x5632 .bf16) (ix2 R n) = argC0 m c (ix3 0 R n) := by
  have ht : R.val / 64 < grid0.N := by rw [N_0]; omega
  have h : 64 * (⟨R.val / 64, ht⟩ : Fin grid0.N).val + (⟨R.val % 64, by omega⟩ : Fin 64).val = R.val := by
    show 64 * (R.val / 64) + R.val % 64 = R.val
    omega
  refine (strip_14 m c h n).trans ?_
  rw [Value.flushed14]
  exact (out_14 _ _ _ _ _ _ _ _ _ _ _ _ _ n).trans (source_8 m c h n)

theorem strip_15 {R : Fin 2048} {r : Fin 64} (h : 64 * t.val + r.val = R.val) (n : Fin 5632) :
    ((dats m 0 c).arrAt 15 cfg0.N : Vec Ideal S2048x5632 .bf16) (ix2 R n)
      = ((dats m 0 c).flushed 15 t : Vec Ideal S64x5632 .bf16) (ix2 r n) := by
  refine Eq.trans ?_ (left_15 m c t r n)
  exact congrArg (fun i => ((dats m 0 c).arrAt 15 cfg0.N : Vec Ideal S2048x5632 .bf16) (ix2 i n)) (Fin.ext h.symm)

theorem source_9 {R : Fin 2048} {r : Fin 64} (h : 64 * t.val + r.val = R.val) (n : Fin 5632) :
    (iblk m c 9 t : Vec Ideal S1x64x5632 .f32) (ix3 0 r n) = argC1 m c (ix3 0 R n) := by
  refine (at_9 m c t r n).trans (Eq.trans ?_ (congrFun (V_main_arg9 m c) (ix3 0 R n)))
  exact congrArg (fun i => (Gen.V m c main_arg9 : Vec Ideal S2x2048x5632 .f32) (ix3 0 i n)) (Fin.ext h)

/-- The second weight's result: its first layer, unchanged. -/
theorem cast_15 (R : Fin 2048) (n : Fin 5632) :
    ((dats m 0 c).arrAt 15 cfg0.N : Vec Ideal S2048x5632 .bf16) (ix2 R n) = argC1 m c (ix3 0 R n) := by
  have ht : R.val / 64 < grid0.N := by rw [N_0]; omega
  have h : 64 * (⟨R.val / 64, ht⟩ : Fin grid0.N).val + (⟨R.val % 64, by omega⟩ : Fin 64).val = R.val := by
    show 64 * (R.val / 64) + R.val % 64 = R.val
    omega
  refine (strip_15 m c h n).trans ?_
  rw [Value.flushed15]
  exact (out_15 _ _ _ _ _ _ _ _ _ _ _ _ _ n).trans (source_9 m c h n)

theorem strip_16 {R : Fin 5632} {r : Fin 176} (h : 176 * t.val + r.val = R.val) (n : Fin 2048) :
    ((dats m 0 c).arrAt 16 cfg0.N : Vec Ideal S5632x2048 .bf16) (ix2 R n)
      = ((dats m 0 c).flushed 16 t : Vec Ideal S176x2048 .bf16) (ix2 r n) := by
  refine Eq.trans ?_ (left_16 m c t r n)
  exact congrArg (fun i => ((dats m 0 c).arrAt 16 cfg0.N : Vec Ideal S5632x2048 .bf16) (ix2 i n)) (Fin.ext h.symm)

theorem source_10 {R : Fin 5632} {r : Fin 176} (h : 176 * t.val + r.val = R.val) (n : Fin 2048) :
    (iblk m c 10 t : Vec Ideal S1x176x2048 .f32) (ix3 0 r n) = argC2 m c (ix3 0 R n) := by
  refine (at_10 m c t r n).trans (Eq.trans ?_ (congrFun (V_main_arg10 m c) (ix3 0 R n)))
  exact congrArg (fun i => (Gen.V m c main_arg10 : Vec Ideal S2x5632x2048 .f32) (ix3 0 i n)) (Fin.ext h)

/-- The third weight's result: its first layer, unchanged. -/
theorem cast_16 (R : Fin 5632) (n : Fin 2048) :
    ((dats m 0 c).arrAt 16 cfg0.N : Vec Ideal S5632x2048 .bf16) (ix2 R n) = argC2 m c (ix3 0 R n) := by
  have ht : R.val / 176 < grid0.N := by rw [N_0]; omega
  have h : 176 * (⟨R.val / 176, ht⟩ : Fin grid0.N).val + (⟨R.val % 176, by omega⟩ : Fin 176).val = R.val := by
    show 176 * (R.val / 176) + R.val % 176 = R.val
    omega
  refine (strip_16 m c h n).trans ?_
  rw [Value.flushed16]
  exact (out_16 _ _ _ _ _ _ _ _ _ _ _ _ _ n).trans (source_10 m c h n)

theorem strip_17 {R : Fin 2048} {r : Fin 64} (h : 64 * t.val + r.val = R.val) (n : Fin 2048) :
    ((dats m 0 c).arrAt 17 cfg0.N : Vec Ideal S2048x2048 .bf16) (ix2 R n)
      = ((dats m 0 c).flushed 17 t : Vec Ideal S64x2048 .bf16) (ix2 r n) := by
  refine Eq.trans ?_ (left_17 m c t r n)
  exact congrArg (fun i => ((dats m 0 c).arrAt 17 cfg0.N : Vec Ideal S2048x2048 .bf16) (ix2 i n)) (Fin.ext h.symm)

theorem source_11 {R : Fin 2048} {r : Fin 64} (h : 64 * t.val + r.val = R.val) (n : Fin 2048) :
    (iblk m c 11 t : Vec Ideal S1x64x2048 .f32) (ix3 0 r n) = argC3 m c (ix3 0 R n) := by
  refine (at_11 m c t r n).trans (Eq.trans ?_ (congrFun (V_main_arg11 m c) (ix3 0 R n)))
  exact congrArg (fun i => (Gen.V m c main_arg11 : Vec Ideal S1x2048x2048 .f32) (ix3 0 i n)) (Fin.ext h)

/-- The fourth weight's result: its first layer, unchanged. -/
theorem cast_17 (R : Fin 2048) (n : Fin 2048) :
    ((dats m 0 c).arrAt 17 cfg0.N : Vec Ideal S2048x2048 .bf16) (ix2 R n) = argC3 m c (ix3 0 R n) := by
  have ht : R.val / 64 < grid0.N := by rw [N_0]; omega
  have h : 64 * (⟨R.val / 64, ht⟩ : Fin grid0.N).val + (⟨R.val % 64, by omega⟩ : Fin 64).val = R.val := by
    show 64 * (R.val / 64) + R.val % 64 = R.val
    omega
  refine (strip_17 m c h n).trans ?_
  rw [Value.flushed17]
  exact (out_17 _ _ _ _ _ _ _ _ _ _ _ _ _ n).trans (source_11 m c h n)

end Cert.Kernel5Ideal.Gating

end

end
-- ==== Proof.SguInEqual.lean ====
/-
The gating unit's first call ends with the reference's results.
-/
module

public import proofs.«01_k».proof.Defs
public import proofs.«01_k».proof.Proof.SguInPlace
public import proofs.«01_k».proof.Proof.Gen.Reference5Ideal.Read

@[expose] public section

set_option maxRecDepth 16384

noncomputable section

namespace Cert.Reference5Ideal.Gating

open Cert.Reference5Ideal Cert.Reference5Ideal.Gen Cert.Reference5Ideal.Read Cert.FeedForward Cert.GatingUnit
open Idealize.ShloMosaic Idealize.ShloMosaic.TcCoe

/-- A host sum over the last axis, at an index. -/
theorem sum_last {n0 n1 n2 : ℕ} {u : Shape} (h : (⟨3, ![n0, n1, n2]⟩ : Shape).ReducesTo [2] ⟨2, ![n0, n1]⟩) (hu : 0 < u.numel)
    (y : FVec Ideal ⟨3, ![n0, n1, n2]⟩ .f32) (a : Fin n0) (b : Fin n1) :
    Host.reduceAdd y (constant u .f32 0x00000000#32) h hu (ix2 a b) = ∑ k : Fin n2, y (ix3 a b k) := by
  pointwise

variable (x0 : Vec Ideal S4x4096x2048 .f32) (x1 : Vec Ideal S2048 .f32) (x2 x3 : Vec Ideal S4x2048 .f32)
variable (x4 : Vec Ideal S2048x4096 .f32) (x5 : Vec Ideal S4096 .f32) (x6 x7 : Vec Ideal S2048 .f32)

theorem square_at (b : Fin 4) (i : Fin 4096) :
    val_main_v1 (F := Ideal) x0 (ix2 b i) = ∑ k : Fin 2048, x0 (ix3 b i k) * x0 (ix3 b i k) := by
  unfold val_main_v1
  exact sum_last _ _ _ b i

/-- The modulated rows. -/
theorem row_at (b : Fin 4) (i : Fin 4096) (k : Fin 2048) :
    val_main_v20 (F := Ideal) x0 x1 x2 x3 (ix3 b i k)
      = modulated (fun k => x0 (ix3 b i k)) (fun k => x1 (ix1 k)) (fun k => x3 (ix2 b k)) (fun k => x2 (ix2 b k)) k := by
  unfold modulated meanSquare
  rw [← square_at, ← mul_assoc]
  pointwise [val_main_v20, val_main_v19, val_main_v18, val_main_v17, val_main_v16, val_main_v15, val_main_v14, val_main_cst_2, val_main_v13, val_main_v12, val_main_v11, val_main_v10, val_main_v9, val_main_v8, val_main_v7, val_main_v6, val_main_v5, val_main_cst_1, val_main_v4, val_main_v3, val_main_cst_0, val_main_v2]

/-- The projection's units. -/
theorem unit_at (b : Fin 4) (i : Fin 4096) (n : Fin 4096) :
    val_main_v31 (F := Ideal) x0 x1 x2 x3 x4 x5 (ix3 b i n)
      = half (fun k => val_main_v20 (F := Ideal) x0 x1 x2 x3 (ix3 b i k)) (fun k => x4 (ix2 k n)) (x5 (ix1 n)) := by
  unfold half
  rw [bend_eq]
  pointwise [val_main_v31, val_main_v30, val_main_v29, val_main_v28, val_main_cst_4, val_main_v27, val_main_v26, val_main_v25, val_main_cst_3, val_main_v24, val_main_v23, val_main_v22, val_main_v21]

/-- The first result. -/
theorem u_at (R : Fin 16384) (n : Fin 2048) :
    val_main_v59 (F := Ideal) x0 x1 x2 x3 x4 x5 (ix2 R n)
      = val_main_v31 (F := Ideal) x0 x1 x2 x3 x4 x5 (ix3 ⟨R.val / 4096, by omega⟩ ⟨R.val % 4096, by omega⟩ ⟨n.val, by omega⟩) := by
  unfold val_main_v59 val_main_v58 val_main_v32
  generalize val_main_v31 (F := Ideal) x0 x1 x2 x3 x4 x5 = y
  pointwise

/-- The second half, before its norm. -/
theorem second_at (b : Fin 4) (i : Fin 4096) (n : Fin 2048) :
    val_main_v33 (F := Ideal) x0 x1 x2 x3 x4 x5 (ix3 b i n)
      = val_main_v31 (F := Ideal) x0 x1 x2 x3 x4 x5 (ix3 b i ⟨2048 + n.val, by omega⟩) := by
  unfold val_main_v33
  generalize val_main_v31 (F := Ideal) x0 x1 x2 x3 x4 x5 = y
  pointwise

theorem total_at (b : Fin 4) (i : Fin 4096) :
    val_main_v34 (F := Ideal) x0 x1 x2 x3 x4 x5 (ix2 b i) = ∑ k : Fin 2048, val_main_v33 (F := Ideal) x0 x1 x2 x3 x4 x5 (ix3 b i k) := by
  unfold val_main_v34
  exact sum_last _ _ _ b i

theorem mean_at (b : Fin 4) (i : Fin 4096) :
    val_main_v37 (F := Ideal) x0 x1 x2 x3 x4 x5 (ix3 b i 0) = mean (fun k => val_main_v33 (F := Ideal) x0 x1 x2 x3 x4 x5 (ix3 b i k)) := by
  unfold mean
  rw [← total_at]
  unfold val_main_v37 val_main_v36 val_main_cst_6 val_main_v35
  generalize val_main_v34 (F := Ideal) x0 x1 x2 x3 x4 x5 = y
  pointwise

/-- The second half less its mean. -/
theorem centred_at (b : Fin 4) (i : Fin 4096) (n : Fin 2048) :
    val_main_v39 (F := Ideal) x0 x1 x2 x3 x4 x5 (ix3 b i n)
      = val_main_v33 (F := Ideal) x0 x1 x2 x3 x4 x5 (ix3 b i n) - mean (fun k => val_main_v33 (F := Ideal) x0 x1 x2 x3 x4 x5 (ix3 b i k)) := by
  rw [← mean_at]
  unfold val_main_v39 val_main_v38
  generalize val_main_v37 (F := Ideal) x0 x1 x2 x3 x4 x5 = y
  generalize val_main_v33 (F := Ideal) x0 x1 x2 x3 x4 x5 = z
  pointwise

theorem again : val_main_v46 (F := Ideal) x0 x1 x2 x3 x4 x5 = val_main_v39 (F := Ideal) x0 x1 x2 x3 x4 x5 := rfl

theorem squares_at (b : Fin 4) (i : Fin 4096) :
    val_main_v41 (F := Ideal) x0 x1 x2 x3 x4 x5 (ix2 b i)
      = ∑ k : Fin 2048, val_main_v39 (F := Ideal) x0 x1 x2 x3 x4 x5 (ix3 b i k) * val_main_v39 (F := Ideal) x0 x1 x2 x3 x4 x5 (ix3 b i k) := by
  unfold val_main_v41
  exact sum_last _ _ _ b i

/-- The layer norm. -/
theorem layered_at (b : Fin 4) (i : Fin 4096) (n : Fin 2048) :
    val_main_v57 (F := Ideal) x0 x1 x2 x3 x4 x5 x6 x7 (ix3 b i n)
      = layered (fun k => val_main_v33 (F := Ideal) x0 x1 x2 x3 x4 x5 (ix3 b i k)) (fun k => x6 (ix1 k)) (fun k => x7 (ix1 k)) n := by
  refine Eq.trans ?_ (layered_of _ (fun k => x6 (ix1 k)) (fun k => x7 (ix1 k)) _ _ (fun k => centred_at x0 x1 x2 x3 x4 x5 b i k)
    (squares_at x0 x1 x2 x3 x4 x5 b i) n).symm
  unfold val_main_v57 val_main_v56 val_main_v55 val_main_v54 val_main_v53 val_main_v52 val_main_v51 val_main_v50 val_main_v49 val_main_v48 val_main_v47 val_main_cst_9 val_main_v44 val_main_v43 val_main_cst_8 val_main_v42
  rw [again]
  generalize val_main_v41 (F := Ideal) x0 x1 x2 x3 x4 x5 = y
  generalize val_main_v39 (F := Ideal) x0 x1 x2 x3 x4 x5 = z
  pointwise

/-- The second result. -/
theorem v_at (R : Fin 16384) (n : Fin 2048) :
    val_main_v61 (F := Ideal) x0 x1 x2 x3 x4 x5 x6 x7 (ix2 R n)
      = val_main_v57 (F := Ideal) x0 x1 x2 x3 x4 x5 x6 x7 (ix3 ⟨R.val / 4096, by omega⟩ ⟨R.val % 4096, by omega⟩ n) := by
  unfold val_main_v61 val_main_v60
  generalize val_main_v57 (F := Ideal) x0 x1 x2 x3 x4 x5 x6 x7 = y
  pointwise

theorem cast_at_64 (x8 : Vec Ideal S2x2048x5632 .f32) (p : Fin 2048) (n : Fin 5632) : val_main_v64 (F := Ideal) x8 (ix2 p n) = x8 (ix3 0 p n) := by
  pointwise [val_main_v64, val_main_v63, val_main_v62]

theorem cast_at_67 (x9 : Vec Ideal S2x2048x5632 .f32) (p : Fin 2048) (n : Fin 5632) : val_main_v67 (F := Ideal) x9 (ix2 p n) = x9 (ix3 0 p n) := by
  pointwise [val_main_v67, val_main_v66, val_main_v65]

theorem cast_at_70 (x10 : Vec Ideal S2x5632x2048 .f32) (p : Fin 5632) (n : Fin 2048) : val_main_v70 (F := Ideal) x10 (ix2 p n) = x10 (ix3 0 p n) := by
  pointwise [val_main_v70, val_main_v69, val_main_v68]

theorem cast_at_72 (x11 : Vec Ideal S1x2048x2048 .f32) (p n : Fin 2048) : val_main_v72 (F := Ideal) x11 (ix2 p n) = x11 (ix3 0 p n) := by
  pointwise [val_main_v72, val_main_v71]

end Cert.Reference5Ideal.Gating

namespace Cert.Kernel5Ideal.Gating

open Cert.Kernel5Ideal Cert.Kernel5Ideal.Gen Cert.FeedForward Cert.GatingUnit Cert.Reference5Ideal.Read
open Idealize.ShloMosaic Idealize.ShloMosaic.TcCoe Idealize.SL.Sem

variable (m : (ℓ : Loc nD τ sig) → Buf (Elt Ideal) ℓ) (c : Dev nD)

/-- The reference's units are the program's. -/
theorem unit_same (R : Fin 16384) (n : Fin 4096) :
    val_main_v31 (F := Ideal) (argX m c) (argG m c) (argShift m c) (argScale m c) (argW m c) (argB m c)
        (ix3 ⟨R.val / 4096, by omega⟩ ⟨R.val % 4096, by omega⟩ n) = unitAt m c R n := by
  refine (Cert.Reference5Ideal.Gating.unit_at _ _ _ _ _ _ _ _ n).trans ?_
  unfold unitAt
  refine congrArg (fun h => half h (fun k => argW m c (ix2 k n)) (argB m c (ix1 n))) (funext fun k => ?_)
  exact Cert.Reference5Ideal.Gating.row_at _ _ _ _ _ _ k

theorem u_eq : val_main_v59 (F := Ideal) (argX m c) (argG m c) (argShift m c) (argScale m c) (argW m c) (argB m c)
    = ((dats m 0 c).arrAt 12 cfg0.N : Vec Ideal S16384x2048 .bf16) := by
  funext y
  obtain ⟨R, n, rfl⟩ : ∃ (R : Fin 16384) (n : Fin 2048), y = ix2 R n := ⟨y 0, y 1, eq_ix2 y⟩
  exact (Cert.Reference5Ideal.Gating.u_at _ _ _ _ _ _ R n).trans ((unit_same m c R _).trans (u_at m c R n).symm)

theorem v_eq : val_main_v61 (F := Ideal) (argX m c) (argG m c) (argShift m c) (argScale m c) (argW m c) (argB m c) (argLg m c) (argLb m c)
    = ((dats m 0 c).arrAt 13 cfg0.N : Vec Ideal S16384x2048 .bf16) := by
  funext y
  obtain ⟨R, n, rfl⟩ : ∃ (R : Fin 16384) (n : Fin 2048), y = ix2 R n := ⟨y 0, y 1, eq_ix2 y⟩
  refine (Cert.Reference5Ideal.Gating.v_at _ _ _ _ _ _ _ _ R n).trans ?_
  refine (Cert.Reference5Ideal.Gating.layered_at _ _ _ _ _ _ _ _ _ _ n).trans (Eq.trans ?_ (v_at m c R n).symm)
  refine congrArg (fun v => layered v (fun k => argLg m c (ix1 k)) (fun k => argLb m c (ix1 k)) n) (funext fun k => ?_)
  exact (Cert.Reference5Ideal.Gating.second_at _ _ _ _ _ _ _ _ k).trans (unit_same m c R _)

theorem cast_eq_14 : val_main_v64 (F := Ideal) (argC0 m c) = ((dats m 0 c).arrAt 14 cfg0.N : Vec Ideal S2048x5632 .bf16) := by
  funext y
  obtain ⟨R, n, rfl⟩ : ∃ (R : Fin 2048) (n : Fin 5632), y = ix2 R n := ⟨y 0, y 1, eq_ix2 y⟩
  exact (Cert.Reference5Ideal.Gating.cast_at_64 _ R n).trans (cast_14 m c R n).symm

theorem cast_eq_15 : val_main_v67 (F := Ideal) (argC1 m c) = ((dats m 0 c).arrAt 15 cfg0.N : Vec Ideal S2048x5632 .bf16) := by
  funext y
  obtain ⟨R, n, rfl⟩ : ∃ (R : Fin 2048) (n : Fin 5632), y = ix2 R n := ⟨y 0, y 1, eq_ix2 y⟩
  exact (Cert.Reference5Ideal.Gating.cast_at_67 _ R n).trans (cast_15 m c R n).symm

theorem cast_eq_16 : val_main_v70 (F := Ideal) (argC2 m c) = ((dats m 0 c).arrAt 16 cfg0.N : Vec Ideal S5632x2048 .bf16) := by
  funext y
  obtain ⟨R, n, rfl⟩ : ∃ (R : Fin 5632) (n : Fin 2048), y = ix2 R n := ⟨y 0, y 1, eq_ix2 y⟩
  exact (Cert.Reference5Ideal.Gating.cast_at_70 _ R n).trans (cast_16 m c R n).symm

theorem cast_eq_17 : val_main_v72 (F := Ideal) (argC3 m c) = ((dats m 0 c).arrAt 17 cfg0.N : Vec Ideal S2048x2048 .bf16) := by
  funext y
  obtain ⟨R, n, rfl⟩ : ∃ (R : Fin 2048) (n : Fin 2048), y = ix2 R n := ⟨y 0, y 1, eq_ix2 y⟩
  exact (Cert.Reference5Ideal.Gating.cast_at_72 _ R n).trans (cast_17 m c R n).symm

/-- The claim: run on equal arguments, the program and the reference end with equal results. -/
theorem equal : Cert.algebraic_Kernel5Ideal_Reference5Ideal := by
  intro m g m' g' _ hm
  refine ⟨fun c => (dats m 0 c).arrAt 12 cfg0.N, fun c => (dats m 0 c).arrAt 13 cfg0.N, fun c => (dats m 0 c).arrAt 14 cfg0.N,
    fun c => (dats m 0 c).arrAt 15 cfg0.N, fun c => (dats m 0 c).arrAt 16 cfg0.N, fun c => (dats m 0 c).arrAt 17 cfg0.N,
    Value.run_blocks m g, ?_⟩
  refine (θ_run Cert.Reference5Ideal.defs _ _).mono (fun r h c => ?_) (Cert.Reference5Ideal.Value.run m' g')
  obtain ⟨e0, e1, e2, e3, e4, e5, e6, e7, e8, e9, e10, e11⟩ := hm c
  obtain ⟨h0, h1, h2, h3, h4, h5, hk⟩ := h c
  refine ⟨h0.trans ?_, h1.trans ?_, h2.trans ?_, h3.trans ?_, h4.trans ?_, h5.trans ?_, hk⟩
  · rw [val_main_v59_eq, e0, e1, e2, e3, e4, e5]
    exact u_eq m c
  · rw [val_main_v61_eq, e0, e1, e2, e3, e4, e5, e6, e7]
    exact v_eq m c
  · rw [val_main_v64_eq, e8]
    exact cast_eq_14 m c
  · rw [val_main_v67_eq, e9]
    exact cast_eq_15 m c
  · rw [val_main_v70_eq, e10]
    exact cast_eq_16 m c
  · rw [val_main_v72_eq, e11]
    exact cast_eq_17 m c

end Cert.Kernel5Ideal.Gating

end

end
-- ==== Proof.SguOutPoint.lean ====
/-
The spatial gating unit's second half: one grid point's output at an index.

A point's scratch block holds the gated mix, written tile by tile: sixteen groups of 128 columns, four chunks of 128
rows. In a chunk, row `p` of a group is the causal mix of the chunk's rows up to `p` by the group's weights, plus the
group's bias, times `u`.
-/
module

public import proofs.«01_k».proof.Proof.Gen.Kernel6Ideal.Value
public import Idealize.ShloMosaic.Lib.Pointwise
public import Idealize.ShloMosaic.Lib.Pipeline.Value
public import Idealize.ShloMosaic.Lib.Pipeline.ValueKit.Tiles

@[expose] public section

set_option maxRecDepth 16384

noncomputable section

namespace Cert.Kernel6Ideal.Mix

open Cert.Kernel6Ideal Cert.Kernel6Ideal.Gen
open Idealize.ShloMosaic

theorem hz2 : (![0, 0] : Fin 2 → Nat) = fun _ => 0 := funext fun a => by fin_cases a <;> rfl

theorem hz3 : (![0, 0, 0] : Fin 3 → Nat) = fun _ => 0 := funext fun a => by fin_cases a <;> rfl

/-- The kernel's mask: the mixed row is not after the row it is mixed into. -/
theorem mask_le (k p : Fin 128) : IntOp.cmpi .sle (BitVec.ofNat 32 k.val) (BitVec.ofNat 32 p.val) = if k.val ≤ p.val then 1#1 else 0#1 := by
  revert k p
  decide +kernel

theorem select_le (k p : Fin 128) (a b : EReal) :
    Scalar.select (IntOp.cmpi .sle (BitVec.ofNat 32 k.val) (BitVec.ofNat 32 p.val)) a b = if k.val ≤ p.val then a else b := by
  rw [mask_le]
  by_cases h : k.val ≤ p.val
  · rw [if_pos h, if_pos h]; rfl
  · rw [if_neg h, if_neg h]; rfl

/-! ## One tile -/

section Tile

variable (w : Vec Ideal S1x128x128 .f32) (v0 v1 v2 v3 : Vec Ideal S128x128 .bf16) (b : Vec Ideal S128x128 .f32) (u : Vec Ideal S128x128 .bf16)

/-- A tile's entry, from its chunk `v` of the rows to mix. -/
def entry (v : Vec Ideal S128x128 .bf16) (p s : Fin 128) : EReal :=
  u (ix2 p s) * (∑ k : Fin 128, (if k.val ≤ p.val then w (ix3 0 p k) * v (ix2 k s) else 0) + b (ix2 p s))

theorem entry_of (v : Vec Ideal S128x128 .bf16) (p s : Fin 128) :
    u (ix2 p s) * (∑ k : Fin 128, Scalar.select (IntOp.cmpi .sle (BitVec.ofNat 32 k.val) (BitVec.ofNat 32 p.val)) (w (ix3 0 p k) * v (ix2 k s)) 0 + b (ix2 p s))
      = entry w b u v p s :=
  congrArg (fun z : EReal => u (ix2 p s) * (z + b (ix2 p s))) (Finset.sum_congr rfl fun k _ => select_le k p _ _)

theorem tile_0 (p s : Fin 128) : k0_pay4 (F := Ideal) w v0 v1 v2 v3 b u (ix2 p s) = entry w b u v0 p s := by
  refine Eq.trans ?_ (entry_of w b u v0 p s)
  pointwise [k0_pay4, k0_pay2, k0_pay3, k0_pay1]

theorem tile_1 (p s : Fin 128) : k0_pay6 (F := Ideal) (k0_pay5 w v0 v1 v2 v3 b u) (ix2 p s) = entry w b u v1 p s := by
  refine Eq.trans ?_ (entry_of w b u v1 p s)
  pointwise [k0_pay6, k0_pay5, k0_pay2, k0_pay3, k0_pay1]

theorem tile_2 (p s : Fin 128) : k0_pay7 (F := Ideal) (k0_pay2 w v0 v1 v2 v3) (k0_pay3 b) u (ix2 p s) = entry w b u v2 p s := by
  refine Eq.trans ?_ (entry_of w b u v2 p s)
  pointwise [k0_pay7, k0_pay2, k0_pay3, k0_pay1]
  refine congrArg (fun z : EReal => u (ix2 p s) * (z + b (ix2 p s))) (Finset.sum_congr rfl fun k _ =>
    congrArg (fun z : EReal => Scalar.select (IntOp.cmpi .sle (BitVec.ofNat 32 k.val) (BitVec.ofNat 32 p.val)) (w (ix3 0 p k) * z) 0) ?_)
  rw [dif_neg (by omega), dif_neg (by omega), dif_pos (by omega)]
  exact congrArg (fun i => v2 (ix2 k i)) (Fin.ext (by show 256 + s.val - 128 - 128 = s.val; omega))

theorem tile_3 (p s : Fin 128) : k0_pay8 (F := Ideal) (k0_pay2 w v0 v1 v2 v3) (k0_pay3 b) u (ix2 p s) = entry w b u v3 p s := by
  refine Eq.trans ?_ (entry_of w b u v3 p s)
  pointwise [k0_pay8, k0_pay2, k0_pay3, k0_pay1]
  refine congrArg (fun z : EReal => u (ix2 p s) * (z + b (ix2 p s))) (Finset.sum_congr rfl fun k _ =>
    congrArg (fun z : EReal => Scalar.select (IntOp.cmpi .sle (BitVec.ofNat 32 k.val) (BitVec.ofNat 32 p.val)) (w (ix3 0 p k) * z) 0) ?_)
  rw [dif_neg (by omega), dif_neg (by omega), dif_neg (by omega)]
  exact congrArg (fun i => v3 (ix2 k i)) (Fin.ext (by show 384 + s.val - 128 - 128 - 128 = s.val; omega))

end Tile

/-! ## The tiles over the block -/

section Block

variable (x1 x2 : Vec Ideal S512x2048 .bf16) (x3 : Vec Ideal S16x128x128 .f32) (x4 : Vec Ideal S128x2048 .f32)

/-- The block's gated mix, at row `R` and column `q`. -/
def mixed (R : Fin 512) (q : Fin 2048) : EReal :=
  x1 (ix2 R q) * (∑ k : Fin 128, (if k.val ≤ R.val % 128 then
    x3 (ix3 ⟨q.val / 128, by omega⟩ ⟨R.val % 128, by omega⟩ k) * x2 (ix2 ⟨128 * (R.val / 128) + k.val, by omega⟩ q) else 0)
    + x4 (ix2 ⟨R.val % 128, by omega⟩ q))

theorem load_rows (X : Vec Ideal S512x2048 .bf16) (e o : ℕ) (inb : ∀ a, (![e, o] : Fin 2 → ℕ) a + (![128, 128] : Fin 2 → ℕ) a ≤ S512x2048.size a)
    (p s : Fin 128) (R : Fin 512) (q : Fin 2048) (hR : R.val = e + p.val) (hq : q.val = o + s.val) :
    (View.ld X (Rect.unit ![e, o] ![128, 128] inb) : Vec Ideal S128x128 .bf16) (ix2 p s) = X (ix2 R q) :=
  View.ld_unit_apply_of X _ _ inb (ix2 p s) (ix2 R q) (Fin.forall_fin_two.mpr ⟨hR, hq⟩)

theorem load_bias (X : Vec Ideal S128x2048 .f32) (o : ℕ) (inb : ∀ a, (![0, o] : Fin 2 → ℕ) a + (![128, 128] : Fin 2 → ℕ) a ≤ S128x2048.size a)
    (p s R : Fin 128) (q : Fin 2048) (hR : R.val = p.val) (hq : q.val = o + s.val) :
    (View.ld X (Rect.unit ![0, o] ![128, 128] inb) : Vec Ideal S128x128 .f32) (ix2 p s) = X (ix2 R q) :=
  View.ld_unit_apply_of X _ _ inb (ix2 p s) (ix2 R q) (Fin.forall_fin_two.mpr ⟨hR.trans (Nat.zero_add _).symm, hq⟩)

theorem load_weights (X : Vec Ideal S16x128x128 .f32) (g : ℕ) (inb : ∀ a, (![g, 0, 0] : Fin 3 → ℕ) a + (![1, 128, 128] : Fin 3 → ℕ) a ≤ S16x128x128.size a)
    (p k R : Fin 128) (G : Fin 16) (hG : G.val = g) (hR : R.val = p.val) :
    (View.ld X (Rect.unit ![g, 0, 0] ![1, 128, 128] inb) : Vec Ideal S1x128x128 .f32) (ix3 0 p k) = X (ix3 G R k) :=
  View.ld_unit_apply_of X _ _ inb (ix3 0 p k) (ix3 G R k)
    (Fin.forall_fin_succ.mpr ⟨hG, Fin.forall_fin_two.mpr ⟨hR.trans (Nat.zero_add _).symm, (Nat.zero_add _).symm⟩⟩)

/-- A tile's entry over its loads is the block's entry: rows from `e`, columns from `o`, group `g`. -/
theorem entry_eq (e o g : ℕ) (he : e = 128 * (e / 128)) (ho : o = 128 * g)
    (bw : ∀ a, (![g, 0, 0] : Fin 3 → ℕ) a + (![1, 128, 128] : Fin 3 → ℕ) a ≤ S16x128x128.size a)
    (bv bu : ∀ a, (![e, o] : Fin 2 → ℕ) a + (![128, 128] : Fin 2 → ℕ) a ≤ S512x2048.size a)
    (bb : ∀ a, (![0, o] : Fin 2 → ℕ) a + (![128, 128] : Fin 2 → ℕ) a ≤ S128x2048.size a)
    (p s : Fin 128) (R : Fin 512) (q : Fin 2048) (hR : R.val = e + p.val) (hq : q.val = o + s.val) :
    entry (View.ld x3 (Rect.unit ![g, 0, 0] ![1, 128, 128] bw)) (View.ld x4 (Rect.unit ![0, o] ![128, 128] bb))
      (View.ld x1 (Rect.unit ![e, o] ![128, 128] bu)) (View.ld x2 (Rect.unit ![e, o] ![128, 128] bv)) p s = mixed x1 x2 x3 x4 R q := by
  have hm : R.val % 128 = p.val := by omega
  have hd : 128 * (R.val / 128) = e := by omega
  have hg : q.val / 128 = g := by omega
  refine congrArg₂ (· * ·) (load_rows x1 e o bu p s R q hR hq) (congrArg₂ (· + ·) (Finset.sum_congr rfl fun k _ => ?_)
    (load_bias x4 o bb p s ⟨R.val % 128, by omega⟩ q hm hq))
  refine if_congr (by rw [hm]) (congrArg₂ (· * ·) (load_weights x3 g bw p k ⟨R.val % 128, by omega⟩ ⟨q.val / 128, by omega⟩ hg hm)
    (load_rows x2 e o bv k s ⟨128 * (R.val / 128) + k.val, by omega⟩ q ?_ hq)) rfl
  show 128 * (R.val / 128) + k.val = e + k.val
  rw [hd]

variable (g o : ℕ) (ho : o = 128 * g)
  (bw : ∀ a, (![g, 0, 0] : Fin 3 → ℕ) a + (![1, 128, 128] : Fin 3 → ℕ) a ≤ S16x128x128.size a)
  (b0 : ∀ a, (![0, o] : Fin 2 → ℕ) a + (![128, 128] : Fin 2 → ℕ) a ≤ S512x2048.size a)
  (b1 : ∀ a, (![128, o] : Fin 2 → ℕ) a + (![128, 128] : Fin 2 → ℕ) a ≤ S512x2048.size a)
  (b2 : ∀ a, (![256, o] : Fin 2 → ℕ) a + (![128, 128] : Fin 2 → ℕ) a ≤ S512x2048.size a)
  (b3 : ∀ a, (![384, o] : Fin 2 → ℕ) a + (![128, 128] : Fin 2 → ℕ) a ≤ S512x2048.size a)
  (bb : ∀ a, (![0, o] : Fin 2 → ℕ) a + (![128, 128] : Fin 2 → ℕ) a ≤ S128x2048.size a)
  (y : S512x2048.Idx) (x : S128x128.Idx)

include ho

theorem placed_0 (bu : ∀ a, (![0, o] : Fin 2 → ℕ) a + (![128, 128] : Fin 2 → ℕ) a ≤ S512x2048.size a)
    (h0 : (y 0 : ℕ) = 0 + (x 0 : ℕ)) (h1 : (y 1 : ℕ) = o + (x 1 : ℕ)) :
    k0_pay4 (F := Ideal) (View.ld x3 (Rect.unit ![g, 0, 0] ![1, 128, 128] bw)) (View.ld x2 (Rect.unit ![0, o] ![128, 128] b0)) (View.ld x2 (Rect.unit ![128, o] ![128, 128] b1)) (View.ld x2 (Rect.unit ![256, o] ![128, 128] b2)) (View.ld x2 (Rect.unit ![384, o] ![128, 128] b3)) (View.ld x4 (Rect.unit ![0, o] ![128, 128] bb)) (View.ld x1 (Rect.unit ![0, o] ![128, 128] bu)) x = mixed x1 x2 x3 x4 (y 0) (y 1) := by
  obtain ⟨p, s, rfl⟩ : ∃ (p s : Fin 128), x = ix2 p s := ⟨x 0, x 1, eq_ix2 x⟩
  exact (tile_0 _ _ _ _ _ _ _ p s).trans (entry_eq x1 x2 x3 x4 0 o g (by decide) ho bw b0 bu bb p s (y 0) (y 1) h0 h1)

theorem placed_1 (bu : ∀ a, (![128, o] : Fin 2 → ℕ) a + (![128, 128] : Fin 2 → ℕ) a ≤ S512x2048.size a)
    (h0 : (y 0 : ℕ) = 128 + (x 0 : ℕ)) (h1 : (y 1 : ℕ) = o + (x 1 : ℕ)) :
    k0_pay6 (F := Ideal) (k0_pay5 (View.ld x3 (Rect.unit ![g, 0, 0] ![1, 128, 128] bw)) (View.ld x2 (Rect.unit ![0, o] ![128, 128] b0)) (View.ld x2 (Rect.unit ![128, o] ![128, 128] b1)) (View.ld x2 (Rect.unit ![256, o] ![128, 128] b2)) (View.ld x2 (Rect.unit ![384, o] ![128, 128] b3)) (View.ld x4 (Rect.unit ![0, o] ![128, 128] bb)) (View.ld x1 (Rect.unit ![128, o] ![128, 128] bu))) x = mixed x1 x2 x3 x4 (y 0) (y 1) := by
  obtain ⟨p, s, rfl⟩ : ∃ (p s : Fin 128), x = ix2 p s := ⟨x 0, x 1, eq_ix2 x⟩
  exact (tile_1 _ _ _ _ _ _ _ p s).trans (entry_eq x1 x2 x3 x4 128 o g (by decide) ho bw b1 bu bb p s (y 0) (y 1) h0 h1)

theorem placed_2 (bu : ∀ a, (![256, o] : Fin 2 → ℕ) a + (![128, 128] : Fin 2 → ℕ) a ≤ S512x2048.size a)
    (h0 : (y 0 : ℕ) = 256 + (x 0 : ℕ)) (h1 : (y 1 : ℕ) = o + (x 1 : ℕ)) :
    k0_pay7 (F := Ideal) (k0_pay2 (View.ld x3 (Rect.unit ![g, 0, 0] ![1, 128, 128] bw)) (View.ld x2 (Rect.unit ![0, o] ![128, 128] b0)) (View.ld x2 (Rect.unit ![128, o] ![128, 128] b1)) (View.ld x2 (Rect.unit ![256, o] ![128, 128] b2)) (View.ld x2 (Rect.unit ![384, o] ![128, 128] b3))) (k0_pay3 (View.ld x4 (Rect.unit ![0, o] ![128, 128] bb))) (View.ld x1 (Rect.unit ![256, o] ![128, 128] bu)) x = mixed x1 x2 x3 x4 (y 0) (y 1) := by
  obtain ⟨p, s, rfl⟩ : ∃ (p s : Fin 128), x = ix2 p s := ⟨x 0, x 1, eq_ix2 x⟩
  exact (tile_2 _ _ _ _ _ _ _ p s).trans (entry_eq x1 x2 x3 x4 256 o g (by decide) ho bw b2 bu bb p s (y 0) (y 1) h0 h1)

theorem placed_3 (bu : ∀ a, (![384, o] : Fin 2 → ℕ) a + (![128, 128] : Fin 2 → ℕ) a ≤ S512x2048.size a)
    (h0 : (y 0 : ℕ) = 384 + (x 0 : ℕ)) (h1 : (y 1 : ℕ) = o + (x 1 : ℕ)) :
    k0_pay8 (F := Ideal) (k0_pay2 (View.ld x3 (Rect.unit ![g, 0, 0] ![1, 128, 128] bw)) (View.ld x2 (Rect.unit ![0, o] ![128, 128] b0)) (View.ld x2 (Rect.unit ![128, o] ![128, 128] b1)) (View.ld x2 (Rect.unit ![256, o] ![128, 128] b2)) (View.ld x2 (Rect.unit ![384, o] ![128, 128] b3))) (k0_pay3 (View.ld x4 (Rect.unit ![0, o] ![128, 128] bb))) (View.ld x1 (Rect.unit ![384, o] ![128, 128] bu)) x = mixed x1 x2 x3 x4 (y 0) (y 1) := by
  obtain ⟨p, s, rfl⟩ : ∃ (p s : Fin 128), x = ix2 p s := ⟨x 0, x 1, eq_ix2 x⟩
  exact (tile_3 _ _ _ _ _ _ _ p s).trans (entry_eq x1 x2 x3 x4 384 o g (by decide) ho bw b3 bu bb p s (y 0) (y 1) h0 h1)

end Block

theorem pay_at (Y : Vec Ideal S512x2048 .bf16) (x5 : Vec Ideal S2048x2048 .bf16) (x0 : Vec Ideal S512x2048 .f32) (x6 : Vec Ideal S1x1x2048 .f32)
    (r : Fin 512) (n : Fin 2048) :
    k0_pay125 (F := Ideal) Y x5 x0 x6 (ix2 r n) = x0 (ix2 r n) + x6 (ix3 0 0 n) * ∑ k : Fin 2048, Y (ix2 r k) * x5 (ix2 k n) := by
  pointwise [k0_pay125]

/-- One grid point's output block. -/
theorem out_A (c : Dev nD) (i : grid0.Coords) (arg1 : Memref sig .tc .vmem S512x2048 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S16x128x128 .f32) (harg4 : arg4.IsWhole) (arg5 : Memref sig .tc .vmem S128x2048 .f32) (harg5 : arg5.IsWhole) (arg6 : Memref sig .tc .vmem S2048x2048 .bf16) (harg6 : arg6.IsWhole) (arg7 : Memref sig .tc .vmem S1x1x2048 .f32) (harg7 : arg7.IsWhole) (arg8 : Memref sig .tc .vmem S512x2048 .f32) (harg8 : arg8.IsWhole) (arg9 : Memref sig .tc .vmem S512x2048 .bf16) (harg9 : arg9.IsWhole)
    (x0 : Vec Ideal S512x2048 .f32) (x1 : Vec Ideal S512x2048 .bf16) (x2 : Vec Ideal S512x2048 .bf16) (x3 : Vec Ideal S16x128x128 .f32) (x4 : Vec Ideal S128x2048 .f32) (x5 : Vec Ideal S2048x2048 .bf16) (x6 : Vec Ideal S1x1x2048 .f32) :
    out0_A_7 c i arg1 harg1 arg2 harg2 arg3 harg3 arg4 harg4 arg5 harg5 arg6 harg6 arg7 harg7 arg8 harg8 arg9 harg9 x0 x1 x2 x3 x4 x5 x6
      = k0_pay125 (F := Ideal) (fun y : S512x2048.Idx => mixed x1 x2 x3 x4 (y 0) (y 1)) x5 x0 x6 := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4 x5 x6)]
  unfold kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, View.ld_unit_zero (S := S512x2048) hz2, View.ld_unit_zero (S := S2048x2048) hz2, View.ld_unit_zero (S := S1x1x2048) hz3]
  refine congrArg (fun Y => k0_pay125 (F := Ideal) Y x5 x0 x6) ?_
  refine (View.readCov_eq_canon' _ _ _).trans ?_
  show View.ld (View.canon _) (Rect.unit ![0, 0] S512x2048.size _) = _
  rw [View.ld_unit_zero (S := S512x2048) hz2]
  funext y
  canon_tiles x h
  · exact placed_3 x1 x2 x3 x4 15 1920 rfl _ _ _ _ _ _ y x _ h0 h1
  · exact placed_2 x1 x2 x3 x4 15 1920 rfl _ _ _ _ _ _ y x _ h0 h1
  · exact placed_1 x1 x2 x3 x4 15 1920 rfl _ _ _ _ _ _ y x _ h0 h1
  · exact placed_0 x1 x2 x3 x4 15 1920 rfl _ _ _ _ _ _ y x _ (h0.trans (Nat.zero_add _).symm) h1
  · exact placed_3 x1 x2 x3 x4 14 1792 rfl _ _ _ _ _ _ y x _ h0 h1
  · exact placed_2 x1 x2 x3 x4 14 1792 rfl _ _ _ _ _ _ y x _ h0 h1
  · exact placed_1 x1 x2 x3 x4 14 1792 rfl _ _ _ _ _ _ y x _ h0 h1
  · exact placed_0 x1 x2 x3 x4 14 1792 rfl _ _ _ _ _ _ y x _ (h0.trans (Nat.zero_add _).symm) h1
  · exact placed_3 x1 x2 x3 x4 13 1664 rfl _ _ _ _ _ _ y x _ h0 h1
  · exact placed_2 x1 x2 x3 x4 13 1664 rfl _ _ _ _ _ _ y x _ h0 h1
  · exact placed_1 x1 x2 x3 x4 13 1664 rfl _ _ _ _ _ _ y x _ h0 h1
  · exact placed_0 x1 x2 x3 x4 13 1664 rfl _ _ _ _ _ _ y x _ (h0.trans (Nat.zero_add _).symm) h1
  · exact placed_3 x1 x2 x3 x4 12 1536 rfl _ _ _ _ _ _ y x _ h0 h1
  · exact placed_2 x1 x2 x3 x4 12 1536 rfl _ _ _ _ _ _ y x _ h0 h1
  · exact placed_1 x1 x2 x3 x4 12 1536 rfl _ _ _ _ _ _ y x _ h0 h1
  · exact placed_0 x1 x2 x3 x4 12 1536 rfl _ _ _ _ _ _ y x _ (h0.trans (Nat.zero_add _).symm) h1
  · exact placed_3 x1 x2 x3 x4 11 1408 rfl _ _ _ _ _ _ y x _ h0 h1
  · exact placed_2 x1 x2 x3 x4 11 1408 rfl _ _ _ _ _ _ y x _ h0 h1
  · exact placed_1 x1 x2 x3 x4 11 1408 rfl _ _ _ _ _ _ y x _ h0 h1
  · exact placed_0 x1 x2 x3 x4 11 1408 rfl _ _ _ _ _ _ y x _ (h0.trans (Nat.zero_add _).symm) h1
  · exact placed_3 x1 x2 x3 x4 10 1280 rfl _ _ _ _ _ _ y x _ h0 h1
  · exact placed_2 x1 x2 x3 x4 10 1280 rfl _ _ _ _ _ _ y x _ h0 h1
  · exact placed_1 x1 x2 x3 x4 10 1280 rfl _ _ _ _ _ _ y x _ h0 h1
  · exact placed_0 x1 x2 x3 x4 10 1280 rfl _ _ _ _ _ _ y x _ (h0.trans (Nat.zero_add _).symm) h1
  · exact placed_3 x1 x2 x3 x4 9 1152 rfl _ _ _ _ _ _ y x _ h0 h1
  · exact placed_2 x1 x2 x3 x4 9 1152 rfl _ _ _ _ _ _ y x _ h0 h1
  · exact placed_1 x1 x2 x3 x4 9 1152 rfl _ _ _ _ _ _ y x _ h0 h1
  · exact placed_0 x1 x2 x3 x4 9 1152 rfl _ _ _ _ _ _ y x _ (h0.trans (Nat.zero_add _).symm) h1
  · exact placed_3 x1 x2 x3 x4 8 1024 rfl _ _ _ _ _ _ y x _ h0 h1
  · exact placed_2 x1 x2 x3 x4 8 1024 rfl _ _ _ _ _ _ y x _ h0 h1
  · exact placed_1 x1 x2 x3 x4 8 1024 rfl _ _ _ _ _ _ y x _ h0 h1
  · exact placed_0 x1 x2 x3 x4 8 1024 rfl _ _ _ _ _ _ y x _ (h0.trans (Nat.zero_add _).symm) h1
  · exact placed_3 x1 x2 x3 x4 7 896 rfl _ _ _ _ _ _ y x _ h0 h1
  · exact placed_2 x1 x2 x3 x4 7 896 rfl _ _ _ _ _ _ y x _ h0 h1
  · exact placed_1 x1 x2 x3 x4 7 896 rfl _ _ _ _ _ _ y x _ h0 h1
  · exact placed_0 x1 x2 x3 x4 7 896 rfl _ _ _ _ _ _ y x _ (h0.trans (Nat.zero_add _).symm) h1
  · exact placed_3 x1 x2 x3 x4 6 768 rfl _ _ _ _ _ _ y x _ h0 h1
  · exact placed_2 x1 x2 x3 x4 6 768 rfl _ _ _ _ _ _ y x _ h0 h1
  · exact placed_1 x1 x2 x3 x4 6 768 rfl _ _ _ _ _ _ y x _ h0 h1
  · exact placed_0 x1 x2 x3 x4 6 768 rfl _ _ _ _ _ _ y x _ (h0.trans (Nat.zero_add _).symm) h1
  · exact placed_3 x1 x2 x3 x4 5 640 rfl _ _ _ _ _ _ y x _ h0 h1
  · exact placed_2 x1 x2 x3 x4 5 640 rfl _ _ _ _ _ _ y x _ h0 h1
  · exact placed_1 x1 x2 x3 x4 5 640 rfl _ _ _ _ _ _ y x _ h0 h1
  · exact placed_0 x1 x2 x3 x4 5 640 rfl _ _ _ _ _ _ y x _ (h0.trans (Nat.zero_add _).symm) h1
  · exact placed_3 x1 x2 x3 x4 4 512 rfl _ _ _ _ _ _ y x _ h0 h1
  · exact placed_2 x1 x2 x3 x4 4 512 rfl _ _ _ _ _ _ y x _ h0 h1
  · exact placed_1 x1 x2 x3 x4 4 512 rfl _ _ _ _ _ _ y x _ h0 h1
  · exact placed_0 x1 x2 x3 x4 4 512 rfl _ _ _ _ _ _ y x _ (h0.trans (Nat.zero_add _).symm) h1
  · exact placed_3 x1 x2 x3 x4 3 384 rfl _ _ _ _ _ _ y x _ h0 h1
  · exact placed_2 x1 x2 x3 x4 3 384 rfl _ _ _ _ _ _ y x _ h0 h1
  · exact placed_1 x1 x2 x3 x4 3 384 rfl _ _ _ _ _ _ y x _ h0 h1
  · exact placed_0 x1 x2 x3 x4 3 384 rfl _ _ _ _ _ _ y x _ (h0.trans (Nat.zero_add _).symm) h1
  · exact placed_3 x1 x2 x3 x4 2 256 rfl _ _ _ _ _ _ y x _ h0 h1
  · exact placed_2 x1 x2 x3 x4 2 256 rfl _ _ _ _ _ _ y x _ h0 h1
  · exact placed_1 x1 x2 x3 x4 2 256 rfl _ _ _ _ _ _ y x _ h0 h1
  · exact placed_0 x1 x2 x3 x4 2 256 rfl _ _ _ _ _ _ y x _ (h0.trans (Nat.zero_add _).symm) h1
  · exact placed_3 x1 x2 x3 x4 1 128 rfl _ _ _ _ _ _ y x _ h0 h1
  · exact placed_2 x1 x2 x3 x4 1 128 rfl _ _ _ _ _ _ y x _ h0 h1
  · exact placed_1 x1 x2 x3 x4 1 128 rfl _ _ _ _ _ _ y x _ h0 h1
  · exact placed_0 x1 x2 x3 x4 1 128 rfl _ _ _ _ _ _ y x _ (h0.trans (Nat.zero_add _).symm) h1
  · exact placed_3 x1 x2 x3 x4 0 0 rfl _ _ _ _ _ _ y x _ h0 (h1.trans (Nat.zero_add _).symm)
  · exact placed_2 x1 x2 x3 x4 0 0 rfl _ _ _ _ _ _ y x _ h0 (h1.trans (Nat.zero_add _).symm)
  · exact placed_1 x1 x2 x3 x4 0 0 rfl _ _ _ _ _ _ y x _ h0 (h1.trans (Nat.zero_add _).symm)
  · exact placed_0 x1 x2 x3 x4 0 0 rfl _ _ _ _ _ _ y x _ (h0.trans (Nat.zero_add _).symm) (h1.trans (Nat.zero_add _).symm)

end Cert.Kernel6Ideal.Mix

end

end
-- ==== Proof.SguOutEqual.lean ====
/-
The spatial gating unit's second half: what its call leaves, and that the reference ends with the same.

Point `t` of the grid works on rows `512 * t` to `512 * t + 511`, four whole chunks of 128 rows.
-/
module

public import proofs.«01_k».proof.Defs
public import proofs.«01_k».proof.Proof.SguOutPoint
public import proofs.«01_k».proof.Proof.Gen.Reference6Ideal.Read
public import Idealize.ShloMosaic.Lib.StableHlo.RunRead

@[expose] public section

set_option maxRecDepth 16384

noncomputable section

namespace Cert.Kernel6Ideal.Mix

open Cert.Kernel6Ideal Cert.Kernel6Ideal.Gen
open Idealize.ShloMosaic Idealize.ShloMosaic.TcCoe Idealize.SL.Sem

variable (m : (ℓ : Loc nD τ sig) → Buf (Elt Ideal) ℓ) (c : Dev nD)

/-! ## The arguments, and what the host hands the call -/

abbrev argX : Vec Ideal S4x4096x2048 .f32 := m ((c.tc : Thread nD τ).loc main_arg0)
abbrev argU : Vec Ideal S4x4096x2048 .f32 := m ((c.tc : Thread nD τ).loc main_arg1)
abbrev argV : Vec Ideal S4x4096x2048 .f32 := m ((c.tc : Thread nD τ).loc main_arg2)
abbrev argM : Vec Ideal S16x128x128 .f32 := m ((c.tc : Thread nD τ).loc main_arg3)
abbrev argB : Vec Ideal S16x128 .f32 := m ((c.tc : Thread nD τ).loc main_arg4)
abbrev argW : Vec Ideal S2048x2048 .f32 := m ((c.tc : Thread nD τ).loc main_arg5)
abbrev argGate : Vec Ideal S4x2048 .f32 := m ((c.tc : Thread nD τ).loc main_arg6)

theorem host_v2 (p : Fin 128) (q : Fin 2048) : (Gen.V m c main_v2 : Vec Ideal S128x2048 .f32) (ix2 p q) = argB m c (ix2 ⟨q.val / 128, by omega⟩ p) := by
  after_reads_simp
  pointwise

theorem host_v3 (R : Fin 16384) (k : Fin 2048) : (Gen.V m c main_v3 : Vec Ideal S16384x2048 .f32) (ix2 R k) = argX m c (ix3 ⟨R.val / 4096, by omega⟩ ⟨R.val % 4096, by omega⟩ k) := by
  after_reads_simp
  pointwise

theorem host_v5 (R : Fin 16384) (k : Fin 2048) : (Gen.V m c main_v5 : Vec Ideal S16384x2048 .bf16) (ix2 R k) = argU m c (ix3 ⟨R.val / 4096, by omega⟩ ⟨R.val % 4096, by omega⟩ k) := by
  after_reads_simp
  pointwise

theorem host_v7 (R : Fin 16384) (k : Fin 2048) : (Gen.V m c main_v7 : Vec Ideal S16384x2048 .bf16) (ix2 R k) = argV m c (ix3 ⟨R.val / 4096, by omega⟩ ⟨R.val % 4096, by omega⟩ k) := by
  after_reads_simp
  pointwise

theorem host_v8 (k n : Fin 2048) : (Gen.V m c main_v8 : Vec Ideal S2048x2048 .bf16) (ix2 k n) = argW m c (ix2 k n) := by
  after_reads_simp
  pointwise

theorem host_v9 (b : Fin 4) (k : Fin 2048) : (Gen.V m c main_v9 : Vec Ideal S4x1x2048 .f32) (ix3 b 0 k) = argGate m c (ix2 b k) := by
  after_reads_simp
  pointwise

/-! ## Where each block sits -/

theorem flush_7 (t : Fin cfg0.N) : (cfg0.win 7).flush t = true := flush0_7 t

theorem index_0 : ∀ t : Fin grid0.N, win0_0.index t 0 = t.val ∧ win0_0.index t 1 = 0 := by
  decide +kernel

/-- Where the block of rows at point `t` sits. -/
theorem emb_0 (t : Fin grid0.N) (r : Fin 512) (k : Fin 2048) : ((win0_0.rect t).emb ((ix2 r k) : S512x2048.Idx) : S16384x2048.Idx)
    = (ix2 ⟨512 * (t.val) + r.val, by have h : t.val < 32 := t.isLt; omega⟩ k) := by
  have hi := index_0 t
  funext a
  apply Fin.ext
  refine (Pipeline.Window.rect_emb_val win0_0 t _ a rfl).trans ?_
  fin_cases a
  · show win0_0.index t 0 * 512 + r.val = 512 * (t.val) + r.val
    omega
  · show win0_0.index t 1 * 2048 + k.val = k.val
    omega

theorem at_0 (t : Fin grid0.N) (r : Fin 512) (k : Fin 2048) : (iblk m c 0 t : Vec Ideal S512x2048 .f32) (ix2 r k)
    = (Gen.V m c main_v3 : Vec Ideal S16384x2048 .f32) (ix2 ⟨512 * (t.val) + r.val, by have h : t.val < 32 := t.isLt; omega⟩ k) :=
  congrArg (Gen.V m c main_v3 : Vec Ideal S16384x2048 .f32) (emb_0 t r k)

theorem index_1 : ∀ t : Fin grid0.N, win0_1.index t 0 = t.val ∧ win0_1.index t 1 = 0 := by
  decide +kernel

/-- Where the block of `u` at point `t` sits. -/
theorem emb_1 (t : Fin grid0.N) (r : Fin 512) (k : Fin 2048) : ((win0_1.rect t).emb ((ix2 r k) : S512x2048.Idx) : S16384x2048.Idx)
    = (ix2 ⟨512 * (t.val) + r.val, by have h : t.val < 32 := t.isLt; omega⟩ k) := by
  have hi := index_1 t
  funext a
  apply Fin.ext
  refine (Pipeline.Window.rect_emb_val win0_1 t _ a rfl).trans ?_
  fin_cases a
  · show win0_1.index t 0 * 512 + r.val = 512 * (t.val) + r.val
    omega
  · show win0_1.index t 1 * 2048 + k.val = k.val
    omega

theorem at_1 (t : Fin grid0.N) (r : Fin 512) (k : Fin 2048) : (iblk m c 1 t : Vec Ideal S512x2048 .bf16) (ix2 r k)
    = (Gen.V m c main_v5 : Vec Ideal S16384x2048 .bf16) (ix2 ⟨512 * (t.val) + r.val, by have h : t.val < 32 := t.isLt; omega⟩ k) :=
  congrArg (Gen.V m c main_v5 : Vec Ideal S16384x2048 .bf16) (emb_1 t r k)

theorem index_2 : ∀ t : Fin grid0.N, win0_2.index t 0 = t.val ∧ win0_2.index t 1 = 0 := by
  decide +kernel

/-- Where the block of `v` at point `t` sits. -/
theorem emb_2 (t : Fin grid0.N) (r : Fin 512) (k : Fin 2048) : ((win0_2.rect t).emb ((ix2 r k) : S512x2048.Idx) : S16384x2048.Idx)
    = (ix2 ⟨512 * (t.val) + r.val, by have h : t.val < 32 := t.isLt; omega⟩ k) := by
  have hi := index_2 t
  funext a
  apply Fin.ext
  refine (Pipeline.Window.rect_emb_val win0_2 t _ a rfl).trans ?_
  fin_cases a
  · show win0_2.index t 0 * 512 + r.val = 512 * (t.val) + r.val
    omega
  · show win0_2.index t 1 * 2048 + k.val = k.val
    omega

theorem at_2 (t : Fin grid0.N) (r : Fin 512) (k : Fin 2048) : (iblk m c 2 t : Vec Ideal S512x2048 .bf16) (ix2 r k)
    = (Gen.V m c main_v7 : Vec Ideal S16384x2048 .bf16) (ix2 ⟨512 * (t.val) + r.val, by have h : t.val < 32 := t.isLt; omega⟩ k) :=
  congrArg (Gen.V m c main_v7 : Vec Ideal S16384x2048 .bf16) (emb_2 t r k)

theorem index_3 : ∀ t : Fin grid0.N, win0_3.index t 0 = 0 ∧ win0_3.index t 1 = 0 ∧ win0_3.index t 2 = 0 := by
  decide +kernel

/-- Where the mixing weights at point `t` sits. -/
theorem emb_3 (t : Fin grid0.N) (g : Fin 16) (p : Fin 128) (k : Fin 128) : ((win0_3.rect t).emb ((ix3 g p k) : S16x128x128.Idx) : S16x128x128.Idx)
    = (ix3 g p k) := by
  have hi := index_3 t
  funext a
  apply Fin.ext
  refine (Pipeline.Window.rect_emb_val win0_3 t _ a rfl).trans ?_
  fin_cases a
  · show win0_3.index t 0 * 16 + g.val = g.val
    omega
  · show win0_3.index t 1 * 128 + p.val = p.val
    omega
  · show win0_3.index t 2 * 128 + k.val = k.val
    omega

theorem at_3 (t : Fin grid0.N) (g : Fin 16) (p : Fin 128) (k : Fin 128) : (iblk m c 3 t : Vec Ideal S16x128x128 .f32) (ix3 g p k)
    = (Gen.V m c main_arg3 : Vec Ideal S16x128x128 .f32) (ix3 g p k) :=
  congrArg (Gen.V m c main_arg3 : Vec Ideal S16x128x128 .f32) (emb_3 t g p k)

theorem index_4 : ∀ t : Fin grid0.N, win0_4.index t 0 = 0 ∧ win0_4.index t 1 = 0 := by
  decide +kernel

/-- Where the mixing bias at point `t` sits. -/
theorem emb_4 (t : Fin grid0.N) (p : Fin 128) (k : Fin 2048) : ((win0_4.rect t).emb ((ix2 p k) : S128x2048.Idx) : S128x2048.Idx)
    = (ix2 p k) := by
  have hi := index_4 t
  funext a
  apply Fin.ext
  refine (Pipeline.Window.rect_emb_val win0_4 t _ a rfl).trans ?_
  fin_cases a
  · show win0_4.index t 0 * 128 + p.val = p.val
    omega
  · show win0_4.index t 1 * 2048 + k.val = k.val
    omega

theorem at_4 (t : Fin grid0.N) (p : Fin 128) (k : Fin 2048) : (iblk m c 4 t : Vec Ideal S128x2048 .f32) (ix2 p k)
    = (Gen.V m c main_v2 : Vec Ideal S128x2048 .f32) (ix2 p k) :=
  congrArg (Gen.V m c main_v2 : Vec Ideal S128x2048 .f32) (emb_4 t p k)

theorem index_5 : ∀ t : Fin grid0.N, win0_5.index t 0 = 0 ∧ win0_5.index t 1 = 0 := by
  decide +kernel

/-- Where the projection at point `t` sits. -/
theorem emb_5 (t : Fin grid0.N) (k : Fin 2048) (n : Fin 2048) : ((win0_5.rect t).emb ((ix2 k n) : S2048x2048.Idx) : S2048x2048.Idx)
    = (ix2 k n) := by
  have hi := index_5 t
  funext a
  apply Fin.ext
  refine (Pipeline.Window.rect_emb_val win0_5 t _ a rfl).trans ?_
  fin_cases a
  · show win0_5.index t 0 * 2048 + k.val = k.val
    omega
  · show win0_5.index t 1 * 2048 + n.val = n.val
    omega

theorem at_5 (t : Fin grid0.N) (k : Fin 2048) (n : Fin 2048) : (iblk m c 5 t : Vec Ideal S2048x2048 .bf16) (ix2 k n)
    = (Gen.V m c main_v8 : Vec Ideal S2048x2048 .bf16) (ix2 k n) :=
  congrArg (Gen.V m c main_v8 : Vec Ideal S2048x2048 .bf16) (emb_5 t k n)

theorem index_6 : ∀ t : Fin grid0.N, win0_6.index t 0 = t.val / 8 ∧ win0_6.index t 1 = 0 ∧ win0_6.index t 2 = 0 := by
  decide +kernel

/-- Where the gate at point `t` sits. -/
theorem emb_6 (t : Fin grid0.N) (k : Fin 2048) : ((win0_6.rect t).emb ((ix3 0 0 k) : S1x1x2048.Idx) : S4x1x2048.Idx)
    = (ix3 ⟨t.val / 8, by have h : t.val < 32 := t.isLt; omega⟩ 0 k) := by
  have hi := index_6 t
  funext a
  apply Fin.ext
  refine (Pipeline.Window.rect_emb_val win0_6 t _ a rfl).trans ?_
  fin_cases a
  · show win0_6.index t 0 * 1 + 0 = t.val / 8
    omega
  · show win0_6.index t 1 * 1 + 0 = 0
    omega
  · show win0_6.index t 2 * 2048 + k.val = k.val
    omega

theorem at_6 (t : Fin grid0.N) (k : Fin 2048) : (iblk m c 6 t : Vec Ideal S1x1x2048 .f32) (ix3 0 0 k)
    = (Gen.V m c main_v9 : Vec Ideal S4x1x2048 .f32) (ix3 ⟨t.val / 8, by have h : t.val < 32 := t.isLt; omega⟩ 0 k) :=
  congrArg (Gen.V m c main_v9 : Vec Ideal S4x1x2048 .f32) (emb_6 t k)

theorem index_7 : ∀ t : Fin grid0.N, win0_7.index t 0 = t.val ∧ win0_7.index t 1 = 0 := by
  decide +kernel

/-- Where the result's block at point `t` sits. -/
theorem emb_7 (t : Fin grid0.N) (r : Fin 512) (k : Fin 2048) : ((win0_7.rect t).emb ((ix2 r k) : S512x2048.Idx) : S16384x2048.Idx)
    = (ix2 ⟨512 * (t.val) + r.val, by have h : t.val < 32 := t.isLt; omega⟩ k) := by
  have hi := index_7 t
  funext a
  apply Fin.ext
  refine (Pipeline.Window.rect_emb_val win0_7 t _ a rfl).trans ?_
  fin_cases a
  · show win0_7.index t 0 * 512 + r.val = 512 * (t.val) + r.val
    omega
  · show win0_7.index t 1 * 2048 + k.val = k.val
    omega

theorem left_7 (t : Fin grid0.N) (r : Fin 512) (k : Fin 2048) : ((dats m 0 c).arrAt 7 cfg0.N : Vec Ideal S16384x2048 .f32) (ix2 ⟨512 * (t.val) + r.val, by have h : t.val < 32 := t.isLt; omega⟩ k)
    = ((dats m 0 c).flushed 7 t : Vec Ideal S512x2048 .f32) (ix2 r k) := by
  rw [← Value.blocks7 m c t (flush_7 t)]
  exact (congrArg ((dats m 0 c).arrAt 7 cfg0.N : Vec Ideal S16384x2048 .f32) (emb_7 t r k)).symm

/-! ## The array the call leaves -/

/-- The gated mix of row `R`: the rows of its chunk up to it, by the column's group. -/
def gated (R : Fin 16384) (q : Fin 2048) : EReal :=
  argU m c (ix3 ⟨R.val / 4096, by omega⟩ ⟨R.val % 4096, by omega⟩ q) * (∑ k : Fin 128, (if k.val ≤ R.val % 128 then
    argM m c (ix3 ⟨q.val / 128, by omega⟩ ⟨R.val % 128, by omega⟩ k)
      * argV m c (ix3 ⟨R.val / 4096, by omega⟩ ⟨128 * (R.val % 4096 / 128) + k.val, by omega⟩ q) else 0)
    + argB m c (ix2 ⟨q.val / 128, by omega⟩ ⟨R.val % 128, by omega⟩))

/-- The projected mix, gated, added to the row. -/
def joined (R : Fin 16384) (n : Fin 2048) : EReal :=
  argX m c (ix3 ⟨R.val / 4096, by omega⟩ ⟨R.val % 4096, by omega⟩ n)
    + argGate m c (ix2 ⟨R.val / 4096, by omega⟩ n) * ∑ k : Fin 2048, gated m c R k * argW m c (ix2 k n)

variable {t : Fin grid0.N} {R : Fin 16384} {r : Fin 512}

theorem blk_0 (h : 512 * t.val + r.val = R.val) (k : Fin 2048) :
    (iblk m c 0 t : Vec Ideal S512x2048 .f32) (ix2 r k) = argX m c (ix3 ⟨R.val / 4096, by omega⟩ ⟨R.val % 4096, by omega⟩ k) := by
  refine (at_0 m c t r k).trans (Eq.trans ?_ (host_v3 m c R k))
  exact congrArg (fun i => (Gen.V m c main_v3 : Vec Ideal S16384x2048 .f32) (ix2 i k)) (Fin.ext h)

theorem blk_1 (h : 512 * t.val + r.val = R.val) (k : Fin 2048) :
    (iblk m c 1 t : Vec Ideal S512x2048 .bf16) (ix2 r k) = argU m c (ix3 ⟨R.val / 4096, by omega⟩ ⟨R.val % 4096, by omega⟩ k) := by
  refine (at_1 m c t r k).trans (Eq.trans ?_ (host_v5 m c R k))
  exact congrArg (fun i => (Gen.V m c main_v5 : Vec Ideal S16384x2048 .bf16) (ix2 i k)) (Fin.ext h)

theorem blk_2 (h : 512 * t.val + r.val = R.val) (k : Fin 2048) :
    (iblk m c 2 t : Vec Ideal S512x2048 .bf16) (ix2 r k) = argV m c (ix3 ⟨R.val / 4096, by omega⟩ ⟨R.val % 4096, by omega⟩ k) := by
  refine (at_2 m c t r k).trans (Eq.trans ?_ (host_v7 m c R k))
  exact congrArg (fun i => (Gen.V m c main_v7 : Vec Ideal S16384x2048 .bf16) (ix2 i k)) (Fin.ext h)

/-- A row of the chunk of row `R`. -/
theorem chunk_2 (h : 512 * t.val + r.val = R.val) (k : Fin 128) (q : Fin 2048) :
    (iblk m c 2 t : Vec Ideal S512x2048 .bf16) (ix2 ⟨128 * (r.val / 128) + k.val, by omega⟩ q)
      = argV m c (ix3 ⟨R.val / 4096, by omega⟩ ⟨128 * (R.val % 4096 / 128) + k.val, by omega⟩ q) := by
  have hr := r.isLt
  have hk := k.isLt
  have hR := R.isLt
  refine (blk_2 (R := ⟨128 * (R.val / 128) + k.val, by omega⟩) m c ?_ q).trans ?_
  · show 512 * t.val + (128 * (r.val / 128) + k.val) = 128 * (R.val / 128) + k.val
    omega
  · refine congrArg₂ (fun a b => argV m c (ix3 a b q)) (Fin.ext ?_) (Fin.ext ?_)
    · show (128 * (R.val / 128) + k.val) / 4096 = R.val / 4096
      omega
    · show (128 * (R.val / 128) + k.val) % 4096 = 128 * (R.val % 4096 / 128) + k.val
      omega

theorem blk_3 (g : Fin 16) (p k : Fin 128) : (iblk m c 3 t : Vec Ideal S16x128x128 .f32) (ix3 g p k) = argM m c (ix3 g p k) :=
  (at_3 m c t g p k).trans (congrFun (V_main_arg3 m c) (ix3 g p k))

theorem blk_4 (p : Fin 128) (q : Fin 2048) : (iblk m c 4 t : Vec Ideal S128x2048 .f32) (ix2 p q) = argB m c (ix2 ⟨q.val / 128, by omega⟩ p) :=
  (at_4 m c t p q).trans (host_v2 m c p q)

theorem blk_6 (h : 512 * t.val + r.val = R.val) (k : Fin 2048) :
    (iblk m c 6 t : Vec Ideal S1x1x2048 .f32) (ix3 0 0 k) = argGate m c (ix2 ⟨R.val / 4096, by omega⟩ k) := by
  refine (at_6 m c t k).trans (Eq.trans ?_ (host_v9 m c _ k))
  refine congrArg (fun i => (Gen.V m c main_v9 : Vec Ideal S4x1x2048 .f32) (ix3 i 0 k)) (Fin.ext ?_)
  show t.val / 8 = R.val / 4096
  omega

/-- A point's gated mix is the rows'. -/
theorem mixed_eq (h : 512 * t.val + r.val = R.val) (q : Fin 2048) :
    mixed (iblk m c 1 t : Vec Ideal S512x2048 .bf16) (iblk m c 2 t : Vec Ideal S512x2048 .bf16) (iblk m c 3 t : Vec Ideal S16x128x128 .f32)
      (iblk m c 4 t : Vec Ideal S128x2048 .f32) r q = gated m c R q := by
  have hm : r.val % 128 = R.val % 128 := by omega
  have hp : (⟨r.val % 128, by omega⟩ : Fin 128) = ⟨R.val % 128, by omega⟩ := Fin.ext hm
  refine congrArg₂ (· * ·) (blk_1 m c h q) (congrArg₂ (· + ·) (Finset.sum_congr rfl fun k _ => ?_) ?_)
  · refine if_congr (by rw [hm]) (congrArg₂ (· * ·) ?_ (chunk_2 m c h k q)) rfl
    exact (blk_3 m c _ _ k).trans (congrArg (fun p => argM m c (ix3 ⟨q.val / 128, by omega⟩ p k)) hp)
  · exact (blk_4 m c _ q).trans (congrArg (fun p => argB m c (ix2 ⟨q.val / 128, by omega⟩ p)) hp)

theorem row_7 (h : 512 * t.val + r.val = R.val) (n : Fin 2048) :
    ((dats m 0 c).arrAt 7 cfg0.N : Vec Ideal S16384x2048 .f32) (ix2 R n)
      = ((dats m 0 c).flushed 7 t : Vec Ideal S512x2048 .f32) (ix2 r n) := by
  refine Eq.trans ?_ (left_7 m c t r n)
  exact congrArg (fun i => ((dats m 0 c).arrAt 7 cfg0.N : Vec Ideal S16384x2048 .f32) (ix2 i n)) (Fin.ext h.symm)

/-- The result array, at row `R`. -/
theorem result_at (R : Fin 16384) (n : Fin 2048) :
    ((dats m 0 c).arrAt 7 cfg0.N : Vec Ideal S16384x2048 .f32) (ix2 R n) = joined m c R n := by
  have ht : R.val / 512 < grid0.N := by rw [N_0]; omega
  have h : 512 * (⟨R.val / 512, ht⟩ : Fin grid0.N).val + (⟨R.val % 512, by omega⟩ : Fin 512).val = R.val := by
    show 512 * (R.val / 512) + R.val % 512 = R.val
    omega
  refine (row_7 m c h n).trans ?_
  rw [Value.flushed7_A]
  refine (congrFun (out_A c _ _ _ _ _ _ _ _ _ _ _ _ _ _ _ _ _ _ _ _ _ _ _ _ _ _) (ix2 ⟨R.val % 512, by omega⟩ n)).trans ((pay_at _ _ _ _ _ n).trans ?_)
  exact congrArg₂ (· + ·) (blk_0 m c h n) (congrArg₂ (· * ·) (blk_6 m c h n)
    (Finset.sum_congr rfl fun k _ => congrArg₂ (· * ·) (mixed_eq m c h k) ((at_5 m c _ k n).trans (host_v8 m c k n))))

end Cert.Kernel6Ideal.Mix

namespace Cert.Reference6Ideal.Mix

open Cert.Reference6Ideal Cert.Reference6Ideal.Gen Cert.Reference6Ideal.Read
open Idealize.ShloMosaic Idealize.ShloMosaic.TcCoe

variable (x0 x1 x2 : Vec Ideal S4x4096x2048 .f32) (x3 : Vec Ideal S16x128x128 .f32) (x4 : Vec Ideal S16x128 .f32)
variable (x5 : Vec Ideal S2048x2048 .f32) (x6 : Vec Ideal S4x2048 .f32)

/-- The reference's mask: the row mixed into is not before the mixed row. -/
theorem mask_ge (p k : Fin 128) : IntOp.cmpi .sge (IntOp.addi (BitVec.ofNat 32 p.val) 0#32) (BitVec.ofNat 32 k.val) = if k.val ≤ p.val then 1#1 else 0#1 := by
  revert k p
  decide +kernel

theorem lower_at (p k : Fin 128) : val_main_v1 (F := Ideal) (ix2 p k) = if k.val ≤ p.val then 1#1 else 0#1 := by
  refine Eq.trans ?_ (mask_ge p k)
  pointwise [val_main_v1, val_main_call0_v4, val_main_call0_v3, val_main_call0_v2, val_main_call0_v1, val_main_call0_c, val_main_call0_v0, val_main_v0, val_main_c, val_main_call0_v5, val_main_call0_c_0]
  rw [mask_ge]
  by_cases h : k.val ≤ p.val
  · rw [if_pos h]; rfl
  · rw [if_neg h]; rfl

/-- The masked weights. -/
theorem weight_at (g : Fin 16) (p k : Fin 128) :
    val_main_v3 (F := Ideal) x3 (ix3 g p k) = if k.val ≤ p.val then x3 (ix3 g p k) else 0 := by
  have e : val_main_v3 (F := Ideal) x3 (ix3 g p k) = Scalar.select (val_main_v1 (F := Ideal) (ix2 p k)) (x3 (ix3 g p k)) (0 : EReal) := by
    unfold val_main_v3 val_main_call1_v1 val_main_v2 val_main_call1_v2 val_main_call1_v0 val_main_c_0
    generalize val_main_v1 (F := Ideal) = y
    pointwise
    refine congrArg (Scalar.select (y (ix2 p k)) (x3 (ix3 g p k))) ?_
    show (((0#32 : BitVec 32).toInt : ℝ) : EReal) = 0
    simp
  rw [e, lower_at]
  by_cases h : k.val ≤ p.val
  · rw [if_pos h, if_pos h]; rfl
  · rw [if_neg h, if_neg h]; rfl

theorem chunk_at (b : Fin 4) (n : Fin 32) (k : Fin 128) (g : Fin 16) (s : Fin 128) :
    val_main_v4 (F := Ideal) x2 (ix5 b n k g s) = x2 (ix3 b ⟨128 * n.val + k.val, by omega⟩ ⟨128 * g.val + s.val, by omega⟩) := by
  pointwise [val_main_v4]
  exact congrArg₂ (fun a d => x2 (ix3 b a d)) (Fin.ext (congrArg (· + k.val) (Nat.mul_comm _ _))) (Fin.ext (congrArg (· + s.val) (Nat.mul_comm _ _)))

theorem mix_at (g : Fin 16) (b : Fin 4) (n : Fin 32) (s p : Fin 128) :
    val_main_v5 (F := Ideal) x2 x3 (ix5 g b n s p)
      = ∑ k : Fin 128, (if k.val ≤ p.val then x3 (ix3 g p k) * x2 (ix3 b ⟨128 * n.val + k.val, by omega⟩ ⟨128 * g.val + s.val, by omega⟩) else 0) := by
  rw [val_main_v5_apply]
  have el (k : Fin 128) : lidx_main_v5 (ix5 g b n s p) k = ix5 b n k g s := funext fun a => by fin_cases a <;> rfl
  have er (k : Fin 128) : ridx_main_v5 (ix5 g b n s p) k = ix3 g p k := funext fun a => by fin_cases a <;> rfl
  refine Finset.sum_congr rfl fun k _ => ?_
  refine (congrArg₂ (· * ·) ((congrArg _ (el k)).trans (chunk_at x2 b n k g s)) ((congrArg _ (er k)).trans (weight_at x3 g p k))).trans ?_
  by_cases h : k.val ≤ p.val
  · rw [if_pos h, if_pos h]; exact mul_comm _ _
  · rw [if_neg h, if_neg h]; exact mul_zero _

/-- The gated mix. -/
theorem gated_at (b : Fin 4) (i : Fin 4096) (q : Fin 2048) :
    val_main_v12 (F := Ideal) x1 x2 x3 x4 (ix3 b i q)
      = x1 (ix3 b i q) * (val_main_v5 (F := Ideal) x2 x3 (ix5 ⟨q.val / 128, by omega⟩ b ⟨i.val / 128, by omega⟩ ⟨q.val % 128, by omega⟩ ⟨i.val % 128, by omega⟩)
          + x4 (ix2 ⟨q.val / 128, by omega⟩ ⟨i.val % 128, by omega⟩)) := by
  unfold val_main_v12 val_main_v11 val_main_v10 val_main_v6
  generalize val_main_v5 (F := Ideal) x2 x3 = y
  pointwise [val_main_v9, val_main_v8, val_main_v7]

theorem result_at (R : Fin 16384) (n : Fin 2048) :
    val_main_v18 (F := Ideal) x0 x1 x2 x3 x4 x5 x6 (ix2 R n)
      = x0 (ix3 ⟨R.val / 4096, by omega⟩ ⟨R.val % 4096, by omega⟩ n)
        + x6 (ix2 ⟨R.val / 4096, by omega⟩ n) * ∑ k : Fin 2048, val_main_v12 (F := Ideal) x1 x2 x3 x4 (ix3 ⟨R.val / 4096, by omega⟩ ⟨R.val % 4096, by omega⟩ k) * x5 (ix2 k n) := by
  unfold val_main_v18 val_main_v17 val_main_v16 val_main_v14
  generalize val_main_v12 (F := Ideal) x1 x2 x3 x4 = y
  pointwise [val_main_v15, val_main_v13]

end Cert.Reference6Ideal.Mix

namespace Cert.Kernel6Ideal.Mix

open Cert.Kernel6Ideal Cert.Kernel6Ideal.Gen Cert.Reference6Ideal.Read
open Idealize.ShloMosaic Idealize.ShloMosaic.TcCoe Idealize.SL.Sem

variable (m : (ℓ : Loc nD τ sig) → Buf (Elt Ideal) ℓ) (c : Dev nD)

/-- The reference's gated mix is the program's. -/
theorem gated_same (R : Fin 16384) (q : Fin 2048) :
    val_main_v12 (F := Ideal) (argU m c) (argV m c) (argM m c) (argB m c) (ix3 ⟨R.val / 4096, by omega⟩ ⟨R.val % 4096, by omega⟩ q) = gated m c R q := by
  have hR := R.isLt
  have hm : R.val % 4096 % 128 = R.val % 128 := by omega
  have hp : (⟨R.val % 4096 % 128, by omega⟩ : Fin 128) = ⟨R.val % 128, by omega⟩ := Fin.ext hm
  have hq : (⟨128 * (q.val / 128) + q.val % 128, by omega⟩ : Fin 2048) = q := Fin.ext (by show 128 * (q.val / 128) + q.val % 128 = q.val; omega)
  refine (Cert.Reference6Ideal.Mix.gated_at _ _ _ _ _ _ q).trans ?_
  refine congrArg₂ (· * ·) rfl (congrArg₂ (· + ·) ((Cert.Reference6Ideal.Mix.mix_at _ _ _ _ _ _ _).trans
    (Finset.sum_congr rfl fun k _ => if_congr (by rw [← hm]) (congrArg₂ (· * ·) ?_ ?_) rfl)) ?_)
  · exact congrArg (fun p => argM m c (ix3 ⟨q.val / 128, by omega⟩ p k)) hp
  · exact congrArg (fun q => argV m c (ix3 ⟨R.val / 4096, by omega⟩ ⟨128 * (R.val % 4096 / 128) + k.val, by omega⟩ q)) hq
  · exact congrArg (fun p => argB m c (ix2 ⟨q.val / 128, by omega⟩ p)) hp

/-- The reference's result is the program's. -/
theorem reference_eq : val_main_v18 (F := Ideal) (argX m c) (argU m c) (argV m c) (argM m c) (argB m c) (argW m c) (argGate m c)
    = ((dats m 0 c).arrAt 7 cfg0.N : Vec Ideal S16384x2048 .f32) := by
  funext y
  obtain ⟨R, n, rfl⟩ : ∃ (R : Fin 16384) (n : Fin 2048), y = ix2 R n := ⟨y 0, y 1, eq_ix2 y⟩
  refine (Cert.Reference6Ideal.Mix.result_at _ _ _ _ _ _ _ R n).trans (Eq.trans ?_ (result_at m c R n).symm)
  exact congrArg₂ (· + ·) rfl (congrArg₂ (· * ·) rfl (Finset.sum_congr rfl fun k _ => congrArg₂ (· * ·) (gated_same m c R k) rfl))

/-- The claim: run on equal arguments, the program and the reference end with equal results. -/
theorem equal : Cert.algebraic_Kernel6Ideal_Reference6Ideal := by
  intro m g m' g' _ hm
  refine ⟨fun c => (dats m 0 c).arrAt 7 cfg0.N, Value.run_blocks m g, ?_⟩
  refine (θ_run Cert.Reference6Ideal.defs _ _).mono (fun r h c => ?_) (Cert.Reference6Ideal.Value.run m' g')
  obtain ⟨e0, e1, e2, e3, e4, e5, e6⟩ := hm c
  refine ⟨(h c).1.trans ?_, (h c).2⟩
  rw [val_main_v18_eq, e0, e1, e2, e3, e4, e5, e6]
  exact reference_eq m c

end Cert.Kernel6Ideal.Mix

end

end
-- ==== Proof.Modulate.lean ====
/-
The product that makes the modulation of both layers: what its call leaves, and that the reference ends with the same.

Point `t` of the grid makes columns `1024 * (t % 12)` to `1024 * (t % 12) + 1023` of layer `t / 12`.
-/
module

public import proofs.«01_k».proof.Defs
public import proofs.«01_k».proof.Proof.Gen.Kernel7Ideal.Value
public import proofs.«01_k».proof.Proof.Gen.Reference7Ideal.Read
public import Idealize.ShloMosaic.Lib.Pointwise
public import Idealize.ShloMosaic.Lib.Pipeline.Value
public import Idealize.ShloMosaic.Lib.KernelVsHost
public import Idealize.ShloMosaic.Lib.Routing.OpsSet
public import Idealize.ShloMosaic.Lib.StableHlo.RunRead

@[expose] public section

set_option maxRecDepth 16384

noncomputable section

namespace Cert.Kernel7Ideal.Modulate

open Cert.Kernel7Ideal Cert.Kernel7Ideal.Gen
open Idealize.ShloMosaic Idealize.ShloMosaic.TcCoe Idealize.SL.Sem

variable (m : (ℓ : Loc nD τ sig) → Buf (Elt Ideal) ℓ) (c : Dev nD)

theorem hz2 : (![0, 0] : Fin 2 → Nat) = fun _ => 0 := funext fun a => by fin_cases a <;> rfl

theorem hz3 : (![0, 0, 0] : Fin 3 → Nat) = fun _ => 0 := funext fun a => by fin_cases a <;> rfl

/-! ## Four rows set into eight -/

/-- An update of the first rows lands at its own row and column: the start is row 0. -/
theorem lands (idx : IVec S1 32) (h0 : ∀ j, idx j = 0#32) (i : Fin 4) (k : Fin 2048) :
    scatter_S8x2048_S1_S4x2048_01_n_0_0.resultIdx? (ix2 i k) idx = some (ix2 ⟨i.val, by omega⟩ k) := by
  have hs (a : Fin 2) : scatter_S8x2048_S1_S4x2048_01_n_0_0.start (ix2 i k) idx a = 0 := by
    unfold ScatterDims.start
    by_cases ha : a ∈ scatter_S8x2048_S1_S4x2048_01_n_0_0.scatterDimsToOperandDims
    · rw [dif_pos ha, h0]; rfl
    · rw [dif_neg ha]
  have hw0 : scatter_S8x2048_S1_S4x2048_01_n_0_0.window (ix2 i k) 0 = i.val := rfl
  have hw1 : scatter_S8x2048_S1_S4x2048_01_n_0_0.window (ix2 i k) 1 = k.val := rfl
  refine (Routing.resultIdx?_ix2 (R := 8) (C := 2048) scatter_S8x2048_S1_S4x2048_01_n_0_0 (ix2 i k) idx ⟨i.val, by omega⟩ k).2 ?_
  rw [hs 0, hs 1, hw0, hw1]
  exact ⟨by show (0 : Int) + (i.val : Int) = (i.val : Int); omega, by omega⟩

/-- Setting four rows into eight, at an index: the update's row where there is one, else what was there. -/
theorem set_rows (x : Vec Ideal S8x2048 .f32) (idx : IVec S1 32) (h0 : ∀ j, idx j = 0#32) (u : Vec Ideal S4x2048 .f32) (r : Fin 8) (k : Fin 2048) :
    Host.scatter scatter_S8x2048_S1_S4x2048_01_n_0_0 (fun _ b => b) x idx u (ix2 r k) = if h : r.val < 4 then u (ix2 ⟨r.val, h⟩ k) else x (ix2 r k) := by
  have at_of (j : S4x2048.Idx) (hj : scatter_S8x2048_S1_S4x2048_01_n_0_0.resultIdx? j idx = some (ix2 r k)) :
      (j 0).val = r.val ∧ j 1 = k := by
    have e := Option.some.inj ((lands idx h0 (j 0) (j 1)).symm.trans
      ((congrArg (fun j => scatter_S8x2048_S1_S4x2048_01_n_0_0.resultIdx? j idx) (eq_ix2 j).symm).trans hj))
    exact ⟨congrArg (fun i : S8x2048.Idx => (i 0).val) e, congrFun e 1⟩
  by_cases h : r.val < 4
  · rw [dif_pos h]
    refine Routing.scatter_set_hit _ x idx u _ _ (fun j hj => ?_) (ix2 ⟨r.val, h⟩ k) (lands idx h0 _ k)
    have e := at_of j hj
    exact (congrArg u (eq_ix2 j)).trans (congrArg₂ (fun a b => u (ix2 a b)) (Fin.ext e.1) e.2)
  · rw [dif_neg h]
    refine Routing.scatter_set_miss _ x idx u _ fun j hj => ?_
    have e := (at_of j hj).1
    have hl : (j 0).val < 4 := (j 0).isLt
    omega

/-! ## The arguments, and what the host hands the call -/

abbrev argC : Vec Ideal S4x2048 .f32 := m ((c.tc : Thread nD τ).loc main_arg0)
abbrev argW : Vec Ideal S2x2048x12288 .f32 := m ((c.tc : Thread nD τ).loc main_arg1)
abbrev argB : Vec Ideal S2x12288 .f32 := m ((c.tc : Thread nD τ).loc main_arg2)

/-- Eight rows: the four of the conditioning, and zeros. -/
def padded (x : Vec Ideal S4x2048 .f32) (r : Fin 8) (k : Fin 2048) : EReal := if h : r.val < 4 then x (ix2 ⟨r.val, h⟩ k) else 0

theorem host_v2 (r : Fin 8) (k : Fin 2048) : (Gen.V m c main_v2 : Vec Ideal S8x2048 .f32) (ix2 r k) = padded (argC m c) r k := by
  after_reads_simp
  refine (set_rows _ _ (fun j => ?_) _ r k).trans ?_
  · rfl
  · unfold padded
    by_cases h : r.val < 4
    · rw [dif_pos h, dif_pos h]
    · rw [dif_neg h, dif_neg h]
      pointwise

theorem host_v3 (b : Fin 2) (n : Fin 12288) : (Gen.V m c main_v3 : Vec Ideal S2x1x12288 .f32) (ix3 b 0 n) = argB m c (ix2 b n) := by
  after_reads_simp
  pointwise

/-! ## Where each block sits -/

theorem flush_3 (t : Fin cfg0.N) : (cfg0.win 3).flush t = true := flush0_3 t

theorem index_0 : ∀ t : Fin grid0.N, win0_0.index t 0 = 0 ∧ win0_0.index t 1 = 0 := by
  decide +kernel

/-- Where the rows at point `t` sits. -/
theorem emb_0 (t : Fin grid0.N) (r : Fin 8) (k : Fin 2048) : ((win0_0.rect t).emb ((ix2 r k) : S8x2048.Idx) : S8x2048.Idx)
    = (ix2 r k) := by
  have hi := index_0 t
  funext a
  apply Fin.ext
  refine (Pipeline.Window.rect_emb_val win0_0 t _ a rfl).trans ?_
  fin_cases a
  · show win0_0.index t 0 * 8 + r.val = r.val
    omega
  · show win0_0.index t 1 * 2048 + k.val = k.val
    omega

theorem at_0 (t : Fin grid0.N) (r : Fin 8) (k : Fin 2048) : (iblk m c 0 t : Vec Ideal S8x2048 .f32) (ix2 r k)
    = (Gen.V m c main_v2 : Vec Ideal S8x2048 .f32) (ix2 r k) :=
  congrArg (Gen.V m c main_v2 : Vec Ideal S8x2048 .f32) (emb_0 t r k)

theorem index_1 : ∀ t : Fin grid0.N, win0_1.index t 0 = t.val / 12 ∧ win0_1.index t 1 = 0 ∧ win0_1.index t 2 = t.val % 12 := by
  decide +kernel

/-- Where the block of weights at point `t` sits. -/
theorem emb_1 (t : Fin grid0.N) (k : Fin 2048) (n : Fin 1024) : ((win0_1.rect t).emb ((ix3 0 k n) : S1x2048x1024.Idx) : S2x2048x12288.Idx)
    = (ix3 ⟨t.val / 12, by have h : t.val < 24 := t.isLt; omega⟩ k ⟨1024 * (t.val % 12) + n.val, by have h : t.val < 24 := t.isLt; omega⟩) := by
  have hi := index_1 t
  funext a
  apply Fin.ext
  refine (Pipeline.Window.rect_emb_val win0_1 t _ a rfl).trans ?_
  fin_cases a
  · show win0_1.index t 0 * 1 + 0 = t.val / 12
    omega
  · show win0_1.index t 1 * 2048 + k.val = k.val
    omega
  · show win0_1.index t 2 * 1024 + n.val = 1024 * (t.val % 12) + n.val
    omega

theorem at_1 (t : Fin grid0.N) (k : Fin 2048) (n : Fin 1024) : (iblk m c 1 t : Vec Ideal S1x2048x1024 .f32) (ix3 0 k n)
    = (Gen.V m c main_arg1 : Vec Ideal S2x2048x12288 .f32) (ix3 ⟨t.val / 12, by have h : t.val < 24 := t.isLt; omega⟩ k ⟨1024 * (t.val % 12) + n.val, by have h : t.val < 24 := t.isLt; omega⟩) :=
  congrArg (Gen.V m c main_arg1 : Vec Ideal S2x2048x12288 .f32) (emb_1 t k n)

theorem index_2 : ∀ t : Fin grid0.N, win0_2.index t 0 = t.val / 12 ∧ win0_2.index t 1 = 0 ∧ win0_2.index t 2 = t.val % 12 := by
  decide +kernel

/-- Where the block of the bias at point `t` sits. -/
theorem emb_2 (t : Fin grid0.N) (n : Fin 1024) : ((win0_2.rect t).emb ((ix3 0 0 n) : S1x1x1024.Idx) : S2x1x12288.Idx)
    = (ix3 ⟨t.val / 12, by have h : t.val < 24 := t.isLt; omega⟩ 0 ⟨1024 * (t.val % 12) + n.val, by have h : t.val < 24 := t.isLt; omega⟩) := by
  have hi := index_2 t
  funext a
  apply Fin.ext
  refine (Pipeline.Window.rect_emb_val win0_2 t _ a rfl).trans ?_
  fin_cases a
  · show win0_2.index t 0 * 1 + 0 = t.val / 12
    omega
  · show win0_2.index t 1 * 1 + 0 = 0
    omega
  · show win0_2.index t 2 * 1024 + n.val = 1024 * (t.val % 12) + n.val
    omega

theorem at_2 (t : Fin grid0.N) (n : Fin 1024) : (iblk m c 2 t : Vec Ideal S1x1x1024 .f32) (ix3 0 0 n)
    = (Gen.V m c main_v3 : Vec Ideal S2x1x12288 .f32) (ix3 ⟨t.val / 12, by have h : t.val < 24 := t.isLt; omega⟩ 0 ⟨1024 * (t.val % 12) + n.val, by have h : t.val < 24 := t.isLt; omega⟩) :=
  congrArg (Gen.V m c main_v3 : Vec Ideal S2x1x12288 .f32) (emb_2 t n)

theorem index_3 : ∀ t : Fin grid0.N, win0_3.index t 0 = t.val / 12 ∧ win0_3.index t 1 = 0 ∧ win0_3.index t 2 = t.val % 12 := by
  decide +kernel

/-- Where the result's block at point `t` sits. -/
theorem emb_3 (t : Fin grid0.N) (r : Fin 8) (n : Fin 1024) : ((win0_3.rect t).emb ((ix3 0 r n) : S1x8x1024.Idx) : S2x8x12288.Idx)
    = (ix3 ⟨t.val / 12, by have h : t.val < 24 := t.isLt; omega⟩ r ⟨1024 * (t.val % 12) + n.val, by have h : t.val < 24 := t.isLt; omega⟩) := by
  have hi := index_3 t
  funext a
  apply Fin.ext
  refine (Pipeline.Window.rect_emb_val win0_3 t _ a rfl).trans ?_
  fin_cases a
  · show win0_3.index t 0 * 1 + 0 = t.val / 12
    omega
  · show win0_3.index t 1 * 8 + r.val = r.val
    omega
  · show win0_3.index t 2 * 1024 + n.val = 1024 * (t.val % 12) + n.val
    omega

theorem left_3 (t : Fin grid0.N) (r : Fin 8) (n : Fin 1024) : ((dats m 0 c).arrAt 3 cfg0.N : Vec Ideal S2x8x12288 .f32) (ix3 ⟨t.val / 12, by have h : t.val < 24 := t.isLt; omega⟩ r ⟨1024 * (t.val % 12) + n.val, by have h : t.val < 24 := t.isLt; omega⟩)
    = ((dats m 0 c).flushed 3 t : Vec Ideal S1x8x1024 .f32) (ix3 0 r n) := by
  rw [← Value.blocks3 m c t (flush_3 t)]
  exact (congrArg ((dats m 0 c).arrAt 3 cfg0.N : Vec Ideal S2x8x12288 .f32) (emb_3 t r n)).symm

/-! ## The body, and the array it leaves -/

theorem body_eq (x0 : Vec Ideal S8x2048 .f32) (x1 : Vec Ideal S1x2048x1024 .f32) (x2 : Vec Ideal S1x1x1024 .f32) :
    out0_3 (F := Ideal) x0 x1 x2 = k0_pay1 x0 x1 x2 := by
  unfold out0_3
  rw [View.canon_unit_zero hz3]
  simp only [View.ld_unit_zero (S := S8x2048) hz2, View.ld_unit_zero (S := S1x2048x1024) hz3, View.ld_unit_zero (S := S1x1x1024) hz3]

/-- A number times its logistic. -/
def act (x : EReal) : EReal := x * Idealize.ShloMosaic.Ideal.logistic x

theorem body_at (x0 : Vec Ideal S8x2048 .f32) (x1 : Vec Ideal S1x2048x1024 .f32) (x2 : Vec Ideal S1x1x1024 .f32) (r : Fin 8) (n : Fin 1024) :
    k0_pay1 (F := Ideal) x0 x1 x2 (ix3 0 r n) = (∑ k : Fin 2048, act (x0 (ix2 r k)) * x1 (ix3 0 k n)) + x2 (ix3 0 0 n) := by
  pointwise [k0_pay1, act]

/-- An entry of the modulation. -/
def entry (b : Fin 2) (r : Fin 8) (n : Fin 12288) : EReal :=
  (∑ k : Fin 2048, act (padded (argC m c) r k) * argW m c (ix3 b k n)) + argB m c (ix2 b n)

variable {t : Fin grid0.N} {b : Fin 2} {n : Fin 12288} {q : Fin 1024}

theorem blk_1 (hb : t.val / 12 = b.val) (hn : 1024 * (t.val % 12) + q.val = n.val) (k : Fin 2048) :
    (iblk m c 1 t : Vec Ideal S1x2048x1024 .f32) (ix3 0 k q) = argW m c (ix3 b k n) := by
  refine (at_1 m c t k q).trans (Eq.trans ?_ (congrFun (V_main_arg1 m c) (ix3 b k n)))
  exact congrArg₂ (fun i j => (Gen.V m c main_arg1 : Vec Ideal S2x2048x12288 .f32) (ix3 i k j)) (Fin.ext hb) (Fin.ext hn)

theorem blk_2 (hb : t.val / 12 = b.val) (hn : 1024 * (t.val % 12) + q.val = n.val) :
    (iblk m c 2 t : Vec Ideal S1x1x1024 .f32) (ix3 0 0 q) = argB m c (ix2 b n) := by
  refine (at_2 m c t q).trans (Eq.trans ?_ (host_v3 m c b n))
  exact congrArg₂ (fun i j => (Gen.V m c main_v3 : Vec Ideal S2x1x12288 .f32) (ix3 i 0 j)) (Fin.ext hb) (Fin.ext hn)

theorem row_3 (hb : t.val / 12 = b.val) (hn : 1024 * (t.val % 12) + q.val = n.val) (r : Fin 8) :
    ((dats m 0 c).arrAt 3 cfg0.N : Vec Ideal S2x8x12288 .f32) (ix3 b r n)
      = ((dats m 0 c).flushed 3 t : Vec Ideal S1x8x1024 .f32) (ix3 0 r q) := by
  refine Eq.trans ?_ (left_3 m c t r q)
  exact congrArg₂ (fun i j => ((dats m 0 c).arrAt 3 cfg0.N : Vec Ideal S2x8x12288 .f32) (ix3 i r j)) (Fin.ext hb.symm) (Fin.ext hn.symm)

/-- The result array, at an index. -/
theorem result_at (b : Fin 2) (r : Fin 8) (n : Fin 12288) :
    ((dats m 0 c).arrAt 3 cfg0.N : Vec Ideal S2x8x12288 .f32) (ix3 b r n) = entry m c b r n := by
  have hn' := n.isLt
  have hb' := b.isLt
  have ht : 12 * b.val + n.val / 1024 < grid0.N := by rw [N_0]; omega
  have hb : (⟨12 * b.val + n.val / 1024, ht⟩ : Fin grid0.N).val / 12 = b.val := by
    show (12 * b.val + n.val / 1024) / 12 = b.val
    omega
  have hn : 1024 * ((⟨12 * b.val + n.val / 1024, ht⟩ : Fin grid0.N).val % 12) + (⟨n.val % 1024, by omega⟩ : Fin 1024).val = n.val := by
    show 1024 * ((12 * b.val + n.val / 1024) % 12) + n.val % 1024 = n.val
    omega
  refine (row_3 m c hb hn r).trans ?_
  rw [Value.flushed3]
  refine (congrFun (body_eq _ _ _) (ix3 0 r ⟨n.val % 1024, by omega⟩)).trans ((body_at _ _ _ r _).trans ?_)
  exact congrArg₂ (· + ·) (Finset.sum_congr rfl fun k _ => congrArg₂ (· * ·) (congrArg act ((at_0 m c _ r k).trans (host_v2 m c r k))) (blk_1 m c hb hn k))
    (blk_2 m c hb hn)

end Cert.Kernel7Ideal.Modulate

namespace Cert.Reference7Ideal.Modulate

open Cert.Reference7Ideal Cert.Reference7Ideal.Gen Cert.Reference7Ideal.Read
open Idealize.ShloMosaic Idealize.ShloMosaic.TcCoe
open Cert.Kernel7Ideal.Modulate (act padded)

variable (x0 : Vec Ideal S4x2048 .f32) (x1 : Vec Ideal S2x2048x12288 .f32) (x2 : Vec Ideal S2x12288 .f32)

/-- The reference's padding. -/
theorem padded_at (r : Fin 8) (k : Fin 2048) : val_main_v0 (F := Ideal) x0 (ix2 r k) = padded x0 r k := by
  unfold padded val_main_v0
  by_cases h : r.val < 4
  · rw [dif_pos h]
    refine pad_apply_of_inside _ _ _ x0 _ _ _ _ (ix2 ⟨r.val, h⟩ k) fun a => ?_
    fin_cases a
    · show r.val = 0 + r.val * (0 + 1)
      omega
    · show k.val = 0 + k.val * (0 + 1)
      omega
  · rw [dif_neg h]
    refine (pad_apply_of_not_inside _ _ _ x0 _ _ _ _ 0 fun q => h ?_).trans ?_
    · have e : (r.val - 0) / (0 + 1) < 4 := q.2.2
      omega
    · show (((0#32 : BitVec 32).toInt : ℝ) : EReal) = 0
      simp

theorem act_at (r : Fin 8) (k : Fin 2048) : val_main_v1 (F := Ideal) x0 (ix2 r k) = act (padded x0 r k) := by
  rw [← padded_at]
  unfold val_main_v1 val_main_call1_v5 val_main_call1_v3 val_main_call1_v1 val_main_call1_v0
  generalize val_main_v0 (F := Ideal) x0 = y
  pointwise [val_main_call1_v4, val_main_call1_v2, val_main_call1_cst, val_main_call1_cst_0, act]
  exact congrArg (y (ix2 r k) * ·) rfl

theorem result_at_0 (r : Fin 8) (n : Fin 12288) :
    val_main_v20 (F := Ideal) x0 x1 x2 (ix3 0 r n) = (∑ k : Fin 2048, val_main_v1 (F := Ideal) x0 (ix2 r k) * x1 (ix3 0 k n)) + x2 (ix2 0 n) := by
  unfold val_main_v20 val_main_v18 val_main_v9 val_main_v4 val_main_v19 val_main_v17 val_main_v12
  generalize val_main_v1 (F := Ideal) x0 = y
  pointwise [val_main_v2, val_main_v3, val_main_v5, val_main_v6, val_main_v7, val_main_v8]

theorem result_at_1 (r : Fin 8) (n : Fin 12288) :
    val_main_v20 (F := Ideal) x0 x1 x2 (ix3 1 r n) = (∑ k : Fin 2048, val_main_v1 (F := Ideal) x0 (ix2 r k) * x1 (ix3 1 k n)) + x2 (ix2 1 n) := by
  unfold val_main_v20 val_main_v18 val_main_v9 val_main_v4 val_main_v19 val_main_v17 val_main_v12
  generalize val_main_v1 (F := Ideal) x0 = y
  pointwise [val_main_v10, val_main_v11, val_main_v13, val_main_v14, val_main_v15, val_main_v16]

theorem result_at (b : Fin 2) (r : Fin 8) (n : Fin 12288) :
    val_main_v20 (F := Ideal) x0 x1 x2 (ix3 b r n) = (∑ k : Fin 2048, act (padded x0 r k) * x1 (ix3 b k n)) + x2 (ix2 b n) := by
  have e : val_main_v20 (F := Ideal) x0 x1 x2 (ix3 b r n) = (∑ k : Fin 2048, val_main_v1 (F := Ideal) x0 (ix2 r k) * x1 (ix3 b k n)) + x2 (ix2 b n) := by
    match b with
    | 0 => exact result_at_0 x0 x1 x2 r n
    | 1 => exact result_at_1 x0 x1 x2 r n
  exact e.trans (congrArg₂ (· + ·) (Finset.sum_congr rfl fun k _ => congrArg₂ (· * ·) (act_at x0 r k) rfl) rfl)

end Cert.Reference7Ideal.Modulate

namespace Cert.Kernel7Ideal.Modulate

open Cert.Kernel7Ideal Cert.Kernel7Ideal.Gen Cert.Reference7Ideal.Read
open Idealize.ShloMosaic Idealize.ShloMosaic.TcCoe Idealize.SL.Sem

variable (m : (ℓ : Loc nD τ sig) → Buf (Elt Ideal) ℓ) (c : Dev nD)

/-- The reference's result is the program's. -/
theorem reference_eq : val_main_v20 (F := Ideal) (argC m c) (argW m c) (argB m c) = ((dats m 0 c).arrAt 3 cfg0.N : Vec Ideal S2x8x12288 .f32) := by
  funext y
  obtain ⟨b, r, n, rfl⟩ : ∃ (b : Fin 2) (r : Fin 8) (n : Fin 12288), y = ix3 b r n := ⟨y 0, y 1, y 2, eq_ix3 y⟩
  exact (Cert.Reference7Ideal.Modulate.result_at _ _ _ b r n).trans (result_at m c b r n).symm

/-- The claim: run on equal arguments, the program and the reference end with equal results. -/
theorem equal : Cert.algebraic_Kernel7Ideal_Reference7Ideal := by
  intro m g m' g' _ hm
  refine ⟨fun c => (dats m 0 c).arrAt 3 cfg0.N, Value.run_blocks m g, ?_⟩
  refine (θ_run Cert.Reference7Ideal.defs _ _).mono (fun r h c => ?_) (Cert.Reference7Ideal.Value.run m' g')
  obtain ⟨e0, e1, e2⟩ := hm c
  refine ⟨(h c).1.trans ?_, (h c).2⟩
  rw [val_main_v20_eq, e0, e1, e2]
  exact reference_eq m c

end Cert.Kernel7Ideal.Modulate

end

end
-- ==== Proof.lean ====
/- The proof of the certificate's claim: the frames of the three programs, the idealisation, and the equality of the
   kernel's results with the reference's. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Bits
public import proofs.«01_k».proof.Proof.Equal
public import proofs.«01_k».proof.Proof.FfnEqual
public import proofs.«01_k».proof.Proof.FfnAEqual
public import proofs.«01_k».proof.Proof.Project
public import proofs.«01_k».proof.Proof.SguInEqual
public import proofs.«01_k».proof.Proof.SguOutEqual
public import proofs.«01_k».proof.Proof.Modulate
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts Cert.Pre_finite.shapes
  Cert.Kernel2.Gen.facts Cert.Kernel2Ideal.Gen.facts Cert.Reference2Ideal.Gen.facts
  Cert.Kernel3.Gen.facts Cert.Kernel3Ideal.Gen.facts Cert.Reference3Ideal.Gen.facts
  Cert.Kernel4.Gen.facts Cert.Kernel4Ideal.Gen.facts Cert.Reference4Ideal.Gen.facts
  Cert.Kernel5.Gen.facts Cert.Kernel5Ideal.Gen.facts Cert.Reference5Ideal.Gen.facts
  Cert.Kernel6.Gen.facts Cert.Kernel6Ideal.Gen.facts Cert.Reference6Ideal.Gen.facts
  Cert.Kernel7.Gen.facts Cert.Kernel7Ideal.Gen.facts Cert.Reference7Ideal.Gen.facts

/-- The reference's run keeps its arguments; it has no semaphores, so none is left raised. -/
theorem frame_reference : Cert.quiescent_ReferenceIdeal := fun m g _ =>
  (θ_run Cert.ReferenceIdeal.defs _ _).mono
    (fun r h => ⟨fun c => (h c).2.2.2.2.2, sem_eq_zero_of_no_sems rfl r.2⟩) (Cert.ReferenceIdeal.Value.run m g)

/-- The second reference's run keeps its arguments too. -/
theorem frame_reference2 : Cert.quiescent_Reference2Ideal := fun m g _ =>
  (θ_run Cert.Reference2Ideal.defs _ _).mono
    (fun r h => ⟨fun c => (h c).2, sem_eq_zero_of_no_sems rfl r.2⟩) (Cert.Reference2Ideal.Value.run m g)

/-- The third reference's run keeps its arguments too. -/
theorem frame_reference3 : Cert.quiescent_Reference3Ideal := fun m g _ =>
  (θ_run Cert.Reference3Ideal.defs _ _).mono
    (fun r h => ⟨fun c => (h c).2, sem_eq_zero_of_no_sems rfl r.2⟩) (Cert.Reference3Ideal.Value.run m g)

/-- The fourth reference's run keeps its arguments too. -/
theorem frame_reference4 : Cert.quiescent_Reference4Ideal := fun m g _ =>
  (θ_run Cert.Reference4Ideal.defs _ _).mono
    (fun r h => ⟨fun c => (h c).2, sem_eq_zero_of_no_sems rfl r.2⟩) (Cert.Reference4Ideal.Value.run m g)

/-- The fifth reference's run keeps its arguments too. -/
theorem frame_reference5 : Cert.quiescent_Reference5Ideal := fun m g _ =>
  (θ_run Cert.Reference5Ideal.defs _ _).mono
    (fun r h => ⟨fun c => (h c).2.2.2.2.2.2, sem_eq_zero_of_no_sems rfl r.2⟩) (Cert.Reference5Ideal.Value.run m g)

/-- The sixth reference's run keeps its arguments too. -/
theorem frame_reference6 : Cert.quiescent_Reference6Ideal := fun m g _ =>
  (θ_run Cert.Reference6Ideal.defs _ _).mono
    (fun r h => ⟨fun c => (h c).2, sem_eq_zero_of_no_sems rfl r.2⟩) (Cert.Reference6Ideal.Value.run m g)

/-- The seventh reference's run keeps its arguments too. -/
theorem frame_reference7 : Cert.quiescent_Reference7Ideal := fun m g _ =>
  (θ_run Cert.Reference7Ideal.defs _ _).mono
    (fun r h => ⟨fun c => (h c).2, sem_eq_zero_of_no_sems rfl r.2⟩) (Cert.Reference7Ideal.Value.run m g)

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_finite.shapes,
    fun m g _ => Cert.KernelIdeal.Att.frame_bits m g,
    fun m g _ => Cert.KernelIdeal.Att.frame_main m g,
    fun m g _ => Cert.KernelIdeal.Att.frame_main m g,
    frame_reference,
    fun m g _ => frame_reference m g trivial,
    fun m g _ => Cert.Kernel2.Gen.frame m g,
    fun m g _ => Cert.Kernel2Ideal.Gen.frame m g,
    frame_reference2,
    fun m g _ => Cert.Kernel3.Gen.frame m g,
    fun m g _ => Cert.Kernel3Ideal.Gen.frame m g,
    frame_reference3,
    fun m g _ => Cert.Kernel4.Gen.frame m g,
    fun m g _ => Cert.Kernel4Ideal.Gen.frame m g,
    frame_reference4,
    fun m g _ => Cert.Kernel5.Gen.frame m g,
    fun m g _ => Cert.Kernel5Ideal.Gen.frame m g,
    frame_reference5,
    fun m g _ => Cert.Kernel6.Gen.frame m g,
    fun m g _ => Cert.Kernel6Ideal.Gen.frame m g,
    frame_reference6,
    fun m g _ => Cert.Kernel7.Gen.frame m g,
    fun m g _ => Cert.Kernel7Ideal.Gen.frame m g,
    frame_reference7,
    IdealRules.named_const.statement Cert.KernelIdeal.κ "mask" .f32 0xF149F2CA#32 ⊥ rfl,
    Cert.Equal.equal,
    trivial,
    Cert.Kernel2Ideal.Ffn.equal,
    trivial,
    Cert.Kernel3Ideal.Ffn.equal,
    trivial,
    Cert.Kernel4Ideal.Project.equal,
    trivial,
    Cert.Kernel5Ideal.Gating.equal,
    trivial,
    Cert.Kernel6Ideal.Mix.equal,
    trivial,
    Cert.Kernel7Ideal.Modulate.equal⟩

end Cert.Proof

end
